-- ==== Defs.lean ====
def Pre_AttBwd (m : (ℓ : Loc Cert.AttBwd.nD Cert.AttBwd.τ Cert.AttBwd.sig) → Buf (Elt Bits) ℓ) : Prop :=
  True

def Pre_AttBwdIdeal (m : (ℓ : Loc Cert.AttBwdIdeal.nD Cert.AttBwdIdeal.τ Cert.AttBwdIdeal.sig) → Buf (Elt Ideal) ℓ) : Prop :=
  True

def Pre_AttBwdIdeal_finite [hPre_finite : Cert.Pre_finite.Facts] (m : (ℓ : Loc Cert.AttBwdIdeal.nD Cert.AttBwdIdeal.τ Cert.AttBwdIdeal.sig) → Buf (Elt Ideal) ℓ) : Prop :=
  ∀ c : Dev Cert.AttBwdIdeal.nD,
    (Cert.Pre_finite.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3))).1 = (fun _ => 1#1)
    ∧ (Cert.Pre_finite.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3))).2 = (fun _ => 1#1)

def Pre_AttGradIdeal (m : (ℓ : Loc Cert.AttGradIdeal.nD Cert.AttGradIdeal.τ Cert.AttGradIdeal.sig) → Buf (Elt Ideal) ℓ) : Prop :=
  True

def Pre_AttGradIdeal_finite [hPre_finite : Cert.Pre_finite.Facts] (m : (ℓ : Loc Cert.AttGradIdeal.nD Cert.AttGradIdeal.τ Cert.AttGradIdeal.sig) → Buf (Elt Ideal) ℓ) : Prop :=
  ∀ c : Dev Cert.AttGradIdeal.nD,
    (Cert.Pre_finite.fn (F := Ideal) (m ((c.tc : Thread Cert.AttGradIdeal.nD Cert.AttGradIdeal.τ).loc Cert.AttGradIdeal.main_arg0)) (m ((c.tc : Thread Cert.AttGradIdeal.nD Cert.AttGradIdeal.τ).loc Cert.AttGradIdeal.main_arg1)) (m ((c.tc : Thread Cert.AttGradIdeal.nD Cert.AttGradIdeal.τ).loc Cert.AttGradIdeal.main_arg2)) (m ((c.tc : Thread Cert.AttGradIdeal.nD Cert.AttGradIdeal.τ).loc Cert.AttGradIdeal.main_arg3))).1 = (fun _ => 1#1)
    ∧ (Cert.Pre_finite.fn (F := Ideal) (m ((c.tc : Thread Cert.AttGradIdeal.nD Cert.AttGradIdeal.τ).loc Cert.AttGradIdeal.main_arg0)) (m ((c.tc : Thread Cert.AttGradIdeal.nD Cert.AttGradIdeal.τ).loc Cert.AttGradIdeal.main_arg1)) (m ((c.tc : Thread Cert.AttGradIdeal.nD Cert.AttGradIdeal.τ).loc Cert.AttGradIdeal.main_arg2)) (m ((c.tc : Thread Cert.AttGradIdeal.nD Cert.AttGradIdeal.τ).loc Cert.AttGradIdeal.main_arg3))).2 = (fun _ => 1#1)

def Pre_Gwd (m : (ℓ : Loc Cert.Gwd.nD Cert.Gwd.τ Cert.Gwd.sig) → Buf (Elt Bits) ℓ) : Prop :=
  True

def Pre_GwdIdeal (m : (ℓ : Loc Cert.GwdIdeal.nD Cert.GwdIdeal.τ Cert.GwdIdeal.sig) → Buf (Elt Ideal) ℓ) : Prop :=
  True

def Pre_GwdGradIdeal (m : (ℓ : Loc Cert.GwdGradIdeal.nD Cert.GwdGradIdeal.τ Cert.GwdGradIdeal.sig) → Buf (Elt Ideal) ℓ) : Prop :=
  True

def Pre_Dt (m : (ℓ : Loc Cert.Dt.nD Cert.Dt.τ Cert.Dt.sig) → Buf (Elt Bits) ℓ) : Prop :=
  True

def Pre_DtIdeal (m : (ℓ : Loc Cert.DtIdeal.nD Cert.DtIdeal.τ Cert.DtIdeal.sig) → Buf (Elt Ideal) ℓ) : Prop :=
  True

def Pre_DtGradIdeal (m : (ℓ : Loc Cert.DtGradIdeal.nD Cert.DtGradIdeal.τ Cert.DtGradIdeal.sig) → Buf (Elt Ideal) ℓ) : Prop :=
  True

def Pre_Gwu (m : (ℓ : Loc Cert.Gwu.nD Cert.Gwu.τ Cert.Gwu.sig) → Buf (Elt Bits) ℓ) : Prop :=
  True

def Pre_GwuIdeal (m : (ℓ : Loc Cert.GwuIdeal.nD Cert.GwuIdeal.τ Cert.GwuIdeal.sig) → Buf (Elt Ideal) ℓ) : Prop :=
  True

def Pre_GwuGradIdeal (m : (ℓ : Loc Cert.GwuGradIdeal.nD Cert.GwuGradIdeal.τ Cert.GwuGradIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2GradIdeal (m : (ℓ : Loc Cert.Dh2GradIdeal.nD Cert.Dh2GradIdeal.τ Cert.Dh2GradIdeal.sig) → Buf (Elt Ideal) ℓ) : Prop :=
  True

def Pre_Gwo (m : (ℓ : Loc Cert.Gwo.nD Cert.Gwo.τ Cert.Gwo.sig) → Buf (Elt Bits) ℓ) : Prop :=
  True

def Pre_GwoIdeal (m : (ℓ : Loc Cert.GwoIdeal.nD Cert.GwoIdeal.τ Cert.GwoIdeal.sig) → Buf (Elt Ideal) ℓ) : Prop :=
  True

def Pre_GwoGradIdeal (m : (ℓ : Loc Cert.GwoGradIdeal.nD Cert.GwoGradIdeal.τ Cert.GwoGradIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatGradIdeal (m : (ℓ : Loc Cert.DcatGradIdeal.nD Cert.DcatGradIdeal.τ Cert.DcatGradIdeal.sig) → Buf (Elt Ideal) ℓ) : Prop :=
  True

def Pre_Gwi (m : (ℓ : Loc Cert.Gwi.nD Cert.Gwi.τ Cert.Gwi.sig) → Buf (Elt Bits) ℓ) : Prop :=
  True

def Pre_GwiIdeal (m : (ℓ : Loc Cert.GwiIdeal.nD Cert.GwiIdeal.τ Cert.GwiIdeal.sig) → Buf (Elt Ideal) ℓ) : Prop :=
  True

def Pre_GwiGradIdeal (m : (ℓ : Loc Cert.GwiGradIdeal.nD Cert.GwiGradIdeal.τ Cert.GwiGradIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhGradIdeal (m : (ℓ : Loc Cert.DhGradIdeal.nD Cert.DhGradIdeal.τ Cert.DhGradIdeal.sig) → Buf (Elt Ideal) ℓ) : Prop :=
  True

def Pre_Z (m : (ℓ : Loc Cert.Z.nD Cert.Z.τ Cert.Z.sig) → Buf (Elt Bits) ℓ) : Prop :=
  True

def Pre_ZIdeal (m : (ℓ : Loc Cert.ZIdeal.nD Cert.ZIdeal.τ Cert.ZIdeal.sig) → Buf (Elt Ideal) ℓ) : Prop :=
  True

def Pre_ZFwdIdeal (m : (ℓ : Loc Cert.ZFwdIdeal.nD Cert.ZFwdIdeal.τ Cert.ZFwdIdeal.sig) → Buf (Elt Ideal) ℓ) : Prop :=
  True

def Pre_Y (m : (ℓ : Loc Cert.Y.nD Cert.Y.τ Cert.Y.sig) → Buf (Elt Bits) ℓ) : Prop :=
  True

def Pre_YIdeal (m : (ℓ : Loc Cert.YIdeal.nD Cert.YIdeal.τ Cert.YIdeal.sig) → Buf (Elt Ideal) ℓ) : Prop :=
  True

def Pre_YFwdIdeal (m : (ℓ : Loc Cert.YFwdIdeal.nD Cert.YFwdIdeal.τ Cert.YFwdIdeal.sig) → Buf (Elt Ideal) ℓ) : Prop :=
  True

def Pre_U (m : (ℓ : Loc Cert.U.nD Cert.U.τ Cert.U.sig) → Buf (Elt Bits) ℓ) : Prop :=
  True

def Pre_UIdeal (m : (ℓ : Loc Cert.UIdeal.nD Cert.UIdeal.τ Cert.UIdeal.sig) → Buf (Elt Ideal) ℓ) : Prop :=
  True

def Pre_UFwdIdeal (m : (ℓ : Loc Cert.UFwdIdeal.nD Cert.UFwdIdeal.τ Cert.UFwdIdeal.sig) → Buf (Elt Ideal) ℓ) : Prop :=
  True

def Pre_Yff (m : (ℓ : Loc Cert.Yff.nD Cert.Yff.τ Cert.Yff.sig) → Buf (Elt Bits) ℓ) : Prop :=
  True

def Pre_YffIdeal (m : (ℓ : Loc Cert.YffIdeal.nD Cert.YffIdeal.τ Cert.YffIdeal.sig) → Buf (Elt Ideal) ℓ) : Prop :=
  True

def Pre_YffFwdIdeal (m : (ℓ : Loc Cert.YffFwdIdeal.nD Cert.YffFwdIdeal.τ Cert.YffFwdIdeal.sig) → Buf (Elt Ideal) ℓ) : Prop :=
  True

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdIdeal_finite_rows [hPre_finite_rows : Cert.Pre_finite_rows.Facts] (m : (ℓ : Loc Cert.AttFwdIdeal.nD Cert.AttFwdIdeal.τ Cert.AttFwdIdeal.sig) → Buf (Elt Ideal) ℓ) : Prop :=
  ∀ c : Dev Cert.AttFwdIdeal.nD,
    (Cert.Pre_finite_rows.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2))).1 = (fun _ => 1#1)
    ∧ (Cert.Pre_finite_rows.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2))).2 = (fun _ => 1#1)

def Pre_AttendIdeal (m : (ℓ : Loc Cert.AttendIdeal.nD Cert.AttendIdeal.τ Cert.AttendIdeal.sig) → Buf (Elt Ideal) ℓ) : Prop :=
  True

def Pre_AttendIdeal_finite_rows [hPre_finite_rows : Cert.Pre_finite_rows.Facts] (m : (ℓ : Loc Cert.AttendIdeal.nD Cert.AttendIdeal.τ Cert.AttendIdeal.sig) → Buf (Elt Ideal) ℓ) : Prop :=
  ∀ c : Dev Cert.AttendIdeal.nD,
    (Cert.Pre_finite_rows.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2))).1 = (fun _ => 1#1)
    ∧ (Cert.Pre_finite_rows.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2))).2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvGluIdeal (m : (ℓ : Loc Cert.ConvGluIdeal.nD Cert.ConvGluIdeal.τ Cert.ConvGluIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2 = (fun _ => 1#1)

def Pre_ConvGradIdeal (m : (ℓ : Loc Cert.ConvGradIdeal.nD Cert.ConvGradIdeal.τ Cert.ConvGradIdeal.sig) → Buf (Elt Ideal) ℓ) : Prop :=
  True

def Pre_ConvGradIdeal_finite_conv [hPre_finite_conv : Cert.Pre_finite_conv.Facts] (m : (ℓ : Loc Cert.ConvGradIdeal.nD Cert.ConvGradIdeal.τ Cert.ConvGradIdeal.sig) → Buf (Elt Ideal) ℓ) : Prop :=
  ∀ c : Dev Cert.ConvGradIdeal.nD,
    (Cert.Pre_finite_conv.fn (F := Ideal) (m ((c.tc : Thread Cert.ConvGradIdeal.nD Cert.ConvGradIdeal.τ).loc Cert.ConvGradIdeal.main_arg0)) (m ((c.tc : Thread Cert.ConvGradIdeal.nD Cert.ConvGradIdeal.τ).loc Cert.ConvGradIdeal.main_arg1)) (m ((c.tc : Thread Cert.ConvGradIdeal.nD Cert.ConvGradIdeal.τ).loc Cert.ConvGradIdeal.main_arg2)) (m ((c.tc : Thread Cert.ConvGradIdeal.nD Cert.ConvGradIdeal.τ).loc Cert.ConvGradIdeal.main_arg3))).1 = (fun _ => 1#1)
    ∧ (Cert.Pre_finite_conv.fn (F := Ideal) (m ((c.tc : Thread Cert.ConvGradIdeal.nD Cert.ConvGradIdeal.τ).loc Cert.ConvGradIdeal.main_arg0)) (m ((c.tc : Thread Cert.ConvGradIdeal.nD Cert.ConvGradIdeal.τ).loc Cert.ConvGradIdeal.main_arg1)) (m ((c.tc : Thread Cert.ConvGradIdeal.nD Cert.ConvGradIdeal.τ).loc Cert.ConvGradIdeal.main_arg2)) (m ((c.tc : Thread Cert.ConvGradIdeal.nD Cert.ConvGradIdeal.τ).loc Cert.ConvGradIdeal.main_arg3))).2 = (fun _ => 1#1)

def Pre_Mixr (m : (ℓ : Loc Cert.Mixr.nD Cert.Mixr.τ Cert.Mixr.sig) → Buf (Elt Bits) ℓ) : Prop :=
  True

def Pre_MixrIdeal (m : (ℓ : Loc Cert.MixrIdeal.nD Cert.MixrIdeal.τ Cert.MixrIdeal.sig) → Buf (Elt Ideal) ℓ) : Prop :=
  True

def Pre_GatedRetIdeal (m : (ℓ : Loc Cert.GatedRetIdeal.nD Cert.GatedRetIdeal.τ Cert.GatedRetIdeal.sig) → Buf (Elt Ideal) ℓ) : Prop :=
  True

def Pre_MixrBwd (m : (ℓ : Loc Cert.MixrBwd.nD Cert.MixrBwd.τ Cert.MixrBwd.sig) → Buf (Elt Bits) ℓ) : Prop :=
  True

def Pre_MixrBwdIdeal (m : (ℓ : Loc Cert.MixrBwdIdeal.nD Cert.MixrBwdIdeal.τ Cert.MixrBwdIdeal.sig) → Buf (Elt Ideal) ℓ) : Prop :=
  True

def Pre_GatedRetGradIdeal (m : (ℓ : Loc Cert.GatedRetGradIdeal.nD Cert.GatedRetGradIdeal.τ Cert.GatedRetGradIdeal.sig) → Buf (Elt Ideal) ℓ) : Prop :=
  True

def Pre_Mixg (m : (ℓ : Loc Cert.Mixg.nD Cert.Mixg.τ Cert.Mixg.sig) → Buf (Elt Bits) ℓ) : Prop :=
  True

def Pre_MixgIdeal (m : (ℓ : Loc Cert.MixgIdeal.nD Cert.MixgIdeal.τ Cert.MixgIdeal.sig) → Buf (Elt Ideal) ℓ) : Prop :=
  True

def Pre_GatedGlaIdeal (m : (ℓ : Loc Cert.GatedGlaIdeal.nD Cert.GatedGlaIdeal.τ Cert.GatedGlaIdeal.sig) → Buf (Elt Ideal) ℓ) : Prop :=
  True

def Pre_MixgBwd (m : (ℓ : Loc Cert.MixgBwd.nD Cert.MixgBwd.τ Cert.MixgBwd.sig) → Buf (Elt Bits) ℓ) : Prop :=
  True

def Pre_MixgBwdIdeal (m : (ℓ : Loc Cert.MixgBwdIdeal.nD Cert.MixgBwdIdeal.τ Cert.MixgBwdIdeal.sig) → Buf (Elt Ideal) ℓ) : Prop :=
  True

def Pre_GatedGlaGradIdeal (m : (ℓ : Loc Cert.GatedGlaGradIdeal.nD Cert.GatedGlaGradIdeal.τ Cert.GatedGlaGradIdeal.sig) → Buf (Elt Ideal) ℓ) : Prop :=
  True

def Pre_PrepAqBwd (m : (ℓ : Loc Cert.PrepAqBwd.nD Cert.PrepAqBwd.τ Cert.PrepAqBwd.sig) → Buf (Elt Bits) ℓ) : Prop :=
  True

def Pre_PrepAqBwdIdeal (m : (ℓ : Loc Cert.PrepAqBwdIdeal.nD Cert.PrepAqBwdIdeal.τ Cert.PrepAqBwdIdeal.sig) → Buf (Elt Ideal) ℓ) : Prop :=
  True

def Pre_QueriesGradIdeal (m : (ℓ : Loc Cert.QueriesGradIdeal.nD Cert.QueriesGradIdeal.τ Cert.QueriesGradIdeal.sig) → Buf (Elt Ideal) ℓ) : Prop :=
  True

def Pre_PrepAkBwd (m : (ℓ : Loc Cert.PrepAkBwd.nD Cert.PrepAkBwd.τ Cert.PrepAkBwd.sig) → Buf (Elt Bits) ℓ) : Prop :=
  True

def Pre_PrepAkBwdIdeal (m : (ℓ : Loc Cert.PrepAkBwdIdeal.nD Cert.PrepAkBwdIdeal.τ Cert.PrepAkBwdIdeal.sig) → Buf (Elt Ideal) ℓ) : Prop :=
  True

def Pre_KeysGradIdeal (m : (ℓ : Loc Cert.KeysGradIdeal.nD Cert.KeysGradIdeal.τ Cert.KeysGradIdeal.sig) → Buf (Elt Ideal) ℓ) : Prop :=
  True

def Pre_PrepRqBwd (m : (ℓ : Loc Cert.PrepRqBwd.nD Cert.PrepRqBwd.τ Cert.PrepRqBwd.sig) → Buf (Elt Bits) ℓ) : Prop :=
  True

def Pre_PrepRqBwdIdeal (m : (ℓ : Loc Cert.PrepRqBwdIdeal.nD Cert.PrepRqBwdIdeal.τ Cert.PrepRqBwdIdeal.sig) → Buf (Elt Ideal) ℓ) : Prop :=
  True

def Pre_RetQueriesGradIdeal (m : (ℓ : Loc Cert.RetQueriesGradIdeal.nD Cert.RetQueriesGradIdeal.τ Cert.RetQueriesGradIdeal.sig) → Buf (Elt Ideal) ℓ) : Prop :=
  True

def Pre_PrepRkBwd (m : (ℓ : Loc Cert.PrepRkBwd.nD Cert.PrepRkBwd.τ Cert.PrepRkBwd.sig) → Buf (Elt Bits) ℓ) : Prop :=
  True

def Pre_PrepRkBwdIdeal (m : (ℓ : Loc Cert.PrepRkBwdIdeal.nD Cert.PrepRkBwdIdeal.τ Cert.PrepRkBwdIdeal.sig) → Buf (Elt Ideal) ℓ) : Prop :=
  True

def Pre_RetKeysGradIdeal (m : (ℓ : Loc Cert.RetKeysGradIdeal.nD Cert.RetKeysGradIdeal.τ Cert.RetKeysGradIdeal.sig) → Buf (Elt Ideal) ℓ) : Prop :=
  True

def Pre_PrepAq (m : (ℓ : Loc Cert.PrepAq.nD Cert.PrepAq.τ Cert.PrepAq.sig) → Buf (Elt Bits) ℓ) : Prop :=
  True

def Pre_PrepAqIdeal (m : (ℓ : Loc Cert.PrepAqIdeal.nD Cert.PrepAqIdeal.τ Cert.PrepAqIdeal.sig) → Buf (Elt Ideal) ℓ) : Prop :=
  True

def Pre_QueriesIdeal (m : (ℓ : Loc Cert.QueriesIdeal.nD Cert.QueriesIdeal.τ Cert.QueriesIdeal.sig) → Buf (Elt Ideal) ℓ) : Prop :=
  True

def Pre_PrepAk (m : (ℓ : Loc Cert.PrepAk.nD Cert.PrepAk.τ Cert.PrepAk.sig) → Buf (Elt Bits) ℓ) : Prop :=
  True

def Pre_PrepAkIdeal (m : (ℓ : Loc Cert.PrepAkIdeal.nD Cert.PrepAkIdeal.τ Cert.PrepAkIdeal.sig) → Buf (Elt Ideal) ℓ) : Prop :=
  True

def Pre_KeysIdeal (m : (ℓ : Loc Cert.KeysIdeal.nD Cert.KeysIdeal.τ Cert.KeysIdeal.sig) → Buf (Elt Ideal) ℓ) : Prop :=
  True

def Pre_PrepRq (m : (ℓ : Loc Cert.PrepRq.nD Cert.PrepRq.τ Cert.PrepRq.sig) → Buf (Elt Bits) ℓ) : Prop :=
  True

def Pre_PrepRqIdeal (m : (ℓ : Loc Cert.PrepRqIdeal.nD Cert.PrepRqIdeal.τ Cert.PrepRqIdeal.sig) → Buf (Elt Ideal) ℓ) : Prop :=
  True

def Pre_RetQueriesIdeal (m : (ℓ : Loc Cert.RetQueriesIdeal.nD Cert.RetQueriesIdeal.τ Cert.RetQueriesIdeal.sig) → Buf (Elt Ideal) ℓ) : Prop :=
  True

def Pre_PrepRk (m : (ℓ : Loc Cert.PrepRk.nD Cert.PrepRk.τ Cert.PrepRk.sig) → Buf (Elt Bits) ℓ) : Prop :=
  True

def Pre_PrepRkIdeal (m : (ℓ : Loc Cert.PrepRkIdeal.nD Cert.PrepRkIdeal.τ Cert.PrepRkIdeal.sig) → Buf (Elt Ideal) ℓ) : Prop :=
  True

def Pre_RetKeysIdeal (m : (ℓ : Loc Cert.RetKeysIdeal.nD Cert.RetKeysIdeal.τ Cert.RetKeysIdeal.sig) → Buf (Elt Ideal) ℓ) : Prop :=
  True

def quiescent_AttBwd [hAttBwd : Cert.AttBwd.Facts] : Prop :=
  ∀ (m : (ℓ : Loc Cert.AttBwd.nD Cert.AttBwd.τ Cert.AttBwd.sig) → Buf (Elt Bits) ℓ) (g : Dev Cert.AttBwd.nD → PrngReg), Pre_AttBwd m →
    θ_run (Cert.AttBwd.defs (F := Bits)) (onTc (τ := Cert.AttBwd.τ) (Cert.AttBwd.main (F := Bits))) ⟨m, fun _ => 0, g⟩ (fun r => (∀ c : Dev Cert.AttBwd.nD,
      r.2.mem ((c.tc : Thread Cert.AttBwd.nD Cert.AttBwd.τ).loc Cert.AttBwd.main_arg0) = m ((c.tc : Thread Cert.AttBwd.nD Cert.AttBwd.τ).loc Cert.AttBwd.main_arg0)
      ∧ r.2.mem ((c.tc : Thread Cert.AttBwd.nD Cert.AttBwd.τ).loc Cert.AttBwd.main_arg1) = m ((c.tc : Thread Cert.AttBwd.nD Cert.AttBwd.τ).loc Cert.AttBwd.main_arg1)
      ∧ r.2.mem ((c.tc : Thread Cert.AttBwd.nD Cert.AttBwd.τ).loc Cert.AttBwd.main_arg2) = m ((c.tc : Thread Cert.AttBwd.nD Cert.AttBwd.τ).loc Cert.AttBwd.main_arg2)
      ∧ r.2.mem ((c.tc : Thread Cert.AttBwd.nD Cert.AttBwd.τ).loc Cert.AttBwd.main_arg3) = m ((c.tc : Thread Cert.AttBwd.nD Cert.AttBwd.τ).loc Cert.AttBwd.main_arg3))
      ∧ r.2.sem = fun _ => 0)

def quiescent_AttBwdIdeal [hAttBwdIdeal : Cert.AttBwdIdeal.Facts] : Prop :=
  ∀ (m : (ℓ : Loc Cert.AttBwdIdeal.nD Cert.AttBwdIdeal.τ Cert.AttBwdIdeal.sig) → Buf (Elt Ideal) ℓ) (g : Dev Cert.AttBwdIdeal.nD → PrngReg), Pre_AttBwdIdeal m →
    θ_run (Cert.AttBwdIdeal.defs (F := Ideal)) (onTc (τ := Cert.AttBwdIdeal.τ) (Cert.AttBwdIdeal.main (F := Ideal))) ⟨m, fun _ => 0, g⟩ (fun r => (∀ c : Dev Cert.AttBwdIdeal.nD,
      r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
      ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
      ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2)
      ∧ r.2.mem ((c.tc : Thread Cert.AttBwdIdeal.nD Cert.AttBwdIdeal.τ).loc Cert.AttBwdIdeal.main_arg3) = m ((c.tc : Thread Cert.AttBwdIdeal.nD Cert.AttBwdIdeal.τ).loc Cert.AttBwdIdeal.main_arg3))
      ∧ r.2.sem = fun _ => 0)

def quiescent_AttBwdIdeal_pre_finite [hAttBwdIdeal : Cert.AttBwdIdeal.Facts] [hPre_finite : Cert.Pre_finite.Facts] : Prop :=
  ∀ (m : (ℓ : Loc Cert.AttBwdIdeal.nD Cert.AttBwdIdeal.τ Cert.AttBwdIdeal.sig) → Buf (Elt Ideal) ℓ) (g : Dev Cert.AttBwdIdeal.nD → PrngReg), Pre_AttBwdIdeal_finite m →
    θ_run (Cert.AttBwdIdeal.defs (F := Ideal)) (onTc (τ := Cert.AttBwdIdeal.τ) (Cert.AttBwdIdeal.main (F := Ideal))) ⟨m, fun _ => 0, g⟩ (fun r => (∀ c : Dev Cert.AttBwdIdeal.nD,
      r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
      ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
      ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2)
      ∧ r.2.mem ((c.tc : Thread Cert.AttBwdIdeal.nD Cert.AttBwdIdeal.τ).loc Cert.AttBwdIdeal.main_arg3) = m ((c.tc : Thread Cert.AttBwdIdeal.nD Cert.AttBwdIdeal.τ).loc Cert.AttBwdIdeal.main_arg3))
      ∧ r.2.sem = fun _ => 0)

def quiescent_AttGradIdeal [hAttGradIdeal : Cert.AttGradIdeal.Facts] : Prop :=
  ∀ (m : (ℓ : Loc Cert.AttGradIdeal.nD Cert.AttGradIdeal.τ Cert.AttGradIdeal.sig) → Buf (Elt Ideal) ℓ) (g : Dev Cert.AttGradIdeal.nD → PrngReg), Pre_AttGradIdeal m →
    θ_run (Cert.AttGradIdeal.defs (F := Ideal)) (onTc (τ := Cert.AttGradIdeal.τ) (Cert.AttGradIdeal.main (F := Ideal))) ⟨m, fun _ => 0, g⟩ (fun r => (∀ c : Dev Cert.AttGradIdeal.nD,
      r.2.mem ((c.tc : Thread Cert.AttGradIdeal.nD Cert.AttGradIdeal.τ).loc Cert.AttGradIdeal.main_arg0) = m ((c.tc : Thread Cert.AttGradIdeal.nD Cert.AttGradIdeal.τ).loc Cert.AttGradIdeal.main_arg0)
      ∧ r.2.mem ((c.tc : Thread Cert.AttGradIdeal.nD Cert.AttGradIdeal.τ).loc Cert.AttGradIdeal.main_arg1) = m ((c.tc : Thread Cert.AttGradIdeal.nD Cert.AttGradIdeal.τ).loc Cert.AttGradIdeal.main_arg1)
      ∧ r.2.mem ((c.tc : Thread Cert.AttGradIdeal.nD Cert.AttGradIdeal.τ).loc Cert.AttGradIdeal.main_arg2) = m ((c.tc : Thread Cert.AttGradIdeal.nD Cert.AttGradIdeal.τ).loc Cert.AttGradIdeal.main_arg2)
      ∧ r.2.mem ((c.tc : Thread Cert.AttGradIdeal.nD Cert.AttGradIdeal.τ).loc Cert.AttGradIdeal.main_arg3) = m ((c.tc : Thread Cert.AttGradIdeal.nD Cert.AttGradIdeal.τ).loc Cert.AttGradIdeal.main_arg3))
      ∧ r.2.sem = fun _ => 0)

def quiescent_AttGradIdeal_pre_finite [hAttGradIdeal : Cert.AttGradIdeal.Facts] [hPre_finite : Cert.Pre_finite.Facts] : Prop :=
  ∀ (m : (ℓ : Loc Cert.AttGradIdeal.nD Cert.AttGradIdeal.τ Cert.AttGradIdeal.sig) → Buf (Elt Ideal) ℓ) (g : Dev Cert.AttGradIdeal.nD → PrngReg), Pre_AttGradIdeal_finite m →
    θ_run (Cert.AttGradIdeal.defs (F := Ideal)) (onTc (τ := Cert.AttGradIdeal.τ) (Cert.AttGradIdeal.main (F := Ideal))) ⟨m, fun _ => 0, g⟩ (fun r => (∀ c : Dev Cert.AttGradIdeal.nD,
      r.2.mem ((c.tc : Thread Cert.AttGradIdeal.nD Cert.AttGradIdeal.τ).loc Cert.AttGradIdeal.main_arg0) = m ((c.tc : Thread Cert.AttGradIdeal.nD Cert.AttGradIdeal.τ).loc Cert.AttGradIdeal.main_arg0)
      ∧ r.2.mem ((c.tc : Thread Cert.AttGradIdeal.nD Cert.AttGradIdeal.τ).loc Cert.AttGradIdeal.main_arg1) = m ((c.tc : Thread Cert.AttGradIdeal.nD Cert.AttGradIdeal.τ).loc Cert.AttGradIdeal.main_arg1)
      ∧ r.2.mem ((c.tc : Thread Cert.AttGradIdeal.nD Cert.AttGradIdeal.τ).loc Cert.AttGradIdeal.main_arg2) = m ((c.tc : Thread Cert.AttGradIdeal.nD Cert.AttGradIdeal.τ).loc Cert.AttGradIdeal.main_arg2)
      ∧ r.2.mem ((c.tc : Thread Cert.AttGradIdeal.nD Cert.AttGradIdeal.τ).loc Cert.AttGradIdeal.main_arg3) = m ((c.tc : Thread Cert.AttGradIdeal.nD Cert.AttGradIdeal.τ).loc Cert.AttGradIdeal.main_arg3))
      ∧ r.2.sem = fun _ => 0)

def quiescent_Gwd [hGwd : Cert.Gwd.Facts] : Prop :=
  ∀ (m : (ℓ : Loc Cert.Gwd.nD Cert.Gwd.τ Cert.Gwd.sig) → Buf (Elt Bits) ℓ) (g : Dev Cert.Gwd.nD → PrngReg), Pre_Gwd m →
    θ_run (Cert.Gwd.defs (F := Bits)) (onTc (τ := Cert.Gwd.τ) (Cert.Gwd.main (F := Bits))) ⟨m, fun _ => 0, g⟩ (fun r => (∀ c : Dev Cert.Gwd.nD,
      r.2.mem ((c.tc : Thread Cert.Gwd.nD Cert.Gwd.τ).loc Cert.Gwd.main_arg0) = m ((c.tc : Thread Cert.Gwd.nD Cert.Gwd.τ).loc Cert.Gwd.main_arg0)
      ∧ r.2.mem ((c.tc : Thread Cert.Gwd.nD Cert.Gwd.τ).loc Cert.Gwd.main_arg1) = m ((c.tc : Thread Cert.Gwd.nD Cert.Gwd.τ).loc Cert.Gwd.main_arg1))
      ∧ r.2.sem = fun _ => 0)

def quiescent_GwdIdeal [hGwdIdeal : Cert.GwdIdeal.Facts] : Prop :=
  ∀ (m : (ℓ : Loc Cert.GwdIdeal.nD Cert.GwdIdeal.τ Cert.GwdIdeal.sig) → Buf (Elt Ideal) ℓ) (g : Dev Cert.GwdIdeal.nD → PrngReg), Pre_GwdIdeal m →
    θ_run (Cert.GwdIdeal.defs (F := Ideal)) (onTc (τ := Cert.GwdIdeal.τ) (Cert.GwdIdeal.main (F := Ideal))) ⟨m, fun _ => 0, g⟩ (fun r => (∀ c : Dev Cert.GwdIdeal.nD,
      r.2.mem ((c.tc : Thread Cert.GwdIdeal.nD Cert.GwdIdeal.τ).loc Cert.GwdIdeal.main_arg0) = m ((c.tc : Thread Cert.GwdIdeal.nD Cert.GwdIdeal.τ).loc Cert.GwdIdeal.main_arg0)
      ∧ r.2.mem ((c.tc : Thread Cert.GwdIdeal.nD Cert.GwdIdeal.τ).loc Cert.GwdIdeal.main_arg1) = m ((c.tc : Thread Cert.GwdIdeal.nD Cert.GwdIdeal.τ).loc Cert.GwdIdeal.main_arg1))
      ∧ r.2.sem = fun _ => 0)

def quiescent_GwdGradIdeal [hGwdGradIdeal : Cert.GwdGradIdeal.Facts] : Prop :=
  ∀ (m : (ℓ : Loc Cert.GwdGradIdeal.nD Cert.GwdGradIdeal.τ Cert.GwdGradIdeal.sig) → Buf (Elt Ideal) ℓ) (g : Dev Cert.GwdGradIdeal.nD → PrngReg), Pre_GwdGradIdeal m →
    θ_run (Cert.GwdGradIdeal.defs (F := Ideal)) (onTc (τ := Cert.GwdGradIdeal.τ) (Cert.GwdGradIdeal.main (F := Ideal))) ⟨m, fun _ => 0, g⟩ (fun r => (∀ c : Dev Cert.GwdGradIdeal.nD,
      r.2.mem ((c.tc : Thread Cert.GwdGradIdeal.nD Cert.GwdGradIdeal.τ).loc Cert.GwdGradIdeal.main_arg0) = m ((c.tc : Thread Cert.GwdGradIdeal.nD Cert.GwdGradIdeal.τ).loc Cert.GwdGradIdeal.main_arg0)
      ∧ r.2.mem ((c.tc : Thread Cert.GwdGradIdeal.nD Cert.GwdGradIdeal.τ).loc Cert.GwdGradIdeal.main_arg1) = m ((c.tc : Thread Cert.GwdGradIdeal.nD Cert.GwdGradIdeal.τ).loc Cert.GwdGradIdeal.main_arg1))
      ∧ r.2.sem = fun _ => 0)

def quiescent_Dt [hDt : Cert.Dt.Facts] : Prop :=
  ∀ (m : (ℓ : Loc Cert.Dt.nD Cert.Dt.τ Cert.Dt.sig) → Buf (Elt Bits) ℓ) (g : Dev Cert.Dt.nD → PrngReg), Pre_Dt m →
    θ_run (Cert.Dt.defs (F := Bits)) (onTc (τ := Cert.Dt.τ) (Cert.Dt.main (F := Bits))) ⟨m, fun _ => 0, g⟩ (fun r => (∀ c : Dev Cert.Dt.nD,
      r.2.mem ((c.tc : Thread Cert.Dt.nD Cert.Dt.τ).loc Cert.Dt.main_arg0) = m ((c.tc : Thread Cert.Dt.nD Cert.Dt.τ).loc Cert.Dt.main_arg0)
      ∧ r.2.mem ((c.tc : Thread Cert.Dt.nD Cert.Dt.τ).loc Cert.Dt.main_arg1) = m ((c.tc : Thread Cert.Dt.nD Cert.Dt.τ).loc Cert.Dt.main_arg1))
      ∧ r.2.sem = fun _ => 0)

def quiescent_DtIdeal [hDtIdeal : Cert.DtIdeal.Facts] : Prop :=
  ∀ (m : (ℓ : Loc Cert.DtIdeal.nD Cert.DtIdeal.τ Cert.DtIdeal.sig) → Buf (Elt Ideal) ℓ) (g : Dev Cert.DtIdeal.nD → PrngReg), Pre_DtIdeal m →
    θ_run (Cert.DtIdeal.defs (F := Ideal)) (onTc (τ := Cert.DtIdeal.τ) (Cert.DtIdeal.main (F := Ideal))) ⟨m, fun _ => 0, g⟩ (fun r => (∀ c : Dev Cert.DtIdeal.nD,
      r.2.mem ((c.tc : Thread Cert.DtIdeal.nD Cert.DtIdeal.τ).loc Cert.DtIdeal.main_arg0) = m ((c.tc : Thread Cert.DtIdeal.nD Cert.DtIdeal.τ).loc Cert.DtIdeal.main_arg0)
      ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ r.2.sem = fun _ => 0)

def quiescent_DtGradIdeal [hDtGradIdeal : Cert.DtGradIdeal.Facts] : Prop :=
  ∀ (m : (ℓ : Loc Cert.DtGradIdeal.nD Cert.DtGradIdeal.τ Cert.DtGradIdeal.sig) → Buf (Elt Ideal) ℓ) (g : Dev Cert.DtGradIdeal.nD → PrngReg), Pre_DtGradIdeal m →
    θ_run (Cert.DtGradIdeal.defs (F := Ideal)) (onTc (τ := Cert.DtGradIdeal.τ) (Cert.DtGradIdeal.main (F := Ideal))) ⟨m, fun _ => 0, g⟩ (fun r => (∀ c : Dev Cert.DtGradIdeal.nD,
      r.2.mem ((c.tc : Thread Cert.DtGradIdeal.nD Cert.DtGradIdeal.τ).loc Cert.DtGradIdeal.main_arg0) = m ((c.tc : Thread Cert.DtGradIdeal.nD Cert.DtGradIdeal.τ).loc Cert.DtGradIdeal.main_arg0)
      ∧ r.2.mem ((c.tc : Thread Cert.DtGradIdeal.nD Cert.DtGradIdeal.τ).loc Cert.DtGradIdeal.main_arg1) = m ((c.tc : Thread Cert.DtGradIdeal.nD Cert.DtGradIdeal.τ).loc Cert.DtGradIdeal.main_arg1))
      ∧ r.2.sem = fun _ => 0)

def quiescent_Gwu [hGwu : Cert.Gwu.Facts] : Prop :=
  ∀ (m : (ℓ : Loc Cert.Gwu.nD Cert.Gwu.τ Cert.Gwu.sig) → Buf (Elt Bits) ℓ) (g : Dev Cert.Gwu.nD → PrngReg), Pre_Gwu m →
    θ_run (Cert.Gwu.defs (F := Bits)) (onTc (τ := Cert.Gwu.τ) (Cert.Gwu.main (F := Bits))) ⟨m, fun _ => 0, g⟩ (fun r => (∀ c : Dev Cert.Gwu.nD,
      r.2.mem ((c.tc : Thread Cert.Gwu.nD Cert.Gwu.τ).loc Cert.Gwu.main_arg0) = m ((c.tc : Thread Cert.Gwu.nD Cert.Gwu.τ).loc Cert.Gwu.main_arg0)
      ∧ r.2.mem ((c.tc : Thread Cert.Gwu.nD Cert.Gwu.τ).loc Cert.Gwu.main_arg1) = m ((c.tc : Thread Cert.Gwu.nD Cert.Gwu.τ).loc Cert.Gwu.main_arg1))
      ∧ r.2.sem = fun _ => 0)

def quiescent_GwuIdeal [hGwuIdeal : Cert.GwuIdeal.Facts] : Prop :=
  ∀ (m : (ℓ : Loc Cert.GwuIdeal.nD Cert.GwuIdeal.τ Cert.GwuIdeal.sig) → Buf (Elt Ideal) ℓ) (g : Dev Cert.GwuIdeal.nD → PrngReg), Pre_GwuIdeal m →
    θ_run (Cert.GwuIdeal.defs (F := Ideal)) (onTc (τ := Cert.GwuIdeal.τ) (Cert.GwuIdeal.main (F := Ideal))) ⟨m, fun _ => 0, g⟩ (fun r => (∀ c : Dev Cert.GwuIdeal.nD,
      r.2.mem ((c.tc : Thread Cert.GwuIdeal.nD Cert.GwuIdeal.τ).loc Cert.GwuIdeal.main_arg0) = m ((c.tc : Thread Cert.GwuIdeal.nD Cert.GwuIdeal.τ).loc Cert.GwuIdeal.main_arg0)
      ∧ r.2.mem ((c.tc : Thread Cert.GwuIdeal.nD Cert.GwuIdeal.τ).loc Cert.GwuIdeal.main_arg1) = m ((c.tc : Thread Cert.GwuIdeal.nD Cert.GwuIdeal.τ).loc Cert.GwuIdeal.main_arg1))
      ∧ r.2.sem = fun _ => 0)

def quiescent_GwuGradIdeal [hGwuGradIdeal : Cert.GwuGradIdeal.Facts] : Prop :=
  ∀ (m : (ℓ : Loc Cert.GwuGradIdeal.nD Cert.GwuGradIdeal.τ Cert.GwuGradIdeal.sig) → Buf (Elt Ideal) ℓ) (g : Dev Cert.GwuGradIdeal.nD → PrngReg), Pre_GwuGradIdeal m →
    θ_run (Cert.GwuGradIdeal.defs (F := Ideal)) (onTc (τ := Cert.GwuGradIdeal.τ) (Cert.GwuGradIdeal.main (F := Ideal))) ⟨m, fun _ => 0, g⟩ (fun r => (∀ c : Dev Cert.GwuGradIdeal.nD,
      r.2.mem ((c.tc : Thread Cert.GwuGradIdeal.nD Cert.GwuGradIdeal.τ).loc Cert.GwuGradIdeal.main_arg0) = m ((c.tc : Thread Cert.GwuGradIdeal.nD Cert.GwuGradIdeal.τ).loc Cert.GwuGradIdeal.main_arg0)
      ∧ r.2.mem ((c.tc : Thread Cert.GwuGradIdeal.nD Cert.GwuGradIdeal.τ).loc Cert.GwuGradIdeal.main_arg1) = m ((c.tc : Thread Cert.GwuGradIdeal.nD Cert.GwuGradIdeal.τ).loc Cert.GwuGradIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2GradIdeal [hDh2GradIdeal : Cert.Dh2GradIdeal.Facts] : Prop :=
  ∀ (m : (ℓ : Loc Cert.Dh2GradIdeal.nD Cert.Dh2GradIdeal.τ Cert.Dh2GradIdeal.sig) → Buf (Elt Ideal) ℓ) (g : Dev Cert.Dh2GradIdeal.nD → PrngReg), Pre_Dh2GradIdeal m →
    θ_run (Cert.Dh2GradIdeal.defs (F := Ideal)) (onTc (τ := Cert.Dh2GradIdeal.τ) (Cert.Dh2GradIdeal.main (F := Ideal))) ⟨m, fun _ => 0, g⟩ (fun r => (∀ c : Dev Cert.Dh2GradIdeal.nD,
      r.2.mem ((c.tc : Thread Cert.Dh2GradIdeal.nD Cert.Dh2GradIdeal.τ).loc Cert.Dh2GradIdeal.main_arg0) = m ((c.tc : Thread Cert.Dh2GradIdeal.nD Cert.Dh2GradIdeal.τ).loc Cert.Dh2GradIdeal.main_arg0)
      ∧ r.2.mem ((c.tc : Thread Cert.Dh2GradIdeal.nD Cert.Dh2GradIdeal.τ).loc Cert.Dh2GradIdeal.main_arg1) = m ((c.tc : Thread Cert.Dh2GradIdeal.nD Cert.Dh2GradIdeal.τ).loc Cert.Dh2GradIdeal.main_arg1))
      ∧ r.2.sem = fun _ => 0)

def quiescent_Gwo [hGwo : Cert.Gwo.Facts] : Prop :=
  ∀ (m : (ℓ : Loc Cert.Gwo.nD Cert.Gwo.τ Cert.Gwo.sig) → Buf (Elt Bits) ℓ) (g : Dev Cert.Gwo.nD → PrngReg), Pre_Gwo m →
    θ_run (Cert.Gwo.defs (F := Bits)) (onTc (τ := Cert.Gwo.τ) (Cert.Gwo.main (F := Bits))) ⟨m, fun _ => 0, g⟩ (fun r => (∀ c : Dev Cert.Gwo.nD,
      r.2.mem ((c.tc : Thread Cert.Gwo.nD Cert.Gwo.τ).loc Cert.Gwo.main_arg0) = m ((c.tc : Thread Cert.Gwo.nD Cert.Gwo.τ).loc Cert.Gwo.main_arg0)
      ∧ r.2.mem ((c.tc : Thread Cert.Gwo.nD Cert.Gwo.τ).loc Cert.Gwo.main_arg1) = m ((c.tc : Thread Cert.Gwo.nD Cert.Gwo.τ).loc Cert.Gwo.main_arg1))
      ∧ r.2.sem = fun _ => 0)

def quiescent_GwoIdeal [hGwoIdeal : Cert.GwoIdeal.Facts] : Prop :=
  ∀ (m : (ℓ : Loc Cert.GwoIdeal.nD Cert.GwoIdeal.τ Cert.GwoIdeal.sig) → Buf (Elt Ideal) ℓ) (g : Dev Cert.GwoIdeal.nD → PrngReg), Pre_GwoIdeal m →
    θ_run (Cert.GwoIdeal.defs (F := Ideal)) (onTc (τ := Cert.GwoIdeal.τ) (Cert.GwoIdeal.main (F := Ideal))) ⟨m, fun _ => 0, g⟩ (fun r => (∀ c : Dev Cert.GwoIdeal.nD,
      r.2.mem ((c.tc : Thread Cert.GwoIdeal.nD Cert.GwoIdeal.τ).loc Cert.GwoIdeal.main_arg0) = m ((c.tc : Thread Cert.GwoIdeal.nD Cert.GwoIdeal.τ).loc Cert.GwoIdeal.main_arg0)
      ∧ r.2.mem ((c.tc : Thread Cert.GwoIdeal.nD Cert.GwoIdeal.τ).loc Cert.GwoIdeal.main_arg1) = m ((c.tc : Thread Cert.GwoIdeal.nD Cert.GwoIdeal.τ).loc Cert.GwoIdeal.main_arg1))
      ∧ r.2.sem = fun _ => 0)

def quiescent_GwoGradIdeal [hGwoGradIdeal : Cert.GwoGradIdeal.Facts] : Prop :=
  ∀ (m : (ℓ : Loc Cert.GwoGradIdeal.nD Cert.GwoGradIdeal.τ Cert.GwoGradIdeal.sig) → Buf (Elt Ideal) ℓ) (g : Dev Cert.GwoGradIdeal.nD → PrngReg), Pre_GwoGradIdeal m →
    θ_run (Cert.GwoGradIdeal.defs (F := Ideal)) (onTc (τ := Cert.GwoGradIdeal.τ) (Cert.GwoGradIdeal.main (F := Ideal))) ⟨m, fun _ => 0, g⟩ (fun r => (∀ c : Dev Cert.GwoGradIdeal.nD,
      r.2.mem ((c.tc : Thread Cert.GwoGradIdeal.nD Cert.GwoGradIdeal.τ).loc Cert.GwoGradIdeal.main_arg0) = m ((c.tc : Thread Cert.GwoGradIdeal.nD Cert.GwoGradIdeal.τ).loc Cert.GwoGradIdeal.main_arg0)
      ∧ r.2.mem ((c.tc : Thread Cert.GwoGradIdeal.nD Cert.GwoGradIdeal.τ).loc Cert.GwoGradIdeal.main_arg1) = m ((c.tc : Thread Cert.GwoGradIdeal.nD Cert.GwoGradIdeal.τ).loc Cert.GwoGradIdeal.main_arg1))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ r.2.sem = fun _ => 0)

def quiescent_DcatGradIdeal [hDcatGradIdeal : Cert.DcatGradIdeal.Facts] : Prop :=
  ∀ (m : (ℓ : Loc Cert.DcatGradIdeal.nD Cert.DcatGradIdeal.τ Cert.DcatGradIdeal.sig) → Buf (Elt Ideal) ℓ) (g : Dev Cert.DcatGradIdeal.nD → PrngReg), Pre_DcatGradIdeal m →
    θ_run (Cert.DcatGradIdeal.defs (F := Ideal)) (onTc (τ := Cert.DcatGradIdeal.τ) (Cert.DcatGradIdeal.main (F := Ideal))) ⟨m, fun _ => 0, g⟩ (fun r => (∀ c : Dev Cert.DcatGradIdeal.nD,
      r.2.mem ((c.tc : Thread Cert.DcatGradIdeal.nD Cert.DcatGradIdeal.τ).loc Cert.DcatGradIdeal.main_arg0) = m ((c.tc : Thread Cert.DcatGradIdeal.nD Cert.DcatGradIdeal.τ).loc Cert.DcatGradIdeal.main_arg0)
      ∧ r.2.mem ((c.tc : Thread Cert.DcatGradIdeal.nD Cert.DcatGradIdeal.τ).loc Cert.DcatGradIdeal.main_arg1) = m ((c.tc : Thread Cert.DcatGradIdeal.nD Cert.DcatGradIdeal.τ).loc Cert.DcatGradIdeal.main_arg1))
      ∧ r.2.sem = fun _ => 0)

def quiescent_Gwi [hGwi : Cert.Gwi.Facts] : Prop :=
  ∀ (m : (ℓ : Loc Cert.Gwi.nD Cert.Gwi.τ Cert.Gwi.sig) → Buf (Elt Bits) ℓ) (g : Dev Cert.Gwi.nD → PrngReg), Pre_Gwi m →
    θ_run (Cert.Gwi.defs (F := Bits)) (onTc (τ := Cert.Gwi.τ) (Cert.Gwi.main (F := Bits))) ⟨m, fun _ => 0, g⟩ (fun r => (∀ c : Dev Cert.Gwi.nD,
      r.2.mem ((c.tc : Thread Cert.Gwi.nD Cert.Gwi.τ).loc Cert.Gwi.main_arg0) = m ((c.tc : Thread Cert.Gwi.nD Cert.Gwi.τ).loc Cert.Gwi.main_arg0)
      ∧ r.2.mem ((c.tc : Thread Cert.Gwi.nD Cert.Gwi.τ).loc Cert.Gwi.main_arg1) = m ((c.tc : Thread Cert.Gwi.nD Cert.Gwi.τ).loc Cert.Gwi.main_arg1))
      ∧ r.2.sem = fun _ => 0)

def quiescent_GwiIdeal [hGwiIdeal : Cert.GwiIdeal.Facts] : Prop :=
  ∀ (m : (ℓ : Loc Cert.GwiIdeal.nD Cert.GwiIdeal.τ Cert.GwiIdeal.sig) → Buf (Elt Ideal) ℓ) (g : Dev Cert.GwiIdeal.nD → PrngReg), Pre_GwiIdeal m →
    θ_run (Cert.GwiIdeal.defs (F := Ideal)) (onTc (τ := Cert.GwiIdeal.τ) (Cert.GwiIdeal.main (F := Ideal))) ⟨m, fun _ => 0, g⟩ (fun r => (∀ c : Dev Cert.GwiIdeal.nD,
      r.2.mem ((c.tc : Thread Cert.GwiIdeal.nD Cert.GwiIdeal.τ).loc Cert.GwiIdeal.main_arg0) = m ((c.tc : Thread Cert.GwiIdeal.nD Cert.GwiIdeal.τ).loc Cert.GwiIdeal.main_arg0)
      ∧ r.2.mem ((c.tc : Thread Cert.GwiIdeal.nD Cert.GwiIdeal.τ).loc Cert.GwiIdeal.main_arg1) = m ((c.tc : Thread Cert.GwiIdeal.nD Cert.GwiIdeal.τ).loc Cert.GwiIdeal.main_arg1))
      ∧ r.2.sem = fun _ => 0)

def quiescent_GwiGradIdeal [hGwiGradIdeal : Cert.GwiGradIdeal.Facts] : Prop :=
  ∀ (m : (ℓ : Loc Cert.GwiGradIdeal.nD Cert.GwiGradIdeal.τ Cert.GwiGradIdeal.sig) → Buf (Elt Ideal) ℓ) (g : Dev Cert.GwiGradIdeal.nD → PrngReg), Pre_GwiGradIdeal m →
    θ_run (Cert.GwiGradIdeal.defs (F := Ideal)) (onTc (τ := Cert.GwiGradIdeal.τ) (Cert.GwiGradIdeal.main (F := Ideal))) ⟨m, fun _ => 0, g⟩ (fun r => (∀ c : Dev Cert.GwiGradIdeal.nD,
      r.2.mem ((c.tc : Thread Cert.GwiGradIdeal.nD Cert.GwiGradIdeal.τ).loc Cert.GwiGradIdeal.main_arg0) = m ((c.tc : Thread Cert.GwiGradIdeal.nD Cert.GwiGradIdeal.τ).loc Cert.GwiGradIdeal.main_arg0)
      ∧ r.2.mem ((c.tc : Thread Cert.GwiGradIdeal.nD Cert.GwiGradIdeal.τ).loc Cert.GwiGradIdeal.main_arg1) = m ((c.tc : Thread Cert.GwiGradIdeal.nD Cert.GwiGradIdeal.τ).loc Cert.GwiGradIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhGradIdeal [hDhGradIdeal : Cert.DhGradIdeal.Facts] : Prop :=
  ∀ (m : (ℓ : Loc Cert.DhGradIdeal.nD Cert.DhGradIdeal.τ Cert.DhGradIdeal.sig) → Buf (Elt Ideal) ℓ) (g : Dev Cert.DhGradIdeal.nD → PrngReg), Pre_DhGradIdeal m →
    θ_run (Cert.DhGradIdeal.defs (F := Ideal)) (onTc (τ := Cert.DhGradIdeal.τ) (Cert.DhGradIdeal.main (F := Ideal))) ⟨m, fun _ => 0, g⟩ (fun r => (∀ c : Dev Cert.DhGradIdeal.nD,
      r.2.mem ((c.tc : Thread Cert.DhGradIdeal.nD Cert.DhGradIdeal.τ).loc Cert.DhGradIdeal.main_arg0) = m ((c.tc : Thread Cert.DhGradIdeal.nD Cert.DhGradIdeal.τ).loc Cert.DhGradIdeal.main_arg0)
      ∧ r.2.mem ((c.tc : Thread Cert.DhGradIdeal.nD Cert.DhGradIdeal.τ).loc Cert.DhGradIdeal.main_arg1) = m ((c.tc : Thread Cert.DhGradIdeal.nD Cert.DhGradIdeal.τ).loc Cert.DhGradIdeal.main_arg1))
      ∧ r.2.sem = fun _ => 0)

def quiescent_Z [hZ : Cert.Z.Facts] : Prop :=
  ∀ (m : (ℓ : Loc Cert.Z.nD Cert.Z.τ Cert.Z.sig) → Buf (Elt Bits) ℓ) (g : Dev Cert.Z.nD → PrngReg), Pre_Z m →
    θ_run (Cert.Z.defs (F := Bits)) (onTc (τ := Cert.Z.τ) (Cert.Z.main (F := Bits))) ⟨m, fun _ => 0, g⟩ (fun r => (∀ c : Dev Cert.Z.nD,
      r.2.mem ((c.tc : Thread Cert.Z.nD Cert.Z.τ).loc Cert.Z.main_arg0) = m ((c.tc : Thread Cert.Z.nD Cert.Z.τ).loc Cert.Z.main_arg0)
      ∧ r.2.mem ((c.tc : Thread Cert.Z.nD Cert.Z.τ).loc Cert.Z.main_arg1) = m ((c.tc : Thread Cert.Z.nD Cert.Z.τ).loc Cert.Z.main_arg1))
      ∧ r.2.sem = fun _ => 0)

def quiescent_ZIdeal [hZIdeal : Cert.ZIdeal.Facts] : Prop :=
  ∀ (m : (ℓ : Loc Cert.ZIdeal.nD Cert.ZIdeal.τ Cert.ZIdeal.sig) → Buf (Elt Ideal) ℓ) (g : Dev Cert.ZIdeal.nD → PrngReg), Pre_ZIdeal m →
    θ_run (Cert.ZIdeal.defs (F := Ideal)) (onTc (τ := Cert.ZIdeal.τ) (Cert.ZIdeal.main (F := Ideal))) ⟨m, fun _ => 0, g⟩ (fun r => (∀ c : Dev Cert.ZIdeal.nD,
      r.2.mem ((c.tc : Thread Cert.ZIdeal.nD Cert.ZIdeal.τ).loc Cert.ZIdeal.main_arg0) = m ((c.tc : Thread Cert.ZIdeal.nD Cert.ZIdeal.τ).loc Cert.ZIdeal.main_arg0)
      ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ r.2.sem = fun _ => 0)

def quiescent_ZFwdIdeal [hZFwdIdeal : Cert.ZFwdIdeal.Facts] : Prop :=
  ∀ (m : (ℓ : Loc Cert.ZFwdIdeal.nD Cert.ZFwdIdeal.τ Cert.ZFwdIdeal.sig) → Buf (Elt Ideal) ℓ) (g : Dev Cert.ZFwdIdeal.nD → PrngReg), Pre_ZFwdIdeal m →
    θ_run (Cert.ZFwdIdeal.defs (F := Ideal)) (onTc (τ := Cert.ZFwdIdeal.τ) (Cert.ZFwdIdeal.main (F := Ideal))) ⟨m, fun _ => 0, g⟩ (fun r => (∀ c : Dev Cert.ZFwdIdeal.nD,
      r.2.mem ((c.tc : Thread Cert.ZFwdIdeal.nD Cert.ZFwdIdeal.τ).loc Cert.ZFwdIdeal.main_arg0) = m ((c.tc : Thread Cert.ZFwdIdeal.nD Cert.ZFwdIdeal.τ).loc Cert.ZFwdIdeal.main_arg0)
      ∧ r.2.mem ((c.tc : Thread Cert.ZFwdIdeal.nD Cert.ZFwdIdeal.τ).loc Cert.ZFwdIdeal.main_arg1) = m ((c.tc : Thread Cert.ZFwdIdeal.nD Cert.ZFwdIdeal.τ).loc Cert.ZFwdIdeal.main_arg1))
      ∧ r.2.sem = fun _ => 0)

def quiescent_Y [hY : Cert.Y.Facts] : Prop :=
  ∀ (m : (ℓ : Loc Cert.Y.nD Cert.Y.τ Cert.Y.sig) → Buf (Elt Bits) ℓ) (g : Dev Cert.Y.nD → PrngReg), Pre_Y m →
    θ_run (Cert.Y.defs (F := Bits)) (onTc (τ := Cert.Y.τ) (Cert.Y.main (F := Bits))) ⟨m, fun _ => 0, g⟩ (fun r => (∀ c : Dev Cert.Y.nD,
      r.2.mem ((c.tc : Thread Cert.Y.nD Cert.Y.τ).loc Cert.Y.main_arg0) = m ((c.tc : Thread Cert.Y.nD Cert.Y.τ).loc Cert.Y.main_arg0)
      ∧ r.2.mem ((c.tc : Thread Cert.Y.nD Cert.Y.τ).loc Cert.Y.main_arg1) = m ((c.tc : Thread Cert.Y.nD Cert.Y.τ).loc Cert.Y.main_arg1))
      ∧ r.2.sem = fun _ => 0)

def quiescent_YIdeal [hYIdeal : Cert.YIdeal.Facts] : Prop :=
  ∀ (m : (ℓ : Loc Cert.YIdeal.nD Cert.YIdeal.τ Cert.YIdeal.sig) → Buf (Elt Ideal) ℓ) (g : Dev Cert.YIdeal.nD → PrngReg), Pre_YIdeal m →
    θ_run (Cert.YIdeal.defs (F := Ideal)) (onTc (τ := Cert.YIdeal.τ) (Cert.YIdeal.main (F := Ideal))) ⟨m, fun _ => 0, g⟩ (fun r => (∀ c : Dev Cert.YIdeal.nD,
      r.2.mem ((c.tc : Thread Cert.YIdeal.nD Cert.YIdeal.τ).loc Cert.YIdeal.main_arg0) = m ((c.tc : Thread Cert.YIdeal.nD Cert.YIdeal.τ).loc Cert.YIdeal.main_arg0)
      ∧ r.2.mem ((c.tc : Thread Cert.YIdeal.nD Cert.YIdeal.τ).loc Cert.YIdeal.main_arg1) = m ((c.tc : Thread Cert.YIdeal.nD Cert.YIdeal.τ).loc Cert.YIdeal.main_arg1))
      ∧ r.2.sem = fun _ => 0)

def quiescent_YFwdIdeal [hYFwdIdeal : Cert.YFwdIdeal.Facts] : Prop :=
  ∀ (m : (ℓ : Loc Cert.YFwdIdeal.nD Cert.YFwdIdeal.τ Cert.YFwdIdeal.sig) → Buf (Elt Ideal) ℓ) (g : Dev Cert.YFwdIdeal.nD → PrngReg), Pre_YFwdIdeal m →
    θ_run (Cert.YFwdIdeal.defs (F := Ideal)) (onTc (τ := Cert.YFwdIdeal.τ) (Cert.YFwdIdeal.main (F := Ideal))) ⟨m, fun _ => 0, g⟩ (fun r => (∀ c : Dev Cert.YFwdIdeal.nD,
      r.2.mem ((c.tc : Thread Cert.YFwdIdeal.nD Cert.YFwdIdeal.τ).loc Cert.YFwdIdeal.main_arg0) = m ((c.tc : Thread Cert.YFwdIdeal.nD Cert.YFwdIdeal.τ).loc Cert.YFwdIdeal.main_arg0)
      ∧ r.2.mem ((c.tc : Thread Cert.YFwdIdeal.nD Cert.YFwdIdeal.τ).loc Cert.YFwdIdeal.main_arg1) = m ((c.tc : Thread Cert.YFwdIdeal.nD Cert.YFwdIdeal.τ).loc Cert.YFwdIdeal.main_arg1))
      ∧ r.2.sem = fun _ => 0)

def quiescent_U [hU : Cert.U.Facts] : Prop :=
  ∀ (m : (ℓ : Loc Cert.U.nD Cert.U.τ Cert.U.sig) → Buf (Elt Bits) ℓ) (g : Dev Cert.U.nD → PrngReg), Pre_U m →
    θ_run (Cert.U.defs (F := Bits)) (onTc (τ := Cert.U.τ) (Cert.U.main (F := Bits))) ⟨m, fun _ => 0, g⟩ (fun r => (∀ c : Dev Cert.U.nD,
      r.2.mem ((c.tc : Thread Cert.U.nD Cert.U.τ).loc Cert.U.main_arg0) = m ((c.tc : Thread Cert.U.nD Cert.U.τ).loc Cert.U.main_arg0)
      ∧ r.2.mem ((c.tc : Thread Cert.U.nD Cert.U.τ).loc Cert.U.main_arg1) = m ((c.tc : Thread Cert.U.nD Cert.U.τ).loc Cert.U.main_arg1))
      ∧ r.2.sem = fun _ => 0)

def quiescent_UIdeal [hUIdeal : Cert.UIdeal.Facts] : Prop :=
  ∀ (m : (ℓ : Loc Cert.UIdeal.nD Cert.UIdeal.τ Cert.UIdeal.sig) → Buf (Elt Ideal) ℓ) (g : Dev Cert.UIdeal.nD → PrngReg), Pre_UIdeal m →
    θ_run (Cert.UIdeal.defs (F := Ideal)) (onTc (τ := Cert.UIdeal.τ) (Cert.UIdeal.main (F := Ideal))) ⟨m, fun _ => 0, g⟩ (fun r => (∀ c : Dev Cert.UIdeal.nD,
      r.2.mem ((c.tc : Thread Cert.UIdeal.nD Cert.UIdeal.τ).loc Cert.UIdeal.main_arg0) = m ((c.tc : Thread Cert.UIdeal.nD Cert.UIdeal.τ).loc Cert.UIdeal.main_arg0)
      ∧ r.2.mem ((c.tc : Thread Cert.UIdeal.nD Cert.UIdeal.τ).loc Cert.UIdeal.main_arg1) = m ((c.tc : Thread Cert.UIdeal.nD Cert.UIdeal.τ).loc Cert.UIdeal.main_arg1))
      ∧ r.2.sem = fun _ => 0)

def quiescent_UFwdIdeal [hUFwdIdeal : Cert.UFwdIdeal.Facts] : Prop :=
  ∀ (m : (ℓ : Loc Cert.UFwdIdeal.nD Cert.UFwdIdeal.τ Cert.UFwdIdeal.sig) → Buf (Elt Ideal) ℓ) (g : Dev Cert.UFwdIdeal.nD → PrngReg), Pre_UFwdIdeal m →
    θ_run (Cert.UFwdIdeal.defs (F := Ideal)) (onTc (τ := Cert.UFwdIdeal.τ) (Cert.UFwdIdeal.main (F := Ideal))) ⟨m, fun _ => 0, g⟩ (fun r => (∀ c : Dev Cert.UFwdIdeal.nD,
      r.2.mem ((c.tc : Thread Cert.UFwdIdeal.nD Cert.UFwdIdeal.τ).loc Cert.UFwdIdeal.main_arg0) = m ((c.tc : Thread Cert.UFwdIdeal.nD Cert.UFwdIdeal.τ).loc Cert.UFwdIdeal.main_arg0)
      ∧ r.2.mem ((c.tc : Thread Cert.UFwdIdeal.nD Cert.UFwdIdeal.τ).loc Cert.UFwdIdeal.main_arg1) = m ((c.tc : Thread Cert.UFwdIdeal.nD Cert.UFwdIdeal.τ).loc Cert.UFwdIdeal.main_arg1))
      ∧ r.2.sem = fun _ => 0)

def quiescent_Yff [hYff : Cert.Yff.Facts] : Prop :=
  ∀ (m : (ℓ : Loc Cert.Yff.nD Cert.Yff.τ Cert.Yff.sig) → Buf (Elt Bits) ℓ) (g : Dev Cert.Yff.nD → PrngReg), Pre_Yff m →
    θ_run (Cert.Yff.defs (F := Bits)) (onTc (τ := Cert.Yff.τ) (Cert.Yff.main (F := Bits))) ⟨m, fun _ => 0, g⟩ (fun r => (∀ c : Dev Cert.Yff.nD,
      r.2.mem ((c.tc : Thread Cert.Yff.nD Cert.Yff.τ).loc Cert.Yff.main_arg0) = m ((c.tc : Thread Cert.Yff.nD Cert.Yff.τ).loc Cert.Yff.main_arg0)
      ∧ r.2.mem ((c.tc : Thread Cert.Yff.nD Cert.Yff.τ).loc Cert.Yff.main_arg1) = m ((c.tc : Thread Cert.Yff.nD Cert.Yff.τ).loc Cert.Yff.main_arg1))
      ∧ r.2.sem = fun _ => 0)

def quiescent_YffIdeal [hYffIdeal : Cert.YffIdeal.Facts] : Prop :=
  ∀ (m : (ℓ : Loc Cert.YffIdeal.nD Cert.YffIdeal.τ Cert.YffIdeal.sig) → Buf (Elt Ideal) ℓ) (g : Dev Cert.YffIdeal.nD → PrngReg), Pre_YffIdeal m →
    θ_run (Cert.YffIdeal.defs (F := Ideal)) (onTc (τ := Cert.YffIdeal.τ) (Cert.YffIdeal.main (F := Ideal))) ⟨m, fun _ => 0, g⟩ (fun r => (∀ c : Dev Cert.YffIdeal.nD,
      r.2.mem ((c.tc : Thread Cert.YffIdeal.nD Cert.YffIdeal.τ).loc Cert.YffIdeal.main_arg0) = m ((c.tc : Thread Cert.YffIdeal.nD Cert.YffIdeal.τ).loc Cert.YffIdeal.main_arg0)
      ∧ r.2.mem ((c.tc : Thread Cert.YffIdeal.nD Cert.YffIdeal.τ).loc Cert.YffIdeal.main_arg1) = m ((c.tc : Thread Cert.YffIdeal.nD Cert.YffIdeal.τ).loc Cert.YffIdeal.main_arg1))
      ∧ r.2.sem = fun _ => 0)

def quiescent_YffFwdIdeal [hYffFwdIdeal : Cert.YffFwdIdeal.Facts] : Prop :=
  ∀ (m : (ℓ : Loc Cert.YffFwdIdeal.nD Cert.YffFwdIdeal.τ Cert.YffFwdIdeal.sig) → Buf (Elt Ideal) ℓ) (g : Dev Cert.YffFwdIdeal.nD → PrngReg), Pre_YffFwdIdeal m →
    θ_run (Cert.YffFwdIdeal.defs (F := Ideal)) (onTc (τ := Cert.YffFwdIdeal.τ) (Cert.YffFwdIdeal.main (F := Ideal))) ⟨m, fun _ => 0, g⟩ (fun r => (∀ c : Dev Cert.YffFwdIdeal.nD,
      r.2.mem ((c.tc : Thread Cert.YffFwdIdeal.nD Cert.YffFwdIdeal.τ).loc Cert.YffFwdIdeal.main_arg0) = m ((c.tc : Thread Cert.YffFwdIdeal.nD Cert.YffFwdIdeal.τ).loc Cert.YffFwdIdeal.main_arg0)
      ∧ r.2.mem ((c.tc : Thread Cert.YffFwdIdeal.nD Cert.YffFwdIdeal.τ).loc Cert.YffFwdIdeal.main_arg1) = m ((c.tc : Thread Cert.YffFwdIdeal.nD Cert.YffFwdIdeal.τ).loc Cert.YffFwdIdeal.main_arg1))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1)
      ∧ r.2.mem ((c.tc : Thread Cert.AttFwd.nD Cert.AttFwd.τ).loc Cert.AttFwd.main_arg2) = m ((c.tc : Thread Cert.AttFwd.nD Cert.AttFwd.τ).loc Cert.AttFwd.main_arg2))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2))
      ∧ r.2.sem = fun _ => 0)

def quiescent_AttFwdIdeal_pre_finite_rows [hAttFwdIdeal : Cert.AttFwdIdeal.Facts] [hPre_finite_rows : Cert.Pre_finite_rows.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal_finite_rows m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendIdeal_pre_finite_rows [hAttendIdeal : Cert.AttendIdeal.Facts] [hPre_finite_rows : Cert.Pre_finite_rows.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite_rows m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvGluIdeal [hConvGluIdeal : Cert.ConvGluIdeal.Facts] : Prop :=
  ∀ (m : (ℓ : Loc Cert.ConvGluIdeal.nD Cert.ConvGluIdeal.τ Cert.ConvGluIdeal.sig) → Buf (Elt Ideal) ℓ) (g : Dev Cert.ConvGluIdeal.nD → PrngReg), Pre_ConvGluIdeal m →
    θ_run (Cert.ConvGluIdeal.defs (F := Ideal)) (onTc (τ := Cert.ConvGluIdeal.τ) (Cert.ConvGluIdeal.main (F := Ideal))) ⟨m, fun _ => 0, g⟩ (fun r => (∀ c : Dev Cert.ConvGluIdeal.nD,
      r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
      ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1)
      ∧ r.2.mem ((c.tc : Thread Cert.ConvGluIdeal.nD Cert.ConvGluIdeal.τ).loc Cert.ConvGluIdeal.main_arg2) = m ((c.tc : Thread Cert.ConvGluIdeal.nD Cert.ConvGluIdeal.τ).loc Cert.ConvGluIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvGradIdeal [hConvGradIdeal : Cert.ConvGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
      ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ r.2.sem = fun _ => 0)

def quiescent_ConvGradIdeal_pre_finite_conv [hConvGradIdeal : Cert.ConvGradIdeal.Facts] [hPre_finite_conv : Cert.Pre_finite_conv.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal_finite_conv m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
      ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ r.2.sem = fun _ => 0)

def quiescent_Mixr [hMixr : Cert.Mixr.Facts] : Prop :=
  ∀ (m : (ℓ : Loc Cert.Mixr.nD Cert.Mixr.τ Cert.Mixr.sig) → Buf (Elt Bits) ℓ) (g : Dev Cert.Mixr.nD → PrngReg), Pre_Mixr m →
    θ_run (Cert.Mixr.defs (F := Bits)) (onTc (τ := Cert.Mixr.τ) (Cert.Mixr.main (F := Bits))) ⟨m, fun _ => 0, g⟩ (fun r => (∀ c : Dev Cert.Mixr.nD,
      r.2.mem ((c.tc : Thread Cert.Mixr.nD Cert.Mixr.τ).loc Cert.Mixr.main_arg0) = m ((c.tc : Thread Cert.Mixr.nD Cert.Mixr.τ).loc Cert.Mixr.main_arg0)
      ∧ r.2.mem ((c.tc : Thread Cert.Mixr.nD Cert.Mixr.τ).loc Cert.Mixr.main_arg1) = m ((c.tc : Thread Cert.Mixr.nD Cert.Mixr.τ).loc Cert.Mixr.main_arg1)
      ∧ r.2.mem ((c.tc : Thread Cert.Mixr.nD Cert.Mixr.τ).loc Cert.Mixr.main_arg2) = m ((c.tc : Thread Cert.Mixr.nD Cert.Mixr.τ).loc Cert.Mixr.main_arg2))
      ∧ r.2.sem = fun _ => 0)

def quiescent_MixrIdeal [hMixrIdeal : Cert.MixrIdeal.Facts] : Prop :=
  ∀ (m : (ℓ : Loc Cert.MixrIdeal.nD Cert.MixrIdeal.τ Cert.MixrIdeal.sig) → Buf (Elt Ideal) ℓ) (g : Dev Cert.MixrIdeal.nD → PrngReg), Pre_MixrIdeal m →
    θ_run (Cert.MixrIdeal.defs (F := Ideal)) (onTc (τ := Cert.MixrIdeal.τ) (Cert.MixrIdeal.main (F := Ideal))) ⟨m, fun _ => 0, g⟩ (fun r => (∀ c : Dev Cert.MixrIdeal.nD,
      r.2.mem ((c.tc : Thread Cert.MixrIdeal.nD Cert.MixrIdeal.τ).loc Cert.MixrIdeal.main_arg0) = m ((c.tc : Thread Cert.MixrIdeal.nD Cert.MixrIdeal.τ).loc Cert.MixrIdeal.main_arg0)
      ∧ r.2.mem ((c.tc : Thread Cert.MixrIdeal.nD Cert.MixrIdeal.τ).loc Cert.MixrIdeal.main_arg1) = m ((c.tc : Thread Cert.MixrIdeal.nD Cert.MixrIdeal.τ).loc Cert.MixrIdeal.main_arg1)
      ∧ r.2.mem ((c.tc : Thread Cert.MixrIdeal.nD Cert.MixrIdeal.τ).loc Cert.MixrIdeal.main_arg2) = m ((c.tc : Thread Cert.MixrIdeal.nD Cert.MixrIdeal.τ).loc Cert.MixrIdeal.main_arg2))
      ∧ r.2.sem = fun _ => 0)

def quiescent_GatedRetIdeal [hGatedRetIdeal : Cert.GatedRetIdeal.Facts] : Prop :=
  ∀ (m : (ℓ : Loc Cert.GatedRetIdeal.nD Cert.GatedRetIdeal.τ Cert.GatedRetIdeal.sig) → Buf (Elt Ideal) ℓ) (g : Dev Cert.GatedRetIdeal.nD → PrngReg), Pre_GatedRetIdeal m →
    θ_run (Cert.GatedRetIdeal.defs (F := Ideal)) (onTc (τ := Cert.GatedRetIdeal.τ) (Cert.GatedRetIdeal.main (F := Ideal))) ⟨m, fun _ => 0, g⟩ (fun r => (∀ c : Dev Cert.GatedRetIdeal.nD,
      r.2.mem ((c.tc : Thread Cert.GatedRetIdeal.nD Cert.GatedRetIdeal.τ).loc Cert.GatedRetIdeal.main_arg0) = m ((c.tc : Thread Cert.GatedRetIdeal.nD Cert.GatedRetIdeal.τ).loc Cert.GatedRetIdeal.main_arg0)
      ∧ r.2.mem ((c.tc : Thread Cert.GatedRetIdeal.nD Cert.GatedRetIdeal.τ).loc Cert.GatedRetIdeal.main_arg1) = m ((c.tc : Thread Cert.GatedRetIdeal.nD Cert.GatedRetIdeal.τ).loc Cert.GatedRetIdeal.main_arg1)
      ∧ r.2.mem ((c.tc : Thread Cert.GatedRetIdeal.nD Cert.GatedRetIdeal.τ).loc Cert.GatedRetIdeal.main_arg2) = m ((c.tc : Thread Cert.GatedRetIdeal.nD Cert.GatedRetIdeal.τ).loc Cert.GatedRetIdeal.main_arg2))
      ∧ r.2.sem = fun _ => 0)

def quiescent_MixrBwd [hMixrBwd : Cert.MixrBwd.Facts] : Prop :=
  ∀ (m : (ℓ : Loc Cert.MixrBwd.nD Cert.MixrBwd.τ Cert.MixrBwd.sig) → Buf (Elt Bits) ℓ) (g : Dev Cert.MixrBwd.nD → PrngReg), Pre_MixrBwd m →
    θ_run (Cert.MixrBwd.defs (F := Bits)) (onTc (τ := Cert.MixrBwd.τ) (Cert.MixrBwd.main (F := Bits))) ⟨m, fun _ => 0, g⟩ (fun r => (∀ c : Dev Cert.MixrBwd.nD,
      r.2.mem ((c.tc : Thread Cert.MixrBwd.nD Cert.MixrBwd.τ).loc Cert.MixrBwd.main_arg0) = m ((c.tc : Thread Cert.MixrBwd.nD Cert.MixrBwd.τ).loc Cert.MixrBwd.main_arg0)
      ∧ r.2.mem ((c.tc : Thread Cert.MixrBwd.nD Cert.MixrBwd.τ).loc Cert.MixrBwd.main_arg1) = m ((c.tc : Thread Cert.MixrBwd.nD Cert.MixrBwd.τ).loc Cert.MixrBwd.main_arg1)
      ∧ r.2.mem ((c.tc : Thread Cert.MixrBwd.nD Cert.MixrBwd.τ).loc Cert.MixrBwd.main_arg2) = m ((c.tc : Thread Cert.MixrBwd.nD Cert.MixrBwd.τ).loc Cert.MixrBwd.main_arg2)
      ∧ r.2.mem ((c.tc : Thread Cert.MixrBwd.nD Cert.MixrBwd.τ).loc Cert.MixrBwd.main_arg3) = m ((c.tc : Thread Cert.MixrBwd.nD Cert.MixrBwd.τ).loc Cert.MixrBwd.main_arg3))
      ∧ r.2.sem = fun _ => 0)

def quiescent_MixrBwdIdeal [hMixrBwdIdeal : Cert.MixrBwdIdeal.Facts] : Prop :=
  ∀ (m : (ℓ : Loc Cert.MixrBwdIdeal.nD Cert.MixrBwdIdeal.τ Cert.MixrBwdIdeal.sig) → Buf (Elt Ideal) ℓ) (g : Dev Cert.MixrBwdIdeal.nD → PrngReg), Pre_MixrBwdIdeal m →
    θ_run (Cert.MixrBwdIdeal.defs (F := Ideal)) (onTc (τ := Cert.MixrBwdIdeal.τ) (Cert.MixrBwdIdeal.main (F := Ideal))) ⟨m, fun _ => 0, g⟩ (fun r => (∀ c : Dev Cert.MixrBwdIdeal.nD,
      r.2.mem ((c.tc : Thread Cert.MixrBwdIdeal.nD Cert.MixrBwdIdeal.τ).loc Cert.MixrBwdIdeal.main_arg0) = m ((c.tc : Thread Cert.MixrBwdIdeal.nD Cert.MixrBwdIdeal.τ).loc Cert.MixrBwdIdeal.main_arg0)
      ∧ r.2.mem ((c.tc : Thread Cert.MixrBwdIdeal.nD Cert.MixrBwdIdeal.τ).loc Cert.MixrBwdIdeal.main_arg1) = m ((c.tc : Thread Cert.MixrBwdIdeal.nD Cert.MixrBwdIdeal.τ).loc Cert.MixrBwdIdeal.main_arg1)
      ∧ r.2.mem ((c.tc : Thread Cert.MixrBwdIdeal.nD Cert.MixrBwdIdeal.τ).loc Cert.MixrBwdIdeal.main_arg2) = m ((c.tc : Thread Cert.MixrBwdIdeal.nD Cert.MixrBwdIdeal.τ).loc Cert.MixrBwdIdeal.main_arg2)
      ∧ r.2.mem ((c.tc : Thread Cert.MixrBwdIdeal.nD Cert.MixrBwdIdeal.τ).loc Cert.MixrBwdIdeal.main_arg3) = m ((c.tc : Thread Cert.MixrBwdIdeal.nD Cert.MixrBwdIdeal.τ).loc Cert.MixrBwdIdeal.main_arg3))
      ∧ r.2.sem = fun _ => 0)

def quiescent_GatedRetGradIdeal [hGatedRetGradIdeal : Cert.GatedRetGradIdeal.Facts] : Prop :=
  ∀ (m : (ℓ : Loc Cert.GatedRetGradIdeal.nD Cert.GatedRetGradIdeal.τ Cert.GatedRetGradIdeal.sig) → Buf (Elt Ideal) ℓ) (g : Dev Cert.GatedRetGradIdeal.nD → PrngReg), Pre_GatedRetGradIdeal m →
    θ_run (Cert.GatedRetGradIdeal.defs (F := Ideal)) (onTc (τ := Cert.GatedRetGradIdeal.τ) (Cert.GatedRetGradIdeal.main (F := Ideal))) ⟨m, fun _ => 0, g⟩ (fun r => (∀ c : Dev Cert.GatedRetGradIdeal.nD,
      r.2.mem ((c.tc : Thread Cert.GatedRetGradIdeal.nD Cert.GatedRetGradIdeal.τ).loc Cert.GatedRetGradIdeal.main_arg0) = m ((c.tc : Thread Cert.GatedRetGradIdeal.nD Cert.GatedRetGradIdeal.τ).loc Cert.GatedRetGradIdeal.main_arg0)
      ∧ r.2.mem ((c.tc : Thread Cert.GatedRetGradIdeal.nD Cert.GatedRetGradIdeal.τ).loc Cert.GatedRetGradIdeal.main_arg1) = m ((c.tc : Thread Cert.GatedRetGradIdeal.nD Cert.GatedRetGradIdeal.τ).loc Cert.GatedRetGradIdeal.main_arg1)
      ∧ r.2.mem ((c.tc : Thread Cert.GatedRetGradIdeal.nD Cert.GatedRetGradIdeal.τ).loc Cert.GatedRetGradIdeal.main_arg2) = m ((c.tc : Thread Cert.GatedRetGradIdeal.nD Cert.GatedRetGradIdeal.τ).loc Cert.GatedRetGradIdeal.main_arg2)
      ∧ r.2.mem ((c.tc : Thread Cert.GatedRetGradIdeal.nD Cert.GatedRetGradIdeal.τ).loc Cert.GatedRetGradIdeal.main_arg3) = m ((c.tc : Thread Cert.GatedRetGradIdeal.nD Cert.GatedRetGradIdeal.τ).loc Cert.GatedRetGradIdeal.main_arg3))
      ∧ r.2.sem = fun _ => 0)

def quiescent_Mixg [hMixg : Cert.Mixg.Facts] : Prop :=
  ∀ (m : (ℓ : Loc Cert.Mixg.nD Cert.Mixg.τ Cert.Mixg.sig) → Buf (Elt Bits) ℓ) (g : Dev Cert.Mixg.nD → PrngReg), Pre_Mixg m →
    θ_run (Cert.Mixg.defs (F := Bits)) (onTc (τ := Cert.Mixg.τ) (Cert.Mixg.main (F := Bits))) ⟨m, fun _ => 0, g⟩ (fun r => (∀ c : Dev Cert.Mixg.nD,
      r.2.mem ((c.tc : Thread Cert.Mixg.nD Cert.Mixg.τ).loc Cert.Mixg.main_arg0) = m ((c.tc : Thread Cert.Mixg.nD Cert.Mixg.τ).loc Cert.Mixg.main_arg0)
      ∧ r.2.mem ((c.tc : Thread Cert.Mixg.nD Cert.Mixg.τ).loc Cert.Mixg.main_arg1) = m ((c.tc : Thread Cert.Mixg.nD Cert.Mixg.τ).loc Cert.Mixg.main_arg1)
      ∧ r.2.mem ((c.tc : Thread Cert.Mixg.nD Cert.Mixg.τ).loc Cert.Mixg.main_arg2) = m ((c.tc : Thread Cert.Mixg.nD Cert.Mixg.τ).loc Cert.Mixg.main_arg2))
      ∧ r.2.sem = fun _ => 0)

def quiescent_MixgIdeal [hMixgIdeal : Cert.MixgIdeal.Facts] : Prop :=
  ∀ (m : (ℓ : Loc Cert.MixgIdeal.nD Cert.MixgIdeal.τ Cert.MixgIdeal.sig) → Buf (Elt Ideal) ℓ) (g : Dev Cert.MixgIdeal.nD → PrngReg), Pre_MixgIdeal m →
    θ_run (Cert.MixgIdeal.defs (F := Ideal)) (onTc (τ := Cert.MixgIdeal.τ) (Cert.MixgIdeal.main (F := Ideal))) ⟨m, fun _ => 0, g⟩ (fun r => (∀ c : Dev Cert.MixgIdeal.nD,
      r.2.mem ((c.tc : Thread Cert.MixgIdeal.nD Cert.MixgIdeal.τ).loc Cert.MixgIdeal.main_arg0) = m ((c.tc : Thread Cert.MixgIdeal.nD Cert.MixgIdeal.τ).loc Cert.MixgIdeal.main_arg0)
      ∧ r.2.mem ((c.tc : Thread Cert.MixgIdeal.nD Cert.MixgIdeal.τ).loc Cert.MixgIdeal.main_arg1) = m ((c.tc : Thread Cert.MixgIdeal.nD Cert.MixgIdeal.τ).loc Cert.MixgIdeal.main_arg1)
      ∧ r.2.mem ((c.tc : Thread Cert.MixgIdeal.nD Cert.MixgIdeal.τ).loc Cert.MixgIdeal.main_arg2) = m ((c.tc : Thread Cert.MixgIdeal.nD Cert.MixgIdeal.τ).loc Cert.MixgIdeal.main_arg2))
      ∧ r.2.sem = fun _ => 0)

def quiescent_GatedGlaIdeal [hGatedGlaIdeal : Cert.GatedGlaIdeal.Facts] : Prop :=
  ∀ (m : (ℓ : Loc Cert.GatedGlaIdeal.nD Cert.GatedGlaIdeal.τ Cert.GatedGlaIdeal.sig) → Buf (Elt Ideal) ℓ) (g : Dev Cert.GatedGlaIdeal.nD → PrngReg), Pre_GatedGlaIdeal m →
    θ_run (Cert.GatedGlaIdeal.defs (F := Ideal)) (onTc (τ := Cert.GatedGlaIdeal.τ) (Cert.GatedGlaIdeal.main (F := Ideal))) ⟨m, fun _ => 0, g⟩ (fun r => (∀ c : Dev Cert.GatedGlaIdeal.nD,
      r.2.mem ((c.tc : Thread Cert.GatedGlaIdeal.nD Cert.GatedGlaIdeal.τ).loc Cert.GatedGlaIdeal.main_arg0) = m ((c.tc : Thread Cert.GatedGlaIdeal.nD Cert.GatedGlaIdeal.τ).loc Cert.GatedGlaIdeal.main_arg0)
      ∧ r.2.mem ((c.tc : Thread Cert.GatedGlaIdeal.nD Cert.GatedGlaIdeal.τ).loc Cert.GatedGlaIdeal.main_arg1) = m ((c.tc : Thread Cert.GatedGlaIdeal.nD Cert.GatedGlaIdeal.τ).loc Cert.GatedGlaIdeal.main_arg1)
      ∧ r.2.mem ((c.tc : Thread Cert.GatedGlaIdeal.nD Cert.GatedGlaIdeal.τ).loc Cert.GatedGlaIdeal.main_arg2) = m ((c.tc : Thread Cert.GatedGlaIdeal.nD Cert.GatedGlaIdeal.τ).loc Cert.GatedGlaIdeal.main_arg2))
      ∧ r.2.sem = fun _ => 0)

def quiescent_MixgBwd [hMixgBwd : Cert.MixgBwd.Facts] : Prop :=
  ∀ (m : (ℓ : Loc Cert.MixgBwd.nD Cert.MixgBwd.τ Cert.MixgBwd.sig) → Buf (Elt Bits) ℓ) (g : Dev Cert.MixgBwd.nD → PrngReg), Pre_MixgBwd m →
    θ_run (Cert.MixgBwd.defs (F := Bits)) (onTc (τ := Cert.MixgBwd.τ) (Cert.MixgBwd.main (F := Bits))) ⟨m, fun _ => 0, g⟩ (fun r => (∀ c : Dev Cert.MixgBwd.nD,
      r.2.mem ((c.tc : Thread Cert.MixgBwd.nD Cert.MixgBwd.τ).loc Cert.MixgBwd.main_arg0) = m ((c.tc : Thread Cert.MixgBwd.nD Cert.MixgBwd.τ).loc Cert.MixgBwd.main_arg0)
      ∧ r.2.mem ((c.tc : Thread Cert.MixgBwd.nD Cert.MixgBwd.τ).loc Cert.MixgBwd.main_arg1) = m ((c.tc : Thread Cert.MixgBwd.nD Cert.MixgBwd.τ).loc Cert.MixgBwd.main_arg1)
      ∧ r.2.mem ((c.tc : Thread Cert.MixgBwd.nD Cert.MixgBwd.τ).loc Cert.MixgBwd.main_arg2) = m ((c.tc : Thread Cert.MixgBwd.nD Cert.MixgBwd.τ).loc Cert.MixgBwd.main_arg2)
      ∧ r.2.mem ((c.tc : Thread Cert.MixgBwd.nD Cert.MixgBwd.τ).loc Cert.MixgBwd.main_arg3) = m ((c.tc : Thread Cert.MixgBwd.nD Cert.MixgBwd.τ).loc Cert.MixgBwd.main_arg3))
      ∧ r.2.sem = fun _ => 0)

def quiescent_MixgBwdIdeal [hMixgBwdIdeal : Cert.MixgBwdIdeal.Facts] : Prop :=
  ∀ (m : (ℓ : Loc Cert.MixgBwdIdeal.nD Cert.MixgBwdIdeal.τ Cert.MixgBwdIdeal.sig) → Buf (Elt Ideal) ℓ) (g : Dev Cert.MixgBwdIdeal.nD → PrngReg), Pre_MixgBwdIdeal m →
    θ_run (Cert.MixgBwdIdeal.defs (F := Ideal)) (onTc (τ := Cert.MixgBwdIdeal.τ) (Cert.MixgBwdIdeal.main (F := Ideal))) ⟨m, fun _ => 0, g⟩ (fun r => (∀ c : Dev Cert.MixgBwdIdeal.nD,
      r.2.mem ((c.tc : Thread Cert.MixgBwdIdeal.nD Cert.MixgBwdIdeal.τ).loc Cert.MixgBwdIdeal.main_arg0) = m ((c.tc : Thread Cert.MixgBwdIdeal.nD Cert.MixgBwdIdeal.τ).loc Cert.MixgBwdIdeal.main_arg0)
      ∧ r.2.mem ((c.tc : Thread Cert.MixgBwdIdeal.nD Cert.MixgBwdIdeal.τ).loc Cert.MixgBwdIdeal.main_arg1) = m ((c.tc : Thread Cert.MixgBwdIdeal.nD Cert.MixgBwdIdeal.τ).loc Cert.MixgBwdIdeal.main_arg1)
      ∧ r.2.mem ((c.tc : Thread Cert.MixgBwdIdeal.nD Cert.MixgBwdIdeal.τ).loc Cert.MixgBwdIdeal.main_arg2) = m ((c.tc : Thread Cert.MixgBwdIdeal.nD Cert.MixgBwdIdeal.τ).loc Cert.MixgBwdIdeal.main_arg2)
      ∧ r.2.mem ((c.tc : Thread Cert.MixgBwdIdeal.nD Cert.MixgBwdIdeal.τ).loc Cert.MixgBwdIdeal.main_arg3) = m ((c.tc : Thread Cert.MixgBwdIdeal.nD Cert.MixgBwdIdeal.τ).loc Cert.MixgBwdIdeal.main_arg3))
      ∧ r.2.sem = fun _ => 0)

def quiescent_GatedGlaGradIdeal [hGatedGlaGradIdeal : Cert.GatedGlaGradIdeal.Facts] : Prop :=
  ∀ (m : (ℓ : Loc Cert.GatedGlaGradIdeal.nD Cert.GatedGlaGradIdeal.τ Cert.GatedGlaGradIdeal.sig) → Buf (Elt Ideal) ℓ) (g : Dev Cert.GatedGlaGradIdeal.nD → PrngReg), Pre_GatedGlaGradIdeal m →
    θ_run (Cert.GatedGlaGradIdeal.defs (F := Ideal)) (onTc (τ := Cert.GatedGlaGradIdeal.τ) (Cert.GatedGlaGradIdeal.main (F := Ideal))) ⟨m, fun _ => 0, g⟩ (fun r => (∀ c : Dev Cert.GatedGlaGradIdeal.nD,
      r.2.mem ((c.tc : Thread Cert.GatedGlaGradIdeal.nD Cert.GatedGlaGradIdeal.τ).loc Cert.GatedGlaGradIdeal.main_arg0) = m ((c.tc : Thread Cert.GatedGlaGradIdeal.nD Cert.GatedGlaGradIdeal.τ).loc Cert.GatedGlaGradIdeal.main_arg0)
      ∧ r.2.mem ((c.tc : Thread Cert.GatedGlaGradIdeal.nD Cert.GatedGlaGradIdeal.τ).loc Cert.GatedGlaGradIdeal.main_arg1) = m ((c.tc : Thread Cert.GatedGlaGradIdeal.nD Cert.GatedGlaGradIdeal.τ).loc Cert.GatedGlaGradIdeal.main_arg1)
      ∧ r.2.mem ((c.tc : Thread Cert.GatedGlaGradIdeal.nD Cert.GatedGlaGradIdeal.τ).loc Cert.GatedGlaGradIdeal.main_arg2) = m ((c.tc : Thread Cert.GatedGlaGradIdeal.nD Cert.GatedGlaGradIdeal.τ).loc Cert.GatedGlaGradIdeal.main_arg2)
      ∧ r.2.mem ((c.tc : Thread Cert.GatedGlaGradIdeal.nD Cert.GatedGlaGradIdeal.τ).loc Cert.GatedGlaGradIdeal.main_arg3) = m ((c.tc : Thread Cert.GatedGlaGradIdeal.nD Cert.GatedGlaGradIdeal.τ).loc Cert.GatedGlaGradIdeal.main_arg3))
      ∧ r.2.sem = fun _ => 0)

def quiescent_PrepAqBwd [hPrepAqBwd : Cert.PrepAqBwd.Facts] : Prop :=
  ∀ (m : (ℓ : Loc Cert.PrepAqBwd.nD Cert.PrepAqBwd.τ Cert.PrepAqBwd.sig) → Buf (Elt Bits) ℓ) (g : Dev Cert.PrepAqBwd.nD → PrngReg), Pre_PrepAqBwd m →
    θ_run (Cert.PrepAqBwd.defs (F := Bits)) (onTc (τ := Cert.PrepAqBwd.τ) (Cert.PrepAqBwd.main (F := Bits))) ⟨m, fun _ => 0, g⟩ (fun r => (∀ c : Dev Cert.PrepAqBwd.nD,
      r.2.mem ((c.tc : Thread Cert.PrepAqBwd.nD Cert.PrepAqBwd.τ).loc Cert.PrepAqBwd.main_arg0) = m ((c.tc : Thread Cert.PrepAqBwd.nD Cert.PrepAqBwd.τ).loc Cert.PrepAqBwd.main_arg0)
      ∧ r.2.mem ((c.tc : Thread Cert.PrepAqBwd.nD Cert.PrepAqBwd.τ).loc Cert.PrepAqBwd.main_arg1) = m ((c.tc : Thread Cert.PrepAqBwd.nD Cert.PrepAqBwd.τ).loc Cert.PrepAqBwd.main_arg1)
      ∧ r.2.mem ((c.tc : Thread Cert.PrepAqBwd.nD Cert.PrepAqBwd.τ).loc Cert.PrepAqBwd.main_arg2) = m ((c.tc : Thread Cert.PrepAqBwd.nD Cert.PrepAqBwd.τ).loc Cert.PrepAqBwd.main_arg2)
      ∧ r.2.mem ((c.tc : Thread Cert.PrepAqBwd.nD Cert.PrepAqBwd.τ).loc Cert.PrepAqBwd.main_arg3) = m ((c.tc : Thread Cert.PrepAqBwd.nD Cert.PrepAqBwd.τ).loc Cert.PrepAqBwd.main_arg3)
      ∧ r.2.mem ((c.tc : Thread Cert.PrepAqBwd.nD Cert.PrepAqBwd.τ).loc Cert.PrepAqBwd.main_arg4) = m ((c.tc : Thread Cert.PrepAqBwd.nD Cert.PrepAqBwd.τ).loc Cert.PrepAqBwd.main_arg4))
      ∧ r.2.sem = fun _ => 0)

def quiescent_PrepAqBwdIdeal [hPrepAqBwdIdeal : Cert.PrepAqBwdIdeal.Facts] : Prop :=
  ∀ (m : (ℓ : Loc Cert.PrepAqBwdIdeal.nD Cert.PrepAqBwdIdeal.τ Cert.PrepAqBwdIdeal.sig) → Buf (Elt Ideal) ℓ) (g : Dev Cert.PrepAqBwdIdeal.nD → PrngReg), Pre_PrepAqBwdIdeal m →
    θ_run (Cert.PrepAqBwdIdeal.defs (F := Ideal)) (onTc (τ := Cert.PrepAqBwdIdeal.τ) (Cert.PrepAqBwdIdeal.main (F := Ideal))) ⟨m, fun _ => 0, g⟩ (fun r => (∀ c : Dev Cert.PrepAqBwdIdeal.nD,
      r.2.mem ((c.tc : Thread Cert.PrepAqBwdIdeal.nD Cert.PrepAqBwdIdeal.τ).loc Cert.PrepAqBwdIdeal.main_arg0) = m ((c.tc : Thread Cert.PrepAqBwdIdeal.nD Cert.PrepAqBwdIdeal.τ).loc Cert.PrepAqBwdIdeal.main_arg0)
      ∧ r.2.mem ((c.tc : Thread Cert.PrepAqBwdIdeal.nD Cert.PrepAqBwdIdeal.τ).loc Cert.PrepAqBwdIdeal.main_arg1) = m ((c.tc : Thread Cert.PrepAqBwdIdeal.nD Cert.PrepAqBwdIdeal.τ).loc Cert.PrepAqBwdIdeal.main_arg1)
      ∧ r.2.mem ((c.tc : Thread Cert.PrepAqBwdIdeal.nD Cert.PrepAqBwdIdeal.τ).loc Cert.PrepAqBwdIdeal.main_arg2) = m ((c.tc : Thread Cert.PrepAqBwdIdeal.nD Cert.PrepAqBwdIdeal.τ).loc Cert.PrepAqBwdIdeal.main_arg2)
      ∧ r.2.mem ((c.tc : Thread Cert.PrepAqBwdIdeal.nD Cert.PrepAqBwdIdeal.τ).loc Cert.PrepAqBwdIdeal.main_arg3) = m ((c.tc : Thread Cert.PrepAqBwdIdeal.nD Cert.PrepAqBwdIdeal.τ).loc Cert.PrepAqBwdIdeal.main_arg3)
      ∧ r.2.mem ((c.tc : Thread Cert.PrepAqBwdIdeal.nD Cert.PrepAqBwdIdeal.τ).loc Cert.PrepAqBwdIdeal.main_arg4) = m ((c.tc : Thread Cert.PrepAqBwdIdeal.nD Cert.PrepAqBwdIdeal.τ).loc Cert.PrepAqBwdIdeal.main_arg4))
      ∧ r.2.sem = fun _ => 0)

def quiescent_QueriesGradIdeal [hQueriesGradIdeal : Cert.QueriesGradIdeal.Facts] : Prop :=
  ∀ (m : (ℓ : Loc Cert.QueriesGradIdeal.nD Cert.QueriesGradIdeal.τ Cert.QueriesGradIdeal.sig) → Buf (Elt Ideal) ℓ) (g : Dev Cert.QueriesGradIdeal.nD → PrngReg), Pre_QueriesGradIdeal m →
    θ_run (Cert.QueriesGradIdeal.defs (F := Ideal)) (onTc (τ := Cert.QueriesGradIdeal.τ) (Cert.QueriesGradIdeal.main (F := Ideal))) ⟨m, fun _ => 0, g⟩ (fun r => (∀ c : Dev Cert.QueriesGradIdeal.nD,
      r.2.mem ((c.tc : Thread Cert.QueriesGradIdeal.nD Cert.QueriesGradIdeal.τ).loc Cert.QueriesGradIdeal.main_arg0) = m ((c.tc : Thread Cert.QueriesGradIdeal.nD Cert.QueriesGradIdeal.τ).loc Cert.QueriesGradIdeal.main_arg0)
      ∧ r.2.mem ((c.tc : Thread Cert.QueriesGradIdeal.nD Cert.QueriesGradIdeal.τ).loc Cert.QueriesGradIdeal.main_arg1) = m ((c.tc : Thread Cert.QueriesGradIdeal.nD Cert.QueriesGradIdeal.τ).loc Cert.QueriesGradIdeal.main_arg1)
      ∧ r.2.mem ((c.tc : Thread Cert.QueriesGradIdeal.nD Cert.QueriesGradIdeal.τ).loc Cert.QueriesGradIdeal.main_arg2) = m ((c.tc : Thread Cert.QueriesGradIdeal.nD Cert.QueriesGradIdeal.τ).loc Cert.QueriesGradIdeal.main_arg2)
      ∧ r.2.mem ((c.tc : Thread Cert.QueriesGradIdeal.nD Cert.QueriesGradIdeal.τ).loc Cert.QueriesGradIdeal.main_arg3) = m ((c.tc : Thread Cert.QueriesGradIdeal.nD Cert.QueriesGradIdeal.τ).loc Cert.QueriesGradIdeal.main_arg3)
      ∧ r.2.mem ((c.tc : Thread Cert.QueriesGradIdeal.nD Cert.QueriesGradIdeal.τ).loc Cert.QueriesGradIdeal.main_arg4) = m ((c.tc : Thread Cert.QueriesGradIdeal.nD Cert.QueriesGradIdeal.τ).loc Cert.QueriesGradIdeal.main_arg4))
      ∧ r.2.sem = fun _ => 0)

def quiescent_PrepAkBwd [hPrepAkBwd : Cert.PrepAkBwd.Facts] : Prop :=
  ∀ (m : (ℓ : Loc Cert.PrepAkBwd.nD Cert.PrepAkBwd.τ Cert.PrepAkBwd.sig) → Buf (Elt Bits) ℓ) (g : Dev Cert.PrepAkBwd.nD → PrngReg), Pre_PrepAkBwd m →
    θ_run (Cert.PrepAkBwd.defs (F := Bits)) (onTc (τ := Cert.PrepAkBwd.τ) (Cert.PrepAkBwd.main (F := Bits))) ⟨m, fun _ => 0, g⟩ (fun r => (∀ c : Dev Cert.PrepAkBwd.nD,
      r.2.mem ((c.tc : Thread Cert.PrepAkBwd.nD Cert.PrepAkBwd.τ).loc Cert.PrepAkBwd.main_arg0) = m ((c.tc : Thread Cert.PrepAkBwd.nD Cert.PrepAkBwd.τ).loc Cert.PrepAkBwd.main_arg0)
      ∧ r.2.mem ((c.tc : Thread Cert.PrepAkBwd.nD Cert.PrepAkBwd.τ).loc Cert.PrepAkBwd.main_arg1) = m ((c.tc : Thread Cert.PrepAkBwd.nD Cert.PrepAkBwd.τ).loc Cert.PrepAkBwd.main_arg1)
      ∧ r.2.mem ((c.tc : Thread Cert.PrepAkBwd.nD Cert.PrepAkBwd.τ).loc Cert.PrepAkBwd.main_arg2) = m ((c.tc : Thread Cert.PrepAkBwd.nD Cert.PrepAkBwd.τ).loc Cert.PrepAkBwd.main_arg2)
      ∧ r.2.mem ((c.tc : Thread Cert.PrepAkBwd.nD Cert.PrepAkBwd.τ).loc Cert.PrepAkBwd.main_arg3) = m ((c.tc : Thread Cert.PrepAkBwd.nD Cert.PrepAkBwd.τ).loc Cert.PrepAkBwd.main_arg3)
      ∧ r.2.mem ((c.tc : Thread Cert.PrepAkBwd.nD Cert.PrepAkBwd.τ).loc Cert.PrepAkBwd.main_arg4) = m ((c.tc : Thread Cert.PrepAkBwd.nD Cert.PrepAkBwd.τ).loc Cert.PrepAkBwd.main_arg4))
      ∧ r.2.sem = fun _ => 0)

def quiescent_PrepAkBwdIdeal [hPrepAkBwdIdeal : Cert.PrepAkBwdIdeal.Facts] : Prop :=
  ∀ (m : (ℓ : Loc Cert.PrepAkBwdIdeal.nD Cert.PrepAkBwdIdeal.τ Cert.PrepAkBwdIdeal.sig) → Buf (Elt Ideal) ℓ) (g : Dev Cert.PrepAkBwdIdeal.nD → PrngReg), Pre_PrepAkBwdIdeal m →
    θ_run (Cert.PrepAkBwdIdeal.defs (F := Ideal)) (onTc (τ := Cert.PrepAkBwdIdeal.τ) (Cert.PrepAkBwdIdeal.main (F := Ideal))) ⟨m, fun _ => 0, g⟩ (fun r => (∀ c : Dev Cert.PrepAkBwdIdeal.nD,
      r.2.mem ((c.tc : Thread Cert.PrepAkBwdIdeal.nD Cert.PrepAkBwdIdeal.τ).loc Cert.PrepAkBwdIdeal.main_arg0) = m ((c.tc : Thread Cert.PrepAkBwdIdeal.nD Cert.PrepAkBwdIdeal.τ).loc Cert.PrepAkBwdIdeal.main_arg0)
      ∧ r.2.mem ((c.tc : Thread Cert.PrepAkBwdIdeal.nD Cert.PrepAkBwdIdeal.τ).loc Cert.PrepAkBwdIdeal.main_arg1) = m ((c.tc : Thread Cert.PrepAkBwdIdeal.nD Cert.PrepAkBwdIdeal.τ).loc Cert.PrepAkBwdIdeal.main_arg1)
      ∧ r.2.mem ((c.tc : Thread Cert.PrepAkBwdIdeal.nD Cert.PrepAkBwdIdeal.τ).loc Cert.PrepAkBwdIdeal.main_arg2) = m ((c.tc : Thread Cert.PrepAkBwdIdeal.nD Cert.PrepAkBwdIdeal.τ).loc Cert.PrepAkBwdIdeal.main_arg2)
      ∧ r.2.mem ((c.tc : Thread Cert.PrepAkBwdIdeal.nD Cert.PrepAkBwdIdeal.τ).loc Cert.PrepAkBwdIdeal.main_arg3) = m ((c.tc : Thread Cert.PrepAkBwdIdeal.nD Cert.PrepAkBwdIdeal.τ).loc Cert.PrepAkBwdIdeal.main_arg3)
      ∧ r.2.mem ((c.tc : Thread Cert.PrepAkBwdIdeal.nD Cert.PrepAkBwdIdeal.τ).loc Cert.PrepAkBwdIdeal.main_arg4) = m ((c.tc : Thread Cert.PrepAkBwdIdeal.nD Cert.PrepAkBwdIdeal.τ).loc Cert.PrepAkBwdIdeal.main_arg4))
      ∧ r.2.sem = fun _ => 0)

def quiescent_KeysGradIdeal [hKeysGradIdeal : Cert.KeysGradIdeal.Facts] : Prop :=
  ∀ (m : (ℓ : Loc Cert.KeysGradIdeal.nD Cert.KeysGradIdeal.τ Cert.KeysGradIdeal.sig) → Buf (Elt Ideal) ℓ) (g : Dev Cert.KeysGradIdeal.nD → PrngReg), Pre_KeysGradIdeal m →
    θ_run (Cert.KeysGradIdeal.defs (F := Ideal)) (onTc (τ := Cert.KeysGradIdeal.τ) (Cert.KeysGradIdeal.main (F := Ideal))) ⟨m, fun _ => 0, g⟩ (fun r => (∀ c : Dev Cert.KeysGradIdeal.nD,
      r.2.mem ((c.tc : Thread Cert.KeysGradIdeal.nD Cert.KeysGradIdeal.τ).loc Cert.KeysGradIdeal.main_arg0) = m ((c.tc : Thread Cert.KeysGradIdeal.nD Cert.KeysGradIdeal.τ).loc Cert.KeysGradIdeal.main_arg0)
      ∧ r.2.mem ((c.tc : Thread Cert.KeysGradIdeal.nD Cert.KeysGradIdeal.τ).loc Cert.KeysGradIdeal.main_arg1) = m ((c.tc : Thread Cert.KeysGradIdeal.nD Cert.KeysGradIdeal.τ).loc Cert.KeysGradIdeal.main_arg1)
      ∧ r.2.mem ((c.tc : Thread Cert.KeysGradIdeal.nD Cert.KeysGradIdeal.τ).loc Cert.KeysGradIdeal.main_arg2) = m ((c.tc : Thread Cert.KeysGradIdeal.nD Cert.KeysGradIdeal.τ).loc Cert.KeysGradIdeal.main_arg2)
      ∧ r.2.mem ((c.tc : Thread Cert.KeysGradIdeal.nD Cert.KeysGradIdeal.τ).loc Cert.KeysGradIdeal.main_arg3) = m ((c.tc : Thread Cert.KeysGradIdeal.nD Cert.KeysGradIdeal.τ).loc Cert.KeysGradIdeal.main_arg3)
      ∧ r.2.mem ((c.tc : Thread Cert.KeysGradIdeal.nD Cert.KeysGradIdeal.τ).loc Cert.KeysGradIdeal.main_arg4) = m ((c.tc : Thread Cert.KeysGradIdeal.nD Cert.KeysGradIdeal.τ).loc Cert.KeysGradIdeal.main_arg4))
      ∧ r.2.sem = fun _ => 0)

def quiescent_PrepRqBwd [hPrepRqBwd : Cert.PrepRqBwd.Facts] : Prop :=
  ∀ (m : (ℓ : Loc Cert.PrepRqBwd.nD Cert.PrepRqBwd.τ Cert.PrepRqBwd.sig) → Buf (Elt Bits) ℓ) (g : Dev Cert.PrepRqBwd.nD → PrngReg), Pre_PrepRqBwd m →
    θ_run (Cert.PrepRqBwd.defs (F := Bits)) (onTc (τ := Cert.PrepRqBwd.τ) (Cert.PrepRqBwd.main (F := Bits))) ⟨m, fun _ => 0, g⟩ (fun r => (∀ c : Dev Cert.PrepRqBwd.nD,
      r.2.mem ((c.tc : Thread Cert.PrepRqBwd.nD Cert.PrepRqBwd.τ).loc Cert.PrepRqBwd.main_arg0) = m ((c.tc : Thread Cert.PrepRqBwd.nD Cert.PrepRqBwd.τ).loc Cert.PrepRqBwd.main_arg0)
      ∧ r.2.mem ((c.tc : Thread Cert.PrepRqBwd.nD Cert.PrepRqBwd.τ).loc Cert.PrepRqBwd.main_arg1) = m ((c.tc : Thread Cert.PrepRqBwd.nD Cert.PrepRqBwd.τ).loc Cert.PrepRqBwd.main_arg1)
      ∧ r.2.mem ((c.tc : Thread Cert.PrepRqBwd.nD Cert.PrepRqBwd.τ).loc Cert.PrepRqBwd.main_arg2) = m ((c.tc : Thread Cert.PrepRqBwd.nD Cert.PrepRqBwd.τ).loc Cert.PrepRqBwd.main_arg2)
      ∧ r.2.mem ((c.tc : Thread Cert.PrepRqBwd.nD Cert.PrepRqBwd.τ).loc Cert.PrepRqBwd.main_arg3) = m ((c.tc : Thread Cert.PrepRqBwd.nD Cert.PrepRqBwd.τ).loc Cert.PrepRqBwd.main_arg3))
      ∧ r.2.sem = fun _ => 0)

def quiescent_PrepRqBwdIdeal [hPrepRqBwdIdeal : Cert.PrepRqBwdIdeal.Facts] : Prop :=
  ∀ (m : (ℓ : Loc Cert.PrepRqBwdIdeal.nD Cert.PrepRqBwdIdeal.τ Cert.PrepRqBwdIdeal.sig) → Buf (Elt Ideal) ℓ) (g : Dev Cert.PrepRqBwdIdeal.nD → PrngReg), Pre_PrepRqBwdIdeal m →
    θ_run (Cert.PrepRqBwdIdeal.defs (F := Ideal)) (onTc (τ := Cert.PrepRqBwdIdeal.τ) (Cert.PrepRqBwdIdeal.main (F := Ideal))) ⟨m, fun _ => 0, g⟩ (fun r => (∀ c : Dev Cert.PrepRqBwdIdeal.nD,
      r.2.mem ((c.tc : Thread Cert.PrepRqBwdIdeal.nD Cert.PrepRqBwdIdeal.τ).loc Cert.PrepRqBwdIdeal.main_arg0) = m ((c.tc : Thread Cert.PrepRqBwdIdeal.nD Cert.PrepRqBwdIdeal.τ).loc Cert.PrepRqBwdIdeal.main_arg0)
      ∧ r.2.mem ((c.tc : Thread Cert.PrepRqBwdIdeal.nD Cert.PrepRqBwdIdeal.τ).loc Cert.PrepRqBwdIdeal.main_arg1) = m ((c.tc : Thread Cert.PrepRqBwdIdeal.nD Cert.PrepRqBwdIdeal.τ).loc Cert.PrepRqBwdIdeal.main_arg1)
      ∧ r.2.mem ((c.tc : Thread Cert.PrepRqBwdIdeal.nD Cert.PrepRqBwdIdeal.τ).loc Cert.PrepRqBwdIdeal.main_arg2) = m ((c.tc : Thread Cert.PrepRqBwdIdeal.nD Cert.PrepRqBwdIdeal.τ).loc Cert.PrepRqBwdIdeal.main_arg2)
      ∧ r.2.mem ((c.tc : Thread Cert.PrepRqBwdIdeal.nD Cert.PrepRqBwdIdeal.τ).loc Cert.PrepRqBwdIdeal.main_arg3) = m ((c.tc : Thread Cert.PrepRqBwdIdeal.nD Cert.PrepRqBwdIdeal.τ).loc Cert.PrepRqBwdIdeal.main_arg3))
      ∧ r.2.sem = fun _ => 0)

def quiescent_RetQueriesGradIdeal [hRetQueriesGradIdeal : Cert.RetQueriesGradIdeal.Facts] : Prop :=
  ∀ (m : (ℓ : Loc Cert.RetQueriesGradIdeal.nD Cert.RetQueriesGradIdeal.τ Cert.RetQueriesGradIdeal.sig) → Buf (Elt Ideal) ℓ) (g : Dev Cert.RetQueriesGradIdeal.nD → PrngReg), Pre_RetQueriesGradIdeal m →
    θ_run (Cert.RetQueriesGradIdeal.defs (F := Ideal)) (onTc (τ := Cert.RetQueriesGradIdeal.τ) (Cert.RetQueriesGradIdeal.main (F := Ideal))) ⟨m, fun _ => 0, g⟩ (fun r => (∀ c : Dev Cert.RetQueriesGradIdeal.nD,
      r.2.mem ((c.tc : Thread Cert.RetQueriesGradIdeal.nD Cert.RetQueriesGradIdeal.τ).loc Cert.RetQueriesGradIdeal.main_arg0) = m ((c.tc : Thread Cert.RetQueriesGradIdeal.nD Cert.RetQueriesGradIdeal.τ).loc Cert.RetQueriesGradIdeal.main_arg0)
      ∧ r.2.mem ((c.tc : Thread Cert.RetQueriesGradIdeal.nD Cert.RetQueriesGradIdeal.τ).loc Cert.RetQueriesGradIdeal.main_arg1) = m ((c.tc : Thread Cert.RetQueriesGradIdeal.nD Cert.RetQueriesGradIdeal.τ).loc Cert.RetQueriesGradIdeal.main_arg1)
      ∧ r.2.mem ((c.tc : Thread Cert.RetQueriesGradIdeal.nD Cert.RetQueriesGradIdeal.τ).loc Cert.RetQueriesGradIdeal.main_arg2) = m ((c.tc : Thread Cert.RetQueriesGradIdeal.nD Cert.RetQueriesGradIdeal.τ).loc Cert.RetQueriesGradIdeal.main_arg2)
      ∧ r.2.mem ((c.tc : Thread Cert.RetQueriesGradIdeal.nD Cert.RetQueriesGradIdeal.τ).loc Cert.RetQueriesGradIdeal.main_arg3) = m ((c.tc : Thread Cert.RetQueriesGradIdeal.nD Cert.RetQueriesGradIdeal.τ).loc Cert.RetQueriesGradIdeal.main_arg3))
      ∧ r.2.sem = fun _ => 0)

def quiescent_PrepRkBwd [hPrepRkBwd : Cert.PrepRkBwd.Facts] : Prop :=
  ∀ (m : (ℓ : Loc Cert.PrepRkBwd.nD Cert.PrepRkBwd.τ Cert.PrepRkBwd.sig) → Buf (Elt Bits) ℓ) (g : Dev Cert.PrepRkBwd.nD → PrngReg), Pre_PrepRkBwd m →
    θ_run (Cert.PrepRkBwd.defs (F := Bits)) (onTc (τ := Cert.PrepRkBwd.τ) (Cert.PrepRkBwd.main (F := Bits))) ⟨m, fun _ => 0, g⟩ (fun r => (∀ c : Dev Cert.PrepRkBwd.nD,
      r.2.mem ((c.tc : Thread Cert.PrepRkBwd.nD Cert.PrepRkBwd.τ).loc Cert.PrepRkBwd.main_arg0) = m ((c.tc : Thread Cert.PrepRkBwd.nD Cert.PrepRkBwd.τ).loc Cert.PrepRkBwd.main_arg0)
      ∧ r.2.mem ((c.tc : Thread Cert.PrepRkBwd.nD Cert.PrepRkBwd.τ).loc Cert.PrepRkBwd.main_arg1) = m ((c.tc : Thread Cert.PrepRkBwd.nD Cert.PrepRkBwd.τ).loc Cert.PrepRkBwd.main_arg1)
      ∧ r.2.mem ((c.tc : Thread Cert.PrepRkBwd.nD Cert.PrepRkBwd.τ).loc Cert.PrepRkBwd.main_arg2) = m ((c.tc : Thread Cert.PrepRkBwd.nD Cert.PrepRkBwd.τ).loc Cert.PrepRkBwd.main_arg2)
      ∧ r.2.mem ((c.tc : Thread Cert.PrepRkBwd.nD Cert.PrepRkBwd.τ).loc Cert.PrepRkBwd.main_arg3) = m ((c.tc : Thread Cert.PrepRkBwd.nD Cert.PrepRkBwd.τ).loc Cert.PrepRkBwd.main_arg3))
      ∧ r.2.sem = fun _ => 0)

def quiescent_PrepRkBwdIdeal [hPrepRkBwdIdeal : Cert.PrepRkBwdIdeal.Facts] : Prop :=
  ∀ (m : (ℓ : Loc Cert.PrepRkBwdIdeal.nD Cert.PrepRkBwdIdeal.τ Cert.PrepRkBwdIdeal.sig) → Buf (Elt Ideal) ℓ) (g : Dev Cert.PrepRkBwdIdeal.nD → PrngReg), Pre_PrepRkBwdIdeal m →
    θ_run (Cert.PrepRkBwdIdeal.defs (F := Ideal)) (onTc (τ := Cert.PrepRkBwdIdeal.τ) (Cert.PrepRkBwdIdeal.main (F := Ideal))) ⟨m, fun _ => 0, g⟩ (fun r => (∀ c : Dev Cert.PrepRkBwdIdeal.nD,
      r.2.mem ((c.tc : Thread Cert.PrepRkBwdIdeal.nD Cert.PrepRkBwdIdeal.τ).loc Cert.PrepRkBwdIdeal.main_arg0) = m ((c.tc : Thread Cert.PrepRkBwdIdeal.nD Cert.PrepRkBwdIdeal.τ).loc Cert.PrepRkBwdIdeal.main_arg0)
      ∧ r.2.mem ((c.tc : Thread Cert.PrepRkBwdIdeal.nD Cert.PrepRkBwdIdeal.τ).loc Cert.PrepRkBwdIdeal.main_arg1) = m ((c.tc : Thread Cert.PrepRkBwdIdeal.nD Cert.PrepRkBwdIdeal.τ).loc Cert.PrepRkBwdIdeal.main_arg1)
      ∧ r.2.mem ((c.tc : Thread Cert.PrepRkBwdIdeal.nD Cert.PrepRkBwdIdeal.τ).loc Cert.PrepRkBwdIdeal.main_arg2) = m ((c.tc : Thread Cert.PrepRkBwdIdeal.nD Cert.PrepRkBwdIdeal.τ).loc Cert.PrepRkBwdIdeal.main_arg2)
      ∧ r.2.mem ((c.tc : Thread Cert.PrepRkBwdIdeal.nD Cert.PrepRkBwdIdeal.τ).loc Cert.PrepRkBwdIdeal.main_arg3) = m ((c.tc : Thread Cert.PrepRkBwdIdeal.nD Cert.PrepRkBwdIdeal.τ).loc Cert.PrepRkBwdIdeal.main_arg3))
      ∧ r.2.sem = fun _ => 0)

def quiescent_RetKeysGradIdeal [hRetKeysGradIdeal : Cert.RetKeysGradIdeal.Facts] : Prop :=
  ∀ (m : (ℓ : Loc Cert.RetKeysGradIdeal.nD Cert.RetKeysGradIdeal.τ Cert.RetKeysGradIdeal.sig) → Buf (Elt Ideal) ℓ) (g : Dev Cert.RetKeysGradIdeal.nD → PrngReg), Pre_RetKeysGradIdeal m →
    θ_run (Cert.RetKeysGradIdeal.defs (F := Ideal)) (onTc (τ := Cert.RetKeysGradIdeal.τ) (Cert.RetKeysGradIdeal.main (F := Ideal))) ⟨m, fun _ => 0, g⟩ (fun r => (∀ c : Dev Cert.RetKeysGradIdeal.nD,
      r.2.mem ((c.tc : Thread Cert.RetKeysGradIdeal.nD Cert.RetKeysGradIdeal.τ).loc Cert.RetKeysGradIdeal.main_arg0) = m ((c.tc : Thread Cert.RetKeysGradIdeal.nD Cert.RetKeysGradIdeal.τ).loc Cert.RetKeysGradIdeal.main_arg0)
      ∧ r.2.mem ((c.tc : Thread Cert.RetKeysGradIdeal.nD Cert.RetKeysGradIdeal.τ).loc Cert.RetKeysGradIdeal.main_arg1) = m ((c.tc : Thread Cert.RetKeysGradIdeal.nD Cert.RetKeysGradIdeal.τ).loc Cert.RetKeysGradIdeal.main_arg1)
      ∧ r.2.mem ((c.tc : Thread Cert.RetKeysGradIdeal.nD Cert.RetKeysGradIdeal.τ).loc Cert.RetKeysGradIdeal.main_arg2) = m ((c.tc : Thread Cert.RetKeysGradIdeal.nD Cert.RetKeysGradIdeal.τ).loc Cert.RetKeysGradIdeal.main_arg2)
      ∧ r.2.mem ((c.tc : Thread Cert.RetKeysGradIdeal.nD Cert.RetKeysGradIdeal.τ).loc Cert.RetKeysGradIdeal.main_arg3) = m ((c.tc : Thread Cert.RetKeysGradIdeal.nD Cert.RetKeysGradIdeal.τ).loc Cert.RetKeysGradIdeal.main_arg3))
      ∧ r.2.sem = fun _ => 0)

def quiescent_PrepAq [hPrepAq : Cert.PrepAq.Facts] : Prop :=
  ∀ (m : (ℓ : Loc Cert.PrepAq.nD Cert.PrepAq.τ Cert.PrepAq.sig) → Buf (Elt Bits) ℓ) (g : Dev Cert.PrepAq.nD → PrngReg), Pre_PrepAq m →
    θ_run (Cert.PrepAq.defs (F := Bits)) (onTc (τ := Cert.PrepAq.τ) (Cert.PrepAq.main (F := Bits))) ⟨m, fun _ => 0, g⟩ (fun r => (∀ c : Dev Cert.PrepAq.nD,
      r.2.mem ((c.tc : Thread Cert.PrepAq.nD Cert.PrepAq.τ).loc Cert.PrepAq.main_arg0) = m ((c.tc : Thread Cert.PrepAq.nD Cert.PrepAq.τ).loc Cert.PrepAq.main_arg0)
      ∧ r.2.mem ((c.tc : Thread Cert.PrepAq.nD Cert.PrepAq.τ).loc Cert.PrepAq.main_arg1) = m ((c.tc : Thread Cert.PrepAq.nD Cert.PrepAq.τ).loc Cert.PrepAq.main_arg1)
      ∧ r.2.mem ((c.tc : Thread Cert.PrepAq.nD Cert.PrepAq.τ).loc Cert.PrepAq.main_arg2) = m ((c.tc : Thread Cert.PrepAq.nD Cert.PrepAq.τ).loc Cert.PrepAq.main_arg2)
      ∧ r.2.mem ((c.tc : Thread Cert.PrepAq.nD Cert.PrepAq.τ).loc Cert.PrepAq.main_arg3) = m ((c.tc : Thread Cert.PrepAq.nD Cert.PrepAq.τ).loc Cert.PrepAq.main_arg3))
      ∧ r.2.sem = fun _ => 0)

def quiescent_PrepAqIdeal [hPrepAqIdeal : Cert.PrepAqIdeal.Facts] : Prop :=
  ∀ (m : (ℓ : Loc Cert.PrepAqIdeal.nD Cert.PrepAqIdeal.τ Cert.PrepAqIdeal.sig) → Buf (Elt Ideal) ℓ) (g : Dev Cert.PrepAqIdeal.nD → PrngReg), Pre_PrepAqIdeal m →
    θ_run (Cert.PrepAqIdeal.defs (F := Ideal)) (onTc (τ := Cert.PrepAqIdeal.τ) (Cert.PrepAqIdeal.main (F := Ideal))) ⟨m, fun _ => 0, g⟩ (fun r => (∀ c : Dev Cert.PrepAqIdeal.nD,
      r.2.mem ((c.tc : Thread Cert.PrepAqIdeal.nD Cert.PrepAqIdeal.τ).loc Cert.PrepAqIdeal.main_arg0) = m ((c.tc : Thread Cert.PrepAqIdeal.nD Cert.PrepAqIdeal.τ).loc Cert.PrepAqIdeal.main_arg0)
      ∧ r.2.mem ((c.tc : Thread Cert.PrepAqIdeal.nD Cert.PrepAqIdeal.τ).loc Cert.PrepAqIdeal.main_arg1) = m ((c.tc : Thread Cert.PrepAqIdeal.nD Cert.PrepAqIdeal.τ).loc Cert.PrepAqIdeal.main_arg1)
      ∧ r.2.mem ((c.tc : Thread Cert.PrepAqIdeal.nD Cert.PrepAqIdeal.τ).loc Cert.PrepAqIdeal.main_arg2) = m ((c.tc : Thread Cert.PrepAqIdeal.nD Cert.PrepAqIdeal.τ).loc Cert.PrepAqIdeal.main_arg2)
      ∧ r.2.mem ((c.tc : Thread Cert.PrepAqIdeal.nD Cert.PrepAqIdeal.τ).loc Cert.PrepAqIdeal.main_arg3) = m ((c.tc : Thread Cert.PrepAqIdeal.nD Cert.PrepAqIdeal.τ).loc Cert.PrepAqIdeal.main_arg3))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
      ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3))
      ∧ r.2.sem = fun _ => 0)

def quiescent_PrepAk [hPrepAk : Cert.PrepAk.Facts] : Prop :=
  ∀ (m : (ℓ : Loc Cert.PrepAk.nD Cert.PrepAk.τ Cert.PrepAk.sig) → Buf (Elt Bits) ℓ) (g : Dev Cert.PrepAk.nD → PrngReg), Pre_PrepAk m →
    θ_run (Cert.PrepAk.defs (F := Bits)) (onTc (τ := Cert.PrepAk.τ) (Cert.PrepAk.main (F := Bits))) ⟨m, fun _ => 0, g⟩ (fun r => (∀ c : Dev Cert.PrepAk.nD,
      r.2.mem ((c.tc : Thread Cert.PrepAk.nD Cert.PrepAk.τ).loc Cert.PrepAk.main_arg0) = m ((c.tc : Thread Cert.PrepAk.nD Cert.PrepAk.τ).loc Cert.PrepAk.main_arg0)
      ∧ r.2.mem ((c.tc : Thread Cert.PrepAk.nD Cert.PrepAk.τ).loc Cert.PrepAk.main_arg1) = m ((c.tc : Thread Cert.PrepAk.nD Cert.PrepAk.τ).loc Cert.PrepAk.main_arg1)
      ∧ r.2.mem ((c.tc : Thread Cert.PrepAk.nD Cert.PrepAk.τ).loc Cert.PrepAk.main_arg2) = m ((c.tc : Thread Cert.PrepAk.nD Cert.PrepAk.τ).loc Cert.PrepAk.main_arg2)
      ∧ r.2.mem ((c.tc : Thread Cert.PrepAk.nD Cert.PrepAk.τ).loc Cert.PrepAk.main_arg3) = m ((c.tc : Thread Cert.PrepAk.nD Cert.PrepAk.τ).loc Cert.PrepAk.main_arg3))
      ∧ r.2.sem = fun _ => 0)

def quiescent_PrepAkIdeal [hPrepAkIdeal : Cert.PrepAkIdeal.Facts] : Prop :=
  ∀ (m : (ℓ : Loc Cert.PrepAkIdeal.nD Cert.PrepAkIdeal.τ Cert.PrepAkIdeal.sig) → Buf (Elt Ideal) ℓ) (g : Dev Cert.PrepAkIdeal.nD → PrngReg), Pre_PrepAkIdeal m →
    θ_run (Cert.PrepAkIdeal.defs (F := Ideal)) (onTc (τ := Cert.PrepAkIdeal.τ) (Cert.PrepAkIdeal.main (F := Ideal))) ⟨m, fun _ => 0, g⟩ (fun r => (∀ c : Dev Cert.PrepAkIdeal.nD,
      r.2.mem ((c.tc : Thread Cert.PrepAkIdeal.nD Cert.PrepAkIdeal.τ).loc Cert.PrepAkIdeal.main_arg0) = m ((c.tc : Thread Cert.PrepAkIdeal.nD Cert.PrepAkIdeal.τ).loc Cert.PrepAkIdeal.main_arg0)
      ∧ r.2.mem ((c.tc : Thread Cert.PrepAkIdeal.nD Cert.PrepAkIdeal.τ).loc Cert.PrepAkIdeal.main_arg1) = m ((c.tc : Thread Cert.PrepAkIdeal.nD Cert.PrepAkIdeal.τ).loc Cert.PrepAkIdeal.main_arg1)
      ∧ r.2.mem ((c.tc : Thread Cert.PrepAkIdeal.nD Cert.PrepAkIdeal.τ).loc Cert.PrepAkIdeal.main_arg2) = m ((c.tc : Thread Cert.PrepAkIdeal.nD Cert.PrepAkIdeal.τ).loc Cert.PrepAkIdeal.main_arg2)
      ∧ r.2.mem ((c.tc : Thread Cert.PrepAkIdeal.nD Cert.PrepAkIdeal.τ).loc Cert.PrepAkIdeal.main_arg3) = m ((c.tc : Thread Cert.PrepAkIdeal.nD Cert.PrepAkIdeal.τ).loc Cert.PrepAkIdeal.main_arg3))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
      ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3))
      ∧ r.2.sem = fun _ => 0)

def quiescent_PrepRq [hPrepRq : Cert.PrepRq.Facts] : Prop :=
  ∀ (m : (ℓ : Loc Cert.PrepRq.nD Cert.PrepRq.τ Cert.PrepRq.sig) → Buf (Elt Bits) ℓ) (g : Dev Cert.PrepRq.nD → PrngReg), Pre_PrepRq m →
    θ_run (Cert.PrepRq.defs (F := Bits)) (onTc (τ := Cert.PrepRq.τ) (Cert.PrepRq.main (F := Bits))) ⟨m, fun _ => 0, g⟩ (fun r => (∀ c : Dev Cert.PrepRq.nD,
      r.2.mem ((c.tc : Thread Cert.PrepRq.nD Cert.PrepRq.τ).loc Cert.PrepRq.main_arg0) = m ((c.tc : Thread Cert.PrepRq.nD Cert.PrepRq.τ).loc Cert.PrepRq.main_arg0)
      ∧ r.2.mem ((c.tc : Thread Cert.PrepRq.nD Cert.PrepRq.τ).loc Cert.PrepRq.main_arg1) = m ((c.tc : Thread Cert.PrepRq.nD Cert.PrepRq.τ).loc Cert.PrepRq.main_arg1)
      ∧ r.2.mem ((c.tc : Thread Cert.PrepRq.nD Cert.PrepRq.τ).loc Cert.PrepRq.main_arg2) = m ((c.tc : Thread Cert.PrepRq.nD Cert.PrepRq.τ).loc Cert.PrepRq.main_arg2))
      ∧ r.2.sem = fun _ => 0)

def quiescent_PrepRqIdeal [hPrepRqIdeal : Cert.PrepRqIdeal.Facts] : Prop :=
  ∀ (m : (ℓ : Loc Cert.PrepRqIdeal.nD Cert.PrepRqIdeal.τ Cert.PrepRqIdeal.sig) → Buf (Elt Ideal) ℓ) (g : Dev Cert.PrepRqIdeal.nD → PrngReg), Pre_PrepRqIdeal m →
    θ_run (Cert.PrepRqIdeal.defs (F := Ideal)) (onTc (τ := Cert.PrepRqIdeal.τ) (Cert.PrepRqIdeal.main (F := Ideal))) ⟨m, fun _ => 0, g⟩ (fun r => (∀ c : Dev Cert.PrepRqIdeal.nD,
      r.2.mem ((c.tc : Thread Cert.PrepRqIdeal.nD Cert.PrepRqIdeal.τ).loc Cert.PrepRqIdeal.main_arg0) = m ((c.tc : Thread Cert.PrepRqIdeal.nD Cert.PrepRqIdeal.τ).loc Cert.PrepRqIdeal.main_arg0)
      ∧ r.2.mem ((c.tc : Thread Cert.PrepRqIdeal.nD Cert.PrepRqIdeal.τ).loc Cert.PrepRqIdeal.main_arg1) = m ((c.tc : Thread Cert.PrepRqIdeal.nD Cert.PrepRqIdeal.τ).loc Cert.PrepRqIdeal.main_arg1)
      ∧ r.2.mem ((c.tc : Thread Cert.PrepRqIdeal.nD Cert.PrepRqIdeal.τ).loc Cert.PrepRqIdeal.main_arg2) = m ((c.tc : Thread Cert.PrepRqIdeal.nD Cert.PrepRqIdeal.τ).loc Cert.PrepRqIdeal.main_arg2))
      ∧ r.2.sem = fun _ => 0)

def quiescent_RetQueriesIdeal [hRetQueriesIdeal : Cert.RetQueriesIdeal.Facts] : Prop :=
  ∀ (m : (ℓ : Loc Cert.RetQueriesIdeal.nD Cert.RetQueriesIdeal.τ Cert.RetQueriesIdeal.sig) → Buf (Elt Ideal) ℓ) (g : Dev Cert.RetQueriesIdeal.nD → PrngReg), Pre_RetQueriesIdeal m →
    θ_run (Cert.RetQueriesIdeal.defs (F := Ideal)) (onTc (τ := Cert.RetQueriesIdeal.τ) (Cert.RetQueriesIdeal.main (F := Ideal))) ⟨m, fun _ => 0, g⟩ (fun r => (∀ c : Dev Cert.RetQueriesIdeal.nD,
      r.2.mem ((c.tc : Thread Cert.RetQueriesIdeal.nD Cert.RetQueriesIdeal.τ).loc Cert.RetQueriesIdeal.main_arg0) = m ((c.tc : Thread Cert.RetQueriesIdeal.nD Cert.RetQueriesIdeal.τ).loc Cert.RetQueriesIdeal.main_arg0)
      ∧ r.2.mem ((c.tc : Thread Cert.RetQueriesIdeal.nD Cert.RetQueriesIdeal.τ).loc Cert.RetQueriesIdeal.main_arg1) = m ((c.tc : Thread Cert.RetQueriesIdeal.nD Cert.RetQueriesIdeal.τ).loc Cert.RetQueriesIdeal.main_arg1)
      ∧ r.2.mem ((c.tc : Thread Cert.RetQueriesIdeal.nD Cert.RetQueriesIdeal.τ).loc Cert.RetQueriesIdeal.main_arg2) = m ((c.tc : Thread Cert.RetQueriesIdeal.nD Cert.RetQueriesIdeal.τ).loc Cert.RetQueriesIdeal.main_arg2))
      ∧ r.2.sem = fun _ => 0)

def quiescent_PrepRk [hPrepRk : Cert.PrepRk.Facts] : Prop :=
  ∀ (m : (ℓ : Loc Cert.PrepRk.nD Cert.PrepRk.τ Cert.PrepRk.sig) → Buf (Elt Bits) ℓ) (g : Dev Cert.PrepRk.nD → PrngReg), Pre_PrepRk m →
    θ_run (Cert.PrepRk.defs (F := Bits)) (onTc (τ := Cert.PrepRk.τ) (Cert.PrepRk.main (F := Bits))) ⟨m, fun _ => 0, g⟩ (fun r => (∀ c : Dev Cert.PrepRk.nD,
      r.2.mem ((c.tc : Thread Cert.PrepRk.nD Cert.PrepRk.τ).loc Cert.PrepRk.main_arg0) = m ((c.tc : Thread Cert.PrepRk.nD Cert.PrepRk.τ).loc Cert.PrepRk.main_arg0)
      ∧ r.2.mem ((c.tc : Thread Cert.PrepRk.nD Cert.PrepRk.τ).loc Cert.PrepRk.main_arg1) = m ((c.tc : Thread Cert.PrepRk.nD Cert.PrepRk.τ).loc Cert.PrepRk.main_arg1)
      ∧ r.2.mem ((c.tc : Thread Cert.PrepRk.nD Cert.PrepRk.τ).loc Cert.PrepRk.main_arg2) = m ((c.tc : Thread Cert.PrepRk.nD Cert.PrepRk.τ).loc Cert.PrepRk.main_arg2))
      ∧ r.2.sem = fun _ => 0)

def quiescent_PrepRkIdeal [hPrepRkIdeal : Cert.PrepRkIdeal.Facts] : Prop :=
  ∀ (m : (ℓ : Loc Cert.PrepRkIdeal.nD Cert.PrepRkIdeal.τ Cert.PrepRkIdeal.sig) → Buf (Elt Ideal) ℓ) (g : Dev Cert.PrepRkIdeal.nD → PrngReg), Pre_PrepRkIdeal m →
    θ_run (Cert.PrepRkIdeal.defs (F := Ideal)) (onTc (τ := Cert.PrepRkIdeal.τ) (Cert.PrepRkIdeal.main (F := Ideal))) ⟨m, fun _ => 0, g⟩ (fun r => (∀ c : Dev Cert.PrepRkIdeal.nD,
      r.2.mem ((c.tc : Thread Cert.PrepRkIdeal.nD Cert.PrepRkIdeal.τ).loc Cert.PrepRkIdeal.main_arg0) = m ((c.tc : Thread Cert.PrepRkIdeal.nD Cert.PrepRkIdeal.τ).loc Cert.PrepRkIdeal.main_arg0)
      ∧ r.2.mem ((c.tc : Thread Cert.PrepRkIdeal.nD Cert.PrepRkIdeal.τ).loc Cert.PrepRkIdeal.main_arg1) = m ((c.tc : Thread Cert.PrepRkIdeal.nD Cert.PrepRkIdeal.τ).loc Cert.PrepRkIdeal.main_arg1)
      ∧ r.2.mem ((c.tc : Thread Cert.PrepRkIdeal.nD Cert.PrepRkIdeal.τ).loc Cert.PrepRkIdeal.main_arg2) = m ((c.tc : Thread Cert.PrepRkIdeal.nD Cert.PrepRkIdeal.τ).loc Cert.PrepRkIdeal.main_arg2))
      ∧ r.2.sem = fun _ => 0)

def quiescent_RetKeysIdeal [hRetKeysIdeal : Cert.RetKeysIdeal.Facts] : Prop :=
  ∀ (m : (ℓ : Loc Cert.RetKeysIdeal.nD Cert.RetKeysIdeal.τ Cert.RetKeysIdeal.sig) → Buf (Elt Ideal) ℓ) (g : Dev Cert.RetKeysIdeal.nD → PrngReg), Pre_RetKeysIdeal m →
    θ_run (Cert.RetKeysIdeal.defs (F := Ideal)) (onTc (τ := Cert.RetKeysIdeal.τ) (Cert.RetKeysIdeal.main (F := Ideal))) ⟨m, fun _ => 0, g⟩ (fun r => (∀ c : Dev Cert.RetKeysIdeal.nD,
      r.2.mem ((c.tc : Thread Cert.RetKeysIdeal.nD Cert.RetKeysIdeal.τ).loc Cert.RetKeysIdeal.main_arg0) = m ((c.tc : Thread Cert.RetKeysIdeal.nD Cert.RetKeysIdeal.τ).loc Cert.RetKeysIdeal.main_arg0)
      ∧ r.2.mem ((c.tc : Thread Cert.RetKeysIdeal.nD Cert.RetKeysIdeal.τ).loc Cert.RetKeysIdeal.main_arg1) = m ((c.tc : Thread Cert.RetKeysIdeal.nD Cert.RetKeysIdeal.τ).loc Cert.RetKeysIdeal.main_arg1)
      ∧ r.2.mem ((c.tc : Thread Cert.RetKeysIdeal.nD Cert.RetKeysIdeal.τ).loc Cert.RetKeysIdeal.main_arg2) = m ((c.tc : Thread Cert.RetKeysIdeal.nD Cert.RetKeysIdeal.τ).loc Cert.RetKeysIdeal.main_arg2))
      ∧ r.2.sem = fun _ => 0)

def preserves_AttBwd_AttBwdIdeal : Prop :=
  IdealRules.named_const.Statement Cert.AttBwdIdeal.κ "mask" .f32 0xF149F2CA#32 ⊥

def algebraic_AttBwdIdeal_AttGradIdeal_pre_finite [hAttBwdIdeal : Cert.AttBwdIdeal.Facts] [hAttGradIdeal : Cert.AttGradIdeal.Facts] [hPre_finite : Cert.Pre_finite.Facts] : Prop :=
  ∀ (m : (ℓ : Loc Cert.AttBwdIdeal.nD Cert.AttBwdIdeal.τ Cert.AttBwdIdeal.sig) → Buf (Elt Ideal) ℓ) (g : Dev Cert.AttBwdIdeal.nD → PrngReg)
    (m' : (ℓ : Loc Cert.AttGradIdeal.nD Cert.AttGradIdeal.τ Cert.AttGradIdeal.sig) → Buf (Elt Ideal) ℓ) (g' : Dev Cert.AttGradIdeal.nD → PrngReg), Pre_AttBwdIdeal_finite m →
    (∀ c : Dev Cert.AttBwdIdeal.nD,
      m' ((c.tc : Thread Cert.AttGradIdeal.nD Cert.AttGradIdeal.τ).loc Cert.AttGradIdeal.main_arg0) = m ((c.tc : Thread Cert.AttBwdIdeal.nD Cert.AttBwdIdeal.τ).loc Cert.AttBwdIdeal.main_arg0)
      ∧ m' ((c.tc : Thread Cert.AttGradIdeal.nD Cert.AttGradIdeal.τ).loc Cert.AttGradIdeal.main_arg1) = m ((c.tc : Thread Cert.AttBwdIdeal.nD Cert.AttBwdIdeal.τ).loc Cert.AttBwdIdeal.main_arg1)
      ∧ m' ((c.tc : Thread Cert.AttGradIdeal.nD Cert.AttGradIdeal.τ).loc Cert.AttGradIdeal.main_arg2) = m ((c.tc : Thread Cert.AttBwdIdeal.nD Cert.AttBwdIdeal.τ).loc Cert.AttBwdIdeal.main_arg2)
      ∧ m' ((c.tc : Thread Cert.AttGradIdeal.nD Cert.AttGradIdeal.τ).loc Cert.AttGradIdeal.main_arg3) = m ((c.tc : Thread Cert.AttBwdIdeal.nD Cert.AttBwdIdeal.τ).loc Cert.AttBwdIdeal.main_arg3)) →
    ∃ (v0 : (c : Dev Cert.AttBwdIdeal.nD) → Buf (Elt Ideal) ((c.tc : Thread Cert.AttBwdIdeal.nD Cert.AttBwdIdeal.τ).loc Cert.AttBwdIdeal.main_v0_0)) (v1 : (c : Dev Cert.AttBwdIdeal.nD) → Buf (Elt Ideal) ((c.tc : Thread Cert.AttBwdIdeal.nD Cert.AttBwdIdeal.τ).loc Cert.AttBwdIdeal.main_v0_1)) (v2 : (c : Dev Cert.AttBwdIdeal.nD) → Buf (Elt Ideal) ((c.tc : Thread Cert.AttBwdIdeal.nD Cert.AttBwdIdeal.τ).loc Cert.AttBwdIdeal.main_v0_2)),
      θ_run (Cert.AttBwdIdeal.defs (F := Ideal)) (onTc (τ := Cert.AttBwdIdeal.τ) (Cert.AttBwdIdeal.main (F := Ideal))) ⟨m, fun _ => 0, g⟩ (fun r => ∀ c : Dev Cert.AttBwdIdeal.nD,
          r.2.mem ((c.tc : Thread Cert.AttBwdIdeal.nD Cert.AttBwdIdeal.τ).loc Cert.AttBwdIdeal.main_v0_0) = v0 c
          ∧ r.2.mem ((c.tc : Thread Cert.AttBwdIdeal.nD Cert.AttBwdIdeal.τ).loc Cert.AttBwdIdeal.main_v0_1) = v1 c
          ∧ r.2.mem ((c.tc : Thread Cert.AttBwdIdeal.nD Cert.AttBwdIdeal.τ).loc Cert.AttBwdIdeal.main_v0_2) = v2 c
          ∧ r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
          ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
          ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2)
          ∧ r.2.mem ((c.tc : Thread Cert.AttBwdIdeal.nD Cert.AttBwdIdeal.τ).loc Cert.AttBwdIdeal.main_arg3) = m ((c.tc : Thread Cert.AttBwdIdeal.nD Cert.AttBwdIdeal.τ).loc Cert.AttBwdIdeal.main_arg3))
      ∧ θ_run (Cert.AttGradIdeal.defs (F := Ideal)) (onTc (τ := Cert.AttGradIdeal.τ) (Cert.AttGradIdeal.main (F := Ideal))) ⟨m', fun _ => 0, g'⟩ (fun r => ∀ c : Dev Cert.AttGradIdeal.nD,
          r.2.mem ((c.tc : Thread Cert.AttGradIdeal.nD Cert.AttGradIdeal.τ).loc Cert.AttGradIdeal.main_v158) = v0 c
          ∧ r.2.mem ((c.tc : Thread Cert.AttGradIdeal.nD Cert.AttGradIdeal.τ).loc Cert.AttGradIdeal.main_v155) = v1 c
          ∧ r.2.mem ((c.tc : Thread Cert.AttGradIdeal.nD Cert.AttGradIdeal.τ).loc Cert.AttGradIdeal.main_v152) = v2 c
          ∧ r.2.mem ((c.tc : Thread Cert.AttGradIdeal.nD Cert.AttGradIdeal.τ).loc Cert.AttGradIdeal.main_arg0) = m' ((c.tc : Thread Cert.AttGradIdeal.nD Cert.AttGradIdeal.τ).loc Cert.AttGradIdeal.main_arg0)
          ∧ r.2.mem ((c.tc : Thread Cert.AttGradIdeal.nD Cert.AttGradIdeal.τ).loc Cert.AttGradIdeal.main_arg1) = m' ((c.tc : Thread Cert.AttGradIdeal.nD Cert.AttGradIdeal.τ).loc Cert.AttGradIdeal.main_arg1)
          ∧ r.2.mem ((c.tc : Thread Cert.AttGradIdeal.nD Cert.AttGradIdeal.τ).loc Cert.AttGradIdeal.main_arg2) = m' ((c.tc : Thread Cert.AttGradIdeal.nD Cert.AttGradIdeal.τ).loc Cert.AttGradIdeal.main_arg2)
          ∧ r.2.mem ((c.tc : Thread Cert.AttGradIdeal.nD Cert.AttGradIdeal.τ).loc Cert.AttGradIdeal.main_arg3) = m' ((c.tc : Thread Cert.AttGradIdeal.nD Cert.AttGradIdeal.τ).loc Cert.AttGradIdeal.main_arg3))

def preserves_Gwd_GwdIdeal : Prop :=
  True

def algebraic_GwdIdeal_GwdGradIdeal [hGwdIdeal : Cert.GwdIdeal.Facts] [hGwdGradIdeal : Cert.GwdGradIdeal.Facts] : Prop :=
  ∀ (m : (ℓ : Loc Cert.GwdIdeal.nD Cert.GwdIdeal.τ Cert.GwdIdeal.sig) → Buf (Elt Ideal) ℓ) (g : Dev Cert.GwdIdeal.nD → PrngReg)
    (m' : (ℓ : Loc Cert.GwdGradIdeal.nD Cert.GwdGradIdeal.τ Cert.GwdGradIdeal.sig) → Buf (Elt Ideal) ℓ) (g' : Dev Cert.GwdGradIdeal.nD → PrngReg), Pre_GwdIdeal m →
    (∀ c : Dev Cert.GwdIdeal.nD,
      m' ((c.tc : Thread Cert.GwdGradIdeal.nD Cert.GwdGradIdeal.τ).loc Cert.GwdGradIdeal.main_arg0) = m ((c.tc : Thread Cert.GwdIdeal.nD Cert.GwdIdeal.τ).loc Cert.GwdIdeal.main_arg0)
      ∧ m' ((c.tc : Thread Cert.GwdGradIdeal.nD Cert.GwdGradIdeal.τ).loc Cert.GwdGradIdeal.main_arg1) = m ((c.tc : Thread Cert.GwdIdeal.nD Cert.GwdIdeal.τ).loc Cert.GwdIdeal.main_arg1)) →
    ∃ (v0 : (c : Dev Cert.GwdIdeal.nD) → Buf (Elt Ideal) ((c.tc : Thread Cert.GwdIdeal.nD Cert.GwdIdeal.τ).loc Cert.GwdIdeal.main_v0)),
      θ_run (Cert.GwdIdeal.defs (F := Ideal)) (onTc (τ := Cert.GwdIdeal.τ) (Cert.GwdIdeal.main (F := Ideal))) ⟨m, fun _ => 0, g⟩ (fun r => ∀ c : Dev Cert.GwdIdeal.nD,
          r.2.mem ((c.tc : Thread Cert.GwdIdeal.nD Cert.GwdIdeal.τ).loc Cert.GwdIdeal.main_v0) = v0 c
          ∧ r.2.mem ((c.tc : Thread Cert.GwdIdeal.nD Cert.GwdIdeal.τ).loc Cert.GwdIdeal.main_arg0) = m ((c.tc : Thread Cert.GwdIdeal.nD Cert.GwdIdeal.τ).loc Cert.GwdIdeal.main_arg0)
          ∧ r.2.mem ((c.tc : Thread Cert.GwdIdeal.nD Cert.GwdIdeal.τ).loc Cert.GwdIdeal.main_arg1) = m ((c.tc : Thread Cert.GwdIdeal.nD Cert.GwdIdeal.τ).loc Cert.GwdIdeal.main_arg1))
      ∧ θ_run (Cert.GwdGradIdeal.defs (F := Ideal)) (onTc (τ := Cert.GwdGradIdeal.τ) (Cert.GwdGradIdeal.main (F := Ideal))) ⟨m', fun _ => 0, g'⟩ (fun r => ∀ c : Dev Cert.GwdGradIdeal.nD,
          r.2.mem ((c.tc : Thread Cert.GwdGradIdeal.nD Cert.GwdGradIdeal.τ).loc Cert.GwdGradIdeal.main_v6) = v0 c
          ∧ r.2.mem ((c.tc : Thread Cert.GwdGradIdeal.nD Cert.GwdGradIdeal.τ).loc Cert.GwdGradIdeal.main_arg0) = m' ((c.tc : Thread Cert.GwdGradIdeal.nD Cert.GwdGradIdeal.τ).loc Cert.GwdGradIdeal.main_arg0)
          ∧ r.2.mem ((c.tc : Thread Cert.GwdGradIdeal.nD Cert.GwdGradIdeal.τ).loc Cert.GwdGradIdeal.main_arg1) = m' ((c.tc : Thread Cert.GwdGradIdeal.nD Cert.GwdGradIdeal.τ).loc Cert.GwdGradIdeal.main_arg1))

def preserves_Dt_DtIdeal : Prop :=
  True

def algebraic_DtIdeal_DtGradIdeal [hDtIdeal : Cert.DtIdeal.Facts] [hDtGradIdeal : Cert.DtGradIdeal.Facts] : Prop :=
  ∀ (m : (ℓ : Loc Cert.DtIdeal.nD Cert.DtIdeal.τ Cert.DtIdeal.sig) → Buf (Elt Ideal) ℓ) (g : Dev Cert.DtIdeal.nD → PrngReg)
    (m' : (ℓ : Loc Cert.DtGradIdeal.nD Cert.DtGradIdeal.τ Cert.DtGradIdeal.sig) → Buf (Elt Ideal) ℓ) (g' : Dev Cert.DtGradIdeal.nD → PrngReg), Pre_DtIdeal m →
    (∀ c : Dev Cert.DtIdeal.nD,
      m' ((c.tc : Thread Cert.DtGradIdeal.nD Cert.DtGradIdeal.τ).loc Cert.DtGradIdeal.main_arg0) = m ((c.tc : Thread Cert.DtIdeal.nD Cert.DtIdeal.τ).loc Cert.DtIdeal.main_arg0)
      ∧ m' ((c.tc : Thread Cert.DtGradIdeal.nD Cert.DtGradIdeal.τ).loc Cert.DtGradIdeal.main_arg1) = m ((c.tc : Thread Cert.DtIdeal.nD Cert.DtIdeal.τ).loc Cert.DtIdeal.main_arg1)) →
    ∃ (v0 : (c : Dev Cert.DtIdeal.nD) → Buf (Elt Ideal) ((c.tc : Thread Cert.DtIdeal.nD Cert.DtIdeal.τ).loc Cert.DtIdeal.main_v0)),
      θ_run (Cert.DtIdeal.defs (F := Ideal)) (onTc (τ := Cert.DtIdeal.τ) (Cert.DtIdeal.main (F := Ideal))) ⟨m, fun _ => 0, g⟩ (fun r => ∀ c : Dev Cert.DtIdeal.nD,
          r.2.mem ((c.tc : Thread Cert.DtIdeal.nD Cert.DtIdeal.τ).loc Cert.DtIdeal.main_v0) = v0 c
          ∧ r.2.mem ((c.tc : Thread Cert.DtIdeal.nD Cert.DtIdeal.τ).loc Cert.DtIdeal.main_arg0) = m ((c.tc : Thread Cert.DtIdeal.nD Cert.DtIdeal.τ).loc Cert.DtIdeal.main_arg0)
          ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ θ_run (Cert.DtGradIdeal.defs (F := Ideal)) (onTc (τ := Cert.DtGradIdeal.τ) (Cert.DtGradIdeal.main (F := Ideal))) ⟨m', fun _ => 0, g'⟩ (fun r => ∀ c : Dev Cert.DtGradIdeal.nD,
          r.2.mem ((c.tc : Thread Cert.DtGradIdeal.nD Cert.DtGradIdeal.τ).loc Cert.DtGradIdeal.main_v5) = v0 c
          ∧ r.2.mem ((c.tc : Thread Cert.DtGradIdeal.nD Cert.DtGradIdeal.τ).loc Cert.DtGradIdeal.main_arg0) = m' ((c.tc : Thread Cert.DtGradIdeal.nD Cert.DtGradIdeal.τ).loc Cert.DtGradIdeal.main_arg0)
          ∧ r.2.mem ((c.tc : Thread Cert.DtGradIdeal.nD Cert.DtGradIdeal.τ).loc Cert.DtGradIdeal.main_arg1) = m' ((c.tc : Thread Cert.DtGradIdeal.nD Cert.DtGradIdeal.τ).loc Cert.DtGradIdeal.main_arg1))

def preserves_Gwu_GwuIdeal : Prop :=
  True

def algebraic_GwuIdeal_GwuGradIdeal [hGwuIdeal : Cert.GwuIdeal.Facts] [hGwuGradIdeal : Cert.GwuGradIdeal.Facts] : Prop :=
  ∀ (m : (ℓ : Loc Cert.GwuIdeal.nD Cert.GwuIdeal.τ Cert.GwuIdeal.sig) → Buf (Elt Ideal) ℓ) (g : Dev Cert.GwuIdeal.nD → PrngReg)
    (m' : (ℓ : Loc Cert.GwuGradIdeal.nD Cert.GwuGradIdeal.τ Cert.GwuGradIdeal.sig) → Buf (Elt Ideal) ℓ) (g' : Dev Cert.GwuGradIdeal.nD → PrngReg), Pre_GwuIdeal m →
    (∀ c : Dev Cert.GwuIdeal.nD,
      m' ((c.tc : Thread Cert.GwuGradIdeal.nD Cert.GwuGradIdeal.τ).loc Cert.GwuGradIdeal.main_arg0) = m ((c.tc : Thread Cert.GwuIdeal.nD Cert.GwuIdeal.τ).loc Cert.GwuIdeal.main_arg0)
      ∧ m' ((c.tc : Thread Cert.GwuGradIdeal.nD Cert.GwuGradIdeal.τ).loc Cert.GwuGradIdeal.main_arg1) = m ((c.tc : Thread Cert.GwuIdeal.nD Cert.GwuIdeal.τ).loc Cert.GwuIdeal.main_arg1)) →
    ∃ (v0 : (c : Dev Cert.GwuIdeal.nD) → Buf (Elt Ideal) ((c.tc : Thread Cert.GwuIdeal.nD Cert.GwuIdeal.τ).loc Cert.GwuIdeal.main_v5)),
      θ_run (Cert.GwuIdeal.defs (F := Ideal)) (onTc (τ := Cert.GwuIdeal.τ) (Cert.GwuIdeal.main (F := Ideal))) ⟨m, fun _ => 0, g⟩ (fun r => ∀ c : Dev Cert.GwuIdeal.nD,
          r.2.mem ((c.tc : Thread Cert.GwuIdeal.nD Cert.GwuIdeal.τ).loc Cert.GwuIdeal.main_v5) = v0 c
          ∧ r.2.mem ((c.tc : Thread Cert.GwuIdeal.nD Cert.GwuIdeal.τ).loc Cert.GwuIdeal.main_arg0) = m ((c.tc : Thread Cert.GwuIdeal.nD Cert.GwuIdeal.τ).loc Cert.GwuIdeal.main_arg0)
          ∧ r.2.mem ((c.tc : Thread Cert.GwuIdeal.nD Cert.GwuIdeal.τ).loc Cert.GwuIdeal.main_arg1) = m ((c.tc : Thread Cert.GwuIdeal.nD Cert.GwuIdeal.τ).loc Cert.GwuIdeal.main_arg1))
      ∧ θ_run (Cert.GwuGradIdeal.defs (F := Ideal)) (onTc (τ := Cert.GwuGradIdeal.τ) (Cert.GwuGradIdeal.main (F := Ideal))) ⟨m', fun _ => 0, g'⟩ (fun r => ∀ c : Dev Cert.GwuGradIdeal.nD,
          r.2.mem ((c.tc : Thread Cert.GwuGradIdeal.nD Cert.GwuGradIdeal.τ).loc Cert.GwuGradIdeal.main_v8) = v0 c
          ∧ r.2.mem ((c.tc : Thread Cert.GwuGradIdeal.nD Cert.GwuGradIdeal.τ).loc Cert.GwuGradIdeal.main_arg0) = m' ((c.tc : Thread Cert.GwuGradIdeal.nD Cert.GwuGradIdeal.τ).loc Cert.GwuGradIdeal.main_arg0)
          ∧ r.2.mem ((c.tc : Thread Cert.GwuGradIdeal.nD Cert.GwuGradIdeal.τ).loc Cert.GwuGradIdeal.main_arg1) = m' ((c.tc : Thread Cert.GwuGradIdeal.nD Cert.GwuGradIdeal.τ).loc Cert.GwuGradIdeal.main_arg1))

def preserves_Dh2_Dh2Ideal : Prop :=
  True

def algebraic_Dh2Ideal_Dh2GradIdeal [hDh2Ideal : Cert.Dh2Ideal.Facts] [hDh2GradIdeal : Cert.Dh2GradIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2GradIdeal.nD Cert.Dh2GradIdeal.τ Cert.Dh2GradIdeal.sig) → Buf (Elt Ideal) ℓ) (g' : Dev Cert.Dh2GradIdeal.nD → PrngReg), Pre_Dh2Ideal m →
    (∀ c : Dev Cert.Dh2Ideal.nD,
      m' ((c.tc : Thread Cert.Dh2GradIdeal.nD Cert.Dh2GradIdeal.τ).loc Cert.Dh2GradIdeal.main_arg0) = m ((c.tc : Thread Cert.Dh2Ideal.nD Cert.Dh2Ideal.τ).loc Cert.Dh2Ideal.main_arg0)
      ∧ m' ((c.tc : Thread Cert.Dh2GradIdeal.nD Cert.Dh2GradIdeal.τ).loc Cert.Dh2GradIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v5)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v5) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2GradIdeal.defs (F := Ideal)) (onTc (τ := Cert.Dh2GradIdeal.τ) (Cert.Dh2GradIdeal.main (F := Ideal))) ⟨m', fun _ => 0, g'⟩ (fun r => ∀ c : Dev Cert.Dh2GradIdeal.nD,
          r.2.mem ((c.tc : Thread Cert.Dh2GradIdeal.nD Cert.Dh2GradIdeal.τ).loc Cert.Dh2GradIdeal.main_v5) = v0 c
          ∧ r.2.mem ((c.tc : Thread Cert.Dh2GradIdeal.nD Cert.Dh2GradIdeal.τ).loc Cert.Dh2GradIdeal.main_arg0) = m' ((c.tc : Thread Cert.Dh2GradIdeal.nD Cert.Dh2GradIdeal.τ).loc Cert.Dh2GradIdeal.main_arg0)
          ∧ r.2.mem ((c.tc : Thread Cert.Dh2GradIdeal.nD Cert.Dh2GradIdeal.τ).loc Cert.Dh2GradIdeal.main_arg1) = m' ((c.tc : Thread Cert.Dh2GradIdeal.nD Cert.Dh2GradIdeal.τ).loc Cert.Dh2GradIdeal.main_arg1))

def preserves_Gwo_GwoIdeal : Prop :=
  True

def algebraic_GwoIdeal_GwoGradIdeal [hGwoIdeal : Cert.GwoIdeal.Facts] [hGwoGradIdeal : Cert.GwoGradIdeal.Facts] : Prop :=
  ∀ (m : (ℓ : Loc Cert.GwoIdeal.nD Cert.GwoIdeal.τ Cert.GwoIdeal.sig) → Buf (Elt Ideal) ℓ) (g : Dev Cert.GwoIdeal.nD → PrngReg)
    (m' : (ℓ : Loc Cert.GwoGradIdeal.nD Cert.GwoGradIdeal.τ Cert.GwoGradIdeal.sig) → Buf (Elt Ideal) ℓ) (g' : Dev Cert.GwoGradIdeal.nD → PrngReg), Pre_GwoIdeal m →
    (∀ c : Dev Cert.GwoIdeal.nD,
      m' ((c.tc : Thread Cert.GwoGradIdeal.nD Cert.GwoGradIdeal.τ).loc Cert.GwoGradIdeal.main_arg0) = m ((c.tc : Thread Cert.GwoIdeal.nD Cert.GwoIdeal.τ).loc Cert.GwoIdeal.main_arg0)
      ∧ m' ((c.tc : Thread Cert.GwoGradIdeal.nD Cert.GwoGradIdeal.τ).loc Cert.GwoGradIdeal.main_arg1) = m ((c.tc : Thread Cert.GwoIdeal.nD Cert.GwoIdeal.τ).loc Cert.GwoIdeal.main_arg1)) →
    ∃ (v0 : (c : Dev Cert.GwoIdeal.nD) → Buf (Elt Ideal) ((c.tc : Thread Cert.GwoIdeal.nD Cert.GwoIdeal.τ).loc Cert.GwoIdeal.main_v0)),
      θ_run (Cert.GwoIdeal.defs (F := Ideal)) (onTc (τ := Cert.GwoIdeal.τ) (Cert.GwoIdeal.main (F := Ideal))) ⟨m, fun _ => 0, g⟩ (fun r => ∀ c : Dev Cert.GwoIdeal.nD,
          r.2.mem ((c.tc : Thread Cert.GwoIdeal.nD Cert.GwoIdeal.τ).loc Cert.GwoIdeal.main_v0) = v0 c
          ∧ r.2.mem ((c.tc : Thread Cert.GwoIdeal.nD Cert.GwoIdeal.τ).loc Cert.GwoIdeal.main_arg0) = m ((c.tc : Thread Cert.GwoIdeal.nD Cert.GwoIdeal.τ).loc Cert.GwoIdeal.main_arg0)
          ∧ r.2.mem ((c.tc : Thread Cert.GwoIdeal.nD Cert.GwoIdeal.τ).loc Cert.GwoIdeal.main_arg1) = m ((c.tc : Thread Cert.GwoIdeal.nD Cert.GwoIdeal.τ).loc Cert.GwoIdeal.main_arg1))
      ∧ θ_run (Cert.GwoGradIdeal.defs (F := Ideal)) (onTc (τ := Cert.GwoGradIdeal.τ) (Cert.GwoGradIdeal.main (F := Ideal))) ⟨m', fun _ => 0, g'⟩ (fun r => ∀ c : Dev Cert.GwoGradIdeal.nD,
          r.2.mem ((c.tc : Thread Cert.GwoGradIdeal.nD Cert.GwoGradIdeal.τ).loc Cert.GwoGradIdeal.main_v6) = v0 c
          ∧ r.2.mem ((c.tc : Thread Cert.GwoGradIdeal.nD Cert.GwoGradIdeal.τ).loc Cert.GwoGradIdeal.main_arg0) = m' ((c.tc : Thread Cert.GwoGradIdeal.nD Cert.GwoGradIdeal.τ).loc Cert.GwoGradIdeal.main_arg0)
          ∧ r.2.mem ((c.tc : Thread Cert.GwoGradIdeal.nD Cert.GwoGradIdeal.τ).loc Cert.GwoGradIdeal.main_arg1) = m' ((c.tc : Thread Cert.GwoGradIdeal.nD Cert.GwoGradIdeal.τ).loc Cert.GwoGradIdeal.main_arg1))

def preserves_Dcat_DcatIdeal : Prop :=
  True

def algebraic_DcatIdeal_DcatGradIdeal [hDcatIdeal : Cert.DcatIdeal.Facts] [hDcatGradIdeal : Cert.DcatGradIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatGradIdeal.nD Cert.DcatGradIdeal.τ Cert.DcatGradIdeal.sig) → Buf (Elt Ideal) ℓ) (g' : Dev Cert.DcatGradIdeal.nD → PrngReg), Pre_DcatIdeal m →
    (∀ c : Dev Cert.DcatIdeal.nD,
      m' ((c.tc : Thread Cert.DcatGradIdeal.nD Cert.DcatGradIdeal.τ).loc Cert.DcatGradIdeal.main_arg0) = m ((c.tc : Thread Cert.DcatIdeal.nD Cert.DcatIdeal.τ).loc Cert.DcatIdeal.main_arg0)
      ∧ m' ((c.tc : Thread Cert.DcatGradIdeal.nD Cert.DcatGradIdeal.τ).loc Cert.DcatGradIdeal.main_arg1) = m ((c.tc : Thread Cert.DcatIdeal.nD Cert.DcatIdeal.τ).loc Cert.DcatIdeal.main_arg1)) →
    ∃ (v0 : (c : Dev Cert.DcatIdeal.nD) → Buf (Elt Ideal) ((c.tc : Thread Cert.DcatIdeal.nD Cert.DcatIdeal.τ).loc Cert.DcatIdeal.main_v0)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v0) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ θ_run (Cert.DcatGradIdeal.defs (F := Ideal)) (onTc (τ := Cert.DcatGradIdeal.τ) (Cert.DcatGradIdeal.main (F := Ideal))) ⟨m', fun _ => 0, g'⟩ (fun r => ∀ c : Dev Cert.DcatGradIdeal.nD,
          r.2.mem ((c.tc : Thread Cert.DcatGradIdeal.nD Cert.DcatGradIdeal.τ).loc Cert.DcatGradIdeal.main_v5) = v0 c
          ∧ r.2.mem ((c.tc : Thread Cert.DcatGradIdeal.nD Cert.DcatGradIdeal.τ).loc Cert.DcatGradIdeal.main_arg0) = m' ((c.tc : Thread Cert.DcatGradIdeal.nD Cert.DcatGradIdeal.τ).loc Cert.DcatGradIdeal.main_arg0)
          ∧ r.2.mem ((c.tc : Thread Cert.DcatGradIdeal.nD Cert.DcatGradIdeal.τ).loc Cert.DcatGradIdeal.main_arg1) = m' ((c.tc : Thread Cert.DcatGradIdeal.nD Cert.DcatGradIdeal.τ).loc Cert.DcatGradIdeal.main_arg1))

def preserves_Gwi_GwiIdeal : Prop :=
  True

def algebraic_GwiIdeal_GwiGradIdeal [hGwiIdeal : Cert.GwiIdeal.Facts] [hGwiGradIdeal : Cert.GwiGradIdeal.Facts] : Prop :=
  ∀ (m : (ℓ : Loc Cert.GwiIdeal.nD Cert.GwiIdeal.τ Cert.GwiIdeal.sig) → Buf (Elt Ideal) ℓ) (g : Dev Cert.GwiIdeal.nD → PrngReg)
    (m' : (ℓ : Loc Cert.GwiGradIdeal.nD Cert.GwiGradIdeal.τ Cert.GwiGradIdeal.sig) → Buf (Elt Ideal) ℓ) (g' : Dev Cert.GwiGradIdeal.nD → PrngReg), Pre_GwiIdeal m →
    (∀ c : Dev Cert.GwiIdeal.nD,
      m' ((c.tc : Thread Cert.GwiGradIdeal.nD Cert.GwiGradIdeal.τ).loc Cert.GwiGradIdeal.main_arg0) = m ((c.tc : Thread Cert.GwiIdeal.nD Cert.GwiIdeal.τ).loc Cert.GwiIdeal.main_arg0)
      ∧ m' ((c.tc : Thread Cert.GwiGradIdeal.nD Cert.GwiGradIdeal.τ).loc Cert.GwiGradIdeal.main_arg1) = m ((c.tc : Thread Cert.GwiIdeal.nD Cert.GwiIdeal.τ).loc Cert.GwiIdeal.main_arg1)) →
    ∃ (v0 : (c : Dev Cert.GwiIdeal.nD) → Buf (Elt Ideal) ((c.tc : Thread Cert.GwiIdeal.nD Cert.GwiIdeal.τ).loc Cert.GwiIdeal.main_v0)),
      θ_run (Cert.GwiIdeal.defs (F := Ideal)) (onTc (τ := Cert.GwiIdeal.τ) (Cert.GwiIdeal.main (F := Ideal))) ⟨m, fun _ => 0, g⟩ (fun r => ∀ c : Dev Cert.GwiIdeal.nD,
          r.2.mem ((c.tc : Thread Cert.GwiIdeal.nD Cert.GwiIdeal.τ).loc Cert.GwiIdeal.main_v0) = v0 c
          ∧ r.2.mem ((c.tc : Thread Cert.GwiIdeal.nD Cert.GwiIdeal.τ).loc Cert.GwiIdeal.main_arg0) = m ((c.tc : Thread Cert.GwiIdeal.nD Cert.GwiIdeal.τ).loc Cert.GwiIdeal.main_arg0)
          ∧ r.2.mem ((c.tc : Thread Cert.GwiIdeal.nD Cert.GwiIdeal.τ).loc Cert.GwiIdeal.main_arg1) = m ((c.tc : Thread Cert.GwiIdeal.nD Cert.GwiIdeal.τ).loc Cert.GwiIdeal.main_arg1))
      ∧ θ_run (Cert.GwiGradIdeal.defs (F := Ideal)) (onTc (τ := Cert.GwiGradIdeal.τ) (Cert.GwiGradIdeal.main (F := Ideal))) ⟨m', fun _ => 0, g'⟩ (fun r => ∀ c : Dev Cert.GwiGradIdeal.nD,
          r.2.mem ((c.tc : Thread Cert.GwiGradIdeal.nD Cert.GwiGradIdeal.τ).loc Cert.GwiGradIdeal.main_v6) = v0 c
          ∧ r.2.mem ((c.tc : Thread Cert.GwiGradIdeal.nD Cert.GwiGradIdeal.τ).loc Cert.GwiGradIdeal.main_arg0) = m' ((c.tc : Thread Cert.GwiGradIdeal.nD Cert.GwiGradIdeal.τ).loc Cert.GwiGradIdeal.main_arg0)
          ∧ r.2.mem ((c.tc : Thread Cert.GwiGradIdeal.nD Cert.GwiGradIdeal.τ).loc Cert.GwiGradIdeal.main_arg1) = m' ((c.tc : Thread Cert.GwiGradIdeal.nD Cert.GwiGradIdeal.τ).loc Cert.GwiGradIdeal.main_arg1))

def preserves_Dh_DhIdeal : Prop :=
  True

def algebraic_DhIdeal_DhGradIdeal [hDhIdeal : Cert.DhIdeal.Facts] [hDhGradIdeal : Cert.DhGradIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhGradIdeal.nD Cert.DhGradIdeal.τ Cert.DhGradIdeal.sig) → Buf (Elt Ideal) ℓ) (g' : Dev Cert.DhGradIdeal.nD → PrngReg), Pre_DhIdeal m →
    (∀ c : Dev Cert.DhIdeal.nD,
      m' ((c.tc : Thread Cert.DhGradIdeal.nD Cert.DhGradIdeal.τ).loc Cert.DhGradIdeal.main_arg0) = m ((c.tc : Thread Cert.DhIdeal.nD Cert.DhIdeal.τ).loc Cert.DhIdeal.main_arg0)
      ∧ m' ((c.tc : Thread Cert.DhGradIdeal.nD Cert.DhGradIdeal.τ).loc Cert.DhGradIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhGradIdeal.defs (F := Ideal)) (onTc (τ := Cert.DhGradIdeal.τ) (Cert.DhGradIdeal.main (F := Ideal))) ⟨m', fun _ => 0, g'⟩ (fun r => ∀ c : Dev Cert.DhGradIdeal.nD,
          r.2.mem ((c.tc : Thread Cert.DhGradIdeal.nD Cert.DhGradIdeal.τ).loc Cert.DhGradIdeal.main_v5) = v0 c
          ∧ r.2.mem ((c.tc : Thread Cert.DhGradIdeal.nD Cert.DhGradIdeal.τ).loc Cert.DhGradIdeal.main_arg0) = m' ((c.tc : Thread Cert.DhGradIdeal.nD Cert.DhGradIdeal.τ).loc Cert.DhGradIdeal.main_arg0)
          ∧ r.2.mem ((c.tc : Thread Cert.DhGradIdeal.nD Cert.DhGradIdeal.τ).loc Cert.DhGradIdeal.main_arg1) = m' ((c.tc : Thread Cert.DhGradIdeal.nD Cert.DhGradIdeal.τ).loc Cert.DhGradIdeal.main_arg1))

def preserves_Z_ZIdeal : Prop :=
  True

def algebraic_ZIdeal_ZFwdIdeal [hZIdeal : Cert.ZIdeal.Facts] [hZFwdIdeal : Cert.ZFwdIdeal.Facts] : Prop :=
  ∀ (m : (ℓ : Loc Cert.ZIdeal.nD Cert.ZIdeal.τ Cert.ZIdeal.sig) → Buf (Elt Ideal) ℓ) (g : Dev Cert.ZIdeal.nD → PrngReg)
    (m' : (ℓ : Loc Cert.ZFwdIdeal.nD Cert.ZFwdIdeal.τ Cert.ZFwdIdeal.sig) → Buf (Elt Ideal) ℓ) (g' : Dev Cert.ZFwdIdeal.nD → PrngReg), Pre_ZIdeal m →
    (∀ c : Dev Cert.ZIdeal.nD,
      m' ((c.tc : Thread Cert.ZFwdIdeal.nD Cert.ZFwdIdeal.τ).loc Cert.ZFwdIdeal.main_arg0) = m ((c.tc : Thread Cert.ZIdeal.nD Cert.ZIdeal.τ).loc Cert.ZIdeal.main_arg0)
      ∧ m' ((c.tc : Thread Cert.ZFwdIdeal.nD Cert.ZFwdIdeal.τ).loc Cert.ZFwdIdeal.main_arg1) = m ((c.tc : Thread Cert.ZIdeal.nD Cert.ZIdeal.τ).loc Cert.ZIdeal.main_arg1)) →
    ∃ (v0 : (c : Dev Cert.ZIdeal.nD) → Buf (Elt Ideal) ((c.tc : Thread Cert.ZIdeal.nD Cert.ZIdeal.τ).loc Cert.ZIdeal.main_v0)),
      θ_run (Cert.ZIdeal.defs (F := Ideal)) (onTc (τ := Cert.ZIdeal.τ) (Cert.ZIdeal.main (F := Ideal))) ⟨m, fun _ => 0, g⟩ (fun r => ∀ c : Dev Cert.ZIdeal.nD,
          r.2.mem ((c.tc : Thread Cert.ZIdeal.nD Cert.ZIdeal.τ).loc Cert.ZIdeal.main_v0) = v0 c
          ∧ r.2.mem ((c.tc : Thread Cert.ZIdeal.nD Cert.ZIdeal.τ).loc Cert.ZIdeal.main_arg0) = m ((c.tc : Thread Cert.ZIdeal.nD Cert.ZIdeal.τ).loc Cert.ZIdeal.main_arg0)
          ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ θ_run (Cert.ZFwdIdeal.defs (F := Ideal)) (onTc (τ := Cert.ZFwdIdeal.τ) (Cert.ZFwdIdeal.main (F := Ideal))) ⟨m', fun _ => 0, g'⟩ (fun r => ∀ c : Dev Cert.ZFwdIdeal.nD,
          r.2.mem ((c.tc : Thread Cert.ZFwdIdeal.nD Cert.ZFwdIdeal.τ).loc Cert.ZFwdIdeal.main_v2) = v0 c
          ∧ r.2.mem ((c.tc : Thread Cert.ZFwdIdeal.nD Cert.ZFwdIdeal.τ).loc Cert.ZFwdIdeal.main_arg0) = m' ((c.tc : Thread Cert.ZFwdIdeal.nD Cert.ZFwdIdeal.τ).loc Cert.ZFwdIdeal.main_arg0)
          ∧ r.2.mem ((c.tc : Thread Cert.ZFwdIdeal.nD Cert.ZFwdIdeal.τ).loc Cert.ZFwdIdeal.main_arg1) = m' ((c.tc : Thread Cert.ZFwdIdeal.nD Cert.ZFwdIdeal.τ).loc Cert.ZFwdIdeal.main_arg1))

def preserves_Y_YIdeal : Prop :=
  True

def algebraic_YIdeal_YFwdIdeal [hYIdeal : Cert.YIdeal.Facts] [hYFwdIdeal : Cert.YFwdIdeal.Facts] : Prop :=
  ∀ (m : (ℓ : Loc Cert.YIdeal.nD Cert.YIdeal.τ Cert.YIdeal.sig) → Buf (Elt Ideal) ℓ) (g : Dev Cert.YIdeal.nD → PrngReg)
    (m' : (ℓ : Loc Cert.YFwdIdeal.nD Cert.YFwdIdeal.τ Cert.YFwdIdeal.sig) → Buf (Elt Ideal) ℓ) (g' : Dev Cert.YFwdIdeal.nD → PrngReg), Pre_YIdeal m →
    (∀ c : Dev Cert.YIdeal.nD,
      m' ((c.tc : Thread Cert.YFwdIdeal.nD Cert.YFwdIdeal.τ).loc Cert.YFwdIdeal.main_arg0) = m ((c.tc : Thread Cert.YIdeal.nD Cert.YIdeal.τ).loc Cert.YIdeal.main_arg0)
      ∧ m' ((c.tc : Thread Cert.YFwdIdeal.nD Cert.YFwdIdeal.τ).loc Cert.YFwdIdeal.main_arg1) = m ((c.tc : Thread Cert.YIdeal.nD Cert.YIdeal.τ).loc Cert.YIdeal.main_arg1)) →
    ∃ (v0 : (c : Dev Cert.YIdeal.nD) → Buf (Elt Ideal) ((c.tc : Thread Cert.YIdeal.nD Cert.YIdeal.τ).loc Cert.YIdeal.main_v0)),
      θ_run (Cert.YIdeal.defs (F := Ideal)) (onTc (τ := Cert.YIdeal.τ) (Cert.YIdeal.main (F := Ideal))) ⟨m, fun _ => 0, g⟩ (fun r => ∀ c : Dev Cert.YIdeal.nD,
          r.2.mem ((c.tc : Thread Cert.YIdeal.nD Cert.YIdeal.τ).loc Cert.YIdeal.main_v0) = v0 c
          ∧ r.2.mem ((c.tc : Thread Cert.YIdeal.nD Cert.YIdeal.τ).loc Cert.YIdeal.main_arg0) = m ((c.tc : Thread Cert.YIdeal.nD Cert.YIdeal.τ).loc Cert.YIdeal.main_arg0)
          ∧ r.2.mem ((c.tc : Thread Cert.YIdeal.nD Cert.YIdeal.τ).loc Cert.YIdeal.main_arg1) = m ((c.tc : Thread Cert.YIdeal.nD Cert.YIdeal.τ).loc Cert.YIdeal.main_arg1))
      ∧ θ_run (Cert.YFwdIdeal.defs (F := Ideal)) (onTc (τ := Cert.YFwdIdeal.τ) (Cert.YFwdIdeal.main (F := Ideal))) ⟨m', fun _ => 0, g'⟩ (fun r => ∀ c : Dev Cert.YFwdIdeal.nD,
          r.2.mem ((c.tc : Thread Cert.YFwdIdeal.nD Cert.YFwdIdeal.τ).loc Cert.YFwdIdeal.main_v2) = v0 c
          ∧ r.2.mem ((c.tc : Thread Cert.YFwdIdeal.nD Cert.YFwdIdeal.τ).loc Cert.YFwdIdeal.main_arg0) = m' ((c.tc : Thread Cert.YFwdIdeal.nD Cert.YFwdIdeal.τ).loc Cert.YFwdIdeal.main_arg0)
          ∧ r.2.mem ((c.tc : Thread Cert.YFwdIdeal.nD Cert.YFwdIdeal.τ).loc Cert.YFwdIdeal.main_arg1) = m' ((c.tc : Thread Cert.YFwdIdeal.nD Cert.YFwdIdeal.τ).loc Cert.YFwdIdeal.main_arg1))

def preserves_U_UIdeal : Prop :=
  True

def algebraic_UIdeal_UFwdIdeal [hUIdeal : Cert.UIdeal.Facts] [hUFwdIdeal : Cert.UFwdIdeal.Facts] : Prop :=
  ∀ (m : (ℓ : Loc Cert.UIdeal.nD Cert.UIdeal.τ Cert.UIdeal.sig) → Buf (Elt Ideal) ℓ) (g : Dev Cert.UIdeal.nD → PrngReg)
    (m' : (ℓ : Loc Cert.UFwdIdeal.nD Cert.UFwdIdeal.τ Cert.UFwdIdeal.sig) → Buf (Elt Ideal) ℓ) (g' : Dev Cert.UFwdIdeal.nD → PrngReg), Pre_UIdeal m →
    (∀ c : Dev Cert.UIdeal.nD,
      m' ((c.tc : Thread Cert.UFwdIdeal.nD Cert.UFwdIdeal.τ).loc Cert.UFwdIdeal.main_arg0) = m ((c.tc : Thread Cert.UIdeal.nD Cert.UIdeal.τ).loc Cert.UIdeal.main_arg0)
      ∧ m' ((c.tc : Thread Cert.UFwdIdeal.nD Cert.UFwdIdeal.τ).loc Cert.UFwdIdeal.main_arg1) = m ((c.tc : Thread Cert.UIdeal.nD Cert.UIdeal.τ).loc Cert.UIdeal.main_arg1)) →
    ∃ (v0 : (c : Dev Cert.UIdeal.nD) → Buf (Elt Ideal) ((c.tc : Thread Cert.UIdeal.nD Cert.UIdeal.τ).loc Cert.UIdeal.main_v0)),
      θ_run (Cert.UIdeal.defs (F := Ideal)) (onTc (τ := Cert.UIdeal.τ) (Cert.UIdeal.main (F := Ideal))) ⟨m, fun _ => 0, g⟩ (fun r => ∀ c : Dev Cert.UIdeal.nD,
          r.2.mem ((c.tc : Thread Cert.UIdeal.nD Cert.UIdeal.τ).loc Cert.UIdeal.main_v0) = v0 c
          ∧ r.2.mem ((c.tc : Thread Cert.UIdeal.nD Cert.UIdeal.τ).loc Cert.UIdeal.main_arg0) = m ((c.tc : Thread Cert.UIdeal.nD Cert.UIdeal.τ).loc Cert.UIdeal.main_arg0)
          ∧ r.2.mem ((c.tc : Thread Cert.UIdeal.nD Cert.UIdeal.τ).loc Cert.UIdeal.main_arg1) = m ((c.tc : Thread Cert.UIdeal.nD Cert.UIdeal.τ).loc Cert.UIdeal.main_arg1))
      ∧ θ_run (Cert.UFwdIdeal.defs (F := Ideal)) (onTc (τ := Cert.UFwdIdeal.τ) (Cert.UFwdIdeal.main (F := Ideal))) ⟨m', fun _ => 0, g'⟩ (fun r => ∀ c : Dev Cert.UFwdIdeal.nD,
          r.2.mem ((c.tc : Thread Cert.UFwdIdeal.nD Cert.UFwdIdeal.τ).loc Cert.UFwdIdeal.main_v2) = v0 c
          ∧ r.2.mem ((c.tc : Thread Cert.UFwdIdeal.nD Cert.UFwdIdeal.τ).loc Cert.UFwdIdeal.main_arg0) = m' ((c.tc : Thread Cert.UFwdIdeal.nD Cert.UFwdIdeal.τ).loc Cert.UFwdIdeal.main_arg0)
          ∧ r.2.mem ((c.tc : Thread Cert.UFwdIdeal.nD Cert.UFwdIdeal.τ).loc Cert.UFwdIdeal.main_arg1) = m' ((c.tc : Thread Cert.UFwdIdeal.nD Cert.UFwdIdeal.τ).loc Cert.UFwdIdeal.main_arg1))

def preserves_Yff_YffIdeal : Prop :=
  True

def algebraic_YffIdeal_YffFwdIdeal [hYffIdeal : Cert.YffIdeal.Facts] [hYffFwdIdeal : Cert.YffFwdIdeal.Facts] : Prop :=
  ∀ (m : (ℓ : Loc Cert.YffIdeal.nD Cert.YffIdeal.τ Cert.YffIdeal.sig) → Buf (Elt Ideal) ℓ) (g : Dev Cert.YffIdeal.nD → PrngReg)
    (m' : (ℓ : Loc Cert.YffFwdIdeal.nD Cert.YffFwdIdeal.τ Cert.YffFwdIdeal.sig) → Buf (Elt Ideal) ℓ) (g' : Dev Cert.YffFwdIdeal.nD → PrngReg), Pre_YffIdeal m →
    (∀ c : Dev Cert.YffIdeal.nD,
      m' ((c.tc : Thread Cert.YffFwdIdeal.nD Cert.YffFwdIdeal.τ).loc Cert.YffFwdIdeal.main_arg0) = m ((c.tc : Thread Cert.YffIdeal.nD Cert.YffIdeal.τ).loc Cert.YffIdeal.main_arg0)
      ∧ m' ((c.tc : Thread Cert.YffFwdIdeal.nD Cert.YffFwdIdeal.τ).loc Cert.YffFwdIdeal.main_arg1) = m ((c.tc : Thread Cert.YffIdeal.nD Cert.YffIdeal.τ).loc Cert.YffIdeal.main_arg1)) →
    ∃ (v0 : (c : Dev Cert.YffIdeal.nD) → Buf (Elt Ideal) ((c.tc : Thread Cert.YffIdeal.nD Cert.YffIdeal.τ).loc Cert.YffIdeal.main_v0)),
      θ_run (Cert.YffIdeal.defs (F := Ideal)) (onTc (τ := Cert.YffIdeal.τ) (Cert.YffIdeal.main (F := Ideal))) ⟨m, fun _ => 0, g⟩ (fun r => ∀ c : Dev Cert.YffIdeal.nD,
          r.2.mem ((c.tc : Thread Cert.YffIdeal.nD Cert.YffIdeal.τ).loc Cert.YffIdeal.main_v0) = v0 c
          ∧ r.2.mem ((c.tc : Thread Cert.YffIdeal.nD Cert.YffIdeal.τ).loc Cert.YffIdeal.main_arg0) = m ((c.tc : Thread Cert.YffIdeal.nD Cert.YffIdeal.τ).loc Cert.YffIdeal.main_arg0)
          ∧ r.2.mem ((c.tc : Thread Cert.YffIdeal.nD Cert.YffIdeal.τ).loc Cert.YffIdeal.main_arg1) = m ((c.tc : Thread Cert.YffIdeal.nD Cert.YffIdeal.τ).loc Cert.YffIdeal.main_arg1))
      ∧ θ_run (Cert.YffFwdIdeal.defs (F := Ideal)) (onTc (τ := Cert.YffFwdIdeal.τ) (Cert.YffFwdIdeal.main (F := Ideal))) ⟨m', fun _ => 0, g'⟩ (fun r => ∀ c : Dev Cert.YffFwdIdeal.nD,
          r.2.mem ((c.tc : Thread Cert.YffFwdIdeal.nD Cert.YffFwdIdeal.τ).loc Cert.YffFwdIdeal.main_v2) = v0 c
          ∧ r.2.mem ((c.tc : Thread Cert.YffFwdIdeal.nD Cert.YffFwdIdeal.τ).loc Cert.YffFwdIdeal.main_arg0) = m' ((c.tc : Thread Cert.YffFwdIdeal.nD Cert.YffFwdIdeal.τ).loc Cert.YffFwdIdeal.main_arg0)
          ∧ r.2.mem ((c.tc : Thread Cert.YffFwdIdeal.nD Cert.YffFwdIdeal.τ).loc Cert.YffFwdIdeal.main_arg1) = m' ((c.tc : Thread Cert.YffFwdIdeal.nD Cert.YffFwdIdeal.τ).loc Cert.YffFwdIdeal.main_arg1))

def preserves_AttFwd_AttFwdIdeal : Prop :=
  IdealRules.named_const.Statement Cert.AttFwdIdeal.κ "mask" .f32 0xF149F2CA#32 ⊥

def algebraic_AttFwdIdeal_AttendIdeal_pre_finite_rows [hAttFwdIdeal : Cert.AttFwdIdeal.Facts] [hAttendIdeal : Cert.AttendIdeal.Facts] [hPre_finite_rows : Cert.Pre_finite_rows.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttendIdeal.nD Cert.AttendIdeal.τ Cert.AttendIdeal.sig) → Buf (Elt Ideal) ℓ) (g' : Dev Cert.AttendIdeal.nD → PrngReg), Pre_AttFwdIdeal_finite_rows m →
    (∀ c : Dev Cert.AttFwdIdeal.nD,
      m' ((c.tc : Thread Cert.AttendIdeal.nD Cert.AttendIdeal.τ).loc Cert.AttendIdeal.main_arg0) = m ((c.tc : Thread Cert.AttFwdIdeal.nD Cert.AttFwdIdeal.τ).loc Cert.AttFwdIdeal.main_arg0)
      ∧ m' ((c.tc : Thread Cert.AttendIdeal.nD Cert.AttendIdeal.τ).loc Cert.AttendIdeal.main_arg1) = m ((c.tc : Thread Cert.AttFwdIdeal.nD Cert.AttFwdIdeal.τ).loc Cert.AttFwdIdeal.main_arg1)
      ∧ m' ((c.tc : Thread Cert.AttendIdeal.nD Cert.AttendIdeal.τ).loc Cert.AttendIdeal.main_arg2) = m ((c.tc : Thread Cert.AttFwdIdeal.nD Cert.AttFwdIdeal.τ).loc Cert.AttFwdIdeal.main_arg2)) →
    ∃ (v0 : (c : Dev Cert.AttFwdIdeal.nD) → Buf (Elt Ideal) ((c.tc : Thread Cert.AttFwdIdeal.nD Cert.AttFwdIdeal.τ).loc Cert.AttFwdIdeal.main_v0)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v0) = v0 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
          ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2))
      ∧ θ_run (Cert.AttendIdeal.defs (F := Ideal)) (onTc (τ := Cert.AttendIdeal.τ) (Cert.AttendIdeal.main (F := Ideal))) ⟨m', fun _ => 0, g'⟩ (fun r => ∀ c : Dev Cert.AttendIdeal.nD,
          r.2.mem ((c.tc : Thread Cert.AttendIdeal.nD Cert.AttendIdeal.τ).loc Cert.AttendIdeal.main_v56) = v0 c
          ∧ r.2.mem ((c.tc : Thread Cert.AttendIdeal.nD Cert.AttendIdeal.τ).loc Cert.AttendIdeal.main_arg0) = m' ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m' ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m' ((c.tc : Thread Cert.AttendIdeal.nD Cert.AttendIdeal.τ).loc Cert.AttendIdeal.main_arg2))

def preserves_Conv_ConvIdeal : Prop :=
  True

def algebraic_ConvIdeal_ConvGluIdeal [hConvIdeal : Cert.ConvIdeal.Facts] [hConvGluIdeal : Cert.ConvGluIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvGluIdeal.nD Cert.ConvGluIdeal.τ Cert.ConvGluIdeal.sig) → Buf (Elt Ideal) ℓ) (g' : Dev Cert.ConvGluIdeal.nD → PrngReg), Pre_ConvIdeal m →
    (∀ c : Dev Cert.ConvIdeal.nD,
      m' ((c.tc : Thread Cert.ConvGluIdeal.nD Cert.ConvGluIdeal.τ).loc Cert.ConvGluIdeal.main_arg0) = m ((c.tc : Thread Cert.ConvIdeal.nD Cert.ConvIdeal.τ).loc Cert.ConvIdeal.main_arg0)
      ∧ m' ((c.tc : Thread Cert.ConvGluIdeal.nD Cert.ConvGluIdeal.τ).loc Cert.ConvGluIdeal.main_arg1) = m ((c.tc : Thread Cert.ConvIdeal.nD Cert.ConvIdeal.τ).loc Cert.ConvIdeal.main_arg1)
      ∧ m' ((c.tc : Thread Cert.ConvGluIdeal.nD Cert.ConvGluIdeal.τ).loc Cert.ConvGluIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvGluIdeal.defs (F := Ideal)) (onTc (τ := Cert.ConvGluIdeal.τ) (Cert.ConvGluIdeal.main (F := Ideal))) ⟨m', fun _ => 0, g'⟩ (fun r => ∀ c : Dev Cert.ConvGluIdeal.nD,
          r.2.mem ((c.tc : Thread Cert.ConvGluIdeal.nD Cert.ConvGluIdeal.τ).loc Cert.ConvGluIdeal.main_v64) = v0 c
          ∧ r.2.mem ((c.tc : Thread Cert.ConvGluIdeal.nD Cert.ConvGluIdeal.τ).loc Cert.ConvGluIdeal.main_arg0) = m' ((c.tc : Thread Cert.ConvGluIdeal.nD Cert.ConvGluIdeal.τ).loc Cert.ConvGluIdeal.main_arg0)
          ∧ r.2.mem ((c.tc : Thread Cert.ConvGluIdeal.nD Cert.ConvGluIdeal.τ).loc Cert.ConvGluIdeal.main_arg1) = m' ((c.tc : Thread Cert.ConvGluIdeal.nD Cert.ConvGluIdeal.τ).loc Cert.ConvGluIdeal.main_arg1)
          ∧ r.2.mem ((c.tc : Thread Cert.ConvGluIdeal.nD Cert.ConvGluIdeal.τ).loc Cert.ConvGluIdeal.main_arg2) = m' ((c.tc : Thread Cert.ConvGluIdeal.nD Cert.ConvGluIdeal.τ).loc Cert.ConvGluIdeal.main_arg2))

def preserves_ConvBwd_ConvBwdIdeal : Prop :=
  True

def algebraic_ConvBwdIdeal_ConvGradIdeal_pre_finite_conv [hConvBwdIdeal : Cert.ConvBwdIdeal.Facts] [hConvGradIdeal : Cert.ConvGradIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvGradIdeal.nD Cert.ConvGradIdeal.τ Cert.ConvGradIdeal.sig) → Buf (Elt Ideal) ℓ) (g' : Dev Cert.ConvGradIdeal.nD → PrngReg), Pre_ConvBwdIdeal_finite_conv m →
    (∀ c : Dev Cert.ConvBwdIdeal.nD,
      m' ((c.tc : Thread Cert.ConvGradIdeal.nD Cert.ConvGradIdeal.τ).loc Cert.ConvGradIdeal.main_arg0) = m ((c.tc : Thread Cert.ConvBwdIdeal.nD Cert.ConvBwdIdeal.τ).loc Cert.ConvBwdIdeal.main_arg0)
      ∧ m' ((c.tc : Thread Cert.ConvGradIdeal.nD Cert.ConvGradIdeal.τ).loc Cert.ConvGradIdeal.main_arg1) = m ((c.tc : Thread Cert.ConvBwdIdeal.nD Cert.ConvBwdIdeal.τ).loc Cert.ConvBwdIdeal.main_arg1)
      ∧ m' ((c.tc : Thread Cert.ConvGradIdeal.nD Cert.ConvGradIdeal.τ).loc Cert.ConvGradIdeal.main_arg2) = m ((c.tc : Thread Cert.ConvBwdIdeal.nD Cert.ConvBwdIdeal.τ).loc Cert.ConvBwdIdeal.main_arg2)
      ∧ m' ((c.tc : Thread Cert.ConvGradIdeal.nD Cert.ConvGradIdeal.τ).loc Cert.ConvGradIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v3_0)) (v1 : (c : Dev Cert.ConvBwdIdeal.nD) → Buf (Elt Ideal) ((c.tc : Thread Cert.ConvBwdIdeal.nD Cert.ConvBwdIdeal.τ).loc Cert.ConvBwdIdeal.main_v3_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v3_0) = v0 c
          ∧ r.2.mem ((c.tc : Thread Cert.ConvBwdIdeal.nD Cert.ConvBwdIdeal.τ).loc Cert.ConvBwdIdeal.main_v3_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvGradIdeal.defs (F := Ideal)) (onTc (τ := Cert.ConvGradIdeal.τ) (Cert.ConvGradIdeal.main (F := Ideal))) ⟨m', fun _ => 0, g'⟩ (fun r => ∀ c : Dev Cert.ConvGradIdeal.nD,
          r.2.mem ((c.tc : Thread Cert.ConvGradIdeal.nD Cert.ConvGradIdeal.τ).loc Cert.ConvGradIdeal.main_v166) = v0 c
          ∧ r.2.mem ((c.tc : Thread Cert.ConvGradIdeal.nD Cert.ConvGradIdeal.τ).loc Cert.ConvGradIdeal.main_v169) = v1 c
          ∧ r.2.mem ((c.tc : Thread Cert.ConvGradIdeal.nD Cert.ConvGradIdeal.τ).loc Cert.ConvGradIdeal.main_arg0) = m' ((c.tc : Thread Cert.ConvGradIdeal.nD Cert.ConvGradIdeal.τ).loc Cert.ConvGradIdeal.main_arg0)
          ∧ r.2.mem ((c.tc : Thread Cert.ConvGradIdeal.nD Cert.ConvGradIdeal.τ).loc Cert.ConvGradIdeal.main_arg1) = m' ((c.tc : Thread Cert.ConvGradIdeal.nD Cert.ConvGradIdeal.τ).loc Cert.ConvGradIdeal.main_arg1)
          ∧ r.2.mem ((c.tc : Thread Cert.ConvGradIdeal.nD Cert.ConvGradIdeal.τ).loc Cert.ConvGradIdeal.main_arg2) = m' ((c.tc : Thread Cert.ConvGradIdeal.nD Cert.ConvGradIdeal.τ).loc Cert.ConvGradIdeal.main_arg2)
          ∧ r.2.mem ((c.tc : Thread Cert.ConvGradIdeal.nD Cert.ConvGradIdeal.τ).loc Cert.ConvGradIdeal.main_arg3) = m' ((c.tc : Thread Cert.ConvGradIdeal.nD Cert.ConvGradIdeal.τ).loc Cert.ConvGradIdeal.main_arg3))

def preserves_Mixr_MixrIdeal : Prop :=
  True

def algebraic_MixrIdeal_GatedRetIdeal [hMixrIdeal : Cert.MixrIdeal.Facts] [hGatedRetIdeal : Cert.GatedRetIdeal.Facts] : Prop :=
  ∀ (m : (ℓ : Loc Cert.MixrIdeal.nD Cert.MixrIdeal.τ Cert.MixrIdeal.sig) → Buf (Elt Ideal) ℓ) (g : Dev Cert.MixrIdeal.nD → PrngReg)
    (m' : (ℓ : Loc Cert.GatedRetIdeal.nD Cert.GatedRetIdeal.τ Cert.GatedRetIdeal.sig) → Buf (Elt Ideal) ℓ) (g' : Dev Cert.GatedRetIdeal.nD → PrngReg), Pre_MixrIdeal m →
    (∀ c : Dev Cert.MixrIdeal.nD,
      m' ((c.tc : Thread Cert.GatedRetIdeal.nD Cert.GatedRetIdeal.τ).loc Cert.GatedRetIdeal.main_arg0) = m ((c.tc : Thread Cert.MixrIdeal.nD Cert.MixrIdeal.τ).loc Cert.MixrIdeal.main_arg0)
      ∧ m' ((c.tc : Thread Cert.GatedRetIdeal.nD Cert.GatedRetIdeal.τ).loc Cert.GatedRetIdeal.main_arg1) = m ((c.tc : Thread Cert.MixrIdeal.nD Cert.MixrIdeal.τ).loc Cert.MixrIdeal.main_arg1)
      ∧ m' ((c.tc : Thread Cert.GatedRetIdeal.nD Cert.GatedRetIdeal.τ).loc Cert.GatedRetIdeal.main_arg2) = m ((c.tc : Thread Cert.MixrIdeal.nD Cert.MixrIdeal.τ).loc Cert.MixrIdeal.main_arg2)) →
    ∃ (v0 : (c : Dev Cert.MixrIdeal.nD) → Buf (Elt Ideal) ((c.tc : Thread Cert.MixrIdeal.nD Cert.MixrIdeal.τ).loc Cert.MixrIdeal.main_v0)),
      θ_run (Cert.MixrIdeal.defs (F := Ideal)) (onTc (τ := Cert.MixrIdeal.τ) (Cert.MixrIdeal.main (F := Ideal))) ⟨m, fun _ => 0, g⟩ (fun r => ∀ c : Dev Cert.MixrIdeal.nD,
          r.2.mem ((c.tc : Thread Cert.MixrIdeal.nD Cert.MixrIdeal.τ).loc Cert.MixrIdeal.main_v0) = v0 c
          ∧ r.2.mem ((c.tc : Thread Cert.MixrIdeal.nD Cert.MixrIdeal.τ).loc Cert.MixrIdeal.main_arg0) = m ((c.tc : Thread Cert.MixrIdeal.nD Cert.MixrIdeal.τ).loc Cert.MixrIdeal.main_arg0)
          ∧ r.2.mem ((c.tc : Thread Cert.MixrIdeal.nD Cert.MixrIdeal.τ).loc Cert.MixrIdeal.main_arg1) = m ((c.tc : Thread Cert.MixrIdeal.nD Cert.MixrIdeal.τ).loc Cert.MixrIdeal.main_arg1)
          ∧ r.2.mem ((c.tc : Thread Cert.MixrIdeal.nD Cert.MixrIdeal.τ).loc Cert.MixrIdeal.main_arg2) = m ((c.tc : Thread Cert.MixrIdeal.nD Cert.MixrIdeal.τ).loc Cert.MixrIdeal.main_arg2))
      ∧ θ_run (Cert.GatedRetIdeal.defs (F := Ideal)) (onTc (τ := Cert.GatedRetIdeal.τ) (Cert.GatedRetIdeal.main (F := Ideal))) ⟨m', fun _ => 0, g'⟩ (fun r => ∀ c : Dev Cert.GatedRetIdeal.nD,
          r.2.mem ((c.tc : Thread Cert.GatedRetIdeal.nD Cert.GatedRetIdeal.τ).loc Cert.GatedRetIdeal.main_v23) = v0 c
          ∧ r.2.mem ((c.tc : Thread Cert.GatedRetIdeal.nD Cert.GatedRetIdeal.τ).loc Cert.GatedRetIdeal.main_arg0) = m' ((c.tc : Thread Cert.GatedRetIdeal.nD Cert.GatedRetIdeal.τ).loc Cert.GatedRetIdeal.main_arg0)
          ∧ r.2.mem ((c.tc : Thread Cert.GatedRetIdeal.nD Cert.GatedRetIdeal.τ).loc Cert.GatedRetIdeal.main_arg1) = m' ((c.tc : Thread Cert.GatedRetIdeal.nD Cert.GatedRetIdeal.τ).loc Cert.GatedRetIdeal.main_arg1)
          ∧ r.2.mem ((c.tc : Thread Cert.GatedRetIdeal.nD Cert.GatedRetIdeal.τ).loc Cert.GatedRetIdeal.main_arg2) = m' ((c.tc : Thread Cert.GatedRetIdeal.nD Cert.GatedRetIdeal.τ).loc Cert.GatedRetIdeal.main_arg2))

def preserves_MixrBwd_MixrBwdIdeal : Prop :=
  True

def algebraic_MixrBwdIdeal_GatedRetGradIdeal [hMixrBwdIdeal : Cert.MixrBwdIdeal.Facts] [hGatedRetGradIdeal : Cert.GatedRetGradIdeal.Facts] : Prop :=
  ∀ (m : (ℓ : Loc Cert.MixrBwdIdeal.nD Cert.MixrBwdIdeal.τ Cert.MixrBwdIdeal.sig) → Buf (Elt Ideal) ℓ) (g : Dev Cert.MixrBwdIdeal.nD → PrngReg)
    (m' : (ℓ : Loc Cert.GatedRetGradIdeal.nD Cert.GatedRetGradIdeal.τ Cert.GatedRetGradIdeal.sig) → Buf (Elt Ideal) ℓ) (g' : Dev Cert.GatedRetGradIdeal.nD → PrngReg), Pre_MixrBwdIdeal m →
    (∀ c : Dev Cert.MixrBwdIdeal.nD,
      m' ((c.tc : Thread Cert.GatedRetGradIdeal.nD Cert.GatedRetGradIdeal.τ).loc Cert.GatedRetGradIdeal.main_arg0) = m ((c.tc : Thread Cert.MixrBwdIdeal.nD Cert.MixrBwdIdeal.τ).loc Cert.MixrBwdIdeal.main_arg0)
      ∧ m' ((c.tc : Thread Cert.GatedRetGradIdeal.nD Cert.GatedRetGradIdeal.τ).loc Cert.GatedRetGradIdeal.main_arg1) = m ((c.tc : Thread Cert.MixrBwdIdeal.nD Cert.MixrBwdIdeal.τ).loc Cert.MixrBwdIdeal.main_arg1)
      ∧ m' ((c.tc : Thread Cert.GatedRetGradIdeal.nD Cert.GatedRetGradIdeal.τ).loc Cert.GatedRetGradIdeal.main_arg2) = m ((c.tc : Thread Cert.MixrBwdIdeal.nD Cert.MixrBwdIdeal.τ).loc Cert.MixrBwdIdeal.main_arg2)
      ∧ m' ((c.tc : Thread Cert.GatedRetGradIdeal.nD Cert.GatedRetGradIdeal.τ).loc Cert.GatedRetGradIdeal.main_arg3) = m ((c.tc : Thread Cert.MixrBwdIdeal.nD Cert.MixrBwdIdeal.τ).loc Cert.MixrBwdIdeal.main_arg3)) →
    ∃ (v0 : (c : Dev Cert.MixrBwdIdeal.nD) → Buf (Elt Ideal) ((c.tc : Thread Cert.MixrBwdIdeal.nD Cert.MixrBwdIdeal.τ).loc Cert.MixrBwdIdeal.main_v0_0)) (v1 : (c : Dev Cert.MixrBwdIdeal.nD) → Buf (Elt Ideal) ((c.tc : Thread Cert.MixrBwdIdeal.nD Cert.MixrBwdIdeal.τ).loc Cert.MixrBwdIdeal.main_v0_1)) (v2 : (c : Dev Cert.MixrBwdIdeal.nD) → Buf (Elt Ideal) ((c.tc : Thread Cert.MixrBwdIdeal.nD Cert.MixrBwdIdeal.τ).loc Cert.MixrBwdIdeal.main_v0_2)),
      θ_run (Cert.MixrBwdIdeal.defs (F := Ideal)) (onTc (τ := Cert.MixrBwdIdeal.τ) (Cert.MixrBwdIdeal.main (F := Ideal))) ⟨m, fun _ => 0, g⟩ (fun r => ∀ c : Dev Cert.MixrBwdIdeal.nD,
          r.2.mem ((c.tc : Thread Cert.MixrBwdIdeal.nD Cert.MixrBwdIdeal.τ).loc Cert.MixrBwdIdeal.main_v0_0) = v0 c
          ∧ r.2.mem ((c.tc : Thread Cert.MixrBwdIdeal.nD Cert.MixrBwdIdeal.τ).loc Cert.MixrBwdIdeal.main_v0_1) = v1 c
          ∧ r.2.mem ((c.tc : Thread Cert.MixrBwdIdeal.nD Cert.MixrBwdIdeal.τ).loc Cert.MixrBwdIdeal.main_v0_2) = v2 c
          ∧ r.2.mem ((c.tc : Thread Cert.MixrBwdIdeal.nD Cert.MixrBwdIdeal.τ).loc Cert.MixrBwdIdeal.main_arg0) = m ((c.tc : Thread Cert.MixrBwdIdeal.nD Cert.MixrBwdIdeal.τ).loc Cert.MixrBwdIdeal.main_arg0)
          ∧ r.2.mem ((c.tc : Thread Cert.MixrBwdIdeal.nD Cert.MixrBwdIdeal.τ).loc Cert.MixrBwdIdeal.main_arg1) = m ((c.tc : Thread Cert.MixrBwdIdeal.nD Cert.MixrBwdIdeal.τ).loc Cert.MixrBwdIdeal.main_arg1)
          ∧ r.2.mem ((c.tc : Thread Cert.MixrBwdIdeal.nD Cert.MixrBwdIdeal.τ).loc Cert.MixrBwdIdeal.main_arg2) = m ((c.tc : Thread Cert.MixrBwdIdeal.nD Cert.MixrBwdIdeal.τ).loc Cert.MixrBwdIdeal.main_arg2)
          ∧ r.2.mem ((c.tc : Thread Cert.MixrBwdIdeal.nD Cert.MixrBwdIdeal.τ).loc Cert.MixrBwdIdeal.main_arg3) = m ((c.tc : Thread Cert.MixrBwdIdeal.nD Cert.MixrBwdIdeal.τ).loc Cert.MixrBwdIdeal.main_arg3))
      ∧ θ_run (Cert.GatedRetGradIdeal.defs (F := Ideal)) (onTc (τ := Cert.GatedRetGradIdeal.τ) (Cert.GatedRetGradIdeal.main (F := Ideal))) ⟨m', fun _ => 0, g'⟩ (fun r => ∀ c : Dev Cert.GatedRetGradIdeal.nD,
          r.2.mem ((c.tc : Thread Cert.GatedRetGradIdeal.nD Cert.GatedRetGradIdeal.τ).loc Cert.GatedRetGradIdeal.main_v59) = v0 c
          ∧ r.2.mem ((c.tc : Thread Cert.GatedRetGradIdeal.nD Cert.GatedRetGradIdeal.τ).loc Cert.GatedRetGradIdeal.main_v60) = v1 c
          ∧ r.2.mem ((c.tc : Thread Cert.GatedRetGradIdeal.nD Cert.GatedRetGradIdeal.τ).loc Cert.GatedRetGradIdeal.main_v41) = v2 c
          ∧ r.2.mem ((c.tc : Thread Cert.GatedRetGradIdeal.nD Cert.GatedRetGradIdeal.τ).loc Cert.GatedRetGradIdeal.main_arg0) = m' ((c.tc : Thread Cert.GatedRetGradIdeal.nD Cert.GatedRetGradIdeal.τ).loc Cert.GatedRetGradIdeal.main_arg0)
          ∧ r.2.mem ((c.tc : Thread Cert.GatedRetGradIdeal.nD Cert.GatedRetGradIdeal.τ).loc Cert.GatedRetGradIdeal.main_arg1) = m' ((c.tc : Thread Cert.GatedRetGradIdeal.nD Cert.GatedRetGradIdeal.τ).loc Cert.GatedRetGradIdeal.main_arg1)
          ∧ r.2.mem ((c.tc : Thread Cert.GatedRetGradIdeal.nD Cert.GatedRetGradIdeal.τ).loc Cert.GatedRetGradIdeal.main_arg2) = m' ((c.tc : Thread Cert.GatedRetGradIdeal.nD Cert.GatedRetGradIdeal.τ).loc Cert.GatedRetGradIdeal.main_arg2)
          ∧ r.2.mem ((c.tc : Thread Cert.GatedRetGradIdeal.nD Cert.GatedRetGradIdeal.τ).loc Cert.GatedRetGradIdeal.main_arg3) = m' ((c.tc : Thread Cert.GatedRetGradIdeal.nD Cert.GatedRetGradIdeal.τ).loc Cert.GatedRetGradIdeal.main_arg3))

def preserves_Mixg_MixgIdeal : Prop :=
  True

def algebraic_MixgIdeal_GatedGlaIdeal [hMixgIdeal : Cert.MixgIdeal.Facts] [hGatedGlaIdeal : Cert.GatedGlaIdeal.Facts] : Prop :=
  ∀ (m : (ℓ : Loc Cert.MixgIdeal.nD Cert.MixgIdeal.τ Cert.MixgIdeal.sig) → Buf (Elt Ideal) ℓ) (g : Dev Cert.MixgIdeal.nD → PrngReg)
    (m' : (ℓ : Loc Cert.GatedGlaIdeal.nD Cert.GatedGlaIdeal.τ Cert.GatedGlaIdeal.sig) → Buf (Elt Ideal) ℓ) (g' : Dev Cert.GatedGlaIdeal.nD → PrngReg), Pre_MixgIdeal m →
    (∀ c : Dev Cert.MixgIdeal.nD,
      m' ((c.tc : Thread Cert.GatedGlaIdeal.nD Cert.GatedGlaIdeal.τ).loc Cert.GatedGlaIdeal.main_arg0) = m ((c.tc : Thread Cert.MixgIdeal.nD Cert.MixgIdeal.τ).loc Cert.MixgIdeal.main_arg0)
      ∧ m' ((c.tc : Thread Cert.GatedGlaIdeal.nD Cert.GatedGlaIdeal.τ).loc Cert.GatedGlaIdeal.main_arg1) = m ((c.tc : Thread Cert.MixgIdeal.nD Cert.MixgIdeal.τ).loc Cert.MixgIdeal.main_arg1)
      ∧ m' ((c.tc : Thread Cert.GatedGlaIdeal.nD Cert.GatedGlaIdeal.τ).loc Cert.GatedGlaIdeal.main_arg2) = m ((c.tc : Thread Cert.MixgIdeal.nD Cert.MixgIdeal.τ).loc Cert.MixgIdeal.main_arg2)) →
    ∃ (v0 : (c : Dev Cert.MixgIdeal.nD) → Buf (Elt Ideal) ((c.tc : Thread Cert.MixgIdeal.nD Cert.MixgIdeal.τ).loc Cert.MixgIdeal.main_v0)),
      θ_run (Cert.MixgIdeal.defs (F := Ideal)) (onTc (τ := Cert.MixgIdeal.τ) (Cert.MixgIdeal.main (F := Ideal))) ⟨m, fun _ => 0, g⟩ (fun r => ∀ c : Dev Cert.MixgIdeal.nD,
          r.2.mem ((c.tc : Thread Cert.MixgIdeal.nD Cert.MixgIdeal.τ).loc Cert.MixgIdeal.main_v0) = v0 c
          ∧ r.2.mem ((c.tc : Thread Cert.MixgIdeal.nD Cert.MixgIdeal.τ).loc Cert.MixgIdeal.main_arg0) = m ((c.tc : Thread Cert.MixgIdeal.nD Cert.MixgIdeal.τ).loc Cert.MixgIdeal.main_arg0)
          ∧ r.2.mem ((c.tc : Thread Cert.MixgIdeal.nD Cert.MixgIdeal.τ).loc Cert.MixgIdeal.main_arg1) = m ((c.tc : Thread Cert.MixgIdeal.nD Cert.MixgIdeal.τ).loc Cert.MixgIdeal.main_arg1)
          ∧ r.2.mem ((c.tc : Thread Cert.MixgIdeal.nD Cert.MixgIdeal.τ).loc Cert.MixgIdeal.main_arg2) = m ((c.tc : Thread Cert.MixgIdeal.nD Cert.MixgIdeal.τ).loc Cert.MixgIdeal.main_arg2))
      ∧ θ_run (Cert.GatedGlaIdeal.defs (F := Ideal)) (onTc (τ := Cert.GatedGlaIdeal.τ) (Cert.GatedGlaIdeal.main (F := Ideal))) ⟨m', fun _ => 0, g'⟩ (fun r => ∀ c : Dev Cert.GatedGlaIdeal.nD,
          r.2.mem ((c.tc : Thread Cert.GatedGlaIdeal.nD Cert.GatedGlaIdeal.τ).loc Cert.GatedGlaIdeal.main_v23) = v0 c
          ∧ r.2.mem ((c.tc : Thread Cert.GatedGlaIdeal.nD Cert.GatedGlaIdeal.τ).loc Cert.GatedGlaIdeal.main_arg0) = m' ((c.tc : Thread Cert.GatedGlaIdeal.nD Cert.GatedGlaIdeal.τ).loc Cert.GatedGlaIdeal.main_arg0)
          ∧ r.2.mem ((c.tc : Thread Cert.GatedGlaIdeal.nD Cert.GatedGlaIdeal.τ).loc Cert.GatedGlaIdeal.main_arg1) = m' ((c.tc : Thread Cert.GatedGlaIdeal.nD Cert.GatedGlaIdeal.τ).loc Cert.GatedGlaIdeal.main_arg1)
          ∧ r.2.mem ((c.tc : Thread Cert.GatedGlaIdeal.nD Cert.GatedGlaIdeal.τ).loc Cert.GatedGlaIdeal.main_arg2) = m' ((c.tc : Thread Cert.GatedGlaIdeal.nD Cert.GatedGlaIdeal.τ).loc Cert.GatedGlaIdeal.main_arg2))

def preserves_MixgBwd_MixgBwdIdeal : Prop :=
  True

def algebraic_MixgBwdIdeal_GatedGlaGradIdeal [hMixgBwdIdeal : Cert.MixgBwdIdeal.Facts] [hGatedGlaGradIdeal : Cert.GatedGlaGradIdeal.Facts] : Prop :=
  ∀ (m : (ℓ : Loc Cert.MixgBwdIdeal.nD Cert.MixgBwdIdeal.τ Cert.MixgBwdIdeal.sig) → Buf (Elt Ideal) ℓ) (g : Dev Cert.MixgBwdIdeal.nD → PrngReg)
    (m' : (ℓ : Loc Cert.GatedGlaGradIdeal.nD Cert.GatedGlaGradIdeal.τ Cert.GatedGlaGradIdeal.sig) → Buf (Elt Ideal) ℓ) (g' : Dev Cert.GatedGlaGradIdeal.nD → PrngReg), Pre_MixgBwdIdeal m →
    (∀ c : Dev Cert.MixgBwdIdeal.nD,
      m' ((c.tc : Thread Cert.GatedGlaGradIdeal.nD Cert.GatedGlaGradIdeal.τ).loc Cert.GatedGlaGradIdeal.main_arg0) = m ((c.tc : Thread Cert.MixgBwdIdeal.nD Cert.MixgBwdIdeal.τ).loc Cert.MixgBwdIdeal.main_arg0)
      ∧ m' ((c.tc : Thread Cert.GatedGlaGradIdeal.nD Cert.GatedGlaGradIdeal.τ).loc Cert.GatedGlaGradIdeal.main_arg1) = m ((c.tc : Thread Cert.MixgBwdIdeal.nD Cert.MixgBwdIdeal.τ).loc Cert.MixgBwdIdeal.main_arg1)
      ∧ m' ((c.tc : Thread Cert.GatedGlaGradIdeal.nD Cert.GatedGlaGradIdeal.τ).loc Cert.GatedGlaGradIdeal.main_arg2) = m ((c.tc : Thread Cert.MixgBwdIdeal.nD Cert.MixgBwdIdeal.τ).loc Cert.MixgBwdIdeal.main_arg2)
      ∧ m' ((c.tc : Thread Cert.GatedGlaGradIdeal.nD Cert.GatedGlaGradIdeal.τ).loc Cert.GatedGlaGradIdeal.main_arg3) = m ((c.tc : Thread Cert.MixgBwdIdeal.nD Cert.MixgBwdIdeal.τ).loc Cert.MixgBwdIdeal.main_arg3)) →
    ∃ (v0 : (c : Dev Cert.MixgBwdIdeal.nD) → Buf (Elt Ideal) ((c.tc : Thread Cert.MixgBwdIdeal.nD Cert.MixgBwdIdeal.τ).loc Cert.MixgBwdIdeal.main_v0_0)) (v1 : (c : Dev Cert.MixgBwdIdeal.nD) → Buf (Elt Ideal) ((c.tc : Thread Cert.MixgBwdIdeal.nD Cert.MixgBwdIdeal.τ).loc Cert.MixgBwdIdeal.main_v0_1)) (v2 : (c : Dev Cert.MixgBwdIdeal.nD) → Buf (Elt Ideal) ((c.tc : Thread Cert.MixgBwdIdeal.nD Cert.MixgBwdIdeal.τ).loc Cert.MixgBwdIdeal.main_v0_2)),
      θ_run (Cert.MixgBwdIdeal.defs (F := Ideal)) (onTc (τ := Cert.MixgBwdIdeal.τ) (Cert.MixgBwdIdeal.main (F := Ideal))) ⟨m, fun _ => 0, g⟩ (fun r => ∀ c : Dev Cert.MixgBwdIdeal.nD,
          r.2.mem ((c.tc : Thread Cert.MixgBwdIdeal.nD Cert.MixgBwdIdeal.τ).loc Cert.MixgBwdIdeal.main_v0_0) = v0 c
          ∧ r.2.mem ((c.tc : Thread Cert.MixgBwdIdeal.nD Cert.MixgBwdIdeal.τ).loc Cert.MixgBwdIdeal.main_v0_1) = v1 c
          ∧ r.2.mem ((c.tc : Thread Cert.MixgBwdIdeal.nD Cert.MixgBwdIdeal.τ).loc Cert.MixgBwdIdeal.main_v0_2) = v2 c
          ∧ r.2.mem ((c.tc : Thread Cert.MixgBwdIdeal.nD Cert.MixgBwdIdeal.τ).loc Cert.MixgBwdIdeal.main_arg0) = m ((c.tc : Thread Cert.MixgBwdIdeal.nD Cert.MixgBwdIdeal.τ).loc Cert.MixgBwdIdeal.main_arg0)
          ∧ r.2.mem ((c.tc : Thread Cert.MixgBwdIdeal.nD Cert.MixgBwdIdeal.τ).loc Cert.MixgBwdIdeal.main_arg1) = m ((c.tc : Thread Cert.MixgBwdIdeal.nD Cert.MixgBwdIdeal.τ).loc Cert.MixgBwdIdeal.main_arg1)
          ∧ r.2.mem ((c.tc : Thread Cert.MixgBwdIdeal.nD Cert.MixgBwdIdeal.τ).loc Cert.MixgBwdIdeal.main_arg2) = m ((c.tc : Thread Cert.MixgBwdIdeal.nD Cert.MixgBwdIdeal.τ).loc Cert.MixgBwdIdeal.main_arg2)
          ∧ r.2.mem ((c.tc : Thread Cert.MixgBwdIdeal.nD Cert.MixgBwdIdeal.τ).loc Cert.MixgBwdIdeal.main_arg3) = m ((c.tc : Thread Cert.MixgBwdIdeal.nD Cert.MixgBwdIdeal.τ).loc Cert.MixgBwdIdeal.main_arg3))
      ∧ θ_run (Cert.GatedGlaGradIdeal.defs (F := Ideal)) (onTc (τ := Cert.GatedGlaGradIdeal.τ) (Cert.GatedGlaGradIdeal.main (F := Ideal))) ⟨m', fun _ => 0, g'⟩ (fun r => ∀ c : Dev Cert.GatedGlaGradIdeal.nD,
          r.2.mem ((c.tc : Thread Cert.GatedGlaGradIdeal.nD Cert.GatedGlaGradIdeal.τ).loc Cert.GatedGlaGradIdeal.main_v59) = v0 c
          ∧ r.2.mem ((c.tc : Thread Cert.GatedGlaGradIdeal.nD Cert.GatedGlaGradIdeal.τ).loc Cert.GatedGlaGradIdeal.main_v60) = v1 c
          ∧ r.2.mem ((c.tc : Thread Cert.GatedGlaGradIdeal.nD Cert.GatedGlaGradIdeal.τ).loc Cert.GatedGlaGradIdeal.main_v41) = v2 c
          ∧ r.2.mem ((c.tc : Thread Cert.GatedGlaGradIdeal.nD Cert.GatedGlaGradIdeal.τ).loc Cert.GatedGlaGradIdeal.main_arg0) = m' ((c.tc : Thread Cert.GatedGlaGradIdeal.nD Cert.GatedGlaGradIdeal.τ).loc Cert.GatedGlaGradIdeal.main_arg0)
          ∧ r.2.mem ((c.tc : Thread Cert.GatedGlaGradIdeal.nD Cert.GatedGlaGradIdeal.τ).loc Cert.GatedGlaGradIdeal.main_arg1) = m' ((c.tc : Thread Cert.GatedGlaGradIdeal.nD Cert.GatedGlaGradIdeal.τ).loc Cert.GatedGlaGradIdeal.main_arg1)
          ∧ r.2.mem ((c.tc : Thread Cert.GatedGlaGradIdeal.nD Cert.GatedGlaGradIdeal.τ).loc Cert.GatedGlaGradIdeal.main_arg2) = m' ((c.tc : Thread Cert.GatedGlaGradIdeal.nD Cert.GatedGlaGradIdeal.τ).loc Cert.GatedGlaGradIdeal.main_arg2)
          ∧ r.2.mem ((c.tc : Thread Cert.GatedGlaGradIdeal.nD Cert.GatedGlaGradIdeal.τ).loc Cert.GatedGlaGradIdeal.main_arg3) = m' ((c.tc : Thread Cert.GatedGlaGradIdeal.nD Cert.GatedGlaGradIdeal.τ).loc Cert.GatedGlaGradIdeal.main_arg3))

def preserves_PrepAqBwd_PrepAqBwdIdeal : Prop :=
  True

def algebraic_PrepAqBwdIdeal_QueriesGradIdeal [hPrepAqBwdIdeal : Cert.PrepAqBwdIdeal.Facts] [hQueriesGradIdeal : Cert.QueriesGradIdeal.Facts] : Prop :=
  ∀ (m : (ℓ : Loc Cert.PrepAqBwdIdeal.nD Cert.PrepAqBwdIdeal.τ Cert.PrepAqBwdIdeal.sig) → Buf (Elt Ideal) ℓ) (g : Dev Cert.PrepAqBwdIdeal.nD → PrngReg)
    (m' : (ℓ : Loc Cert.QueriesGradIdeal.nD Cert.QueriesGradIdeal.τ Cert.QueriesGradIdeal.sig) → Buf (Elt Ideal) ℓ) (g' : Dev Cert.QueriesGradIdeal.nD → PrngReg), Pre_PrepAqBwdIdeal m →
    (∀ c : Dev Cert.PrepAqBwdIdeal.nD,
      m' ((c.tc : Thread Cert.QueriesGradIdeal.nD Cert.QueriesGradIdeal.τ).loc Cert.QueriesGradIdeal.main_arg0) = m ((c.tc : Thread Cert.PrepAqBwdIdeal.nD Cert.PrepAqBwdIdeal.τ).loc Cert.PrepAqBwdIdeal.main_arg0)
      ∧ m' ((c.tc : Thread Cert.QueriesGradIdeal.nD Cert.QueriesGradIdeal.τ).loc Cert.QueriesGradIdeal.main_arg1) = m ((c.tc : Thread Cert.PrepAqBwdIdeal.nD Cert.PrepAqBwdIdeal.τ).loc Cert.PrepAqBwdIdeal.main_arg1)
      ∧ m' ((c.tc : Thread Cert.QueriesGradIdeal.nD Cert.QueriesGradIdeal.τ).loc Cert.QueriesGradIdeal.main_arg2) = m ((c.tc : Thread Cert.PrepAqBwdIdeal.nD Cert.PrepAqBwdIdeal.τ).loc Cert.PrepAqBwdIdeal.main_arg2)
      ∧ m' ((c.tc : Thread Cert.QueriesGradIdeal.nD Cert.QueriesGradIdeal.τ).loc Cert.QueriesGradIdeal.main_arg3) = m ((c.tc : Thread Cert.PrepAqBwdIdeal.nD Cert.PrepAqBwdIdeal.τ).loc Cert.PrepAqBwdIdeal.main_arg3)
      ∧ m' ((c.tc : Thread Cert.QueriesGradIdeal.nD Cert.QueriesGradIdeal.τ).loc Cert.QueriesGradIdeal.main_arg4) = m ((c.tc : Thread Cert.PrepAqBwdIdeal.nD Cert.PrepAqBwdIdeal.τ).loc Cert.PrepAqBwdIdeal.main_arg4)) →
    ∃ (v0 : (c : Dev Cert.PrepAqBwdIdeal.nD) → Buf (Elt Ideal) ((c.tc : Thread Cert.PrepAqBwdIdeal.nD Cert.PrepAqBwdIdeal.τ).loc Cert.PrepAqBwdIdeal.main_v7_0)) (v1 : (c : Dev Cert.PrepAqBwdIdeal.nD) → Buf (Elt Ideal) ((c.tc : Thread Cert.PrepAqBwdIdeal.nD Cert.PrepAqBwdIdeal.τ).loc Cert.PrepAqBwdIdeal.main_v7_1)),
      θ_run (Cert.PrepAqBwdIdeal.defs (F := Ideal)) (onTc (τ := Cert.PrepAqBwdIdeal.τ) (Cert.PrepAqBwdIdeal.main (F := Ideal))) ⟨m, fun _ => 0, g⟩ (fun r => ∀ c : Dev Cert.PrepAqBwdIdeal.nD,
          r.2.mem ((c.tc : Thread Cert.PrepAqBwdIdeal.nD Cert.PrepAqBwdIdeal.τ).loc Cert.PrepAqBwdIdeal.main_v7_0) = v0 c
          ∧ r.2.mem ((c.tc : Thread Cert.PrepAqBwdIdeal.nD Cert.PrepAqBwdIdeal.τ).loc Cert.PrepAqBwdIdeal.main_v7_1) = v1 c
          ∧ r.2.mem ((c.tc : Thread Cert.PrepAqBwdIdeal.nD Cert.PrepAqBwdIdeal.τ).loc Cert.PrepAqBwdIdeal.main_arg0) = m ((c.tc : Thread Cert.PrepAqBwdIdeal.nD Cert.PrepAqBwdIdeal.τ).loc Cert.PrepAqBwdIdeal.main_arg0)
          ∧ r.2.mem ((c.tc : Thread Cert.PrepAqBwdIdeal.nD Cert.PrepAqBwdIdeal.τ).loc Cert.PrepAqBwdIdeal.main_arg1) = m ((c.tc : Thread Cert.PrepAqBwdIdeal.nD Cert.PrepAqBwdIdeal.τ).loc Cert.PrepAqBwdIdeal.main_arg1)
          ∧ r.2.mem ((c.tc : Thread Cert.PrepAqBwdIdeal.nD Cert.PrepAqBwdIdeal.τ).loc Cert.PrepAqBwdIdeal.main_arg2) = m ((c.tc : Thread Cert.PrepAqBwdIdeal.nD Cert.PrepAqBwdIdeal.τ).loc Cert.PrepAqBwdIdeal.main_arg2)
          ∧ r.2.mem ((c.tc : Thread Cert.PrepAqBwdIdeal.nD Cert.PrepAqBwdIdeal.τ).loc Cert.PrepAqBwdIdeal.main_arg3) = m ((c.tc : Thread Cert.PrepAqBwdIdeal.nD Cert.PrepAqBwdIdeal.τ).loc Cert.PrepAqBwdIdeal.main_arg3)
          ∧ r.2.mem ((c.tc : Thread Cert.PrepAqBwdIdeal.nD Cert.PrepAqBwdIdeal.τ).loc Cert.PrepAqBwdIdeal.main_arg4) = m ((c.tc : Thread Cert.PrepAqBwdIdeal.nD Cert.PrepAqBwdIdeal.τ).loc Cert.PrepAqBwdIdeal.main_arg4))
      ∧ θ_run (Cert.QueriesGradIdeal.defs (F := Ideal)) (onTc (τ := Cert.QueriesGradIdeal.τ) (Cert.QueriesGradIdeal.main (F := Ideal))) ⟨m', fun _ => 0, g'⟩ (fun r => ∀ c : Dev Cert.QueriesGradIdeal.nD,
          r.2.mem ((c.tc : Thread Cert.QueriesGradIdeal.nD Cert.QueriesGradIdeal.τ).loc Cert.QueriesGradIdeal.main_v141) = v0 c
          ∧ r.2.mem ((c.tc : Thread Cert.QueriesGradIdeal.nD Cert.QueriesGradIdeal.τ).loc Cert.QueriesGradIdeal.main_v120) = v1 c
          ∧ r.2.mem ((c.tc : Thread Cert.QueriesGradIdeal.nD Cert.QueriesGradIdeal.τ).loc Cert.QueriesGradIdeal.main_arg0) = m' ((c.tc : Thread Cert.QueriesGradIdeal.nD Cert.QueriesGradIdeal.τ).loc Cert.QueriesGradIdeal.main_arg0)
          ∧ r.2.mem ((c.tc : Thread Cert.QueriesGradIdeal.nD Cert.QueriesGradIdeal.τ).loc Cert.QueriesGradIdeal.main_arg1) = m' ((c.tc : Thread Cert.QueriesGradIdeal.nD Cert.QueriesGradIdeal.τ).loc Cert.QueriesGradIdeal.main_arg1)
          ∧ r.2.mem ((c.tc : Thread Cert.QueriesGradIdeal.nD Cert.QueriesGradIdeal.τ).loc Cert.QueriesGradIdeal.main_arg2) = m' ((c.tc : Thread Cert.QueriesGradIdeal.nD Cert.QueriesGradIdeal.τ).loc Cert.QueriesGradIdeal.main_arg2)
          ∧ r.2.mem ((c.tc : Thread Cert.QueriesGradIdeal.nD Cert.QueriesGradIdeal.τ).loc Cert.QueriesGradIdeal.main_arg3) = m' ((c.tc : Thread Cert.QueriesGradIdeal.nD Cert.QueriesGradIdeal.τ).loc Cert.QueriesGradIdeal.main_arg3)
          ∧ r.2.mem ((c.tc : Thread Cert.QueriesGradIdeal.nD Cert.QueriesGradIdeal.τ).loc Cert.QueriesGradIdeal.main_arg4) = m' ((c.tc : Thread Cert.QueriesGradIdeal.nD Cert.QueriesGradIdeal.τ).loc Cert.QueriesGradIdeal.main_arg4))

def preserves_PrepAkBwd_PrepAkBwdIdeal : Prop :=
  True

def algebraic_PrepAkBwdIdeal_KeysGradIdeal [hPrepAkBwdIdeal : Cert.PrepAkBwdIdeal.Facts] [hKeysGradIdeal : Cert.KeysGradIdeal.Facts] : Prop :=
  ∀ (m : (ℓ : Loc Cert.PrepAkBwdIdeal.nD Cert.PrepAkBwdIdeal.τ Cert.PrepAkBwdIdeal.sig) → Buf (Elt Ideal) ℓ) (g : Dev Cert.PrepAkBwdIdeal.nD → PrngReg)
    (m' : (ℓ : Loc Cert.KeysGradIdeal.nD Cert.KeysGradIdeal.τ Cert.KeysGradIdeal.sig) → Buf (Elt Ideal) ℓ) (g' : Dev Cert.KeysGradIdeal.nD → PrngReg), Pre_PrepAkBwdIdeal m →
    (∀ c : Dev Cert.PrepAkBwdIdeal.nD,
      m' ((c.tc : Thread Cert.KeysGradIdeal.nD Cert.KeysGradIdeal.τ).loc Cert.KeysGradIdeal.main_arg0) = m ((c.tc : Thread Cert.PrepAkBwdIdeal.nD Cert.PrepAkBwdIdeal.τ).loc Cert.PrepAkBwdIdeal.main_arg0)
      ∧ m' ((c.tc : Thread Cert.KeysGradIdeal.nD Cert.KeysGradIdeal.τ).loc Cert.KeysGradIdeal.main_arg1) = m ((c.tc : Thread Cert.PrepAkBwdIdeal.nD Cert.PrepAkBwdIdeal.τ).loc Cert.PrepAkBwdIdeal.main_arg1)
      ∧ m' ((c.tc : Thread Cert.KeysGradIdeal.nD Cert.KeysGradIdeal.τ).loc Cert.KeysGradIdeal.main_arg2) = m ((c.tc : Thread Cert.PrepAkBwdIdeal.nD Cert.PrepAkBwdIdeal.τ).loc Cert.PrepAkBwdIdeal.main_arg2)
      ∧ m' ((c.tc : Thread Cert.KeysGradIdeal.nD Cert.KeysGradIdeal.τ).loc Cert.KeysGradIdeal.main_arg3) = m ((c.tc : Thread Cert.PrepAkBwdIdeal.nD Cert.PrepAkBwdIdeal.τ).loc Cert.PrepAkBwdIdeal.main_arg3)
      ∧ m' ((c.tc : Thread Cert.KeysGradIdeal.nD Cert.KeysGradIdeal.τ).loc Cert.KeysGradIdeal.main_arg4) = m ((c.tc : Thread Cert.PrepAkBwdIdeal.nD Cert.PrepAkBwdIdeal.τ).loc Cert.PrepAkBwdIdeal.main_arg4)) →
    ∃ (v0 : (c : Dev Cert.PrepAkBwdIdeal.nD) → Buf (Elt Ideal) ((c.tc : Thread Cert.PrepAkBwdIdeal.nD Cert.PrepAkBwdIdeal.τ).loc Cert.PrepAkBwdIdeal.main_v7_0)) (v1 : (c : Dev Cert.PrepAkBwdIdeal.nD) → Buf (Elt Ideal) ((c.tc : Thread Cert.PrepAkBwdIdeal.nD Cert.PrepAkBwdIdeal.τ).loc Cert.PrepAkBwdIdeal.main_v7_1)),
      θ_run (Cert.PrepAkBwdIdeal.defs (F := Ideal)) (onTc (τ := Cert.PrepAkBwdIdeal.τ) (Cert.PrepAkBwdIdeal.main (F := Ideal))) ⟨m, fun _ => 0, g⟩ (fun r => ∀ c : Dev Cert.PrepAkBwdIdeal.nD,
          r.2.mem ((c.tc : Thread Cert.PrepAkBwdIdeal.nD Cert.PrepAkBwdIdeal.τ).loc Cert.PrepAkBwdIdeal.main_v7_0) = v0 c
          ∧ r.2.mem ((c.tc : Thread Cert.PrepAkBwdIdeal.nD Cert.PrepAkBwdIdeal.τ).loc Cert.PrepAkBwdIdeal.main_v7_1) = v1 c
          ∧ r.2.mem ((c.tc : Thread Cert.PrepAkBwdIdeal.nD Cert.PrepAkBwdIdeal.τ).loc Cert.PrepAkBwdIdeal.main_arg0) = m ((c.tc : Thread Cert.PrepAkBwdIdeal.nD Cert.PrepAkBwdIdeal.τ).loc Cert.PrepAkBwdIdeal.main_arg0)
          ∧ r.2.mem ((c.tc : Thread Cert.PrepAkBwdIdeal.nD Cert.PrepAkBwdIdeal.τ).loc Cert.PrepAkBwdIdeal.main_arg1) = m ((c.tc : Thread Cert.PrepAkBwdIdeal.nD Cert.PrepAkBwdIdeal.τ).loc Cert.PrepAkBwdIdeal.main_arg1)
          ∧ r.2.mem ((c.tc : Thread Cert.PrepAkBwdIdeal.nD Cert.PrepAkBwdIdeal.τ).loc Cert.PrepAkBwdIdeal.main_arg2) = m ((c.tc : Thread Cert.PrepAkBwdIdeal.nD Cert.PrepAkBwdIdeal.τ).loc Cert.PrepAkBwdIdeal.main_arg2)
          ∧ r.2.mem ((c.tc : Thread Cert.PrepAkBwdIdeal.nD Cert.PrepAkBwdIdeal.τ).loc Cert.PrepAkBwdIdeal.main_arg3) = m ((c.tc : Thread Cert.PrepAkBwdIdeal.nD Cert.PrepAkBwdIdeal.τ).loc Cert.PrepAkBwdIdeal.main_arg3)
          ∧ r.2.mem ((c.tc : Thread Cert.PrepAkBwdIdeal.nD Cert.PrepAkBwdIdeal.τ).loc Cert.PrepAkBwdIdeal.main_arg4) = m ((c.tc : Thread Cert.PrepAkBwdIdeal.nD Cert.PrepAkBwdIdeal.τ).loc Cert.PrepAkBwdIdeal.main_arg4))
      ∧ θ_run (Cert.KeysGradIdeal.defs (F := Ideal)) (onTc (τ := Cert.KeysGradIdeal.τ) (Cert.KeysGradIdeal.main (F := Ideal))) ⟨m', fun _ => 0, g'⟩ (fun r => ∀ c : Dev Cert.KeysGradIdeal.nD,
          r.2.mem ((c.tc : Thread Cert.KeysGradIdeal.nD Cert.KeysGradIdeal.τ).loc Cert.KeysGradIdeal.main_v141) = v0 c
          ∧ r.2.mem ((c.tc : Thread Cert.KeysGradIdeal.nD Cert.KeysGradIdeal.τ).loc Cert.KeysGradIdeal.main_v120) = v1 c
          ∧ r.2.mem ((c.tc : Thread Cert.KeysGradIdeal.nD Cert.KeysGradIdeal.τ).loc Cert.KeysGradIdeal.main_arg0) = m' ((c.tc : Thread Cert.KeysGradIdeal.nD Cert.KeysGradIdeal.τ).loc Cert.KeysGradIdeal.main_arg0)
          ∧ r.2.mem ((c.tc : Thread Cert.KeysGradIdeal.nD Cert.KeysGradIdeal.τ).loc Cert.KeysGradIdeal.main_arg1) = m' ((c.tc : Thread Cert.KeysGradIdeal.nD Cert.KeysGradIdeal.τ).loc Cert.KeysGradIdeal.main_arg1)
          ∧ r.2.mem ((c.tc : Thread Cert.KeysGradIdeal.nD Cert.KeysGradIdeal.τ).loc Cert.KeysGradIdeal.main_arg2) = m' ((c.tc : Thread Cert.KeysGradIdeal.nD Cert.KeysGradIdeal.τ).loc Cert.KeysGradIdeal.main_arg2)
          ∧ r.2.mem ((c.tc : Thread Cert.KeysGradIdeal.nD Cert.KeysGradIdeal.τ).loc Cert.KeysGradIdeal.main_arg3) = m' ((c.tc : Thread Cert.KeysGradIdeal.nD Cert.KeysGradIdeal.τ).loc Cert.KeysGradIdeal.main_arg3)
          ∧ r.2.mem ((c.tc : Thread Cert.KeysGradIdeal.nD Cert.KeysGradIdeal.τ).loc Cert.KeysGradIdeal.main_arg4) = m' ((c.tc : Thread Cert.KeysGradIdeal.nD Cert.KeysGradIdeal.τ).loc Cert.KeysGradIdeal.main_arg4))

def preserves_PrepRqBwd_PrepRqBwdIdeal : Prop :=
  True

def algebraic_PrepRqBwdIdeal_RetQueriesGradIdeal [hPrepRqBwdIdeal : Cert.PrepRqBwdIdeal.Facts] [hRetQueriesGradIdeal : Cert.RetQueriesGradIdeal.Facts] : Prop :=
  ∀ (m : (ℓ : Loc Cert.PrepRqBwdIdeal.nD Cert.PrepRqBwdIdeal.τ Cert.PrepRqBwdIdeal.sig) → Buf (Elt Ideal) ℓ) (g : Dev Cert.PrepRqBwdIdeal.nD → PrngReg)
    (m' : (ℓ : Loc Cert.RetQueriesGradIdeal.nD Cert.RetQueriesGradIdeal.τ Cert.RetQueriesGradIdeal.sig) → Buf (Elt Ideal) ℓ) (g' : Dev Cert.RetQueriesGradIdeal.nD → PrngReg), Pre_PrepRqBwdIdeal m →
    (∀ c : Dev Cert.PrepRqBwdIdeal.nD,
      m' ((c.tc : Thread Cert.RetQueriesGradIdeal.nD Cert.RetQueriesGradIdeal.τ).loc Cert.RetQueriesGradIdeal.main_arg0) = m ((c.tc : Thread Cert.PrepRqBwdIdeal.nD Cert.PrepRqBwdIdeal.τ).loc Cert.PrepRqBwdIdeal.main_arg0)
      ∧ m' ((c.tc : Thread Cert.RetQueriesGradIdeal.nD Cert.RetQueriesGradIdeal.τ).loc Cert.RetQueriesGradIdeal.main_arg1) = m ((c.tc : Thread Cert.PrepRqBwdIdeal.nD Cert.PrepRqBwdIdeal.τ).loc Cert.PrepRqBwdIdeal.main_arg1)
      ∧ m' ((c.tc : Thread Cert.RetQueriesGradIdeal.nD Cert.RetQueriesGradIdeal.τ).loc Cert.RetQueriesGradIdeal.main_arg2) = m ((c.tc : Thread Cert.PrepRqBwdIdeal.nD Cert.PrepRqBwdIdeal.τ).loc Cert.PrepRqBwdIdeal.main_arg2)
      ∧ m' ((c.tc : Thread Cert.RetQueriesGradIdeal.nD Cert.RetQueriesGradIdeal.τ).loc Cert.RetQueriesGradIdeal.main_arg3) = m ((c.tc : Thread Cert.PrepRqBwdIdeal.nD Cert.PrepRqBwdIdeal.τ).loc Cert.PrepRqBwdIdeal.main_arg3)) →
    ∃ (v0 : (c : Dev Cert.PrepRqBwdIdeal.nD) → Buf (Elt Ideal) ((c.tc : Thread Cert.PrepRqBwdIdeal.nD Cert.PrepRqBwdIdeal.τ).loc Cert.PrepRqBwdIdeal.main_v7)),
      θ_run (Cert.PrepRqBwdIdeal.defs (F := Ideal)) (onTc (τ := Cert.PrepRqBwdIdeal.τ) (Cert.PrepRqBwdIdeal.main (F := Ideal))) ⟨m, fun _ => 0, g⟩ (fun r => ∀ c : Dev Cert.PrepRqBwdIdeal.nD,
          r.2.mem ((c.tc : Thread Cert.PrepRqBwdIdeal.nD Cert.PrepRqBwdIdeal.τ).loc Cert.PrepRqBwdIdeal.main_v7) = v0 c
          ∧ r.2.mem ((c.tc : Thread Cert.PrepRqBwdIdeal.nD Cert.PrepRqBwdIdeal.τ).loc Cert.PrepRqBwdIdeal.main_arg0) = m ((c.tc : Thread Cert.PrepRqBwdIdeal.nD Cert.PrepRqBwdIdeal.τ).loc Cert.PrepRqBwdIdeal.main_arg0)
          ∧ r.2.mem ((c.tc : Thread Cert.PrepRqBwdIdeal.nD Cert.PrepRqBwdIdeal.τ).loc Cert.PrepRqBwdIdeal.main_arg1) = m ((c.tc : Thread Cert.PrepRqBwdIdeal.nD Cert.PrepRqBwdIdeal.τ).loc Cert.PrepRqBwdIdeal.main_arg1)
          ∧ r.2.mem ((c.tc : Thread Cert.PrepRqBwdIdeal.nD Cert.PrepRqBwdIdeal.τ).loc Cert.PrepRqBwdIdeal.main_arg2) = m ((c.tc : Thread Cert.PrepRqBwdIdeal.nD Cert.PrepRqBwdIdeal.τ).loc Cert.PrepRqBwdIdeal.main_arg2)
          ∧ r.2.mem ((c.tc : Thread Cert.PrepRqBwdIdeal.nD Cert.PrepRqBwdIdeal.τ).loc Cert.PrepRqBwdIdeal.main_arg3) = m ((c.tc : Thread Cert.PrepRqBwdIdeal.nD Cert.PrepRqBwdIdeal.τ).loc Cert.PrepRqBwdIdeal.main_arg3))
      ∧ θ_run (Cert.RetQueriesGradIdeal.defs (F := Ideal)) (onTc (τ := Cert.RetQueriesGradIdeal.τ) (Cert.RetQueriesGradIdeal.main (F := Ideal))) ⟨m', fun _ => 0, g'⟩ (fun r => ∀ c : Dev Cert.RetQueriesGradIdeal.nD,
          r.2.mem ((c.tc : Thread Cert.RetQueriesGradIdeal.nD Cert.RetQueriesGradIdeal.τ).loc Cert.RetQueriesGradIdeal.main_v64) = v0 c
          ∧ r.2.mem ((c.tc : Thread Cert.RetQueriesGradIdeal.nD Cert.RetQueriesGradIdeal.τ).loc Cert.RetQueriesGradIdeal.main_arg0) = m' ((c.tc : Thread Cert.RetQueriesGradIdeal.nD Cert.RetQueriesGradIdeal.τ).loc Cert.RetQueriesGradIdeal.main_arg0)
          ∧ r.2.mem ((c.tc : Thread Cert.RetQueriesGradIdeal.nD Cert.RetQueriesGradIdeal.τ).loc Cert.RetQueriesGradIdeal.main_arg1) = m' ((c.tc : Thread Cert.RetQueriesGradIdeal.nD Cert.RetQueriesGradIdeal.τ).loc Cert.RetQueriesGradIdeal.main_arg1)
          ∧ r.2.mem ((c.tc : Thread Cert.RetQueriesGradIdeal.nD Cert.RetQueriesGradIdeal.τ).loc Cert.RetQueriesGradIdeal.main_arg2) = m' ((c.tc : Thread Cert.RetQueriesGradIdeal.nD Cert.RetQueriesGradIdeal.τ).loc Cert.RetQueriesGradIdeal.main_arg2)
          ∧ r.2.mem ((c.tc : Thread Cert.RetQueriesGradIdeal.nD Cert.RetQueriesGradIdeal.τ).loc Cert.RetQueriesGradIdeal.main_arg3) = m' ((c.tc : Thread Cert.RetQueriesGradIdeal.nD Cert.RetQueriesGradIdeal.τ).loc Cert.RetQueriesGradIdeal.main_arg3))

def preserves_PrepRkBwd_PrepRkBwdIdeal : Prop :=
  True

def algebraic_PrepRkBwdIdeal_RetKeysGradIdeal [hPrepRkBwdIdeal : Cert.PrepRkBwdIdeal.Facts] [hRetKeysGradIdeal : Cert.RetKeysGradIdeal.Facts] : Prop :=
  ∀ (m : (ℓ : Loc Cert.PrepRkBwdIdeal.nD Cert.PrepRkBwdIdeal.τ Cert.PrepRkBwdIdeal.sig) → Buf (Elt Ideal) ℓ) (g : Dev Cert.PrepRkBwdIdeal.nD → PrngReg)
    (m' : (ℓ : Loc Cert.RetKeysGradIdeal.nD Cert.RetKeysGradIdeal.τ Cert.RetKeysGradIdeal.sig) → Buf (Elt Ideal) ℓ) (g' : Dev Cert.RetKeysGradIdeal.nD → PrngReg), Pre_PrepRkBwdIdeal m →
    (∀ c : Dev Cert.PrepRkBwdIdeal.nD,
      m' ((c.tc : Thread Cert.RetKeysGradIdeal.nD Cert.RetKeysGradIdeal.τ).loc Cert.RetKeysGradIdeal.main_arg0) = m ((c.tc : Thread Cert.PrepRkBwdIdeal.nD Cert.PrepRkBwdIdeal.τ).loc Cert.PrepRkBwdIdeal.main_arg0)
      ∧ m' ((c.tc : Thread Cert.RetKeysGradIdeal.nD Cert.RetKeysGradIdeal.τ).loc Cert.RetKeysGradIdeal.main_arg1) = m ((c.tc : Thread Cert.PrepRkBwdIdeal.nD Cert.PrepRkBwdIdeal.τ).loc Cert.PrepRkBwdIdeal.main_arg1)
      ∧ m' ((c.tc : Thread Cert.RetKeysGradIdeal.nD Cert.RetKeysGradIdeal.τ).loc Cert.RetKeysGradIdeal.main_arg2) = m ((c.tc : Thread Cert.PrepRkBwdIdeal.nD Cert.PrepRkBwdIdeal.τ).loc Cert.PrepRkBwdIdeal.main_arg2)
      ∧ m' ((c.tc : Thread Cert.RetKeysGradIdeal.nD Cert.RetKeysGradIdeal.τ).loc Cert.RetKeysGradIdeal.main_arg3) = m ((c.tc : Thread Cert.PrepRkBwdIdeal.nD Cert.PrepRkBwdIdeal.τ).loc Cert.PrepRkBwdIdeal.main_arg3)) →
    ∃ (v0 : (c : Dev Cert.PrepRkBwdIdeal.nD) → Buf (Elt Ideal) ((c.tc : Thread Cert.PrepRkBwdIdeal.nD Cert.PrepRkBwdIdeal.τ).loc Cert.PrepRkBwdIdeal.main_v7)),
      θ_run (Cert.PrepRkBwdIdeal.defs (F := Ideal)) (onTc (τ := Cert.PrepRkBwdIdeal.τ) (Cert.PrepRkBwdIdeal.main (F := Ideal))) ⟨m, fun _ => 0, g⟩ (fun r => ∀ c : Dev Cert.PrepRkBwdIdeal.nD,
          r.2.mem ((c.tc : Thread Cert.PrepRkBwdIdeal.nD Cert.PrepRkBwdIdeal.τ).loc Cert.PrepRkBwdIdeal.main_v7) = v0 c
          ∧ r.2.mem ((c.tc : Thread Cert.PrepRkBwdIdeal.nD Cert.PrepRkBwdIdeal.τ).loc Cert.PrepRkBwdIdeal.main_arg0) = m ((c.tc : Thread Cert.PrepRkBwdIdeal.nD Cert.PrepRkBwdIdeal.τ).loc Cert.PrepRkBwdIdeal.main_arg0)
          ∧ r.2.mem ((c.tc : Thread Cert.PrepRkBwdIdeal.nD Cert.PrepRkBwdIdeal.τ).loc Cert.PrepRkBwdIdeal.main_arg1) = m ((c.tc : Thread Cert.PrepRkBwdIdeal.nD Cert.PrepRkBwdIdeal.τ).loc Cert.PrepRkBwdIdeal.main_arg1)
          ∧ r.2.mem ((c.tc : Thread Cert.PrepRkBwdIdeal.nD Cert.PrepRkBwdIdeal.τ).loc Cert.PrepRkBwdIdeal.main_arg2) = m ((c.tc : Thread Cert.PrepRkBwdIdeal.nD Cert.PrepRkBwdIdeal.τ).loc Cert.PrepRkBwdIdeal.main_arg2)
          ∧ r.2.mem ((c.tc : Thread Cert.PrepRkBwdIdeal.nD Cert.PrepRkBwdIdeal.τ).loc Cert.PrepRkBwdIdeal.main_arg3) = m ((c.tc : Thread Cert.PrepRkBwdIdeal.nD Cert.PrepRkBwdIdeal.τ).loc Cert.PrepRkBwdIdeal.main_arg3))
      ∧ θ_run (Cert.RetKeysGradIdeal.defs (F := Ideal)) (onTc (τ := Cert.RetKeysGradIdeal.τ) (Cert.RetKeysGradIdeal.main (F := Ideal))) ⟨m', fun _ => 0, g'⟩ (fun r => ∀ c : Dev Cert.RetKeysGradIdeal.nD,
          r.2.mem ((c.tc : Thread Cert.RetKeysGradIdeal.nD Cert.RetKeysGradIdeal.τ).loc Cert.RetKeysGradIdeal.main_v72) = v0 c
          ∧ r.2.mem ((c.tc : Thread Cert.RetKeysGradIdeal.nD Cert.RetKeysGradIdeal.τ).loc Cert.RetKeysGradIdeal.main_arg0) = m' ((c.tc : Thread Cert.RetKeysGradIdeal.nD Cert.RetKeysGradIdeal.τ).loc Cert.RetKeysGradIdeal.main_arg0)
          ∧ r.2.mem ((c.tc : Thread Cert.RetKeysGradIdeal.nD Cert.RetKeysGradIdeal.τ).loc Cert.RetKeysGradIdeal.main_arg1) = m' ((c.tc : Thread Cert.RetKeysGradIdeal.nD Cert.RetKeysGradIdeal.τ).loc Cert.RetKeysGradIdeal.main_arg1)
          ∧ r.2.mem ((c.tc : Thread Cert.RetKeysGradIdeal.nD Cert.RetKeysGradIdeal.τ).loc Cert.RetKeysGradIdeal.main_arg2) = m' ((c.tc : Thread Cert.RetKeysGradIdeal.nD Cert.RetKeysGradIdeal.τ).loc Cert.RetKeysGradIdeal.main_arg2)
          ∧ r.2.mem ((c.tc : Thread Cert.RetKeysGradIdeal.nD Cert.RetKeysGradIdeal.τ).loc Cert.RetKeysGradIdeal.main_arg3) = m' ((c.tc : Thread Cert.RetKeysGradIdeal.nD Cert.RetKeysGradIdeal.τ).loc Cert.RetKeysGradIdeal.main_arg3))

def preserves_PrepAq_PrepAqIdeal : Prop :=
  True

def algebraic_PrepAqIdeal_QueriesIdeal [hPrepAqIdeal : Cert.PrepAqIdeal.Facts] [hQueriesIdeal : Cert.QueriesIdeal.Facts] : Prop :=
  ∀ (m : (ℓ : Loc Cert.PrepAqIdeal.nD Cert.PrepAqIdeal.τ Cert.PrepAqIdeal.sig) → Buf (Elt Ideal) ℓ) (g : Dev Cert.PrepAqIdeal.nD → PrngReg)
    (m' : (ℓ : Loc Cert.QueriesIdeal.nD Cert.QueriesIdeal.τ Cert.QueriesIdeal.sig) → Buf (Elt Ideal) ℓ) (g' : Dev Cert.QueriesIdeal.nD → PrngReg), Pre_PrepAqIdeal m →
    (∀ c : Dev Cert.PrepAqIdeal.nD,
      m' ((c.tc : Thread Cert.QueriesIdeal.nD Cert.QueriesIdeal.τ).loc Cert.QueriesIdeal.main_arg0) = m ((c.tc : Thread Cert.PrepAqIdeal.nD Cert.PrepAqIdeal.τ).loc Cert.PrepAqIdeal.main_arg0)
      ∧ m' ((c.tc : Thread Cert.QueriesIdeal.nD Cert.QueriesIdeal.τ).loc Cert.QueriesIdeal.main_arg1) = m ((c.tc : Thread Cert.PrepAqIdeal.nD Cert.PrepAqIdeal.τ).loc Cert.PrepAqIdeal.main_arg1)
      ∧ m' ((c.tc : Thread Cert.QueriesIdeal.nD Cert.QueriesIdeal.τ).loc Cert.QueriesIdeal.main_arg2) = m ((c.tc : Thread Cert.PrepAqIdeal.nD Cert.PrepAqIdeal.τ).loc Cert.PrepAqIdeal.main_arg2)
      ∧ m' ((c.tc : Thread Cert.QueriesIdeal.nD Cert.QueriesIdeal.τ).loc Cert.QueriesIdeal.main_arg3) = m ((c.tc : Thread Cert.PrepAqIdeal.nD Cert.PrepAqIdeal.τ).loc Cert.PrepAqIdeal.main_arg3)) →
    ∃ (v0 : (c : Dev Cert.PrepAqIdeal.nD) → Buf (Elt Ideal) ((c.tc : Thread Cert.PrepAqIdeal.nD Cert.PrepAqIdeal.τ).loc Cert.PrepAqIdeal.main_v7)),
      θ_run (Cert.PrepAqIdeal.defs (F := Ideal)) (onTc (τ := Cert.PrepAqIdeal.τ) (Cert.PrepAqIdeal.main (F := Ideal))) ⟨m, fun _ => 0, g⟩ (fun r => ∀ c : Dev Cert.PrepAqIdeal.nD,
          r.2.mem ((c.tc : Thread Cert.PrepAqIdeal.nD Cert.PrepAqIdeal.τ).loc Cert.PrepAqIdeal.main_v7) = v0 c
          ∧ r.2.mem ((c.tc : Thread Cert.PrepAqIdeal.nD Cert.PrepAqIdeal.τ).loc Cert.PrepAqIdeal.main_arg0) = m ((c.tc : Thread Cert.PrepAqIdeal.nD Cert.PrepAqIdeal.τ).loc Cert.PrepAqIdeal.main_arg0)
          ∧ r.2.mem ((c.tc : Thread Cert.PrepAqIdeal.nD Cert.PrepAqIdeal.τ).loc Cert.PrepAqIdeal.main_arg1) = m ((c.tc : Thread Cert.PrepAqIdeal.nD Cert.PrepAqIdeal.τ).loc Cert.PrepAqIdeal.main_arg1)
          ∧ r.2.mem ((c.tc : Thread Cert.PrepAqIdeal.nD Cert.PrepAqIdeal.τ).loc Cert.PrepAqIdeal.main_arg2) = m ((c.tc : Thread Cert.PrepAqIdeal.nD Cert.PrepAqIdeal.τ).loc Cert.PrepAqIdeal.main_arg2)
          ∧ r.2.mem ((c.tc : Thread Cert.PrepAqIdeal.nD Cert.PrepAqIdeal.τ).loc Cert.PrepAqIdeal.main_arg3) = m ((c.tc : Thread Cert.PrepAqIdeal.nD Cert.PrepAqIdeal.τ).loc Cert.PrepAqIdeal.main_arg3))
      ∧ θ_run (Cert.QueriesIdeal.defs (F := Ideal)) (onTc (τ := Cert.QueriesIdeal.τ) (Cert.QueriesIdeal.main (F := Ideal))) ⟨m', fun _ => 0, g'⟩ (fun r => ∀ c : Dev Cert.QueriesIdeal.nD,
          r.2.mem ((c.tc : Thread Cert.QueriesIdeal.nD Cert.QueriesIdeal.τ).loc Cert.QueriesIdeal.main_v58) = v0 c
          ∧ r.2.mem ((c.tc : Thread Cert.QueriesIdeal.nD Cert.QueriesIdeal.τ).loc Cert.QueriesIdeal.main_arg0) = m' ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m' ((c.tc : Thread Cert.QueriesIdeal.nD Cert.QueriesIdeal.τ).loc Cert.QueriesIdeal.main_arg1)
          ∧ r.2.mem ((c.tc : Thread Cert.QueriesIdeal.nD Cert.QueriesIdeal.τ).loc Cert.QueriesIdeal.main_arg2) = m' ((c.tc : Thread Cert.QueriesIdeal.nD Cert.QueriesIdeal.τ).loc Cert.QueriesIdeal.main_arg2)
          ∧ r.2.mem ((c.tc : Thread Cert.QueriesIdeal.nD Cert.QueriesIdeal.τ).loc Cert.QueriesIdeal.main_arg3) = m' ((c.tc : Thread Cert.QueriesIdeal.nD Cert.QueriesIdeal.τ).loc Cert.QueriesIdeal.main_arg3))

def preserves_PrepAk_PrepAkIdeal : Prop :=
  True

def algebraic_PrepAkIdeal_KeysIdeal [hPrepAkIdeal : Cert.PrepAkIdeal.Facts] [hKeysIdeal : Cert.KeysIdeal.Facts] : Prop :=
  ∀ (m : (ℓ : Loc Cert.PrepAkIdeal.nD Cert.PrepAkIdeal.τ Cert.PrepAkIdeal.sig) → Buf (Elt Ideal) ℓ) (g : Dev Cert.PrepAkIdeal.nD → PrngReg)
    (m' : (ℓ : Loc Cert.KeysIdeal.nD Cert.KeysIdeal.τ Cert.KeysIdeal.sig) → Buf (Elt Ideal) ℓ) (g' : Dev Cert.KeysIdeal.nD → PrngReg), Pre_PrepAkIdeal m →
    (∀ c : Dev Cert.PrepAkIdeal.nD,
      m' ((c.tc : Thread Cert.KeysIdeal.nD Cert.KeysIdeal.τ).loc Cert.KeysIdeal.main_arg0) = m ((c.tc : Thread Cert.PrepAkIdeal.nD Cert.PrepAkIdeal.τ).loc Cert.PrepAkIdeal.main_arg0)
      ∧ m' ((c.tc : Thread Cert.KeysIdeal.nD Cert.KeysIdeal.τ).loc Cert.KeysIdeal.main_arg1) = m ((c.tc : Thread Cert.PrepAkIdeal.nD Cert.PrepAkIdeal.τ).loc Cert.PrepAkIdeal.main_arg1)
      ∧ m' ((c.tc : Thread Cert.KeysIdeal.nD Cert.KeysIdeal.τ).loc Cert.KeysIdeal.main_arg2) = m ((c.tc : Thread Cert.PrepAkIdeal.nD Cert.PrepAkIdeal.τ).loc Cert.PrepAkIdeal.main_arg2)
      ∧ m' ((c.tc : Thread Cert.KeysIdeal.nD Cert.KeysIdeal.τ).loc Cert.KeysIdeal.main_arg3) = m ((c.tc : Thread Cert.PrepAkIdeal.nD Cert.PrepAkIdeal.τ).loc Cert.PrepAkIdeal.main_arg3)) →
    ∃ (v0 : (c : Dev Cert.PrepAkIdeal.nD) → Buf (Elt Ideal) ((c.tc : Thread Cert.PrepAkIdeal.nD Cert.PrepAkIdeal.τ).loc Cert.PrepAkIdeal.main_v7)),
      θ_run (Cert.PrepAkIdeal.defs (F := Ideal)) (onTc (τ := Cert.PrepAkIdeal.τ) (Cert.PrepAkIdeal.main (F := Ideal))) ⟨m, fun _ => 0, g⟩ (fun r => ∀ c : Dev Cert.PrepAkIdeal.nD,
          r.2.mem ((c.tc : Thread Cert.PrepAkIdeal.nD Cert.PrepAkIdeal.τ).loc Cert.PrepAkIdeal.main_v7) = v0 c
          ∧ r.2.mem ((c.tc : Thread Cert.PrepAkIdeal.nD Cert.PrepAkIdeal.τ).loc Cert.PrepAkIdeal.main_arg0) = m ((c.tc : Thread Cert.PrepAkIdeal.nD Cert.PrepAkIdeal.τ).loc Cert.PrepAkIdeal.main_arg0)
          ∧ r.2.mem ((c.tc : Thread Cert.PrepAkIdeal.nD Cert.PrepAkIdeal.τ).loc Cert.PrepAkIdeal.main_arg1) = m ((c.tc : Thread Cert.PrepAkIdeal.nD Cert.PrepAkIdeal.τ).loc Cert.PrepAkIdeal.main_arg1)
          ∧ r.2.mem ((c.tc : Thread Cert.PrepAkIdeal.nD Cert.PrepAkIdeal.τ).loc Cert.PrepAkIdeal.main_arg2) = m ((c.tc : Thread Cert.PrepAkIdeal.nD Cert.PrepAkIdeal.τ).loc Cert.PrepAkIdeal.main_arg2)
          ∧ r.2.mem ((c.tc : Thread Cert.PrepAkIdeal.nD Cert.PrepAkIdeal.τ).loc Cert.PrepAkIdeal.main_arg3) = m ((c.tc : Thread Cert.PrepAkIdeal.nD Cert.PrepAkIdeal.τ).loc Cert.PrepAkIdeal.main_arg3))
      ∧ θ_run (Cert.KeysIdeal.defs (F := Ideal)) (onTc (τ := Cert.KeysIdeal.τ) (Cert.KeysIdeal.main (F := Ideal))) ⟨m', fun _ => 0, g'⟩ (fun r => ∀ c : Dev Cert.KeysIdeal.nD,
          r.2.mem ((c.tc : Thread Cert.KeysIdeal.nD Cert.KeysIdeal.τ).loc Cert.KeysIdeal.main_v58) = v0 c
          ∧ r.2.mem ((c.tc : Thread Cert.KeysIdeal.nD Cert.KeysIdeal.τ).loc Cert.KeysIdeal.main_arg0) = m' ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m' ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m' ((c.tc : Thread Cert.KeysIdeal.nD Cert.KeysIdeal.τ).loc Cert.KeysIdeal.main_arg2)
          ∧ r.2.mem ((c.tc : Thread Cert.KeysIdeal.nD Cert.KeysIdeal.τ).loc Cert.KeysIdeal.main_arg3) = m' ((c.tc : Thread Cert.KeysIdeal.nD Cert.KeysIdeal.τ).loc Cert.KeysIdeal.main_arg3))

def preserves_PrepRq_PrepRqIdeal : Prop :=
  True

def algebraic_PrepRqIdeal_RetQueriesIdeal [hPrepRqIdeal : Cert.PrepRqIdeal.Facts] [hRetQueriesIdeal : Cert.RetQueriesIdeal.Facts] : Prop :=
  ∀ (m : (ℓ : Loc Cert.PrepRqIdeal.nD Cert.PrepRqIdeal.τ Cert.PrepRqIdeal.sig) → Buf (Elt Ideal) ℓ) (g : Dev Cert.PrepRqIdeal.nD → PrngReg)
    (m' : (ℓ : Loc Cert.RetQueriesIdeal.nD Cert.RetQueriesIdeal.τ Cert.RetQueriesIdeal.sig) → Buf (Elt Ideal) ℓ) (g' : Dev Cert.RetQueriesIdeal.nD → PrngReg), Pre_PrepRqIdeal m →
    (∀ c : Dev Cert.PrepRqIdeal.nD,
      m' ((c.tc : Thread Cert.RetQueriesIdeal.nD Cert.RetQueriesIdeal.τ).loc Cert.RetQueriesIdeal.main_arg0) = m ((c.tc : Thread Cert.PrepRqIdeal.nD Cert.PrepRqIdeal.τ).loc Cert.PrepRqIdeal.main_arg0)
      ∧ m' ((c.tc : Thread Cert.RetQueriesIdeal.nD Cert.RetQueriesIdeal.τ).loc Cert.RetQueriesIdeal.main_arg1) = m ((c.tc : Thread Cert.PrepRqIdeal.nD Cert.PrepRqIdeal.τ).loc Cert.PrepRqIdeal.main_arg1)
      ∧ m' ((c.tc : Thread Cert.RetQueriesIdeal.nD Cert.RetQueriesIdeal.τ).loc Cert.RetQueriesIdeal.main_arg2) = m ((c.tc : Thread Cert.PrepRqIdeal.nD Cert.PrepRqIdeal.τ).loc Cert.PrepRqIdeal.main_arg2)) →
    ∃ (v0 : (c : Dev Cert.PrepRqIdeal.nD) → Buf (Elt Ideal) ((c.tc : Thread Cert.PrepRqIdeal.nD Cert.PrepRqIdeal.τ).loc Cert.PrepRqIdeal.main_v7)),
      θ_run (Cert.PrepRqIdeal.defs (F := Ideal)) (onTc (τ := Cert.PrepRqIdeal.τ) (Cert.PrepRqIdeal.main (F := Ideal))) ⟨m, fun _ => 0, g⟩ (fun r => ∀ c : Dev Cert.PrepRqIdeal.nD,
          r.2.mem ((c.tc : Thread Cert.PrepRqIdeal.nD Cert.PrepRqIdeal.τ).loc Cert.PrepRqIdeal.main_v7) = v0 c
          ∧ r.2.mem ((c.tc : Thread Cert.PrepRqIdeal.nD Cert.PrepRqIdeal.τ).loc Cert.PrepRqIdeal.main_arg0) = m ((c.tc : Thread Cert.PrepRqIdeal.nD Cert.PrepRqIdeal.τ).loc Cert.PrepRqIdeal.main_arg0)
          ∧ r.2.mem ((c.tc : Thread Cert.PrepRqIdeal.nD Cert.PrepRqIdeal.τ).loc Cert.PrepRqIdeal.main_arg1) = m ((c.tc : Thread Cert.PrepRqIdeal.nD Cert.PrepRqIdeal.τ).loc Cert.PrepRqIdeal.main_arg1)
          ∧ r.2.mem ((c.tc : Thread Cert.PrepRqIdeal.nD Cert.PrepRqIdeal.τ).loc Cert.PrepRqIdeal.main_arg2) = m ((c.tc : Thread Cert.PrepRqIdeal.nD Cert.PrepRqIdeal.τ).loc Cert.PrepRqIdeal.main_arg2))
      ∧ θ_run (Cert.RetQueriesIdeal.defs (F := Ideal)) (onTc (τ := Cert.RetQueriesIdeal.τ) (Cert.RetQueriesIdeal.main (F := Ideal))) ⟨m', fun _ => 0, g'⟩ (fun r => ∀ c : Dev Cert.RetQueriesIdeal.nD,
          r.2.mem ((c.tc : Thread Cert.RetQueriesIdeal.nD Cert.RetQueriesIdeal.τ).loc Cert.RetQueriesIdeal.main_v32) = v0 c
          ∧ r.2.mem ((c.tc : Thread Cert.RetQueriesIdeal.nD Cert.RetQueriesIdeal.τ).loc Cert.RetQueriesIdeal.main_arg0) = m' ((c.tc : Thread Cert.RetQueriesIdeal.nD Cert.RetQueriesIdeal.τ).loc Cert.RetQueriesIdeal.main_arg0)
          ∧ r.2.mem ((c.tc : Thread Cert.RetQueriesIdeal.nD Cert.RetQueriesIdeal.τ).loc Cert.RetQueriesIdeal.main_arg1) = m' ((c.tc : Thread Cert.RetQueriesIdeal.nD Cert.RetQueriesIdeal.τ).loc Cert.RetQueriesIdeal.main_arg1)
          ∧ r.2.mem ((c.tc : Thread Cert.RetQueriesIdeal.nD Cert.RetQueriesIdeal.τ).loc Cert.RetQueriesIdeal.main_arg2) = m' ((c.tc : Thread Cert.RetQueriesIdeal.nD Cert.RetQueriesIdeal.τ).loc Cert.RetQueriesIdeal.main_arg2))

def preserves_PrepRk_PrepRkIdeal : Prop :=
  True

def algebraic_PrepRkIdeal_RetKeysIdeal [hPrepRkIdeal : Cert.PrepRkIdeal.Facts] [hRetKeysIdeal : Cert.RetKeysIdeal.Facts] : Prop :=
  ∀ (m : (ℓ : Loc Cert.PrepRkIdeal.nD Cert.PrepRkIdeal.τ Cert.PrepRkIdeal.sig) → Buf (Elt Ideal) ℓ) (g : Dev Cert.PrepRkIdeal.nD → PrngReg)
    (m' : (ℓ : Loc Cert.RetKeysIdeal.nD Cert.RetKeysIdeal.τ Cert.RetKeysIdeal.sig) → Buf (Elt Ideal) ℓ) (g' : Dev Cert.RetKeysIdeal.nD → PrngReg), Pre_PrepRkIdeal m →
    (∀ c : Dev Cert.PrepRkIdeal.nD,
      m' ((c.tc : Thread Cert.RetKeysIdeal.nD Cert.RetKeysIdeal.τ).loc Cert.RetKeysIdeal.main_arg0) = m ((c.tc : Thread Cert.PrepRkIdeal.nD Cert.PrepRkIdeal.τ).loc Cert.PrepRkIdeal.main_arg0)
      ∧ m' ((c.tc : Thread Cert.RetKeysIdeal.nD Cert.RetKeysIdeal.τ).loc Cert.RetKeysIdeal.main_arg1) = m ((c.tc : Thread Cert.PrepRkIdeal.nD Cert.PrepRkIdeal.τ).loc Cert.PrepRkIdeal.main_arg1)
      ∧ m' ((c.tc : Thread Cert.RetKeysIdeal.nD Cert.RetKeysIdeal.τ).loc Cert.RetKeysIdeal.main_arg2) = m ((c.tc : Thread Cert.PrepRkIdeal.nD Cert.PrepRkIdeal.τ).loc Cert.PrepRkIdeal.main_arg2)) →
    ∃ (v0 : (c : Dev Cert.PrepRkIdeal.nD) → Buf (Elt Ideal) ((c.tc : Thread Cert.PrepRkIdeal.nD Cert.PrepRkIdeal.τ).loc Cert.PrepRkIdeal.main_v7)),
      θ_run (Cert.PrepRkIdeal.defs (F := Ideal)) (onTc (τ := Cert.PrepRkIdeal.τ) (Cert.PrepRkIdeal.main (F := Ideal))) ⟨m, fun _ => 0, g⟩ (fun r => ∀ c : Dev Cert.PrepRkIdeal.nD,
          r.2.mem ((c.tc : Thread Cert.PrepRkIdeal.nD Cert.PrepRkIdeal.τ).loc Cert.PrepRkIdeal.main_v7) = v0 c
          ∧ r.2.mem ((c.tc : Thread Cert.PrepRkIdeal.nD Cert.PrepRkIdeal.τ).loc Cert.PrepRkIdeal.main_arg0) = m ((c.tc : Thread Cert.PrepRkIdeal.nD Cert.PrepRkIdeal.τ).loc Cert.PrepRkIdeal.main_arg0)
          ∧ r.2.mem ((c.tc : Thread Cert.PrepRkIdeal.nD Cert.PrepRkIdeal.τ).loc Cert.PrepRkIdeal.main_arg1) = m ((c.tc : Thread Cert.PrepRkIdeal.nD Cert.PrepRkIdeal.τ).loc Cert.PrepRkIdeal.main_arg1)
          ∧ r.2.mem ((c.tc : Thread Cert.PrepRkIdeal.nD Cert.PrepRkIdeal.τ).loc Cert.PrepRkIdeal.main_arg2) = m ((c.tc : Thread Cert.PrepRkIdeal.nD Cert.PrepRkIdeal.τ).loc Cert.PrepRkIdeal.main_arg2))
      ∧ θ_run (Cert.RetKeysIdeal.defs (F := Ideal)) (onTc (τ := Cert.RetKeysIdeal.τ) (Cert.RetKeysIdeal.main (F := Ideal))) ⟨m', fun _ => 0, g'⟩ (fun r => ∀ c : Dev Cert.RetKeysIdeal.nD,
          r.2.mem ((c.tc : Thread Cert.RetKeysIdeal.nD Cert.RetKeysIdeal.τ).loc Cert.RetKeysIdeal.main_v36) = v0 c
          ∧ r.2.mem ((c.tc : Thread Cert.RetKeysIdeal.nD Cert.RetKeysIdeal.τ).loc Cert.RetKeysIdeal.main_arg0) = m' ((c.tc : Thread Cert.RetKeysIdeal.nD Cert.RetKeysIdeal.τ).loc Cert.RetKeysIdeal.main_arg0)
          ∧ r.2.mem ((c.tc : Thread Cert.RetKeysIdeal.nD Cert.RetKeysIdeal.τ).loc Cert.RetKeysIdeal.main_arg1) = m' ((c.tc : Thread Cert.RetKeysIdeal.nD Cert.RetKeysIdeal.τ).loc Cert.RetKeysIdeal.main_arg1)
          ∧ r.2.mem ((c.tc : Thread Cert.RetKeysIdeal.nD Cert.RetKeysIdeal.τ).loc Cert.RetKeysIdeal.main_arg2) = m' ((c.tc : Thread Cert.RetKeysIdeal.nD Cert.RetKeysIdeal.τ).loc Cert.RetKeysIdeal.main_arg2))

def Claim : Prop :=
  ∃ (hAttBwd : Cert.AttBwd.Facts) (hAttBwdIdeal : Cert.AttBwdIdeal.Facts) (hAttGradIdeal : Cert.AttGradIdeal.Facts) (hGwd : Cert.Gwd.Facts) (hGwdIdeal : Cert.GwdIdeal.Facts) (hGwdGradIdeal : Cert.GwdGradIdeal.Facts) (hDt : Cert.Dt.Facts) (hDtIdeal : Cert.DtIdeal.Facts) (hDtGradIdeal : Cert.DtGradIdeal.Facts) (hGwu : Cert.Gwu.Facts) (hGwuIdeal : Cert.GwuIdeal.Facts) (hGwuGradIdeal : Cert.GwuGradIdeal.Facts) (hDh2 : Cert.Dh2.Facts) (hDh2Ideal : Cert.Dh2Ideal.Facts) (hDh2GradIdeal : Cert.Dh2GradIdeal.Facts) (hGwo : Cert.Gwo.Facts) (hGwoIdeal : Cert.GwoIdeal.Facts) (hGwoGradIdeal : Cert.GwoGradIdeal.Facts) (hDcat : Cert.Dcat.Facts) (hDcatIdeal : Cert.DcatIdeal.Facts) (hDcatGradIdeal : Cert.DcatGradIdeal.Facts) (hGwi : Cert.Gwi.Facts) (hGwiIdeal : Cert.GwiIdeal.Facts) (hGwiGradIdeal : Cert.GwiGradIdeal.Facts) (hDh : Cert.Dh.Facts) (hDhIdeal : Cert.DhIdeal.Facts) (hDhGradIdeal : Cert.DhGradIdeal.Facts) (hZ : Cert.Z.Facts) (hZIdeal : Cert.ZIdeal.Facts) (hZFwdIdeal : Cert.ZFwdIdeal.Facts) (hY : Cert.Y.Facts) (hYIdeal : Cert.YIdeal.Facts) (hYFwdIdeal : Cert.YFwdIdeal.Facts) (hU : Cert.U.Facts) (hUIdeal : Cert.UIdeal.Facts) (hUFwdIdeal : Cert.UFwdIdeal.Facts) (hYff : Cert.Yff.Facts) (hYffIdeal : Cert.YffIdeal.Facts) (hYffFwdIdeal : Cert.YffFwdIdeal.Facts) (hAttFwd : Cert.AttFwd.Facts) (hAttFwdIdeal : Cert.AttFwdIdeal.Facts) (hAttendIdeal : Cert.AttendIdeal.Facts) (hConv : Cert.Conv.Facts) (hConvIdeal : Cert.ConvIdeal.Facts) (hConvGluIdeal : Cert.ConvGluIdeal.Facts) (hConvBwd : Cert.ConvBwd.Facts) (hConvBwdIdeal : Cert.ConvBwdIdeal.Facts) (hConvGradIdeal : Cert.ConvGradIdeal.Facts) (hMixr : Cert.Mixr.Facts) (hMixrIdeal : Cert.MixrIdeal.Facts) (hGatedRetIdeal : Cert.GatedRetIdeal.Facts) (hMixrBwd : Cert.MixrBwd.Facts) (hMixrBwdIdeal : Cert.MixrBwdIdeal.Facts) (hGatedRetGradIdeal : Cert.GatedRetGradIdeal.Facts) (hMixg : Cert.Mixg.Facts) (hMixgIdeal : Cert.MixgIdeal.Facts) (hGatedGlaIdeal : Cert.GatedGlaIdeal.Facts) (hMixgBwd : Cert.MixgBwd.Facts) (hMixgBwdIdeal : Cert.MixgBwdIdeal.Facts) (hGatedGlaGradIdeal : Cert.GatedGlaGradIdeal.Facts) (hPrepAqBwd : Cert.PrepAqBwd.Facts) (hPrepAqBwdIdeal : Cert.PrepAqBwdIdeal.Facts) (hQueriesGradIdeal : Cert.QueriesGradIdeal.Facts) (hPrepAkBwd : Cert.PrepAkBwd.Facts) (hPrepAkBwdIdeal : Cert.PrepAkBwdIdeal.Facts) (hKeysGradIdeal : Cert.KeysGradIdeal.Facts) (hPrepRqBwd : Cert.PrepRqBwd.Facts) (hPrepRqBwdIdeal : Cert.PrepRqBwdIdeal.Facts) (hRetQueriesGradIdeal : Cert.RetQueriesGradIdeal.Facts) (hPrepRkBwd : Cert.PrepRkBwd.Facts) (hPrepRkBwdIdeal : Cert.PrepRkBwdIdeal.Facts) (hRetKeysGradIdeal : Cert.RetKeysGradIdeal.Facts) (hPrepAq : Cert.PrepAq.Facts) (hPrepAqIdeal : Cert.PrepAqIdeal.Facts) (hQueriesIdeal : Cert.QueriesIdeal.Facts) (hPrepAk : Cert.PrepAk.Facts) (hPrepAkIdeal : Cert.PrepAkIdeal.Facts) (hKeysIdeal : Cert.KeysIdeal.Facts) (hPrepRq : Cert.PrepRq.Facts) (hPrepRqIdeal : Cert.PrepRqIdeal.Facts) (hRetQueriesIdeal : Cert.RetQueriesIdeal.Facts) (hPrepRk : Cert.PrepRk.Facts) (hPrepRkIdeal : Cert.PrepRkIdeal.Facts) (hRetKeysIdeal : Cert.RetKeysIdeal.Facts) (hPre_finite : Cert.Pre_finite.Facts) (hPre_finite_rows : Cert.Pre_finite_rows.Facts) (hPre_finite_conv : Cert.Pre_finite_conv.Facts),
    quiescent_AttBwd (hAttBwd := hAttBwd)
    ∧ quiescent_AttBwdIdeal (hAttBwdIdeal := hAttBwdIdeal)
    ∧ quiescent_AttBwdIdeal_pre_finite (hAttBwdIdeal := hAttBwdIdeal) (hPre_finite := hPre_finite)
    ∧ quiescent_AttGradIdeal (hAttGradIdeal := hAttGradIdeal)
    ∧ quiescent_AttGradIdeal_pre_finite (hAttGradIdeal := hAttGradIdeal) (hPre_finite := hPre_finite)
    ∧ quiescent_Gwd (hGwd := hGwd)
    ∧ quiescent_GwdIdeal (hGwdIdeal := hGwdIdeal)
    ∧ quiescent_GwdGradIdeal (hGwdGradIdeal := hGwdGradIdeal)
    ∧ quiescent_Dt (hDt := hDt)
    ∧ quiescent_DtIdeal (hDtIdeal := hDtIdeal)
    ∧ quiescent_DtGradIdeal (hDtGradIdeal := hDtGradIdeal)
    ∧ quiescent_Gwu (hGwu := hGwu)
    ∧ quiescent_GwuIdeal (hGwuIdeal := hGwuIdeal)
    ∧ quiescent_GwuGradIdeal (hGwuGradIdeal := hGwuGradIdeal)
    ∧ quiescent_Dh2 (hDh2 := hDh2)
    ∧ quiescent_Dh2Ideal (hDh2Ideal := hDh2Ideal)
    ∧ quiescent_Dh2GradIdeal (hDh2GradIdeal := hDh2GradIdeal)
    ∧ quiescent_Gwo (hGwo := hGwo)
    ∧ quiescent_GwoIdeal (hGwoIdeal := hGwoIdeal)
    ∧ quiescent_GwoGradIdeal (hGwoGradIdeal := hGwoGradIdeal)
    ∧ quiescent_Dcat (hDcat := hDcat)
    ∧ quiescent_DcatIdeal (hDcatIdeal := hDcatIdeal)
    ∧ quiescent_DcatGradIdeal (hDcatGradIdeal := hDcatGradIdeal)
    ∧ quiescent_Gwi (hGwi := hGwi)
    ∧ quiescent_GwiIdeal (hGwiIdeal := hGwiIdeal)
    ∧ quiescent_GwiGradIdeal (hGwiGradIdeal := hGwiGradIdeal)
    ∧ quiescent_Dh (hDh := hDh)
    ∧ quiescent_DhIdeal (hDhIdeal := hDhIdeal)
    ∧ quiescent_DhGradIdeal (hDhGradIdeal := hDhGradIdeal)
    ∧ quiescent_Z (hZ := hZ)
    ∧ quiescent_ZIdeal (hZIdeal := hZIdeal)
    ∧ quiescent_ZFwdIdeal (hZFwdIdeal := hZFwdIdeal)
    ∧ quiescent_Y (hY := hY)
    ∧ quiescent_YIdeal (hYIdeal := hYIdeal)
    ∧ quiescent_YFwdIdeal (hYFwdIdeal := hYFwdIdeal)
    ∧ quiescent_U (hU := hU)
    ∧ quiescent_UIdeal (hUIdeal := hUIdeal)
    ∧ quiescent_UFwdIdeal (hUFwdIdeal := hUFwdIdeal)
    ∧ quiescent_Yff (hYff := hYff)
    ∧ quiescent_YffIdeal (hYffIdeal := hYffIdeal)
    ∧ quiescent_YffFwdIdeal (hYffFwdIdeal := hYffFwdIdeal)
    ∧ quiescent_AttFwd (hAttFwd := hAttFwd)
    ∧ quiescent_AttFwdIdeal (hAttFwdIdeal := hAttFwdIdeal)
    ∧ quiescent_AttFwdIdeal_pre_finite_rows (hAttFwdIdeal := hAttFwdIdeal) (hPre_finite_rows := hPre_finite_rows)
    ∧ quiescent_AttendIdeal (hAttendIdeal := hAttendIdeal)
    ∧ quiescent_AttendIdeal_pre_finite_rows (hAttendIdeal := hAttendIdeal) (hPre_finite_rows := hPre_finite_rows)
    ∧ quiescent_Conv (hConv := hConv)
    ∧ quiescent_ConvIdeal (hConvIdeal := hConvIdeal)
    ∧ quiescent_ConvGluIdeal (hConvGluIdeal := hConvGluIdeal)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvGradIdeal (hConvGradIdeal := hConvGradIdeal)
    ∧ quiescent_ConvGradIdeal_pre_finite_conv (hConvGradIdeal := hConvGradIdeal) (hPre_finite_conv := hPre_finite_conv)
    ∧ quiescent_Mixr (hMixr := hMixr)
    ∧ quiescent_MixrIdeal (hMixrIdeal := hMixrIdeal)
    ∧ quiescent_GatedRetIdeal (hGatedRetIdeal := hGatedRetIdeal)
    ∧ quiescent_MixrBwd (hMixrBwd := hMixrBwd)
    ∧ quiescent_MixrBwdIdeal (hMixrBwdIdeal := hMixrBwdIdeal)
    ∧ quiescent_GatedRetGradIdeal (hGatedRetGradIdeal := hGatedRetGradIdeal)
    ∧ quiescent_Mixg (hMixg := hMixg)
    ∧ quiescent_MixgIdeal (hMixgIdeal := hMixgIdeal)
    ∧ quiescent_GatedGlaIdeal (hGatedGlaIdeal := hGatedGlaIdeal)
    ∧ quiescent_MixgBwd (hMixgBwd := hMixgBwd)
    ∧ quiescent_MixgBwdIdeal (hMixgBwdIdeal := hMixgBwdIdeal)
    ∧ quiescent_GatedGlaGradIdeal (hGatedGlaGradIdeal := hGatedGlaGradIdeal)
    ∧ quiescent_PrepAqBwd (hPrepAqBwd := hPrepAqBwd)
    ∧ quiescent_PrepAqBwdIdeal (hPrepAqBwdIdeal := hPrepAqBwdIdeal)
    ∧ quiescent_QueriesGradIdeal (hQueriesGradIdeal := hQueriesGradIdeal)
    ∧ quiescent_PrepAkBwd (hPrepAkBwd := hPrepAkBwd)
    ∧ quiescent_PrepAkBwdIdeal (hPrepAkBwdIdeal := hPrepAkBwdIdeal)
    ∧ quiescent_KeysGradIdeal (hKeysGradIdeal := hKeysGradIdeal)
    ∧ quiescent_PrepRqBwd (hPrepRqBwd := hPrepRqBwd)
    ∧ quiescent_PrepRqBwdIdeal (hPrepRqBwdIdeal := hPrepRqBwdIdeal)
    ∧ quiescent_RetQueriesGradIdeal (hRetQueriesGradIdeal := hRetQueriesGradIdeal)
    ∧ quiescent_PrepRkBwd (hPrepRkBwd := hPrepRkBwd)
    ∧ quiescent_PrepRkBwdIdeal (hPrepRkBwdIdeal := hPrepRkBwdIdeal)
    ∧ quiescent_RetKeysGradIdeal (hRetKeysGradIdeal := hRetKeysGradIdeal)
    ∧ quiescent_PrepAq (hPrepAq := hPrepAq)
    ∧ quiescent_PrepAqIdeal (hPrepAqIdeal := hPrepAqIdeal)
    ∧ quiescent_QueriesIdeal (hQueriesIdeal := hQueriesIdeal)
    ∧ quiescent_PrepAk (hPrepAk := hPrepAk)
    ∧ quiescent_PrepAkIdeal (hPrepAkIdeal := hPrepAkIdeal)
    ∧ quiescent_KeysIdeal (hKeysIdeal := hKeysIdeal)
    ∧ quiescent_PrepRq (hPrepRq := hPrepRq)
    ∧ quiescent_PrepRqIdeal (hPrepRqIdeal := hPrepRqIdeal)
    ∧ quiescent_RetQueriesIdeal (hRetQueriesIdeal := hRetQueriesIdeal)
    ∧ quiescent_PrepRk (hPrepRk := hPrepRk)
    ∧ quiescent_PrepRkIdeal (hPrepRkIdeal := hPrepRkIdeal)
    ∧ quiescent_RetKeysIdeal (hRetKeysIdeal := hRetKeysIdeal)
    ∧ preserves_AttBwd_AttBwdIdeal
    ∧ algebraic_AttBwdIdeal_AttGradIdeal_pre_finite (hAttBwdIdeal := hAttBwdIdeal) (hAttGradIdeal := hAttGradIdeal) (hPre_finite := hPre_finite)
    ∧ preserves_Gwd_GwdIdeal
    ∧ algebraic_GwdIdeal_GwdGradIdeal (hGwdIdeal := hGwdIdeal) (hGwdGradIdeal := hGwdGradIdeal)
    ∧ preserves_Dt_DtIdeal
    ∧ algebraic_DtIdeal_DtGradIdeal (hDtIdeal := hDtIdeal) (hDtGradIdeal := hDtGradIdeal)
    ∧ preserves_Gwu_GwuIdeal
    ∧ algebraic_GwuIdeal_GwuGradIdeal (hGwuIdeal := hGwuIdeal) (hGwuGradIdeal := hGwuGradIdeal)
    ∧ preserves_Dh2_Dh2Ideal
    ∧ algebraic_Dh2Ideal_Dh2GradIdeal (hDh2Ideal := hDh2Ideal) (hDh2GradIdeal := hDh2GradIdeal)
    ∧ preserves_Gwo_GwoIdeal
    ∧ algebraic_GwoIdeal_GwoGradIdeal (hGwoIdeal := hGwoIdeal) (hGwoGradIdeal := hGwoGradIdeal)
    ∧ preserves_Dcat_DcatIdeal
    ∧ algebraic_DcatIdeal_DcatGradIdeal (hDcatIdeal := hDcatIdeal) (hDcatGradIdeal := hDcatGradIdeal)
    ∧ preserves_Gwi_GwiIdeal
    ∧ algebraic_GwiIdeal_GwiGradIdeal (hGwiIdeal := hGwiIdeal) (hGwiGradIdeal := hGwiGradIdeal)
    ∧ preserves_Dh_DhIdeal
    ∧ algebraic_DhIdeal_DhGradIdeal (hDhIdeal := hDhIdeal) (hDhGradIdeal := hDhGradIdeal)
    ∧ preserves_Z_ZIdeal
    ∧ algebraic_ZIdeal_ZFwdIdeal (hZIdeal := hZIdeal) (hZFwdIdeal := hZFwdIdeal)
    ∧ preserves_Y_YIdeal
    ∧ algebraic_YIdeal_YFwdIdeal (hYIdeal := hYIdeal) (hYFwdIdeal := hYFwdIdeal)
    ∧ preserves_U_UIdeal
    ∧ algebraic_UIdeal_UFwdIdeal (hUIdeal := hUIdeal) (hUFwdIdeal := hUFwdIdeal)
    ∧ preserves_Yff_YffIdeal
    ∧ algebraic_YffIdeal_YffFwdIdeal (hYffIdeal := hYffIdeal) (hYffFwdIdeal := hYffFwdIdeal)
    ∧ preserves_AttFwd_AttFwdIdeal
    ∧ algebraic_AttFwdIdeal_AttendIdeal_pre_finite_rows (hAttFwdIdeal := hAttFwdIdeal) (hAttendIdeal := hAttendIdeal) (hPre_finite_rows := hPre_finite_rows)
    ∧ preserves_Conv_ConvIdeal
    ∧ algebraic_ConvIdeal_ConvGluIdeal (hConvIdeal := hConvIdeal) (hConvGluIdeal := hConvGluIdeal)
    ∧ preserves_ConvBwd_ConvBwdIdeal
    ∧ algebraic_ConvBwdIdeal_ConvGradIdeal_pre_finite_conv (hConvBwdIdeal := hConvBwdIdeal) (hConvGradIdeal := hConvGradIdeal) (hPre_finite_conv := hPre_finite_conv)
    ∧ preserves_Mixr_MixrIdeal
    ∧ algebraic_MixrIdeal_GatedRetIdeal (hMixrIdeal := hMixrIdeal) (hGatedRetIdeal := hGatedRetIdeal)
    ∧ preserves_MixrBwd_MixrBwdIdeal
    ∧ algebraic_MixrBwdIdeal_GatedRetGradIdeal (hMixrBwdIdeal := hMixrBwdIdeal) (hGatedRetGradIdeal := hGatedRetGradIdeal)
    ∧ preserves_Mixg_MixgIdeal
    ∧ algebraic_MixgIdeal_GatedGlaIdeal (hMixgIdeal := hMixgIdeal) (hGatedGlaIdeal := hGatedGlaIdeal)
    ∧ preserves_MixgBwd_MixgBwdIdeal
    ∧ algebraic_MixgBwdIdeal_GatedGlaGradIdeal (hMixgBwdIdeal := hMixgBwdIdeal) (hGatedGlaGradIdeal := hGatedGlaGradIdeal)
    ∧ preserves_PrepAqBwd_PrepAqBwdIdeal
    ∧ algebraic_PrepAqBwdIdeal_QueriesGradIdeal (hPrepAqBwdIdeal := hPrepAqBwdIdeal) (hQueriesGradIdeal := hQueriesGradIdeal)
    ∧ preserves_PrepAkBwd_PrepAkBwdIdeal
    ∧ algebraic_PrepAkBwdIdeal_KeysGradIdeal (hPrepAkBwdIdeal := hPrepAkBwdIdeal) (hKeysGradIdeal := hKeysGradIdeal)
    ∧ preserves_PrepRqBwd_PrepRqBwdIdeal
    ∧ algebraic_PrepRqBwdIdeal_RetQueriesGradIdeal (hPrepRqBwdIdeal := hPrepRqBwdIdeal) (hRetQueriesGradIdeal := hRetQueriesGradIdeal)
    ∧ preserves_PrepRkBwd_PrepRkBwdIdeal
    ∧ algebraic_PrepRkBwdIdeal_RetKeysGradIdeal (hPrepRkBwdIdeal := hPrepRkBwdIdeal) (hRetKeysGradIdeal := hRetKeysGradIdeal)
    ∧ preserves_PrepAq_PrepAqIdeal
    ∧ algebraic_PrepAqIdeal_QueriesIdeal (hPrepAqIdeal := hPrepAqIdeal) (hQueriesIdeal := hQueriesIdeal)
    ∧ preserves_PrepAk_PrepAkIdeal
    ∧ algebraic_PrepAkIdeal_KeysIdeal (hPrepAkIdeal := hPrepAkIdeal) (hKeysIdeal := hKeysIdeal)
    ∧ preserves_PrepRq_PrepRqIdeal
    ∧ algebraic_PrepRqIdeal_RetQueriesIdeal (hPrepRqIdeal := hPrepRqIdeal) (hRetQueriesIdeal := hRetQueriesIdeal)
    ∧ preserves_PrepRk_PrepRkIdeal
    ∧ algebraic_PrepRkIdeal_RetKeysIdeal (hPrepRkIdeal := hPrepRkIdeal) (hRetKeysIdeal := hRetKeysIdeal)
-- ==== Pre_finite.lean ====
abbrev S2304x1024 : Shape := ⟨2, ![2304, 1024]⟩
abbrev S2304x256 : Shape := ⟨2, ![2304, 256]⟩
abbrev S2304x5376 : Shape := ⟨2, ![2304, 5376]⟩
abbrev S2304x2048 : Shape := ⟨2, ![2304, 2048]⟩
abbrev S_ : Shape := ⟨0, ![]⟩

class Facts : Prop where
  bitsLt_bf16_f32 : FTy.bits .bf16 < FTy.bits .f32
  bcast_S_S2304x1024 : S_.BroadcastsInDim S2304x1024 (![] : Fin 0 → Fin S2304x1024.rank)
  bcast_S_S2304x256 : S_.BroadcastsInDim S2304x256 (![] : Fin 0 → Fin S2304x256.rank)

variable [Facts]

def fn {F : FTy → Type} [FloatOps F] (main_arg0 : FVec F S2304x1024 .bf16) (main_arg1 : FVec F S2304x256 .bf16) (main_arg2 : FVec F S2304x5376 .f32) (main_arg3 : FVec F S2304x2048 .bf16) : IVec S2304x1024 1 × IVec S2304x256 1 :=
  let main_v0 : FVec F S2304x1024 .f32 := (extf .f32 · bitsLt_bf16_f32) main_arg0
  let main_v1 : FVec F S2304x1024 .f32 := Host.absf main_v0
  let main_cst : FVec F S_ .f32 := constant S_ .f32 0x7F800000#32
  let main_v2 : FVec F S2304x1024 .f32 := broadcastInDim S2304x1024 ![] bcast_S_S2304x1024 main_cst
  let main_v3 : IVec S2304x1024 1 := cmpf .olt main_v1 main_v2
  let main_v4 : FVec F S2304x256 .f32 := (extf .f32 · bitsLt_bf16_f32) main_arg1
  let main_v5 : FVec F S2304x256 .f32 := Host.absf main_v4
  let main_cst_0 : FVec F S_ .f32 := constant S_ .f32 0x7F800000#32
  let main_v6 : FVec F S2304x256 .f32 := broadcastInDim S2304x256 ![] bcast_S_S2304x256 main_cst_0
  let main_v7 : IVec S2304x256 1 := cmpf .olt main_v5 main_v6
  (main_v3, main_v7)
-- ==== Pre_finite_conv.lean ====
abbrev S2304x11264 : Shape := ⟨2, ![2304, 11264]⟩
abbrev S3x5632 : Shape := ⟨2, ![3, 5632]⟩
abbrev S5632 : Shape := ⟨1, ![5632]⟩
abbrev S2304x5632 : Shape := ⟨2, ![2304, 5632]⟩
abbrev S_ : Shape := ⟨0, ![]⟩

class Facts : Prop where
  slices_S2304x11264_S2304x5632_0_5632 : S2304x11264.Slices ![0, 5632] S2304x5632
  bcast_S_S2304x5632 : S_.BroadcastsInDim S2304x5632 (![] : Fin 0 → Fin S2304x5632.rank)
  bitsLt_bf16_f32 : FTy.bits .bf16 < FTy.bits .f32

variable [Facts]

def fn {F : FTy → Type} [FloatOps F] (main_arg0 : FVec F S2304x11264 .f32) (main_arg1 : FVec F S3x5632 .f32) (main_arg2 : FVec F S5632 .f32) (main_arg3 : FVec F S2304x5632 .bf16) : IVec S2304x5632 1 × IVec S2304x5632 1 :=
  let main_v0 : FVec F S2304x5632 .f32 := (extractStridedSlice S2304x5632 ![0, 5632] · slices_S2304x11264_S2304x5632_0_5632) main_arg0
  let main_v1 : FVec F S2304x5632 .f32 := Host.absf main_v0
  let main_cst : FVec F S_ .f32 := constant S_ .f32 0x7F800000#32
  let main_v2 : FVec F S2304x5632 .f32 := broadcastInDim S2304x5632 ![] bcast_S_S2304x5632 main_cst
  let main_v3 : IVec S2304x5632 1 := cmpf .olt main_v1 main_v2
  let main_v4 : FVec F S2304x5632 .f32 := (extf .f32 · bitsLt_bf16_f32) main_arg3
  let main_v5 : FVec F S2304x5632 .f32 := Host.absf main_v4
  let main_cst_0 : FVec F S_ .f32 := constant S_ .f32 0x7F800000#32
  let main_v6 : FVec F S2304x5632 .f32 := broadcastInDim S2304x5632 ![] bcast_S_S2304x5632 main_cst_0
  let main_v7 : IVec S2304x5632 1 := cmpf .olt main_v5 main_v6
  (main_v3, main_v7)
-- ==== Pre_finite_rows.lean ====
abbrev S2304x1024 : Shape := ⟨2, ![2304, 1024]⟩
abbrev S2304x256 : Shape := ⟨2, ![2304, 256]⟩
abbrev S2304x5376 : Shape := ⟨2, ![2304, 5376]⟩
abbrev S_ : Shape := ⟨0, ![]⟩

class Facts : Prop where
  bitsLt_bf16_f32 : FTy.bits .bf16 < FTy.bits .f32
  bcast_S_S2304x1024 : S_.BroadcastsInDim S2304x1024 (![] : Fin 0 → Fin S2304x1024.rank)
  bcast_S_S2304x256 : S_.BroadcastsInDim S2304x256 (![] : Fin 0 → Fin S2304x256.rank)

variable [Facts]

def fn {F : FTy → Type} [FloatOps F] (main_arg0 : FVec F S2304x1024 .bf16) (main_arg1 : FVec F S2304x256 .bf16) (main_arg2 : FVec F S2304x5376 .f32) : IVec S2304x1024 1 × IVec S2304x256 1 :=
  let main_v0 : FVec F S2304x1024 .f32 := (extf .f32 · bitsLt_bf16_f32) main_arg0
  let main_v1 : FVec F S2304x1024 .f32 := Host.absf main_v0
  let main_cst : FVec F S_ .f32 := constant S_ .f32 0x7F800000#32
  let main_v2 : FVec F S2304x1024 .f32 := broadcastInDim S2304x1024 ![] bcast_S_S2304x1024 main_cst
  let main_v3 : IVec S2304x1024 1 := cmpf .olt main_v1 main_v2
  let main_v4 : FVec F S2304x256 .f32 := (extf .f32 · bitsLt_bf16_f32) main_arg1
  let main_v5 : FVec F S2304x256 .f32 := Host.absf main_v4
  let main_cst_0 : FVec F S_ .f32 := constant S_ .f32 0x7F800000#32
  let main_v6 : FVec F S2304x256 .f32 := broadcastInDim S2304x256 ![] bcast_S_S2304x256 main_cst_0
  let main_v7 : IVec S2304x256 1 := cmpf .olt main_v5 main_v6
  (main_v3, main_v7)
-- ==== AttBwd.lean ====
abbrev S2304x1024 : Shape := ⟨2, ![2304, 1024]⟩
abbrev S2304x256 : Shape := ⟨2, ![2304, 256]⟩
abbrev S2304x5376 : Shape := ⟨2, ![2304, 5376]⟩
abbrev S2304x2048 : Shape := ⟨2, ![2304, 2048]⟩
abbrev S128x512 : Shape := ⟨2, ![128, 512]⟩
abbrev S2304x128 : Shape := ⟨2, ![2304, 128]⟩
abbrev S512x2304 : Shape := ⟨2, ![512, 2304]⟩
abbrev S128x128 : Shape := ⟨2, ![128, 128]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S2304x1024, .bf16⟩
  | .hbm, ⟨1, _⟩ => ⟨S2304x256, .bf16⟩
  | .hbm, ⟨2, _⟩ => ⟨S2304x5376, .f32⟩
  | .hbm, ⟨3, _⟩ => ⟨S2304x2048, .bf16⟩
  | .hbm, ⟨4, _⟩ => ⟨S2304x1024, .f32⟩
  | .hbm, ⟨5, _⟩ => ⟨S2304x256, .f32⟩
  | .hbm, ⟨6, _⟩ => ⟨S2304x256, .f32⟩
  | .local _ .vmem, ⟨0, _⟩ => ⟨S128x512, .bf16⟩
  | .local _ .vmem, ⟨1, _⟩ => ⟨S128x512, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .f32⟩
  | .local _ .vmem, ⟨5, _⟩ => ⟨S2304x128, .f32⟩
  | .local _ .vmem, ⟨6, _⟩ => ⟨S128x512, .bf16⟩
  | .local _ .vmem, ⟨7, _⟩ => ⟨S128x512, .bf16⟩
  | .local _ .vmem, ⟨8, _⟩ => ⟨S128x512, .f32⟩
  | .local _ .vmem, ⟨9, _⟩ => ⟨S128x512, .f32⟩
  | .local _ .vmem, ⟨10, _⟩ => ⟨S2304x128, .f32⟩
  | .local _ .vmem, ⟨11, _⟩ => ⟨S2304x128, .f32⟩
  | .local _ .vmem, ⟨12, _⟩ => ⟨S2304x128, .f32⟩
  | .local _ .vmem, ⟨13, _⟩ => ⟨S2304x128, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 18], ![false, false]⟩

def k0_cond1 (i : grid0.Coords) : BitVec 1 :=
  let arg1 : BitVec 32 := BitVec.ofNat 32 (i 1).val
  let c0_i32 : BitVec 32 := 0#32
  let v55 : BitVec 1 := Scalar.cmpi .eq arg1 c0_i32
  let v56 : BitVec 32 := Scalar.extui v55
  let c0_i32_34 : BitVec 32 := 0#32
  let v57 : BitVec 1 := Scalar.cmpi .ne v56 c0_i32_34
  v57

def k0_cond2 (i : grid0.Coords) : BitVec 1 :=
  let arg1 : BitVec 32 := BitVec.ofNat 32 (i 1).val
  let c0_i32_35 : BitVec 32 := 0#32
  let v58 : BitVec 1 := Scalar.cmpi .ne arg1 c0_i32_35
  let v59 : BitVec 32 := Scalar.extui v58
  let c0_i32_36 : BitVec 32 := 0#32
  let v60 : BitVec 1 := Scalar.cmpi .ne v59 c0_i32_36
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttBwdIdeal.lean ====
variable {F : FTy → Type} [FloatOps F] [Named F]
def κ : String → Option EReal := fun
  | "mask" => some ⊥
  | _ => none
-- ==== AttGradIdeal.lean ====
abbrev S2304x1024 : Shape := ⟨2, ![2304, 1024]⟩
abbrev S2304x256 : Shape := ⟨2, ![2304, 256]⟩
abbrev S2304x5376 : Shape := ⟨2, ![2304, 5376]⟩
abbrev S2304x2048 : Shape := ⟨2, ![2304, 2048]⟩
abbrev S1x2304x1024 : Shape := ⟨3, ![1, 2304, 1024]⟩
abbrev S1x2304x8x128 : Shape := ⟨4, ![1, 2304, 8, 128]⟩
abbrev S1x8x2304x128 : Shape := ⟨4, ![1, 8, 2304, 128]⟩
abbrev S1x2304x256 : Shape := ⟨3, ![1, 2304, 256]⟩
abbrev S1x2304x2x128 : Shape := ⟨4, ![1, 2304, 2, 128]⟩
abbrev S1x2x2304x128 : Shape := ⟨4, ![1, 2, 2304, 128]⟩
abbrev S1x8x2048x128 : Shape := ⟨4, ![1, 8, 2048, 128]⟩
abbrev S1x2x4x2048x128 : Shape := ⟨5, ![1, 2, 4, 2048, 128]⟩
abbrev S1x2x4x2048x2304 : Shape := ⟨5, ![1, 2, 4, 2048, 2304]⟩
abbrev S_ : Shape := ⟨0, ![]⟩
abbrev S1x2x4x2048 : Shape := ⟨4, ![1, 2, 4, 2048]⟩
abbrev S1x2x4x2048x1 : Shape := ⟨5, ![1, 2, 4, 2048, 1]⟩
abbrev S1x8x256x128 : Shape := ⟨4, ![1, 8, 256, 128]⟩
abbrev S1x2x256x128 : Shape := ⟨4, ![1, 2, 256, 128]⟩
abbrev S1x2x4x256x128 : Shape := ⟨5, ![1, 2, 4, 256, 128]⟩
abbrev S1x2x4x256x256 : Shape := ⟨5, ![1, 2, 4, 256, 256]⟩
abbrev S1x2x4x256 : Shape := ⟨4, ![1, 2, 4, 256]⟩
abbrev S1x2x4x256x1 : Shape := ⟨5, ![1, 2, 4, 256, 1]⟩
abbrev S1x256x8x128 : Shape := ⟨4, ![1, 256, 8, 128]⟩
abbrev S1x256x1024 : Shape := ⟨3, ![1, 256, 1024]⟩
abbrev S1x2048x8x128 : Shape := ⟨4, ![1, 2048, 8, 128]⟩
abbrev S1x2048x1024 : Shape := ⟨3, ![1, 2048, 1024]⟩
abbrev S1x2x128x256 : Shape := ⟨4, ![1, 2, 128, 256]⟩
abbrev S2x4x256 : Shape := ⟨3, ![2, 4, 256]⟩
abbrev S1x2x128x2304 : Shape := ⟨4, ![1, 2, 128, 2304]⟩
abbrev S2x4x2048 : Shape := ⟨3, ![2, 4, 2048]⟩

abbrev nBuf : Space → Nat
  | .hbm => 198
  | .vmem => 0
  | .smem => 0
  | _ => 0

abbrev hbmTy0_0 (i : Nat) : BufTy := match i % 128 with
  | 0 => ⟨S2304x1024, .bf16⟩
  | 1 => ⟨S2304x256, .bf16⟩
  | 2 => ⟨S2304x5376, .f32⟩
  | 3 => ⟨S2304x2048, .bf16⟩
  | 4 => ⟨S2304x1024, .f32⟩
  | 5 => ⟨S2304x256, .f32⟩
  | 6 => ⟨S2304x256, .f32⟩
  | 7 => ⟨S1x2304x1024, .f32⟩
  | 8 => ⟨S1x2304x8x128, .f32⟩
  | 9 => ⟨S1x8x2304x128, .f32⟩
  | 10 => ⟨S1x2304x256, .f32⟩
  | 11 => ⟨S1x2304x2x128, .f32⟩
  | 12 => ⟨S1x2x2304x128, .f32⟩
  | 13 => ⟨S1x2304x256, .f32⟩
  | 14 => ⟨S1x2304x2x128, .f32⟩
  | 15 => ⟨S1x2x2304x128, .f32⟩
  | 16 => ⟨S1x8x2048x128, .f32⟩
  | 17 => ⟨S1x2x4x2048x128, .f32⟩
  | 18 => ⟨S1x2x4x2048x2304, .f32⟩
  | 19 => ⟨S_, .f32⟩
  | 20 => ⟨S1x2x4x2048x2304, .f32⟩
  | 21 => ⟨S1x2x4x2048x2304, .f32⟩
  | 22 => ⟨S_, .f32⟩
  | 23 => ⟨S1x2x4x2048, .f32⟩
  | 24 => ⟨S1x2x4x2048x1, .f32⟩
  | 25 => ⟨S1x2x4x2048x2304, .f32⟩
  | 26 => ⟨S1x2x4x2048x2304, .i1⟩
  | 27 => ⟨S1x2x4x2048x2304, .f32⟩
  | 28 => ⟨S_, .f32⟩
  | 29 => ⟨S1x2x4x2048, .f32⟩
  | 30 => ⟨S_, .f32⟩
  | 31 => ⟨S1x2x4x2048, .f32⟩
  | 32 => ⟨S1x2x4x2048, .f32⟩
  | 33 => ⟨S_, .f32⟩
  | 34 => ⟨S1x2x4x2048, .f32⟩
  | 35 => ⟨S1x2x4x2048, .i1⟩
  | 36 => ⟨S_, .f32⟩
  | 37 => ⟨S1x2x4x2048, .f32⟩
  | 38 => ⟨S1x2x4x2048, .i1⟩
  | 39 => ⟨S_, .f32⟩
  | 40 => ⟨S1x2x4x2048, .f32⟩
  | 41 => ⟨S_, .f32⟩
  | 42 => ⟨S1x2x4x2048, .f32⟩
  | 43 => ⟨S_, .f32⟩
  | 44 => ⟨S1x2x4x2048, .f32⟩
  | 45 => ⟨S1x2x4x2048, .f32⟩
  | 46 => ⟨S1x2x4x2048, .f32⟩
  | 47 => ⟨S1x2x4x2048x1, .f32⟩
  | 48 => ⟨S1x2x4x2048x2304, .f32⟩
  | 49 => ⟨S1x2x4x2048x2304, .f32⟩
  | 50 => ⟨S1x2x4x2048x2304, .f32⟩
  | 51 => ⟨S_, .f32⟩
  | 52 => ⟨S1x2x4x2048, .f32⟩
  | 53 => ⟨S1x2x4x2048x1, .f32⟩
  | 54 => ⟨S1x2x4x2048x2304, .f32⟩
  | 55 => ⟨S1x2x4x2048x2304, .f32⟩
  | 56 => ⟨S1x2x4x2048x1, .f32⟩
  | 57 => ⟨S_, .f32⟩
  | 58 => ⟨S1x2x4x2048x1, .f32⟩
  | 59 => ⟨S1x2x4x2048x1, .f32⟩
  | 60 => ⟨S1x2x4x2048x128, .f32⟩
  | 61 => ⟨S1x8x2048x128, .f32⟩
  | 62 => ⟨S1x8x256x128, .f32⟩
  | 63 => ⟨S1x2x256x128, .f32⟩
  | 64 => ⟨S1x2x256x128, .f32⟩
  | 65 => ⟨S1x2x4x256x128, .f32⟩
  | 66 => ⟨S1x2x4x256x256, .f32⟩
  | 67 => ⟨S_, .f32⟩
  | 68 => ⟨S1x2x4x256x256, .f32⟩
  | 69 => ⟨S1x2x4x256x256, .f32⟩
  | 70 => ⟨S_, .f32⟩
  | 71 => ⟨S1x2x4x256, .f32⟩
  | 72 => ⟨S1x2x4x256x1, .f32⟩
  | 73 => ⟨S1x2x4x256x256, .f32⟩
  | 74 => ⟨S1x2x4x256x256, .i1⟩
  | 75 => ⟨S1x2x4x256x256, .f32⟩
  | 76 => ⟨S_, .f32⟩
  | 77 => ⟨S1x2x4x256, .f32⟩
  | 78 => ⟨S_, .f32⟩
  | 79 => ⟨S1x2x4x256, .f32⟩
  | 80 => ⟨S1x2x4x256, .f32⟩
  | 81 => ⟨S_, .f32⟩
  | 82 => ⟨S1x2x4x256, .f32⟩
  | 83 => ⟨S1x2x4x256, .i1⟩
  | 84 => ⟨S_, .f32⟩
  | 85 => ⟨S1x2x4x256, .f32⟩
  | 86 => ⟨S1x2x4x256, .i1⟩
  | 87 => ⟨S_, .f32⟩
  | 88 => ⟨S1x2x4x256, .f32⟩
  | 89 => ⟨S_, .f32⟩
  | 90 => ⟨S1x2x4x256, .f32⟩
  | 91 => ⟨S_, .f32⟩
  | 92 => ⟨S1x2x4x256, .f32⟩
  | 93 => ⟨S1x2x4x256, .f32⟩
  | 94 => ⟨S1x2x4x256, .f32⟩
  | 95 => ⟨S1x2x4x256x1, .f32⟩
  | 96 => ⟨S1x2x4x256x256, .f32⟩
  | 97 => ⟨S1x2x4x256x256, .f32⟩
  | 98 => ⟨S1x2x4x256x256, .f32⟩
  | 99 => ⟨S_, .f32⟩
  | 100 => ⟨S1x2x4x256, .f32⟩
  | 101 => ⟨S1x2x4x256x1, .f32⟩
  | 102 => ⟨S1x2x4x256x256, .f32⟩
  | 103 => ⟨S1x2x4x256x256, .f32⟩
  | 104 => ⟨S1x2x4x256x1, .f32⟩
  | 105 => ⟨S_, .f32⟩
  | 106 => ⟨S1x2x4x256x1, .f32⟩
  | 107 => ⟨S1x2x4x256x1, .f32⟩
  | 108 => ⟨S1x2x4x256x128, .f32⟩
  | 109 => ⟨S1x8x256x128, .f32⟩
  | 110 => ⟨S1x256x8x128, .f32⟩
  | 111 => ⟨S1x256x1024, .f32⟩
  | 112 => ⟨S1x2048x8x128, .f32⟩
  | 113 => ⟨S1x2048x1024, .f32⟩
  | 114 => ⟨S1x2304x1024, .f32⟩
  | 115 => ⟨S2304x1024, .f32⟩
  | 116 => ⟨S2304x1024, .bf16⟩
  | 117 => ⟨S2304x1024, .f32⟩
  | 118 => ⟨S1x2304x1024, .f32⟩
  | 119 => ⟨S1x256x1024, .f32⟩
  | 120 => ⟨S1x2048x1024, .f32⟩
  | 121 => ⟨S1x2048x8x128, .f32⟩
  | 122 => ⟨S1x8x2048x128, .f32⟩
  | 123 => ⟨S1x256x8x128, .f32⟩
  | 124 => ⟨S1x8x256x128, .f32⟩
  | 125 => ⟨S1x2x4x256x128, .f32⟩
  | 126 => ⟨S1x2x128x256, .f32⟩
  | 127 => ⟨S1x2x256x128, .f32⟩
  | _ => ⟨S2304x1024, .bf16⟩

abbrev hbmTy0_1 (i : Nat) : BufTy := match i % 128 with
  | 0 => ⟨S1x2x4x256x256, .f32⟩
  | 1 => ⟨S1x2x4x256x256, .f32⟩
  | 2 => ⟨S1x2x4x256x256, .f32⟩
  | 3 => ⟨S1x2x4x256x256, .f32⟩
  | 4 => ⟨S_, .f32⟩
  | 5 => ⟨S1x2x4x256, .f32⟩
  | 6 => ⟨S1x2x4x256x1, .f32⟩
  | 7 => ⟨S1x2x4x256x1, .f32⟩
  | 8 => ⟨S1x2x4x256x256, .f32⟩
  | 9 => ⟨S1x2x4x256x256, .f32⟩
  | 10 => ⟨S_, .f32⟩
  | 11 => ⟨S2x4x256, .f32⟩
  | 12 => ⟨S1x2x4x256, .f32⟩
  | 13 => ⟨S1x2x4x256x256, .f32⟩
  | 14 => ⟨S1x2x4x256x256, .f32⟩
  | 15 => ⟨S1x2x4x256x256, .f32⟩
  | 16 => ⟨S_, .f32⟩
  | 17 => ⟨S1x2x4x256x256, .f32⟩
  | 18 => ⟨S1x2x4x256x256, .f32⟩
  | 19 => ⟨S1x2x256x128, .f32⟩
  | 20 => ⟨S1x2x4x256x128, .f32⟩
  | 21 => ⟨S1x8x256x128, .f32⟩
  | 22 => ⟨S_, .f32⟩
  | 23 => ⟨S1x2x2304x128, .f32⟩
  | 24 => ⟨S_, .f32⟩
  | 25 => ⟨S1x2x2304x128, .f32⟩
  | 26 => ⟨S_, .f32⟩
  | 27 => ⟨S1x8x2304x128, .f32⟩
  | 28 => ⟨S1x2x4x2048x128, .f32⟩
  | 29 => ⟨S1x2x128x2304, .f32⟩
  | 30 => ⟨S1x2x2304x128, .f32⟩
  | 31 => ⟨S1x2x2304x128, .f32⟩
  | 32 => ⟨S1x2x4x2048x2304, .f32⟩
  | 33 => ⟨S1x2x4x2048x2304, .f32⟩
  | 34 => ⟨S1x2x4x2048x2304, .f32⟩
  | 35 => ⟨S1x2x4x2048x2304, .f32⟩
  | 36 => ⟨S_, .f32⟩
  | 37 => ⟨S1x2x4x2048, .f32⟩
  | 38 => ⟨S1x2x4x2048x1, .f32⟩
  | 39 => ⟨S1x2x4x2048x1, .f32⟩
  | 40 => ⟨S1x2x4x2048x2304, .f32⟩
  | 41 => ⟨S1x2x4x2048x2304, .f32⟩
  | 42 => ⟨S_, .f32⟩
  | 43 => ⟨S2x4x2048, .f32⟩
  | 44 => ⟨S1x2x4x2048, .f32⟩
  | 45 => ⟨S1x2x4x2048x2304, .f32⟩
  | 46 => ⟨S1x2x4x2048x2304, .f32⟩
  | 47 => ⟨S1x2x4x2048x2304, .f32⟩
  | 48 => ⟨S_, .f32⟩
  | 49 => ⟨S1x2x4x2048x2304, .f32⟩
  | 50 => ⟨S1x2x4x2048x2304, .f32⟩
  | 51 => ⟨S1x2x2304x128, .f32⟩
  | 52 => ⟨S1x2x2304x128, .f32⟩
  | 53 => ⟨S1x2x4x2048x128, .f32⟩
  | 54 => ⟨S1x8x2048x128, .f32⟩
  | 55 => ⟨S_, .f32⟩
  | 56 => ⟨S1x8x2304x128, .f32⟩
  | 57 => ⟨S1x8x2304x128, .f32⟩
  | 58 => ⟨S1x2304x2x128, .f32⟩
  | 59 => ⟨S1x2304x256, .f32⟩
  | 60 => ⟨S_, .f32⟩
  | 61 => ⟨S2304x256, .f32⟩
  | 62 => ⟨S1x2304x2x128, .f32⟩
  | 63 => ⟨S1x2304x256, .f32⟩
  | 64 => ⟨S_, .f32⟩
  | 65 => ⟨S2304x256, .f32⟩
  | 66 => ⟨S1x2304x8x128, .f32⟩
  | 67 => ⟨S1x2304x1024, .f32⟩
  | 68 => ⟨S_, .f32⟩
  | 69 => ⟨S2304x1024, .f32⟩
  | _ => ⟨S2304x1024, .bf16⟩

abbrev hbmTy (i : Nat) : BufTy := match i / 128 with
  | 0 => hbmTy0_0 i
  | 1 => hbmTy0_1 i
  | _ => ⟨S2304x1024, .bf16⟩

abbrev bufTy : (tb : Table) → Fin (tcTables nBuf tb) → BufTy
  | .hbm, ⟨i, _⟩ => hbmTy i
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_v63 : Ref sig .tc := ⟨.hbm, 83, rfl⟩
abbrev main_cst_15 : Ref sig .tc := ⟨.hbm, 84, rfl⟩
abbrev main_v64 : Ref sig .tc := ⟨.hbm, 85, rfl⟩
abbrev main_v65 : Ref sig .tc := ⟨.hbm, 86, rfl⟩
abbrev main_cst_16 : Ref sig .tc := ⟨.hbm, 87, rfl⟩
abbrev main_v66 : Ref sig .tc := ⟨.hbm, 88, rfl⟩
abbrev main_cst_17 : Ref sig .tc := ⟨.hbm, 89, rfl⟩
abbrev main_v67 : Ref sig .tc := ⟨.hbm, 90, rfl⟩
abbrev main_cst_18 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_19 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_20 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_21 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_22 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_23 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_24 : Ref sig .tc := ⟨.hbm, 150, rfl⟩
abbrev main_v121 : Ref sig .tc := ⟨.hbm, 151, rfl⟩
abbrev main_cst_25 : Ref sig .tc := ⟨.hbm, 152, rfl⟩
abbrev main_v122 : Ref sig .tc := ⟨.hbm, 153, rfl⟩
abbrev main_cst_26 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_27 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_28 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_29 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_30 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_31 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_cst_32 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_33 : Ref sig .tc := ⟨.hbm, 196, rfl⟩
abbrev main_v158 : Ref sig .tc := ⟨.hbm, 197, rfl⟩

abbrev nD : Nat := 1
abbrev τ : Topo := Topo.v7x

variable {F : FTy → Type} [FloatOps F]
-- ==== Gwd.lean ====
abbrev S2304x5632 : Shape := ⟨2, ![2304, 5632]⟩
abbrev S2304x2048 : Shape := ⟨2, ![2304, 2048]⟩
abbrev S5632x2048 : Shape := ⟨2, ![5632, 2048]⟩
abbrev S2304x1408 : Shape := ⟨2, ![2304, 1408]⟩
abbrev S1408x2048 : Shape := ⟨2, ![1408, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2304x5632, .bf16⟩
  | .hbm, ⟨1, _⟩ => ⟨S2304x2048, .bf16⟩
  | .hbm, ⟨2, _⟩ => ⟨S5632x2048, .bf16⟩
  | .local _ .vmem, ⟨0, _⟩ => ⟨S2304x1408, .bf16⟩
  | .local _ .vmem, ⟨1, _⟩ => ⟨S2304x1408, .bf16⟩
  | .local _ .vmem, ⟨2, _⟩ => ⟨S2304x2048, .bf16⟩
  | .local _ .vmem, ⟨3, _⟩ => ⟨S1408x2048, .bf16⟩
  | .local _ .vmem, ⟨4, _⟩ => ⟨S1408x2048, .bf16⟩
  | _, _ => ⟨S2304x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2304x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwdGradIdeal.lean ====
abbrev S2304x5632 : Shape := ⟨2, ![2304, 5632]⟩
abbrev S2304x2048 : Shape := ⟨2, ![2304, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2304x5632, .bf16⟩
  | .hbm, ⟨1, _⟩ => ⟨S2304x2048, .bf16⟩
  | .hbm, ⟨2, _⟩ => ⟨S2304x5632, .f32⟩
  | .hbm, ⟨3, _⟩ => ⟨S2304x2048, .f32⟩
  | .hbm, ⟨4, _⟩ => ⟨S_, .f32⟩
  | .hbm, ⟨5, _⟩ => ⟨S5632x2048, .f32⟩
  | .hbm, ⟨6, _⟩ => ⟨S2304x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2304x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dt.lean ====
abbrev S2304x2048 : Shape := ⟨2, ![2304, 2048]⟩
abbrev S5632x2048 : Shape := ⟨2, ![5632, 2048]⟩
abbrev S2304x5632 : Shape := ⟨2, ![2304, 5632]⟩
abbrev S1408x2048 : Shape := ⟨2, ![1408, 2048]⟩
abbrev S2304x1408 : Shape := ⟨2, ![2304, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S5632x2048, .bf16⟩
  | .hbm, ⟨2, _⟩ => ⟨S2304x5632, .bf16⟩
  | .local _ .vmem, ⟨0, _⟩ => ⟨S2304x2048, .bf16⟩
  | .local _ .vmem, ⟨1, _⟩ => ⟨S1408x2048, .bf16⟩
  | .local _ .vmem, ⟨2, _⟩ => ⟨S1408x2048, .bf16⟩
  | .local _ .vmem, ⟨3, _⟩ => ⟨S2304x1408, .bf16⟩
  | .local _ .vmem, ⟨4, _⟩ => ⟨S2304x1408, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtGradIdeal.lean ====
abbrev S2304x2048 : Shape := ⟨2, ![2304, 2048]⟩
abbrev S5632x2048 : Shape := ⟨2, ![5632, 2048]⟩
abbrev S_ : Shape := ⟨0, ![]⟩
abbrev S2304x5632 : Shape := ⟨2, ![2304, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S5632x2048, .bf16⟩
  | .hbm, ⟨2, _⟩ => ⟨S2304x2048, .f32⟩
  | .hbm, ⟨3, _⟩ => ⟨S5632x2048, .f32⟩
  | .hbm, ⟨4, _⟩ => ⟨S_, .f32⟩
  | .hbm, ⟨5, _⟩ => ⟨S2304x5632, .f32⟩
  | .hbm, ⟨6, _⟩ => ⟨S2304x2048, .f32⟩
  | .hbm, ⟨7, _⟩ => ⟨S2304x5632, .f32⟩
  | .hbm, ⟨8, _⟩ => ⟨S2304x5632, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gwu.lean ====
abbrev S2304x2048 : Shape := ⟨2, ![2304, 2048]⟩
abbrev S2304x11264 : Shape := ⟨2, ![2304, 11264]⟩
abbrev S2304x5632 : Shape := ⟨2, ![2304, 5632]⟩
abbrev S1x2304x5632 : Shape := ⟨3, ![1, 2304, 5632]⟩
abbrev S2x2304x5632 : Shape := ⟨3, ![2, 2304, 5632]⟩
abbrev S8x2048x1408 : Shape := ⟨3, ![8, 2048, 1408]⟩
abbrev S1x2304x1408 : Shape := ⟨3, ![1, 2304, 1408]⟩
abbrev S1x2048x1408 : Shape := ⟨3, ![1, 2048, 1408]⟩
abbrev S2304x1408 : Shape := ⟨2, ![2304, 1408]⟩
abbrev S2048x1408 : Shape := ⟨2, ![2048, 1408]⟩

abbrev nBuf : Space → Nat
  | .hbm => 8
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S2304x11264, .bf16⟩
  | .hbm, ⟨2, _⟩ => ⟨S2304x5632, .bf16⟩
  | .hbm, ⟨3, _⟩ => ⟨S2304x5632, .bf16⟩
  | .hbm, ⟨4, _⟩ => ⟨S1x2304x5632, .bf16⟩
  | .hbm, ⟨5, _⟩ => ⟨S1x2304x5632, .bf16⟩
  | .hbm, ⟨6, _⟩ => ⟨S2x2304x5632, .bf16⟩
  | .hbm, ⟨7, _⟩ => ⟨S8x2048x1408, .bf16⟩
  | .local _ .vmem, ⟨0, _⟩ => ⟨S2304x2048, .bf16⟩
  | .local _ .vmem, ⟨1, _⟩ => ⟨S1x2304x1408, .bf16⟩
  | .local _ .vmem, ⟨2, _⟩ => ⟨S1x2304x1408, .bf16⟩
  | .local _ .vmem, ⟨3, _⟩ => ⟨S1x2048x1408, .bf16⟩
  | .local _ .vmem, ⟨4, _⟩ => ⟨S1x2048x1408, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2304x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwuGradIdeal.lean ====
abbrev S2304x2048 : Shape := ⟨2, ![2304, 2048]⟩
abbrev S2304x11264 : Shape := ⟨2, ![2304, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x11264, .bf16⟩
  | .hbm, ⟨2, _⟩ => ⟨S2304x2048, .f32⟩
  | .hbm, ⟨3, _⟩ => ⟨S2304x11264, .f32⟩
  | .hbm, ⟨4, _⟩ => ⟨S_, .f32⟩
  | .hbm, ⟨5, _⟩ => ⟨S2048x11264, .f32⟩
  | .hbm, ⟨6, _⟩ => ⟨S2304x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S2048x8x1408, .bf16⟩
  | .hbm, ⟨11, _⟩ => ⟨S8x2048x1408, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dh2.lean ====
abbrev S2304x11264 : Shape := ⟨2, ![2304, 11264]⟩
abbrev S2048x11264 : Shape := ⟨2, ![2048, 11264]⟩
abbrev S2304x5632 : Shape := ⟨2, ![2304, 5632]⟩
abbrev S1x2304x5632 : Shape := ⟨3, ![1, 2304, 5632]⟩
abbrev S2x2304x5632 : Shape := ⟨3, ![2, 2304, 5632]⟩
abbrev S2304x2048 : Shape := ⟨2, ![2304, 2048]⟩
abbrev S1x2304x1408 : Shape := ⟨3, ![1, 2304, 1408]⟩
abbrev S1024x1408 : Shape := ⟨2, ![1024, 1408]⟩
abbrev S2304x1024 : Shape := ⟨2, ![2304, 1024]⟩
abbrev S2304x1408 : Shape := ⟨2, ![2304, 1408]⟩

abbrev nBuf : Space → Nat
  | .hbm => 8
  | .vmem => 7
  | .smem => 0
  | _ => 0

abbrev bufTy : (tb : Table) → Fin (tcTables nBuf tb) → BufTy
  | .hbm, ⟨0, _⟩ => ⟨S2304x11264, .bf16⟩
  | .hbm, ⟨1, _⟩ => ⟨S2048x11264, .bf16⟩
  | .hbm, ⟨2, _⟩ => ⟨S2304x5632, .bf16⟩
  | .hbm, ⟨3, _⟩ => ⟨S2304x5632, .bf16⟩
  | .hbm, ⟨4, _⟩ => ⟨S1x2304x5632, .bf16⟩
  | .hbm, ⟨5, _⟩ => ⟨S1x2304x5632, .bf16⟩
  | .hbm, ⟨6, _⟩ => ⟨S2x2304x5632, .bf16⟩
  | .hbm, ⟨7, _⟩ => ⟨S2304x2048, .bf16⟩
  | .local _ .vmem, ⟨0, _⟩ => ⟨S1x2304x1408, .bf16⟩
  | .local _ .vmem, ⟨1, _⟩ => ⟨S1x2304x1408, .bf16⟩
  | .local _ .vmem, ⟨2, _⟩ => ⟨S1024x1408, .bf16⟩
  | .local _ .vmem, ⟨3, _⟩ => ⟨S1024x1408, .bf16⟩
  | .local _ .vmem, ⟨4, _⟩ => ⟨S2304x1024, .bf16⟩
  | .local _ .vmem, ⟨5, _⟩ => ⟨S2304x1024, .bf16⟩
  | .local _ .vmem, ⟨6, _⟩ => ⟨S2304x1024, .f32⟩
  | _, _ => ⟨S2304x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2304x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2GradIdeal.lean ====
abbrev S2304x11264 : Shape := ⟨2, ![2304, 11264]⟩
abbrev S2048x11264 : Shape := ⟨2, ![2048, 11264]⟩
abbrev S_ : Shape := ⟨0, ![]⟩
abbrev S2304x2048 : Shape := ⟨2, ![2304, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2304x11264, .bf16⟩
  | .hbm, ⟨1, _⟩ => ⟨S2048x11264, .bf16⟩
  | .hbm, ⟨2, _⟩ => ⟨S2304x11264, .f32⟩
  | .hbm, ⟨3, _⟩ => ⟨S2048x11264, .f32⟩
  | .hbm, ⟨4, _⟩ => ⟨S_, .f32⟩
  | .hbm, ⟨5, _⟩ => ⟨S2304x2048, .f32⟩
  | .hbm, ⟨6, _⟩ => ⟨S2304x11264, .f32⟩
  | .hbm, ⟨7, _⟩ => ⟨S2304x2048, .f32⟩
  | .hbm, ⟨8, _⟩ => ⟨S2304x2048, .bf16⟩
  | _, _ => ⟨S2304x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gwo.lean ====
abbrev S2304x2048 : Shape := ⟨2, ![2304, 2048]⟩
abbrev S2048x2048 : Shape := ⟨2, ![2048, 2048]⟩
abbrev S2304x1024 : Shape := ⟨2, ![2304, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S2048x2048, .bf16⟩
  | .local _ .vmem, ⟨0, _⟩ => ⟨S2304x2048, .bf16⟩
  | .local _ .vmem, ⟨1, _⟩ => ⟨S2304x1024, .bf16⟩
  | .local _ .vmem, ⟨2, _⟩ => ⟨S2304x1024, .bf16⟩
  | .local _ .vmem, ⟨3, _⟩ => ⟨S2048x1024, .bf16⟩
  | .local _ .vmem, ⟨4, _⟩ => ⟨S2048x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwoGradIdeal.lean ====
abbrev S2304x2048 : Shape := ⟨2, ![2304, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S2304x2048, .f32⟩
  | .hbm, ⟨3, _⟩ => ⟨S2304x2048, .f32⟩
  | .hbm, ⟨4, _⟩ => ⟨S_, .f32⟩
  | .hbm, ⟨5, _⟩ => ⟨S2048x2048, .f32⟩
  | .hbm, ⟨6, _⟩ => ⟨S2304x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dcat.lean ====
abbrev S2304x2048 : Shape := ⟨2, ![2304, 2048]⟩
abbrev S2048x2048 : Shape := ⟨2, ![2048, 2048]⟩
abbrev S1024x2048 : Shape := ⟨2, ![1024, 2048]⟩
abbrev S2304x1024 : Shape := ⟨2, ![2304, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .bf16⟩
  | .local _ .vmem, ⟨0, _⟩ => ⟨S2304x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2304x1024, .bf16⟩
  | .local _ .vmem, ⟨4, _⟩ => ⟨S2304x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcatGradIdeal.lean ====
abbrev S2304x2048 : Shape := ⟨2, ![2304, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2048x2048, .f32⟩
  | .hbm, ⟨4, _⟩ => ⟨S_, .f32⟩
  | .hbm, ⟨5, _⟩ => ⟨S2304x2048, .f32⟩
  | .hbm, ⟨6, _⟩ => ⟨S2304x2048, .f32⟩
  | .hbm, ⟨7, _⟩ => ⟨S2304x2048, .f32⟩
  | .hbm, ⟨8, _⟩ => ⟨S2304x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gwi.lean ====
abbrev S2304x2048 : Shape := ⟨2, ![2304, 2048]⟩
abbrev S2304x5376 : Shape := ⟨2, ![2304, 5376]⟩
abbrev S2048x5376 : Shape := ⟨2, ![2048, 5376]⟩
abbrev S2304x768 : Shape := ⟨2, ![2304, 768]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S2304x5376, .bf16⟩
  | .hbm, ⟨2, _⟩ => ⟨S2048x5376, .bf16⟩
  | .local _ .vmem, ⟨0, _⟩ => ⟨S2304x2048, .bf16⟩
  | .local _ .vmem, ⟨1, _⟩ => ⟨S2304x768, .bf16⟩
  | .local _ .vmem, ⟨2, _⟩ => ⟨S2304x768, .bf16⟩
  | .local _ .vmem, ⟨3, _⟩ => ⟨S2048x768, .bf16⟩
  | .local _ .vmem, ⟨4, _⟩ => ⟨S2048x768, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2304x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwiGradIdeal.lean ====
abbrev S2304x2048 : Shape := ⟨2, ![2304, 2048]⟩
abbrev S2304x5376 : Shape := ⟨2, ![2304, 5376]⟩
abbrev S_ : Shape := ⟨0, ![]⟩
abbrev S2048x5376 : Shape := ⟨2, ![2048, 5376]⟩
abbrev S5376x2048 : Shape := ⟨2, ![5376, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x5376, .bf16⟩
  | .hbm, ⟨2, _⟩ => ⟨S2304x2048, .f32⟩
  | .hbm, ⟨3, _⟩ => ⟨S2304x5376, .f32⟩
  | .hbm, ⟨4, _⟩ => ⟨S_, .f32⟩
  | .hbm, ⟨5, _⟩ => ⟨S2048x5376, .f32⟩
  | .hbm, ⟨6, _⟩ => ⟨S2304x5376, .f32⟩
  | .hbm, ⟨7, _⟩ => ⟨S5376x2048, .f32⟩
  | .hbm, ⟨8, _⟩ => ⟨S2048x5376, .f32⟩
  | .hbm, ⟨9, _⟩ => ⟨S2048x5376, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh.lean ====
abbrev S2304x5376 : Shape := ⟨2, ![2304, 5376]⟩
abbrev S2048x5376 : Shape := ⟨2, ![2048, 5376]⟩
abbrev S2304x2048 : Shape := ⟨2, ![2304, 2048]⟩
abbrev S2304x1792 : Shape := ⟨2, ![2304, 1792]⟩
abbrev S1024x1792 : Shape := ⟨2, ![1024, 1792]⟩
abbrev S2304x1024 : Shape := ⟨2, ![2304, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x5376, .bf16⟩
  | .hbm, ⟨1, _⟩ => ⟨S2048x5376, .bf16⟩
  | .hbm, ⟨2, _⟩ => ⟨S2304x2048, .bf16⟩
  | .local _ .vmem, ⟨0, _⟩ => ⟨S2304x1792, .bf16⟩
  | .local _ .vmem, ⟨1, _⟩ => ⟨S2304x1792, .bf16⟩
  | .local _ .vmem, ⟨2, _⟩ => ⟨S1024x1792, .bf16⟩
  | .local _ .vmem, ⟨3, _⟩ => ⟨S1024x1792, .bf16⟩
  | .local _ .vmem, ⟨4, _⟩ => ⟨S2304x1024, .bf16⟩
  | .local _ .vmem, ⟨5, _⟩ => ⟨S2304x1024, .bf16⟩
  | .local _ .vmem, ⟨6, _⟩ => ⟨S2304x1024, .f32⟩
  | _, _ => ⟨S2304x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhGradIdeal.lean ====
abbrev S2304x5376 : Shape := ⟨2, ![2304, 5376]⟩
abbrev S2048x5376 : Shape := ⟨2, ![2048, 5376]⟩
abbrev S_ : Shape := ⟨0, ![]⟩
abbrev S2304x2048 : Shape := ⟨2, ![2304, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2304x5376, .bf16⟩
  | .hbm, ⟨1, _⟩ => ⟨S2048x5376, .bf16⟩
  | .hbm, ⟨2, _⟩ => ⟨S2304x5376, .f32⟩
  | .hbm, ⟨3, _⟩ => ⟨S2048x5376, .f32⟩
  | .hbm, ⟨4, _⟩ => ⟨S_, .f32⟩
  | .hbm, ⟨5, _⟩ => ⟨S2304x2048, .f32⟩
  | .hbm, ⟨6, _⟩ => ⟨S2304x5376, .f32⟩
  | .hbm, ⟨7, _⟩ => ⟨S2304x2048, .f32⟩
  | .hbm, ⟨8, _⟩ => ⟨S2304x2048, .bf16⟩
  | _, _ => ⟨S2304x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Z.lean ====
abbrev S2304x2048 : Shape := ⟨2, ![2304, 2048]⟩
abbrev S2048x5376 : Shape := ⟨2, ![2048, 5376]⟩
abbrev S2304x5376 : Shape := ⟨2, ![2304, 5376]⟩
abbrev S2048x768 : Shape := ⟨2, ![2048, 768]⟩
abbrev S2304x768 : Shape := ⟨2, ![2304, 768]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S2048x5376, .bf16⟩
  | .hbm, ⟨2, _⟩ => ⟨S2304x5376, .f32⟩
  | .local _ .vmem, ⟨0, _⟩ => ⟨S2304x2048, .bf16⟩
  | .local _ .vmem, ⟨1, _⟩ => ⟨S2048x768, .bf16⟩
  | .local _ .vmem, ⟨2, _⟩ => ⟨S2048x768, .bf16⟩
  | .local _ .vmem, ⟨3, _⟩ => ⟨S2304x768, .f32⟩
  | .local _ .vmem, ⟨4, _⟩ => ⟨S2304x768, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZFwdIdeal.lean ====
abbrev S2304x2048 : Shape := ⟨2, ![2304, 2048]⟩
abbrev S2048x5376 : Shape := ⟨2, ![2048, 5376]⟩
abbrev S2304x5376 : Shape := ⟨2, ![2304, 5376]⟩

abbrev nBuf : Space → Nat
  | .hbm => 5
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x5376, .bf16⟩
  | .hbm, ⟨2, _⟩ => ⟨S2304x2048, .f32⟩
  | .hbm, ⟨3, _⟩ => ⟨S2048x5376, .f32⟩
  | .hbm, ⟨4, _⟩ => ⟨S2304x5376, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Y.lean ====
abbrev S2304x2048 : Shape := ⟨2, ![2304, 2048]⟩
abbrev S2048x2048 : Shape := ⟨2, ![2048, 2048]⟩
abbrev S2048x512 : Shape := ⟨2, ![2048, 512]⟩
abbrev S2304x512 : Shape := ⟨2, ![2304, 512]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .local _ .vmem, ⟨0, _⟩ => ⟨S2304x2048, .bf16⟩
  | .local _ .vmem, ⟨1, _⟩ => ⟨S2048x512, .bf16⟩
  | .local _ .vmem, ⟨2, _⟩ => ⟨S2048x512, .bf16⟩
  | .local _ .vmem, ⟨3, _⟩ => ⟨S2304x512, .f32⟩
  | .local _ .vmem, ⟨4, _⟩ => ⟨S2304x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YFwdIdeal.lean ====
abbrev S2304x2048 : Shape := ⟨2, ![2304, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2048x2048, .f32⟩
  | .hbm, ⟨4, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== U.lean ====
abbrev S2304x2048 : Shape := ⟨2, ![2304, 2048]⟩
abbrev S2048x11264 : Shape := ⟨2, ![2048, 11264]⟩
abbrev S2304x11264 : Shape := ⟨2, ![2304, 11264]⟩
abbrev S2048x512 : Shape := ⟨2, ![2048, 512]⟩
abbrev S2304x512 : Shape := ⟨2, ![2304, 512]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S2048x11264, .bf16⟩
  | .hbm, ⟨2, _⟩ => ⟨S2304x11264, .f32⟩
  | .local _ .vmem, ⟨0, _⟩ => ⟨S2304x2048, .bf16⟩
  | .local _ .vmem, ⟨1, _⟩ => ⟨S2048x512, .bf16⟩
  | .local _ .vmem, ⟨2, _⟩ => ⟨S2048x512, .bf16⟩
  | .local _ .vmem, ⟨3, _⟩ => ⟨S2304x512, .f32⟩
  | .local _ .vmem, ⟨4, _⟩ => ⟨S2304x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UFwdIdeal.lean ====
abbrev S2304x2048 : Shape := ⟨2, ![2304, 2048]⟩
abbrev S2048x11264 : Shape := ⟨2, ![2048, 11264]⟩
abbrev S2304x11264 : Shape := ⟨2, ![2304, 11264]⟩

abbrev nBuf : Space → Nat
  | .hbm => 5
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x11264, .bf16⟩
  | .hbm, ⟨2, _⟩ => ⟨S2304x2048, .f32⟩
  | .hbm, ⟨3, _⟩ => ⟨S2048x11264, .f32⟩
  | .hbm, ⟨4, _⟩ => ⟨S2304x11264, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Yff.lean ====
abbrev S2304x5632 : Shape := ⟨2, ![2304, 5632]⟩
abbrev S5632x2048 : Shape := ⟨2, ![5632, 2048]⟩
abbrev S2304x2048 : Shape := ⟨2, ![2304, 2048]⟩
abbrev S2304x512 : Shape := ⟨2, ![2304, 512]⟩
abbrev S512x1024 : Shape := ⟨2, ![512, 1024]⟩
abbrev S2304x1024 : Shape := ⟨2, ![2304, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x5632, .bf16⟩
  | .hbm, ⟨1, _⟩ => ⟨S5632x2048, .bf16⟩
  | .hbm, ⟨2, _⟩ => ⟨S2304x2048, .f32⟩
  | .local _ .vmem, ⟨0, _⟩ => ⟨S2304x512, .bf16⟩
  | .local _ .vmem, ⟨1, _⟩ => ⟨S2304x512, .bf16⟩
  | .local _ .vmem, ⟨2, _⟩ => ⟨S512x1024, .bf16⟩
  | .local _ .vmem, ⟨3, _⟩ => ⟨S512x1024, .bf16⟩
  | .local _ .vmem, ⟨4, _⟩ => ⟨S2304x1024, .f32⟩
  | .local _ .vmem, ⟨5, _⟩ => ⟨S2304x1024, .f32⟩
  | .local _ .vmem, ⟨6, _⟩ => ⟨S2304x1024, .f32⟩
  | _, _ => ⟨S2304x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YffFwdIdeal.lean ====
abbrev S2304x5632 : Shape := ⟨2, ![2304, 5632]⟩
abbrev S5632x2048 : Shape := ⟨2, ![5632, 2048]⟩
abbrev S2304x2048 : Shape := ⟨2, ![2304, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2304x5632, .bf16⟩
  | .hbm, ⟨1, _⟩ => ⟨S5632x2048, .bf16⟩
  | .hbm, ⟨2, _⟩ => ⟨S2304x5632, .f32⟩
  | .hbm, ⟨3, _⟩ => ⟨S5632x2048, .f32⟩
  | .hbm, ⟨4, _⟩ => ⟨S2304x2048, .f32⟩
  | _, _ => ⟨S2304x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttFwd.lean ====
abbrev S2304x1024 : Shape := ⟨2, ![2304, 1024]⟩
abbrev S2304x256 : Shape := ⟨2, ![2304, 256]⟩
abbrev S2304x5376 : Shape := ⟨2, ![2304, 5376]⟩
abbrev S256x512 : Shape := ⟨2, ![256, 512]⟩
abbrev S2304x128 : Shape := ⟨2, ![2304, 128]⟩
abbrev S256x2304 : Shape := ⟨2, ![256, 2304]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S2304x1024, .bf16⟩
  | .hbm, ⟨1, _⟩ => ⟨S2304x256, .bf16⟩
  | .hbm, ⟨2, _⟩ => ⟨S2304x5376, .f32⟩
  | .hbm, ⟨3, _⟩ => ⟨S2304x1024, .bf16⟩
  | .local _ .vmem, ⟨0, _⟩ => ⟨S256x512, .bf16⟩
  | .local _ .vmem, ⟨1, _⟩ => ⟨S256x512, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .f32⟩
  | .local _ .vmem, ⟨5, _⟩ => ⟨S2304x128, .f32⟩
  | .local _ .vmem, ⟨6, _⟩ => ⟨S256x512, .bf16⟩
  | .local _ .vmem, ⟨7, _⟩ => ⟨S256x512, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttFwdIdeal.lean ====
variable {F : FTy → Type} [FloatOps F] [Named F]
def κ : String → Option EReal := fun
  | "mask" => some ⊥
  | _ => none
-- ==== AttendIdeal.lean ====
abbrev S2304x1024 : Shape := ⟨2, ![2304, 1024]⟩
abbrev S2304x256 : Shape := ⟨2, ![2304, 256]⟩
abbrev S2304x5376 : Shape := ⟨2, ![2304, 5376]⟩
abbrev S1x2304x1024 : Shape := ⟨3, ![1, 2304, 1024]⟩
abbrev S1x2304x8x128 : Shape := ⟨4, ![1, 2304, 8, 128]⟩
abbrev S1x8x2304x128 : Shape := ⟨4, ![1, 8, 2304, 128]⟩
abbrev S1x2304x256 : Shape := ⟨3, ![1, 2304, 256]⟩
abbrev S1x2304x2x128 : Shape := ⟨4, ![1, 2304, 2, 128]⟩
abbrev S1x2x2304x128 : Shape := ⟨4, ![1, 2, 2304, 128]⟩
abbrev S1x8x2048x128 : Shape := ⟨4, ![1, 8, 2048, 128]⟩
abbrev S1x2x4x2048x128 : Shape := ⟨5, ![1, 2, 4, 2048, 128]⟩
abbrev S1x2x4x2048x2304 : Shape := ⟨5, ![1, 2, 4, 2048, 2304]⟩
abbrev S_ : Shape := ⟨0, ![]⟩
abbrev S1x2x4x2048 : Shape := ⟨4, ![1, 2, 4, 2048]⟩
abbrev S1x2x4x2048x1 : Shape := ⟨5, ![1, 2, 4, 2048, 1]⟩
abbrev S1x8x256x128 : Shape := ⟨4, ![1, 8, 256, 128]⟩
abbrev S1x2x256x128 : Shape := ⟨4, ![1, 2, 256, 128]⟩
abbrev S1x2x4x256x128 : Shape := ⟨5, ![1, 2, 4, 256, 128]⟩
abbrev S1x2x4x256x256 : Shape := ⟨5, ![1, 2, 4, 256, 256]⟩
abbrev S1x2x4x256 : Shape := ⟨4, ![1, 2, 4, 256]⟩
abbrev S1x2x4x256x1 : Shape := ⟨5, ![1, 2, 4, 256, 1]⟩
abbrev S1x256x8x128 : Shape := ⟨4, ![1, 256, 8, 128]⟩
abbrev S1x256x1024 : Shape := ⟨3, ![1, 256, 1024]⟩
abbrev S1x2048x8x128 : Shape := ⟨4, ![1, 2048, 8, 128]⟩
abbrev S1x2048x1024 : Shape := ⟨3, ![1, 2048, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x256, .bf16⟩
  | .hbm, ⟨2, _⟩ => ⟨S2304x5376, .f32⟩
  | .hbm, ⟨3, _⟩ => ⟨S2304x1024, .f32⟩
  | .hbm, ⟨4, _⟩ => ⟨S2304x256, .f32⟩
  | .hbm, ⟨5, _⟩ => ⟨S2304x256, .f32⟩
  | .hbm, ⟨6, _⟩ => ⟨S1x2304x1024, .f32⟩
  | .hbm, ⟨7, _⟩ => ⟨S1x2304x8x128, .f32⟩
  | .hbm, ⟨8, _⟩ => ⟨S1x8x2304x128, .f32⟩
  | .hbm, ⟨9, _⟩ => ⟨S1x2304x256, .f32⟩
  | .hbm, ⟨10, _⟩ => ⟨S1x2304x2x128, .f32⟩
  | .hbm, ⟨11, _⟩ => ⟨S1x2x2304x128, .f32⟩
  | .hbm, ⟨12, _⟩ => ⟨S1x2304x256, .f32⟩
  | .hbm, ⟨13, _⟩ => ⟨S1x2304x2x128, .f32⟩
  | .hbm, ⟨14, _⟩ => ⟨S1x2x2304x128, .f32⟩
  | .hbm, ⟨15, _⟩ => ⟨S1x8x2048x128, .f32⟩
  | .hbm, ⟨16, _⟩ => ⟨S1x2x4x2048x128, .f32⟩
  | .hbm, ⟨17, _⟩ => ⟨S1x2x4x2048x2304, .f32⟩
  | .hbm, ⟨18, _⟩ => ⟨S_, .f32⟩
  | .hbm, ⟨19, _⟩ => ⟨S1x2x4x2048x2304, .f32⟩
  | .hbm, ⟨20, _⟩ => ⟨S1x2x4x2048x2304, .f32⟩
  | .hbm, ⟨21, _⟩ => ⟨S_, .f32⟩
  | .hbm, ⟨22, _⟩ => ⟨S1x2x4x2048, .f32⟩
  | .hbm, ⟨23, _⟩ => ⟨S_, .f32⟩
  | .hbm, ⟨24, _⟩ => ⟨S1x2x4x2048, .f32⟩
  | .hbm, ⟨25, _⟩ => ⟨S1x2x4x2048, .f32⟩
  | .hbm, ⟨26, _⟩ => ⟨S1x2x4x2048x1, .f32⟩
  | .hbm, ⟨27, _⟩ => ⟨S1x2x4x2048x2304, .f32⟩
  | .hbm, ⟨28, _⟩ => ⟨S1x2x4x2048x2304, .f32⟩
  | .hbm, ⟨29, _⟩ => ⟨S1x2x4x2048x2304, .f32⟩
  | .hbm, ⟨30, _⟩ => ⟨S_, .f32⟩
  | .hbm, ⟨31, _⟩ => ⟨S1x2x4x2048, .f32⟩
  | .hbm, ⟨32, _⟩ => ⟨S1x2x4x2048x1, .f32⟩
  | .hbm, ⟨33, _⟩ => ⟨S1x2x4x2048x2304, .f32⟩
  | .hbm, ⟨34, _⟩ => ⟨S1x2x4x2048x2304, .f32⟩
  | .hbm, ⟨35, _⟩ => ⟨S1x2x4x2048x128, .f32⟩
  | .hbm, ⟨36, _⟩ => ⟨S1x8x2048x128, .f32⟩
  | .hbm, ⟨37, _⟩ => ⟨S1x8x256x128, .f32⟩
  | .hbm, ⟨38, _⟩ => ⟨S1x2x256x128, .f32⟩
  | .hbm, ⟨39, _⟩ => ⟨S1x2x256x128, .f32⟩
  | .hbm, ⟨40, _⟩ => ⟨S1x2x4x256x128, .f32⟩
  | .hbm, ⟨41, _⟩ => ⟨S1x2x4x256x256, .f32⟩
  | .hbm, ⟨42, _⟩ => ⟨S_, .f32⟩
  | .hbm, ⟨43, _⟩ => ⟨S1x2x4x256x256, .f32⟩
  | .hbm, ⟨44, _⟩ => ⟨S1x2x4x256x256, .f32⟩
  | .hbm, ⟨45, _⟩ => ⟨S_, .f32⟩
  | .hbm, ⟨46, _⟩ => ⟨S1x2x4x256, .f32⟩
  | .hbm, ⟨47, _⟩ => ⟨S_, .f32⟩
  | .hbm, ⟨48, _⟩ => ⟨S1x2x4x256, .f32⟩
  | .hbm, ⟨49, _⟩ => ⟨S1x2x4x256, .f32⟩
  | .hbm, ⟨50, _⟩ => ⟨S1x2x4x256x1, .f32⟩
  | .hbm, ⟨51, _⟩ => ⟨S1x2x4x256x256, .f32⟩
  | .hbm, ⟨52, _⟩ => ⟨S1x2x4x256x256, .f32⟩
  | .hbm, ⟨53, _⟩ => ⟨S1x2x4x256x256, .f32⟩
  | .hbm, ⟨54, _⟩ => ⟨S_, .f32⟩
  | .hbm, ⟨55, _⟩ => ⟨S1x2x4x256, .f32⟩
  | .hbm, ⟨56, _⟩ => ⟨S1x2x4x256x1, .f32⟩
  | .hbm, ⟨57, _⟩ => ⟨S1x2x4x256x256, .f32⟩
  | .hbm, ⟨58, _⟩ => ⟨S1x2x4x256x256, .f32⟩
  | .hbm, ⟨59, _⟩ => ⟨S1x2x4x256x128, .f32⟩
  | .hbm, ⟨60, _⟩ => ⟨S1x8x256x128, .f32⟩
  | .hbm, ⟨61, _⟩ => ⟨S1x256x8x128, .f32⟩
  | .hbm, ⟨62, _⟩ => ⟨S1x256x1024, .f32⟩
  | .hbm, ⟨63, _⟩ => ⟨S1x2048x8x128, .f32⟩
  | .hbm, ⟨64, _⟩ => ⟨S1x2048x1024, .f32⟩
  | .hbm, ⟨65, _⟩ => ⟨S1x2304x1024, .f32⟩
  | .hbm, ⟨66, _⟩ => ⟨S2304x1024, .f32⟩
  | .hbm, ⟨67, _⟩ => ⟨S2304x1024, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩

abbrev nD : Nat := 1
abbrev τ : Topo := Topo.v7x

variable {F : FTy → Type} [FloatOps F]
-- ==== Conv.lean ====
abbrev S2304x11264 : Shape := ⟨2, ![2304, 11264]⟩
abbrev S3x5632 : Shape := ⟨2, ![3, 5632]⟩
abbrev S5632 : Shape := ⟨1, ![5632]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S2304x5632 : Shape := ⟨2, ![2304, 5632]⟩
abbrev S2304x512 : Shape := ⟨2, ![2304, 512]⟩
abbrev S8x512 : Shape := ⟨2, ![8, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S2304x11264, .f32⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S_, .f32⟩
  | .hbm, ⟨5, _⟩ => ⟨S4x5632, .f32⟩
  | .hbm, ⟨6, _⟩ => ⟨S8x5632, .f32⟩
  | .hbm, ⟨7, _⟩ => ⟨S2304x5632, .bf16⟩
  | .local _ .vmem, ⟨0, _⟩ => ⟨S2304x512, .f32⟩
  | .local _ .vmem, ⟨1, _⟩ => ⟨S2304x512, .f32⟩
  | .local _ .vmem, ⟨2, _⟩ => ⟨S2304x512, .f32⟩
  | .local _ .vmem, ⟨3, _⟩ => ⟨S2304x512, .f32⟩
  | .local _ .vmem, ⟨4, _⟩ => ⟨S8x512, .f32⟩
  | .local _ .vmem, ⟨5, _⟩ => ⟨S8x512, .f32⟩
  | .local _ .vmem, ⟨6, _⟩ => ⟨S2304x512, .bf16⟩
  | .local _ .vmem, ⟨7, _⟩ => ⟨S2304x512, .bf16⟩
  | _, _ => ⟨S2304x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2304x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2304x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvGluIdeal.lean ====
abbrev S2304x11264 : Shape := ⟨2, ![2304, 11264]⟩
abbrev S3x5632 : Shape := ⟨2, ![3, 5632]⟩
abbrev S5632 : Shape := ⟨1, ![5632]⟩
abbrev S256x11264 : Shape := ⟨2, ![256, 11264]⟩
abbrev S1x256x11264 : Shape := ⟨3, ![1, 256, 11264]⟩
abbrev S1x256x5632 : Shape := ⟨3, ![1, 256, 5632]⟩
abbrev S_ : Shape := ⟨0, ![]⟩
abbrev S1x1x5632 : Shape := ⟨3, ![1, 1, 5632]⟩
abbrev S1x258x5632 : Shape := ⟨3, ![1, 258, 5632]⟩
abbrev S1x5632 : Shape := ⟨2, ![1, 5632]⟩
abbrev S2048x11264 : Shape := ⟨2, ![2048, 11264]⟩
abbrev S1x2048x11264 : Shape := ⟨3, ![1, 2048, 11264]⟩
abbrev S1x2048x5632 : Shape := ⟨3, ![1, 2048, 5632]⟩
abbrev S1x2050x5632 : Shape := ⟨3, ![1, 2050, 5632]⟩
abbrev S1x2304x5632 : Shape := ⟨3, ![1, 2304, 5632]⟩
abbrev S2304x5632 : Shape := ⟨2, ![2304, 5632]⟩

abbrev nBuf : Space → Nat
  | .hbm => 86
  | .vmem => 0
  | .smem => 0
  | _ => 0

abbrev bufTy : (tb : Table) → Fin (tcTables nBuf tb) → BufTy
  | .hbm, ⟨0, _⟩ => ⟨S2304x11264, .f32⟩
  | .hbm, ⟨1, _⟩ => ⟨S3x5632, .f32⟩
  | .hbm, ⟨2, _⟩ => ⟨S5632, .f32⟩
  | .hbm, ⟨3, _⟩ => ⟨S256x11264, .f32⟩
  | .hbm, ⟨4, _⟩ => ⟨S1x256x11264, .f32⟩
  | .hbm, ⟨5, _⟩ => ⟨S1x256x5632, .f32⟩
  | .hbm, ⟨6, _⟩ => ⟨S1x256x5632, .f32⟩
  | .hbm, ⟨7, _⟩ => ⟨S_, .f32⟩
  | .hbm, ⟨8, _⟩ => ⟨S1x1x5632, .f32⟩
  | .hbm, ⟨9, _⟩ => ⟨S1x258x5632, .f32⟩
  | .hbm, ⟨10, _⟩ => ⟨S1x256x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S1x256x5632, .f32⟩
  | .hbm, ⟨15, _⟩ => ⟨S1x256x5632, .f32⟩
  | .hbm, ⟨16, _⟩ => ⟨S1x256x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S1x256x5632, .f32⟩
  | .hbm, ⟨21, _⟩ => ⟨S1x256x5632, .f32⟩
  | .hbm, ⟨22, _⟩ => ⟨S1x256x5632, .f32⟩
  | .hbm, ⟨23, _⟩ => ⟨S1x256x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S1x256x5632, .f32⟩
  | .hbm, ⟨28, _⟩ => ⟨S1x256x5632, .f32⟩
  | .hbm, ⟨29, _⟩ => ⟨S1x256x5632, .f32⟩
  | .hbm, ⟨30, _⟩ => ⟨S1x1x5632, .f32⟩
  | .hbm, ⟨31, _⟩ => ⟨S1x256x5632, .f32⟩
  | .hbm, ⟨32, _⟩ => ⟨S1x256x5632, .f32⟩
  | .hbm, ⟨33, _⟩ => ⟨S1x256x5632, .f32⟩
  | .hbm, ⟨34, _⟩ => ⟨S1x256x5632, .f32⟩
  | .hbm, ⟨35, _⟩ => ⟨S_, .f32⟩
  | .hbm, ⟨36, _⟩ => ⟨S1x256x5632, .f32⟩
  | .hbm, ⟨37, _⟩ => ⟨S1x256x5632, .f32⟩
  | .hbm, ⟨38, _⟩ => ⟨S_, .f32⟩
  | .hbm, ⟨39, _⟩ => ⟨S1x256x5632, .f32⟩
  | .hbm, ⟨40, _⟩ => ⟨S1x256x5632, .f32⟩
  | .hbm, ⟨41, _⟩ => ⟨S1x256x5632, .f32⟩
  | .hbm, ⟨42, _⟩ => ⟨S1x256x5632, .f32⟩
  | .hbm, ⟨43, _⟩ => ⟨S2048x11264, .f32⟩
  | .hbm, ⟨44, _⟩ => ⟨S1x2048x11264, .f32⟩
  | .hbm, ⟨45, _⟩ => ⟨S1x2048x5632, .f32⟩
  | .hbm, ⟨46, _⟩ => ⟨S1x2048x5632, .f32⟩
  | .hbm, ⟨47, _⟩ => ⟨S_, .f32⟩
  | .hbm, ⟨48, _⟩ => ⟨S1x1x5632, .f32⟩
  | .hbm, ⟨49, _⟩ => ⟨S1x2050x5632, .f32⟩
  | .hbm, ⟨50, _⟩ => ⟨S1x2048x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S1x2048x5632, .f32⟩
  | .hbm, ⟨55, _⟩ => ⟨S1x2048x5632, .f32⟩
  | .hbm, ⟨56, _⟩ => ⟨S1x2048x5632, .f32⟩
  | .hbm, ⟨57, _⟩ => ⟨S1x5632, .f32⟩
  | .hbm, ⟨58, _⟩ => ⟨S5632, .f32⟩
  | .hbm, ⟨59, _⟩ => ⟨S1x1x5632, .f32⟩
  | .hbm, ⟨60, _⟩ => ⟨S1x2048x5632, .f32⟩
  | .hbm, ⟨61, _⟩ => ⟨S1x2048x5632, .f32⟩
  | .hbm, ⟨62, _⟩ => ⟨S1x2048x5632, .f32⟩
  | .hbm, ⟨63, _⟩ => ⟨S1x2048x5632, .f32⟩
  | .hbm, ⟨64, _⟩ => ⟨S1x5632, .f32⟩
  | .hbm, ⟨65, _⟩ => ⟨S5632, .f32⟩
  | .hbm, ⟨66, _⟩ => ⟨S1x1x5632, .f32⟩
  | .hbm, ⟨67, _⟩ => ⟨S1x2048x5632, .f32⟩
  | .hbm, ⟨68, _⟩ => ⟨S1x2048x5632, .f32⟩
  | .hbm, ⟨69, _⟩ => ⟨S1x2048x5632, .f32⟩
  | .hbm, ⟨70, _⟩ => ⟨S1x1x5632, .f32⟩
  | .hbm, ⟨71, _⟩ => ⟨S1x2048x5632, .f32⟩
  | .hbm, ⟨72, _⟩ => ⟨S1x2048x5632, .f32⟩
  | .hbm, ⟨73, _⟩ => ⟨S1x2048x5632, .f32⟩
  | .hbm, ⟨74, _⟩ => ⟨S1x2048x5632, .f32⟩
  | .hbm, ⟨75, _⟩ => ⟨S_, .f32⟩
  | .hbm, ⟨76, _⟩ => ⟨S1x2048x5632, .f32⟩
  | .hbm, ⟨77, _⟩ => ⟨S1x2048x5632, .f32⟩
  | .hbm, ⟨78, _⟩ => ⟨S_, .f32⟩
  | .hbm, ⟨79, _⟩ => ⟨S1x2048x5632, .f32⟩
  | .hbm, ⟨80, _⟩ => ⟨S1x2048x5632, .f32⟩
  | .hbm, ⟨81, _⟩ => ⟨S1x2048x5632, .f32⟩
  | .hbm, ⟨82, _⟩ => ⟨S1x2048x5632, .f32⟩
  | .hbm, ⟨83, _⟩ => ⟨S1x2304x5632, .f32⟩
  | .hbm, ⟨84, _⟩ => ⟨S2304x5632, .f32⟩
  | .hbm, ⟨85, _⟩ => ⟨S2304x5632, .bf16⟩
  | _, _ => ⟨S2304x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== ConvBwd.lean ====
abbrev S2304x11264 : Shape := ⟨2, ![2304, 11264]⟩
abbrev S3x5632 : Shape := ⟨2, ![3, 5632]⟩
abbrev S5632 : Shape := ⟨1, ![5632]⟩
abbrev S2304x5632 : Shape := ⟨2, ![2304, 5632]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S2x2304x5632 : Shape := ⟨3, ![2, 2304, 5632]⟩
abbrev S2304x256 : Shape := ⟨2, ![2304, 256]⟩
abbrev S8x256 : Shape := ⟨2, ![8, 256]⟩
abbrev S2x2304x256 : Shape := ⟨3, ![2, 2304, 256]⟩
abbrev S1x256 : Shape := ⟨2, ![1, 256]⟩
abbrev S1x2304x256 : Shape := ⟨3, ![1, 2304, 256]⟩
abbrev S256 : Shape := ⟨1, ![256]⟩

abbrev nBuf : Space → Nat
  | .hbm => 10
  | .vmem => 12
  | .smem => 0
  | _ => 0

abbrev bufTy : (tb : Table) → Fin (tcTables nBuf tb) → BufTy
  | .hbm, ⟨0, _⟩ => ⟨S2304x11264, .f32⟩
  | .hbm, ⟨1, _⟩ => ⟨S3x5632, .f32⟩
  | .hbm, ⟨2, _⟩ => ⟨S5632, .f32⟩
  | .hbm, ⟨3, _⟩ => ⟨S2304x5632, .bf16⟩
  | .hbm, ⟨4, _⟩ => ⟨S1x5632, .f32⟩
  | .hbm, ⟨5, _⟩ => ⟨S_, .f32⟩
  | .hbm, ⟨6, _⟩ => ⟨S4x5632, .f32⟩
  | .hbm, ⟨7, _⟩ => ⟨S8x5632, .f32⟩
  | .hbm, ⟨8, _⟩ => ⟨S2x2304x5632, .bf16⟩
  | .hbm, ⟨9, _⟩ => ⟨S8x5632, .f32⟩
  | .local _ .vmem, ⟨0, _⟩ => ⟨S2304x256, .f32⟩
  | .local _ .vmem, ⟨1, _⟩ => ⟨S2304x256, .f32⟩
  | .local _ .vmem, ⟨2, _⟩ => ⟨S2304x256, .f32⟩
  | .local _ .vmem, ⟨3, _⟩ => ⟨S2304x256, .f32⟩
  | .local _ .vmem, ⟨4, _⟩ => ⟨S8x256, .f32⟩
  | .local _ .vmem, ⟨5, _⟩ => ⟨S8x256, .f32⟩
  | .local _ .vmem, ⟨6, _⟩ => ⟨S2304x256, .bf16⟩
  | .local _ .vmem, ⟨7, _⟩ => ⟨S2304x256, .bf16⟩
  | .local _ .vmem, ⟨8, _⟩ => ⟨S2x2304x256, .bf16⟩
  | .local _ .vmem, ⟨9, _⟩ => ⟨S2x2304x256, .bf16⟩
  | .local _ .vmem, ⟨10, _⟩ => ⟨S8x256, .f32⟩
  | .local _ .vmem, ⟨11, _⟩ => ⟨S8x256, .f32⟩
  | _, _ => ⟨S2304x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2304x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2304x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvGradIdeal.lean ====
abbrev S2304x11264 : Shape := ⟨2, ![2304, 11264]⟩
abbrev S3x5632 : Shape := ⟨2, ![3, 5632]⟩
abbrev S5632 : Shape := ⟨1, ![5632]⟩
abbrev S2304x5632 : Shape := ⟨2, ![2304, 5632]⟩
abbrev S256x11264 : Shape := ⟨2, ![256, 11264]⟩
abbrev S1x256x11264 : Shape := ⟨3, ![1, 256, 11264]⟩
abbrev S1x256x5632 : Shape := ⟨3, ![1, 256, 5632]⟩
abbrev S_ : Shape := ⟨0, ![]⟩
abbrev S1x1x5632 : Shape := ⟨3, ![1, 1, 5632]⟩
abbrev S1x258x5632 : Shape := ⟨3, ![1, 258, 5632]⟩
abbrev S1x5632 : Shape := ⟨2, ![1, 5632]⟩
abbrev S2048x11264 : Shape := ⟨2, ![2048, 11264]⟩
abbrev S1x2048x11264 : Shape := ⟨3, ![1, 2048, 11264]⟩
abbrev S1x2048x5632 : Shape := ⟨3, ![1, 2048, 5632]⟩
abbrev S1x2050x5632 : Shape := ⟨3, ![1, 2050, 5632]⟩
abbrev S1x2304x5632 : Shape := ⟨3, ![1, 2304, 5632]⟩
abbrev S2x2304x5632 : Shape := ⟨3, ![2, 2304, 5632]⟩
abbrev S4x5632 : Shape := ⟨2, ![4, 5632]⟩
abbrev S8x5632 : Shape := ⟨2, ![8, 5632]⟩

abbrev nBuf : Space → Nat
  | .hbm => 243
  | .vmem => 0
  | .smem => 0
  | _ => 0

abbrev hbmTy0_0 (i : Nat) : BufTy := match i % 128 with
  | 0 => ⟨S2304x11264, .f32⟩
  | 1 => ⟨S3x5632, .f32⟩
  | 2 => ⟨S5632, .f32⟩
  | 3 => ⟨S2304x5632, .bf16⟩
  | 4 => ⟨S256x11264, .f32⟩
  | 5 => ⟨S1x256x11264, .f32⟩
  | 6 => ⟨S1x256x5632, .f32⟩
  | 7 => ⟨S1x256x5632, .f32⟩
  | 8 => ⟨S_, .f32⟩
  | 9 => ⟨S1x1x5632, .f32⟩
  | 10 => ⟨S1x258x5632, .f32⟩
  | 11 => ⟨S_, .f32⟩
  | 12 => ⟨S1x1x5632, .f32⟩
  | 13 => ⟨S_, .f32⟩
  | 14 => ⟨S1x1x5632, .f32⟩
  | 15 => ⟨S1x256x5632, .f32⟩
  | 16 => ⟨S1x5632, .f32⟩
  | 17 => ⟨S5632, .f32⟩
  | 18 => ⟨S1x1x5632, .f32⟩
  | 19 => ⟨S1x256x5632, .f32⟩
  | 20 => ⟨S1x256x5632, .f32⟩
  | 21 => ⟨S1x256x5632, .f32⟩
  | 22 => ⟨S1x5632, .f32⟩
  | 23 => ⟨S5632, .f32⟩
  | 24 => ⟨S1x1x5632, .f32⟩
  | 25 => ⟨S1x256x5632, .f32⟩
  | 26 => ⟨S1x256x5632, .f32⟩
  | 27 => ⟨S1x256x5632, .f32⟩
  | 28 => ⟨S1x256x5632, .f32⟩
  | 29 => ⟨S1x5632, .f32⟩
  | 30 => ⟨S5632, .f32⟩
  | 31 => ⟨S1x1x5632, .f32⟩
  | 32 => ⟨S1x256x5632, .f32⟩
  | 33 => ⟨S1x256x5632, .f32⟩
  | 34 => ⟨S1x256x5632, .f32⟩
  | 35 => ⟨S1x1x5632, .f32⟩
  | 36 => ⟨S1x256x5632, .f32⟩
  | 37 => ⟨S1x256x5632, .f32⟩
  | 38 => ⟨S1x256x5632, .f32⟩
  | 39 => ⟨S1x256x5632, .f32⟩
  | 40 => ⟨S_, .f32⟩
  | 41 => ⟨S1x256x5632, .f32⟩
  | 42 => ⟨S1x256x5632, .f32⟩
  | 43 => ⟨S_, .f32⟩
  | 44 => ⟨S1x256x5632, .f32⟩
  | 45 => ⟨S1x256x5632, .f32⟩
  | 46 => ⟨S_, .f32⟩
  | 47 => ⟨S1x256x5632, .f32⟩
  | 48 => ⟨S1x256x5632, .f32⟩
  | 49 => ⟨S1x256x5632, .f32⟩
  | 50 => ⟨S1x256x5632, .f32⟩
  | 51 => ⟨S1x256x5632, .f32⟩
  | 52 => ⟨S2048x11264, .f32⟩
  | 53 => ⟨S1x2048x11264, .f32⟩
  | 54 => ⟨S1x2048x5632, .f32⟩
  | 55 => ⟨S1x2048x5632, .f32⟩
  | 56 => ⟨S_, .f32⟩
  | 57 => ⟨S1x1x5632, .f32⟩
  | 58 => ⟨S1x2050x5632, .f32⟩
  | 59 => ⟨S_, .f32⟩
  | 60 => ⟨S1x1x5632, .f32⟩
  | 61 => ⟨S_, .f32⟩
  | 62 => ⟨S1x1x5632, .f32⟩
  | 63 => ⟨S1x2048x5632, .f32⟩
  | 64 => ⟨S1x5632, .f32⟩
  | 65 => ⟨S5632, .f32⟩
  | 66 => ⟨S1x1x5632, .f32⟩
  | 67 => ⟨S1x2048x5632, .f32⟩
  | 68 => ⟨S1x2048x5632, .f32⟩
  | 69 => ⟨S1x2048x5632, .f32⟩
  | 70 => ⟨S1x5632, .f32⟩
  | 71 => ⟨S5632, .f32⟩
  | 72 => ⟨S1x1x5632, .f32⟩
  | 73 => ⟨S1x2048x5632, .f32⟩
  | 74 => ⟨S1x2048x5632, .f32⟩
  | 75 => ⟨S1x2048x5632, .f32⟩
  | 76 => ⟨S1x2048x5632, .f32⟩
  | 77 => ⟨S1x5632, .f32⟩
  | 78 => ⟨S5632, .f32⟩
  | 79 => ⟨S1x1x5632, .f32⟩
  | 80 => ⟨S1x2048x5632, .f32⟩
  | 81 => ⟨S1x2048x5632, .f32⟩
  | 82 => ⟨S1x2048x5632, .f32⟩
  | 83 => ⟨S1x1x5632, .f32⟩
  | 84 => ⟨S1x2048x5632, .f32⟩
  | 85 => ⟨S1x2048x5632, .f32⟩
  | 86 => ⟨S1x2048x5632, .f32⟩
  | 87 => ⟨S1x2048x5632, .f32⟩
  | 88 => ⟨S_, .f32⟩
  | 89 => ⟨S1x2048x5632, .f32⟩
  | 90 => ⟨S1x2048x5632, .f32⟩
  | 91 => ⟨S_, .f32⟩
  | 92 => ⟨S1x2048x5632, .f32⟩
  | 93 => ⟨S1x2048x5632, .f32⟩
  | 94 => ⟨S_, .f32⟩
  | 95 => ⟨S1x2048x5632, .f32⟩
  | 96 => ⟨S1x2048x5632, .f32⟩
  | 97 => ⟨S1x2048x5632, .f32⟩
  | 98 => ⟨S1x2048x5632, .f32⟩
  | 99 => ⟨S1x2048x5632, .f32⟩
  | 100 => ⟨S1x2304x5632, .f32⟩
  | 101 => ⟨S2304x5632, .f32⟩
  | 102 => ⟨S2304x5632, .f32⟩
  | 103 => ⟨S1x2304x5632, .f32⟩
  | 104 => ⟨S1x256x5632, .f32⟩
  | 105 => ⟨S1x2048x5632, .f32⟩
  | 106 => ⟨S1x2048x5632, .f32⟩
  | 107 => ⟨S1x2048x5632, .f32⟩
  | 108 => ⟨S1x2048x5632, .f32⟩
  | 109 => ⟨S1x2048x5632, .f32⟩
  | 110 => ⟨S1x2048x5632, .f32⟩
  | 111 => ⟨S1x2048x5632, .f32⟩
  | 112 => ⟨S_, .f32⟩
  | 113 => ⟨S1x5632, .f32⟩
  | 114 => ⟨S1x1x5632, .f32⟩
  | 115 => ⟨S_, .f32⟩
  | 116 => ⟨S5632, .f32⟩
  | 117 => ⟨S1x2048x5632, .f32⟩
  | 118 => ⟨S_, .f32⟩
  | 119 => ⟨S1x5632, .f32⟩
  | 120 => ⟨S1x1x5632, .f32⟩
  | 121 => ⟨S1x2048x5632, .f32⟩
  | 122 => ⟨S1x2048x5632, .f32⟩
  | 123 => ⟨S_, .f32⟩
  | 124 => ⟨S5632, .f32⟩
  | 125 => ⟨S1x5632, .f32⟩
  | 126 => ⟨S_, .f32⟩
  | 127 => ⟨S3x5632, .f32⟩
  | _ => ⟨S2304x11264, .f32⟩

abbrev hbmTy0_1 (i : Nat) : BufTy := match i % 128 with
  | 0 => ⟨S_, .f32⟩
  | 1 => ⟨S1x2050x5632, .f32⟩
  | 2 => ⟨S1x2048x5632, .f32⟩
  | 3 => ⟨S_, .f32⟩
  | 4 => ⟨S1x5632, .f32⟩
  | 5 => ⟨S1x1x5632, .f32⟩
  | 6 => ⟨S1x2048x5632, .f32⟩
  | 7 => ⟨S1x2048x5632, .f32⟩
  | 8 => ⟨S_, .f32⟩
  | 9 => ⟨S5632, .f32⟩
  | 10 => ⟨S1x5632, .f32⟩
  | 11 => ⟨S_, .f32⟩
  | 12 => ⟨S3x5632, .f32⟩
  | 13 => ⟨S3x5632, .f32⟩
  | 14 => ⟨S_, .f32⟩
  | 15 => ⟨S1x2050x5632, .f32⟩
  | 16 => ⟨S1x2050x5632, .f32⟩
  | 17 => ⟨S1x2048x5632, .f32⟩
  | 18 => ⟨S_, .f32⟩
  | 19 => ⟨S1x5632, .f32⟩
  | 20 => ⟨S1x1x5632, .f32⟩
  | 21 => ⟨S1x2048x5632, .f32⟩
  | 22 => ⟨S1x2048x5632, .f32⟩
  | 23 => ⟨S_, .f32⟩
  | 24 => ⟨S5632, .f32⟩
  | 25 => ⟨S1x5632, .f32⟩
  | 26 => ⟨S_, .f32⟩
  | 27 => ⟨S3x5632, .f32⟩
  | 28 => ⟨S3x5632, .f32⟩
  | 29 => ⟨S_, .f32⟩
  | 30 => ⟨S1x2050x5632, .f32⟩
  | 31 => ⟨S1x2050x5632, .f32⟩
  | 32 => ⟨S1x1x5632, .f32⟩
  | 33 => ⟨S1x2048x5632, .f32⟩
  | 34 => ⟨S1x1x5632, .f32⟩
  | 35 => ⟨S1x2048x11264, .f32⟩
  | 36 => ⟨S_, .f32⟩
  | 37 => ⟨S2048x11264, .f32⟩
  | 38 => ⟨S_, .f32⟩
  | 39 => ⟨S2304x11264, .f32⟩
  | 40 => ⟨S1x256x5632, .f32⟩
  | 41 => ⟨S1x256x5632, .f32⟩
  | 42 => ⟨S1x256x5632, .f32⟩
  | 43 => ⟨S1x256x5632, .f32⟩
  | 44 => ⟨S1x256x5632, .f32⟩
  | 45 => ⟨S1x256x5632, .f32⟩
  | 46 => ⟨S_, .f32⟩
  | 47 => ⟨S1x5632, .f32⟩
  | 48 => ⟨S1x1x5632, .f32⟩
  | 49 => ⟨S_, .f32⟩
  | 50 => ⟨S5632, .f32⟩
  | 51 => ⟨S5632, .f32⟩
  | 52 => ⟨S1x256x5632, .f32⟩
  | 53 => ⟨S_, .f32⟩
  | 54 => ⟨S1x5632, .f32⟩
  | 55 => ⟨S1x1x5632, .f32⟩
  | 56 => ⟨S1x256x5632, .f32⟩
  | 57 => ⟨S1x256x5632, .f32⟩
  | 58 => ⟨S_, .f32⟩
  | 59 => ⟨S5632, .f32⟩
  | 60 => ⟨S1x5632, .f32⟩
  | 61 => ⟨S_, .f32⟩
  | 62 => ⟨S3x5632, .f32⟩
  | 63 => ⟨S3x5632, .f32⟩
  | 64 => ⟨S_, .f32⟩
  | 65 => ⟨S1x258x5632, .f32⟩
  | 66 => ⟨S1x256x5632, .f32⟩
  | 67 => ⟨S_, .f32⟩
  | 68 => ⟨S1x5632, .f32⟩
  | 69 => ⟨S1x1x5632, .f32⟩
  | 70 => ⟨S1x256x5632, .f32⟩
  | 71 => ⟨S1x256x5632, .f32⟩
  | 72 => ⟨S_, .f32⟩
  | 73 => ⟨S5632, .f32⟩
  | 74 => ⟨S1x5632, .f32⟩
  | 75 => ⟨S_, .f32⟩
  | 76 => ⟨S3x5632, .f32⟩
  | 77 => ⟨S3x5632, .f32⟩
  | 78 => ⟨S_, .f32⟩
  | 79 => ⟨S1x258x5632, .f32⟩
  | 80 => ⟨S1x258x5632, .f32⟩
  | 81 => ⟨S1x256x5632, .f32⟩
  | 82 => ⟨S_, .f32⟩
  | 83 => ⟨S1x5632, .f32⟩
  | 84 => ⟨S1x1x5632, .f32⟩
  | 85 => ⟨S1x256x5632, .f32⟩
  | 86 => ⟨S1x256x5632, .f32⟩
  | 87 => ⟨S_, .f32⟩
  | 88 => ⟨S5632, .f32⟩
  | 89 => ⟨S1x5632, .f32⟩
  | 90 => ⟨S_, .f32⟩
  | 91 => ⟨S3x5632, .f32⟩
  | 92 => ⟨S3x5632, .f32⟩
  | 93 => ⟨S_, .f32⟩
  | 94 => ⟨S1x258x5632, .f32⟩
  | 95 => ⟨S1x258x5632, .f32⟩
  | 96 => ⟨S1x1x5632, .f32⟩
  | 97 => ⟨S1x256x5632, .f32⟩
  | 98 => ⟨S1x1x5632, .f32⟩
  | 99 => ⟨S1x256x11264, .f32⟩
  | 100 => ⟨S_, .f32⟩
  | 101 => ⟨S256x11264, .f32⟩
  | 102 => ⟨S_, .f32⟩
  | 103 => ⟨S2304x11264, .f32⟩
  | 104 => ⟨S2304x11264, .f32⟩
  | 105 => ⟨S2304x5632, .f32⟩
  | 106 => ⟨S2304x5632, .f32⟩
  | 107 => ⟨S1x2304x5632, .f32⟩
  | 108 => ⟨S1x2304x5632, .f32⟩
  | 109 => ⟨S2x2304x5632, .f32⟩
  | 110 => ⟨S2x2304x5632, .bf16⟩
  | 111 => ⟨S1x5632, .f32⟩
  | 112 => ⟨S_, .f32⟩
  | 113 => ⟨S4x5632, .f32⟩
  | 114 => ⟨S8x5632, .f32⟩
  | _ => ⟨S2304x11264, .f32⟩

abbrev hbmTy (i : Nat) : BufTy := match i / 128 with
  | 0 => hbmTy0_0 i
  | 1 => hbmTy0_1 i
  | _ => ⟨S2304x11264, .f32⟩

abbrev bufTy : (tb : Table) → Fin (tcTables nBuf tb) → BufTy
  | .hbm, ⟨i, _⟩ => hbmTy i
  | _, _ => ⟨S2304x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v31_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v31_1 : Ref sig .tc := ⟨.hbm, 49, rfl⟩
abbrev main_v31_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_v64_2 : Ref sig .tc := ⟨.hbm, 93, rfl⟩
abbrev main_call1_cst_1 : Ref sig .tc := ⟨.hbm, 94, rfl⟩
abbrev main_call1_v6 : Ref sig .tc := ⟨.hbm, 95, rfl⟩
abbrev main_call1_v7 : Ref sig .tc := ⟨.hbm, 96, rfl⟩
abbrev main_v64_1 : Ref sig .tc := ⟨.hbm, 97, rfl⟩
abbrev main_v64_0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_v74 : Ref sig .tc := ⟨.hbm, 111, rfl⟩
abbrev main_cst_5 : Ref sig .tc := ⟨.hbm, 112, rfl⟩
abbrev main_v75 : Ref sig .tc := ⟨.hbm, 113, rfl⟩
abbrev main_v76 : Ref sig .tc := ⟨.hbm, 114, rfl⟩
abbrev main_cst_6 : Ref sig .tc := ⟨.hbm, 115, rfl⟩
abbrev main_v77 : Ref sig .tc := ⟨.hbm, 116, rfl⟩
abbrev main_v78 : Ref sig .tc := ⟨.hbm, 117, rfl⟩
abbrev main_cst_7 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_8 : Ref sig .tc := ⟨.hbm, 123, rfl⟩
abbrev main_v83 : Ref sig .tc := ⟨.hbm, 124, rfl⟩
abbrev main_v84 : Ref sig .tc := ⟨.hbm, 125, rfl⟩
abbrev main_cst_9 : Ref sig .tc := ⟨.hbm, 126, rfl⟩
abbrev main_v85 : Ref sig .tc := ⟨.hbm, 127, rfl⟩
abbrev main_cst_10 : Ref sig .tc := ⟨.hbm, 128, rfl⟩
abbrev main_v86 : Ref sig .tc := ⟨.hbm, 129, rfl⟩
abbrev main_v87 : Ref sig .tc := ⟨.hbm, 130, rfl⟩
abbrev main_cst_11 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_12 : Ref sig .tc := ⟨.hbm, 136, rfl⟩
abbrev main_v92 : Ref sig .tc := ⟨.hbm, 137, rfl⟩
abbrev main_v93 : Ref sig .tc := ⟨.hbm, 138, rfl⟩
abbrev main_cst_13 : Ref sig .tc := ⟨.hbm, 139, rfl⟩
abbrev main_v94 : Ref sig .tc := ⟨.hbm, 140, rfl⟩
abbrev main_v95 : Ref sig .tc := ⟨.hbm, 141, rfl⟩
abbrev main_cst_14 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_15 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_16 : Ref sig .tc := ⟨.hbm, 151, rfl⟩
abbrev main_v103 : Ref sig .tc := ⟨.hbm, 152, rfl⟩
abbrev main_v104 : Ref sig .tc := ⟨.hbm, 153, rfl⟩
abbrev main_cst_17 : Ref sig .tc := ⟨.hbm, 154, rfl⟩
abbrev main_v105 : Ref sig .tc := ⟨.hbm, 155, rfl⟩
abbrev main_v106 : Ref sig .tc := ⟨.hbm, 156, rfl⟩
abbrev main_cst_18 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_19 : Ref sig .tc := ⟨.hbm, 164, rfl⟩
abbrev main_v113 : Ref sig .tc := ⟨.hbm, 165, rfl⟩
abbrev main_cst_20 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_call3_v0 : Ref sig .tc := ⟨.hbm, 170, rfl⟩
abbrev main_call3_v1 : Ref sig .tc := ⟨.hbm, 171, rfl⟩
abbrev main_call3_v2 : Ref sig .tc := ⟨.hbm, 172, rfl⟩
abbrev main_v117 : Ref sig .tc := ⟨.hbm, 173, rfl⟩
abbrev main_cst_21 : Ref sig .tc := ⟨.hbm, 174, rfl⟩
abbrev main_v118 : Ref sig .tc := ⟨.hbm, 175, rfl⟩
abbrev main_v119 : Ref sig .tc := ⟨.hbm, 176, rfl⟩
abbrev main_cst_22 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_23 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_cst_24 : Ref sig .tc := ⟨.hbm, 186, rfl⟩
abbrev main_v127 : Ref sig .tc := ⟨.hbm, 187, rfl⟩
abbrev main_v128 : Ref sig .tc := ⟨.hbm, 188, rfl⟩
abbrev main_cst_25 : Ref sig .tc := ⟨.hbm, 189, rfl⟩
abbrev main_v129 : Ref sig .tc := ⟨.hbm, 190, rfl⟩
abbrev main_v130 : Ref sig .tc := ⟨.hbm, 191, rfl⟩
abbrev main_cst_26 : Ref sig .tc := ⟨.hbm, 192, rfl⟩
abbrev main_v131 : Ref sig .tc := ⟨.hbm, 193, rfl⟩
abbrev main_v132 : Ref sig .tc := ⟨.hbm, 194, rfl⟩
abbrev main_cst_27 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_cst_28 : Ref sig .tc := ⟨.hbm, 200, rfl⟩
abbrev main_v137 : Ref sig .tc := ⟨.hbm, 201, rfl⟩
abbrev main_v138 : Ref sig .tc := ⟨.hbm, 202, rfl⟩
abbrev main_cst_29 : Ref sig .tc := ⟨.hbm, 203, rfl⟩
abbrev main_v139 : Ref sig .tc := ⟨.hbm, 204, rfl⟩
abbrev main_v140 : Ref sig .tc := ⟨.hbm, 205, rfl⟩
abbrev main_cst_30 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_cst_31 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_cst_32 : Ref sig .tc := ⟨.hbm, 215, rfl⟩
abbrev main_v148 : Ref sig .tc := ⟨.hbm, 216, rfl⟩
abbrev main_v149 : Ref sig .tc := ⟨.hbm, 217, rfl⟩
abbrev main_cst_33 : Ref sig .tc := ⟨.hbm, 218, rfl⟩
abbrev main_v150 : Ref sig .tc := ⟨.hbm, 219, rfl⟩
abbrev main_v151 : Ref sig .tc := ⟨.hbm, 220, rfl⟩
abbrev main_cst_34 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_cst_35 : Ref sig .tc := ⟨.hbm, 228, rfl⟩
abbrev main_v158 : Ref sig .tc := ⟨.hbm, 229, rfl⟩
abbrev main_cst_36 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_cst_37 : Ref sig .tc := ⟨.hbm, 240, rfl⟩
abbrev main_v168 : Ref sig .tc := ⟨.hbm, 241, rfl⟩
abbrev main_v169 : Ref sig .tc := ⟨.hbm, 242, rfl⟩

abbrev nD : Nat := 1
abbrev τ : Topo := Topo.v7x

variable {F : FTy → Type} [FloatOps F]
-- ==== Mixr.lean ====
abbrev S2304x5376 : Shape := ⟨2, ![2304, 5376]⟩
abbrev S2304x512 : Shape := ⟨2, ![2304, 512]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2304x5376, .f32⟩
  | .hbm, ⟨1, _⟩ => ⟨S2304x512, .f32⟩
  | .hbm, ⟨2, _⟩ => ⟨S1x128, .f32⟩
  | .hbm, ⟨3, _⟩ => ⟨S2304x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | _, _ => ⟨S2304x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatedRetIdeal.lean ====
abbrev S2304x5376 : Shape := ⟨2, ![2304, 5376]⟩
abbrev S2304x512 : Shape := ⟨2, ![2304, 512]⟩
abbrev S1x128 : Shape := ⟨2, ![1, 128]⟩
abbrev S1x2304x512 : Shape := ⟨3, ![1, 2304, 512]⟩
abbrev S1x2304x4x128 : Shape := ⟨4, ![1, 2304, 4, 128]⟩
abbrev S1x4x2304x128 : Shape := ⟨4, ![1, 4, 2304, 128]⟩
abbrev S_ : Shape := ⟨0, ![]⟩
abbrev S1x4x2304 : Shape := ⟨3, ![1, 4, 2304]⟩
abbrev S1x4x2304x1 : Shape := ⟨4, ![1, 4, 2304, 1]⟩
abbrev S1x1x1x128 : Shape := ⟨4, ![1, 1, 1, 128]⟩

abbrev nBuf : Space → Nat
  | .hbm => 38
  | .vmem => 0
  | .smem => 0
  | _ => 0

abbrev bufTy : (tb : Table) → Fin (tcTables nBuf tb) → BufTy
  | .hbm, ⟨0, _⟩ => ⟨S2304x5376, .f32⟩
  | .hbm, ⟨1, _⟩ => ⟨S2304x512, .f32⟩
  | .hbm, ⟨2, _⟩ => ⟨S1x128, .f32⟩
  | .hbm, ⟨3, _⟩ => ⟨S2304x512, .f32⟩
  | .hbm, ⟨4, _⟩ => ⟨S1x2304x512, .f32⟩
  | .hbm, ⟨5, _⟩ => ⟨S1x2304x4x128, .f32⟩
  | .hbm, ⟨6, _⟩ => ⟨S1x4x2304x128, .f32⟩
  | .hbm, ⟨7, _⟩ => ⟨S1x4x2304x128, .f32⟩
  | .hbm, ⟨8, _⟩ => ⟨S_, .f32⟩
  | .hbm, ⟨9, _⟩ => ⟨S1x4x2304, .f32⟩
  | .hbm, ⟨10, _⟩ => ⟨S1x4x2304x1, .f32⟩
  | .hbm, ⟨11, _⟩ => ⟨S_, .f32⟩
  | .hbm, ⟨12, _⟩ => ⟨S1x4x2304x1, .f32⟩
  | .hbm, ⟨13, _⟩ => ⟨S1x4x2304x1, .f32⟩
  | .hbm, ⟨14, _⟩ => ⟨S_, .f32⟩
  | .hbm, ⟨15, _⟩ => ⟨S1x4x2304x1, .f32⟩
  | .hbm, ⟨16, _⟩ => ⟨S1x4x2304x1, .f32⟩
  | .hbm, ⟨17, _⟩ => ⟨S1x4x2304x1, .f32⟩
  | .hbm, ⟨18, _⟩ => ⟨S1x4x2304x128, .f32⟩
  | .hbm, ⟨19, _⟩ => ⟨S1x4x2304x128, .f32⟩
  | .hbm, ⟨20, _⟩ => ⟨S1x1x1x128, .f32⟩
  | .hbm, ⟨21, _⟩ => ⟨S1x4x2304x128, .f32⟩
  | .hbm, ⟨22, _⟩ => ⟨S1x4x2304x128, .f32⟩
  | .hbm, ⟨23, _⟩ => ⟨S1x2304x4x128, .f32⟩
  | .hbm, ⟨24, _⟩ => ⟨S1x2304x512, .f32⟩
  | .hbm, ⟨25, _⟩ => ⟨S1x2304x512, .f32⟩
  | .hbm, ⟨26, _⟩ => ⟨S1x2304x512, .f32⟩
  | .hbm, ⟨27, _⟩ => ⟨S1x2304x512, .f32⟩
  | .hbm, ⟨28, _⟩ => ⟨S_, .f32⟩
  | .hbm, ⟨29, _⟩ => ⟨S1x2304x512, .f32⟩
  | .hbm, ⟨30, _⟩ => ⟨S1x2304x512, .f32⟩
  | .hbm, ⟨31, _⟩ => ⟨S_, .f32⟩
  | .hbm, ⟨32, _⟩ => ⟨S1x2304x512, .f32⟩
  | .hbm, ⟨33, _⟩ => ⟨S1x2304x512, .f32⟩
  | .hbm, ⟨34, _⟩ => ⟨S1x2304x512, .f32⟩
  | .hbm, ⟨35, _⟩ => ⟨S1x2304x512, .f32⟩
  | .hbm, ⟨36, _⟩ => ⟨S2304x512, .f32⟩
  | .hbm, ⟨37, _⟩ => ⟨S2304x512, .bf16⟩
  | _, _ => ⟨S2304x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== MixrBwd.lean ====
abbrev S2304x5376 : Shape := ⟨2, ![2304, 5376]⟩
abbrev S2304x512 : Shape := ⟨2, ![2304, 512]⟩
abbrev S1x128 : Shape := ⟨2, ![1, 128]⟩
abbrev S2304x2048 : Shape := ⟨2, ![2304, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S2304x5376, .f32⟩
  | .hbm, ⟨1, _⟩ => ⟨S2304x512, .f32⟩
  | .hbm, ⟨2, _⟩ => ⟨S1x128, .f32⟩
  | .hbm, ⟨3, _⟩ => ⟨S2304x2048, .bf16⟩
  | .hbm, ⟨4, _⟩ => ⟨S2304x512, .f32⟩
  | .hbm, ⟨5, _⟩ => ⟨S2304x512, .bf16⟩
  | .hbm, ⟨6, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S256x512, .f32⟩
  | .local _ .vmem, ⟨8, _⟩ => ⟨S256x512, .f32⟩
  | .local _ .vmem, ⟨9, _⟩ => ⟨S256x512, .bf16⟩
  | .local _ .vmem, ⟨10, _⟩ => ⟨S256x512, .bf16⟩
  | .local _ .vmem, ⟨11, _⟩ => ⟨S1x128, .f32⟩
  | _, _ => ⟨S2304x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v268 : BitVec 1 := Scalar.cmpi .eq arg0 c0_i32
  let v269 : BitVec 32 := Scalar.extui v268
  let c0_i32_97 : BitVec 32 := 0#32
  let v270 : BitVec 1 := Scalar.cmpi .ne v269 c0_i32_97
  v270

def k0_cond2 (i : grid0.Coords) : BitVec 1 :=
  let arg0 : BitVec 32 := BitVec.ofNat 32 (i 0).val
  let c0_i32 : BitVec 32 := 0#32
  let v268 : BitVec 1 := Scalar.cmpi .eq arg0 c0_i32
  let v_true : BitVec 1 := 1#1
  let v271 : BitVec 1 := Scalar.xori v268 v_true
  let v272 : BitVec 32 := Scalar.extui v271
  let c0_i32_98 : BitVec 32 := 0#32
  let v273 : BitVec 1 := Scalar.cmpi .ne v272 c0_i32_98
  v273

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GatedRetGradIdeal.lean ====
abbrev S2304x5376 : Shape := ⟨2, ![2304, 5376]⟩
abbrev S2304x512 : Shape := ⟨2, ![2304, 512]⟩
abbrev S1x128 : Shape := ⟨2, ![1, 128]⟩
abbrev S2304x2048 : Shape := ⟨2, ![2304, 2048]⟩
abbrev S1x2304x512 : Shape := ⟨3, ![1, 2304, 512]⟩
abbrev S1x2304x4x128 : Shape := ⟨4, ![1, 2304, 4, 128]⟩
abbrev S1x4x2304x128 : Shape := ⟨4, ![1, 4, 2304, 128]⟩
abbrev S_ : Shape := ⟨0, ![]⟩
abbrev S1x4x2304 : Shape := ⟨3, ![1, 4, 2304]⟩
abbrev S1x4x2304x1 : Shape := ⟨4, ![1, 4, 2304, 1]⟩
abbrev S1x1x1x128 : Shape := ⟨4, ![1, 1, 1, 128]⟩
abbrev S128 : Shape := ⟨1, ![128]⟩
abbrev S4x2304 : Shape := ⟨2, ![4, 2304]⟩

abbrev nBuf : Space → Nat
  | .hbm => 91
  | .vmem => 0
  | .smem => 0
  | _ => 0

abbrev bufTy : (tb : Table) → Fin (tcTables nBuf tb) → BufTy
  | .hbm, ⟨0, _⟩ => ⟨S2304x5376, .f32⟩
  | .hbm, ⟨1, _⟩ => ⟨S2304x512, .f32⟩
  | .hbm, ⟨2, _⟩ => ⟨S1x128, .f32⟩
  | .hbm, ⟨3, _⟩ => ⟨S2304x2048, .bf16⟩
  | .hbm, ⟨4, _⟩ => ⟨S2304x512, .f32⟩
  | .hbm, ⟨5, _⟩ => ⟨S1x2304x512, .f32⟩
  | .hbm, ⟨6, _⟩ => ⟨S1x2304x4x128, .f32⟩
  | .hbm, ⟨7, _⟩ => ⟨S1x4x2304x128, .f32⟩
  | .hbm, ⟨8, _⟩ => ⟨S1x4x2304x128, .f32⟩
  | .hbm, ⟨9, _⟩ => ⟨S_, .f32⟩
  | .hbm, ⟨10, _⟩ => ⟨S1x4x2304, .f32⟩
  | .hbm, ⟨11, _⟩ => ⟨S1x4x2304x1, .f32⟩
  | .hbm, ⟨12, _⟩ => ⟨S_, .f32⟩
  | .hbm, ⟨13, _⟩ => ⟨S1x4x2304x1, .f32⟩
  | .hbm, ⟨14, _⟩ => ⟨S1x4x2304x1, .f32⟩
  | .hbm, ⟨15, _⟩ => ⟨S_, .f32⟩
  | .hbm, ⟨16, _⟩ => ⟨S1x4x2304x1, .f32⟩
  | .hbm, ⟨17, _⟩ => ⟨S1x4x2304x1, .f32⟩
  | .hbm, ⟨18, _⟩ => ⟨S1x4x2304x1, .f32⟩
  | .hbm, ⟨19, _⟩ => ⟨S1x4x2304x1, .f32⟩
  | .hbm, ⟨20, _⟩ => ⟨S_, .f32⟩
  | .hbm, ⟨21, _⟩ => ⟨S1x4x2304x1, .f32⟩
  | .hbm, ⟨22, _⟩ => ⟨S1x4x2304x1, .f32⟩
  | .hbm, ⟨23, _⟩ => ⟨S1x4x2304x128, .f32⟩
  | .hbm, ⟨24, _⟩ => ⟨S1x4x2304x128, .f32⟩
  | .hbm, ⟨25, _⟩ => ⟨S1x1x1x128, .f32⟩
  | .hbm, ⟨26, _⟩ => ⟨S1x4x2304x128, .f32⟩
  | .hbm, ⟨27, _⟩ => ⟨S1x4x2304x128, .f32⟩
  | .hbm, ⟨28, _⟩ => ⟨S1x2304x4x128, .f32⟩
  | .hbm, ⟨29, _⟩ => ⟨S1x2304x512, .f32⟩
  | .hbm, ⟨30, _⟩ => ⟨S1x2304x512, .f32⟩
  | .hbm, ⟨31, _⟩ => ⟨S1x2304x512, .f32⟩
  | .hbm, ⟨32, _⟩ => ⟨S1x2304x512, .f32⟩
  | .hbm, ⟨33, _⟩ => ⟨S_, .f32⟩
  | .hbm, ⟨34, _⟩ => ⟨S1x2304x512, .f32⟩
  | .hbm, ⟨35, _⟩ => ⟨S1x2304x512, .f32⟩
  | .hbm, ⟨36, _⟩ => ⟨S_, .f32⟩
  | .hbm, ⟨37, _⟩ => ⟨S1x2304x512, .f32⟩
  | .hbm, ⟨38, _⟩ => ⟨S1x2304x512, .f32⟩
  | .hbm, ⟨39, _⟩ => ⟨S_, .f32⟩
  | .hbm, ⟨40, _⟩ => ⟨S1x2304x512, .f32⟩
  | .hbm, ⟨41, _⟩ => ⟨S1x2304x512, .f32⟩
  | .hbm, ⟨42, _⟩ => ⟨S1x2304x512, .f32⟩
  | .hbm, ⟨43, _⟩ => ⟨S1x2304x512, .f32⟩
  | .hbm, ⟨44, _⟩ => ⟨S1x2304x512, .f32⟩
  | .hbm, ⟨45, _⟩ => ⟨S2304x512, .f32⟩
  | .hbm, ⟨46, _⟩ => ⟨S2304x512, .bf16⟩
  | .hbm, ⟨47, _⟩ => ⟨S2304x512, .f32⟩
  | .hbm, ⟨48, _⟩ => ⟨S1x2304x512, .f32⟩
  | .hbm, ⟨49, _⟩ => ⟨S1x2304x512, .f32⟩
  | .hbm, ⟨50, _⟩ => ⟨S1x2304x512, .f32⟩
  | .hbm, ⟨51, _⟩ => ⟨S1x2304x512, .f32⟩
  | .hbm, ⟨52, _⟩ => ⟨S1x2304x512, .f32⟩
  | .hbm, ⟨53, _⟩ => ⟨S1x2304x512, .f32⟩
  | .hbm, ⟨54, _⟩ => ⟨S1x2304x512, .f32⟩
  | .hbm, ⟨55, _⟩ => ⟨S_, .f32⟩
  | .hbm, ⟨56, _⟩ => ⟨S2304x512, .f32⟩
  | .hbm, ⟨57, _⟩ => ⟨S1x2304x4x128, .f32⟩
  | .hbm, ⟨58, _⟩ => ⟨S1x4x2304x128, .f32⟩
  | .hbm, ⟨59, _⟩ => ⟨S1x4x2304x128, .f32⟩
  | .hbm, ⟨60, _⟩ => ⟨S_, .f32⟩
  | .hbm, ⟨61, _⟩ => ⟨S1x128, .f32⟩
  | .hbm, ⟨62, _⟩ => ⟨S1x1x1x128, .f32⟩
  | .hbm, ⟨63, _⟩ => ⟨S1x4x2304x128, .f32⟩
  | .hbm, ⟨64, _⟩ => ⟨S1x4x2304x128, .f32⟩
  | .hbm, ⟨65, _⟩ => ⟨S_, .f32⟩
  | .hbm, ⟨66, _⟩ => ⟨S128, .f32⟩
  | .hbm, ⟨67, _⟩ => ⟨S1x128, .f32⟩
  | .hbm, ⟨68, _⟩ => ⟨S1x4x2304x128, .f32⟩
  | .hbm, ⟨69, _⟩ => ⟨S_, .f32⟩
  | .hbm, ⟨70, _⟩ => ⟨S1x4x2304, .f32⟩
  | .hbm, ⟨71, _⟩ => ⟨S1x4x2304x1, .f32⟩
  | .hbm, ⟨72, _⟩ => ⟨S1x4x2304x128, .f32⟩
  | .hbm, ⟨73, _⟩ => ⟨S1x4x2304x128, .f32⟩
  | .hbm, ⟨74, _⟩ => ⟨S1x4x2304x1, .f32⟩
  | .hbm, ⟨75, _⟩ => ⟨S_, .f32⟩
  | .hbm, ⟨76, _⟩ => ⟨S1x4x2304x1, .f32⟩
  | .hbm, ⟨77, _⟩ => ⟨S1x4x2304x1, .f32⟩
  | .hbm, ⟨78, _⟩ => ⟨S_, .f32⟩
  | .hbm, ⟨79, _⟩ => ⟨S4x2304, .f32⟩
  | .hbm, ⟨80, _⟩ => ⟨S1x4x2304, .f32⟩
  | .hbm, ⟨81, _⟩ => ⟨S1x4x2304x128, .f32⟩
  | .hbm, ⟨82, _⟩ => ⟨S1x4x2304x128, .f32⟩
  | .hbm, ⟨83, _⟩ => ⟨S1x4x2304x128, .f32⟩
  | .hbm, ⟨84, _⟩ => ⟨S1x4x2304x128, .f32⟩
  | .hbm, ⟨85, _⟩ => ⟨S1x4x2304x128, .f32⟩
  | .hbm, ⟨86, _⟩ => ⟨S1x2304x4x128, .f32⟩
  | .hbm, ⟨87, _⟩ => ⟨S1x2304x512, .f32⟩
  | .hbm, ⟨88, _⟩ => ⟨S_, .f32⟩
  | .hbm, ⟨89, _⟩ => ⟨S2304x512, .f32⟩
  | .hbm, ⟨90, _⟩ => ⟨S2304x512, .bf16⟩
  | _, _ => ⟨S2304x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v23_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v23_1 : Ref sig .tc := ⟨.hbm, 42, rfl⟩
abbrev main_v23_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== Mixg.lean ====
abbrev S2304x5376 : Shape := ⟨2, ![2304, 5376]⟩
abbrev S2304x512 : Shape := ⟨2, ![2304, 512]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2304x5376, .f32⟩
  | .hbm, ⟨1, _⟩ => ⟨S2304x512, .f32⟩
  | .hbm, ⟨2, _⟩ => ⟨S1x128, .f32⟩
  | .hbm, ⟨3, _⟩ => ⟨S2304x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | _, _ => ⟨S2304x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatedGlaIdeal.lean ====
abbrev S2304x5376 : Shape := ⟨2, ![2304, 5376]⟩
abbrev S2304x512 : Shape := ⟨2, ![2304, 512]⟩
abbrev S1x128 : Shape := ⟨2, ![1, 128]⟩
abbrev S1x2304x512 : Shape := ⟨3, ![1, 2304, 512]⟩
abbrev S1x2304x4x128 : Shape := ⟨4, ![1, 2304, 4, 128]⟩
abbrev S1x4x2304x128 : Shape := ⟨4, ![1, 4, 2304, 128]⟩
abbrev S_ : Shape := ⟨0, ![]⟩
abbrev S1x4x2304 : Shape := ⟨3, ![1, 4, 2304]⟩
abbrev S1x4x2304x1 : Shape := ⟨4, ![1, 4, 2304, 1]⟩
abbrev S1x1x1x128 : Shape := ⟨4, ![1, 1, 1, 128]⟩

abbrev nBuf : Space → Nat
  | .hbm => 38
  | .vmem => 0
  | .smem => 0
  | _ => 0

abbrev bufTy : (tb : Table) → Fin (tcTables nBuf tb) → BufTy
  | .hbm, ⟨0, _⟩ => ⟨S2304x5376, .f32⟩
  | .hbm, ⟨1, _⟩ => ⟨S2304x512, .f32⟩
  | .hbm, ⟨2, _⟩ => ⟨S1x128, .f32⟩
  | .hbm, ⟨3, _⟩ => ⟨S2304x512, .f32⟩
  | .hbm, ⟨4, _⟩ => ⟨S1x2304x512, .f32⟩
  | .hbm, ⟨5, _⟩ => ⟨S1x2304x4x128, .f32⟩
  | .hbm, ⟨6, _⟩ => ⟨S1x4x2304x128, .f32⟩
  | .hbm, ⟨7, _⟩ => ⟨S1x4x2304x128, .f32⟩
  | .hbm, ⟨8, _⟩ => ⟨S_, .f32⟩
  | .hbm, ⟨9, _⟩ => ⟨S1x4x2304, .f32⟩
  | .hbm, ⟨10, _⟩ => ⟨S1x4x2304x1, .f32⟩
  | .hbm, ⟨11, _⟩ => ⟨S_, .f32⟩
  | .hbm, ⟨12, _⟩ => ⟨S1x4x2304x1, .f32⟩
  | .hbm, ⟨13, _⟩ => ⟨S1x4x2304x1, .f32⟩
  | .hbm, ⟨14, _⟩ => ⟨S_, .f32⟩
  | .hbm, ⟨15, _⟩ => ⟨S1x4x2304x1, .f32⟩
  | .hbm, ⟨16, _⟩ => ⟨S1x4x2304x1, .f32⟩
  | .hbm, ⟨17, _⟩ => ⟨S1x4x2304x1, .f32⟩
  | .hbm, ⟨18, _⟩ => ⟨S1x4x2304x128, .f32⟩
  | .hbm, ⟨19, _⟩ => ⟨S1x4x2304x128, .f32⟩
  | .hbm, ⟨20, _⟩ => ⟨S1x1x1x128, .f32⟩
  | .hbm, ⟨21, _⟩ => ⟨S1x4x2304x128, .f32⟩
  | .hbm, ⟨22, _⟩ => ⟨S1x4x2304x128, .f32⟩
  | .hbm, ⟨23, _⟩ => ⟨S1x2304x4x128, .f32⟩
  | .hbm, ⟨24, _⟩ => ⟨S1x2304x512, .f32⟩
  | .hbm, ⟨25, _⟩ => ⟨S1x2304x512, .f32⟩
  | .hbm, ⟨26, _⟩ => ⟨S1x2304x512, .f32⟩
  | .hbm, ⟨27, _⟩ => ⟨S1x2304x512, .f32⟩
  | .hbm, ⟨28, _⟩ => ⟨S_, .f32⟩
  | .hbm, ⟨29, _⟩ => ⟨S1x2304x512, .f32⟩
  | .hbm, ⟨30, _⟩ => ⟨S1x2304x512, .f32⟩
  | .hbm, ⟨31, _⟩ => ⟨S_, .f32⟩
  | .hbm, ⟨32, _⟩ => ⟨S1x2304x512, .f32⟩
  | .hbm, ⟨33, _⟩ => ⟨S1x2304x512, .f32⟩
  | .hbm, ⟨34, _⟩ => ⟨S1x2304x512, .f32⟩
  | .hbm, ⟨35, _⟩ => ⟨S1x2304x512, .f32⟩
  | .hbm, ⟨36, _⟩ => ⟨S2304x512, .f32⟩
  | .hbm, ⟨37, _⟩ => ⟨S2304x512, .bf16⟩
  | _, _ => ⟨S2304x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== MixgBwd.lean ====
abbrev S2304x5376 : Shape := ⟨2, ![2304, 5376]⟩
abbrev S2304x512 : Shape := ⟨2, ![2304, 512]⟩
abbrev S1x128 : Shape := ⟨2, ![1, 128]⟩
abbrev S2304x2048 : Shape := ⟨2, ![2304, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S2304x5376, .f32⟩
  | .hbm, ⟨1, _⟩ => ⟨S2304x512, .f32⟩
  | .hbm, ⟨2, _⟩ => ⟨S1x128, .f32⟩
  | .hbm, ⟨3, _⟩ => ⟨S2304x2048, .bf16⟩
  | .hbm, ⟨4, _⟩ => ⟨S2304x512, .f32⟩
  | .hbm, ⟨5, _⟩ => ⟨S2304x512, .bf16⟩
  | .hbm, ⟨6, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S256x512, .f32⟩
  | .local _ .vmem, ⟨8, _⟩ => ⟨S256x512, .f32⟩
  | .local _ .vmem, ⟨9, _⟩ => ⟨S256x512, .bf16⟩
  | .local _ .vmem, ⟨10, _⟩ => ⟨S256x512, .bf16⟩
  | .local _ .vmem, ⟨11, _⟩ => ⟨S1x128, .f32⟩
  | _, _ => ⟨S2304x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v268 : BitVec 1 := Scalar.cmpi .eq arg0 c0_i32
  let v269 : BitVec 32 := Scalar.extui v268
  let c0_i32_97 : BitVec 32 := 0#32
  let v270 : BitVec 1 := Scalar.cmpi .ne v269 c0_i32_97
  v270

def k0_cond2 (i : grid0.Coords) : BitVec 1 :=
  let arg0 : BitVec 32 := BitVec.ofNat 32 (i 0).val
  let c0_i32 : BitVec 32 := 0#32
  let v268 : BitVec 1 := Scalar.cmpi .eq arg0 c0_i32
  let v_true : BitVec 1 := 1#1
  let v271 : BitVec 1 := Scalar.xori v268 v_true
  let v272 : BitVec 32 := Scalar.extui v271
  let c0_i32_98 : BitVec 32 := 0#32
  let v273 : BitVec 1 := Scalar.cmpi .ne v272 c0_i32_98
  v273

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GatedGlaGradIdeal.lean ====
abbrev S2304x5376 : Shape := ⟨2, ![2304, 5376]⟩
abbrev S2304x512 : Shape := ⟨2, ![2304, 512]⟩
abbrev S1x128 : Shape := ⟨2, ![1, 128]⟩
abbrev S2304x2048 : Shape := ⟨2, ![2304, 2048]⟩
abbrev S1x2304x512 : Shape := ⟨3, ![1, 2304, 512]⟩
abbrev S1x2304x4x128 : Shape := ⟨4, ![1, 2304, 4, 128]⟩
abbrev S1x4x2304x128 : Shape := ⟨4, ![1, 4, 2304, 128]⟩
abbrev S_ : Shape := ⟨0, ![]⟩
abbrev S1x4x2304 : Shape := ⟨3, ![1, 4, 2304]⟩
abbrev S1x4x2304x1 : Shape := ⟨4, ![1, 4, 2304, 1]⟩
abbrev S1x1x1x128 : Shape := ⟨4, ![1, 1, 1, 128]⟩
abbrev S128 : Shape := ⟨1, ![128]⟩
abbrev S4x2304 : Shape := ⟨2, ![4, 2304]⟩

abbrev nBuf : Space → Nat
  | .hbm => 91
  | .vmem => 0
  | .smem => 0
  | _ => 0

abbrev bufTy : (tb : Table) → Fin (tcTables nBuf tb) → BufTy
  | .hbm, ⟨0, _⟩ => ⟨S2304x5376, .f32⟩
  | .hbm, ⟨1, _⟩ => ⟨S2304x512, .f32⟩
  | .hbm, ⟨2, _⟩ => ⟨S1x128, .f32⟩
  | .hbm, ⟨3, _⟩ => ⟨S2304x2048, .bf16⟩
  | .hbm, ⟨4, _⟩ => ⟨S2304x512, .f32⟩
  | .hbm, ⟨5, _⟩ => ⟨S1x2304x512, .f32⟩
  | .hbm, ⟨6, _⟩ => ⟨S1x2304x4x128, .f32⟩
  | .hbm, ⟨7, _⟩ => ⟨S1x4x2304x128, .f32⟩
  | .hbm, ⟨8, _⟩ => ⟨S1x4x2304x128, .f32⟩
  | .hbm, ⟨9, _⟩ => ⟨S_, .f32⟩
  | .hbm, ⟨10, _⟩ => ⟨S1x4x2304, .f32⟩
  | .hbm, ⟨11, _⟩ => ⟨S1x4x2304x1, .f32⟩
  | .hbm, ⟨12, _⟩ => ⟨S_, .f32⟩
  | .hbm, ⟨13, _⟩ => ⟨S1x4x2304x1, .f32⟩
  | .hbm, ⟨14, _⟩ => ⟨S1x4x2304x1, .f32⟩
  | .hbm, ⟨15, _⟩ => ⟨S_, .f32⟩
  | .hbm, ⟨16, _⟩ => ⟨S1x4x2304x1, .f32⟩
  | .hbm, ⟨17, _⟩ => ⟨S1x4x2304x1, .f32⟩
  | .hbm, ⟨18, _⟩ => ⟨S1x4x2304x1, .f32⟩
  | .hbm, ⟨19, _⟩ => ⟨S1x4x2304x1, .f32⟩
  | .hbm, ⟨20, _⟩ => ⟨S_, .f32⟩
  | .hbm, ⟨21, _⟩ => ⟨S1x4x2304x1, .f32⟩
  | .hbm, ⟨22, _⟩ => ⟨S1x4x2304x1, .f32⟩
  | .hbm, ⟨23, _⟩ => ⟨S1x4x2304x128, .f32⟩
  | .hbm, ⟨24, _⟩ => ⟨S1x4x2304x128, .f32⟩
  | .hbm, ⟨25, _⟩ => ⟨S1x1x1x128, .f32⟩
  | .hbm, ⟨26, _⟩ => ⟨S1x4x2304x128, .f32⟩
  | .hbm, ⟨27, _⟩ => ⟨S1x4x2304x128, .f32⟩
  | .hbm, ⟨28, _⟩ => ⟨S1x2304x4x128, .f32⟩
  | .hbm, ⟨29, _⟩ => ⟨S1x2304x512, .f32⟩
  | .hbm, ⟨30, _⟩ => ⟨S1x2304x512, .f32⟩
  | .hbm, ⟨31, _⟩ => ⟨S1x2304x512, .f32⟩
  | .hbm, ⟨32, _⟩ => ⟨S1x2304x512, .f32⟩
  | .hbm, ⟨33, _⟩ => ⟨S_, .f32⟩
  | .hbm, ⟨34, _⟩ => ⟨S1x2304x512, .f32⟩
  | .hbm, ⟨35, _⟩ => ⟨S1x2304x512, .f32⟩
  | .hbm, ⟨36, _⟩ => ⟨S_, .f32⟩
  | .hbm, ⟨37, _⟩ => ⟨S1x2304x512, .f32⟩
  | .hbm, ⟨38, _⟩ => ⟨S1x2304x512, .f32⟩
  | .hbm, ⟨39, _⟩ => ⟨S_, .f32⟩
  | .hbm, ⟨40, _⟩ => ⟨S1x2304x512, .f32⟩
  | .hbm, ⟨41, _⟩ => ⟨S1x2304x512, .f32⟩
  | .hbm, ⟨42, _⟩ => ⟨S1x2304x512, .f32⟩
  | .hbm, ⟨43, _⟩ => ⟨S1x2304x512, .f32⟩
  | .hbm, ⟨44, _⟩ => ⟨S1x2304x512, .f32⟩
  | .hbm, ⟨45, _⟩ => ⟨S2304x512, .f32⟩
  | .hbm, ⟨46, _⟩ => ⟨S2304x512, .bf16⟩
  | .hbm, ⟨47, _⟩ => ⟨S2304x512, .f32⟩
  | .hbm, ⟨48, _⟩ => ⟨S1x2304x512, .f32⟩
  | .hbm, ⟨49, _⟩ => ⟨S1x2304x512, .f32⟩
  | .hbm, ⟨50, _⟩ => ⟨S1x2304x512, .f32⟩
  | .hbm, ⟨51, _⟩ => ⟨S1x2304x512, .f32⟩
  | .hbm, ⟨52, _⟩ => ⟨S1x2304x512, .f32⟩
  | .hbm, ⟨53, _⟩ => ⟨S1x2304x512, .f32⟩
  | .hbm, ⟨54, _⟩ => ⟨S1x2304x512, .f32⟩
  | .hbm, ⟨55, _⟩ => ⟨S_, .f32⟩
  | .hbm, ⟨56, _⟩ => ⟨S2304x512, .f32⟩
  | .hbm, ⟨57, _⟩ => ⟨S1x2304x4x128, .f32⟩
  | .hbm, ⟨58, _⟩ => ⟨S1x4x2304x128, .f32⟩
  | .hbm, ⟨59, _⟩ => ⟨S1x4x2304x128, .f32⟩
  | .hbm, ⟨60, _⟩ => ⟨S_, .f32⟩
  | .hbm, ⟨61, _⟩ => ⟨S1x128, .f32⟩
  | .hbm, ⟨62, _⟩ => ⟨S1x1x1x128, .f32⟩
  | .hbm, ⟨63, _⟩ => ⟨S1x4x2304x128, .f32⟩
  | .hbm, ⟨64, _⟩ => ⟨S1x4x2304x128, .f32⟩
  | .hbm, ⟨65, _⟩ => ⟨S_, .f32⟩
  | .hbm, ⟨66, _⟩ => ⟨S128, .f32⟩
  | .hbm, ⟨67, _⟩ => ⟨S1x128, .f32⟩
  | .hbm, ⟨68, _⟩ => ⟨S1x4x2304x128, .f32⟩
  | .hbm, ⟨69, _⟩ => ⟨S_, .f32⟩
  | .hbm, ⟨70, _⟩ => ⟨S1x4x2304, .f32⟩
  | .hbm, ⟨71, _⟩ => ⟨S1x4x2304x1, .f32⟩
  | .hbm, ⟨72, _⟩ => ⟨S1x4x2304x128, .f32⟩
  | .hbm, ⟨73, _⟩ => ⟨S1x4x2304x128, .f32⟩
  | .hbm, ⟨74, _⟩ => ⟨S1x4x2304x1, .f32⟩
  | .hbm, ⟨75, _⟩ => ⟨S_, .f32⟩
  | .hbm, ⟨76, _⟩ => ⟨S1x4x2304x1, .f32⟩
  | .hbm, ⟨77, _⟩ => ⟨S1x4x2304x1, .f32⟩
  | .hbm, ⟨78, _⟩ => ⟨S_, .f32⟩
  | .hbm, ⟨79, _⟩ => ⟨S4x2304, .f32⟩
  | .hbm, ⟨80, _⟩ => ⟨S1x4x2304, .f32⟩
  | .hbm, ⟨81, _⟩ => ⟨S1x4x2304x128, .f32⟩
  | .hbm, ⟨82, _⟩ => ⟨S1x4x2304x128, .f32⟩
  | .hbm, ⟨83, _⟩ => ⟨S1x4x2304x128, .f32⟩
  | .hbm, ⟨84, _⟩ => ⟨S1x4x2304x128, .f32⟩
  | .hbm, ⟨85, _⟩ => ⟨S1x4x2304x128, .f32⟩
  | .hbm, ⟨86, _⟩ => ⟨S1x2304x4x128, .f32⟩
  | .hbm, ⟨87, _⟩ => ⟨S1x2304x512, .f32⟩
  | .hbm, ⟨88, _⟩ => ⟨S_, .f32⟩
  | .hbm, ⟨89, _⟩ => ⟨S2304x512, .f32⟩
  | .hbm, ⟨90, _⟩ => ⟨S2304x512, .bf16⟩
  | _, _ => ⟨S2304x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v23_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v23_1 : Ref sig .tc := ⟨.hbm, 42, rfl⟩
abbrev main_v23_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== PrepAqBwd.lean ====
abbrev S2304x5376 : Shape := ⟨2, ![2304, 5376]⟩
abbrev S2048x64 : Shape := ⟨2, ![2048, 64]⟩
abbrev S1x128 : Shape := ⟨2, ![1, 128]⟩
abbrev S2304x1024 : Shape := ⟨2, ![2304, 1024]⟩
abbrev S_ : Shape := ⟨0, ![]⟩
abbrev S256x128 : Shape := ⟨2, ![256, 128]⟩
abbrev S2048x128 : Shape := ⟨2, ![2048, 128]⟩
abbrev S2304x128 : Shape := ⟨2, ![2304, 128]⟩
abbrev S256x1024 : Shape := ⟨2, ![256, 1024]⟩
abbrev S256 : Shape := ⟨1, ![256]⟩
abbrev S256x1 : Shape := ⟨2, ![256, 1]⟩
abbrev S128 : Shape := ⟨1, ![128]⟩

abbrev nBuf : Space → Nat
  | .hbm => 16
  | .vmem => 12
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S1x128, .f32⟩
  | .hbm, ⟨4, _⟩ => ⟨S2304x1024, .f32⟩
  | .hbm, ⟨5, _⟩ => ⟨S_, .f32⟩
  | .hbm, ⟨6, _⟩ => ⟨S256x128, .f32⟩
  | .hbm, ⟨7, _⟩ => ⟨S2048x128, .f32⟩
  | .hbm, ⟨8, _⟩ => ⟨S2304x128, .f32⟩
  | .hbm, ⟨9, _⟩ => ⟨S_, .f32⟩
  | .hbm, ⟨10, _⟩ => ⟨S256x128, .f32⟩
  | .hbm, ⟨11, _⟩ => ⟨S2048x64, .f32⟩
  | .hbm, ⟨12, _⟩ => ⟨S2048x128, .f32⟩
  | .hbm, ⟨13, _⟩ => ⟨S2304x128, .f32⟩
  | .hbm, ⟨14, _⟩ => ⟨S2304x1024, .bf16⟩
  | .hbm, ⟨15, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x128, .f32⟩
  | _, _ => ⟨S2304x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v384 : BitVec 1 := Scalar.cmpi .eq arg0 c0_i32
  let v385 : BitVec 32 := Scalar.extui v384
  let c0_i32_144 : BitVec 32 := 0#32
  let v386 : BitVec 1 := Scalar.cmpi .ne v385 c0_i32_144
  v386

def k0_cond2 (i : grid0.Coords) : BitVec 1 :=
  let arg0 : BitVec 32 := BitVec.ofNat 32 (i 0).val
  let c0_i32 : BitVec 32 := 0#32
  let v384 : BitVec 1 := Scalar.cmpi .eq arg0 c0_i32
  let v_true : BitVec 1 := 1#1
  let v387 : BitVec 1 := Scalar.xori v384 v_true
  let v388 : BitVec 32 := Scalar.extui v387
  let c0_i32_145 : BitVec 32 := 0#32
  let v389 : BitVec 1 := Scalar.cmpi .ne v388 c0_i32_145
  v389

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QueriesGradIdeal.lean ====
abbrev S2304x5376 : Shape := ⟨2, ![2304, 5376]⟩
abbrev S2048x64 : Shape := ⟨2, ![2048, 64]⟩
abbrev S1x128 : Shape := ⟨2, ![1, 128]⟩
abbrev S2304x1024 : Shape := ⟨2, ![2304, 1024]⟩
abbrev S256x1024 : Shape := ⟨2, ![256, 1024]⟩
abbrev S1x256x1024 : Shape := ⟨3, ![1, 256, 1024]⟩
abbrev S1x256x8x128 : Shape := ⟨4, ![1, 256, 8, 128]⟩
abbrev S1x8x256x128 : Shape := ⟨4, ![1, 8, 256, 128]⟩
abbrev S_ : Shape := ⟨0, ![]⟩
abbrev S1x8x256 : Shape := ⟨3, ![1, 8, 256]⟩
abbrev S1x8x256x1 : Shape := ⟨4, ![1, 8, 256, 1]⟩
abbrev S1x1x1x128 : Shape := ⟨4, ![1, 1, 1, 128]⟩
abbrev S2048x1024 : Shape := ⟨2, ![2048, 1024]⟩
abbrev S1x2048x1024 : Shape := ⟨3, ![1, 2048, 1024]⟩
abbrev S1x2048x8x128 : Shape := ⟨4, ![1, 2048, 8, 128]⟩
abbrev S1x8x2048x128 : Shape := ⟨4, ![1, 8, 2048, 128]⟩
abbrev S1x8x2048 : Shape := ⟨3, ![1, 8, 2048]⟩
abbrev S1x8x2048x1 : Shape := ⟨4, ![1, 8, 2048, 1]⟩
abbrev S1x8x2048x64 : Shape := ⟨4, ![1, 8, 2048, 64]⟩
abbrev S1x1x2048x64 : Shape := ⟨4, ![1, 1, 2048, 64]⟩
abbrev S1x2304x1024 : Shape := ⟨3, ![1, 2304, 1024]⟩
abbrev S128 : Shape := ⟨1, ![128]⟩
abbrev S8x2048 : Shape := ⟨2, ![8, 2048]⟩
abbrev S8x256 : Shape := ⟨2, ![8, 256]⟩

abbrev nBuf : Space → Nat
  | .hbm => 171
  | .vmem => 0
  | .smem => 0
  | _ => 0

abbrev hbmTy0_0 (i : Nat) : BufTy := match i % 128 with
  | 0 => ⟨S2304x5376, .f32⟩
  | 1 => ⟨S2048x64, .f32⟩
  | 2 => ⟨S2048x64, .f32⟩
  | 3 => ⟨S1x128, .f32⟩
  | 4 => ⟨S2304x1024, .f32⟩
  | 5 => ⟨S2304x1024, .f32⟩
  | 6 => ⟨S256x1024, .f32⟩
  | 7 => ⟨S1x256x1024, .f32⟩
  | 8 => ⟨S1x256x8x128, .f32⟩
  | 9 => ⟨S1x8x256x128, .f32⟩
  | 10 => ⟨S1x8x256x128, .f32⟩
  | 11 => ⟨S_, .f32⟩
  | 12 => ⟨S1x8x256, .f32⟩
  | 13 => ⟨S1x8x256x1, .f32⟩
  | 14 => ⟨S_, .f32⟩
  | 15 => ⟨S1x8x256x1, .f32⟩
  | 16 => ⟨S1x8x256x1, .f32⟩
  | 17 => ⟨S_, .f32⟩
  | 18 => ⟨S1x8x256x1, .f32⟩
  | 19 => ⟨S1x8x256x1, .f32⟩
  | 20 => ⟨S1x8x256x1, .f32⟩
  | 21 => ⟨S1x8x256x1, .f32⟩
  | 22 => ⟨S_, .f32⟩
  | 23 => ⟨S1x8x256x1, .f32⟩
  | 24 => ⟨S1x8x256x1, .f32⟩
  | 25 => ⟨S1x8x256x128, .f32⟩
  | 26 => ⟨S1x8x256x128, .f32⟩
  | 27 => ⟨S1x1x1x128, .f32⟩
  | 28 => ⟨S1x8x256x128, .f32⟩
  | 29 => ⟨S1x8x256x128, .f32⟩
  | 30 => ⟨S1x256x8x128, .f32⟩
  | 31 => ⟨S1x256x1024, .f32⟩
  | 32 => ⟨S2048x1024, .f32⟩
  | 33 => ⟨S1x2048x1024, .f32⟩
  | 34 => ⟨S1x2048x8x128, .f32⟩
  | 35 => ⟨S1x8x2048x128, .f32⟩
  | 36 => ⟨S1x8x2048x128, .f32⟩
  | 37 => ⟨S_, .f32⟩
  | 38 => ⟨S1x8x2048, .f32⟩
  | 39 => ⟨S1x8x2048x1, .f32⟩
  | 40 => ⟨S_, .f32⟩
  | 41 => ⟨S1x8x2048x1, .f32⟩
  | 42 => ⟨S1x8x2048x1, .f32⟩
  | 43 => ⟨S_, .f32⟩
  | 44 => ⟨S1x8x2048x1, .f32⟩
  | 45 => ⟨S1x8x2048x1, .f32⟩
  | 46 => ⟨S1x8x2048x1, .f32⟩
  | 47 => ⟨S1x8x2048x1, .f32⟩
  | 48 => ⟨S_, .f32⟩
  | 49 => ⟨S1x8x2048x1, .f32⟩
  | 50 => ⟨S1x8x2048x1, .f32⟩
  | 51 => ⟨S1x8x2048x128, .f32⟩
  | 52 => ⟨S1x8x2048x128, .f32⟩
  | 53 => ⟨S1x1x1x128, .f32⟩
  | 54 => ⟨S1x8x2048x128, .f32⟩
  | 55 => ⟨S1x8x2048x128, .f32⟩
  | 56 => ⟨S1x8x2048x64, .f32⟩
  | 57 => ⟨S1x8x2048x64, .f32⟩
  | 58 => ⟨S1x1x2048x64, .f32⟩
  | 59 => ⟨S1x8x2048x64, .f32⟩
  | 60 => ⟨S1x8x2048x64, .f32⟩
  | 61 => ⟨S1x1x2048x64, .f32⟩
  | 62 => ⟨S1x8x2048x64, .f32⟩
  | 63 => ⟨S1x8x2048x64, .f32⟩
  | 64 => ⟨S1x8x2048x64, .f32⟩
  | 65 => ⟨S1x1x2048x64, .f32⟩
  | 66 => ⟨S1x8x2048x64, .f32⟩
  | 67 => ⟨S1x8x2048x64, .f32⟩
  | 68 => ⟨S1x1x2048x64, .f32⟩
  | 69 => ⟨S1x8x2048x64, .f32⟩
  | 70 => ⟨S1x8x2048x64, .f32⟩
  | 71 => ⟨S1x8x2048x64, .f32⟩
  | 72 => ⟨S1x8x2048x128, .f32⟩
  | 73 => ⟨S1x2048x8x128, .f32⟩
  | 74 => ⟨S1x2048x1024, .f32⟩
  | 75 => ⟨S1x2304x1024, .f32⟩
  | 76 => ⟨S2304x1024, .f32⟩
  | 77 => ⟨S1x2304x1024, .f32⟩
  | 78 => ⟨S1x256x1024, .f32⟩
  | 79 => ⟨S1x2048x1024, .f32⟩
  | 80 => ⟨S1x2048x8x128, .f32⟩
  | 81 => ⟨S1x8x2048x128, .f32⟩
  | 82 => ⟨S1x8x2048x64, .f32⟩
  | 83 => ⟨S1x8x2048x64, .f32⟩
  | 84 => ⟨S1x8x2048x64, .f32⟩
  | 85 => ⟨S1x8x2048x64, .f32⟩
  | 86 => ⟨S1x8x2048x64, .f32⟩
  | 87 => ⟨S1x8x2048x64, .f32⟩
  | 88 => ⟨S1x8x2048x64, .f32⟩
  | 89 => ⟨S1x8x2048x64, .f32⟩
  | 90 => ⟨S1x8x2048x64, .f32⟩
  | 91 => ⟨S1x8x2048x64, .f32⟩
  | 92 => ⟨S1x8x2048x64, .f32⟩
  | 93 => ⟨S1x8x2048x64, .f32⟩
  | 94 => ⟨S1x8x2048x64, .f32⟩
  | 95 => ⟨S_, .f32⟩
  | 96 => ⟨S1x8x2048x128, .f32⟩
  | 97 => ⟨S_, .f32⟩
  | 98 => ⟨S1x8x2048x128, .f32⟩
  | 99 => ⟨S1x8x2048x128, .f32⟩
  | 100 => ⟨S1x8x2048x128, .f32⟩
  | 101 => ⟨S_, .f32⟩
  | 102 => ⟨S1x128, .f32⟩
  | 103 => ⟨S1x1x1x128, .f32⟩
  | 104 => ⟨S1x8x2048x128, .f32⟩
  | 105 => ⟨S1x8x2048x128, .f32⟩
  | 106 => ⟨S_, .f32⟩
  | 107 => ⟨S128, .f32⟩
  | 108 => ⟨S1x128, .f32⟩
  | 109 => ⟨S1x8x2048x128, .f32⟩
  | 110 => ⟨S_, .f32⟩
  | 111 => ⟨S1x8x2048, .f32⟩
  | 112 => ⟨S1x8x2048x1, .f32⟩
  | 113 => ⟨S1x8x2048x128, .f32⟩
  | 114 => ⟨S1x8x2048x128, .f32⟩
  | 115 => ⟨S1x8x2048x1, .f32⟩
  | 116 => ⟨S_, .f32⟩
  | 117 => ⟨S1x8x2048x1, .f32⟩
  | 118 => ⟨S1x8x2048x1, .f32⟩
  | 119 => ⟨S_, .f32⟩
  | 120 => ⟨S8x2048, .f32⟩
  | 121 => ⟨S1x8x2048, .f32⟩
  | 122 => ⟨S1x8x2048x128, .f32⟩
  | 123 => ⟨S1x8x2048x128, .f32⟩
  | 124 => ⟨S1x8x2048x128, .f32⟩
  | 125 => ⟨S1x8x2048x128, .f32⟩
  | 126 => ⟨S1x8x2048x128, .f32⟩
  | 127 => ⟨S1x2048x8x128, .f32⟩
  | _ => ⟨S2304x5376, .f32⟩

abbrev hbmTy0_1 (i : Nat) : BufTy := match i % 128 with
  | 0 => ⟨S1x2048x1024, .f32⟩
  | 1 => ⟨S_, .f32⟩
  | 2 => ⟨S2048x1024, .f32⟩
  | 3 => ⟨S_, .f32⟩
  | 4 => ⟨S2304x1024, .f32⟩
  | 5 => ⟨S1x256x8x128, .f32⟩
  | 6 => ⟨S1x8x256x128, .f32⟩
  | 7 => ⟨S1x8x256x128, .f32⟩
  | 8 => ⟨S_, .f32⟩
  | 9 => ⟨S1x128, .f32⟩
  | 10 => ⟨S1x1x1x128, .f32⟩
  | 11 => ⟨S1x8x256x128, .f32⟩
  | 12 => ⟨S1x8x256x128, .f32⟩
  | 13 => ⟨S_, .f32⟩
  | 14 => ⟨S128, .f32⟩
  | 15 => ⟨S1x128, .f32⟩
  | 16 => ⟨S1x128, .f32⟩
  | 17 => ⟨S1x8x256x128, .f32⟩
  | 18 => ⟨S_, .f32⟩
  | 19 => ⟨S1x8x256, .f32⟩
  | 20 => ⟨S1x8x256x1, .f32⟩
  | 21 => ⟨S1x8x256x128, .f32⟩
  | 22 => ⟨S1x8x256x128, .f32⟩
  | 23 => ⟨S1x8x256x1, .f32⟩
  | 24 => ⟨S_, .f32⟩
  | 25 => ⟨S1x8x256x1, .f32⟩
  | 26 => ⟨S1x8x256x1, .f32⟩
  | 27 => ⟨S_, .f32⟩
  | 28 => ⟨S8x256, .f32⟩
  | 29 => ⟨S1x8x256, .f32⟩
  | 30 => ⟨S1x8x256x128, .f32⟩
  | 31 => ⟨S1x8x256x128, .f32⟩
  | 32 => ⟨S1x8x256x128, .f32⟩
  | 33 => ⟨S1x8x256x128, .f32⟩
  | 34 => ⟨S1x8x256x128, .f32⟩
  | 35 => ⟨S1x256x8x128, .f32⟩
  | 36 => ⟨S1x256x1024, .f32⟩
  | 37 => ⟨S_, .f32⟩
  | 38 => ⟨S256x1024, .f32⟩
  | 39 => ⟨S_, .f32⟩
  | 40 => ⟨S2304x1024, .f32⟩
  | 41 => ⟨S2304x1024, .f32⟩
  | 42 => ⟨S2304x1024, .bf16⟩
  | _ => ⟨S2304x5376, .f32⟩

abbrev hbmTy (i : Nat) : BufTy := match i / 128 with
  | 0 => hbmTy0_0 i
  | 1 => hbmTy0_1 i
  | _ => ⟨S2304x5376, .f32⟩

abbrev bufTy : (tb : Table) → Fin (tcTables nBuf tb) → BufTy
  | .hbm, ⟨i, _⟩ => hbmTy i
  | _, _ => ⟨S2304x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_7 : Ref sig .tc := ⟨.hbm, 95, rfl⟩
abbrev main_v82 : Ref sig .tc := ⟨.hbm, 96, rfl⟩
abbrev main_cst_8 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_9 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_10 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_11 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_12 : Ref sig .tc := ⟨.hbm, 116, rfl⟩
abbrev main_v98 : Ref sig .tc := ⟨.hbm, 117, rfl⟩
abbrev main_v99 : Ref sig .tc := ⟨.hbm, 118, rfl⟩
abbrev main_cst_13 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_14 : Ref sig .tc := ⟨.hbm, 129, rfl⟩
abbrev main_v109 : Ref sig .tc := ⟨.hbm, 130, rfl⟩
abbrev main_cst_15 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_16 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_17 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_18 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_19 : Ref sig .tc := ⟨.hbm, 152, rfl⟩
abbrev main_v127 : Ref sig .tc := ⟨.hbm, 153, rfl⟩
abbrev main_v128 : Ref sig .tc := ⟨.hbm, 154, rfl⟩
abbrev main_cst_20 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_21 : Ref sig .tc := ⟨.hbm, 165, rfl⟩
abbrev main_v138 : Ref sig .tc := ⟨.hbm, 166, rfl⟩
abbrev main_cst_22 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩

abbrev nD : Nat := 1
abbrev τ : Topo := Topo.v7x

variable {F : FTy → Type} [FloatOps F]
-- ==== PrepAkBwd.lean ====
abbrev S2304x5376 : Shape := ⟨2, ![2304, 5376]⟩
abbrev S2048x64 : Shape := ⟨2, ![2048, 64]⟩
abbrev S1x128 : Shape := ⟨2, ![1, 128]⟩
abbrev S2304x256 : Shape := ⟨2, ![2304, 256]⟩
abbrev S_ : Shape := ⟨0, ![]⟩
abbrev S256x128 : Shape := ⟨2, ![256, 128]⟩
abbrev S2048x128 : Shape := ⟨2, ![2048, 128]⟩
abbrev S2304x128 : Shape := ⟨2, ![2304, 128]⟩
abbrev S256x256 : Shape := ⟨2, ![256, 256]⟩
abbrev S256 : Shape := ⟨1, ![256]⟩
abbrev S256x1 : Shape := ⟨2, ![256, 1]⟩
abbrev S128 : Shape := ⟨1, ![128]⟩

abbrev nBuf : Space → Nat
  | .hbm => 16
  | .vmem => 12
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S1x128, .f32⟩
  | .hbm, ⟨4, _⟩ => ⟨S2304x256, .f32⟩
  | .hbm, ⟨5, _⟩ => ⟨S_, .f32⟩
  | .hbm, ⟨6, _⟩ => ⟨S256x128, .f32⟩
  | .hbm, ⟨7, _⟩ => ⟨S2048x128, .f32⟩
  | .hbm, ⟨8, _⟩ => ⟨S2304x128, .f32⟩
  | .hbm, ⟨9, _⟩ => ⟨S_, .f32⟩
  | .hbm, ⟨10, _⟩ => ⟨S256x128, .f32⟩
  | .hbm, ⟨11, _⟩ => ⟨S2048x64, .f32⟩
  | .hbm, ⟨12, _⟩ => ⟨S2048x128, .f32⟩
  | .hbm, ⟨13, _⟩ => ⟨S2304x128, .f32⟩
  | .hbm, ⟨14, _⟩ => ⟨S2304x256, .bf16⟩
  | .hbm, ⟨15, _⟩ => ⟨S1x128, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S256x256, .f32⟩
  | .local _ .vmem, ⟨8, _⟩ => ⟨S256x256, .f32⟩
  | .local _ .vmem, ⟨9, _⟩ => ⟨S256x256, .bf16⟩
  | .local _ .vmem, ⟨10, _⟩ => ⟨S256x256, .bf16⟩
  | .local _ .vmem, ⟨11, _⟩ => ⟨S1x128, .f32⟩
  | _, _ => ⟨S2304x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v96 : BitVec 1 := Scalar.cmpi .eq arg0 c0_i32
  let v97 : BitVec 32 := Scalar.extui v96
  let c0_i32_36 : BitVec 32 := 0#32
  let v98 : BitVec 1 := Scalar.cmpi .ne v97 c0_i32_36
  v98

def k0_cond2 (i : grid0.Coords) : BitVec 1 :=
  let arg0 : BitVec 32 := BitVec.ofNat 32 (i 0).val
  let c0_i32 : BitVec 32 := 0#32
  let v96 : BitVec 1 := Scalar.cmpi .eq arg0 c0_i32
  let v_true : BitVec 1 := 1#1
  let v99 : BitVec 1 := Scalar.xori v96 v_true
  let v100 : BitVec 32 := Scalar.extui v99
  let c0_i32_37 : BitVec 32 := 0#32
  let v101 : BitVec 1 := Scalar.cmpi .ne v100 c0_i32_37
  v101

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KeysGradIdeal.lean ====
abbrev S2304x5376 : Shape := ⟨2, ![2304, 5376]⟩
abbrev S2048x64 : Shape := ⟨2, ![2048, 64]⟩
abbrev S1x128 : Shape := ⟨2, ![1, 128]⟩
abbrev S2304x256 : Shape := ⟨2, ![2304, 256]⟩
abbrev S256x256 : Shape := ⟨2, ![256, 256]⟩
abbrev S1x256x256 : Shape := ⟨3, ![1, 256, 256]⟩
abbrev S1x256x2x128 : Shape := ⟨4, ![1, 256, 2, 128]⟩
abbrev S1x2x256x128 : Shape := ⟨4, ![1, 2, 256, 128]⟩
abbrev S_ : Shape := ⟨0, ![]⟩
abbrev S1x2x256 : Shape := ⟨3, ![1, 2, 256]⟩
abbrev S1x2x256x1 : Shape := ⟨4, ![1, 2, 256, 1]⟩
abbrev S1x1x1x128 : Shape := ⟨4, ![1, 1, 1, 128]⟩
abbrev S2048x256 : Shape := ⟨2, ![2048, 256]⟩
abbrev S1x2048x256 : Shape := ⟨3, ![1, 2048, 256]⟩
abbrev S1x2048x2x128 : Shape := ⟨4, ![1, 2048, 2, 128]⟩
abbrev S1x2x2048x128 : Shape := ⟨4, ![1, 2, 2048, 128]⟩
abbrev S1x2x2048 : Shape := ⟨3, ![1, 2, 2048]⟩
abbrev S1x2x2048x1 : Shape := ⟨4, ![1, 2, 2048, 1]⟩
abbrev S1x2x2048x64 : Shape := ⟨4, ![1, 2, 2048, 64]⟩
abbrev S1x1x2048x64 : Shape := ⟨4, ![1, 1, 2048, 64]⟩
abbrev S1x2304x256 : Shape := ⟨3, ![1, 2304, 256]⟩
abbrev S128 : Shape := ⟨1, ![128]⟩
abbrev S2x2048 : Shape := ⟨2, ![2, 2048]⟩
abbrev S2x256 : Shape := ⟨2, ![2, 256]⟩

abbrev nBuf : Space → Nat
  | .hbm => 171
  | .vmem => 0
  | .smem => 0
  | _ => 0

abbrev hbmTy0_0 (i : Nat) : BufTy := match i % 128 with
  | 0 => ⟨S2304x5376, .f32⟩
  | 1 => ⟨S2048x64, .f32⟩
  | 2 => ⟨S2048x64, .f32⟩
  | 3 => ⟨S1x128, .f32⟩
  | 4 => ⟨S2304x256, .f32⟩
  | 5 => ⟨S2304x256, .f32⟩
  | 6 => ⟨S256x256, .f32⟩
  | 7 => ⟨S1x256x256, .f32⟩
  | 8 => ⟨S1x256x2x128, .f32⟩
  | 9 => ⟨S1x2x256x128, .f32⟩
  | 10 => ⟨S1x2x256x128, .f32⟩
  | 11 => ⟨S_, .f32⟩
  | 12 => ⟨S1x2x256, .f32⟩
  | 13 => ⟨S1x2x256x1, .f32⟩
  | 14 => ⟨S_, .f32⟩
  | 15 => ⟨S1x2x256x1, .f32⟩
  | 16 => ⟨S1x2x256x1, .f32⟩
  | 17 => ⟨S_, .f32⟩
  | 18 => ⟨S1x2x256x1, .f32⟩
  | 19 => ⟨S1x2x256x1, .f32⟩
  | 20 => ⟨S1x2x256x1, .f32⟩
  | 21 => ⟨S1x2x256x1, .f32⟩
  | 22 => ⟨S_, .f32⟩
  | 23 => ⟨S1x2x256x1, .f32⟩
  | 24 => ⟨S1x2x256x1, .f32⟩
  | 25 => ⟨S1x2x256x128, .f32⟩
  | 26 => ⟨S1x2x256x128, .f32⟩
  | 27 => ⟨S1x1x1x128, .f32⟩
  | 28 => ⟨S1x2x256x128, .f32⟩
  | 29 => ⟨S1x2x256x128, .f32⟩
  | 30 => ⟨S1x256x2x128, .f32⟩
  | 31 => ⟨S1x256x256, .f32⟩
  | 32 => ⟨S2048x256, .f32⟩
  | 33 => ⟨S1x2048x256, .f32⟩
  | 34 => ⟨S1x2048x2x128, .f32⟩
  | 35 => ⟨S1x2x2048x128, .f32⟩
  | 36 => ⟨S1x2x2048x128, .f32⟩
  | 37 => ⟨S_, .f32⟩
  | 38 => ⟨S1x2x2048, .f32⟩
  | 39 => ⟨S1x2x2048x1, .f32⟩
  | 40 => ⟨S_, .f32⟩
  | 41 => ⟨S1x2x2048x1, .f32⟩
  | 42 => ⟨S1x2x2048x1, .f32⟩
  | 43 => ⟨S_, .f32⟩
  | 44 => ⟨S1x2x2048x1, .f32⟩
  | 45 => ⟨S1x2x2048x1, .f32⟩
  | 46 => ⟨S1x2x2048x1, .f32⟩
  | 47 => ⟨S1x2x2048x1, .f32⟩
  | 48 => ⟨S_, .f32⟩
  | 49 => ⟨S1x2x2048x1, .f32⟩
  | 50 => ⟨S1x2x2048x1, .f32⟩
  | 51 => ⟨S1x2x2048x128, .f32⟩
  | 52 => ⟨S1x2x2048x128, .f32⟩
  | 53 => ⟨S1x1x1x128, .f32⟩
  | 54 => ⟨S1x2x2048x128, .f32⟩
  | 55 => ⟨S1x2x2048x128, .f32⟩
  | 56 => ⟨S1x2x2048x64, .f32⟩
  | 57 => ⟨S1x2x2048x64, .f32⟩
  | 58 => ⟨S1x1x2048x64, .f32⟩
  | 59 => ⟨S1x2x2048x64, .f32⟩
  | 60 => ⟨S1x2x2048x64, .f32⟩
  | 61 => ⟨S1x1x2048x64, .f32⟩
  | 62 => ⟨S1x2x2048x64, .f32⟩
  | 63 => ⟨S1x2x2048x64, .f32⟩
  | 64 => ⟨S1x2x2048x64, .f32⟩
  | 65 => ⟨S1x1x2048x64, .f32⟩
  | 66 => ⟨S1x2x2048x64, .f32⟩
  | 67 => ⟨S1x2x2048x64, .f32⟩
  | 68 => ⟨S1x1x2048x64, .f32⟩
  | 69 => ⟨S1x2x2048x64, .f32⟩
  | 70 => ⟨S1x2x2048x64, .f32⟩
  | 71 => ⟨S1x2x2048x64, .f32⟩
  | 72 => ⟨S1x2x2048x128, .f32⟩
  | 73 => ⟨S1x2048x2x128, .f32⟩
  | 74 => ⟨S1x2048x256, .f32⟩
  | 75 => ⟨S1x2304x256, .f32⟩
  | 76 => ⟨S2304x256, .f32⟩
  | 77 => ⟨S1x2304x256, .f32⟩
  | 78 => ⟨S1x256x256, .f32⟩
  | 79 => ⟨S1x2048x256, .f32⟩
  | 80 => ⟨S1x2048x2x128, .f32⟩
  | 81 => ⟨S1x2x2048x128, .f32⟩
  | 82 => ⟨S1x2x2048x64, .f32⟩
  | 83 => ⟨S1x2x2048x64, .f32⟩
  | 84 => ⟨S1x2x2048x64, .f32⟩
  | 85 => ⟨S1x2x2048x64, .f32⟩
  | 86 => ⟨S1x2x2048x64, .f32⟩
  | 87 => ⟨S1x2x2048x64, .f32⟩
  | 88 => ⟨S1x2x2048x64, .f32⟩
  | 89 => ⟨S1x2x2048x64, .f32⟩
  | 90 => ⟨S1x2x2048x64, .f32⟩
  | 91 => ⟨S1x2x2048x64, .f32⟩
  | 92 => ⟨S1x2x2048x64, .f32⟩
  | 93 => ⟨S1x2x2048x64, .f32⟩
  | 94 => ⟨S1x2x2048x64, .f32⟩
  | 95 => ⟨S_, .f32⟩
  | 96 => ⟨S1x2x2048x128, .f32⟩
  | 97 => ⟨S_, .f32⟩
  | 98 => ⟨S1x2x2048x128, .f32⟩
  | 99 => ⟨S1x2x2048x128, .f32⟩
  | 100 => ⟨S1x2x2048x128, .f32⟩
  | 101 => ⟨S_, .f32⟩
  | 102 => ⟨S1x128, .f32⟩
  | 103 => ⟨S1x1x1x128, .f32⟩
  | 104 => ⟨S1x2x2048x128, .f32⟩
  | 105 => ⟨S1x2x2048x128, .f32⟩
  | 106 => ⟨S_, .f32⟩
  | 107 => ⟨S128, .f32⟩
  | 108 => ⟨S1x128, .f32⟩
  | 109 => ⟨S1x2x2048x128, .f32⟩
  | 110 => ⟨S_, .f32⟩
  | 111 => ⟨S1x2x2048, .f32⟩
  | 112 => ⟨S1x2x2048x1, .f32⟩
  | 113 => ⟨S1x2x2048x128, .f32⟩
  | 114 => ⟨S1x2x2048x128, .f32⟩
  | 115 => ⟨S1x2x2048x1, .f32⟩
  | 116 => ⟨S_, .f32⟩
  | 117 => ⟨S1x2x2048x1, .f32⟩
  | 118 => ⟨S1x2x2048x1, .f32⟩
  | 119 => ⟨S_, .f32⟩
  | 120 => ⟨S2x2048, .f32⟩
  | 121 => ⟨S1x2x2048, .f32⟩
  | 122 => ⟨S1x2x2048x128, .f32⟩
  | 123 => ⟨S1x2x2048x128, .f32⟩
  | 124 => ⟨S1x2x2048x128, .f32⟩
  | 125 => ⟨S1x2x2048x128, .f32⟩
  | 126 => ⟨S1x2x2048x128, .f32⟩
  | 127 => ⟨S1x2048x2x128, .f32⟩
  | _ => ⟨S2304x5376, .f32⟩

abbrev hbmTy0_1 (i : Nat) : BufTy := match i % 128 with
  | 0 => ⟨S1x2048x256, .f32⟩
  | 1 => ⟨S_, .f32⟩
  | 2 => ⟨S2048x256, .f32⟩
  | 3 => ⟨S_, .f32⟩
  | 4 => ⟨S2304x256, .f32⟩
  | 5 => ⟨S1x256x2x128, .f32⟩
  | 6 => ⟨S1x2x256x128, .f32⟩
  | 7 => ⟨S1x2x256x128, .f32⟩
  | 8 => ⟨S_, .f32⟩
  | 9 => ⟨S1x128, .f32⟩
  | 10 => ⟨S1x1x1x128, .f32⟩
  | 11 => ⟨S1x2x256x128, .f32⟩
  | 12 => ⟨S1x2x256x128, .f32⟩
  | 13 => ⟨S_, .f32⟩
  | 14 => ⟨S128, .f32⟩
  | 15 => ⟨S1x128, .f32⟩
  | 16 => ⟨S1x128, .f32⟩
  | 17 => ⟨S1x2x256x128, .f32⟩
  | 18 => ⟨S_, .f32⟩
  | 19 => ⟨S1x2x256, .f32⟩
  | 20 => ⟨S1x2x256x1, .f32⟩
  | 21 => ⟨S1x2x256x128, .f32⟩
  | 22 => ⟨S1x2x256x128, .f32⟩
  | 23 => ⟨S1x2x256x1, .f32⟩
  | 24 => ⟨S_, .f32⟩
  | 25 => ⟨S1x2x256x1, .f32⟩
  | 26 => ⟨S1x2x256x1, .f32⟩
  | 27 => ⟨S_, .f32⟩
  | 28 => ⟨S2x256, .f32⟩
  | 29 => ⟨S1x2x256, .f32⟩
  | 30 => ⟨S1x2x256x128, .f32⟩
  | 31 => ⟨S1x2x256x128, .f32⟩
  | 32 => ⟨S1x2x256x128, .f32⟩
  | 33 => ⟨S1x2x256x128, .f32⟩
  | 34 => ⟨S1x2x256x128, .f32⟩
  | 35 => ⟨S1x256x2x128, .f32⟩
  | 36 => ⟨S1x256x256, .f32⟩
  | 37 => ⟨S_, .f32⟩
  | 38 => ⟨S256x256, .f32⟩
  | 39 => ⟨S_, .f32⟩
  | 40 => ⟨S2304x256, .f32⟩
  | 41 => ⟨S2304x256, .f32⟩
  | 42 => ⟨S2304x256, .bf16⟩
  | _ => ⟨S2304x5376, .f32⟩

abbrev hbmTy (i : Nat) : BufTy := match i / 128 with
  | 0 => hbmTy0_0 i
  | 1 => hbmTy0_1 i
  | _ => ⟨S2304x5376, .f32⟩

abbrev bufTy : (tb : Table) → Fin (tcTables nBuf tb) → BufTy
  | .hbm, ⟨i, _⟩ => hbmTy i
  | _, _ => ⟨S2304x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_7 : Ref sig .tc := ⟨.hbm, 95, rfl⟩
abbrev main_v82 : Ref sig .tc := ⟨.hbm, 96, rfl⟩
abbrev main_cst_8 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_9 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_10 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_11 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_12 : Ref sig .tc := ⟨.hbm, 116, rfl⟩
abbrev main_v98 : Ref sig .tc := ⟨.hbm, 117, rfl⟩
abbrev main_v99 : Ref sig .tc := ⟨.hbm, 118, rfl⟩
abbrev main_cst_13 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_14 : Ref sig .tc := ⟨.hbm, 129, rfl⟩
abbrev main_v109 : Ref sig .tc := ⟨.hbm, 130, rfl⟩
abbrev main_cst_15 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_16 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_17 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_18 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_19 : Ref sig .tc := ⟨.hbm, 152, rfl⟩
abbrev main_v127 : Ref sig .tc := ⟨.hbm, 153, rfl⟩
abbrev main_v128 : Ref sig .tc := ⟨.hbm, 154, rfl⟩
abbrev main_cst_20 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_21 : Ref sig .tc := ⟨.hbm, 165, rfl⟩
abbrev main_v138 : Ref sig .tc := ⟨.hbm, 166, rfl⟩
abbrev main_cst_22 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩

abbrev nD : Nat := 1
abbrev τ : Topo := Topo.v7x

variable {F : FTy → Type} [FloatOps F]
-- ==== PrepRqBwd.lean ====
abbrev S2304x5376 : Shape := ⟨2, ![2304, 5376]⟩
abbrev S2048x64 : Shape := ⟨2, ![2048, 64]⟩
abbrev S2304x512 : Shape := ⟨2, ![2304, 512]⟩
abbrev S_ : Shape := ⟨0, ![]⟩
abbrev S256x128 : Shape := ⟨2, ![256, 128]⟩
abbrev S2048x128 : Shape := ⟨2, ![2048, 128]⟩
abbrev S2304x128 : Shape := ⟨2, ![2304, 128]⟩
abbrev S256x512 : Shape := ⟨2, ![256, 512]⟩

abbrev nBuf : Space → Nat
  | .hbm => 14
  | .vmem => 10
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S2304x512, .f32⟩
  | .hbm, ⟨4, _⟩ => ⟨S_, .f32⟩
  | .hbm, ⟨5, _⟩ => ⟨S256x128, .f32⟩
  | .hbm, ⟨6, _⟩ => ⟨S2048x128, .f32⟩
  | .hbm, ⟨7, _⟩ => ⟨S2304x128, .f32⟩
  | .hbm, ⟨8, _⟩ => ⟨S_, .f32⟩
  | .hbm, ⟨9, _⟩ => ⟨S256x128, .f32⟩
  | .hbm, ⟨10, _⟩ => ⟨S2048x64, .f32⟩
  | .hbm, ⟨11, _⟩ => ⟨S2048x128, .f32⟩
  | .hbm, ⟨12, _⟩ => ⟨S2304x128, .f32⟩
  | .hbm, ⟨13, _⟩ => ⟨S2304x512, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | _, _ => ⟨S2304x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RetQueriesGradIdeal.lean ====
abbrev S2304x5376 : Shape := ⟨2, ![2304, 5376]⟩
abbrev S2048x64 : Shape := ⟨2, ![2048, 64]⟩
abbrev S2304x512 : Shape := ⟨2, ![2304, 512]⟩
abbrev S256x512 : Shape := ⟨2, ![256, 512]⟩
abbrev S1x256x512 : Shape := ⟨3, ![1, 256, 512]⟩
abbrev S1x256x4x128 : Shape := ⟨4, ![1, 256, 4, 128]⟩
abbrev S1x4x256x128 : Shape := ⟨4, ![1, 4, 256, 128]⟩
abbrev S2048x512 : Shape := ⟨2, ![2048, 512]⟩
abbrev S1x2048x512 : Shape := ⟨3, ![1, 2048, 512]⟩
abbrev S1x2048x4x128 : Shape := ⟨4, ![1, 2048, 4, 128]⟩
abbrev S1x4x2048x128 : Shape := ⟨4, ![1, 4, 2048, 128]⟩
abbrev S1x4x2048x64 : Shape := ⟨4, ![1, 4, 2048, 64]⟩
abbrev S1x1x2048x64 : Shape := ⟨4, ![1, 1, 2048, 64]⟩
abbrev S1x2304x512 : Shape := ⟨3, ![1, 2304, 512]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S2304x512, .f32⟩
  | .hbm, ⟨4, _⟩ => ⟨S2304x512, .f32⟩
  | .hbm, ⟨5, _⟩ => ⟨S256x512, .f32⟩
  | .hbm, ⟨6, _⟩ => ⟨S1x256x512, .f32⟩
  | .hbm, ⟨7, _⟩ => ⟨S1x256x4x128, .f32⟩
  | .hbm, ⟨8, _⟩ => ⟨S1x4x256x128, .f32⟩
  | .hbm, ⟨9, _⟩ => ⟨S1x256x4x128, .f32⟩
  | .hbm, ⟨10, _⟩ => ⟨S1x256x512, .f32⟩
  | .hbm, ⟨11, _⟩ => ⟨S2048x512, .f32⟩
  | .hbm, ⟨12, _⟩ => ⟨S1x2048x512, .f32⟩
  | .hbm, ⟨13, _⟩ => ⟨S1x2048x4x128, .f32⟩
  | .hbm, ⟨14, _⟩ => ⟨S1x4x2048x128, .f32⟩
  | .hbm, ⟨15, _⟩ => ⟨S1x4x2048x64, .f32⟩
  | .hbm, ⟨16, _⟩ => ⟨S1x4x2048x64, .f32⟩
  | .hbm, ⟨17, _⟩ => ⟨S1x1x2048x64, .f32⟩
  | .hbm, ⟨18, _⟩ => ⟨S1x4x2048x64, .f32⟩
  | .hbm, ⟨19, _⟩ => ⟨S1x4x2048x64, .f32⟩
  | .hbm, ⟨20, _⟩ => ⟨S1x1x2048x64, .f32⟩
  | .hbm, ⟨21, _⟩ => ⟨S1x4x2048x64, .f32⟩
  | .hbm, ⟨22, _⟩ => ⟨S1x4x2048x64, .f32⟩
  | .hbm, ⟨23, _⟩ => ⟨S1x4x2048x64, .f32⟩
  | .hbm, ⟨24, _⟩ => ⟨S1x1x2048x64, .f32⟩
  | .hbm, ⟨25, _⟩ => ⟨S1x4x2048x64, .f32⟩
  | .hbm, ⟨26, _⟩ => ⟨S1x4x2048x64, .f32⟩
  | .hbm, ⟨27, _⟩ => ⟨S1x1x2048x64, .f32⟩
  | .hbm, ⟨28, _⟩ => ⟨S1x4x2048x64, .f32⟩
  | .hbm, ⟨29, _⟩ => ⟨S1x4x2048x64, .f32⟩
  | .hbm, ⟨30, _⟩ => ⟨S1x4x2048x64, .f32⟩
  | .hbm, ⟨31, _⟩ => ⟨S1x4x2048x128, .f32⟩
  | .hbm, ⟨32, _⟩ => ⟨S1x2048x4x128, .f32⟩
  | .hbm, ⟨33, _⟩ => ⟨S1x2048x512, .f32⟩
  | .hbm, ⟨34, _⟩ => ⟨S1x2304x512, .f32⟩
  | .hbm, ⟨35, _⟩ => ⟨S2304x512, .f32⟩
  | .hbm, ⟨36, _⟩ => ⟨S1x2304x512, .f32⟩
  | .hbm, ⟨37, _⟩ => ⟨S1x256x512, .f32⟩
  | .hbm, ⟨38, _⟩ => ⟨S1x2048x512, .f32⟩
  | .hbm, ⟨39, _⟩ => ⟨S1x2048x4x128, .f32⟩
  | .hbm, ⟨40, _⟩ => ⟨S1x4x2048x128, .f32⟩
  | .hbm, ⟨41, _⟩ => ⟨S1x4x2048x64, .f32⟩
  | .hbm, ⟨42, _⟩ => ⟨S1x4x2048x64, .f32⟩
  | .hbm, ⟨43, _⟩ => ⟨S1x4x2048x64, .f32⟩
  | .hbm, ⟨44, _⟩ => ⟨S1x4x2048x64, .f32⟩
  | .hbm, ⟨45, _⟩ => ⟨S1x4x2048x64, .f32⟩
  | .hbm, ⟨46, _⟩ => ⟨S1x4x2048x64, .f32⟩
  | .hbm, ⟨47, _⟩ => ⟨S1x4x2048x64, .f32⟩
  | .hbm, ⟨48, _⟩ => ⟨S1x4x2048x64, .f32⟩
  | .hbm, ⟨49, _⟩ => ⟨S1x4x2048x64, .f32⟩
  | .hbm, ⟨50, _⟩ => ⟨S1x4x2048x64, .f32⟩
  | .hbm, ⟨51, _⟩ => ⟨S1x4x2048x64, .f32⟩
  | .hbm, ⟨52, _⟩ => ⟨S1x4x2048x64, .f32⟩
  | .hbm, ⟨53, _⟩ => ⟨S1x4x2048x64, .f32⟩
  | .hbm, ⟨54, _⟩ => ⟨S_, .f32⟩
  | .hbm, ⟨55, _⟩ => ⟨S1x4x2048x128, .f32⟩
  | .hbm, ⟨56, _⟩ => ⟨S_, .f32⟩
  | .hbm, ⟨57, _⟩ => ⟨S1x4x2048x128, .f32⟩
  | .hbm, ⟨58, _⟩ => ⟨S1x4x2048x128, .f32⟩
  | .hbm, ⟨59, _⟩ => ⟨S1x2048x4x128, .f32⟩
  | .hbm, ⟨60, _⟩ => ⟨S1x2048x512, .f32⟩
  | .hbm, ⟨61, _⟩ => ⟨S_, .f32⟩
  | .hbm, ⟨62, _⟩ => ⟨S2048x512, .f32⟩
  | .hbm, ⟨63, _⟩ => ⟨S_, .f32⟩
  | .hbm, ⟨64, _⟩ => ⟨S2304x512, .f32⟩
  | .hbm, ⟨65, _⟩ => ⟨S1x256x4x128, .f32⟩
  | .hbm, ⟨66, _⟩ => ⟨S1x4x256x128, .f32⟩
  | .hbm, ⟨67, _⟩ => ⟨S1x256x4x128, .f32⟩
  | .hbm, ⟨68, _⟩ => ⟨S1x256x512, .f32⟩
  | .hbm, ⟨69, _⟩ => ⟨S_, .f32⟩
  | .hbm, ⟨70, _⟩ => ⟨S256x512, .f32⟩
  | .hbm, ⟨71, _⟩ => ⟨S_, .f32⟩
  | .hbm, ⟨72, _⟩ => ⟨S2304x512, .f32⟩
  | .hbm, ⟨73, _⟩ => ⟨S2304x512, .f32⟩
  | .hbm, ⟨74, _⟩ => ⟨S2304x512, .bf16⟩
  | _, _ => ⟨S2304x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_cst : Ref sig .tc := ⟨.hbm, 54, rfl⟩
abbrev main_v50 : Ref sig .tc := ⟨.hbm, 55, rfl⟩
abbrev main_cst_0 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_cst_1 : Ref sig .tc := ⟨.hbm, 61, rfl⟩
abbrev main_v55 : Ref sig .tc := ⟨.hbm, 62, rfl⟩
abbrev main_cst_2 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_3 : Ref sig .tc := ⟨.hbm, 69, rfl⟩
abbrev main_v61 : Ref sig .tc := ⟨.hbm, 70, rfl⟩
abbrev main_cst_4 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩

abbrev nD : Nat := 1
abbrev τ : Topo := Topo.v7x

variable {F : FTy → Type} [FloatOps F]
-- ==== PrepRkBwd.lean ====
abbrev S2304x5376 : Shape := ⟨2, ![2304, 5376]⟩
abbrev S2048x64 : Shape := ⟨2, ![2048, 64]⟩
abbrev S2304x512 : Shape := ⟨2, ![2304, 512]⟩
abbrev S_ : Shape := ⟨0, ![]⟩
abbrev S256x128 : Shape := ⟨2, ![256, 128]⟩
abbrev S2048x128 : Shape := ⟨2, ![2048, 128]⟩
abbrev S2304x128 : Shape := ⟨2, ![2304, 128]⟩
abbrev S256x512 : Shape := ⟨2, ![256, 512]⟩

abbrev nBuf : Space → Nat
  | .hbm => 14
  | .vmem => 10
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S2304x512, .f32⟩
  | .hbm, ⟨4, _⟩ => ⟨S_, .f32⟩
  | .hbm, ⟨5, _⟩ => ⟨S256x128, .f32⟩
  | .hbm, ⟨6, _⟩ => ⟨S2048x128, .f32⟩
  | .hbm, ⟨7, _⟩ => ⟨S2304x128, .f32⟩
  | .hbm, ⟨8, _⟩ => ⟨S_, .f32⟩
  | .hbm, ⟨9, _⟩ => ⟨S256x128, .f32⟩
  | .hbm, ⟨10, _⟩ => ⟨S2048x64, .f32⟩
  | .hbm, ⟨11, _⟩ => ⟨S2048x128, .f32⟩
  | .hbm, ⟨12, _⟩ => ⟨S2304x128, .f32⟩
  | .hbm, ⟨13, _⟩ => ⟨S2304x512, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | _, _ => ⟨S2304x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RetKeysGradIdeal.lean ====
abbrev S2304x5376 : Shape := ⟨2, ![2304, 5376]⟩
abbrev S2048x64 : Shape := ⟨2, ![2048, 64]⟩
abbrev S2304x512 : Shape := ⟨2, ![2304, 512]⟩
abbrev S256x512 : Shape := ⟨2, ![256, 512]⟩
abbrev S1x256x512 : Shape := ⟨3, ![1, 256, 512]⟩
abbrev S1x256x4x128 : Shape := ⟨4, ![1, 256, 4, 128]⟩
abbrev S1x4x256x128 : Shape := ⟨4, ![1, 4, 256, 128]⟩
abbrev S_ : Shape := ⟨0, ![]⟩
abbrev S2048x512 : Shape := ⟨2, ![2048, 512]⟩
abbrev S1x2048x512 : Shape := ⟨3, ![1, 2048, 512]⟩
abbrev S1x2048x4x128 : Shape := ⟨4, ![1, 2048, 4, 128]⟩
abbrev S1x4x2048x128 : Shape := ⟨4, ![1, 4, 2048, 128]⟩
abbrev S1x4x2048x64 : Shape := ⟨4, ![1, 4, 2048, 64]⟩
abbrev S1x1x2048x64 : Shape := ⟨4, ![1, 1, 2048, 64]⟩
abbrev S1x2304x512 : Shape := ⟨3, ![1, 2304, 512]⟩

abbrev nBuf : Space → Nat
  | .hbm => 87
  | .vmem => 0
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S2304x512, .f32⟩
  | .hbm, ⟨4, _⟩ => ⟨S2304x512, .f32⟩
  | .hbm, ⟨5, _⟩ => ⟨S256x512, .f32⟩
  | .hbm, ⟨6, _⟩ => ⟨S1x256x512, .f32⟩
  | .hbm, ⟨7, _⟩ => ⟨S1x256x4x128, .f32⟩
  | .hbm, ⟨8, _⟩ => ⟨S1x4x256x128, .f32⟩
  | .hbm, ⟨9, _⟩ => ⟨S_, .f32⟩
  | .hbm, ⟨10, _⟩ => ⟨S1x4x256x128, .f32⟩
  | .hbm, ⟨11, _⟩ => ⟨S1x4x256x128, .f32⟩
  | .hbm, ⟨12, _⟩ => ⟨S1x256x4x128, .f32⟩
  | .hbm, ⟨13, _⟩ => ⟨S1x256x512, .f32⟩
  | .hbm, ⟨14, _⟩ => ⟨S2048x512, .f32⟩
  | .hbm, ⟨15, _⟩ => ⟨S1x2048x512, .f32⟩
  | .hbm, ⟨16, _⟩ => ⟨S1x2048x4x128, .f32⟩
  | .hbm, ⟨17, _⟩ => ⟨S1x4x2048x128, .f32⟩
  | .hbm, ⟨18, _⟩ => ⟨S_, .f32⟩
  | .hbm, ⟨19, _⟩ => ⟨S1x4x2048x128, .f32⟩
  | .hbm, ⟨20, _⟩ => ⟨S1x4x2048x128, .f32⟩
  | .hbm, ⟨21, _⟩ => ⟨S1x4x2048x64, .f32⟩
  | .hbm, ⟨22, _⟩ => ⟨S1x4x2048x64, .f32⟩
  | .hbm, ⟨23, _⟩ => ⟨S1x1x2048x64, .f32⟩
  | .hbm, ⟨24, _⟩ => ⟨S1x4x2048x64, .f32⟩
  | .hbm, ⟨25, _⟩ => ⟨S1x4x2048x64, .f32⟩
  | .hbm, ⟨26, _⟩ => ⟨S1x1x2048x64, .f32⟩
  | .hbm, ⟨27, _⟩ => ⟨S1x4x2048x64, .f32⟩
  | .hbm, ⟨28, _⟩ => ⟨S1x4x2048x64, .f32⟩
  | .hbm, ⟨29, _⟩ => ⟨S1x4x2048x64, .f32⟩
  | .hbm, ⟨30, _⟩ => ⟨S1x1x2048x64, .f32⟩
  | .hbm, ⟨31, _⟩ => ⟨S1x4x2048x64, .f32⟩
  | .hbm, ⟨32, _⟩ => ⟨S1x4x2048x64, .f32⟩
  | .hbm, ⟨33, _⟩ => ⟨S1x1x2048x64, .f32⟩
  | .hbm, ⟨34, _⟩ => ⟨S1x4x2048x64, .f32⟩
  | .hbm, ⟨35, _⟩ => ⟨S1x4x2048x64, .f32⟩
  | .hbm, ⟨36, _⟩ => ⟨S1x4x2048x64, .f32⟩
  | .hbm, ⟨37, _⟩ => ⟨S1x4x2048x128, .f32⟩
  | .hbm, ⟨38, _⟩ => ⟨S1x2048x4x128, .f32⟩
  | .hbm, ⟨39, _⟩ => ⟨S1x2048x512, .f32⟩
  | .hbm, ⟨40, _⟩ => ⟨S1x2304x512, .f32⟩
  | .hbm, ⟨41, _⟩ => ⟨S2304x512, .f32⟩
  | .hbm, ⟨42, _⟩ => ⟨S1x2304x512, .f32⟩
  | .hbm, ⟨43, _⟩ => ⟨S1x256x512, .f32⟩
  | .hbm, ⟨44, _⟩ => ⟨S1x2048x512, .f32⟩
  | .hbm, ⟨45, _⟩ => ⟨S1x2048x4x128, .f32⟩
  | .hbm, ⟨46, _⟩ => ⟨S1x4x2048x128, .f32⟩
  | .hbm, ⟨47, _⟩ => ⟨S1x4x2048x64, .f32⟩
  | .hbm, ⟨48, _⟩ => ⟨S1x4x2048x64, .f32⟩
  | .hbm, ⟨49, _⟩ => ⟨S1x4x2048x64, .f32⟩
  | .hbm, ⟨50, _⟩ => ⟨S1x4x2048x64, .f32⟩
  | .hbm, ⟨51, _⟩ => ⟨S1x4x2048x64, .f32⟩
  | .hbm, ⟨52, _⟩ => ⟨S1x4x2048x64, .f32⟩
  | .hbm, ⟨53, _⟩ => ⟨S1x4x2048x64, .f32⟩
  | .hbm, ⟨54, _⟩ => ⟨S1x4x2048x64, .f32⟩
  | .hbm, ⟨55, _⟩ => ⟨S1x4x2048x64, .f32⟩
  | .hbm, ⟨56, _⟩ => ⟨S1x4x2048x64, .f32⟩
  | .hbm, ⟨57, _⟩ => ⟨S1x4x2048x64, .f32⟩
  | .hbm, ⟨58, _⟩ => ⟨S1x4x2048x64, .f32⟩
  | .hbm, ⟨59, _⟩ => ⟨S1x4x2048x64, .f32⟩
  | .hbm, ⟨60, _⟩ => ⟨S_, .f32⟩
  | .hbm, ⟨61, _⟩ => ⟨S1x4x2048x128, .f32⟩
  | .hbm, ⟨62, _⟩ => ⟨S_, .f32⟩
  | .hbm, ⟨63, _⟩ => ⟨S1x4x2048x128, .f32⟩
  | .hbm, ⟨64, _⟩ => ⟨S1x4x2048x128, .f32⟩
  | .hbm, ⟨65, _⟩ => ⟨S_, .f32⟩
  | .hbm, ⟨66, _⟩ => ⟨S1x4x2048x128, .f32⟩
  | .hbm, ⟨67, _⟩ => ⟨S1x4x2048x128, .f32⟩
  | .hbm, ⟨68, _⟩ => ⟨S1x2048x4x128, .f32⟩
  | .hbm, ⟨69, _⟩ => ⟨S1x2048x512, .f32⟩
  | .hbm, ⟨70, _⟩ => ⟨S_, .f32⟩
  | .hbm, ⟨71, _⟩ => ⟨S2048x512, .f32⟩
  | .hbm, ⟨72, _⟩ => ⟨S_, .f32⟩
  | .hbm, ⟨73, _⟩ => ⟨S2304x512, .f32⟩
  | .hbm, ⟨74, _⟩ => ⟨S1x256x4x128, .f32⟩
  | .hbm, ⟨75, _⟩ => ⟨S1x4x256x128, .f32⟩
  | .hbm, ⟨76, _⟩ => ⟨S_, .f32⟩
  | .hbm, ⟨77, _⟩ => ⟨S1x4x256x128, .f32⟩
  | .hbm, ⟨78, _⟩ => ⟨S1x4x256x128, .f32⟩
  | .hbm, ⟨79, _⟩ => ⟨S1x256x4x128, .f32⟩
  | .hbm, ⟨80, _⟩ => ⟨S1x256x512, .f32⟩
  | .hbm, ⟨81, _⟩ => ⟨S_, .f32⟩
  | .hbm, ⟨82, _⟩ => ⟨S256x512, .f32⟩
  | .hbm, ⟨83, _⟩ => ⟨S_, .f32⟩
  | .hbm, ⟨84, _⟩ => ⟨S2304x512, .f32⟩
  | .hbm, ⟨85, _⟩ => ⟨S2304x512, .f32⟩
  | .hbm, ⟨86, _⟩ => ⟨S2304x512, .bf16⟩
  | _, _ => ⟨S2304x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_cst_1 : Ref sig .tc := ⟨.hbm, 60, rfl⟩
abbrev main_v54 : Ref sig .tc := ⟨.hbm, 61, rfl⟩
abbrev main_cst_2 : Ref sig .tc := ⟨.hbm, 62, rfl⟩
abbrev main_v55 : Ref sig .tc := ⟨.hbm, 63, rfl⟩
abbrev main_v56 : Ref sig .tc := ⟨.hbm, 64, rfl⟩
abbrev main_cst_3 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_4 : Ref sig .tc := ⟨.hbm, 70, rfl⟩
abbrev main_v61 : Ref sig .tc := ⟨.hbm, 71, rfl⟩
abbrev main_cst_5 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_6 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_7 : Ref sig .tc := ⟨.hbm, 81, rfl⟩
abbrev main_v69 : Ref sig .tc := ⟨.hbm, 82, rfl⟩
abbrev main_cst_8 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩

abbrev nD : Nat := 1
abbrev τ : Topo := Topo.v7x

variable {F : FTy → Type} [FloatOps F]
-- ==== PrepAq.lean ====
abbrev S2304x5376 : Shape := ⟨2, ![2304, 5376]⟩
abbrev S2048x64 : Shape := ⟨2, ![2048, 64]⟩
abbrev S1x128 : Shape := ⟨2, ![1, 128]⟩
abbrev S_ : Shape := ⟨0, ![]⟩
abbrev S256x128 : Shape := ⟨2, ![256, 128]⟩
abbrev S2048x128 : Shape := ⟨2, ![2048, 128]⟩
abbrev S2304x128 : Shape := ⟨2, ![2304, 128]⟩
abbrev S2304x1024 : Shape := ⟨2, ![2304, 1024]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 9
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S1x128, .f32⟩
  | .hbm, ⟨4, _⟩ => ⟨S_, .f32⟩
  | .hbm, ⟨5, _⟩ => ⟨S256x128, .f32⟩
  | .hbm, ⟨6, _⟩ => ⟨S2048x128, .f32⟩
  | .hbm, ⟨7, _⟩ => ⟨S2304x128, .f32⟩
  | .hbm, ⟨8, _⟩ => ⟨S_, .f32⟩
  | .hbm, ⟨9, _⟩ => ⟨S256x128, .f32⟩
  | .hbm, ⟨10, _⟩ => ⟨S2048x64, .f32⟩
  | .hbm, ⟨11, _⟩ => ⟨S2048x128, .f32⟩
  | .hbm, ⟨12, _⟩ => ⟨S2304x128, .f32⟩
  | .hbm, ⟨13, _⟩ => ⟨S2304x1024, .bf16⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S256x1024, .bf16⟩
  | .local _ .vmem, ⟨8, _⟩ => ⟨S256x1024, .bf16⟩
  | _, _ => ⟨S2304x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QueriesIdeal.lean ====
abbrev S2304x5376 : Shape := ⟨2, ![2304, 5376]⟩
abbrev S2048x64 : Shape := ⟨2, ![2048, 64]⟩
abbrev S1x128 : Shape := ⟨2, ![1, 128]⟩
abbrev S2304x1024 : Shape := ⟨2, ![2304, 1024]⟩
abbrev S256x1024 : Shape := ⟨2, ![256, 1024]⟩
abbrev S1x256x1024 : Shape := ⟨3, ![1, 256, 1024]⟩
abbrev S1x256x8x128 : Shape := ⟨4, ![1, 256, 8, 128]⟩
abbrev S1x8x256x128 : Shape := ⟨4, ![1, 8, 256, 128]⟩
abbrev S_ : Shape := ⟨0, ![]⟩
abbrev S1x8x256 : Shape := ⟨3, ![1, 8, 256]⟩
abbrev S1x8x256x1 : Shape := ⟨4, ![1, 8, 256, 1]⟩
abbrev S1x1x1x128 : Shape := ⟨4, ![1, 1, 1, 128]⟩
abbrev S2048x1024 : Shape := ⟨2, ![2048, 1024]⟩
abbrev S1x2048x1024 : Shape := ⟨3, ![1, 2048, 1024]⟩
abbrev S1x2048x8x128 : Shape := ⟨4, ![1, 2048, 8, 128]⟩
abbrev S1x8x2048x128 : Shape := ⟨4, ![1, 8, 2048, 128]⟩
abbrev S1x8x2048 : Shape := ⟨3, ![1, 8, 2048]⟩
abbrev S1x8x2048x1 : Shape := ⟨4, ![1, 8, 2048, 1]⟩
abbrev S1x8x2048x64 : Shape := ⟨4, ![1, 8, 2048, 64]⟩
abbrev S1x1x2048x64 : Shape := ⟨4, ![1, 1, 2048, 64]⟩
abbrev S1x2304x1024 : Shape := ⟨3, ![1, 2304, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S1x128, .f32⟩
  | .hbm, ⟨4, _⟩ => ⟨S2304x1024, .f32⟩
  | .hbm, ⟨5, _⟩ => ⟨S256x1024, .f32⟩
  | .hbm, ⟨6, _⟩ => ⟨S1x256x1024, .f32⟩
  | .hbm, ⟨7, _⟩ => ⟨S1x256x8x128, .f32⟩
  | .hbm, ⟨8, _⟩ => ⟨S1x8x256x128, .f32⟩
  | .hbm, ⟨9, _⟩ => ⟨S1x8x256x128, .f32⟩
  | .hbm, ⟨10, _⟩ => ⟨S_, .f32⟩
  | .hbm, ⟨11, _⟩ => ⟨S1x8x256, .f32⟩
  | .hbm, ⟨12, _⟩ => ⟨S1x8x256x1, .f32⟩
  | .hbm, ⟨13, _⟩ => ⟨S_, .f32⟩
  | .hbm, ⟨14, _⟩ => ⟨S1x8x256x1, .f32⟩
  | .hbm, ⟨15, _⟩ => ⟨S1x8x256x1, .f32⟩
  | .hbm, ⟨16, _⟩ => ⟨S_, .f32⟩
  | .hbm, ⟨17, _⟩ => ⟨S1x8x256x1, .f32⟩
  | .hbm, ⟨18, _⟩ => ⟨S1x8x256x1, .f32⟩
  | .hbm, ⟨19, _⟩ => ⟨S1x8x256x1, .f32⟩
  | .hbm, ⟨20, _⟩ => ⟨S1x8x256x128, .f32⟩
  | .hbm, ⟨21, _⟩ => ⟨S1x8x256x128, .f32⟩
  | .hbm, ⟨22, _⟩ => ⟨S1x1x1x128, .f32⟩
  | .hbm, ⟨23, _⟩ => ⟨S1x8x256x128, .f32⟩
  | .hbm, ⟨24, _⟩ => ⟨S1x8x256x128, .f32⟩
  | .hbm, ⟨25, _⟩ => ⟨S1x256x8x128, .f32⟩
  | .hbm, ⟨26, _⟩ => ⟨S1x256x1024, .f32⟩
  | .hbm, ⟨27, _⟩ => ⟨S2048x1024, .f32⟩
  | .hbm, ⟨28, _⟩ => ⟨S1x2048x1024, .f32⟩
  | .hbm, ⟨29, _⟩ => ⟨S1x2048x8x128, .f32⟩
  | .hbm, ⟨30, _⟩ => ⟨S1x8x2048x128, .f32⟩
  | .hbm, ⟨31, _⟩ => ⟨S1x8x2048x128, .f32⟩
  | .hbm, ⟨32, _⟩ => ⟨S_, .f32⟩
  | .hbm, ⟨33, _⟩ => ⟨S1x8x2048, .f32⟩
  | .hbm, ⟨34, _⟩ => ⟨S1x8x2048x1, .f32⟩
  | .hbm, ⟨35, _⟩ => ⟨S_, .f32⟩
  | .hbm, ⟨36, _⟩ => ⟨S1x8x2048x1, .f32⟩
  | .hbm, ⟨37, _⟩ => ⟨S1x8x2048x1, .f32⟩
  | .hbm, ⟨38, _⟩ => ⟨S_, .f32⟩
  | .hbm, ⟨39, _⟩ => ⟨S1x8x2048x1, .f32⟩
  | .hbm, ⟨40, _⟩ => ⟨S1x8x2048x1, .f32⟩
  | .hbm, ⟨41, _⟩ => ⟨S1x8x2048x1, .f32⟩
  | .hbm, ⟨42, _⟩ => ⟨S1x8x2048x128, .f32⟩
  | .hbm, ⟨43, _⟩ => ⟨S1x8x2048x128, .f32⟩
  | .hbm, ⟨44, _⟩ => ⟨S1x1x1x128, .f32⟩
  | .hbm, ⟨45, _⟩ => ⟨S1x8x2048x128, .f32⟩
  | .hbm, ⟨46, _⟩ => ⟨S1x8x2048x128, .f32⟩
  | .hbm, ⟨47, _⟩ => ⟨S1x8x2048x64, .f32⟩
  | .hbm, ⟨48, _⟩ => ⟨S1x8x2048x64, .f32⟩
  | .hbm, ⟨49, _⟩ => ⟨S1x1x2048x64, .f32⟩
  | .hbm, ⟨50, _⟩ => ⟨S1x8x2048x64, .f32⟩
  | .hbm, ⟨51, _⟩ => ⟨S1x8x2048x64, .f32⟩
  | .hbm, ⟨52, _⟩ => ⟨S1x1x2048x64, .f32⟩
  | .hbm, ⟨53, _⟩ => ⟨S1x8x2048x64, .f32⟩
  | .hbm, ⟨54, _⟩ => ⟨S1x8x2048x64, .f32⟩
  | .hbm, ⟨55, _⟩ => ⟨S1x8x2048x64, .f32⟩
  | .hbm, ⟨56, _⟩ => ⟨S1x1x2048x64, .f32⟩
  | .hbm, ⟨57, _⟩ => ⟨S1x8x2048x64, .f32⟩
  | .hbm, ⟨58, _⟩ => ⟨S1x8x2048x64, .f32⟩
  | .hbm, ⟨59, _⟩ => ⟨S1x1x2048x64, .f32⟩
  | .hbm, ⟨60, _⟩ => ⟨S1x8x2048x64, .f32⟩
  | .hbm, ⟨61, _⟩ => ⟨S1x8x2048x64, .f32⟩
  | .hbm, ⟨62, _⟩ => ⟨S1x8x2048x64, .f32⟩
  | .hbm, ⟨63, _⟩ => ⟨S1x8x2048x128, .f32⟩
  | .hbm, ⟨64, _⟩ => ⟨S1x2048x8x128, .f32⟩
  | .hbm, ⟨65, _⟩ => ⟨S1x2048x1024, .f32⟩
  | .hbm, ⟨66, _⟩ => ⟨S1x2304x1024, .f32⟩
  | .hbm, ⟨67, _⟩ => ⟨S2304x1024, .f32⟩
  | .hbm, ⟨68, _⟩ => ⟨S2304x1024, .bf16⟩
  | _, _ => ⟨S2304x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩

abbrev nD : Nat := 1
abbrev τ : Topo := Topo.v7x

variable {F : FTy → Type} [FloatOps F]
-- ==== PrepAk.lean ====
abbrev S2304x5376 : Shape := ⟨2, ![2304, 5376]⟩
abbrev S2048x64 : Shape := ⟨2, ![2048, 64]⟩
abbrev S1x128 : Shape := ⟨2, ![1, 128]⟩
abbrev S_ : Shape := ⟨0, ![]⟩
abbrev S256x128 : Shape := ⟨2, ![256, 128]⟩
abbrev S2048x128 : Shape := ⟨2, ![2048, 128]⟩
abbrev S2304x128 : Shape := ⟨2, ![2304, 128]⟩
abbrev S2304x256 : Shape := ⟨2, ![2304, 256]⟩
abbrev S256x256 : Shape := ⟨2, ![256, 256]⟩
abbrev S256 : Shape := ⟨1, ![256]⟩
abbrev S256x1 : Shape := ⟨2, ![256, 1]⟩

abbrev nBuf : Space → Nat
  | .hbm => 14
  | .vmem => 9
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S1x128, .f32⟩
  | .hbm, ⟨4, _⟩ => ⟨S_, .f32⟩
  | .hbm, ⟨5, _⟩ => ⟨S256x128, .f32⟩
  | .hbm, ⟨6, _⟩ => ⟨S2048x128, .f32⟩
  | .hbm, ⟨7, _⟩ => ⟨S2304x128, .f32⟩
  | .hbm, ⟨8, _⟩ => ⟨S_, .f32⟩
  | .hbm, ⟨9, _⟩ => ⟨S256x128, .f32⟩
  | .hbm, ⟨10, _⟩ => ⟨S2048x64, .f32⟩
  | .hbm, ⟨11, _⟩ => ⟨S2048x128, .f32⟩
  | .hbm, ⟨12, _⟩ => ⟨S2304x128, .f32⟩
  | .hbm, ⟨13, _⟩ => ⟨S2304x256, .bf16⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S256x256, .bf16⟩
  | .local _ .vmem, ⟨8, _⟩ => ⟨S256x256, .bf16⟩
  | _, _ => ⟨S2304x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KeysIdeal.lean ====
abbrev S2304x5376 : Shape := ⟨2, ![2304, 5376]⟩
abbrev S2048x64 : Shape := ⟨2, ![2048, 64]⟩
abbrev S1x128 : Shape := ⟨2, ![1, 128]⟩
abbrev S2304x256 : Shape := ⟨2, ![2304, 256]⟩
abbrev S256x256 : Shape := ⟨2, ![256, 256]⟩
abbrev S1x256x256 : Shape := ⟨3, ![1, 256, 256]⟩
abbrev S1x256x2x128 : Shape := ⟨4, ![1, 256, 2, 128]⟩
abbrev S1x2x256x128 : Shape := ⟨4, ![1, 2, 256, 128]⟩
abbrev S_ : Shape := ⟨0, ![]⟩
abbrev S1x2x256 : Shape := ⟨3, ![1, 2, 256]⟩
abbrev S1x2x256x1 : Shape := ⟨4, ![1, 2, 256, 1]⟩
abbrev S1x1x1x128 : Shape := ⟨4, ![1, 1, 1, 128]⟩
abbrev S2048x256 : Shape := ⟨2, ![2048, 256]⟩
abbrev S1x2048x256 : Shape := ⟨3, ![1, 2048, 256]⟩
abbrev S1x2048x2x128 : Shape := ⟨4, ![1, 2048, 2, 128]⟩
abbrev S1x2x2048x128 : Shape := ⟨4, ![1, 2, 2048, 128]⟩
abbrev S1x2x2048 : Shape := ⟨3, ![1, 2, 2048]⟩
abbrev S1x2x2048x1 : Shape := ⟨4, ![1, 2, 2048, 1]⟩
abbrev S1x2x2048x64 : Shape := ⟨4, ![1, 2, 2048, 64]⟩
abbrev S1x1x2048x64 : Shape := ⟨4, ![1, 1, 2048, 64]⟩
abbrev S1x2304x256 : Shape := ⟨3, ![1, 2304, 256]⟩

abbrev nBuf : Space → Nat
  | .hbm => 69
  | .vmem => 0
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S1x128, .f32⟩
  | .hbm, ⟨4, _⟩ => ⟨S2304x256, .f32⟩
  | .hbm, ⟨5, _⟩ => ⟨S256x256, .f32⟩
  | .hbm, ⟨6, _⟩ => ⟨S1x256x256, .f32⟩
  | .hbm, ⟨7, _⟩ => ⟨S1x256x2x128, .f32⟩
  | .hbm, ⟨8, _⟩ => ⟨S1x2x256x128, .f32⟩
  | .hbm, ⟨9, _⟩ => ⟨S1x2x256x128, .f32⟩
  | .hbm, ⟨10, _⟩ => ⟨S_, .f32⟩
  | .hbm, ⟨11, _⟩ => ⟨S1x2x256, .f32⟩
  | .hbm, ⟨12, _⟩ => ⟨S1x2x256x1, .f32⟩
  | .hbm, ⟨13, _⟩ => ⟨S_, .f32⟩
  | .hbm, ⟨14, _⟩ => ⟨S1x2x256x1, .f32⟩
  | .hbm, ⟨15, _⟩ => ⟨S1x2x256x1, .f32⟩
  | .hbm, ⟨16, _⟩ => ⟨S_, .f32⟩
  | .hbm, ⟨17, _⟩ => ⟨S1x2x256x1, .f32⟩
  | .hbm, ⟨18, _⟩ => ⟨S1x2x256x1, .f32⟩
  | .hbm, ⟨19, _⟩ => ⟨S1x2x256x1, .f32⟩
  | .hbm, ⟨20, _⟩ => ⟨S1x2x256x128, .f32⟩
  | .hbm, ⟨21, _⟩ => ⟨S1x2x256x128, .f32⟩
  | .hbm, ⟨22, _⟩ => ⟨S1x1x1x128, .f32⟩
  | .hbm, ⟨23, _⟩ => ⟨S1x2x256x128, .f32⟩
  | .hbm, ⟨24, _⟩ => ⟨S1x2x256x128, .f32⟩
  | .hbm, ⟨25, _⟩ => ⟨S1x256x2x128, .f32⟩
  | .hbm, ⟨26, _⟩ => ⟨S1x256x256, .f32⟩
  | .hbm, ⟨27, _⟩ => ⟨S2048x256, .f32⟩
  | .hbm, ⟨28, _⟩ => ⟨S1x2048x256, .f32⟩
  | .hbm, ⟨29, _⟩ => ⟨S1x2048x2x128, .f32⟩
  | .hbm, ⟨30, _⟩ => ⟨S1x2x2048x128, .f32⟩
  | .hbm, ⟨31, _⟩ => ⟨S1x2x2048x128, .f32⟩
  | .hbm, ⟨32, _⟩ => ⟨S_, .f32⟩
  | .hbm, ⟨33, _⟩ => ⟨S1x2x2048, .f32⟩
  | .hbm, ⟨34, _⟩ => ⟨S1x2x2048x1, .f32⟩
  | .hbm, ⟨35, _⟩ => ⟨S_, .f32⟩
  | .hbm, ⟨36, _⟩ => ⟨S1x2x2048x1, .f32⟩
  | .hbm, ⟨37, _⟩ => ⟨S1x2x2048x1, .f32⟩
  | .hbm, ⟨38, _⟩ => ⟨S_, .f32⟩
  | .hbm, ⟨39, _⟩ => ⟨S1x2x2048x1, .f32⟩
  | .hbm, ⟨40, _⟩ => ⟨S1x2x2048x1, .f32⟩
  | .hbm, ⟨41, _⟩ => ⟨S1x2x2048x1, .f32⟩
  | .hbm, ⟨42, _⟩ => ⟨S1x2x2048x128, .f32⟩
  | .hbm, ⟨43, _⟩ => ⟨S1x2x2048x128, .f32⟩
  | .hbm, ⟨44, _⟩ => ⟨S1x1x1x128, .f32⟩
  | .hbm, ⟨45, _⟩ => ⟨S1x2x2048x128, .f32⟩
  | .hbm, ⟨46, _⟩ => ⟨S1x2x2048x128, .f32⟩
  | .hbm, ⟨47, _⟩ => ⟨S1x2x2048x64, .f32⟩
  | .hbm, ⟨48, _⟩ => ⟨S1x2x2048x64, .f32⟩
  | .hbm, ⟨49, _⟩ => ⟨S1x1x2048x64, .f32⟩
  | .hbm, ⟨50, _⟩ => ⟨S1x2x2048x64, .f32⟩
  | .hbm, ⟨51, _⟩ => ⟨S1x2x2048x64, .f32⟩
  | .hbm, ⟨52, _⟩ => ⟨S1x1x2048x64, .f32⟩
  | .hbm, ⟨53, _⟩ => ⟨S1x2x2048x64, .f32⟩
  | .hbm, ⟨54, _⟩ => ⟨S1x2x2048x64, .f32⟩
  | .hbm, ⟨55, _⟩ => ⟨S1x2x2048x64, .f32⟩
  | .hbm, ⟨56, _⟩ => ⟨S1x1x2048x64, .f32⟩
  | .hbm, ⟨57, _⟩ => ⟨S1x2x2048x64, .f32⟩
  | .hbm, ⟨58, _⟩ => ⟨S1x2x2048x64, .f32⟩
  | .hbm, ⟨59, _⟩ => ⟨S1x1x2048x64, .f32⟩
  | .hbm, ⟨60, _⟩ => ⟨S1x2x2048x64, .f32⟩
  | .hbm, ⟨61, _⟩ => ⟨S1x2x2048x64, .f32⟩
  | .hbm, ⟨62, _⟩ => ⟨S1x2x2048x64, .f32⟩
  | .hbm, ⟨63, _⟩ => ⟨S1x2x2048x128, .f32⟩
  | .hbm, ⟨64, _⟩ => ⟨S1x2048x2x128, .f32⟩
  | .hbm, ⟨65, _⟩ => ⟨S1x2048x256, .f32⟩
  | .hbm, ⟨66, _⟩ => ⟨S1x2304x256, .f32⟩
  | .hbm, ⟨67, _⟩ => ⟨S2304x256, .f32⟩
  | .hbm, ⟨68, _⟩ => ⟨S2304x256, .bf16⟩
  | _, _ => ⟨S2304x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩

abbrev nD : Nat := 1
abbrev τ : Topo := Topo.v7x

variable {F : FTy → Type} [FloatOps F]
-- ==== PrepRq.lean ====
abbrev S2304x5376 : Shape := ⟨2, ![2304, 5376]⟩
abbrev S2048x64 : Shape := ⟨2, ![2048, 64]⟩
abbrev S_ : Shape := ⟨0, ![]⟩
abbrev S256x128 : Shape := ⟨2, ![256, 128]⟩
abbrev S2048x128 : Shape := ⟨2, ![2048, 128]⟩
abbrev S2304x128 : Shape := ⟨2, ![2304, 128]⟩
abbrev S2304x512 : Shape := ⟨2, ![2304, 512]⟩
abbrev S256x512 : Shape := ⟨2, ![256, 512]⟩

abbrev nBuf : Space → Nat
  | .hbm => 13
  | .vmem => 8
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S_, .f32⟩
  | .hbm, ⟨4, _⟩ => ⟨S256x128, .f32⟩
  | .hbm, ⟨5, _⟩ => ⟨S2048x128, .f32⟩
  | .hbm, ⟨6, _⟩ => ⟨S2304x128, .f32⟩
  | .hbm, ⟨7, _⟩ => ⟨S_, .f32⟩
  | .hbm, ⟨8, _⟩ => ⟨S256x128, .f32⟩
  | .hbm, ⟨9, _⟩ => ⟨S2048x64, .f32⟩
  | .hbm, ⟨10, _⟩ => ⟨S2048x128, .f32⟩
  | .hbm, ⟨11, _⟩ => ⟨S2304x128, .f32⟩
  | .hbm, ⟨12, _⟩ => ⟨S2304x512, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .bf16⟩
  | .local _ .vmem, ⟨7, _⟩ => ⟨S256x512, .bf16⟩
  | _, _ => ⟨S2304x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RetQueriesIdeal.lean ====
abbrev S2304x5376 : Shape := ⟨2, ![2304, 5376]⟩
abbrev S2048x64 : Shape := ⟨2, ![2048, 64]⟩
abbrev S2304x512 : Shape := ⟨2, ![2304, 512]⟩
abbrev S256x512 : Shape := ⟨2, ![256, 512]⟩
abbrev S1x256x512 : Shape := ⟨3, ![1, 256, 512]⟩
abbrev S1x256x4x128 : Shape := ⟨4, ![1, 256, 4, 128]⟩
abbrev S1x4x256x128 : Shape := ⟨4, ![1, 4, 256, 128]⟩
abbrev S2048x512 : Shape := ⟨2, ![2048, 512]⟩
abbrev S1x2048x512 : Shape := ⟨3, ![1, 2048, 512]⟩
abbrev S1x2048x4x128 : Shape := ⟨4, ![1, 2048, 4, 128]⟩
abbrev S1x4x2048x128 : Shape := ⟨4, ![1, 4, 2048, 128]⟩
abbrev S1x4x2048x64 : Shape := ⟨4, ![1, 4, 2048, 64]⟩
abbrev S1x1x2048x64 : Shape := ⟨4, ![1, 1, 2048, 64]⟩
abbrev S1x2304x512 : Shape := ⟨3, ![1, 2304, 512]⟩

abbrev nBuf : Space → Nat
  | .hbm => 36
  | .vmem => 0
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S2304x512, .f32⟩
  | .hbm, ⟨4, _⟩ => ⟨S256x512, .f32⟩
  | .hbm, ⟨5, _⟩ => ⟨S1x256x512, .f32⟩
  | .hbm, ⟨6, _⟩ => ⟨S1x256x4x128, .f32⟩
  | .hbm, ⟨7, _⟩ => ⟨S1x4x256x128, .f32⟩
  | .hbm, ⟨8, _⟩ => ⟨S1x256x4x128, .f32⟩
  | .hbm, ⟨9, _⟩ => ⟨S1x256x512, .f32⟩
  | .hbm, ⟨10, _⟩ => ⟨S2048x512, .f32⟩
  | .hbm, ⟨11, _⟩ => ⟨S1x2048x512, .f32⟩
  | .hbm, ⟨12, _⟩ => ⟨S1x2048x4x128, .f32⟩
  | .hbm, ⟨13, _⟩ => ⟨S1x4x2048x128, .f32⟩
  | .hbm, ⟨14, _⟩ => ⟨S1x4x2048x64, .f32⟩
  | .hbm, ⟨15, _⟩ => ⟨S1x4x2048x64, .f32⟩
  | .hbm, ⟨16, _⟩ => ⟨S1x1x2048x64, .f32⟩
  | .hbm, ⟨17, _⟩ => ⟨S1x4x2048x64, .f32⟩
  | .hbm, ⟨18, _⟩ => ⟨S1x4x2048x64, .f32⟩
  | .hbm, ⟨19, _⟩ => ⟨S1x1x2048x64, .f32⟩
  | .hbm, ⟨20, _⟩ => ⟨S1x4x2048x64, .f32⟩
  | .hbm, ⟨21, _⟩ => ⟨S1x4x2048x64, .f32⟩
  | .hbm, ⟨22, _⟩ => ⟨S1x4x2048x64, .f32⟩
  | .hbm, ⟨23, _⟩ => ⟨S1x1x2048x64, .f32⟩
  | .hbm, ⟨24, _⟩ => ⟨S1x4x2048x64, .f32⟩
  | .hbm, ⟨25, _⟩ => ⟨S1x4x2048x64, .f32⟩
  | .hbm, ⟨26, _⟩ => ⟨S1x1x2048x64, .f32⟩
  | .hbm, ⟨27, _⟩ => ⟨S1x4x2048x64, .f32⟩
  | .hbm, ⟨28, _⟩ => ⟨S1x4x2048x64, .f32⟩
  | .hbm, ⟨29, _⟩ => ⟨S1x4x2048x64, .f32⟩
  | .hbm, ⟨30, _⟩ => ⟨S1x4x2048x128, .f32⟩
  | .hbm, ⟨31, _⟩ => ⟨S1x2048x4x128, .f32⟩
  | .hbm, ⟨32, _⟩ => ⟨S1x2048x512, .f32⟩
  | .hbm, ⟨33, _⟩ => ⟨S1x2304x512, .f32⟩
  | .hbm, ⟨34, _⟩ => ⟨S2304x512, .f32⟩
  | .hbm, ⟨35, _⟩ => ⟨S2304x512, .bf16⟩
  | _, _ => ⟨S2304x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩

abbrev nD : Nat := 1
abbrev τ : Topo := Topo.v7x

variable {F : FTy → Type} [FloatOps F]
-- ==== PrepRk.lean ====
abbrev S2304x5376 : Shape := ⟨2, ![2304, 5376]⟩
abbrev S2048x64 : Shape := ⟨2, ![2048, 64]⟩
abbrev S_ : Shape := ⟨0, ![]⟩
abbrev S256x128 : Shape := ⟨2, ![256, 128]⟩
abbrev S2048x128 : Shape := ⟨2, ![2048, 128]⟩
abbrev S2304x128 : Shape := ⟨2, ![2304, 128]⟩
abbrev S2304x512 : Shape := ⟨2, ![2304, 512]⟩
abbrev S256x512 : Shape := ⟨2, ![256, 512]⟩

abbrev nBuf : Space → Nat
  | .hbm => 13
  | .vmem => 8
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S_, .f32⟩
  | .hbm, ⟨4, _⟩ => ⟨S256x128, .f32⟩
  | .hbm, ⟨5, _⟩ => ⟨S2048x128, .f32⟩
  | .hbm, ⟨6, _⟩ => ⟨S2304x128, .f32⟩
  | .hbm, ⟨7, _⟩ => ⟨S_, .f32⟩
  | .hbm, ⟨8, _⟩ => ⟨S256x128, .f32⟩
  | .hbm, ⟨9, _⟩ => ⟨S2048x64, .f32⟩
  | .hbm, ⟨10, _⟩ => ⟨S2048x128, .f32⟩
  | .hbm, ⟨11, _⟩ => ⟨S2304x128, .f32⟩
  | .hbm, ⟨12, _⟩ => ⟨S2304x512, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .bf16⟩
  | .local _ .vmem, ⟨7, _⟩ => ⟨S256x512, .bf16⟩
  | _, _ => ⟨S2304x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RetKeysIdeal.lean ====
abbrev S2304x5376 : Shape := ⟨2, ![2304, 5376]⟩
abbrev S2048x64 : Shape := ⟨2, ![2048, 64]⟩
abbrev S2304x512 : Shape := ⟨2, ![2304, 512]⟩
abbrev S256x512 : Shape := ⟨2, ![256, 512]⟩
abbrev S1x256x512 : Shape := ⟨3, ![1, 256, 512]⟩
abbrev S1x256x4x128 : Shape := ⟨4, ![1, 256, 4, 128]⟩
abbrev S1x4x256x128 : Shape := ⟨4, ![1, 4, 256, 128]⟩
abbrev S_ : Shape := ⟨0, ![]⟩
abbrev S2048x512 : Shape := ⟨2, ![2048, 512]⟩
abbrev S1x2048x512 : Shape := ⟨3, ![1, 2048, 512]⟩
abbrev S1x2048x4x128 : Shape := ⟨4, ![1, 2048, 4, 128]⟩
abbrev S1x4x2048x128 : Shape := ⟨4, ![1, 4, 2048, 128]⟩
abbrev S1x4x2048x64 : Shape := ⟨4, ![1, 4, 2048, 64]⟩
abbrev S1x1x2048x64 : Shape := ⟨4, ![1, 1, 2048, 64]⟩
abbrev S1x2304x512 : Shape := ⟨3, ![1, 2304, 512]⟩

abbrev nBuf : Space → Nat
  | .hbm => 42
  | .vmem => 0
  | .smem => 0
  | _ => 0

abbrev bufTy : (tb : Table) → Fin (tcTables nBuf tb) → BufTy
  | .hbm, ⟨0, _⟩ => ⟨S2304x5376, .f32⟩
  | .hbm, ⟨1, _⟩ => ⟨S2048x64, .f32⟩
  | .hbm, ⟨2, _⟩ => ⟨S2048x64, .f32⟩
  | .hbm, ⟨3, _⟩ => ⟨S2304x512, .f32⟩
  | .hbm, ⟨4, _⟩ => ⟨S256x512, .f32⟩
  | .hbm, ⟨5, _⟩ => ⟨S1x256x512, .f32⟩
  | .hbm, ⟨6, _⟩ => ⟨S1x256x4x128, .f32⟩
  | .hbm, ⟨7, _⟩ => ⟨S1x4x256x128, .f32⟩
  | .hbm, ⟨8, _⟩ => ⟨S_, .f32⟩
  | .hbm, ⟨9, _⟩ => ⟨S1x4x256x128, .f32⟩
  | .hbm, ⟨10, _⟩ => ⟨S1x4x256x128, .f32⟩
  | .hbm, ⟨11, _⟩ => ⟨S1x256x4x128, .f32⟩
  | .hbm, ⟨12, _⟩ => ⟨S1x256x512, .f32⟩
  | .hbm, ⟨13, _⟩ => ⟨S2048x512, .f32⟩
  | .hbm, ⟨14, _⟩ => ⟨S1x2048x512, .f32⟩
  | .hbm, ⟨15, _⟩ => ⟨S1x2048x4x128, .f32⟩
  | .hbm, ⟨16, _⟩ => ⟨S1x4x2048x128, .f32⟩
  | .hbm, ⟨17, _⟩ => ⟨S_, .f32⟩
  | .hbm, ⟨18, _⟩ => ⟨S1x4x2048x128, .f32⟩
  | .hbm, ⟨19, _⟩ => ⟨S1x4x2048x128, .f32⟩
  | .hbm, ⟨20, _⟩ => ⟨S1x4x2048x64, .f32⟩
  | .hbm, ⟨21, _⟩ => ⟨S1x4x2048x64, .f32⟩
  | .hbm, ⟨22, _⟩ => ⟨S1x1x2048x64, .f32⟩
  | .hbm, ⟨23, _⟩ => ⟨S1x4x2048x64, .f32⟩
  | .hbm, ⟨24, _⟩ => ⟨S1x4x2048x64, .f32⟩
  | .hbm, ⟨25, _⟩ => ⟨S1x1x2048x64, .f32⟩
  | .hbm, ⟨26, _⟩ => ⟨S1x4x2048x64, .f32⟩
  | .hbm, ⟨27, _⟩ => ⟨S1x4x2048x64, .f32⟩
  | .hbm, ⟨28, _⟩ => ⟨S1x4x2048x64, .f32⟩
  | .hbm, ⟨29, _⟩ => ⟨S1x1x2048x64, .f32⟩
  | .hbm, ⟨30, _⟩ => ⟨S1x4x2048x64, .f32⟩
  | .hbm, ⟨31, _⟩ => ⟨S1x4x2048x64, .f32⟩
  | .hbm, ⟨32, _⟩ => ⟨S1x1x2048x64, .f32⟩
  | .hbm, ⟨33, _⟩ => ⟨S1x4x2048x64, .f32⟩
  | .hbm, ⟨34, _⟩ => ⟨S1x4x2048x64, .f32⟩
  | .hbm, ⟨35, _⟩ => ⟨S1x4x2048x64, .f32⟩
  | .hbm, ⟨36, _⟩ => ⟨S1x4x2048x128, .f32⟩
  | .hbm, ⟨37, _⟩ => ⟨S1x2048x4x128, .f32⟩
  | .hbm, ⟨38, _⟩ => ⟨S1x2048x512, .f32⟩
  | .hbm, ⟨39, _⟩ => ⟨S1x2304x512, .f32⟩
  | .hbm, ⟨40, _⟩ => ⟨S2304x512, .f32⟩
  | .hbm, ⟨41, _⟩ => ⟨S2304x512, .bf16⟩
  | _, _ => ⟨S2304x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== Proof.RowSpec.lean ====
/- Row functions of the softmax and of its derivative, over the extended reals. -/
module

public import Idealize.ShloMosaic.PureOps.Ideal
public import Idealize.ShloMosaic.Lib.Pointwise

@[expose] public section

noncomputable section

namespace Cert.RowSpec

open Idealize.ShloMosaic

variable {n : Nat}

/-- The exponential of a row's scores below the row's maximum. -/
def rowE (s : Fin n → EReal) (j : Fin n) : EReal :=
  Ideal.exp (s j - Finset.univ.fold max ⊥ s)

/-- The sum of a row's exponentials. -/
def rowZ (s : Fin n → EReal) : EReal := ∑ j, rowE s j

/-- A row's probabilities. -/
def rowP (s : Fin n → EReal) (j : Fin n) : EReal := Ideal.div (rowE s j) (rowZ s)

/-- The gradient of a row's scores before the scale, from the gradient `dp` of its probabilities, times `c`. -/
def rowDs (c : EReal) (s dp : Fin n → EReal) (j : Fin n) : EReal :=
  rowP s j * (dp j - ∑ l, dp l * rowP s l) * c

/-- A sum times a nonnegative real, factor by factor. -/
theorem mul_sum_of_nonneg {ι : Type*} (t : Finset ι) (f : ι → EReal) (w : ℝ) (hw : 0 ≤ w) :
    (w : EReal) * ∑ i ∈ t, f i = ∑ i ∈ t, (w : EReal) * f i := by
  classical
  induction t using Finset.induction_on with
  | empty => simp
  | insert a t ha ih =>
    rw [Finset.sum_insert ha, Finset.sum_insert ha, ← ih]
    exact EReal.left_distrib_of_nonneg_of_ne_top (by exact_mod_cast hw) (EReal.coe_ne_top w) _ _

/-- A sum of real numbers is their sum as extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum of a row is its supremum. -/
theorem fold_max_eq_sup (s : Fin n → EReal) : Finset.univ.fold max ⊥ s = Finset.univ.sup s := rfl

/-- A row that holds a number and no positive infinity has a number as its maximum. -/
theorem fold_max_real (s : Fin n → EReal) (h : ∀ j, s j ≠ ⊤) (j0 : Fin n) (h0 : s j0 ≠ ⊥) :
    ∃ M : ℝ, Finset.univ.fold max ⊥ s = (M : EReal) := by
  rw [fold_max_eq_sup]
  have h1 : Finset.univ.sup s ≠ ⊤ := by
    have := (Finset.sup_lt_iff (s := Finset.univ) (f := s) (a := (⊤ : EReal)) (by simp)).2
      (fun j _ => lt_top_iff_ne_top.2 (h j))
    exact this.ne
  have h2 : Finset.univ.sup s ≠ ⊥ := by
    intro hb
    exact h0 (le_bot_iff.1 (hb ▸ Finset.le_sup (f := s) (Finset.mem_univ j0)))
  exact ⟨(Finset.univ.sup s).toReal, (EReal.coe_toReal h1 h2).symm⟩

/-- Such a row's exponentials are nonnegative numbers with a positive sum. -/
theorem rowE_real (s : Fin n → EReal) (h : ∀ j, s j ≠ ⊤) (j0 : Fin n) (h0 : s j0 ≠ ⊥) :
    ∃ (e : Fin n → ℝ) (z : ℝ), 0 < z ∧ (∀ j, 0 ≤ e j) ∧ (∀ j, rowE s j = (e j : EReal))
      ∧ rowZ s = (z : EReal) := by
  obtain ⟨M, hM⟩ := fold_max_real s h j0 h0
  have key : ∀ j, ∃ x : ℝ, 0 ≤ x ∧ rowE s j = (x : EReal) := by
    intro j
    unfold rowE
    rw [hM]
    have hj := h j
    induction hs : s j with
    | top => exact absurd hs hj
    | bot => exact ⟨0, le_refl _, by rw [EReal.bot_sub]; simp⟩
    | coe x => exact ⟨Real.exp (x - M), (Real.exp_pos _).le, by rw [← EReal.coe_sub, Ideal.exp_coe]⟩
  choose e he hE using key
  have hsum : rowZ s = ((∑ j, e j : ℝ) : EReal) := by
    unfold rowZ
    rw [coe_sum]
    exact Finset.sum_congr rfl fun j _ => hE j
  refine ⟨e, ∑ j, e j, ?_, he, hE, hsum⟩
  have hp : 0 < e j0 := by
    have h3 := hE j0
    unfold rowE at h3
    rw [hM] at h3
    have hj := h j0
    induction hs : s j0 with
    | top => exact absurd hs hj
    | bot => exact absurd hs h0
    | coe x =>
      rw [hs, ← EReal.coe_sub, Ideal.exp_coe] at h3
      have := Real.exp_pos (x - M)
      rw [EReal.coe_eq_coe_iff] at h3
      exact h3 ▸ this
  exact lt_of_lt_of_le hp (Finset.single_le_sum (fun j _ => he j) (Finset.mem_univ j0))

/-- The derivative of the softmax as the quotient rule writes it is the row function above: the numerator and the
    denominator are differentiated apart. -/
theorem quotient_rule (c : EReal) (s dp : Fin n → EReal) (h : ∀ j, s j ≠ ⊤) (j0 : Fin n) (h0 : s j0 ≠ ⊥) (j : Fin n) :
    (Ideal.div (dp j) (rowZ s) + -(∑ l, dp l * Ideal.div 1 (rowZ s * rowZ s) * rowE s l)) * rowE s j * c
      = rowDs c s dp j := by
  obtain ⟨e, z, hz, he, hE, hZ⟩ := rowE_real s h j0 h0
  unfold rowDs rowP
  simp only [hE, hZ]
  have hz0 : z ≠ 0 := hz.ne'
  have hw : 0 ≤ z⁻¹ := (inv_pos.2 hz).le
  rw [← EReal.coe_mul]
  simp only [Ideal.div_coe hz0, Ideal.div_coe (mul_ne_zero hz0 hz0), one_div, one_mul]
  have hs : ∑ l, dp l * ((z * z)⁻¹ : ℝ) * (e l : EReal)
      = (z⁻¹ : ℝ) * ∑ l, dp l * ((e l : EReal) * (z⁻¹ : ℝ)) := by
    rw [mul_sum_of_nonneg _ _ _ hw]
    refine Finset.sum_congr rfl fun l _ => ?_
    rw [mul_inv, EReal.coe_mul]
    ac_rfl
  rw [hs, mul_comm (dp j), ← mul_neg, ← EReal.left_distrib_of_nonneg_of_ne_top (by exact_mod_cast hw) (EReal.coe_ne_top _),
    ← sub_eq_add_neg]
  ac_rfl

/-- A row whose scores past the first `a` are all negative infinity: the maximum is that of the first `a`. -/
theorem fold_max_prefix {a b : Nat} (s : Fin (a + b) → EReal) (hs : ∀ j, a ≤ j.val → s j = ⊥) :
    Finset.univ.fold max ⊥ s = Finset.univ.fold max ⊥ fun j : Fin a => s (Fin.castAdd b j) := by
  simp only [fold_max_eq_sup]
  apply le_antisymm
  · refine Finset.sup_le fun j _ => ?_
    by_cases hj : j.val < a
    · exact Finset.le_sup (f := fun j : Fin a => s (Fin.castAdd b j)) (Finset.mem_univ ⟨j.val, hj⟩)
    · rw [hs j (not_lt.1 hj)]; exact bot_le
  · exact Finset.sup_le fun j _ => Finset.le_sup (f := s) (Finset.mem_univ (Fin.castAdd b j))

/-- A sum whose terms past the first `a` vanish is the sum of the first `a`. -/
theorem sum_prefix {a b : Nat} (f : Fin (a + b) → EReal) (hf : ∀ j, a ≤ j.val → f j = 0) :
    ∑ j, f j = ∑ j : Fin a, f (Fin.castAdd b j) := by
  rw [Fin.sum_univ_add]
  have : ∑ i : Fin b, f (Fin.natAdd a i) = 0 := Finset.sum_eq_zero fun i _ => hf _ (by simp)
  rw [this, add_zero]

section
variable {a b : Nat} (s : Fin (a + b) → EReal) (hs : ∀ j, a ≤ j.val → s j = ⊥)
include hs

/-- The exponentials of the first `a` columns do not see the masked ones. -/
theorem rowE_prefix (j : Fin a) : rowE s (Fin.castAdd b j) = rowE (fun j : Fin a => s (Fin.castAdd b j)) j := by
  unfold rowE
  rw [fold_max_prefix s hs]

/-- A masked column's exponential is zero. -/
theorem rowE_masked (j : Fin (a + b)) (hj : a ≤ j.val) : rowE s j = 0 := by
  unfold rowE
  rw [hs j hj, EReal.bot_sub]
  simp

theorem rowZ_prefix : rowZ s = rowZ (fun j : Fin a => s (Fin.castAdd b j)) := by
  unfold rowZ
  rw [sum_prefix _ (fun j hj => rowE_masked s hs j hj)]
  exact Finset.sum_congr rfl fun j _ => rowE_prefix s hs j

theorem rowP_prefix (j : Fin a) : rowP s (Fin.castAdd b j) = rowP (fun j : Fin a => s (Fin.castAdd b j)) j := by
  unfold rowP
  rw [rowE_prefix s hs, rowZ_prefix s hs]

/-- A masked column's probability is zero where the row holds a number and no positive infinity. -/
theorem rowP_masked (h : ∀ j, s j ≠ ⊤) (j0 : Fin (a + b)) (h0 : s j0 ≠ ⊥) (j : Fin (a + b)) (hj : a ≤ j.val) :
    rowP s j = 0 := by
  obtain ⟨e, z, hz, he, hE, hZ⟩ := rowE_real s h j0 h0
  unfold rowP
  rw [rowE_masked s hs j hj, hZ, Ideal.div_coe hz.ne', zero_mul]

theorem rowDs_masked (c : EReal) (dp : Fin (a + b) → EReal) (h : ∀ j, s j ≠ ⊤) (j0 : Fin (a + b)) (h0 : s j0 ≠ ⊥)
    (j : Fin (a + b)) (hj : a ≤ j.val) : rowDs c s dp j = 0 := by
  unfold rowDs
  rw [rowP_masked s hs h j0 h0 j hj, zero_mul, zero_mul]

theorem rowDs_prefix (c : EReal) (dp : Fin (a + b) → EReal) (h : ∀ j, s j ≠ ⊤) (j0 : Fin (a + b)) (h0 : s j0 ≠ ⊥)
    (j : Fin a) : rowDs c s dp (Fin.castAdd b j)
      = rowDs c (fun j : Fin a => s (Fin.castAdd b j)) (fun j => dp (Fin.castAdd b j)) j := by
  unfold rowDs
  rw [rowP_prefix s hs, sum_prefix (fun l => dp l * rowP s l)
    (fun l hl => by rw [rowP_masked s hs h j0 h0 l hl, mul_zero])]
  simp only [rowP_prefix s hs]

end

end Cert.RowSpec

end
-- ==== Proof.AttBody.lean ====
/- The attention gradient's kernel body, read at an index: each payload is a row function of the loaded blocks. -/
module

public import proofs.«01_k».proof.Proof.RowSpec
public import proofs.«01_k».proof.Proof.Gen.AttBwdIdeal.Skeleton
public import Idealize.ShloMosaic.Lib.Pointwise

@[expose] public section

set_option maxRecDepth 16384

noncomputable section

namespace Cert.AttBwdIdeal.Body

open Idealize.ShloMosaic Idealize.ShloMosaic.TcCoe Idealize.SL.Sem
open Cert.AttBwdIdeal.Gen Cert.RowSpec

/-- The scale of the scores. -/
abbrev sc : EReal := Ideal.ofBits .f32 0x3DB504F3#32

theorem ofBits_negInf : Ideal.ofBits .f32 0xFF800000#32 = ⊥ := by
  simp [Ideal.ofBits, Ideal.ieee]

theorem mask_eq : (Named.named κ "mask" 0xF149F2CA#32 : Ideal .f32) = (⊥ : EReal) :=
  rfl

/-- The printed mask word selects by column and by tile. -/
theorem select_mask (x y : EReal) (j t : Nat) (hj : j < 2304) (ht : t < 18) :
    Scalar.select (IntOp.ori (IntOp.cmpi .slt (BitVec.ofNat 32 j) 256#32) (Scalar.cmpi .sge (BitVec.ofNat 32 t) 2#32)) x y
      = if j < 256 ∨ 2 ≤ t then x else y := by
  have h1 : IntOp.cmpi .slt (BitVec.ofNat 32 j) 256#32 = BitVec.ofBool (decide (j < 256)) := by
    have : (BitVec.ofNat 32 j).slt 256#32 = decide (j < 256) := by
      rw [BitVec.slt_eq_decide, BitVec.toInt_ofNat', BitVec.toInt_ofNat']
      simp only [Int.bmod, decide_eq_decide]
      omega
    simp [IntOp.cmpi, this]
  have h2 : Scalar.cmpi .sge (BitVec.ofNat 32 t) 2#32 = BitVec.ofBool (decide (2 ≤ t)) := by
    revert ht; revert t; decide
  rw [h1, h2]
  by_cases a : j < 256 <;> by_cases b : 2 ≤ t <;> simp [Scalar.select, IntOp.ori, a, b]

/-- The scores of stacked row `R`, masked where the tile `t` is of context rows. -/
def tileS (t : Nat) (q4 : FVec Ideal S512x128 .bf16) (k : FVec Ideal S2304x128 .bf16) (R : Fin 512) (j : Fin 2304) : EReal :=
  if j.val < 256 ∨ 2 ≤ t then (∑ d : Fin 128, (q4 (ix2 R d) : EReal) * k (ix2 j d)) * sc else ⊥

/-- The gradient of stacked row `R`'s probabilities. -/
def tileDp (do4 : FVec Ideal S512x128 .bf16) (v : FVec Ideal S2304x128 .bf16) (R : Fin 512) (j : Fin 2304) : EReal :=
  ∑ d : Fin 128, (do4 (ix2 R d) : EReal) * v (ix2 j d)

theorem pay15_apply (i : grid0.Coords) (k : Vec Ideal S2304x128 .bf16) (a b c d : Vec Ideal S128x128 .bf16)
    (R : Fin 512) (j : Fin 2304) :
    k0_pay15 (F := Ideal) i k a b c d (ix2 R j) = rowE (tileS (i 1).val (k0_pay13 a b c d) k R) j := by
  have hi : (i 1).val < 18 := (i 1).isLt
  generalize hq : k0_pay13 (F := Ideal) a b c d = q4
  pointwise [k0_pay15, rowE, tileS, hq]
  simp only [select_mask _ _ _ _ (Fin.isLt _) hi, ofBits_negInf, mask_eq]

theorem pay16_apply (i : grid0.Coords) (k : Vec Ideal S2304x128 .bf16) (a b c d : Vec Ideal S128x128 .bf16)
    (R : Fin 512) :
    k0_pay16 (F := Ideal) i k a b c d (ix2 R 0) = rowZ (tileS (i 1).val (k0_pay13 a b c d) k R) := by
  unfold rowZ
  simp only [← pay15_apply]
  pointwise [k0_pay16]

theorem pay1_apply (e : FVec Ideal S512x2304 .f32) (z : FVec Ideal S512x1 .f32) (R : Fin 512) (j : Fin 2304) :
    k0_pay1 (F := Ideal) e z (ix2 R j) = Ideal.div (e (ix2 R j)) (z (ix2 R 0)) := by
  pointwise [k0_pay1]

theorem pay2_apply (do4 : FVec Ideal S512x128 .bf16) (e : FVec Ideal S512x2304 .f32) (z : FVec Ideal S512x1 .f32)
    (j : Fin 2304) (d : Fin 128) :
    k0_pay2 (F := Ideal) do4 e z (ix2 j d)
      = ∑ R : Fin 512, Ideal.div (e (ix2 R j)) (z (ix2 R 0)) * (do4 (ix2 R d) : EReal) := by
  simp only [← pay1_apply]
  pointwise [k0_pay2]

theorem pay3_apply (v : FVec Ideal S2304x128 .bf16) (do4 : FVec Ideal S512x128 .bf16) (e : FVec Ideal S512x2304 .f32)
    (z : FVec Ideal S512x1 .f32) (R : Fin 512) (j : Fin 2304) :
    k0_pay3 (F := Ideal) v do4 e z (ix2 R j)
      = Ideal.div (e (ix2 R j)) (z (ix2 R 0))
        * (tileDp do4 v R j - ∑ l, tileDp do4 v R l * Ideal.div (e (ix2 R l)) (z (ix2 R 0))) * sc := by
  simp only [← pay1_apply]
  pointwise [k0_pay3, tileDp]

theorem pay4_apply (k : Vec Ideal S2304x128 .bf16) (v : FVec Ideal S2304x128 .bf16) (do4 : FVec Ideal S512x128 .bf16)
    (e : FVec Ideal S512x2304 .f32) (z : FVec Ideal S512x1 .f32) (R : Fin 512) (d : Fin 128) :
    k0_pay4 (F := Ideal) k v do4 e z (ix2 R d)
      = ∑ j : Fin 2304, (k0_pay3 (F := Ideal) v do4 e z (ix2 R j) : EReal) * k (ix2 j d) := by
  pointwise [k0_pay4]

theorem pay5_apply (v : FVec Ideal S2304x128 .bf16) (q4 do4 : FVec Ideal S512x128 .bf16)
    (e : FVec Ideal S512x2304 .f32) (z : FVec Ideal S512x1 .f32) (j : Fin 2304) (d : Fin 128) :
    k0_pay5 (F := Ideal) v q4 do4 e z (ix2 j d)
      = ∑ R : Fin 512, (k0_pay3 (F := Ideal) v do4 e z (ix2 R j) : EReal) * q4 (ix2 R d) := by
  pointwise [k0_pay5]

theorem pay10_apply (v : FVec Ideal S2304x128 .bf16) (q4 do4 : FVec Ideal S512x128 .bf16)
    (e : FVec Ideal S512x2304 .f32) (z : FVec Ideal S512x1 .f32) (x : Vec Ideal S2304x128 .f32) (j : Fin 2304) (d : Fin 128) :
    k0_pay10 (F := Ideal) v q4 do4 e z x (ix2 j d)
      = (x (ix2 j d) : EReal) + k0_pay5 (F := Ideal) v q4 do4 e z (ix2 j d) := by
  pointwise [k0_pay10]

theorem pay11_apply (do4 : FVec Ideal S512x128 .bf16)
    (e : FVec Ideal S512x2304 .f32) (z : FVec Ideal S512x1 .f32) (x : Vec Ideal S2304x128 .f32) (j : Fin 2304) (d : Fin 128) :
    k0_pay11 (F := Ideal) do4 e z x (ix2 j d)
      = (x (ix2 j d) : EReal) + k0_pay2 (F := Ideal) do4 e z (ix2 j d) := by
  pointwise [k0_pay11]

end Cert.AttBwdIdeal.Body

end
-- ==== Proof.AttTile.lean ====
/- What one grid point of the attention gradient's kernel leaves in its output blocks. -/
module

public import proofs.«01_k».proof.Proof.AttBody
public import proofs.«01_k».proof.Proof.Gen.AttBwdIdeal.Frame

@[expose] public section

set_option maxRecDepth 16384

noncomputable section

namespace Cert.AttBwdIdeal.Body

open Idealize.ShloMosaic Idealize.ShloMosaic.TcCoe Idealize.SL.Sem
open Cert.AttBwdIdeal.Gen Cert.RowSpec

theorem hz : (![0, 0] : Fin 2 → Nat) = fun _ => 0 := funext fun a => by fin_cases a <;> rfl

/-- The four heads of a tile, one under the other. -/
def stackOf (x : Vec Ideal S128x512 .bf16) : FVec Ideal S512x128 .bf16 := fun y =>
  x (ix2 ⟨(y 0).val % 128, Nat.mod_lt _ (by decide)⟩
    ⟨(y 0).val / 128 * 128 + (y 1).val, by
      have h0 : (y 0).val < 512 := (y 0).isLt
      have h1 : (y 1).val < 128 := (y 1).isLt
      show _ < 512
      omega⟩)

theorem stack_ld (x : Vec Ideal S128x512 .bf16) :
    k0_pay13 (F := Ideal) (View.ld x (Rect.unit (s := S128x512) ![0, 0] S128x128.size inb_S128x512_S128x128_0_0))
      (View.ld x (Rect.unit (s := S128x512) ![0, 128] S128x128.size inb_S128x512_S128x128_0_128))
      (View.ld x (Rect.unit (s := S128x512) ![0, 256] S128x128.size inb_S128x512_S128x128_0_256))
      (View.ld x (Rect.unit (s := S128x512) ![0, 384] S128x128.size inb_S128x512_S128x128_0_384)) = stackOf x := by
  funext y
  idx_vars y
  pointwise [k0_pay13, stackOf]
  have hi : y0.val < 512 := y0.isLt
  have key : ∀ (a b : Fin 128) (a' b' : Fin 512), a.val = b.val → a'.val = b'.val →
      x (ix2 a a') = x (ix2 b b') := fun a b a' b' e e' => by rw [Fin.ext e, Fin.ext e']
  split_ifs <;> refine key _ _ _ _ ?_ ?_ <;> dsimp only <;> omega

theorem stack_ld' (x : Vec Ideal S128x512 .bf16) :
    k0_pay14 (F := Ideal) (View.ld x (Rect.unit (s := S128x512) ![0, 0] S128x128.size inb_S128x512_S128x128_0_0))
      (View.ld x (Rect.unit (s := S128x512) ![0, 128] S128x128.size inb_S128x512_S128x128_0_128))
      (View.ld x (Rect.unit (s := S128x512) ![0, 256] S128x128.size inb_S128x512_S128x128_0_256))
      (View.ld x (Rect.unit (s := S128x512) ![0, 384] S128x128.size inb_S128x512_S128x128_0_384)) = stackOf x :=
  stack_ld x

/-- The probabilities of a tile's stacked row. -/
def tP (t : Nat) (x0 : Vec Ideal S128x512 .bf16) (x1 : Vec Ideal S2304x128 .bf16) (R : Fin 512) (j : Fin 2304) : EReal :=
  rowP (tileS t (stackOf x0) x1 R) j

/-- The gradient of the scores of a tile's stacked row. -/
def tDs (t : Nat) (x0 : Vec Ideal S128x512 .bf16) (x1 : Vec Ideal S2304x128 .bf16) (x2 : Vec Ideal S2304x128 .f32)
    (x3 : Vec Ideal S128x512 .bf16) (R : Fin 512) (j : Fin 2304) : EReal :=
  rowDs sc (tileS t (stackOf x0) x1 R) (tileDp (stackOf x3) x2 R) j

/-- A tile's gradient of the queries. -/
def dqTile (t : Nat) (x0 : Vec Ideal S128x512 .bf16) (x1 : Vec Ideal S2304x128 .bf16) (x2 : Vec Ideal S2304x128 .f32)
    (x3 : Vec Ideal S128x512 .bf16) (y : S128x512.Idx) : EReal :=
  ∑ j : Fin 2304, tDs t x0 x1 x2 x3 ⟨(y 1).val / 128 * 128 + (y 0).val, by
      have h0 : (y 0).val < 128 := (y 0).isLt
      have h1 : (y 1).val < 512 := (y 1).isLt
      omega⟩ j * (x1 (ix2 j ⟨(y 1).val % 128, Nat.mod_lt _ (by decide)⟩) : EReal)

/-- A tile's contribution to the gradient of the keys. -/
def dkTile (t : Nat) (x0 : Vec Ideal S128x512 .bf16) (x1 : Vec Ideal S2304x128 .bf16) (x2 : Vec Ideal S2304x128 .f32)
    (x3 : Vec Ideal S128x512 .bf16) (y : S2304x128.Idx) : EReal :=
  ∑ R : Fin 512, tDs t x0 x1 x2 x3 R (y 0) * (stackOf x0 (ix2 R (y 1)) : EReal)

/-- A tile's contribution to the gradient of the values. -/
def dvTile (t : Nat) (x0 : Vec Ideal S128x512 .bf16) (x1 : Vec Ideal S2304x128 .bf16)
    (x3 : Vec Ideal S128x512 .bf16) (y : S2304x128.Idx) : EReal :=
  ∑ R : Fin 512, tP t x0 x1 R (y 0) * (stackOf x3 (ix2 R (y 1)) : EReal)

section
variable (i : grid0.Coords) (x0 : Vec Ideal S128x512 .bf16) (x1 : Vec Ideal S2304x128 .bf16) (x2 : Vec Ideal S2304x128 .f32) (x3 : Vec Ideal S128x512 .bf16)

section
variable (a b c d : Vec Ideal S128x128 .bf16) (hs : k0_pay13 (F := Ideal) a b c d = stackOf x0)
include hs

theorem e_stack (R : Fin 512) (j : Fin 2304) :
    k0_pay15 (F := Ideal) i x1 a b c d (ix2 R j) = rowE (tileS (i 1).val (stackOf x0) x1 R) j := by
  rw [pay15_apply, hs]

theorem z_stack (R : Fin 512) :
    k0_pay16 (F := Ideal) i x1 a b c d (ix2 R 0) = rowZ (tileS (i 1).val (stackOf x0) x1 R) := by
  rw [pay16_apply, hs]

theorem ds_stack (R : Fin 512) (j : Fin 2304) :
    k0_pay3 (F := Ideal) (k0_pay12 x2) (stackOf x3) (k0_pay15 i x1 a b c d) (k0_pay16 i x1 a b c d) (ix2 R j)
      = tDs (i 1).val x0 x1 x2 x3 R j := by
  rw [pay3_apply]
  simp only [e_stack i x0 x1 a b c d hs, z_stack i x0 x1 a b c d hs]
  rfl

theorem dv_stack (j : Fin 2304) (n : Fin 128) :
    k0_pay2 (F := Ideal) (stackOf x3) (k0_pay15 i x1 a b c d) (k0_pay16 i x1 a b c d) (ix2 j n)
      = dvTile (i 1).val x0 x1 x3 (ix2 j n) := by
  rw [pay2_apply]
  simp only [e_stack i x0 x1 a b c d hs, z_stack i x0 x1 a b c d hs]
  rfl

theorem dk_stack (j : Fin 2304) (n : Fin 128) :
    k0_pay5 (F := Ideal) (k0_pay12 x2) (k0_pay13 a b c d) (stackOf x3) (k0_pay15 i x1 a b c d) (k0_pay16 i x1 a b c d) (ix2 j n)
      = dkTile (i 1).val x0 x1 x2 x3 (ix2 j n) := by
  rw [hs, pay5_apply]
  simp only [ds_stack i x0 x1 x2 x3 a b c d hs]
  rfl

theorem dq_stack (R : Fin 512) (n : Fin 128) :
    k0_pay4 (F := Ideal) x1 (k0_pay12 x2) (stackOf x3) (k0_pay15 i x1 a b c d) (k0_pay16 i x1 a b c d) (ix2 R n)
      = ∑ j : Fin 2304, tDs (i 1).val x0 x1 x2 x3 R j * (x1 (ix2 j n) : EReal) := by
  rw [pay4_apply]
  simp only [ds_stack i x0 x1 x2 x3 a b c d hs]

/-- The piece of one head of a tile's gradient of the queries is its rows of the stacked product. -/
theorem dq_piece (h : Nat) (r n : Fin 128) (hh : h * 128 + r.val < 512) (y : S128x512.Idx)
    (hy0 : (y 0).val = r.val) (hy1 : (y 1).val = h * 128 + n.val) :
    k0_pay4 (F := Ideal) x1 (k0_pay12 x2) (stackOf x3) (k0_pay15 i x1 a b c d) (k0_pay16 i x1 a b c d)
        (ix2 ⟨h * 128 + r.val, hh⟩ n)
      = dqTile (i 1).val x0 x1 x2 x3 y := by
  rw [dq_stack i x0 x1 x2 x3 a b c d hs]
  unfold dqTile
  have e1 : (⟨(y 1).val / 128 * 128 + (y 0).val, by
      have h0 : (y 0).val < 128 := (y 0).isLt
      have h1 : (y 1).val < 512 := (y 1).isLt
      omega⟩ : Fin 512) = ⟨h * 128 + r.val, hh⟩ := Fin.ext (by
    show (y 1).val / 128 * 128 + (y 0).val = h * 128 + r.val
    have := n.isLt
    omega)
  have e2 : (⟨(y 1).val % 128, Nat.mod_lt _ (by decide)⟩ : Fin 128) = n := Fin.ext (by
    show (y 1).val % 128 = n.val
    have := n.isLt
    omega)
  rw [e1, e2]

end

theorem pay6_apply (v : FVec Ideal S2304x128 .bf16) (do4 : FVec Ideal S512x128 .bf16)
    (e : FVec Ideal S512x2304 .f32) (z : FVec Ideal S512x1 .f32) (r n : Fin 128) :
    k0_pay6 (F := Ideal) x1 v do4 e z (ix2 r n) = k0_pay4 (F := Ideal) x1 v do4 e z (ix2 ⟨0 * 128 + r.val, by omega⟩ n) := by
  pointwise [k0_pay6]
theorem pay7_apply (v : FVec Ideal S2304x128 .bf16) (do4 : FVec Ideal S512x128 .bf16)
    (e : FVec Ideal S512x2304 .f32) (z : FVec Ideal S512x1 .f32) (r n : Fin 128) :
    k0_pay7 (F := Ideal) x1 v do4 e z (ix2 r n) = k0_pay4 (F := Ideal) x1 v do4 e z (ix2 ⟨1 * 128 + r.val, by omega⟩ n) := by
  pointwise [k0_pay7]
theorem pay8_apply (v : FVec Ideal S2304x128 .bf16) (do4 : FVec Ideal S512x128 .bf16)
    (e : FVec Ideal S512x2304 .f32) (z : FVec Ideal S512x1 .f32) (r n : Fin 128) :
    k0_pay8 (F := Ideal) x1 v do4 e z (ix2 r n) = k0_pay4 (F := Ideal) x1 v do4 e z (ix2 ⟨2 * 128 + r.val, by omega⟩ n) := by
  pointwise [k0_pay8]
theorem pay9_apply (v : FVec Ideal S2304x128 .bf16) (do4 : FVec Ideal S512x128 .bf16)
    (e : FVec Ideal S512x2304 .f32) (z : FVec Ideal S512x1 .f32) (r n : Fin 128) :
    k0_pay9 (F := Ideal) x1 v do4 e z (ix2 r n) = k0_pay4 (F := Ideal) x1 v do4 e z (ix2 ⟨3 * 128 + r.val, by omega⟩ n) := by
  pointwise [k0_pay9]

end

section
variable (c : Dev nD) (i : grid0.Coords) (a2 : Memref sig .tc .vmem S128x512 .bf16) (h2 : a2.IsWhole) (a3 : Memref sig .tc .vmem S2304x128 .bf16) (h3 : a3.IsWhole) (a4 : Memref sig .tc .vmem S2304x128 .f32) (h4 : a4.IsWhole) (a5 : Memref sig .tc .vmem S128x512 .bf16) (h5 : a5.IsWhole) (a6 : Memref sig .tc .vmem S128x512 .f32) (h6 : a6.IsWhole) (a7 : Memref sig .tc .vmem S2304x128 .f32) (h7 : a7.IsWhole) (a8 : Memref sig .tc .vmem S2304x128 .f32) (h8 : a8.IsWhole)
  (x0 : Vec Ideal S128x512 .bf16) (x1 : Vec Ideal S2304x128 .bf16) (x2 : Vec Ideal S2304x128 .f32) (x3 : Vec Ideal S128x512 .bf16)

theorem out0_A_5_eq (hc0 : cond0_0 i) (hc1 : ¬cond0_1 i) (j : Fin 2304) (d : Fin 128) :
    out0_A_5 c i a2 h2 a3 h3 a4 h4 a5 h5 a6 h6 a7 h7 a8 h8 hc0 hc1 x0 x1 x2 x3 (ix2 j d) = dkTile (i 1).val x0 x1 x2 x3 (ix2 j d) := by
  unfold out0_A_5
  rw [View.read_writes_eq_canon _ _ _ (cover0_A_5 c i a2 h2 a3 h3 a4 h4 a5 h5 a6 h6 a7 h7 a8 h8 hc0 hc1 x0 x1 x2 x3)]
  unfold kernelRun0_A
  dsimp only
  sl_unfold_words
  rw [View.canon_unit_zero hz]
  simp only [View.readAt_eq_ld, h2.read_unread, h3.read_unread, h4.read_unread, h5.read_unread, h7.read_unread, h8.read_unread, View.ld_unit_zero (S := S2304x128) hz]
  rw [stack_ld', dk_stack i x0 x1 x2 x3 _ _ _ _ (stack_ld x0)]

theorem out0_A_6_eq (hc0 : cond0_0 i) (hc1 : ¬cond0_1 i) (j : Fin 2304) (d : Fin 128) :
    out0_A_6 c i a2 h2 a3 h3 a4 h4 a5 h5 a6 h6 a7 h7 a8 h8 hc0 hc1 x0 x1 x2 x3 (ix2 j d) = dvTile (i 1).val x0 x1 x3 (ix2 j d) := by
  unfold out0_A_6
  rw [View.read_writes_eq_canon _ _ _ (cover0_A_6 c i a2 h2 a3 h3 a4 h4 a5 h5 a6 h6 a7 h7 a8 h8 hc0 hc1 x0 x1 x2 x3)]
  unfold kernelRun0_A
  dsimp only
  sl_unfold_words
  rw [View.canon_unit_zero hz]
  simp only [View.readAt_eq_ld, h2.read_unread, h3.read_unread, h4.read_unread, h5.read_unread, h7.read_unread, h8.read_unread, View.ld_unit_zero (S := S2304x128) hz]
  rw [stack_ld', dv_stack i x0 x1 x3 _ _ _ _ (stack_ld x0)]

theorem out0_B_5_eq (hc0 : ¬cond0_0 i) (hc1 : cond0_1 i) (xo5 xo6 : Vec Ideal S2304x128 .f32) (j : Fin 2304) (d : Fin 128) :
    out0_B_5 c i a2 h2 a3 h3 a4 h4 a5 h5 a6 h6 a7 h7 a8 h8 hc0 hc1 x0 x1 x2 x3 xo5 xo6 (ix2 j d) = (xo5 (ix2 j d) : EReal) + dkTile (i 1).val x0 x1 x2 x3 (ix2 j d) := by
  unfold out0_B_5
  rw [View.read_writes_eq_canon _ _ _ (cover0_B_5 c i a2 h2 a3 h3 a4 h4 a5 h5 a6 h6 a7 h7 a8 h8 hc0 hc1 x0 x1 x2 x3 xo5 xo6)]
  unfold kernelRun0_B
  dsimp only
  sl_unfold_words
  rw [View.canon_unit_zero hz]
  simp only [View.readAt_eq_ld, h2.read_unread, h3.read_unread, h4.read_unread, h5.read_unread, h7.read_unread, h8.read_unread, View.ld_unit_zero (S := S2304x128) hz]
  rw [pay10_apply, stack_ld', dk_stack i x0 x1 x2 x3 _ _ _ _ (stack_ld x0)]

theorem out0_B_6_eq (hc0 : ¬cond0_0 i) (hc1 : cond0_1 i) (xo5 xo6 : Vec Ideal S2304x128 .f32) (j : Fin 2304) (d : Fin 128) :
    out0_B_6 c i a2 h2 a3 h3 a4 h4 a5 h5 a6 h6 a7 h7 a8 h8 hc0 hc1 x0 x1 x2 x3 xo5 xo6 (ix2 j d) = (xo6 (ix2 j d) : EReal) + dvTile (i 1).val x0 x1 x3 (ix2 j d) := by
  unfold out0_B_6
  rw [View.read_writes_eq_canon _ _ _ (cover0_B_6 c i a2 h2 a3 h3 a4 h4 a5 h5 a6 h6 a7 h7 a8 h8 hc0 hc1 x0 x1 x2 x3 xo5 xo6)]
  unfold kernelRun0_B
  dsimp only
  sl_unfold_words
  rw [View.canon_unit_zero hz]
  simp only [View.readAt_eq_ld, h2.read_unread, h3.read_unread, h4.read_unread, h5.read_unread, h7.read_unread, h8.read_unread, View.ld_unit_zero (S := S2304x128) hz]
  rw [pay11_apply, stack_ld', dv_stack i x0 x1 x3 _ _ _ _ (stack_ld x0)]

theorem out0_A_4_eq (hc0 : cond0_0 i) (hc1 : ¬cond0_1 i) (r : Fin 128) (n : Fin 512) :
    out0_A_4 c i a2 h2 a3 h3 a4 h4 a5 h5 a6 h6 a7 h7 a8 h8 hc0 hc1 x0 x1 x2 x3 (ix2 r n) = dqTile (i 1).val x0 x1 x2 x3 (ix2 r n) := by
  unfold out0_A_4
  rw [View.read_writes_eq_canon _ _ _ (cover0_A_4 c i a2 h2 a3 h3 a4 h4 a5 h5 a6 h6 a7 h7 a8 h8 hc0 hc1 x0 x1 x2 x3)]
  refine View.canon_apply_of_pieces (dqTile (i 1).val x0 x1 x2 x3) _ ?_ _ (cover0_A_4 c i a2 h2 a3 h3 a4 h4 a5 h5 a6 h6 a7 h7 a8 h8 hc0 hc1 x0 x1 x2 x3 _)
  unfold kernelRun0_A
  dsimp only
  sl_unfold_words
  simp only [View.readAt_eq_ld, h2.read_unread, h3.read_unread, h4.read_unread, h5.read_unread, h7.read_unread, h8.read_unread, View.ld_unit_zero (S := S2304x128) hz]
  simp only [stack_ld', List.mem_cons, List.not_mem_nil, or_false, forall_eq_or_imp, forall_eq]
  refine ⟨?_, ?_, ?_, ?_⟩ <;> intro y <;> idx_vars y
  · refine (pay9_apply x1 _ _ _ _ y0 y1).trans (dq_piece i x0 x1 x2 x3 _ _ _ _ (stack_ld x0) 3 y0 y1 _ _ ?_ ?_)
    · show 0 + 1 * y0.val = y0.val
      omega
    · show 384 + 1 * y1.val = 3 * 128 + y1.val
      omega
  · refine (pay8_apply x1 _ _ _ _ y0 y1).trans (dq_piece i x0 x1 x2 x3 _ _ _ _ (stack_ld x0) 2 y0 y1 _ _ ?_ ?_)
    · show 0 + 1 * y0.val = y0.val
      omega
    · show 256 + 1 * y1.val = 2 * 128 + y1.val
      omega
  · refine (pay7_apply x1 _ _ _ _ y0 y1).trans (dq_piece i x0 x1 x2 x3 _ _ _ _ (stack_ld x0) 1 y0 y1 _ _ ?_ ?_)
    · show 0 + 1 * y0.val = y0.val
      omega
    · show 128 + 1 * y1.val = 1 * 128 + y1.val
      omega
  · refine (pay6_apply x1 _ _ _ _ y0 y1).trans (dq_piece i x0 x1 x2 x3 _ _ _ _ (stack_ld x0) 0 y0 y1 _ _ ?_ ?_)
    · show 0 + 1 * y0.val = y0.val
      omega
    · show 0 + 1 * y1.val = 0 * 128 + y1.val
      omega

theorem out0_B_4_eq (hc0 : ¬cond0_0 i) (hc1 : cond0_1 i) (xo5 xo6 : Vec Ideal S2304x128 .f32) (r : Fin 128) (n : Fin 512) :
    out0_B_4 c i a2 h2 a3 h3 a4 h4 a5 h5 a6 h6 a7 h7 a8 h8 hc0 hc1 x0 x1 x2 x3 xo5 xo6 (ix2 r n) = dqTile (i 1).val x0 x1 x2 x3 (ix2 r n) := by
  unfold out0_B_4
  rw [View.read_writes_eq_canon _ _ _ (cover0_B_4 c i a2 h2 a3 h3 a4 h4 a5 h5 a6 h6 a7 h7 a8 h8 hc0 hc1 x0 x1 x2 x3 xo5 xo6)]
  refine View.canon_apply_of_pieces (dqTile (i 1).val x0 x1 x2 x3) _ ?_ _ (cover0_B_4 c i a2 h2 a3 h3 a4 h4 a5 h5 a6 h6 a7 h7 a8 h8 hc0 hc1 x0 x1 x2 x3 xo5 xo6 _)
  unfold kernelRun0_B
  dsimp only
  sl_unfold_words
  simp only [View.readAt_eq_ld, h2.read_unread, h3.read_unread, h4.read_unread, h5.read_unread, h7.read_unread, h8.read_unread, View.ld_unit_zero (S := S2304x128) hz]
  simp only [stack_ld', List.mem_cons, List.not_mem_nil, or_false, forall_eq_or_imp, forall_eq]
  refine ⟨?_, ?_, ?_, ?_⟩ <;> intro y <;> idx_vars y
  · refine (pay9_apply x1 _ _ _ _ y0 y1).trans (dq_piece i x0 x1 x2 x3 _ _ _ _ (stack_ld x0) 3 y0 y1 _ _ ?_ ?_)
    · show 0 + 1 * y0.val = y0.val
      omega
    · show 384 + 1 * y1.val = 3 * 128 + y1.val
      omega
  · refine (pay8_apply x1 _ _ _ _ y0 y1).trans (dq_piece i x0 x1 x2 x3 _ _ _ _ (stack_ld x0) 2 y0 y1 _ _ ?_ ?_)
    · show 0 + 1 * y0.val = y0.val
      omega
    · show 256 + 1 * y1.val = 2 * 128 + y1.val
      omega
  · refine (pay7_apply x1 _ _ _ _ y0 y1).trans (dq_piece i x0 x1 x2 x3 _ _ _ _ (stack_ld x0) 1 y0 y1 _ _ ?_ ?_)
    · show 0 + 1 * y0.val = y0.val
      omega
    · show 128 + 1 * y1.val = 1 * 128 + y1.val
      omega
  · refine (pay6_apply x1 _ _ _ _ y0 y1).trans (dq_piece i x0 x1 x2 x3 _ _ _ _ (stack_ld x0) 0 y0 y1 _ _ ?_ ?_)
    · show 0 + 1 * y0.val = y0.val
      omega
    · show 0 + 1 * y1.val = 0 * 128 + y1.val
      omega

end

end Cert.AttBwdIdeal.Body

end
-- ==== Proof.AttSpec.lean ====
/- The gradient of the masked attention, written once over row and column numbers. -/
module

public import proofs.«01_k».proof.Proof.RowSpec

@[expose] public section

noncomputable section

namespace Cert.AttSpec

open Idealize.ShloMosaic Cert.RowSpec

/-- An array read at two numbers. -/
def rd {a b : Nat} (x : (⟨2, ![a, b]⟩ : Shape).Idx → EReal) (i j : Nat) : EReal :=
  if h : i < a ∧ j < b then x (ix2 ⟨i, h.1⟩ ⟨j, h.2⟩) else 0

theorem rd_eq {a b : Nat} (x : (⟨2, ![a, b]⟩ : Shape).Idx → EReal) (i j : Nat) (hi : i < a) (hj : j < b) :
    rd x i j = x (ix2 ⟨i, hi⟩ ⟨j, hj⟩) := dif_pos ⟨hi, hj⟩

/-- A block's bounds from its index. -/
theorem mem_box (s i : Nat) {x q : Nat} (h : x = q) (h' : q * s ≤ i ∧ i < q * s + s) : x * s ≤ i ∧ i < x * s + s := by
  rw [h]
  exact h'

section
variable (c : EReal)
  (q : (⟨2, ![2304, 1024]⟩ : Shape).Idx → EReal) (k : (⟨2, ![2304, 256]⟩ : Shape).Idx → EReal)
  (z : (⟨2, ![2304, 5376]⟩ : Shape).Idx → EReal) (dcat : (⟨2, ![2304, 2048]⟩ : Shape).Idx → EReal)

/-- Head `h`'s scores of query row `r`: context rows see the context columns only. -/
def gS (h r : Nat) (j : Fin 2304) : EReal :=
  if j.val < 256 ∨ 256 ≤ r then (∑ d : Fin 128, rd q r (h * 128 + d.val) * rd k j.val (h / 4 * 128 + d.val)) * c else ⊥

/-- The gradient of head `h`'s probabilities of query row `r`. -/
def gDp (h r : Nat) (j : Fin 2304) : EReal :=
  ∑ d : Fin 128, rd dcat r (h * 128 + d.val) * rd z j.val (1280 + h / 4 * 128 + d.val)

/-- The probabilities. -/
def gP (h r : Nat) (j : Fin 2304) : EReal := rowP (gS c q k h r) j

/-- The gradient of the scores. -/
def gDs (h r : Nat) (j : Fin 2304) : EReal := rowDs c (gS c q k h r) (gDp z dcat h r) j

/-- The gradient of the queries. -/
def dQ (r n : Nat) : EReal :=
  ∑ j : Fin 2304, gDs c q k z dcat (n / 128) r j * rd k j.val (n / 128 / 4 * 128 + n % 128)

/-- The gradient of the keys: a key head serves four query heads. -/
def dK (j : Fin 2304) (n : Nat) : EReal :=
  ∑ hh : Fin 4, ∑ r : Fin 2304, gDs c q k z dcat (n / 128 * 4 + hh.val) r.val j
    * rd q r.val ((n / 128 * 4 + hh.val) * 128 + n % 128)

/-- The gradient of the values. -/
def dV (j : Fin 2304) (n : Nat) : EReal :=
  ∑ hh : Fin 4, ∑ r : Fin 2304, gP c q k (n / 128 * 4 + hh.val) r.val j
    * rd dcat r.val ((n / 128 * 4 + hh.val) * 128 + n % 128)

end

/-- The sum over the tiles of the sums over their stacked rows is the sum over the heads of the sums over all rows. -/
theorem sum_tiles (F : Nat → Nat → EReal) :
    ∑ i ∈ Finset.range 18, ∑ R : Fin 512, F (R.val / 128) (i * 128 + R.val % 128)
      = ∑ hh : Fin 4, ∑ r : Fin 2304, F hh.val r.val := by
  have h1 : ∀ i : Nat, ∑ R : Fin 512, F (R.val / 128) (i * 128 + R.val % 128)
      = ∑ hh : Fin 4, ∑ a : Fin 128, F hh.val (i * 128 + a.val) := by
    intro i
    rw [← Fintype.sum_prod_type' (f := fun (hh : Fin 4) (a : Fin 128) => F hh.val (i * 128 + a.val)),
      ← (finProdFinEquiv (m := 4) (n := 128)).sum_comp]
    refine Finset.sum_congr rfl fun x _ => ?_
    have ha : x.2.val < 128 := x.2.isLt
    have e1 : (finProdFinEquiv x : Fin (4 * 128)).val / 128 = x.1.val := by
      show (x.2.val + 128 * x.1.val) / 128 = _
      omega
    have e2 : (finProdFinEquiv x : Fin (4 * 128)).val % 128 = x.2.val := by
      show (x.2.val + 128 * x.1.val) % 128 = _
      omega
    show F ((finProdFinEquiv x : Fin (4 * 128)).val / 128) (i * 128 + (finProdFinEquiv x : Fin (4 * 128)).val % 128) = _
    rw [e1, e2]
  simp only [h1]
  rw [Finset.sum_comm]
  refine Finset.sum_congr rfl fun hh _ => ?_
  rw [Finset.sum_range, ← Fintype.sum_prod_type' (f := fun (i : Fin 18) (a : Fin 128) => F hh.val (i.val * 128 + a.val)),
    ← (finProdFinEquiv (m := 18) (n := 128)).sum_comp]
  refine Finset.sum_congr rfl fun x _ => ?_
  show _ = F hh.val (x.2.val + 128 * x.1.val)
  rw [show x.1.val * 128 + x.2.val = x.2.val + 128 * x.1.val by omega]

end Cert.AttSpec
-- ==== Proof.AttBlocks.lean ====
/- The tiles of the attention gradient's kernel are the tiles of the whole gradient. -/
module

public import proofs.«01_k».proof.Proof.AttTile
public import proofs.«01_k».proof.Proof.AttSpec

@[expose] public section

set_option maxRecDepth 16384

noncomputable section

namespace Cert.AttBwdIdeal.Body

open Idealize.ShloMosaic Idealize.ShloMosaic.TcCoe Idealize.SL.Sem
open Cert.AttBwdIdeal.Gen Cert.RowSpec Cert.AttSpec

section
variable (q : Vec Ideal S2304x1024 .bf16) (k : Vec Ideal S2304x256 .bf16) (z : Vec Ideal S2304x5376 .f32)
  (dcat : Vec Ideal S2304x2048 .bf16)
  (x0 : Vec Ideal S128x512 .bf16) (x1 : Vec Ideal S2304x128 .bf16) (x2 : Vec Ideal S2304x128 .f32) (x3 : Vec Ideal S128x512 .bf16)
  (i g : Nat)

theorem stack_rd {a b : Nat} (X : (⟨2, ![a, b]⟩ : Shape).Idx → EReal)
    (h : ∀ (r : Fin 128) (n : Fin 512), (x0 (ix2 r n) : EReal) = rd X (i * 128 + r.val) (g * 512 + n.val))
    (R : Fin 512) (d : Fin 128) :
    (stackOf x0 (ix2 R d) : EReal) = rd X (i * 128 + R.val % 128) ((g * 4 + R.val / 128) * 128 + d.val) := by
  unfold stackOf
  refine (h _ _).trans ?_
  show rd X (i * 128 + R.val % 128) (g * 512 + (R.val / 128 * 128 + d.val)) = _
  rw [show g * 512 + (R.val / 128 * 128 + d.val) = (g * 4 + R.val / 128) * 128 + d.val by omega]

variable (h0 : ∀ (r : Fin 128) (n : Fin 512), (x0 (ix2 r n) : EReal) = rd (a := 2304) (b := 1024) q (i * 128 + r.val) (g * 512 + n.val))
  (h1 : ∀ (j : Fin 2304) (d : Fin 128), (x1 (ix2 j d) : EReal) = rd (a := 2304) (b := 256) k j.val (g * 128 + d.val))
  (h2 : ∀ (j : Fin 2304) (d : Fin 128), (x2 (ix2 j d) : EReal) = rd (a := 2304) (b := 5376) z j.val ((10 + g) * 128 + d.val))
  (h3 : ∀ (r : Fin 128) (n : Fin 512), (x3 (ix2 r n) : EReal) = rd (a := 2304) (b := 2048) dcat (i * 128 + r.val) (g * 512 + n.val))
include h0 h1

theorem tileS_eq (R : Fin 512) :
    tileS i (stackOf x0) x1 R = gS sc q k (g * 4 + R.val / 128) (i * 128 + R.val % 128) := by
  funext j
  have hR : R.val < 512 := R.isLt
  unfold tileS gS
  have e : (g * 4 + R.val / 128) / 4 = g := by omega
  have c : (j.val < 256 ∨ 2 ≤ i) ↔ (j.val < 256 ∨ 256 ≤ i * 128 + R.val % 128) := by omega
  simp only [stack_rd x0 i g q h0, h1, e, c]

theorem tP_eq (R : Fin 512) (j : Fin 2304) :
    tP i x0 x1 R j = gP sc q k (g * 4 + R.val / 128) (i * 128 + R.val % 128) j := by
  unfold tP gP
  rw [tileS_eq q k x0 x1 i g h0 h1]

include h3
theorem dvTile_eq (j : Fin 2304) (d : Fin 128) :
    dvTile i x0 x1 x3 (ix2 j d) = ∑ R : Fin 512, gP sc q k (g * 4 + R.val / 128) (i * 128 + R.val % 128) j
      * rd (a := 2304) (b := 2048) dcat (i * 128 + R.val % 128) ((g * 4 + R.val / 128) * 128 + d.val) := by
  refine Finset.sum_congr rfl fun R _ => ?_
  refine congrArg₂ (· * ·) (tP_eq q k x0 x1 i g h0 h1 R j) (stack_rd x3 i g dcat h3 R d)

include h2
theorem tDs_eq (R : Fin 512) (j : Fin 2304) :
    tDs i x0 x1 x2 x3 R j = gDs sc q k z dcat (g * 4 + R.val / 128) (i * 128 + R.val % 128) j := by
  have hR : R.val < 512 := R.isLt
  unfold tDs gDs
  rw [tileS_eq q k x0 x1 i g h0 h1]
  congr 1
  funext l
  unfold tileDp gDp
  have e : (g * 4 + R.val / 128) / 4 = g := by omega
  simp only [stack_rd x3 i g dcat h3, h2, e, show (10 + g) * 128 = 1280 + g * 128 by omega]

theorem dkTile_eq (j : Fin 2304) (d : Fin 128) :
    dkTile i x0 x1 x2 x3 (ix2 j d) = ∑ R : Fin 512, gDs sc q k z dcat (g * 4 + R.val / 128) (i * 128 + R.val % 128) j
      * rd (a := 2304) (b := 1024) q (i * 128 + R.val % 128) ((g * 4 + R.val / 128) * 128 + d.val) := by
  refine Finset.sum_congr rfl fun R _ => ?_
  refine congrArg₂ (· * ·) (tDs_eq q k z dcat x0 x1 x2 x3 i g h0 h1 h2 h3 R j) (stack_rd x0 i g q h0 R d)

theorem dqTile_eq (r : Fin 128) (n : Fin 512) :
    dqTile i x0 x1 x2 x3 (ix2 r n) = dQ sc q k z dcat (i * 128 + r.val) (g * 512 + n.val) := by
  have hr : r.val < 128 := r.isLt
  have hn : n.val < 512 := n.isLt
  unfold dqTile dQ
  refine Finset.sum_congr rfl fun j _ => ?_
  refine congrArg₂ (· * ·) ((tDs_eq q k z dcat x0 x1 x2 x3 i g h0 h1 h2 h3 _ j).trans ?_) ((h1 _ _).trans ?_)
  · show gDs sc q k z dcat (g * 4 + (n.val / 128 * 128 + r.val) / 128) (i * 128 + (n.val / 128 * 128 + r.val) % 128) j = _
    rw [show g * 4 + (n.val / 128 * 128 + r.val) / 128 = (g * 512 + n.val) / 128 by omega,
      show (n.val / 128 * 128 + r.val) % 128 = r.val by omega]
  · show rd k j.val (g * 128 + n.val % 128) = _
    rw [show g * 128 + n.val % 128 = (g * 512 + n.val) / 128 / 4 * 128 + (g * 512 + n.val) % 128 by omega]

end

end Cert.AttBwdIdeal.Body
-- ==== Proof.AttKernel.lean ====
/- The attention gradient's kernel leaves the gradients of the queries, the keys and the values. -/
module

public import proofs.«01_k».proof.Proof.AttBlocks
public import proofs.«01_k».proof.Proof.Gen.AttBwdIdeal.Value

@[expose] public section

set_option maxRecDepth 16384

noncomputable section

namespace Cert.AttBwdIdeal.Body

open Idealize.ShloMosaic Idealize.ShloMosaic.TcCoe Idealize.SL.Sem
open Idealize.ShloMosaic.Pipeline (Dat)
open Cert.AttBwdIdeal.Gen Cert.AttBwdIdeal.Value Cert.RowSpec Cert.AttSpec

variable (m : (ℓ : Loc nD τ sig) → Buf (Elt Ideal) ℓ)

/-- The four arguments on a device. -/
abbrev aq (c : Dev nD) : Vec Ideal S2304x1024 .bf16 := m ((c : Thread nD τ).loc main_arg0)
abbrev ak (c : Dev nD) : Vec Ideal S2304x256 .bf16 := m ((c : Thread nD τ).loc main_arg1)
abbrev az (c : Dev nD) : Vec Ideal S2304x5376 .f32 := m ((c : Thread nD τ).loc main_arg2)
abbrev ad (c : Dev nD) : Vec Ideal S2304x2048 .bf16 := m ((c : Thread nD τ).loc main_arg3)

/-! ## Where the blocks lie -/

theorem ix0 : ∀ t : Fin grid0.N, win0_0.index t 0 = t.val % 18 ∧ win0_0.index t 1 = t.val / 18 := by decide +kernel
theorem ix1 : ∀ t : Fin grid0.N, win0_1.index t 0 = 0 ∧ win0_1.index t 1 = t.val / 18 := by decide +kernel
theorem ix2' : ∀ t : Fin grid0.N, win0_2.index t 0 = 0 ∧ win0_2.index t 1 = 10 + t.val / 18 := by decide +kernel
theorem ix3' : ∀ t : Fin grid0.N, win0_3.index t 0 = t.val % 18 ∧ win0_3.index t 1 = t.val / 18 := by decide +kernel
theorem ix4 : ∀ t : Fin grid0.N, win0_4.index t 0 = t.val % 18 ∧ win0_4.index t 1 = t.val / 18 := by decide +kernel
theorem ix5 : ∀ t : Fin grid0.N, win0_5.index t 0 = 0 ∧ win0_5.index t 1 = t.val / 18 := by decide +kernel
theorem ix6 : ∀ t : Fin grid0.N, win0_6.index t 0 = 0 ∧ win0_6.index t 1 = t.val / 18 := by decide +kernel
theorem co1 : ∀ t : Fin grid0.N, (grid0.coords t 1).val = t.val % 18 := by decide +kernel

theorem lt36 (t : Fin cfg0.N) : t.val < 36 := lt_of_lt_of_eq t.isLt Gen.N_0

theorem blk0 (c : Dev nD) (t : Fin cfg0.N) (r : Fin 128) (n : Fin 512) :
    (iblk m c 0 t (ix2 r n) : EReal) = rd (a := 2304) (b := 1024) (aq m c) (t.val % 18 * 128 + r.val) (t.val / 18 * 512 + n.val) := by
  have ht := lt36 t
  rw [rd_eq _ _ _ (by omega) (by omega)]
  unfold iblk
  rw [View.read_apply]
  show V m c main_arg0 _ = m (c.tc.loc main_arg0) _
  unfold V
  congr 1
  funext a
  apply Fin.ext
  match a with
  | ⟨0, _⟩ => show win0_0.index t 0 * 128 + 1 * r.val = t.val % 18 * 128 + r.val; rw [(ix0 t).1]; omega
  | ⟨1, _⟩ => show win0_0.index t 1 * 512 + 1 * n.val = t.val / 18 * 512 + n.val; rw [(ix0 t).2]; omega

theorem blk1 (c : Dev nD) (t : Fin cfg0.N) (j : Fin 2304) (d : Fin 128) :
    (iblk m c 1 t (ix2 j d) : EReal) = rd (a := 2304) (b := 256) (ak m c) j.val (t.val / 18 * 128 + d.val) := by
  have ht := lt36 t
  rw [rd_eq _ _ _ (by omega) (by omega)]
  unfold iblk
  rw [View.read_apply]
  show V m c main_arg1 _ = m (c.tc.loc main_arg1) _
  unfold V
  congr 1
  funext a
  apply Fin.ext
  match a with
  | ⟨0, _⟩ => show win0_1.index t 0 * 2304 + 1 * j.val = j.val; rw [(ix1 t).1]; omega
  | ⟨1, _⟩ => show win0_1.index t 1 * 128 + 1 * d.val = t.val / 18 * 128 + d.val; rw [(ix1 t).2]; omega

theorem blk2 (c : Dev nD) (t : Fin cfg0.N) (j : Fin 2304) (d : Fin 128) :
    (iblk m c 2 t (ix2 j d) : EReal) = rd (a := 2304) (b := 5376) (az m c) j.val ((10 + t.val / 18) * 128 + d.val) := by
  have ht := lt36 t
  rw [rd_eq _ _ _ (by omega) (by omega)]
  unfold iblk
  rw [View.read_apply]
  show V m c main_arg2 _ = m (c.tc.loc main_arg2) _
  unfold V
  congr 1
  funext a
  apply Fin.ext
  match a with
  | ⟨0, _⟩ => show win0_2.index t 0 * 2304 + 1 * j.val = j.val; rw [(ix2' t).1]; omega
  | ⟨1, _⟩ => show win0_2.index t 1 * 128 + 1 * d.val = (10 + t.val / 18) * 128 + d.val; rw [(ix2' t).2]; omega

theorem blk3 (c : Dev nD) (t : Fin cfg0.N) (r : Fin 128) (n : Fin 512) :
    (iblk m c 3 t (ix2 r n) : EReal) = rd (a := 2304) (b := 2048) (ad m c) (t.val % 18 * 128 + r.val) (t.val / 18 * 512 + n.val) := by
  have ht := lt36 t
  rw [rd_eq _ _ _ (by omega) (by omega)]
  unfold iblk
  rw [View.read_apply]
  show V m c main_arg3 _ = m (c.tc.loc main_arg3) _
  unfold V
  congr 1
  funext a
  apply Fin.ext
  match a with
  | ⟨0, _⟩ => show win0_3.index t 0 * 128 + 1 * r.val = t.val % 18 * 128 + r.val; rw [(ix3' t).1]; omega
  | ⟨1, _⟩ => show win0_3.index t 1 * 512 + 1 * n.val = t.val / 18 * 512 + n.val; rw [(ix3' t).2]; omega

/-! ## What a tile contributes -/

/-- Tile `i`'s contribution to the gradient of key head `g`, at column `d`. -/
def cK (c : Dev nD) (g : Nat) (j : Fin 2304) (d i : Nat) : EReal :=
  ∑ R : Fin 512, gDs sc (aq m c) (ak m c) (az m c) (ad m c) (g * 4 + R.val / 128) (i * 128 + R.val % 128) j
    * rd (a := 2304) (b := 1024) (aq m c) (i * 128 + R.val % 128) ((g * 4 + R.val / 128) * 128 + d)

/-- Tile `i`'s contribution to the gradient of value head `g`, at column `d`. -/
def cV (c : Dev nD) (g : Nat) (j : Fin 2304) (d i : Nat) : EReal :=
  ∑ R : Fin 512, gP sc (aq m c) (ak m c) (g * 4 + R.val / 128) (i * 128 + R.val % 128) j
    * rd (a := 2304) (b := 2048) (ad m c) (i * 128 + R.val % 128) ((g * 4 + R.val / 128) * 128 + d)

theorem cK_eq (c : Dev nD) (t : Fin cfg0.N) (j : Fin 2304) (d : Fin 128) :
    dkTile (grid0.coords t 1).val (iblk m c 0 t) (iblk m c 1 t) (iblk m c 2 t) (iblk m c 3 t) (ix2 j d)
      = cK m c (t.val / 18) j d.val (t.val % 18) := by
  rw [co1 t]
  exact dkTile_eq (aq m c) (ak m c) (az m c) (ad m c) _ _ _ _ _ _ (blk0 m c t) (blk1 m c t) (blk2 m c t) (blk3 m c t) j d

theorem cV_eq (c : Dev nD) (t : Fin cfg0.N) (j : Fin 2304) (d : Fin 128) :
    dvTile (grid0.coords t 1).val (iblk m c 0 t) (iblk m c 1 t) (iblk m c 3 t) (ix2 j d)
      = cV m c (t.val / 18) j d.val (t.val % 18) := by
  rw [co1 t]
  exact dvTile_eq (aq m c) (ak m c) (ad m c) _ _ _ _ _ (blk0 m c t) (blk1 m c t) (blk3 m c t) j d

/-! ## The running sums -/

/-- After point `n` the staged gradients hold the sum of the contributions of their head's tiles so far. -/
theorem outs_eq (c : Dev nD) (j : Fin 2304) (d : Fin 128) : ∀ (n : Nat) (h : n < cfg0.N),
    ((outsAt0 m c n h).2.1 (ix2 j d) : EReal) = ∑ i ∈ Finset.range (n % 18 + 1), cK m c (n / 18) j d.val i
    ∧ ((outsAt0 m c n h).2.2 (ix2 j d) : EReal) = ∑ i ∈ Finset.range (n % 18 + 1), cV m c (n / 18) j d.val i := by
  intro n
  induction n with
  | zero =>
    intro h
    have e := outsAt0_A m c ⟨0, h⟩ rfl (by dsimp only; omega)
    have e1 := congrArg (fun o => (o.2.1 (ix2 j d) : EReal)) e
    have e2 := congrArg (fun o => (o.2.2 (ix2 j d) : EReal)) e
    simp only [out0_A_5_eq, out0_A_6_eq] at e1 e2
    exact ⟨e1.trans ((cK_eq m c ⟨0, h⟩ j d).trans (by simp)), e2.trans ((cV_eq m c ⟨0, h⟩ j d).trans (by simp))⟩
  | succ n ih =>
    intro h
    have hn : n + 1 < 36 := lt_of_lt_of_eq h Gen.N_0
    by_cases h0 : (n + 1) % 18 = 0
    · have e := outsAt0_A m c ⟨n + 1, h⟩ h0 (by dsimp only; omega)
      have e1 := congrArg (fun o => (o.2.1 (ix2 j d) : EReal)) e
      have e2 := congrArg (fun o => (o.2.2 (ix2 j d) : EReal)) e
      simp only [out0_A_5_eq, out0_A_6_eq] at e1 e2
      refine ⟨e1.trans ((cK_eq m c ⟨n + 1, h⟩ j d).trans ?_), e2.trans ((cV_eq m c ⟨n + 1, h⟩ j d).trans ?_)⟩ <;>
        simp [h0]
    · have e := outsAt0_B m c ⟨n + 1, h⟩ h0 (by dsimp only; omega)
      have e1 := congrArg (fun o => (o.2.1 (ix2 j d) : EReal)) e
      have e2 := congrArg (fun o => (o.2.2 (ix2 j d) : EReal)) e
      simp only [out0_B_5_eq, out0_B_6_eq] at e1 e2
      obtain ⟨i1, i2⟩ := ih (Nat.lt_of_succ_lt h)
      have a1 : (n + 1) % 18 = n % 18 + 1 := by omega
      have a2 : (n + 1) / 18 = n / 18 := by omega
      refine ⟨e1.trans ?_, e2.trans ?_⟩
      · rw [cK_eq m c ⟨n + 1, h⟩ j d]
        show ((outsAt0 m c n _).2.1 (ix2 j d) : EReal) + cK m c ((n + 1) / 18) j d.val ((n + 1) % 18) = _
        rw [i1, a1, a2, Finset.sum_range_succ _ (n % 18 + 1)]
      · rw [cV_eq m c ⟨n + 1, h⟩ j d]
        show ((outsAt0 m c n _).2.2 (ix2 j d) : EReal) + cV m c ((n + 1) / 18) j d.val ((n + 1) % 18) = _
        rw [i2, a1, a2, Finset.sum_range_succ _ (n % 18 + 1)]

/-- The staged gradient of the queries after point `t`. -/
theorem outs4_eq (c : Dev nD) (t : Fin cfg0.N) (r : Fin 128) (n : Fin 512) :
    ((outsAt0 m c t.val t.isLt).1 (ix2 r n) : EReal)
      = dQ sc (aq m c) (ak m c) (az m c) (ad m c) (t.val % 18 * 128 + r.val) (t.val / 18 * 512 + n.val) := by
  have key : dqTile (grid0.coords t 1).val (iblk m c 0 t) (iblk m c 1 t) (iblk m c 2 t) (iblk m c 3 t) (ix2 r n)
      = dQ sc (aq m c) (ak m c) (az m c) (ad m c) (t.val % 18 * 128 + r.val) (t.val / 18 * 512 + n.val) := by
    rw [co1 t]
    exact dqTile_eq (aq m c) (ak m c) (az m c) (ad m c) _ _ _ _ _ _ (blk0 m c t) (blk1 m c t) (blk2 m c t) (blk3 m c t) r n
  by_cases h0 : t.val % 18 = 0
  · have e1 := congrArg (fun o => (o.1 (ix2 r n) : EReal)) (outsAt0_A m c t h0 (by omega))
    simp only [out0_A_4_eq] at e1
    exact e1.trans key
  · have e1 := congrArg (fun o => (o.1 (ix2 r n) : EReal)) (outsAt0_B m c t h0 (by omega))
    simp only [out0_B_4_eq] at e1
    exact e1.trans key

/-! ## The result arrays -/

/-- The gradient of the queries, as an array. -/
def resQ (c : Dev nD) : Vec Ideal S2304x1024 .f32 := fun y =>
  dQ sc (aq m c) (ak m c) (az m c) (ad m c) (y 0).val (y 1).val
/-- The gradient of the keys, as an array. -/
def resK (c : Dev nD) : Vec Ideal S2304x256 .f32 := fun y =>
  dK sc (aq m c) (ak m c) (az m c) (ad m c) (y 0) (y 1).val
/-- The gradient of the values, as an array. -/
def resV (c : Dev nD) : Vec Ideal S2304x256 .f32 := fun y =>
  dV sc (aq m c) (ak m c) (ad m c) (y 0) (y 1).val

theorem flushed4_eq (c : Dev nD) (t : Fin cfg0.N) (hf : (cfg0.win 4).flush t = true) :
    (dats m 0 c).flushed 4 t = ((cfg0.win 4).blk t).view.read (Elt Ideal) (resQ m c) := by
  rw [flushed4]
  funext y
  rw [View.read_apply]
  have ht := lt36 t
  show (outsAt0 m c t.val t.isLt).1 _ = resQ m c _
  have hy0 : (y 0).val < 128 := (y 0).isLt
  have hy1 : (y 1).val < 512 := (y 1).isLt
  refine Eq.trans (congrArg _ ?_) ((outs4_eq m c t ⟨(y 0).val, hy0⟩ ⟨(y 1).val, hy1⟩).trans ?_)
  · funext a; match a with
    | ⟨0, _⟩ => rfl
    | ⟨1, _⟩ => rfl
  · show dQ _ _ _ _ _ _ _ = dQ _ _ _ _ _ (win0_4.index t 0 * 128 + 1 * (y 0).val) (win0_4.index t 1 * 512 + 1 * (y 1).val)
    rw [(ix4 t).1, (ix4 t).2, Nat.one_mul, Nat.one_mul]

theorem flushed5_eq (c : Dev nD) (t : Fin cfg0.N) (hf : (cfg0.win 5).flush t = true) :
    (dats m 0 c).flushed 5 t = ((cfg0.win 5).blk t).view.read (Elt Ideal) (resK m c) := by
  have hl : t.val % 18 = 17 := (flush0_5 t).mp hf
  rw [flushed5]
  funext y
  rw [View.read_apply]
  have ht := lt36 t
  show (outsAt0 m c t.val t.isLt).2.1 _ = resK m c _
  have hy0 : (y 0).val < 2304 := (y 0).isLt
  have hy1 : (y 1).val < 128 := (y 1).isLt
  refine Eq.trans (congrArg _ ?_) (((outs_eq m c ⟨(y 0).val, hy0⟩ ⟨(y 1).val, hy1⟩ t.val t.isLt).1).trans ?_)
  · funext a; match a with
    | ⟨0, _⟩ => rfl
    | ⟨1, _⟩ => rfl
  · rw [hl]
    show ∑ i ∈ Finset.range 18, cK m c (t.val / 18) ⟨(y 0).val, hy0⟩ (y 1).val i = resK m c _
    unfold cK
    rw [sum_tiles (fun hh r => gDs sc (aq m c) (ak m c) (az m c) (ad m c) (t.val / 18 * 4 + hh) r ⟨(y 0).val, hy0⟩
      * rd (a := 2304) (b := 1024) (aq m c) r ((t.val / 18 * 4 + hh) * 128 + (y 1).val))]
    have e : ∀ (j j' : Fin 2304) (n : Nat), j.val = j'.val → n = t.val / 18 * 128 + (y 1).val →
        (∑ hh : Fin 4, ∑ r : Fin 2304, gDs sc (aq m c) (ak m c) (az m c) (ad m c) (t.val / 18 * 4 + hh.val) r.val j
          * rd (a := 2304) (b := 1024) (aq m c) r.val ((t.val / 18 * 4 + hh.val) * 128 + (y 1).val))
          = dK sc (aq m c) (ak m c) (az m c) (ad m c) j' n := by
      intro j j' n hj hn
      obtain rfl : j = j' := Fin.ext hj
      unfold dK
      rw [show n / 128 = t.val / 18 by omega, show n % 128 = (y 1).val by omega]
    refine e _ _ _ ?_ ?_
    · show (y 0).val = win0_5.index t 0 * 2304 + 1 * (y 0).val
      rw [(ix5 t).1]; omega
    · show win0_5.index t 1 * 128 + 1 * (y 1).val = _
      rw [(ix5 t).2]; omega

theorem flushed6_eq (c : Dev nD) (t : Fin cfg0.N) (hf : (cfg0.win 6).flush t = true) :
    (dats m 0 c).flushed 6 t = ((cfg0.win 6).blk t).view.read (Elt Ideal) (resV m c) := by
  have hl : t.val % 18 = 17 := (flush0_6 t).mp hf
  rw [flushed6]
  funext y
  rw [View.read_apply]
  have ht := lt36 t
  show (outsAt0 m c t.val t.isLt).2.2 _ = resV m c _
  have hy0 : (y 0).val < 2304 := (y 0).isLt
  have hy1 : (y 1).val < 128 := (y 1).isLt
  refine Eq.trans (congrArg _ ?_) (((outs_eq m c ⟨(y 0).val, hy0⟩ ⟨(y 1).val, hy1⟩ t.val t.isLt).2).trans ?_)
  · funext a; match a with
    | ⟨0, _⟩ => rfl
    | ⟨1, _⟩ => rfl
  · rw [hl]
    show ∑ i ∈ Finset.range 18, cV m c (t.val / 18) ⟨(y 0).val, hy0⟩ (y 1).val i = resV m c _
    unfold cV
    rw [sum_tiles (fun hh r => gP sc (aq m c) (ak m c) (t.val / 18 * 4 + hh) r ⟨(y 0).val, hy0⟩
      * rd (a := 2304) (b := 2048) (ad m c) r ((t.val / 18 * 4 + hh) * 128 + (y 1).val))]
    have e : ∀ (j j' : Fin 2304) (n : Nat), j.val = j'.val → n = t.val / 18 * 128 + (y 1).val →
        (∑ hh : Fin 4, ∑ r : Fin 2304, gP sc (aq m c) (ak m c) (t.val / 18 * 4 + hh.val) r.val j
          * rd (a := 2304) (b := 2048) (ad m c) r.val ((t.val / 18 * 4 + hh.val) * 128 + (y 1).val))
          = dV sc (aq m c) (ak m c) (ad m c) j' n := by
      intro j j' n hj hn
      obtain rfl : j = j' := Fin.ext hj
      unfold dV
      rw [show n / 128 = t.val / 18 by omega, show n % 128 = (y 1).val by omega]
    refine e _ _ _ ?_ ?_
    · show (y 0).val = win0_6.index t 0 * 2304 + 1 * (y 0).val
      rw [(ix6 t).1]; omega
    · show win0_6.index t 1 * 128 + 1 * (y 1).val = _
      rw [(ix6 t).2]; omega

theorem final4 (c : Dev nD) : (dats m 0 c).arrAt 4 cfg0.N = resQ m c :=
  (dats m 0 c).arrAt_eq_of_cover 4 (resQ m c) (flushed4_eq m c) fun i => by
    have hi0 : (i 0).val < 2304 := (i 0).isLt
    have hi1 : (i 1).val < 1024 := (i 1).isLt
    refine ⟨⟨(i 1).val / 512 * 18 + (i 0).val / 128, by show _ < grid0.N; rw [Gen.N_0]; omega⟩, flush0_4 _, ?_⟩
    generalize ht : (⟨(i 1).val / 512 * 18 + (i 0).val / 128, _⟩ : Fin grid0.N) = t
    have ht' : t.val = (i 1).val / 512 * 18 + (i 0).val / 128 := by rw [← ht]
    show i ∈ ((View.whole main_v0_0).slice (win0_4.rect t)).set
    rw [View.set_slice_whole, Rect.mem_set_unit]
    intro a
    match a with
    | ⟨0, _⟩ =>
      show win0_4.index t 0 * 128 ≤ (i 0 : Nat) ∧ (i 0 : Nat) < win0_4.index t 0 * 128 + 128
      rw [(ix4 t).1]; omega
    | ⟨1, _⟩ =>
      show win0_4.index t 1 * 512 ≤ (i 1 : Nat) ∧ (i 1 : Nat) < win0_4.index t 1 * 512 + 512
      rw [(ix4 t).2]; omega

theorem final5 (c : Dev nD) : (dats m 0 c).arrAt 5 cfg0.N = resK m c :=
  (dats m 0 c).arrAt_eq_of_cover 5 (resK m c) (flushed5_eq m c) fun i => by
    have hi0 : (i 0).val < 2304 := (i 0).isLt
    have hi1 : (i 1).val < 256 := (i 1).isLt
    refine ⟨⟨(i 1).val / 128 * 18 + 17, by show _ < grid0.N; rw [Gen.N_0]; omega⟩, (flush0_5 _).mpr (by dsimp only; omega), ?_⟩
    generalize ht : (⟨(i 1).val / 128 * 18 + 17, _⟩ : Fin grid0.N) = t
    have ht' : t.val = (i 1).val / 128 * 18 + 17 := by rw [← ht]
    show i ∈ ((View.whole main_v0_1).slice (win0_5.rect t)).set
    rw [View.set_slice_whole, Rect.mem_set_unit]
    intro a
    match a with
    | ⟨0, _⟩ =>
      show win0_5.index t 0 * 2304 ≤ (i 0 : Nat) ∧ (i 0 : Nat) < win0_5.index t 0 * 2304 + 2304
      rw [(ix5 t).1]; omega
    | ⟨1, _⟩ =>
      show win0_5.index t 1 * 128 ≤ (i 1 : Nat) ∧ (i 1 : Nat) < win0_5.index t 1 * 128 + 128
      rw [(ix5 t).2]; omega

theorem final6 (c : Dev nD) : (dats m 0 c).arrAt 6 cfg0.N = resV m c :=
  (dats m 0 c).arrAt_eq_of_cover 6 (resV m c) (flushed6_eq m c) fun i => by
    have hi0 : (i 0).val < 2304 := (i 0).isLt
    have hi1 : (i 1).val < 256 := (i 1).isLt
    refine ⟨⟨(i 1).val / 128 * 18 + 17, by show _ < grid0.N; rw [Gen.N_0]; omega⟩, (flush0_6 _).mpr (by dsimp only; omega), ?_⟩
    generalize ht : (⟨(i 1).val / 128 * 18 + 17, _⟩ : Fin grid0.N) = t
    have ht' : t.val = (i 1).val / 128 * 18 + 17 := by rw [← ht]
    show i ∈ ((View.whole main_v0_2).slice (win0_6.rect t)).set
    rw [View.set_slice_whole, Rect.mem_set_unit]
    intro a
    match a with
    | ⟨0, _⟩ =>
      show win0_6.index t 0 * 2304 ≤ (i 0 : Nat) ∧ (i 0 : Nat) < win0_6.index t 0 * 2304 + 2304
      rw [(ix6 t).1]; omega
    | ⟨1, _⟩ =>
      show win0_6.index t 1 * 128 ≤ (i 1 : Nat) ∧ (i 1 : Nat) < win0_6.index t 1 * 128 + 128
      rw [(ix6 t).2]; omega

end Cert.AttBwdIdeal.Body
-- ==== Proof.AttRefArgs.lean ====
/- The arrays the attention gradient's reference works on, read at an index of its arguments. -/
module

public import proofs.«01_k».proof.Proof.AttSpec
public import proofs.«01_k».proof.Proof.Gen.AttGradIdeal.Read
public import Idealize.ShloMosaic.Lib.Pointwise

@[expose] public section

set_option maxRecDepth 16384

noncomputable section

namespace Cert.AttGradIdeal.Ref

open Idealize.ShloMosaic Idealize.ShloMosaic.TcCoe Idealize.SL.Sem
open Cert.AttGradIdeal.Gen Cert.AttGradIdeal.Read Cert.RowSpec Cert.AttSpec

/-- The scale of the scores. -/
abbrev sc : EReal := Ideal.ofBits .f32 0x3DB504F3#32

theorem ofBits_negInf : Ideal.ofBits .f32 0xFF800000#32 = ⊥ := by
  simp [Ideal.ofBits, Ideal.ieee]

/-- A sum over two unit axes is the one element. -/
theorem unit_reduce {m : Nat} (h : (⟨5, ![1, 2, 4, m, 1]⟩ : Shape).ReducesTo [0, 4] ⟨3, ![2, 4, m]⟩)
    (x : (⟨5, ![1, 2, 4, m, 1]⟩ : Shape).Idx → EReal) (init : EReal) (g : Fin 2) (hh : Fin 4) (r : Fin m) :
    Ideal.hostReduceAdd h x init (ix3 g hh r) = init + x (ix5 0 g hh r 0) := by
  unfold Ideal.hostReduceAdd
  congr 1
  have e : Finset.univ.filter (fun i => h.drop i = ix3 g hh r) = {ix5 0 g hh r 0} := by
    ext i
    simp only [Finset.mem_filter, Finset.mem_univ, true_and, Finset.mem_singleton]
    constructor
    · intro e
      funext a
      apply Fin.ext
      match a with
      | ⟨0, _⟩ =>
        have : (i 0).val < 1 := (i 0).isLt
        show (i 0).val = 0
        omega
      | ⟨1, _⟩ => exact congrArg Fin.val (congrFun e 0)
      | ⟨2, _⟩ => exact congrArg Fin.val (congrFun e 1)
      | ⟨3, _⟩ => exact congrArg Fin.val (congrFun e 2)
      | ⟨4, _⟩ =>
        have : (i 4).val < 1 := (i 4).isLt
        show (i 4).val = 0
        omega
    · rintro rfl
      funext b
      apply Fin.ext
      match b with
      | ⟨0, _⟩ => rfl
      | ⟨1, _⟩ => rfl
      | ⟨2, _⟩ => rfl
  rw [e, Finset.sum_singleton]

variable (x0 : Vec Ideal S2304x1024 .bf16) (x1 : Vec Ideal S2304x256 .bf16) (x2 : Vec Ideal S2304x5376 .f32)
  (x3 : Vec Ideal S2304x2048 .bf16)

theorem q_lat (g : Fin 2) (h : Fin 4) (r : Fin 2048) (d : Fin 128) :
    (val_main_v13 (F := Ideal) x0 (ix5 0 g h r d) : EReal)
      = rd (a := 2304) (b := 1024) x0 (256 + r.val) ((g.val * 4 + h.val) * 128 + d.val) := by
  rw [rd_eq _ _ _ (by omega) (by omega)]
  pointwise [val_main_v13, val_main_v12, val_main_v5, val_main_v4, val_main_v3, val_main_v0]

theorem q_ctx (g : Fin 2) (h : Fin 4) (r : Fin 256) (d : Fin 128) :
    (val_main_v50 (F := Ideal) x0 (ix5 0 g h r d) : EReal)
      = rd (a := 2304) (b := 1024) x0 r.val ((g.val * 4 + h.val) * 128 + d.val) := by
  rw [rd_eq _ _ _ (by omega) (by omega)]
  pointwise [val_main_v50, val_main_v47, val_main_v5, val_main_v4, val_main_v3, val_main_v0]

theorem k_all (g : Fin 2) (j : Fin 2304) (d : Fin 128) :
    (val_main_v8 (F := Ideal) x1 (ix4 0 g j d) : EReal) = rd (a := 2304) (b := 256) x1 j.val (g.val * 128 + d.val) := by
  rw [rd_eq _ _ _ (by omega) (by omega)]
  pointwise [val_main_v8, val_main_v7, val_main_v6, val_main_v1]

theorem k_ctx (g : Fin 2) (j : Fin 256) (d : Fin 128) :
    (val_main_v48 (F := Ideal) x1 (ix4 0 g j d) : EReal) = rd (a := 2304) (b := 256) x1 j.val (g.val * 128 + d.val) := by
  rw [rd_eq _ _ _ (by omega) (by omega)]
  pointwise [val_main_v48, val_main_v8, val_main_v7, val_main_v6, val_main_v1]

theorem v_all (g : Fin 2) (j : Fin 2304) (d : Fin 128) :
    (val_main_v11 (F := Ideal) x2 (ix4 0 g j d) : EReal)
      = rd (a := 2304) (b := 5376) x2 j.val (1280 + g.val * 128 + d.val) := by
  rw [rd_eq _ _ _ (by omega) (by omega)]
  pointwise [val_main_v11, val_main_v10, val_main_v9, val_main_v2]
  exact congrArg x2 ((ix2_inj ..).2 ⟨rfl, Fin.ext (by dsimp only; omega)⟩)

theorem v_ctx (g : Fin 2) (j : Fin 256) (d : Fin 128) :
    (val_main_v49 (F := Ideal) x2 (ix4 0 g j d) : EReal)
      = rd (a := 2304) (b := 5376) x2 j.val (1280 + g.val * 128 + d.val) := by
  rw [rd_eq _ _ _ (by omega) (by omega)]
  pointwise [val_main_v49, val_main_v11, val_main_v10, val_main_v9, val_main_v2]
  exact congrArg x2 ((ix2_inj ..).2 ⟨rfl, Fin.ext (by dsimp only; omega)⟩)

theorem do_lat (g : Fin 2) (h : Fin 4) (r : Fin 2048) (d : Fin 128) :
    (val_main_v124 (F := Ideal) x3 (ix5 0 g h r d) : EReal)
      = rd (a := 2304) (b := 2048) x3 (256 + r.val) ((g.val * 4 + h.val) * 128 + d.val) := by
  rw [rd_eq _ _ _ (by omega) (by omega)]
  pointwise [val_main_v124, val_main_v96, val_main_v95, val_main_v94, val_main_v92, val_main_v91, val_main_v90]

theorem do_ctx (g : Fin 2) (h : Fin 4) (r : Fin 256) (d : Fin 128) :
    (val_main_v99 (F := Ideal) x3 (ix5 0 g h r d) : EReal)
      = rd (a := 2304) (b := 2048) x3 r.val ((g.val * 4 + h.val) * 128 + d.val) := by
  rw [rd_eq _ _ _ (by omega) (by omega)]
  pointwise [val_main_v99, val_main_v98, val_main_v97, val_main_v93, val_main_v92, val_main_v91, val_main_v90]

end Cert.AttGradIdeal.Ref
-- ==== Proof.AttRefRows.lean ====
/- The attention gradient's reference: the exponentials, their sums and the probabilities of its rows. -/
module

public import proofs.«01_k».proof.Proof.AttRefArgs

@[expose] public section

set_option maxRecDepth 16384

noncomputable section

namespace Cert.AttGradIdeal.Ref

open Idealize.ShloMosaic Idealize.ShloMosaic.TcCoe Idealize.SL.Sem
open Cert.AttGradIdeal.Gen Cert.AttGradIdeal.Read Cert.RowSpec Cert.AttSpec

variable (x0 : Vec Ideal S2304x1024 .bf16) (x1 : Vec Ideal S2304x256 .bf16) (x2 : Vec Ideal S2304x5376 .f32)
  (x3 : Vec Ideal S2304x2048 .bf16)

/-- A row's scores. -/
abbrev sRow (h r : Nat) : Fin 2304 → EReal := gS sc x0 x1 h r
/-- A context row's scores of the context columns. -/
abbrev sCtx (h r : Nat) : Fin 256 → EReal := fun j => gS sc x0 x1 h r (Fin.castAdd (n := 256) 2048 j)
/-- A row's gradient of the probabilities. -/
abbrev dpRow (h r : Nat) : Fin 2304 → EReal := gDp x2 x3 h r
abbrev dpCtx (h r : Nat) : Fin 256 → EReal := fun j => gDp x2 x3 h r (Fin.castAdd (n := 256) 2048 j)

theorem head_div (g : Fin 2) (h : Fin 4) : (g.val * 4 + h.val) / 4 = g.val := by omega

/-- The greatest element along the last axis. -/
theorem max_last {m n : Nat} (h : (⟨5, ![1, 2, 4, m, n]⟩ : Shape).ReducesTo [4] ⟨4, ![1, 2, 4, m]⟩)
    (v : FVec Ideal ⟨5, ![1, 2, 4, m, n]⟩ .f32) (c : FVec Ideal S_ .f32) (g : Fin 2) (hh : Fin 4) (r : Fin m) :
    Host.reduce FloatOps.maximumf v c h h_S_ (ix4 0 g hh r)
      = (Finset.univ : Finset (Fin n)).fold max (c (Shape.Idx.first h_S_)) fun k => v (ix5 0 g hh r k) := by
  pointwise

/-! ## The latent rows -/

theorem s_lat (g : Fin 2) (h : Fin 4) (r : Fin 2048) (j : Fin 2304) :
    (val_main_v16 (F := Ideal) x0 x1 (ix5 0 g h r j) : EReal) = sRow x0 x1 (g.val * 4 + h.val) (256 + r.val) j := by
  pointwise [val_main_v16, val_main_v14, val_main_v15, val_main_cst, gS]
  simp only [q_lat, k_all, head_div, or_true, if_true]

theorem m_lat (g : Fin 2) (h : Fin 4) (r : Fin 2048) :
    (val_main_v17 (F := Ideal) x0 x1 (ix4 0 g h r) : EReal)
      = Finset.univ.fold max ⊥ (sRow x0 x1 (g.val * 4 + h.val) (256 + r.val)) := by
  have e : ∀ k, (val_main_v16 (F := Ideal) x0 x1 (ix5 0 g h r k) : EReal) = _ := s_lat x0 x1 g h r
  unfold val_main_v17
  generalize val_main_v16 (F := Ideal) x0 x1 = v at e ⊢
  refine (max_last _ v _ g h r).trans ?_
  rw [← ofBits_negInf]
  exact congrArg (fun f => Finset.univ.fold max (Ideal.ofBits .f32 0xFF800000#32) f) (funext e)

theorem mx_lat (g : Fin 2) (h : Fin 4) (r : Fin 2048) :
    (val_main_v24 (F := Ideal) x0 x1 (ix4 0 g h r) : EReal)
      = Finset.univ.fold max ⊥ (sRow x0 x1 (g.val * 4 + h.val) (256 + r.val)) := by
  rw [val_main_v24_apply, m_lat, val_main_v23_apply, val_main_cst_2_apply]
  generalize Finset.univ.fold max ⊥ (sRow x0 x1 (g.val * 4 + h.val) (256 + r.val)) = y
  show max (Ideal.ofBits .f32 0xFF800000#32) y = y
  rw [ofBits_negInf, max_eq_right bot_le]

theorem e_lat (g : Fin 2) (h : Fin 4) (r : Fin 2048) (j : Fin 2304) :
    (val_main_v37 (F := Ideal) x0 x1 (ix5 0 g h r j) : EReal)
      = rowE (sRow x0 x1 (g.val * 4 + h.val) (256 + r.val)) j := by
  pointwise [val_main_v37, val_main_v36, val_main_v35, val_main_v34]
  rw [s_lat, mx_lat]
  rfl

theorem z_lat (g : Fin 2) (h : Fin 4) (r : Fin 2048) :
    (val_main_v39 (F := Ideal) x0 x1 (ix5 0 g h r 0) : EReal)
      = rowZ (sRow x0 x1 (g.val * 4 + h.val) (256 + r.val)) := by
  pointwise [val_main_v39, val_main_v38, val_main_cst_8]
  simp only [e_lat, zero_add]
  rfl

theorem p_lat (g : Fin 2) (h : Fin 4) (r : Fin 2048) (j : Fin 2304) :
    (val_main_v41 (F := Ideal) x0 x1 (ix5 0 g h r j) : EReal)
      = rowP (sRow x0 x1 (g.val * 4 + h.val) (256 + r.val)) j := by
  pointwise [val_main_v41, val_main_v40]
  rw [e_lat, z_lat]
  rfl

theorem zz_lat (g : Fin 2) (h : Fin 4) (r : Fin 2048) :
    (val_main_v44 (F := Ideal) x0 x1 (ix5 0 g h r 0) : EReal)
      = Ideal.div 1 (rowZ (sRow x0 x1 (g.val * 4 + h.val) (256 + r.val)) * rowZ (sRow x0 x1 (g.val * 4 + h.val) (256 + r.val))) := by
  pointwise [val_main_v44, val_main_v43, val_main_v42, val_main_cst_9]
  rw [z_lat]

theorem dp_lat (g : Fin 2) (h : Fin 4) (r : Fin 2048) (j : Fin 2304) :
    (val_main_v128 (F := Ideal) x2 x3 (ix5 0 g h r j) : EReal) = dpRow x2 x3 (g.val * 4 + h.val) (256 + r.val) j := by
  pointwise [val_main_v128, gDp]
  simp only [do_lat, v_all, head_div]

theorem t_lat (g : Fin 2) (h : Fin 4) (r : Fin 2048) :
    (val_main_v137 (F := Ideal) x0 x1 x2 x3 (ix3 g h r) : EReal)
      = -(∑ l, dpRow x2 x3 (g.val * 4 + h.val) (256 + r.val) l
        * Ideal.div 1 (rowZ (sRow x0 x1 (g.val * 4 + h.val) (256 + r.val)) * rowZ (sRow x0 x1 (g.val * 4 + h.val) (256 + r.val)))
        * rowE (sRow x0 x1 (g.val * 4 + h.val) (256 + r.val)) l) := by
  unfold val_main_v137
  simp only [Host.reduceAdd, Ideal.hostReduceAdd_def]
  rw [unit_reduce]
  pointwise [val_main_v134, val_main_v133, val_main_v132, val_main_v131, val_main_v130, val_main_v129, val_main_cst_27, val_main_cst_28]
  simp only [dp_lat, zz_lat, e_lat, zero_add]

theorem ds_lat_raw (g : Fin 2) (h : Fin 4) (r : Fin 2048) (j : Fin 2304) :
    (val_main_v143 (F := Ideal) x0 x1 x2 x3 (ix5 0 g h r j) : EReal)
      = (Ideal.div (dpRow x2 x3 (g.val * 4 + h.val) (256 + r.val) j) (rowZ (sRow x0 x1 (g.val * 4 + h.val) (256 + r.val)))
        + -(∑ l, dpRow x2 x3 (g.val * 4 + h.val) (256 + r.val) l
          * Ideal.div 1 (rowZ (sRow x0 x1 (g.val * 4 + h.val) (256 + r.val)) * rowZ (sRow x0 x1 (g.val * 4 + h.val) (256 + r.val)))
          * rowE (sRow x0 x1 (g.val * 4 + h.val) (256 + r.val)) l))
        * rowE (sRow x0 x1 (g.val * 4 + h.val) (256 + r.val)) j * sc := by
  pointwise [val_main_v143, val_main_v142, val_main_cst_29, val_main_v141, val_main_v140, val_main_v139, val_main_v138,
    val_main_v136, val_main_v135]
  rw [dp_lat, z_lat, e_lat, t_lat]

/-! ## The context rows -/

theorem s_ctx (g : Fin 2) (h : Fin 4) (r : Fin 256) (j : Fin 256) :
    (val_main_v53 (F := Ideal) x0 x1 (ix5 0 g h r j) : EReal) = sCtx x0 x1 (g.val * 4 + h.val) r.val j := by
  pointwise [val_main_v53, val_main_v51, val_main_v52, val_main_cst_10]
  unfold sCtx gS
  rw [if_pos (Or.inl (show (Fin.castAdd (n := 256) 2048 j).val < 256 from j.isLt))]
  simp only [q_ctx, k_ctx, head_div]
  rfl

theorem m_ctx (g : Fin 2) (h : Fin 4) (r : Fin 256) :
    (val_main_v54 (F := Ideal) x0 x1 (ix4 0 g h r) : EReal)
      = Finset.univ.fold max ⊥ (sCtx x0 x1 (g.val * 4 + h.val) r.val) := by
  have e : ∀ k, (val_main_v53 (F := Ideal) x0 x1 (ix5 0 g h r k) : EReal) = _ := s_ctx x0 x1 g h r
  unfold val_main_v54
  generalize val_main_v53 (F := Ideal) x0 x1 = v at e ⊢
  refine (max_last _ v _ g h r).trans ?_
  rw [← ofBits_negInf]
  exact congrArg (fun f => Finset.univ.fold max (Ideal.ofBits .f32 0xFF800000#32) f) (funext e)

theorem mx_ctx (g : Fin 2) (h : Fin 4) (r : Fin 256) :
    (val_main_v61 (F := Ideal) x0 x1 (ix4 0 g h r) : EReal)
      = Finset.univ.fold max ⊥ (sCtx x0 x1 (g.val * 4 + h.val) r.val) := by
  rw [val_main_v61_apply, m_ctx, val_main_v60_apply, val_main_cst_13_apply]
  generalize Finset.univ.fold max ⊥ (sCtx x0 x1 (g.val * 4 + h.val) r.val) = y
  show max (Ideal.ofBits .f32 0xFF800000#32) y = y
  rw [ofBits_negInf, max_eq_right bot_le]

theorem e_ctx (g : Fin 2) (h : Fin 4) (r : Fin 256) (j : Fin 256) :
    (val_main_v74 (F := Ideal) x0 x1 (ix5 0 g h r j) : EReal)
      = rowE (sCtx x0 x1 (g.val * 4 + h.val) r.val) j := by
  pointwise [val_main_v74, val_main_v73, val_main_v72, val_main_v71]
  rw [s_ctx, mx_ctx]
  rfl

theorem z_ctx (g : Fin 2) (h : Fin 4) (r : Fin 256) :
    (val_main_v76 (F := Ideal) x0 x1 (ix5 0 g h r 0) : EReal)
      = rowZ (sCtx x0 x1 (g.val * 4 + h.val) r.val) := by
  pointwise [val_main_v76, val_main_v75, val_main_cst_19]
  simp only [e_ctx, zero_add]
  rfl

theorem p_ctx (g : Fin 2) (h : Fin 4) (r : Fin 256) (j : Fin 256) :
    (val_main_v78 (F := Ideal) x0 x1 (ix5 0 g h r j) : EReal)
      = rowP (sCtx x0 x1 (g.val * 4 + h.val) r.val) j := by
  pointwise [val_main_v78, val_main_v77]
  rw [e_ctx, z_ctx]
  rfl

theorem zz_ctx (g : Fin 2) (h : Fin 4) (r : Fin 256) :
    (val_main_v81 (F := Ideal) x0 x1 (ix5 0 g h r 0) : EReal)
      = Ideal.div 1 (rowZ (sCtx x0 x1 (g.val * 4 + h.val) r.val) * rowZ (sCtx x0 x1 (g.val * 4 + h.val) r.val)) := by
  pointwise [val_main_v81, val_main_v80, val_main_v79, val_main_cst_20]
  rw [z_ctx]

theorem dp_ctx (g : Fin 2) (h : Fin 4) (r : Fin 256) (j : Fin 256) :
    (val_main_v102 (F := Ideal) x2 x3 (ix5 0 g h r j) : EReal) = dpCtx x2 x3 (g.val * 4 + h.val) r.val j := by
  pointwise [val_main_v102, gDp]
  simp only [do_ctx, v_ctx, head_div]
  rfl

theorem t_ctx (g : Fin 2) (h : Fin 4) (r : Fin 256) :
    (val_main_v111 (F := Ideal) x0 x1 x2 x3 (ix3 g h r) : EReal)
      = -(∑ l, dpCtx x2 x3 (g.val * 4 + h.val) r.val l
        * Ideal.div 1 (rowZ (sCtx x0 x1 (g.val * 4 + h.val) r.val) * rowZ (sCtx x0 x1 (g.val * 4 + h.val) r.val))
        * rowE (sCtx x0 x1 (g.val * 4 + h.val) r.val) l) := by
  unfold val_main_v111
  simp only [Host.reduceAdd, Ideal.hostReduceAdd_def]
  rw [unit_reduce]
  pointwise [val_main_v108, val_main_v107, val_main_v106, val_main_v105, val_main_v104, val_main_v103, val_main_cst_21, val_main_cst_22]
  simp only [dp_ctx, zz_ctx, e_ctx, zero_add]

theorem ds_ctx_raw (g : Fin 2) (h : Fin 4) (r : Fin 256) (j : Fin 256) :
    (val_main_v117 (F := Ideal) x0 x1 x2 x3 (ix5 0 g h r j) : EReal)
      = (Ideal.div (dpCtx x2 x3 (g.val * 4 + h.val) r.val j) (rowZ (sCtx x0 x1 (g.val * 4 + h.val) r.val))
        + -(∑ l, dpCtx x2 x3 (g.val * 4 + h.val) r.val l
          * Ideal.div 1 (rowZ (sCtx x0 x1 (g.val * 4 + h.val) r.val) * rowZ (sCtx x0 x1 (g.val * 4 + h.val) r.val))
          * rowE (sCtx x0 x1 (g.val * 4 + h.val) r.val) l))
        * rowE (sCtx x0 x1 (g.val * 4 + h.val) r.val) j * sc := by
  pointwise [val_main_v117, val_main_v116, val_main_cst_23, val_main_v115, val_main_v114, val_main_v113, val_main_v112,
    val_main_v110, val_main_v109]
  rw [dp_ctx, z_ctx, e_ctx, t_ctx]

end Cert.AttGradIdeal.Ref
-- ==== Proof.AttRef.lean ====
/- The attention gradient's reference leaves the gradients of the queries, the keys and the values. -/
module

public import proofs.«01_k».proof.Proof.AttRefRows

@[expose] public section

set_option maxRecDepth 16384

noncomputable section

namespace Cert.AttGradIdeal.Ref

open Idealize.ShloMosaic Idealize.ShloMosaic.TcCoe Idealize.SL.Sem
open Cert.AttGradIdeal.Gen Cert.AttGradIdeal.Read Cert.RowSpec Cert.AttSpec

/-! ## The scores are numbers where the queries and the keys are -/

theorem rd_real {a b : Nat} (x : (⟨2, ![a, b]⟩ : Shape).Idx → EReal) (h : ∀ i, ∃ r : ℝ, x i = (r : EReal)) (i j : Nat) :
    ∃ r : ℝ, rd x i j = (r : EReal) := by
  unfold rd
  split
  · exact h _
  · exact ⟨0, rfl⟩

theorem sc_real : ∃ r : ℝ, sc = (r : EReal) := by
  unfold sc
  simp only [Ideal.ofBits, Ideal.ieee]
  exact ⟨_, rfl⟩

theorem dot_real {n : Nat} (f g : Fin n → EReal) (hf : ∀ d, ∃ r : ℝ, f d = (r : EReal)) (hg : ∀ d, ∃ r : ℝ, g d = (r : EReal)) :
    ∃ r : ℝ, (∑ d, f d * g d) * sc = (r : EReal) := by
  choose f' hf' using hf
  choose g' hg' using hg
  obtain ⟨c, hc⟩ := sc_real
  refine ⟨(∑ d, f' d * g' d) * c, ?_⟩
  rw [EReal.coe_mul, coe_sum, hc]
  simp only [hf', hg', EReal.coe_mul]

variable (x0 : Vec Ideal S2304x1024 .bf16) (x1 : Vec Ideal S2304x256 .bf16) (x2 : Vec Ideal S2304x5376 .f32)
  (x3 : Vec Ideal S2304x2048 .bf16)

section
variable (hq : ∀ i, ∃ r : ℝ, (x0 i : EReal) = (r : EReal)) (hk : ∀ i, ∃ r : ℝ, (x1 i : EReal) = (r : EReal))
include hq hk

theorem sRow_ne_top (h r : Nat) (j : Fin 2304) : sRow x0 x1 h r j ≠ ⊤ := by
  unfold sRow gS
  split
  · obtain ⟨y, hy⟩ := dot_real (n := 128) (fun d => rd (a := 2304) (b := 1024) x0 r (h * 128 + d.val))
      (fun d => rd (a := 2304) (b := 256) x1 j.val (h / 4 * 128 + d.val)) (fun d => rd_real x0 hq _ _) (fun d => rd_real x1 hk _ _)
    rw [hy]
    exact EReal.coe_ne_top y
  · exact bot_ne_top

theorem sRow_ne_bot (h r : Nat) : sRow x0 x1 h r 0 ≠ ⊥ := by
  unfold sRow gS
  rw [if_pos (Or.inl (show ((0 : Fin 2304) : Nat) < 256 by decide))]
  obtain ⟨y, hy⟩ := dot_real (n := 128) (fun d => rd (a := 2304) (b := 1024) x0 r (h * 128 + d.val))
    (fun d => rd (a := 2304) (b := 256) x1 (0 : Fin 2304).val (h / 4 * 128 + d.val)) (fun d => rd_real x0 hq _ _) (fun d => rd_real x1 hk _ _)
  rw [hy]
  exact EReal.coe_ne_bot y

omit hq hk in
theorem sRow_masked (h r : Nat) (hr : r < 256) (j : Fin (256 + 2048)) (hj : 256 ≤ j.val) : sRow x0 x1 h r j = ⊥ := by
  unfold sRow gS
  exact if_neg (by omega)

theorem ds_lat (g : Fin 2) (h : Fin 4) (r : Fin 2048) (j : Fin 2304) :
    (val_main_v143 (F := Ideal) x0 x1 x2 x3 (ix5 0 g h r j) : EReal)
      = gDs sc x0 x1 x2 x3 (g.val * 4 + h.val) (256 + r.val) j :=
  (ds_lat_raw x0 x1 x2 x3 g h r j).trans
    (quotient_rule sc _ _ (sRow_ne_top x0 x1 hq hk _ _) 0 (sRow_ne_bot x0 x1 hq hk _ _) j)

theorem ds_ctx (g : Fin 2) (h : Fin 4) (r : Fin 256) (j : Fin 256) :
    (val_main_v117 (F := Ideal) x0 x1 x2 x3 (ix5 0 g h r j) : EReal)
      = gDs sc x0 x1 x2 x3 (g.val * 4 + h.val) r.val (Fin.castAdd (n := 256) 2048 j) := by
  have h1 := quotient_rule sc (sCtx x0 x1 (g.val * 4 + h.val) r.val) (dpCtx x2 x3 (g.val * 4 + h.val) r.val)
    (fun j => sRow_ne_top x0 x1 hq hk _ _ _) 0 (sRow_ne_bot x0 x1 hq hk _ _) j
  have h2 := rowDs_prefix (a := 256) (b := 2048) (sRow x0 x1 (g.val * 4 + h.val) r.val)
    (sRow_masked x0 x1 _ _ r.isLt) sc (dpRow x2 x3 (g.val * 4 + h.val) r.val)
    (sRow_ne_top x0 x1 hq hk _ _) 0 (sRow_ne_bot x0 x1 hq hk _ _) j
  exact (ds_ctx_raw x0 x1 x2 x3 g h r j).trans (h1.trans h2.symm)

theorem ds_masked (h r : Nat) (hr : r < 256) (j : Fin 2304) (hj : 256 ≤ j.val) : gDs sc x0 x1 x2 x3 h r j = 0 :=
  rowDs_masked (a := 256) (b := 2048) (sRow x0 x1 h r) (sRow_masked x0 x1 h r hr) sc _
    (sRow_ne_top x0 x1 hq hk _ _) 0 (sRow_ne_bot x0 x1 hq hk _ _) j hj

theorem gP_masked (h r : Nat) (hr : r < 256) (j : Fin 2304) (hj : 256 ≤ j.val) : gP sc x0 x1 h r j = 0 :=
  rowP_masked (a := 256) (b := 2048) (sRow x0 x1 h r) (sRow_masked x0 x1 h r hr)
    (sRow_ne_top x0 x1 hq hk _ _) 0 (sRow_ne_bot x0 x1 hq hk _ _) j hj

omit hq hk in
theorem gP_ctx (g : Fin 2) (h : Fin 4) (r : Fin 256) (j : Fin 256) :
    (val_main_v78 (F := Ideal) x0 x1 (ix5 0 g h r j) : EReal)
      = gP sc x0 x1 (g.val * 4 + h.val) r.val (Fin.castAdd (n := 256) 2048 j) :=
  (p_ctx x0 x1 g h r j).trans
    (rowP_prefix (a := 256) (b := 2048) (sRow x0 x1 (g.val * 4 + h.val) r.val) (sRow_masked x0 x1 _ _ r.isLt) j).symm

/-! ## The results -/

omit hq hk in
/-- A sum over the rows is the context rows' and the latent rows'. -/
theorem sum_rows (f : Nat → EReal) : ∑ r : Fin 2304, f r.val = ∑ r : Fin 256, f r.val + ∑ r : Fin 2048, f (256 + r.val) :=
  Fin.sum_univ_add (a := 256) (b := 2048) fun r => f r.val

omit hq hk in
/-- The same under a sum over the four query heads of a key head. -/
theorem sum_head_rows (f : Fin 4 → Nat → EReal) : ∑ hh : Fin 4, ∑ r : Fin 2304, f hh r.val
    = ∑ hh : Fin 4, ∑ r : Fin 256, f hh r.val + ∑ hh : Fin 4, ∑ r : Fin 2048, f hh (256 + r.val) := by
  rw [← Finset.sum_add_distrib]
  exact Finset.sum_congr rfl fun hh _ => sum_rows (f hh)

omit hq hk in
/-- A value that is taken under a condition, where the other value is zero. -/
theorem dite_eq {p : Prop} [Decidable p] (x : p → EReal) (y : EReal) (h1 : ∀ h, x h = y) (h0 : ¬p → y = 0) :
    (if h : p then x h else 0) = y := by
  by_cases h : p
  · rw [dif_pos h, h1]
  · rw [dif_neg h, h0 h]

theorem dq_ref (r : Fin 2304) (n : Fin 1024) :
    (val_main_v158 (F := Ideal) x0 x1 x2 x3 (ix2 r n) : EReal) = dQ sc x0 x1 x2 x3 r.val n.val := by
  pointwise [val_main_v158, val_main_v157, val_main_v156, val_main_v149, val_main_v148, val_main_v123, val_main_cst_26,
    val_main_cst_30, val_main_cst_33, val_main_v147, val_main_v120, val_main_v146, val_main_v119]
  simp only [Finset.univ_unique, Finset.sum_singleton]
  have hn : n.val < 1024 := n.isLt
  have hr : r.val < 2304 := r.isLt
  have e : n.val / 128 / 4 * 4 + n.val / 128 % 4 = n.val / 128 := by omega
  by_cases h : r.val < 256
  · refine (Ideal.add_congr (dif_pos ⟨by omega, h, by omega⟩) (dif_neg fun h' => absurd h'.2.1.1 (by omega))).trans ?_
    refine (add_zero _).trans ?_
    unfold dQ
    refine Eq.trans ?_ (sum_prefix (a := 256) (b := 2048) (fun j => gDs sc x0 x1 x2 x3 (n.val / 128) r.val j
      * rd (a := 2304) (b := 256) x1 j.val (n.val / 128 / 4 * 128 + n.val % 128)) fun j hj => by
        simp only [ds_masked x0 x1 x2 x3 hq hk _ _ h j hj, zero_mul]).symm
    refine Finset.sum_congr rfl fun j _ => ?_
    refine Ideal.mul_congr ((ds_ctx x0 x1 x2 x3 hq hk _ _ _ _).trans ?_) (k_ctx x1 _ _ _)
    dsimp only
    rw [e]
  · refine (Ideal.add_congr (dif_neg fun h' => h h'.2.1) (dif_pos ⟨by omega, ⟨by omega, by omega⟩, by omega⟩)).trans ?_
    refine (zero_add _).trans ?_
    unfold dQ
    refine Finset.sum_congr rfl fun j _ => ?_
    refine Ideal.mul_congr ((ds_lat x0 x1 x2 x3 hq hk _ _ _ _).trans ?_) (k_all x1 _ _ _)
    dsimp only
    rw [e, show 256 + (r.val - 256) = r.val by omega]

theorem dk_ref (j : Fin 2304) (n : Fin 256) :
    (val_main_v155 (F := Ideal) x0 x1 x2 x3 (ix2 j n) : EReal) = dK sc x0 x1 x2 x3 j n.val := by
  pointwise [val_main_v155, val_main_v154, val_main_v153, val_main_v145, val_main_v144, val_main_v122, val_main_cst_25,
    val_main_cst_32, val_main_v118]
  simp only [Finset.univ_unique, Finset.sum_singleton]
  have hn : n.val < 256 := n.isLt
  refine Eq.trans ?_ (sum_head_rows fun hh r => gDs sc x0 x1 x2 x3 (n.val / 128 * 4 + hh.val) r j
    * rd (a := 2304) (b := 1024) x0 r ((n.val / 128 * 4 + hh.val) * 128 + n.val % 128)).symm
  refine Ideal.add_congr (dite_eq _ _ (fun h => ?_) fun h => ?_) ?_
  · refine Finset.sum_congr rfl fun hh _ => Finset.sum_congr rfl fun r _ => ?_
    exact Ideal.mul_congr (ds_ctx x0 x1 x2 x3 hq hk _ _ _ _) (q_ctx x0 _ _ _ _)
  · refine Finset.sum_eq_zero fun hh _ => Finset.sum_eq_zero fun r _ => ?_
    rw [ds_masked x0 x1 x2 x3 hq hk _ _ r.isLt j (by omega), zero_mul]
  · refine Finset.sum_congr rfl fun hh _ => Finset.sum_congr rfl fun r _ => ?_
    exact Ideal.mul_congr (ds_lat x0 x1 x2 x3 hq hk _ _ _ _) (q_lat x0 _ _ _ _)

theorem dv_ref (j : Fin 2304) (n : Fin 256) :
    (val_main_v152 (F := Ideal) x0 x1 x3 (ix2 j n) : EReal) = dV sc x0 x1 x3 j n.val := by
  pointwise [val_main_v152, val_main_v151, val_main_v150, val_main_v127, val_main_v126, val_main_v125, val_main_v121, val_main_cst_24,
    val_main_cst_31, val_main_v101, val_main_v100]
  simp only [Finset.univ_unique, Finset.sum_singleton]
  have hn : n.val < 256 := n.isLt
  refine Eq.trans ?_ (sum_head_rows fun hh r => gP sc x0 x1 (n.val / 128 * 4 + hh.val) r j
    * rd (a := 2304) (b := 2048) x3 r ((n.val / 128 * 4 + hh.val) * 128 + n.val % 128)).symm
  refine Ideal.add_congr (dite_eq _ _ (fun h => ?_) fun h => ?_) ?_
  · refine Finset.sum_congr rfl fun hh _ => Finset.sum_congr rfl fun r _ => ?_
    exact (mul_comm _ _).trans (Ideal.mul_congr (gP_ctx x0 x1 _ _ _ _) (do_ctx x3 _ _ _ _))
  · refine Finset.sum_eq_zero fun hh _ => Finset.sum_eq_zero fun r _ => ?_
    rw [gP_masked x0 x1 hq hk _ _ r.isLt j (by omega), zero_mul]
  · refine Finset.sum_congr rfl fun hh _ => Finset.sum_congr rfl fun r _ => ?_
    exact (mul_comm _ _).trans (Ideal.mul_congr (p_lat x0 x1 _ _ _ _) (do_lat x3 _ _ _ _))

end

end Cert.AttGradIdeal.Ref
-- ==== Proof.AttClaims.lean ====
/- The claims about the attention gradient: the reference's frame, and the kernel's arrays are the reference's. -/
module

public import proofs.«01_k».proof.Proof.AttKernel
public import proofs.«01_k».proof.Proof.AttRef
public import proofs.«01_k».proof.Proof.Gen.AttGradIdeal.Run
public import proofs.«01_k».proof.Proof.Gen.AttGradIdeal.Read
public import proofs.«01_k».proof.Defs
public import Idealize.ShloMosaic.Lib.Quiescent

@[expose] public section

set_option maxRecDepth 16384

noncomputable section

namespace Cert.Proof.Att

open Idealize.ShloMosaic Idealize.ShloMosaic.TcCoe Idealize.SL.Sem

instance preFacts : Cert.Pre_finite.Facts where
  bitsLt_bf16_f32 := by decide
  bcast_S_S2304x1024 := by decide
  bcast_S_S2304x256 := by decide

/-- An extended real whose absolute value is below the largest one is a number. -/
theorem real_of_abs (x : EReal) (h : BitVec.ofBool (decide (max x (-x) < ⊤)) = 1#1) : ∃ r : ℝ, x = (r : EReal) := by
  have h' : max x (-x) < ⊤ := by
    by_contra hn
    rw [decide_eq_false hn] at h
    exact absurd h (by decide)
  have h1 : x < ⊤ := lt_of_le_of_lt (le_max_left _ _) h'
  have h2 : -x < ⊤ := lt_of_le_of_lt (le_max_right _ _) h'
  have h3 : x ≠ ⊥ := by
    rintro rfl
    simp at h2
  exact ⟨x.toReal, (EReal.coe_toReal h1.ne h3).symm⟩

theorem ofBits_inf : (Ideal.ofBits .f32 0x7F800000#32 : EReal) = ⊤ := by
  simp [Ideal.ofBits, Ideal.ieee]

open Cert.Pre_finite in
theorem real_q (a0 a1 a2 a3) (h : (Cert.Pre_finite.fn (F := Ideal) a0 a1 a2 a3).1 = fun _ => 1#1) (i : S2304x1024.Idx) :
    ∃ r : ℝ, (a0 i : EReal) = (r : EReal) := by
  have e := congrFun h i
  refine real_of_abs _ ?_
  rw [← ofBits_inf]
  exact e

open Cert.Pre_finite in
theorem real_k (a0 a1 a2 a3) (h : (Cert.Pre_finite.fn (F := Ideal) a0 a1 a2 a3).2 = fun _ => 1#1) (i : S2304x256.Idx) :
    ∃ r : ℝ, (a1 i : EReal) = (r : EReal) := by
  have e := congrFun h i
  refine real_of_abs _ ?_
  rw [← ofBits_inf]
  exact e

theorem frame_ref : quiescent_AttGradIdeal := fun m ρ _ =>
  (θ_run AttGradIdeal.defs _ _).mono (fun r h => ⟨fun c => (h c).2.2.2,
      sem_eq_zero_of_no_sems (by decide) r.2⟩)
    (AttGradIdeal.Value.run (F := Ideal) m ρ)

theorem algebraic : algebraic_AttBwdIdeal_AttGradIdeal_pre_finite := by
  intro m ρ m' ρ' hpre hagree
  refine ⟨fun c => AttBwdIdeal.Body.resQ m c, fun c => AttBwdIdeal.Body.resK m c,
    fun c => AttBwdIdeal.Body.resV m c, ?_, ?_⟩
  · refine (θ_run AttBwdIdeal.defs _ _).mono (fun _ h c => ?_) (AttBwdIdeal.Value.run_blocks (F := Ideal) m ρ)
    exact ⟨(h c).1.trans (AttBwdIdeal.Body.final4 m c), (h c).2.1.trans (AttBwdIdeal.Body.final5 m c),
      (h c).2.2.1.trans (AttBwdIdeal.Body.final6 m c), (h c).2.2.2⟩
  · refine (θ_run AttGradIdeal.defs _ _).mono (fun _ h c => ?_) (AttGradIdeal.Value.run (F := Ideal) m' ρ')
    have hq := real_q _ _ _ _ (hpre c).1
    have hk := real_k _ _ _ _ (hpre c).2
    obtain ⟨g0, g1, g2, g3⟩ := hagree c
    refine ⟨((h c).1.trans (AttGradIdeal.Read.val_main_v158_eq _)).trans ?_,
      ((h c).2.1.trans (AttGradIdeal.Read.val_main_v155_eq _)).trans ?_,
      ((h c).2.2.1.trans (AttGradIdeal.Read.val_main_v152_eq _)).trans ?_, (h c).2.2.2⟩
    · show AttGradIdeal.Read.val_main_v158 (F := Ideal) (m' (c.tc.loc AttGradIdeal.main_arg0))
        (m' (c.tc.loc AttGradIdeal.main_arg1))
        (m' (c.tc.loc AttGradIdeal.main_arg2))
        (m' (c.tc.loc AttGradIdeal.main_arg3)) = _
      rw [g0, g1, g2, g3]
      funext y
      rw [eq_ix2 y]
      exact AttGradIdeal.Ref.dq_ref _ _ _ _ hq hk _ _
    · show AttGradIdeal.Read.val_main_v155 (F := Ideal) (m' (c.tc.loc AttGradIdeal.main_arg0))
        (m' (c.tc.loc AttGradIdeal.main_arg1))
        (m' (c.tc.loc AttGradIdeal.main_arg2))
        (m' (c.tc.loc AttGradIdeal.main_arg3)) = _
      rw [g0, g1, g2, g3]
      funext y
      rw [eq_ix2 y]
      exact AttGradIdeal.Ref.dk_ref _ _ _ _ hq hk _ _
    · show AttGradIdeal.Read.val_main_v152 (F := Ideal) (m' (c.tc.loc AttGradIdeal.main_arg0))
        (m' (c.tc.loc AttGradIdeal.main_arg1))
        (m' (c.tc.loc AttGradIdeal.main_arg3)) = _
      rw [g0, g1, g3]
      funext y
      rw [eq_ix2 y]
      exact AttGradIdeal.Ref.dv_ref _ _ _ hq hk _ _

end Cert.Proof.Att

end
-- ==== Proof.MmSpec.lean ====
/- A projection and its two gradients, entry by entry. -/
module

public import proofs.«01_k».proof.Proof.AttSpec

@[expose] public section

noncomputable section

namespace Cert.MmSpec

open Idealize.ShloMosaic Cert.AttSpec

/-- The projection's result at `(i, j)`: a sum over the columns of the stream. -/
def prod {M K N : Nat} (a : (⟨2, ![M, K]⟩ : Shape).Idx → EReal) (w : (⟨2, ![K, N]⟩ : Shape).Idx → EReal)
    (i j : Nat) : EReal := ∑ k : Fin K, rd a i k.val * rd w k.val j

/-- The gradient of the weights at `(i, j)`: a sum over the rows of the stream. -/
def gradW {K M N : Nat} (a : (⟨2, ![K, M]⟩ : Shape).Idx → EReal) (dy : (⟨2, ![K, N]⟩ : Shape).Idx → EReal)
    (i j : Nat) : EReal := ∑ k : Fin K, rd a k.val i * rd dy k.val j

/-- The gradient of the stream at `(i, j)`: a sum over the columns of the weights. -/
def gradA {M K N : Nat} (dy : (⟨2, ![M, K]⟩ : Shape).Idx → EReal) (w : (⟨2, ![N, K]⟩ : Shape).Idx → EReal)
    (i j : Nat) : EReal := ∑ k : Fin K, rd dy i k.val * rd w j k.val

end Cert.MmSpec

end
-- ==== Proof.MmGwd.lean ====
/- The gradient of the channel mixer's last projection's weights. -/
module

public import proofs.«01_k».proof.Proof.MmSpec
public import proofs.«01_k».proof.Proof.Gen.GwdIdeal.Value
public import proofs.«01_k».proof.Proof.Gen.GwdGradIdeal.Run
public import proofs.«01_k».proof.Proof.Gen.GwdGradIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.GwdIdeal.Body
open Idealize.ShloMosaic.Pipeline (Dat)
open Cert.GwdIdeal.Gen Cert.GwdIdeal.Value Cert.AttSpec Cert.MmSpec

variable (m : (ℓ : Loc nD τ sig) → Buf (Elt Ideal) ℓ)

abbrev arg0 (c : Dev nD) : Vec Ideal S2304x5632 .bf16 := m ((c : Thread nD τ).loc main_arg0)
abbrev arg1 (c : Dev nD) : Vec Ideal S2304x2048 .bf16 := m ((c : Thread nD τ).loc main_arg1)

theorem idx0 : ∀ t : Fin grid0.N, win0_0.index t 0 = 0 ∧ win0_0.index t 1 = t.val / 1 := by decide +kernel
theorem idx1 : ∀ t : Fin grid0.N, win0_1.index t 0 = 0 ∧ win0_1.index t 1 = t.val % 1 := by decide +kernel
theorem idx2 : ∀ t : Fin grid0.N, win0_2.index t 0 = t.val / 1 ∧ win0_2.index t 1 = t.val % 1 := by decide +kernel
theorem flush2 : ∀ t : Fin grid0.N, (cfg0.win 2).flush t = true := by decide +kernel

theorem ltN (t : Fin cfg0.N) : t.val < 4 := lt_of_lt_of_eq t.isLt Gen.N_0

theorem blk0 (c : Dev nD) (t : Fin cfg0.N) (r : Fin 2304) (n : Fin 1408) :
    (iblk m c 0 t (ix2 r n) : EReal) = rd (a := 2304) (b := 5632) (arg0 m c) (r.val) (t.val / 1 * 1408 + n.val) := by
  have ht := ltN t
  rw [rd_eq _ _ _ (by omega) (by omega)]
  unfold iblk
  rw [View.read_apply]
  show V m c main_arg0 _ = m (c.tc.loc main_arg0) _
  unfold V
  congr 1
  funext a
  apply Fin.ext
  match a with
  | ⟨0, _⟩ => show win0_0.index t 0 * 2304 + 1 * r.val = r.val; rw [(idx0 t).1]; omega
  | ⟨1, _⟩ => show win0_0.index t 1 * 1408 + 1 * n.val = t.val / 1 * 1408 + n.val; rw [(idx0 t).2]; omega

theorem blk1 (c : Dev nD) (t : Fin cfg0.N) (r : Fin 2304) (n : Fin 2048) :
    (iblk m c 1 t (ix2 r n) : EReal) = rd (a := 2304) (b := 2048) (arg1 m c) (r.val) (t.val % 1 * 2048 + n.val) := by
  have ht := ltN t
  rw [rd_eq _ _ _ (by omega) (by omega)]
  unfold iblk
  rw [View.read_apply]
  show V m c main_arg1 _ = m (c.tc.loc main_arg1) _
  unfold V
  congr 1
  funext a
  apply Fin.ext
  match a with
  | ⟨0, _⟩ => show win0_1.index t 0 * 2304 + 1 * r.val = r.val; rw [(idx1 t).1]; omega
  | ⟨1, _⟩ => show win0_1.index t 1 * 2048 + 1 * n.val = t.val % 1 * 2048 + n.val; rw [(idx1 t).2]; omega

theorem pay_apply (x0 : Vec Ideal S2304x1408 .bf16) (x1 : Vec Ideal S2304x2048 .bf16) (i : Fin 1408) (j : Fin 2048) :
    (k0_pay1 (F := Ideal) x0 x1 (ix2 i j) : EReal) = ∑ k : Fin 2304, (x0 (ix2 k i) : EReal) * x1 (ix2 k j) := by
  pointwise [k0_pay1]

theorem after_eq (c : Dev nD) (t : Fin cfg0.N) (i : Fin 1408) (j : Fin 2048) :
    ((dats m 0 c).after 2 t (ix2 i j) : EReal) = gradW (arg0 m c) (arg1 m c) (t.val / 1 * 1408 + i.val) (t.val % 1 * 2048 + j.val) := by
  rw [after0_2]
  frame_out
  refine (pay_apply _ _ i j).trans ?_
  unfold gradW
  exact Finset.sum_congr rfl fun k _ => Ideal.mul_congr (blk0 m c t _ _) (blk1 m c t _ _)

/-- The result array. -/
def res (c : Dev nD) : Vec Ideal S5632x2048 .bf16 := fun y => gradW (arg0 m c) (arg1 m c) (y 0).val (y 1).val

theorem flushed2_eq (c : Dev nD) (t : Fin cfg0.N) (hf : (cfg0.win 2).flush t = true) :
    (dats m 0 c).flushed 2 t = ((cfg0.win 2).blk t).view.read (Elt Ideal) (res m c) := by
  funext y
  rw [View.read_apply]
  have hy0 : (y 0).val < 1408 := (y 0).isLt
  have hy1 : (y 1).val < 2048 := (y 1).isLt
  show (dats m 0 c).after 2 t _ = res m c _
  refine Eq.trans (congrArg _ ?_) ((after_eq m c t ⟨(y 0).val, hy0⟩ ⟨(y 1).val, hy1⟩).trans ?_)
  · funext a; match a with
    | ⟨0, _⟩ => rfl
    | ⟨1, _⟩ => rfl
  · show gradW _ _ _ _ = gradW _ _ (win0_2.index t 0 * 1408 + 1 * (y 0).val) (win0_2.index t 1 * 2048 + 1 * (y 1).val)
    rw [(idx2 t).1, (idx2 t).2, Nat.one_mul, Nat.one_mul]

theorem final2 (c : Dev nD) : (dats m 0 c).arrAt 2 cfg0.N = res m c :=
  (dats m 0 c).arrAt_eq_of_cover 2 (res m c) (flushed2_eq m c) fun i => by
    have hi0 : (i 0).val < 5632 := (i 0).isLt
    have hi1 : (i 1).val < 2048 := (i 1).isLt
    refine ⟨⟨(i 0).val / 1408 * 1 + (i 1).val / 2048, by show _ < grid0.N; rw [Gen.N_0]; omega⟩, flush2 _, ?_⟩
    generalize ht : (⟨(i 0).val / 1408 * 1 + (i 1).val / 2048, _⟩ : Fin grid0.N) = t
    have ht' : t.val = (i 0).val / 1408 * 1 + (i 1).val / 2048 := by rw [← ht]
    show i ∈ ((View.whole main_v0).slice (win0_2.rect t)).set
    rw [View.set_slice_whole, Rect.mem_set_unit]
    intro a
    match a with
    | ⟨0, _⟩ => exact mem_box 1408 (i 0).val (idx2 t).1 (by omega)
    | ⟨1, _⟩ => exact mem_box 2048 (i 1).val (idx2 t).2 (by omega)

end Cert.GwdIdeal.Body

namespace Cert.GwdGradIdeal.Ref
open Cert.GwdGradIdeal.Gen Cert.GwdGradIdeal.Read Cert.AttSpec Cert.MmSpec

theorem ref_eq (x0 : Vec Ideal S2304x5632 .bf16) (x1 : Vec Ideal S2304x2048 .bf16) (i : Fin 5632) (j : Fin 2048) :
    (val_main_v6 (F := Ideal) x0 x1 (ix2 i j) : EReal) = gradW x0 x1 i.val j.val := by
  pointwise [val_main_v0, val_main_v1, val_main_v4, val_main_v5, val_main_v6]
  unfold gradW
  refine Finset.sum_congr rfl fun k _ => ?_
  rw [rd_eq _ _ _ (by omega) (by omega), rd_eq _ _ _ (by omega) (by omega)]
  all_goals first | rfl | exact mul_comm _ _

end Cert.GwdGradIdeal.Ref

namespace Cert.Proof.Gwd

theorem frame_ref : quiescent_GwdGradIdeal := fun m ρ _ =>
  (θ_run GwdGradIdeal.defs _ _).mono (fun r h => ⟨fun c => (h c).2,
      sem_eq_zero_of_no_sems (by decide) r.2⟩)
    (GwdGradIdeal.Value.run (F := Ideal) m ρ)

theorem algebraic : algebraic_GwdIdeal_GwdGradIdeal := by
  intro m ρ m' ρ' _ hagree
  refine ⟨fun c => GwdIdeal.Body.res m c, ?_, ?_⟩
  · refine (θ_run GwdIdeal.defs _ _).mono (fun _ h c => ?_) (GwdIdeal.Value.run_blocks (F := Ideal) m ρ)
    exact ⟨(h c).1.trans (GwdIdeal.Body.final2 m c), (h c).2⟩
  · refine (θ_run GwdGradIdeal.defs _ _).mono (fun _ h c => ?_) (GwdGradIdeal.Value.run (F := Ideal) m' ρ')
    obtain ⟨g0, g1⟩ := hagree c
    refine ⟨((h c).1.trans (GwdGradIdeal.Read.val_main_v6_eq _ _)).trans ?_, (h c).2⟩
    show GwdGradIdeal.Read.val_main_v6 (F := Ideal) (m' (c.tc.loc GwdGradIdeal.main_arg0))
      (m' (c.tc.loc GwdGradIdeal.main_arg1)) = _
    rw [g0, g1]
    funext y
    rw [eq_ix2 y]
    exact GwdGradIdeal.Ref.ref_eq _ _ _ _

end Cert.Proof.Gwd

end
-- ==== Proof.MmDt.lean ====
/- The gradient of what the channel mixer's last projection reads. -/
module

public import proofs.«01_k».proof.Proof.MmSpec
public import proofs.«01_k».proof.Proof.Gen.DtIdeal.Value
public import proofs.«01_k».proof.Proof.Gen.DtGradIdeal.Run
public import proofs.«01_k».proof.Proof.Gen.DtGradIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.DtIdeal.Body
open Idealize.ShloMosaic.Pipeline (Dat)
open Cert.DtIdeal.Gen Cert.DtIdeal.Value Cert.AttSpec Cert.MmSpec

variable (m : (ℓ : Loc nD τ sig) → Buf (Elt Ideal) ℓ)

abbrev arg0 (c : Dev nD) : Vec Ideal S2304x2048 .bf16 := m ((c : Thread nD τ).loc main_arg0)
abbrev arg1 (c : Dev nD) : Vec Ideal S5632x2048 .bf16 := m ((c : Thread nD τ).loc main_arg1)

theorem idx0 : ∀ t : Fin grid0.N, win0_0.index t 0 = t.val / 4 ∧ win0_0.index t 1 = 0 := by decide +kernel
theorem idx1 : ∀ t : Fin grid0.N, win0_1.index t 0 = t.val % 4 ∧ win0_1.index t 1 = 0 := by decide +kernel
theorem idx2 : ∀ t : Fin grid0.N, win0_2.index t 0 = t.val / 4 ∧ win0_2.index t 1 = t.val % 4 := by decide +kernel
theorem flush2 : ∀ t : Fin grid0.N, (cfg0.win 2).flush t = true := by decide +kernel

theorem ltN (t : Fin cfg0.N) : t.val < 4 := lt_of_lt_of_eq t.isLt Gen.N_0

theorem blk0 (c : Dev nD) (t : Fin cfg0.N) (r : Fin 2304) (n : Fin 2048) :
    (iblk m c 0 t (ix2 r n) : EReal) = rd (a := 2304) (b := 2048) (arg0 m c) (t.val / 4 * 2304 + r.val) (n.val) := by
  have ht := ltN t
  rw [rd_eq _ _ _ (by omega) (by omega)]
  unfold iblk
  rw [View.read_apply]
  show V m c main_arg0 _ = m (c.tc.loc main_arg0) _
  unfold V
  congr 1
  funext a
  apply Fin.ext
  match a with
  | ⟨0, _⟩ => show win0_0.index t 0 * 2304 + 1 * r.val = t.val / 4 * 2304 + r.val; rw [(idx0 t).1]; omega
  | ⟨1, _⟩ => show win0_0.index t 1 * 2048 + 1 * n.val = n.val; rw [(idx0 t).2]; omega

theorem blk1 (c : Dev nD) (t : Fin cfg0.N) (r : Fin 1408) (n : Fin 2048) :
    (iblk m c 1 t (ix2 r n) : EReal) = rd (a := 5632) (b := 2048) (arg1 m c) (t.val % 4 * 1408 + r.val) (n.val) := by
  have ht := ltN t
  rw [rd_eq _ _ _ (by omega) (by omega)]
  unfold iblk
  rw [View.read_apply]
  show V m c main_arg1 _ = m (c.tc.loc main_arg1) _
  unfold V
  congr 1
  funext a
  apply Fin.ext
  match a with
  | ⟨0, _⟩ => show win0_1.index t 0 * 1408 + 1 * r.val = t.val % 4 * 1408 + r.val; rw [(idx1 t).1]; omega
  | ⟨1, _⟩ => show win0_1.index t 1 * 2048 + 1 * n.val = n.val; rw [(idx1 t).2]; omega

theorem pay_apply (x0 : Vec Ideal S2304x2048 .bf16) (x1 : Vec Ideal S1408x2048 .bf16) (i : Fin 2304) (j : Fin 1408) :
    (k0_pay1 (F := Ideal) x0 x1 (ix2 i j) : EReal) = ∑ k : Fin 2048, (x0 (ix2 i k) : EReal) * x1 (ix2 j k) := by
  pointwise [k0_pay1]

theorem after_eq (c : Dev nD) (t : Fin cfg0.N) (i : Fin 2304) (j : Fin 1408) :
    ((dats m 0 c).after 2 t (ix2 i j) : EReal) = gradA (arg0 m c) (arg1 m c) (t.val / 4 * 2304 + i.val) (t.val % 4 * 1408 + j.val) := by
  rw [after0_2]
  frame_out
  refine (pay_apply _ _ i j).trans ?_
  unfold gradA
  exact Finset.sum_congr rfl fun k _ => Ideal.mul_congr (blk0 m c t _ _) (blk1 m c t _ _)

/-- The result array. -/
def res (c : Dev nD) : Vec Ideal S2304x5632 .bf16 := fun y => gradA (arg0 m c) (arg1 m c) (y 0).val (y 1).val

theorem flushed2_eq (c : Dev nD) (t : Fin cfg0.N) (hf : (cfg0.win 2).flush t = true) :
    (dats m 0 c).flushed 2 t = ((cfg0.win 2).blk t).view.read (Elt Ideal) (res m c) := by
  funext y
  rw [View.read_apply]
  have hy0 : (y 0).val < 2304 := (y 0).isLt
  have hy1 : (y 1).val < 1408 := (y 1).isLt
  show (dats m 0 c).after 2 t _ = res m c _
  refine Eq.trans (congrArg _ ?_) ((after_eq m c t ⟨(y 0).val, hy0⟩ ⟨(y 1).val, hy1⟩).trans ?_)
  · funext a; match a with
    | ⟨0, _⟩ => rfl
    | ⟨1, _⟩ => rfl
  · show gradA _ _ _ _ = gradA _ _ (win0_2.index t 0 * 2304 + 1 * (y 0).val) (win0_2.index t 1 * 1408 + 1 * (y 1).val)
    rw [(idx2 t).1, (idx2 t).2, Nat.one_mul, Nat.one_mul]

theorem final2 (c : Dev nD) : (dats m 0 c).arrAt 2 cfg0.N = res m c :=
  (dats m 0 c).arrAt_eq_of_cover 2 (res m c) (flushed2_eq m c) fun i => by
    have hi0 : (i 0).val < 2304 := (i 0).isLt
    have hi1 : (i 1).val < 5632 := (i 1).isLt
    refine ⟨⟨(i 0).val / 2304 * 4 + (i 1).val / 1408, by show _ < grid0.N; rw [Gen.N_0]; omega⟩, flush2 _, ?_⟩
    generalize ht : (⟨(i 0).val / 2304 * 4 + (i 1).val / 1408, _⟩ : Fin grid0.N) = t
    have ht' : t.val = (i 0).val / 2304 * 4 + (i 1).val / 1408 := by rw [← ht]
    show i ∈ ((View.whole main_v0).slice (win0_2.rect t)).set
    rw [View.set_slice_whole, Rect.mem_set_unit]
    intro a
    match a with
    | ⟨0, _⟩ => exact mem_box 2304 (i 0).val (idx2 t).1 (by omega)
    | ⟨1, _⟩ => exact mem_box 1408 (i 1).val (idx2 t).2 (by omega)

end Cert.DtIdeal.Body

namespace Cert.DtGradIdeal.Ref
open Cert.DtGradIdeal.Gen Cert.DtGradIdeal.Read Cert.AttSpec Cert.MmSpec

theorem ref_eq (x0 : Vec Ideal S2304x2048 .bf16) (x1 : Vec Ideal S5632x2048 .bf16) (i : Fin 2304) (j : Fin 5632) :
    (val_main_v5 (F := Ideal) x0 x1 (ix2 i j) : EReal) = gradA x0 x1 i.val j.val := by
  pointwise [val_main_v0, val_main_v1, val_main_v4, val_main_v5]
  unfold gradA
  refine Finset.sum_congr rfl fun k _ => ?_
  rw [rd_eq _ _ _ (by omega) (by omega), rd_eq _ _ _ (by omega) (by omega)]
  all_goals first | rfl | exact mul_comm _ _

end Cert.DtGradIdeal.Ref

namespace Cert.Proof.Dt

theorem frame_ref : quiescent_DtGradIdeal := fun m ρ _ =>
  (θ_run DtGradIdeal.defs _ _).mono (fun r h => ⟨fun c => (h c).2,
      sem_eq_zero_of_no_sems (by decide) r.2⟩)
    (DtGradIdeal.Value.run (F := Ideal) m ρ)

theorem algebraic : algebraic_DtIdeal_DtGradIdeal := by
  intro m ρ m' ρ' _ hagree
  refine ⟨fun c => DtIdeal.Body.res m c, ?_, ?_⟩
  · refine (θ_run DtIdeal.defs _ _).mono (fun _ h c => ?_) (DtIdeal.Value.run_blocks (F := Ideal) m ρ)
    exact ⟨(h c).1.trans (DtIdeal.Body.final2 m c), (h c).2⟩
  · refine (θ_run DtGradIdeal.defs _ _).mono (fun _ h c => ?_) (DtGradIdeal.Value.run (F := Ideal) m' ρ')
    obtain ⟨g0, g1⟩ := hagree c
    refine ⟨((h c).1.trans (DtGradIdeal.Read.val_main_v5_eq _ _)).trans ?_, (h c).2⟩
    show DtGradIdeal.Read.val_main_v5 (F := Ideal) (m' (c.tc.loc DtGradIdeal.main_arg0))
      (m' (c.tc.loc DtGradIdeal.main_arg1)) = _
    rw [g0, g1]
    funext y
    rw [eq_ix2 y]
    exact DtGradIdeal.Ref.ref_eq _ _ _ _

end Cert.Proof.Dt

end
-- ==== Proof.MmGwu.lean ====
/- The gradient of the channel mixer's first projection's weights, laid out as the shares of the eight devices. -/
module

public import proofs.«01_k».proof.Proof.MmSpec
public import proofs.«01_k».proof.Proof.Gen.GwuIdeal.Value
public import proofs.«01_k».proof.Proof.Gen.GwuGradIdeal.Run
public import proofs.«01_k».proof.Proof.Gen.GwuGradIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.GwuIdeal.Body
open Idealize.ShloMosaic.Pipeline (Dat)
open Cert.GwuIdeal.Gen Cert.GwuIdeal.Value Cert.AttSpec Cert.MmSpec

variable (m : (ℓ : Loc nD τ sig) → Buf (Elt Ideal) ℓ)

abbrev arg0 (c : Dev nD) : Vec Ideal S2304x2048 .bf16 := m ((c : Thread nD τ).loc main_arg0)
abbrev arg1 (c : Dev nD) : Vec Ideal S2304x11264 .bf16 := m ((c : Thread nD τ).loc main_arg1)

/-- The two halves of the columns, one behind the other. -/
def stack (x : Vec Ideal S2304x11264 .bf16) : Vec Ideal S2x2304x5632 .bf16 :=
  concatenate S2x2304x5632 0
    [⟨S1x2304x5632, broadcastInDim S1x2304x5632 ![1, 2] bcast_S2304x5632_S1x2304x5632_1_2
        (extractStridedSlice S2304x5632 ![0, 0] x slices_S2304x11264_S2304x5632_0_0)⟩,
     ⟨S1x2304x5632, broadcastInDim S1x2304x5632 ![1, 2] bcast_S2304x5632_S1x2304x5632_1_2
        (extractStridedSlice S2304x5632 ![0, 5632] x slices_S2304x11264_S2304x5632_0_5632)⟩]
    concatenates_S1x2304x5632_S1x2304x5632_S2x2304x5632_d0

theorem V_main_v4 (c : Dev nD) : V m c main_v4 = stack (arg1 m c) := by
  show StableHlo.after hostOps0 _ (Proc.devRef .tc main_v4) = _
  after_results
  rfl

theorem stack_apply (x : Vec Ideal S2304x11264 .bf16) (h : Fin 2) (r : Fin 2304) (n : Fin 5632) :
    (stack x (ix3 h r n) : EReal) = rd (a := 2304) (b := 11264) x r.val (h.val * 5632 + n.val) := by
  have hh := h.isLt
  rw [rd_eq _ _ _ (by omega) (by omega)]
  match h with
  | ⟨0, _⟩ =>
    pointwise [stack]
  | ⟨1, _⟩ =>
    pointwise [stack]

theorem idx0 : ∀ t : Fin grid0.N, win0_0.index t 0 = 0 ∧ win0_0.index t 1 = 0 := by decide +kernel
theorem idx1 : ∀ t : Fin grid0.N, win0_1.index t 0 = t.val / 4 ∧ win0_1.index t 1 = 0 ∧ win0_1.index t 2 = t.val % 4 := by decide +kernel
theorem idx2 : ∀ t : Fin grid0.N, win0_2.index t 0 = t.val ∧ win0_2.index t 1 = 0 ∧ win0_2.index t 2 = 0 := by decide +kernel
theorem flush2 : ∀ t : Fin grid0.N, (cfg0.win 2).flush t = true := by decide +kernel

theorem ltN (t : Fin cfg0.N) : t.val < 8 := lt_of_lt_of_eq t.isLt Gen.N_0

theorem blk0 (c : Dev nD) (t : Fin cfg0.N) (r : Fin 2304) (n : Fin 2048) :
    (iblk m c 0 t (ix2 r n) : EReal) = rd (a := 2304) (b := 2048) (arg0 m c) r.val n.val := by
  rw [rd_eq _ _ _ (by omega) (by omega)]
  unfold iblk
  rw [View.read_apply]
  show V m c main_arg0 _ = m (c.tc.loc main_arg0) _
  rw [V_main_arg0]
  congr 1
  funext a
  apply Fin.ext
  match a with
  | ⟨0, _⟩ => show win0_0.index t 0 * 2304 + 1 * r.val = r.val; rw [(idx0 t).1]; omega
  | ⟨1, _⟩ => show win0_0.index t 1 * 2048 + 1 * n.val = n.val; rw [(idx0 t).2]; omega

theorem blk1 (c : Dev nD) (t : Fin cfg0.N) (z : Fin 1) (r : Fin 2304) (n : Fin 1408) :
    (iblk m c 1 t (ix3 z r n) : EReal) = rd (a := 2304) (b := 11264) (arg1 m c) r.val (t.val * 1408 + n.val) := by
  have ht := ltN t
  unfold iblk
  rw [View.read_apply]
  show V m c main_v4 _ = _
  rw [V_main_v4]
  refine Eq.trans (congrArg _ ?_) ((stack_apply (arg1 m c) ⟨t.val / 4, by omega⟩ r ⟨t.val % 4 * 1408 + n.val, by omega⟩).trans ?_)
  · funext a
    apply Fin.ext
    match a with
    | ⟨0, _⟩ => show win0_1.index t 0 * 1 + 1 * z.val = t.val / 4; rw [(idx1 t).1]; omega
    | ⟨1, _⟩ => show win0_1.index t 1 * 2304 + 1 * r.val = r.val; rw [(idx1 t).2.1]; omega
    | ⟨2, _⟩ => show win0_1.index t 2 * 1408 + 1 * n.val = t.val % 4 * 1408 + n.val; rw [(idx1 t).2.2]; omega
  · congr 1
    dsimp only
    omega

theorem pay_apply (x0 : Vec Ideal S2304x2048 .bf16) (x1 : Vec Ideal S1x2304x1408 .bf16) (z : Fin 1) (i : Fin 2048) (j : Fin 1408) :
    (k0_pay1 (F := Ideal) x0 x1 (ix3 z i j) : EReal) = ∑ k : Fin 2304, (x0 (ix2 k i) : EReal) * x1 (ix3 0 k j) := by
  pointwise [k0_pay1]

theorem after_eq (c : Dev nD) (t : Fin cfg0.N) (z : Fin 1) (i : Fin 2048) (j : Fin 1408) :
    ((dats m 0 c).after 2 t (ix3 z i j) : EReal) = gradW (arg0 m c) (arg1 m c) i.val (t.val * 1408 + j.val) := by
  rw [after0_2]
  frame_out
  refine (pay_apply _ _ z i j).trans ?_
  unfold gradW
  exact Finset.sum_congr rfl fun k _ => Ideal.mul_congr (blk0 m c t _ _) (blk1 m c t _ _ _)

/-- The result array. -/
def res (c : Dev nD) : Vec Ideal S8x2048x1408 .bf16 := fun y => gradW (arg0 m c) (arg1 m c) (y 1).val ((y 0).val * 1408 + (y 2).val)

theorem flushed2_eq (c : Dev nD) (t : Fin cfg0.N) (hf : (cfg0.win 2).flush t = true) :
    (dats m 0 c).flushed 2 t = ((cfg0.win 2).blk t).view.read (Elt Ideal) (res m c) := by
  funext y
  rw [View.read_apply]
  have hy0 : (y 0).val < 1 := (y 0).isLt
  have hy1 : (y 1).val < 2048 := (y 1).isLt
  have hy2 : (y 2).val < 1408 := (y 2).isLt
  show (dats m 0 c).after 2 t _ = res m c _
  refine Eq.trans (congrArg _ ?_) ((after_eq m c t ⟨(y 0).val, hy0⟩ ⟨(y 1).val, hy1⟩ ⟨(y 2).val, hy2⟩).trans ?_)
  · funext a; match a with
    | ⟨0, _⟩ => rfl
    | ⟨1, _⟩ => rfl
    | ⟨2, _⟩ => rfl
  · show gradW _ _ _ _ = gradW _ _ (win0_2.index t 1 * 2048 + 1 * (y 1).val) ((win0_2.index t 0 * 1 + 1 * (y 0).val) * 1408 + (win0_2.index t 2 * 1408 + 1 * (y 2).val))
    rw [(idx2 t).1, (idx2 t).2.1, (idx2 t).2.2]
    congr 1 <;> dsimp only <;> omega

theorem final2 (c : Dev nD) : (dats m 0 c).arrAt 2 cfg0.N = res m c :=
  (dats m 0 c).arrAt_eq_of_cover 2 (res m c) (flushed2_eq m c) fun i => by
    have hi0 : (i 0).val < 8 := (i 0).isLt
    have hi1 : (i 1).val < 2048 := (i 1).isLt
    have hi2 : (i 2).val < 1408 := (i 2).isLt
    refine ⟨⟨(i 0).val, by show _ < grid0.N; rw [Gen.N_0]; omega⟩, flush2 _, ?_⟩
    generalize ht : (⟨(i 0).val, _⟩ : Fin grid0.N) = t
    have ht' : t.val = (i 0).val := by rw [← ht]
    show i ∈ ((View.whole main_v5).slice (win0_2.rect t)).set
    rw [View.set_slice_whole, Rect.mem_set_unit]
    intro a
    match a with
    | ⟨0, _⟩ => exact mem_box 1 (i 0).val (idx2 t).1 (by omega)
    | ⟨1, _⟩ =>
      show win0_2.index t 1 * 2048 ≤ (i 1 : Nat) ∧ (i 1 : Nat) < win0_2.index t 1 * 2048 + 2048
      rw [(idx2 t).2.1]; omega
    | ⟨2, _⟩ =>
      show win0_2.index t 2 * 1408 ≤ (i 2 : Nat) ∧ (i 2 : Nat) < win0_2.index t 2 * 1408 + 1408
      rw [(idx2 t).2.2]; omega

end Cert.GwuIdeal.Body

namespace Cert.GwuGradIdeal.Ref
open Cert.GwuGradIdeal.Gen Cert.GwuGradIdeal.Read Cert.AttSpec Cert.MmSpec

theorem ref_eq (x0 : Vec Ideal S2304x2048 .bf16) (x1 : Vec Ideal S2304x11264 .bf16) (z : Fin 8) (i : Fin 2048) (j : Fin 1408) :
    (val_main_v8 (F := Ideal) x0 x1 (ix3 z i j) : EReal) = gradW x0 x1 i.val (z.val * 1408 + j.val) := by
  have hz := z.isLt
  have hj := j.isLt
  pointwise [val_main_v0, val_main_v1, val_main_v4, val_main_v5, val_main_v6, val_main_v7, val_main_v8]
  unfold gradW
  refine Finset.sum_congr rfl fun k _ => ?_
  rw [rd_eq _ _ _ (by omega) (by omega), rd_eq _ _ _ (by omega) (by omega)]
  all_goals first | rfl | exact mul_comm _ _

end Cert.GwuGradIdeal.Ref

namespace Cert.Proof.Gwu

theorem frame_ref : quiescent_GwuGradIdeal := fun m ρ _ =>
  (θ_run GwuGradIdeal.defs _ _).mono (fun r h => ⟨fun c => (h c).2,
      sem_eq_zero_of_no_sems (by decide) r.2⟩)
    (GwuGradIdeal.Value.run (F := Ideal) m ρ)

theorem algebraic : algebraic_GwuIdeal_GwuGradIdeal := by
  intro m ρ m' ρ' _ hagree
  refine ⟨fun c => GwuIdeal.Body.res m c, ?_, ?_⟩
  · refine (θ_run GwuIdeal.defs _ _).mono (fun _ h c => ?_) (GwuIdeal.Value.run_blocks (F := Ideal) m ρ)
    exact ⟨(h c).1.trans (GwuIdeal.Body.final2 m c), (h c).2⟩
  · refine (θ_run GwuGradIdeal.defs _ _).mono (fun _ h c => ?_) (GwuGradIdeal.Value.run (F := Ideal) m' ρ')
    obtain ⟨g0, g1⟩ := hagree c
    refine ⟨((h c).1.trans (GwuGradIdeal.Read.val_main_v8_eq _ _)).trans ?_, (h c).2⟩
    show GwuGradIdeal.Read.val_main_v8 (F := Ideal) (m' (c.tc.loc GwuGradIdeal.main_arg0))
      (m' (c.tc.loc GwuGradIdeal.main_arg1)) = _
    rw [g0, g1]
    funext y
    rw [eq_ix3 y]
    exact GwuGradIdeal.Ref.ref_eq _ _ _ _ _

end Cert.Proof.Gwu

end
-- ==== Proof.MmDh2.lean ====
/- The gradient of what the channel mixer's first projection reads. -/
module

public import proofs.«01_k».proof.Proof.MmSpec
public import proofs.«01_k».proof.Proof.Gen.Dh2Ideal.Value
public import proofs.«01_k».proof.Proof.Gen.Dh2GradIdeal.Run
public import proofs.«01_k».proof.Proof.Gen.Dh2GradIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.Dh2Ideal.Body
open Idealize.ShloMosaic.Pipeline (Dat)
open Cert.Dh2Ideal.Gen Cert.Dh2Ideal.Value Cert.AttSpec Cert.MmSpec

variable (m : (ℓ : Loc nD τ sig) → Buf (Elt Ideal) ℓ)

abbrev arg0 (c : Dev nD) : Vec Ideal S2304x11264 .bf16 := m ((c : Thread nD τ).loc main_arg0)
abbrev arg1 (c : Dev nD) : Vec Ideal S2048x11264 .bf16 := m ((c : Thread nD τ).loc main_arg1)

theorem idx1 : ∀ t : Fin grid0.N, win0_1.index t 0 = t.val / 8 ∧ win0_1.index t 1 = t.val % 8 := by decide +kernel
theorem idx2 : ∀ t : Fin grid0.N, win0_2.index t 0 = 0 ∧ win0_2.index t 1 = t.val / 8 := by decide +kernel

theorem ltN (t : Fin cfg0.N) : t.val < 16 := lt_of_lt_of_eq t.isLt Gen.N_0

/-- The two halves of the columns, one behind the other. -/
def stack (x : Vec Ideal S2304x11264 .bf16) : Vec Ideal S2x2304x5632 .bf16 :=
  concatenate S2x2304x5632 0
    [⟨S1x2304x5632, broadcastInDim S1x2304x5632 ![1, 2] bcast_S2304x5632_S1x2304x5632_1_2
        (extractStridedSlice S2304x5632 ![0, 0] x slices_S2304x11264_S2304x5632_0_0)⟩,
     ⟨S1x2304x5632, broadcastInDim S1x2304x5632 ![1, 2] bcast_S2304x5632_S1x2304x5632_1_2
        (extractStridedSlice S2304x5632 ![0, 5632] x slices_S2304x11264_S2304x5632_0_5632)⟩]
    concatenates_S1x2304x5632_S1x2304x5632_S2x2304x5632_d0

theorem V_main_v4 (c : Dev nD) : V m c main_v4 = stack (arg0 m c) := by
  show StableHlo.after hostOps0 _ (Proc.devRef .tc main_v4) = _
  after_results
  rfl

theorem stack_apply (x : Vec Ideal S2304x11264 .bf16) (h : Fin 2) (r : Fin 2304) (n : Fin 5632) :
    (stack x (ix3 h r n) : EReal) = rd (a := 2304) (b := 11264) x r.val (h.val * 5632 + n.val) := by
  have hh := h.isLt
  rw [rd_eq _ _ _ (by omega) (by omega)]
  match h with
  | ⟨0, _⟩ =>
    pointwise [stack]
  | ⟨1, _⟩ =>
    pointwise [stack]

theorem idx0 : ∀ t : Fin grid0.N, win0_0.index t 0 = t.val % 8 / 4 ∧ win0_0.index t 1 = 0 ∧ win0_0.index t 2 = t.val % 4 := by decide +kernel

theorem blk0 (c : Dev nD) (t : Fin cfg0.N) (z : Fin 1) (r : Fin 2304) (n : Fin 1408) :
    (iblk m c 0 t (ix3 z r n) : EReal) = rd (a := 2304) (b := 11264) (arg0 m c) r.val (t.val % 8 * 1408 + n.val) := by
  have ht := ltN t
  unfold iblk
  rw [View.read_apply]
  show V m c main_v4 _ = _
  rw [V_main_v4]
  refine Eq.trans (congrArg _ ?_) ((stack_apply (arg0 m c) ⟨t.val % 8 / 4, by omega⟩ r ⟨t.val % 4 * 1408 + n.val, by omega⟩).trans ?_)
  · funext a
    apply Fin.ext
    match a with
    | ⟨0, _⟩ => show win0_0.index t 0 * 1 + 1 * z.val = t.val % 8 / 4; rw [(idx0 t).1]; omega
    | ⟨1, _⟩ => show win0_0.index t 1 * 2304 + 1 * r.val = r.val; rw [(idx0 t).2.1]; omega
    | ⟨2, _⟩ => show win0_0.index t 2 * 1408 + 1 * n.val = t.val % 4 * 1408 + n.val; rw [(idx0 t).2.2]; omega
  · congr 1
    dsimp only
    omega

theorem blk1 (c : Dev nD) (t : Fin cfg0.N) (r : Fin 1024) (n : Fin 1408) :
    (iblk m c 1 t (ix2 r n) : EReal) = rd (a := 2048) (b := 11264) (arg1 m c) (t.val / 8 * 1024 + r.val) (t.val % 8 * 1408 + n.val) := by
  have ht := ltN t
  rw [rd_eq _ _ _ (by omega) (by omega)]
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * r.val = t.val / 8 * 1024 + r.val; rw [(idx1 t).1]; omega
  | ⟨1, _⟩ => show win0_1.index t 1 * 1408 + 1 * n.val = t.val % 8 * 1408 + n.val; rw [(idx1 t).2]; omega

/-- One step's part of the entry. -/
def part (x0 : Vec Ideal S1x2304x1408 .bf16) (x1 : Vec Ideal S1024x1408 .bf16) (i : Fin 2304) (j : Fin 1024) : EReal :=
  ∑ k : Fin 1408, (x0 (ix3 0 i k) : EReal) * x1 (ix2 j k)

theorem first_apply (x0 : Vec Ideal S1x2304x1408 .bf16) (x1 : Vec Ideal S1024x1408 .bf16) (i : Fin 2304) (j : Fin 1024) :
    (k0_pay2 (F := Ideal) (k0_pay1 (F := Ideal)) x0 x1 (ix2 i j) : EReal) = part x0 x1 i j := by
  unfold part
  pointwise [k0_pay2, k0_pay1]
  all_goals simp

theorem next_apply (acc : Vec Ideal S2304x1024 .f32) (x0 : Vec Ideal S1x2304x1408 .bf16) (x1 : Vec Ideal S1024x1408 .bf16) (i : Fin 2304) (j : Fin 1024) :
    (k0_pay2 (F := Ideal) acc x0 x1 (ix2 i j) : EReal) = (acc (ix2 i j) : EReal) + part x0 x1 i j := by
  unfold part
  pointwise [k0_pay2]

/-- The product of the entries at place `k` of the sum. -/
def tm (c : Dev nD) (i j k : Nat) : EReal :=
  rd (a := 2304) (b := 11264) (arg0 m c) i k * rd (a := 2048) (b := 11264) (arg1 m c) j k

theorem part_eq (c : Dev nD) (t : Fin cfg0.N) (i : Fin 2304) (j : Fin 1024) :
    part (iblk m c 0 t) (iblk m c 1 t) i j
      = ∑ k : Fin 1408, tm m c i.val (t.val / 8 * 1024 + j.val) (t.val % 8 * 1408 + k.val) :=
  Finset.sum_congr rfl fun k _ => Ideal.mul_congr (blk0 m c t _ _ _) (blk1 m c t _ _)

/-- The sum held after point `n`. -/
theorem acc_eq (c : Dev nD) (i : Fin 2304) (j : Fin 1024) : ∀ (n : Nat) (h : n < cfg0.N),
    ((outsAt0 m c n h).2 (ix2 i j) : EReal)
      = ∑ s ∈ Finset.range (n % 8 + 1), ∑ k : Fin 1408, tm m c i.val (n / 8 * 1024 + j.val) (s * 1408 + k.val) := by
  intro n
  induction n with
  | zero =>
    intro h
    rw [outsAt0_A m c ⟨0, h⟩ rfl (by dsimp only; omega)]
    frame_out
    rw [first_apply, part_eq m c ⟨0, h⟩ i j]
    simp
  | succ n ih =>
    intro h
    have hn : n + 1 < 16 := lt_of_lt_of_eq h Gen.N_0
    by_cases h0 : (n + 1) % 8 = 0
    · rw [outsAt0_A m c ⟨n + 1, h⟩ h0 (by dsimp only; omega)]
      frame_out
      rw [first_apply, part_eq m c ⟨n + 1, h⟩ i j]
      simp [h0]
    · have a1 : (n + 1) % 8 = n % 8 + 1 := by omega
      have a2 : (n + 1) / 8 = n / 8 := by omega
      have key : (k0_pay2 (F := Ideal) (outsAt0 m c n (Nat.lt_of_succ_lt h)).2 (iblk m c 0 ⟨n + 1, h⟩) (iblk m c 1 ⟨n + 1, h⟩) (ix2 i j) : EReal)
          = ∑ s ∈ Finset.range ((n + 1) % 8 + 1), ∑ k : Fin 1408, tm m c i.val ((n + 1) / 8 * 1024 + j.val) (s * 1408 + k.val) := by
        rw [next_apply, ih (Nat.lt_of_succ_lt h), part_eq m c ⟨n + 1, h⟩ i j]
        show _ + (∑ k : Fin 1408, tm m c i.val ((n + 1) / 8 * 1024 + j.val) ((n + 1) % 8 * 1408 + k.val)) = _
        rw [a1, a2, Finset.sum_range_succ _ (n % 8 + 1)]
      by_cases h1 : (n + 1) % 8 = 7
      · rw [outsAt0_C m c ⟨n + 1, h⟩ h0 h1]
        frame_out
        exact (congrArg (fun a => (k0_pay2 (F := Ideal) a (iblk m c 0 ⟨n + 1, h⟩) (iblk m c 1 ⟨n + 1, h⟩) (ix2 i j) : EReal))
          (Memref.IsWhole.read_unread (Memref.isWhole_whole _) _)).trans key
      · rw [outsAt0_B m c ⟨n + 1, h⟩ h0 h1]
        frame_out
        exact (congrArg (fun a => (k0_pay2 (F := Ideal) a (iblk m c 0 ⟨n + 1, h⟩) (iblk m c 1 ⟨n + 1, h⟩) (ix2 i j) : EReal))
          (Memref.IsWhole.read_unread (Memref.isWhole_whole _) _)).trans key

theorem last_eq (c : Dev nD) (t : Fin cfg0.N) (h1 : t.val % 8 = 7) (i : Fin 2304) (j : Fin 1024) :
    ((outsAt0 m c t.val t.isLt).1 (ix2 i j) : EReal) = ((outsAt0 m c t.val t.isLt).2 (ix2 i j) : EReal) := by
  rw [outsAt0_C m c t (by omega) h1]
  frame_out
  rfl

theorem after_eq (c : Dev nD) (t : Fin cfg0.N) (hf : (cfg0.win 2).flush t = true) (i : Fin 2304) (j : Fin 1024) :
    ((dats m 0 c).after 2 t (ix2 i j) : EReal) = gradA (arg0 m c) (arg1 m c) i.val (t.val / 8 * 1024 + j.val) := by
  have h1 : t.val % 8 = 7 := (flush0_2 t).mp hf
  rw [after0_2, last_eq m c t h1, acc_eq, h1, Finset.sum_range]
  exact Fin.sum_univ_univ_mul_add 8 1408 (tm m c i.val (t.val / 8 * 1024 + j.val))

/-- The result array. -/
def res (c : Dev nD) : Vec Ideal S2304x2048 .bf16 := fun y => gradA (arg0 m c) (arg1 m c) (y 0).val (y 1).val

theorem flushed_res (c : Dev nD) (t : Fin cfg0.N) (hf : (cfg0.win 2).flush t = true) :
    (dats m 0 c).flushed 2 t = ((cfg0.win 2).blk t).view.read (Elt Ideal) (res m c) := by
  funext y
  rw [View.read_apply]
  have hy0 : (y 0).val < 2304 := (y 0).isLt
  have hy1 : (y 1).val < 1024 := (y 1).isLt
  show (dats m 0 c).after 2 t _ = res m c _
  refine Eq.trans (congrArg _ ?_) ((after_eq m c t hf ⟨(y 0).val, hy0⟩ ⟨(y 1).val, hy1⟩).trans ?_)
  · funext a; match a with
    | ⟨0, _⟩ => rfl
    | ⟨1, _⟩ => rfl
  · show gradA _ _ _ _ = gradA _ _ (win0_2.index t 0 * 2304 + 1 * (y 0).val) (win0_2.index t 1 * 1024 + 1 * (y 1).val)
    rw [(idx2 t).1, (idx2 t).2, Nat.one_mul, Nat.one_mul, Nat.zero_mul, Nat.zero_add]

theorem final_res (c : Dev nD) : (dats m 0 c).arrAt 2 cfg0.N = res m c :=
  (dats m 0 c).arrAt_eq_of_cover 2 (res m c) (flushed_res m c) fun i => by
    have hi0 : (i 0).val < 2304 := (i 0).isLt
    have hi1 : (i 1).val < 2048 := (i 1).isLt
    refine ⟨⟨(i 1).val / 1024 * 8 + 7, by show _ < grid0.N; rw [Gen.N_0]; omega⟩, (flush0_2 _).mpr (by dsimp only; omega), ?_⟩
    generalize ht : (⟨(i 1).val / 1024 * 8 + 7, _⟩ : Fin grid0.N) = t
    have ht' : t.val = (i 1).val / 1024 * 8 + 7 := by rw [← ht]
    show i ∈ ((View.whole main_v5).slice (win0_2.rect t)).set
    rw [View.set_slice_whole, Rect.mem_set_unit]
    intro a
    match a with
    | ⟨0, _⟩ => exact mem_box 2304 (i 0).val (idx2 t).1 (by omega)
    | ⟨1, _⟩ => exact mem_box 1024 (i 1).val (idx2 t).2 (by omega)

end Cert.Dh2Ideal.Body

namespace Cert.Dh2GradIdeal.Ref
open Cert.Dh2GradIdeal.Gen Cert.Dh2GradIdeal.Read Cert.AttSpec Cert.MmSpec

theorem ref_eq (x0 : Vec Ideal S2304x11264 .bf16) (x1 : Vec Ideal S2048x11264 .bf16) (i : Fin 2304) (j : Fin 2048) :
    (val_main_v5 (F := Ideal) x0 x1 (ix2 i j) : EReal) = gradA x0 x1 i.val j.val := by
  pointwise [val_main_v0, val_main_v1, val_main_v4, val_main_v5]
  unfold gradA
  refine Finset.sum_congr rfl fun k _ => ?_
  rw [rd_eq _ _ _ (by omega) (by omega), rd_eq _ _ _ (by omega) (by omega)]
  all_goals first | rfl | exact mul_comm _ _

end Cert.Dh2GradIdeal.Ref

namespace Cert.Proof.Dh2

theorem frame_ref : quiescent_Dh2GradIdeal := fun m ρ _ =>
  (θ_run Dh2GradIdeal.defs _ _).mono (fun r h => ⟨fun c => (h c).2,
      sem_eq_zero_of_no_sems (by decide) r.2⟩)
    (Dh2GradIdeal.Value.run (F := Ideal) m ρ)

theorem algebraic : algebraic_Dh2Ideal_Dh2GradIdeal := by
  intro m ρ m' ρ' _ hagree
  refine ⟨fun c => Dh2Ideal.Body.res m c, ?_, ?_⟩
  · refine (θ_run Dh2Ideal.defs _ _).mono (fun _ h c => ?_) (Dh2Ideal.Value.run_blocks (F := Ideal) m ρ)
    exact ⟨(h c).1.trans (Dh2Ideal.Body.final_res m c), (h c).2⟩
  · refine (θ_run Dh2GradIdeal.defs _ _).mono (fun _ h c => ?_) (Dh2GradIdeal.Value.run (F := Ideal) m' ρ')
    obtain ⟨g0, g1⟩ := hagree c
    refine ⟨((h c).1.trans (Dh2GradIdeal.Read.val_main_v5_eq _ _)).trans ?_, (h c).2⟩
    show Dh2GradIdeal.Read.val_main_v5 (F := Ideal) (m' (c.tc.loc Dh2GradIdeal.main_arg0))
      (m' (c.tc.loc Dh2GradIdeal.main_arg1)) = _
    rw [g0, g1]
    funext y
    rw [eq_ix2 y]
    exact Dh2GradIdeal.Ref.ref_eq _ _ _ _

end Cert.Proof.Dh2

end
-- ==== Proof.MmGwo.lean ====
/- The gradient of the token mixer's output projection's weights. -/
module

public import proofs.«01_k».proof.Proof.MmSpec
public import proofs.«01_k».proof.Proof.Gen.GwoIdeal.Value
public import proofs.«01_k».proof.Proof.Gen.GwoGradIdeal.Run
public import proofs.«01_k».proof.Proof.Gen.GwoGradIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.GwoIdeal.Body
open Idealize.ShloMosaic.Pipeline (Dat)
open Cert.GwoIdeal.Gen Cert.GwoIdeal.Value Cert.AttSpec Cert.MmSpec

variable (m : (ℓ : Loc nD τ sig) → Buf (Elt Ideal) ℓ)

abbrev arg0 (c : Dev nD) : Vec Ideal S2304x2048 .bf16 := m ((c : Thread nD τ).loc main_arg0)
abbrev arg1 (c : Dev nD) : Vec Ideal S2304x2048 .bf16 := m ((c : Thread nD τ).loc main_arg1)

theorem idx0 : ∀ t : Fin grid0.N, win0_0.index t 0 = 0 ∧ win0_0.index t 1 = t.val / 2 := by decide +kernel
theorem idx1 : ∀ t : Fin grid0.N, win0_1.index t 0 = 0 ∧ win0_1.index t 1 = t.val % 2 := by decide +kernel
theorem idx2 : ∀ t : Fin grid0.N, win0_2.index t 0 = t.val / 2 ∧ win0_2.index t 1 = t.val % 2 := by decide +kernel
theorem flush2 : ∀ t : Fin grid0.N, (cfg0.win 2).flush t = true := by decide +kernel

theorem ltN (t : Fin cfg0.N) : t.val < 2 := lt_of_lt_of_eq t.isLt Gen.N_0

theorem blk0 (c : Dev nD) (t : Fin cfg0.N) (r : Fin 2304) (n : Fin 2048) :
    (iblk m c 0 t (ix2 r n) : EReal) = rd (a := 2304) (b := 2048) (arg0 m c) (r.val) (t.val / 2 * 2048 + n.val) := by
  have ht := ltN t
  rw [rd_eq _ _ _ (by omega) (by omega)]
  unfold iblk
  rw [View.read_apply]
  show V m c main_arg0 _ = m (c.tc.loc main_arg0) _
  unfold V
  congr 1
  funext a
  apply Fin.ext
  match a with
  | ⟨0, _⟩ => show win0_0.index t 0 * 2304 + 1 * r.val = r.val; rw [(idx0 t).1]; omega
  | ⟨1, _⟩ => show win0_0.index t 1 * 2048 + 1 * n.val = t.val / 2 * 2048 + n.val; rw [(idx0 t).2]; omega

theorem blk1 (c : Dev nD) (t : Fin cfg0.N) (r : Fin 2304) (n : Fin 1024) :
    (iblk m c 1 t (ix2 r n) : EReal) = rd (a := 2304) (b := 2048) (arg1 m c) (r.val) (t.val % 2 * 1024 + n.val) := by
  have ht := ltN t
  rw [rd_eq _ _ _ (by omega) (by omega)]
  unfold iblk
  rw [View.read_apply]
  show V m c main_arg1 _ = m (c.tc.loc main_arg1) _
  unfold V
  congr 1
  funext a
  apply Fin.ext
  match a with
  | ⟨0, _⟩ => show win0_1.index t 0 * 2304 + 1 * r.val = r.val; rw [(idx1 t).1]; omega
  | ⟨1, _⟩ => show win0_1.index t 1 * 1024 + 1 * n.val = t.val % 2 * 1024 + n.val; rw [(idx1 t).2]; omega

theorem pay_apply (x0 : Vec Ideal S2304x2048 .bf16) (x1 : Vec Ideal S2304x1024 .bf16) (i : Fin 2048) (j : Fin 1024) :
    (k0_pay1 (F := Ideal) x0 x1 (ix2 i j) : EReal) = ∑ k : Fin 2304, (x0 (ix2 k i) : EReal) * x1 (ix2 k j) := by
  pointwise [k0_pay1]

theorem after_eq (c : Dev nD) (t : Fin cfg0.N) (i : Fin 2048) (j : Fin 1024) :
    ((dats m 0 c).after 2 t (ix2 i j) : EReal) = gradW (arg0 m c) (arg1 m c) (t.val / 2 * 2048 + i.val) (t.val % 2 * 1024 + j.val) := by
  rw [after0_2]
  frame_out
  refine (pay_apply _ _ i j).trans ?_
  unfold gradW
  exact Finset.sum_congr rfl fun k _ => Ideal.mul_congr (blk0 m c t _ _) (blk1 m c t _ _)

/-- The result array. -/
def res (c : Dev nD) : Vec Ideal S2048x2048 .bf16 := fun y => gradW (arg0 m c) (arg1 m c) (y 0).val (y 1).val

theorem flushed2_eq (c : Dev nD) (t : Fin cfg0.N) (hf : (cfg0.win 2).flush t = true) :
    (dats m 0 c).flushed 2 t = ((cfg0.win 2).blk t).view.read (Elt Ideal) (res m c) := by
  funext y
  rw [View.read_apply]
  have hy0 : (y 0).val < 2048 := (y 0).isLt
  have hy1 : (y 1).val < 1024 := (y 1).isLt
  show (dats m 0 c).after 2 t _ = res m c _
  refine Eq.trans (congrArg _ ?_) ((after_eq m c t ⟨(y 0).val, hy0⟩ ⟨(y 1).val, hy1⟩).trans ?_)
  · funext a; match a with
    | ⟨0, _⟩ => rfl
    | ⟨1, _⟩ => rfl
  · show gradW _ _ _ _ = gradW _ _ (win0_2.index t 0 * 2048 + 1 * (y 0).val) (win0_2.index t 1 * 1024 + 1 * (y 1).val)
    rw [(idx2 t).1, (idx2 t).2, Nat.one_mul, Nat.one_mul]

theorem final2 (c : Dev nD) : (dats m 0 c).arrAt 2 cfg0.N = res m c :=
  (dats m 0 c).arrAt_eq_of_cover 2 (res m c) (flushed2_eq m c) fun i => by
    have hi0 : (i 0).val < 2048 := (i 0).isLt
    have hi1 : (i 1).val < 2048 := (i 1).isLt
    refine ⟨⟨(i 0).val / 2048 * 2 + (i 1).val / 1024, by show _ < grid0.N; rw [Gen.N_0]; omega⟩, flush2 _, ?_⟩
    generalize ht : (⟨(i 0).val / 2048 * 2 + (i 1).val / 1024, _⟩ : Fin grid0.N) = t
    have ht' : t.val = (i 0).val / 2048 * 2 + (i 1).val / 1024 := by rw [← ht]
    show i ∈ ((View.whole main_v0).slice (win0_2.rect t)).set
    rw [View.set_slice_whole, Rect.mem_set_unit]
    intro a
    match a with
    | ⟨0, _⟩ => exact mem_box 2048 (i 0).val (idx2 t).1 (by omega)
    | ⟨1, _⟩ => exact mem_box 1024 (i 1).val (idx2 t).2 (by omega)

end Cert.GwoIdeal.Body

namespace Cert.GwoGradIdeal.Ref
open Cert.GwoGradIdeal.Gen Cert.GwoGradIdeal.Read Cert.AttSpec Cert.MmSpec

theorem ref_eq (x0 : Vec Ideal S2304x2048 .bf16) (x1 : Vec Ideal S2304x2048 .bf16) (i : Fin 2048) (j : Fin 2048) :
    (val_main_v6 (F := Ideal) x0 x1 (ix2 i j) : EReal) = gradW x0 x1 i.val j.val := by
  pointwise [val_main_v0, val_main_v1, val_main_v4, val_main_v5, val_main_v6]
  unfold gradW
  refine Finset.sum_congr rfl fun k _ => ?_
  rw [rd_eq _ _ _ (by omega) (by omega), rd_eq _ _ _ (by omega) (by omega)]
  all_goals first | rfl | exact mul_comm _ _

end Cert.GwoGradIdeal.Ref

namespace Cert.Proof.Gwo

theorem frame_ref : quiescent_GwoGradIdeal := fun m ρ _ =>
  (θ_run GwoGradIdeal.defs _ _).mono (fun r h => ⟨fun c => (h c).2,
      sem_eq_zero_of_no_sems (by decide) r.2⟩)
    (GwoGradIdeal.Value.run (F := Ideal) m ρ)

theorem algebraic : algebraic_GwoIdeal_GwoGradIdeal := by
  intro m ρ m' ρ' _ hagree
  refine ⟨fun c => GwoIdeal.Body.res m c, ?_, ?_⟩
  · refine (θ_run GwoIdeal.defs _ _).mono (fun _ h c => ?_) (GwoIdeal.Value.run_blocks (F := Ideal) m ρ)
    exact ⟨(h c).1.trans (GwoIdeal.Body.final2 m c), (h c).2⟩
  · refine (θ_run GwoGradIdeal.defs _ _).mono (fun _ h c => ?_) (GwoGradIdeal.Value.run (F := Ideal) m' ρ')
    obtain ⟨g0, g1⟩ := hagree c
    refine ⟨((h c).1.trans (GwoGradIdeal.Read.val_main_v6_eq _ _)).trans ?_, (h c).2⟩
    show GwoGradIdeal.Read.val_main_v6 (F := Ideal) (m' (c.tc.loc GwoGradIdeal.main_arg0))
      (m' (c.tc.loc GwoGradIdeal.main_arg1)) = _
    rw [g0, g1]
    funext y
    rw [eq_ix2 y]
    exact GwoGradIdeal.Ref.ref_eq _ _ _ _

end Cert.Proof.Gwo

end
-- ==== Proof.MmDcat.lean ====
/- The gradient of what the token mixer's output projection reads. -/
module

public import proofs.«01_k».proof.Proof.MmSpec
public import proofs.«01_k».proof.Proof.Gen.DcatIdeal.Value
public import proofs.«01_k».proof.Proof.Gen.DcatGradIdeal.Run
public import proofs.«01_k».proof.Proof.Gen.DcatGradIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.DcatIdeal.Body
open Idealize.ShloMosaic.Pipeline (Dat)
open Cert.DcatIdeal.Gen Cert.DcatIdeal.Value Cert.AttSpec Cert.MmSpec

variable (m : (ℓ : Loc nD τ sig) → Buf (Elt Ideal) ℓ)

abbrev arg0 (c : Dev nD) : Vec Ideal S2304x2048 .bf16 := m ((c : Thread nD τ).loc main_arg0)
abbrev arg1 (c : Dev nD) : Vec Ideal S2048x2048 .bf16 := m ((c : Thread nD τ).loc main_arg1)

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel
theorem flush2 : ∀ t : Fin grid0.N, (cfg0.win 2).flush t = true := by decide +kernel

theorem ltN (t : Fin cfg0.N) : t.val < 2 := lt_of_lt_of_eq t.isLt Gen.N_0

theorem blk0 (c : Dev nD) (t : Fin cfg0.N) (r : Fin 2304) (n : Fin 2048) :
    (iblk m c 0 t (ix2 r n) : EReal) = rd (a := 2304) (b := 2048) (arg0 m c) (t.val / 2 * 2304 + r.val) (n.val) := by
  have ht := ltN t
  rw [rd_eq _ _ _ (by omega) (by omega)]
  unfold iblk
  rw [View.read_apply]
  show V m c main_arg0 _ = m (c.tc.loc main_arg0) _
  unfold V
  congr 1
  funext a
  apply Fin.ext
  match a with
  | ⟨0, _⟩ => show win0_0.index t 0 * 2304 + 1 * r.val = t.val / 2 * 2304 + r.val; rw [(idx0 t).1]; omega
  | ⟨1, _⟩ => show win0_0.index t 1 * 2048 + 1 * n.val = n.val; rw [(idx0 t).2]; omega

theorem blk1 (c : Dev nD) (t : Fin cfg0.N) (r : Fin 1024) (n : Fin 2048) :
    (iblk m c 1 t (ix2 r n) : EReal) = rd (a := 2048) (b := 2048) (arg1 m c) (t.val % 2 * 1024 + r.val) (n.val) := by
  have ht := ltN t
  rw [rd_eq _ _ _ (by omega) (by omega)]
  unfold iblk
  rw [View.read_apply]
  show V m c main_arg1 _ = m (c.tc.loc main_arg1) _
  unfold V
  congr 1
  funext a
  apply Fin.ext
  match a with
  | ⟨0, _⟩ => show win0_1.index t 0 * 1024 + 1 * r.val = t.val % 2 * 1024 + r.val; rw [(idx1 t).1]; omega
  | ⟨1, _⟩ => show win0_1.index t 1 * 2048 + 1 * n.val = n.val; rw [(idx1 t).2]; omega

theorem pay_apply (x0 : Vec Ideal S2304x2048 .bf16) (x1 : Vec Ideal S1024x2048 .bf16) (i : Fin 2304) (j : Fin 1024) :
    (k0_pay1 (F := Ideal) x0 x1 (ix2 i j) : EReal) = ∑ k : Fin 2048, (x0 (ix2 i k) : EReal) * x1 (ix2 j k) := by
  pointwise [k0_pay1]

theorem after_eq (c : Dev nD) (t : Fin cfg0.N) (i : Fin 2304) (j : Fin 1024) :
    ((dats m 0 c).after 2 t (ix2 i j) : EReal) = gradA (arg0 m c) (arg1 m c) (t.val / 2 * 2304 + i.val) (t.val % 2 * 1024 + j.val) := by
  rw [after0_2]
  frame_out
  refine (pay_apply _ _ i j).trans ?_
  unfold gradA
  exact Finset.sum_congr rfl fun k _ => Ideal.mul_congr (blk0 m c t _ _) (blk1 m c t _ _)

/-- The result array. -/
def res (c : Dev nD) : Vec Ideal S2304x2048 .bf16 := fun y => gradA (arg0 m c) (arg1 m c) (y 0).val (y 1).val

theorem flushed2_eq (c : Dev nD) (t : Fin cfg0.N) (hf : (cfg0.win 2).flush t = true) :
    (dats m 0 c).flushed 2 t = ((cfg0.win 2).blk t).view.read (Elt Ideal) (res m c) := by
  funext y
  rw [View.read_apply]
  have hy0 : (y 0).val < 2304 := (y 0).isLt
  have hy1 : (y 1).val < 1024 := (y 1).isLt
  show (dats m 0 c).after 2 t _ = res m c _
  refine Eq.trans (congrArg _ ?_) ((after_eq m c t ⟨(y 0).val, hy0⟩ ⟨(y 1).val, hy1⟩).trans ?_)
  · funext a; match a with
    | ⟨0, _⟩ => rfl
    | ⟨1, _⟩ => rfl
  · show gradA _ _ _ _ = gradA _ _ (win0_2.index t 0 * 2304 + 1 * (y 0).val) (win0_2.index t 1 * 1024 + 1 * (y 1).val)
    rw [(idx2 t).1, (idx2 t).2, Nat.one_mul, Nat.one_mul]

theorem final2 (c : Dev nD) : (dats m 0 c).arrAt 2 cfg0.N = res m c :=
  (dats m 0 c).arrAt_eq_of_cover 2 (res m c) (flushed2_eq m c) fun i => by
    have hi0 : (i 0).val < 2304 := (i 0).isLt
    have hi1 : (i 1).val < 2048 := (i 1).isLt
    refine ⟨⟨(i 0).val / 2304 * 2 + (i 1).val / 1024, by show _ < grid0.N; rw [Gen.N_0]; omega⟩, flush2 _, ?_⟩
    generalize ht : (⟨(i 0).val / 2304 * 2 + (i 1).val / 1024, _⟩ : Fin grid0.N) = t
    have ht' : t.val = (i 0).val / 2304 * 2 + (i 1).val / 1024 := by rw [← ht]
    show i ∈ ((View.whole main_v0).slice (win0_2.rect t)).set
    rw [View.set_slice_whole, Rect.mem_set_unit]
    intro a
    match a with
    | ⟨0, _⟩ => exact mem_box 2304 (i 0).val (idx2 t).1 (by omega)
    | ⟨1, _⟩ => exact mem_box 1024 (i 1).val (idx2 t).2 (by omega)

end Cert.DcatIdeal.Body

namespace Cert.DcatGradIdeal.Ref
open Cert.DcatGradIdeal.Gen Cert.DcatGradIdeal.Read Cert.AttSpec Cert.MmSpec

theorem ref_eq (x0 : Vec Ideal S2304x2048 .bf16) (x1 : Vec Ideal S2048x2048 .bf16) (i : Fin 2304) (j : Fin 2048) :
    (val_main_v5 (F := Ideal) x0 x1 (ix2 i j) : EReal) = gradA x0 x1 i.val j.val := by
  pointwise [val_main_v0, val_main_v1, val_main_v4, val_main_v5]
  unfold gradA
  refine Finset.sum_congr rfl fun k _ => ?_
  rw [rd_eq _ _ _ (by omega) (by omega), rd_eq _ _ _ (by omega) (by omega)]
  all_goals first | rfl | exact mul_comm _ _

end Cert.DcatGradIdeal.Ref

namespace Cert.Proof.Dcat

theorem frame_ref : quiescent_DcatGradIdeal := fun m ρ _ =>
  (θ_run DcatGradIdeal.defs _ _).mono (fun r h => ⟨fun c => (h c).2,
      sem_eq_zero_of_no_sems (by decide) r.2⟩)
    (DcatGradIdeal.Value.run (F := Ideal) m ρ)

theorem algebraic : algebraic_DcatIdeal_DcatGradIdeal := by
  intro m ρ m' ρ' _ hagree
  refine ⟨fun c => DcatIdeal.Body.res m c, ?_, ?_⟩
  · refine (θ_run DcatIdeal.defs _ _).mono (fun _ h c => ?_) (DcatIdeal.Value.run_blocks (F := Ideal) m ρ)
    exact ⟨(h c).1.trans (DcatIdeal.Body.final2 m c), (h c).2⟩
  · refine (θ_run DcatGradIdeal.defs _ _).mono (fun _ h c => ?_) (DcatGradIdeal.Value.run (F := Ideal) m' ρ')
    obtain ⟨g0, g1⟩ := hagree c
    refine ⟨((h c).1.trans (DcatGradIdeal.Read.val_main_v5_eq _ _)).trans ?_, (h c).2⟩
    show DcatGradIdeal.Read.val_main_v5 (F := Ideal) (m' (c.tc.loc DcatGradIdeal.main_arg0))
      (m' (c.tc.loc DcatGradIdeal.main_arg1)) = _
    rw [g0, g1]
    funext y
    rw [eq_ix2 y]
    exact DcatGradIdeal.Ref.ref_eq _ _ _ _

end Cert.Proof.Dcat

end
-- ==== Proof.MmGwi.lean ====
/- The gradient of the input projection's weights. -/
module

public import proofs.«01_k».proof.Proof.MmSpec
public import proofs.«01_k».proof.Proof.Gen.GwiIdeal.Value
public import proofs.«01_k».proof.Proof.Gen.GwiGradIdeal.Run
public import proofs.«01_k».proof.Proof.Gen.GwiGradIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.GwiIdeal.Body
open Idealize.ShloMosaic.Pipeline (Dat)
open Cert.GwiIdeal.Gen Cert.GwiIdeal.Value Cert.AttSpec Cert.MmSpec

variable (m : (ℓ : Loc nD τ sig) → Buf (Elt Ideal) ℓ)

abbrev arg0 (c : Dev nD) : Vec Ideal S2304x2048 .bf16 := m ((c : Thread nD τ).loc main_arg0)
abbrev arg1 (c : Dev nD) : Vec Ideal S2304x5376 .bf16 := m ((c : Thread nD τ).loc main_arg1)

theorem idx0 : ∀ t : Fin grid0.N, win0_0.index t 0 = 0 ∧ win0_0.index t 1 = t.val / 7 := by decide +kernel
theorem idx1 : ∀ t : Fin grid0.N, win0_1.index t 0 = 0 ∧ win0_1.index t 1 = t.val % 7 := by decide +kernel
theorem idx2 : ∀ t : Fin grid0.N, win0_2.index t 0 = t.val / 7 ∧ win0_2.index t 1 = t.val % 7 := by decide +kernel
theorem flush2 : ∀ t : Fin grid0.N, (cfg0.win 2).flush t = true := by decide +kernel

theorem ltN (t : Fin cfg0.N) : t.val < 7 := lt_of_lt_of_eq t.isLt Gen.N_0

theorem blk0 (c : Dev nD) (t : Fin cfg0.N) (r : Fin 2304) (n : Fin 2048) :
    (iblk m c 0 t (ix2 r n) : EReal) = rd (a := 2304) (b := 2048) (arg0 m c) (r.val) (t.val / 7 * 2048 + n.val) := by
  have ht := ltN t
  rw [rd_eq _ _ _ (by omega) (by omega)]
  unfold iblk
  rw [View.read_apply]
  show V m c main_arg0 _ = m (c.tc.loc main_arg0) _
  unfold V
  congr 1
  funext a
  apply Fin.ext
  match a with
  | ⟨0, _⟩ => show win0_0.index t 0 * 2304 + 1 * r.val = r.val; rw [(idx0 t).1]; omega
  | ⟨1, _⟩ => show win0_0.index t 1 * 2048 + 1 * n.val = t.val / 7 * 2048 + n.val; rw [(idx0 t).2]; omega

theorem blk1 (c : Dev nD) (t : Fin cfg0.N) (r : Fin 2304) (n : Fin 768) :
    (iblk m c 1 t (ix2 r n) : EReal) = rd (a := 2304) (b := 5376) (arg1 m c) (r.val) (t.val % 7 * 768 + n.val) := by
  have ht := ltN t
  rw [rd_eq _ _ _ (by omega) (by omega)]
  unfold iblk
  rw [View.read_apply]
  show V m c main_arg1 _ = m (c.tc.loc main_arg1) _
  unfold V
  congr 1
  funext a
  apply Fin.ext
  match a with
  | ⟨0, _⟩ => show win0_1.index t 0 * 2304 + 1 * r.val = r.val; rw [(idx1 t).1]; omega
  | ⟨1, _⟩ => show win0_1.index t 1 * 768 + 1 * n.val = t.val % 7 * 768 + n.val; rw [(idx1 t).2]; omega

theorem pay_apply (x0 : Vec Ideal S2304x2048 .bf16) (x1 : Vec Ideal S2304x768 .bf16) (i : Fin 2048) (j : Fin 768) :
    (k0_pay1 (F := Ideal) x0 x1 (ix2 i j) : EReal) = ∑ k : Fin 2304, (x0 (ix2 k i) : EReal) * x1 (ix2 k j) := by
  pointwise [k0_pay1]

theorem after_eq (c : Dev nD) (t : Fin cfg0.N) (i : Fin 2048) (j : Fin 768) :
    ((dats m 0 c).after 2 t (ix2 i j) : EReal) = gradW (arg0 m c) (arg1 m c) (t.val / 7 * 2048 + i.val) (t.val % 7 * 768 + j.val) := by
  rw [after0_2]
  frame_out
  refine (pay_apply _ _ i j).trans ?_
  unfold gradW
  exact Finset.sum_congr rfl fun k _ => Ideal.mul_congr (blk0 m c t _ _) (blk1 m c t _ _)

/-- The result array. -/
def res (c : Dev nD) : Vec Ideal S2048x5376 .bf16 := fun y => gradW (arg0 m c) (arg1 m c) (y 0).val (y 1).val

theorem flushed2_eq (c : Dev nD) (t : Fin cfg0.N) (hf : (cfg0.win 2).flush t = true) :
    (dats m 0 c).flushed 2 t = ((cfg0.win 2).blk t).view.read (Elt Ideal) (res m c) := by
  funext y
  rw [View.read_apply]
  have hy0 : (y 0).val < 2048 := (y 0).isLt
  have hy1 : (y 1).val < 768 := (y 1).isLt
  show (dats m 0 c).after 2 t _ = res m c _
  refine Eq.trans (congrArg _ ?_) ((after_eq m c t ⟨(y 0).val, hy0⟩ ⟨(y 1).val, hy1⟩).trans ?_)
  · funext a; match a with
    | ⟨0, _⟩ => rfl
    | ⟨1, _⟩ => rfl
  · show gradW _ _ _ _ = gradW _ _ (win0_2.index t 0 * 2048 + 1 * (y 0).val) (win0_2.index t 1 * 768 + 1 * (y 1).val)
    rw [(idx2 t).1, (idx2 t).2, Nat.one_mul, Nat.one_mul]

theorem final2 (c : Dev nD) : (dats m 0 c).arrAt 2 cfg0.N = res m c :=
  (dats m 0 c).arrAt_eq_of_cover 2 (res m c) (flushed2_eq m c) fun i => by
    have hi0 : (i 0).val < 2048 := (i 0).isLt
    have hi1 : (i 1).val < 5376 := (i 1).isLt
    refine ⟨⟨(i 0).val / 2048 * 7 + (i 1).val / 768, by show _ < grid0.N; rw [Gen.N_0]; omega⟩, flush2 _, ?_⟩
    generalize ht : (⟨(i 0).val / 2048 * 7 + (i 1).val / 768, _⟩ : Fin grid0.N) = t
    have ht' : t.val = (i 0).val / 2048 * 7 + (i 1).val / 768 := by rw [← ht]
    show i ∈ ((View.whole main_v0).slice (win0_2.rect t)).set
    rw [View.set_slice_whole, Rect.mem_set_unit]
    intro a
    match a with
    | ⟨0, _⟩ => exact mem_box 2048 (i 0).val (idx2 t).1 (by omega)
    | ⟨1, _⟩ => exact mem_box 768 (i 1).val (idx2 t).2 (by omega)

end Cert.GwiIdeal.Body

namespace Cert.GwiGradIdeal.Ref
open Cert.GwiGradIdeal.Gen Cert.GwiGradIdeal.Read Cert.AttSpec Cert.MmSpec

theorem ref_eq (x0 : Vec Ideal S2304x2048 .bf16) (x1 : Vec Ideal S2304x5376 .bf16) (i : Fin 2048) (j : Fin 5376) :
    (val_main_v6 (F := Ideal) x0 x1 (ix2 i j) : EReal) = gradW x0 x1 i.val j.val := by
  pointwise [val_main_v0, val_main_v1, val_main_v4, val_main_v5, val_main_v6]
  unfold gradW
  refine Finset.sum_congr rfl fun k _ => ?_
  rw [rd_eq _ _ _ (by omega) (by omega), rd_eq _ _ _ (by omega) (by omega)]
  all_goals first | rfl | exact mul_comm _ _

end Cert.GwiGradIdeal.Ref

namespace Cert.Proof.Gwi

theorem frame_ref : quiescent_GwiGradIdeal := fun m ρ _ =>
  (θ_run GwiGradIdeal.defs _ _).mono (fun r h => ⟨fun c => (h c).2,
      sem_eq_zero_of_no_sems (by decide) r.2⟩)
    (GwiGradIdeal.Value.run (F := Ideal) m ρ)

theorem algebraic : algebraic_GwiIdeal_GwiGradIdeal := by
  intro m ρ m' ρ' _ hagree
  refine ⟨fun c => GwiIdeal.Body.res m c, ?_, ?_⟩
  · refine (θ_run GwiIdeal.defs _ _).mono (fun _ h c => ?_) (GwiIdeal.Value.run_blocks (F := Ideal) m ρ)
    exact ⟨(h c).1.trans (GwiIdeal.Body.final2 m c), (h c).2⟩
  · refine (θ_run GwiGradIdeal.defs _ _).mono (fun _ h c => ?_) (GwiGradIdeal.Value.run (F := Ideal) m' ρ')
    obtain ⟨g0, g1⟩ := hagree c
    refine ⟨((h c).1.trans (GwiGradIdeal.Read.val_main_v6_eq _ _)).trans ?_, (h c).2⟩
    show GwiGradIdeal.Read.val_main_v6 (F := Ideal) (m' (c.tc.loc GwiGradIdeal.main_arg0))
      (m' (c.tc.loc GwiGradIdeal.main_arg1)) = _
    rw [g0, g1]
    funext y
    rw [eq_ix2 y]
    exact GwiGradIdeal.Ref.ref_eq _ _ _ _

end Cert.Proof.Gwi

end
-- ==== Proof.MmDh.lean ====
/- The gradient of what the input projection reads. -/
module

public import proofs.«01_k».proof.Proof.MmSpec
public import proofs.«01_k».proof.Proof.Gen.DhIdeal.Value
public import proofs.«01_k».proof.Proof.Gen.DhGradIdeal.Run
public import proofs.«01_k».proof.Proof.Gen.DhGradIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.DhIdeal.Body
open Idealize.ShloMosaic.Pipeline (Dat)
open Cert.DhIdeal.Gen Cert.DhIdeal.Value Cert.AttSpec Cert.MmSpec

variable (m : (ℓ : Loc nD τ sig) → Buf (Elt Ideal) ℓ)

abbrev arg0 (c : Dev nD) : Vec Ideal S2304x5376 .bf16 := m ((c : Thread nD τ).loc main_arg0)
abbrev arg1 (c : Dev nD) : Vec Ideal S2048x5376 .bf16 := m ((c : Thread nD τ).loc main_arg1)

theorem idx0 : ∀ t : Fin grid0.N, win0_0.index t 0 = 0 ∧ win0_0.index t 1 = t.val % 3 := by decide +kernel
theorem idx1 : ∀ t : Fin grid0.N, win0_1.index t 0 = t.val / 3 ∧ win0_1.index t 1 = t.val % 3 := by decide +kernel
theorem idx2 : ∀ t : Fin grid0.N, win0_2.index t 0 = 0 ∧ win0_2.index t 1 = t.val / 3 := by decide +kernel

theorem ltN (t : Fin cfg0.N) : t.val < 6 := lt_of_lt_of_eq t.isLt Gen.N_0

theorem blk0 (c : Dev nD) (t : Fin cfg0.N) (r : Fin 2304) (n : Fin 1792) :
    (iblk m c 0 t (ix2 r n) : EReal) = rd (a := 2304) (b := 5376) (arg0 m c) (r.val) (t.val % 3 * 1792 + n.val) := by
  have ht := ltN t
  rw [rd_eq _ _ _ (by omega) (by omega)]
  unfold iblk
  rw [View.read_apply]
  show V m c main_arg0 _ = m (c.tc.loc main_arg0) _
  unfold V
  congr 1
  funext a
  apply Fin.ext
  match a with
  | ⟨0, _⟩ => show win0_0.index t 0 * 2304 + 1 * r.val = r.val; rw [(idx0 t).1]; omega
  | ⟨1, _⟩ => show win0_0.index t 1 * 1792 + 1 * n.val = t.val % 3 * 1792 + n.val; rw [(idx0 t).2]; omega

theorem blk1 (c : Dev nD) (t : Fin cfg0.N) (r : Fin 1024) (n : Fin 1792) :
    (iblk m c 1 t (ix2 r n) : EReal) = rd (a := 2048) (b := 5376) (arg1 m c) (t.val / 3 * 1024 + r.val) (t.val % 3 * 1792 + n.val) := by
  have ht := ltN t
  rw [rd_eq _ _ _ (by omega) (by omega)]
  unfold iblk
  rw [View.read_apply]
  show V m c main_arg1 _ = m (c.tc.loc main_arg1) _
  unfold V
  congr 1
  funext a
  apply Fin.ext
  match a with
  | ⟨0, _⟩ => show win0_1.index t 0 * 1024 + 1 * r.val = t.val / 3 * 1024 + r.val; rw [(idx1 t).1]; omega
  | ⟨1, _⟩ => show win0_1.index t 1 * 1792 + 1 * n.val = t.val % 3 * 1792 + n.val; rw [(idx1 t).2]; omega

/-- One step's part of the entry. -/
def part (x0 : Vec Ideal S2304x1792 .bf16) (x1 : Vec Ideal S1024x1792 .bf16) (i : Fin 2304) (j : Fin 1024) : EReal :=
  ∑ k : Fin 1792, (x0 (ix2 i k) : EReal) * x1 (ix2 j k)

theorem first_apply (x0 : Vec Ideal S2304x1792 .bf16) (x1 : Vec Ideal S1024x1792 .bf16) (i : Fin 2304) (j : Fin 1024) :
    (k0_pay2 (F := Ideal) (k0_pay1 (F := Ideal)) x0 x1 (ix2 i j) : EReal) = part x0 x1 i j := by
  unfold part
  pointwise [k0_pay2, k0_pay1]
  all_goals simp

theorem next_apply (acc : Vec Ideal S2304x1024 .f32) (x0 : Vec Ideal S2304x1792 .bf16) (x1 : Vec Ideal S1024x1792 .bf16) (i : Fin 2304) (j : Fin 1024) :
    (k0_pay2 (F := Ideal) acc x0 x1 (ix2 i j) : EReal) = (acc (ix2 i j) : EReal) + part x0 x1 i j := by
  unfold part
  pointwise [k0_pay2]

/-- The product of the entries at place `k` of the sum. -/
def tm (c : Dev nD) (i j k : Nat) : EReal :=
  rd (a := 2304) (b := 5376) (arg0 m c) i k * rd (a := 2048) (b := 5376) (arg1 m c) j k

theorem part_eq (c : Dev nD) (t : Fin cfg0.N) (i : Fin 2304) (j : Fin 1024) :
    part (iblk m c 0 t) (iblk m c 1 t) i j
      = ∑ k : Fin 1792, tm m c i.val (t.val / 3 * 1024 + j.val) (t.val % 3 * 1792 + k.val) :=
  Finset.sum_congr rfl fun k _ => Ideal.mul_congr (blk0 m c t _ _) (blk1 m c t _ _)

/-- The sum held after point `n`. -/
theorem acc_eq (c : Dev nD) (i : Fin 2304) (j : Fin 1024) : ∀ (n : Nat) (h : n < cfg0.N),
    ((outsAt0 m c n h).2 (ix2 i j) : EReal)
      = ∑ s ∈ Finset.range (n % 3 + 1), ∑ k : Fin 1792, tm m c i.val (n / 3 * 1024 + j.val) (s * 1792 + k.val) := by
  intro n
  induction n with
  | zero =>
    intro h
    rw [outsAt0_A m c ⟨0, h⟩ rfl (by dsimp only; omega)]
    frame_out
    rw [first_apply, part_eq m c ⟨0, h⟩ i j]
    simp
  | succ n ih =>
    intro h
    have hn : n + 1 < 6 := lt_of_lt_of_eq h Gen.N_0
    by_cases h0 : (n + 1) % 3 = 0
    · rw [outsAt0_A m c ⟨n + 1, h⟩ h0 (by dsimp only; omega)]
      frame_out
      rw [first_apply, part_eq m c ⟨n + 1, h⟩ i j]
      simp [h0]
    · have a1 : (n + 1) % 3 = n % 3 + 1 := by omega
      have a2 : (n + 1) / 3 = n / 3 := by omega
      have key : (k0_pay2 (F := Ideal) (outsAt0 m c n (Nat.lt_of_succ_lt h)).2 (iblk m c 0 ⟨n + 1, h⟩) (iblk m c 1 ⟨n + 1, h⟩) (ix2 i j) : EReal)
          = ∑ s ∈ Finset.range ((n + 1) % 3 + 1), ∑ k : Fin 1792, tm m c i.val ((n + 1) / 3 * 1024 + j.val) (s * 1792 + k.val) := by
        rw [next_apply, ih (Nat.lt_of_succ_lt h), part_eq m c ⟨n + 1, h⟩ i j]
        show _ + (∑ k : Fin 1792, tm m c i.val ((n + 1) / 3 * 1024 + j.val) ((n + 1) % 3 * 1792 + k.val)) = _
        rw [a1, a2, Finset.sum_range_succ _ (n % 3 + 1)]
      by_cases h1 : (n + 1) % 3 = 2
      · rw [outsAt0_C m c ⟨n + 1, h⟩ h0 h1]
        frame_out
        exact (congrArg (fun a => (k0_pay2 (F := Ideal) a (iblk m c 0 ⟨n + 1, h⟩) (iblk m c 1 ⟨n + 1, h⟩) (ix2 i j) : EReal))
          (Memref.IsWhole.read_unread (Memref.isWhole_whole _) _)).trans key
      · rw [outsAt0_B m c ⟨n + 1, h⟩ h0 h1]
        frame_out
        exact (congrArg (fun a => (k0_pay2 (F := Ideal) a (iblk m c 0 ⟨n + 1, h⟩) (iblk m c 1 ⟨n + 1, h⟩) (ix2 i j) : EReal))
          (Memref.IsWhole.read_unread (Memref.isWhole_whole _) _)).trans key

theorem last_eq (c : Dev nD) (t : Fin cfg0.N) (h1 : t.val % 3 = 2) (i : Fin 2304) (j : Fin 1024) :
    ((outsAt0 m c t.val t.isLt).1 (ix2 i j) : EReal) = ((outsAt0 m c t.val t.isLt).2 (ix2 i j) : EReal) := by
  rw [outsAt0_C m c t (by omega) h1]
  frame_out
  rfl

theorem after_eq (c : Dev nD) (t : Fin cfg0.N) (hf : (cfg0.win 2).flush t = true) (i : Fin 2304) (j : Fin 1024) :
    ((dats m 0 c).after 2 t (ix2 i j) : EReal) = gradA (arg0 m c) (arg1 m c) i.val (t.val / 3 * 1024 + j.val) := by
  have h1 : t.val % 3 = 2 := (flush0_2 t).mp hf
  rw [after0_2, last_eq m c t h1, acc_eq, h1, Finset.sum_range]
  exact Fin.sum_univ_univ_mul_add 3 1792 (tm m c i.val (t.val / 3 * 1024 + j.val))

/-- The result array. -/
def res (c : Dev nD) : Vec Ideal S2304x2048 .bf16 := fun y => gradA (arg0 m c) (arg1 m c) (y 0).val (y 1).val

theorem flushed_res (c : Dev nD) (t : Fin cfg0.N) (hf : (cfg0.win 2).flush t = true) :
    (dats m 0 c).flushed 2 t = ((cfg0.win 2).blk t).view.read (Elt Ideal) (res m c) := by
  funext y
  rw [View.read_apply]
  have hy0 : (y 0).val < 2304 := (y 0).isLt
  have hy1 : (y 1).val < 1024 := (y 1).isLt
  show (dats m 0 c).after 2 t _ = res m c _
  refine Eq.trans (congrArg _ ?_) ((after_eq m c t hf ⟨(y 0).val, hy0⟩ ⟨(y 1).val, hy1⟩).trans ?_)
  · funext a; match a with
    | ⟨0, _⟩ => rfl
    | ⟨1, _⟩ => rfl
  · show gradA _ _ _ _ = gradA _ _ (win0_2.index t 0 * 2304 + 1 * (y 0).val) (win0_2.index t 1 * 1024 + 1 * (y 1).val)
    rw [(idx2 t).1, (idx2 t).2, Nat.one_mul, Nat.one_mul, Nat.zero_mul, Nat.zero_add]

theorem final_res (c : Dev nD) : (dats m 0 c).arrAt 2 cfg0.N = res m c :=
  (dats m 0 c).arrAt_eq_of_cover 2 (res m c) (flushed_res m c) fun i => by
    have hi0 : (i 0).val < 2304 := (i 0).isLt
    have hi1 : (i 1).val < 2048 := (i 1).isLt
    refine ⟨⟨(i 1).val / 1024 * 3 + 2, by show _ < grid0.N; rw [Gen.N_0]; omega⟩, (flush0_2 _).mpr (by dsimp only; omega), ?_⟩
    generalize ht : (⟨(i 1).val / 1024 * 3 + 2, _⟩ : Fin grid0.N) = t
    have ht' : t.val = (i 1).val / 1024 * 3 + 2 := by rw [← ht]
    show i ∈ ((View.whole main_v0).slice (win0_2.rect t)).set
    rw [View.set_slice_whole, Rect.mem_set_unit]
    intro a
    match a with
    | ⟨0, _⟩ => exact mem_box 2304 (i 0).val (idx2 t).1 (by omega)
    | ⟨1, _⟩ => exact mem_box 1024 (i 1).val (idx2 t).2 (by omega)

end Cert.DhIdeal.Body

namespace Cert.DhGradIdeal.Ref
open Cert.DhGradIdeal.Gen Cert.DhGradIdeal.Read Cert.AttSpec Cert.MmSpec

theorem ref_eq (x0 : Vec Ideal S2304x5376 .bf16) (x1 : Vec Ideal S2048x5376 .bf16) (i : Fin 2304) (j : Fin 2048) :
    (val_main_v5 (F := Ideal) x0 x1 (ix2 i j) : EReal) = gradA x0 x1 i.val j.val := by
  pointwise [val_main_v0, val_main_v1, val_main_v4, val_main_v5]
  unfold gradA
  refine Finset.sum_congr rfl fun k _ => ?_
  rw [rd_eq _ _ _ (by omega) (by omega), rd_eq _ _ _ (by omega) (by omega)]
  all_goals first | rfl | exact mul_comm _ _

end Cert.DhGradIdeal.Ref

namespace Cert.Proof.Dh

theorem frame_ref : quiescent_DhGradIdeal := fun m ρ _ =>
  (θ_run DhGradIdeal.defs _ _).mono (fun r h => ⟨fun c => (h c).2,
      sem_eq_zero_of_no_sems (by decide) r.2⟩)
    (DhGradIdeal.Value.run (F := Ideal) m ρ)

theorem algebraic : algebraic_DhIdeal_DhGradIdeal := by
  intro m ρ m' ρ' _ hagree
  refine ⟨fun c => DhIdeal.Body.res m c, ?_, ?_⟩
  · refine (θ_run DhIdeal.defs _ _).mono (fun _ h c => ?_) (DhIdeal.Value.run_blocks (F := Ideal) m ρ)
    exact ⟨(h c).1.trans (DhIdeal.Body.final_res m c), (h c).2⟩
  · refine (θ_run DhGradIdeal.defs _ _).mono (fun _ h c => ?_) (DhGradIdeal.Value.run (F := Ideal) m' ρ')
    obtain ⟨g0, g1⟩ := hagree c
    refine ⟨((h c).1.trans (DhGradIdeal.Read.val_main_v5_eq _ _)).trans ?_, (h c).2⟩
    show DhGradIdeal.Read.val_main_v5 (F := Ideal) (m' (c.tc.loc DhGradIdeal.main_arg0))
      (m' (c.tc.loc DhGradIdeal.main_arg1)) = _
    rw [g0, g1]
    funext y
    rw [eq_ix2 y]
    exact DhGradIdeal.Ref.ref_eq _ _ _ _

end Cert.Proof.Dh

end
-- ==== Proof.MmZ.lean ====
/- The input projection. -/
module

public import proofs.«01_k».proof.Proof.MmSpec
public import proofs.«01_k».proof.Proof.Gen.ZIdeal.Value
public import proofs.«01_k».proof.Proof.Gen.ZFwdIdeal.Run
public import proofs.«01_k».proof.Proof.Gen.ZFwdIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.ZIdeal.Body
open Idealize.ShloMosaic.Pipeline (Dat)
open Cert.ZIdeal.Gen Cert.ZIdeal.Value Cert.AttSpec Cert.MmSpec

variable (m : (ℓ : Loc nD τ sig) → Buf (Elt Ideal) ℓ)

abbrev arg0 (c : Dev nD) : Vec Ideal S2304x2048 .bf16 := m ((c : Thread nD τ).loc main_arg0)
abbrev arg1 (c : Dev nD) : Vec Ideal S2048x5376 .bf16 := m ((c : Thread nD τ).loc main_arg1)

theorem idx0 : ∀ t : Fin grid0.N, win0_0.index t 0 = t.val / 7 ∧ win0_0.index t 1 = 0 := by decide +kernel
theorem idx1 : ∀ t : Fin grid0.N, win0_1.index t 0 = 0 ∧ win0_1.index t 1 = t.val % 7 := by decide +kernel
theorem idx2 : ∀ t : Fin grid0.N, win0_2.index t 0 = t.val / 7 ∧ win0_2.index t 1 = t.val % 7 := by decide +kernel
theorem flush2 : ∀ t : Fin grid0.N, (cfg0.win 2).flush t = true := by decide +kernel

theorem ltN (t : Fin cfg0.N) : t.val < 7 := lt_of_lt_of_eq t.isLt Gen.N_0

theorem blk0 (c : Dev nD) (t : Fin cfg0.N) (r : Fin 2304) (n : Fin 2048) :
    (iblk m c 0 t (ix2 r n) : EReal) = rd (a := 2304) (b := 2048) (arg0 m c) (t.val / 7 * 2304 + r.val) (n.val) := by
  have ht := ltN t
  rw [rd_eq _ _ _ (by omega) (by omega)]
  unfold iblk
  rw [View.read_apply]
  show V m c main_arg0 _ = m (c.tc.loc main_arg0) _
  unfold V
  congr 1
  funext a
  apply Fin.ext
  match a with
  | ⟨0, _⟩ => show win0_0.index t 0 * 2304 + 1 * r.val = t.val / 7 * 2304 + r.val; rw [(idx0 t).1]; omega
  | ⟨1, _⟩ => show win0_0.index t 1 * 2048 + 1 * n.val = n.val; rw [(idx0 t).2]; omega

theorem blk1 (c : Dev nD) (t : Fin cfg0.N) (r : Fin 2048) (n : Fin 768) :
    (iblk m c 1 t (ix2 r n) : EReal) = rd (a := 2048) (b := 5376) (arg1 m c) (r.val) (t.val % 7 * 768 + n.val) := by
  have ht := ltN t
  rw [rd_eq _ _ _ (by omega) (by omega)]
  unfold iblk
  rw [View.read_apply]
  show V m c main_arg1 _ = m (c.tc.loc main_arg1) _
  unfold V
  congr 1
  funext a
  apply Fin.ext
  match a with
  | ⟨0, _⟩ => show win0_1.index t 0 * 2048 + 1 * r.val = r.val; rw [(idx1 t).1]; omega
  | ⟨1, _⟩ => show win0_1.index t 1 * 768 + 1 * n.val = t.val % 7 * 768 + n.val; rw [(idx1 t).2]; omega

theorem pay_apply (x0 : Vec Ideal S2304x2048 .bf16) (x1 : Vec Ideal S2048x768 .bf16) (i : Fin 2304) (j : Fin 768) :
    (k0_pay1 (F := Ideal) x0 x1 (ix2 i j) : EReal) = ∑ k : Fin 2048, (x0 (ix2 i k) : EReal) * x1 (ix2 k j) := by
  pointwise [k0_pay1]

theorem after_eq (c : Dev nD) (t : Fin cfg0.N) (i : Fin 2304) (j : Fin 768) :
    ((dats m 0 c).after 2 t (ix2 i j) : EReal) = prod (arg0 m c) (arg1 m c) (t.val / 7 * 2304 + i.val) (t.val % 7 * 768 + j.val) := by
  rw [after0_2]
  frame_out
  refine (pay_apply _ _ i j).trans ?_
  unfold prod
  exact Finset.sum_congr rfl fun k _ => Ideal.mul_congr (blk0 m c t _ _) (blk1 m c t _ _)

/-- The result array. -/
def res (c : Dev nD) : Vec Ideal S2304x5376 .f32 := fun y => prod (arg0 m c) (arg1 m c) (y 0).val (y 1).val

theorem flushed2_eq (c : Dev nD) (t : Fin cfg0.N) (hf : (cfg0.win 2).flush t = true) :
    (dats m 0 c).flushed 2 t = ((cfg0.win 2).blk t).view.read (Elt Ideal) (res m c) := by
  funext y
  rw [View.read_apply]
  have hy0 : (y 0).val < 2304 := (y 0).isLt
  have hy1 : (y 1).val < 768 := (y 1).isLt
  show (dats m 0 c).after 2 t _ = res m c _
  refine Eq.trans (congrArg _ ?_) ((after_eq m c t ⟨(y 0).val, hy0⟩ ⟨(y 1).val, hy1⟩).trans ?_)
  · funext a; match a with
    | ⟨0, _⟩ => rfl
    | ⟨1, _⟩ => rfl
  · show prod _ _ _ _ = prod _ _ (win0_2.index t 0 * 2304 + 1 * (y 0).val) (win0_2.index t 1 * 768 + 1 * (y 1).val)
    rw [(idx2 t).1, (idx2 t).2, Nat.one_mul, Nat.one_mul]

theorem final2 (c : Dev nD) : (dats m 0 c).arrAt 2 cfg0.N = res m c :=
  (dats m 0 c).arrAt_eq_of_cover 2 (res m c) (flushed2_eq m c) fun i => by
    have hi0 : (i 0).val < 2304 := (i 0).isLt
    have hi1 : (i 1).val < 5376 := (i 1).isLt
    refine ⟨⟨(i 0).val / 2304 * 7 + (i 1).val / 768, by show _ < grid0.N; rw [Gen.N_0]; omega⟩, flush2 _, ?_⟩
    generalize ht : (⟨(i 0).val / 2304 * 7 + (i 1).val / 768, _⟩ : Fin grid0.N) = t
    have ht' : t.val = (i 0).val / 2304 * 7 + (i 1).val / 768 := by rw [← ht]
    show i ∈ ((View.whole main_v0).slice (win0_2.rect t)).set
    rw [View.set_slice_whole, Rect.mem_set_unit]
    intro a
    match a with
    | ⟨0, _⟩ => exact mem_box 2304 (i 0).val (idx2 t).1 (by omega)
    | ⟨1, _⟩ => exact mem_box 768 (i 1).val (idx2 t).2 (by omega)

end Cert.ZIdeal.Body

namespace Cert.ZFwdIdeal.Ref
open Cert.ZFwdIdeal.Gen Cert.ZFwdIdeal.Read Cert.AttSpec Cert.MmSpec

theorem ref_eq (x0 : Vec Ideal S2304x2048 .bf16) (x1 : Vec Ideal S2048x5376 .bf16) (i : Fin 2304) (j : Fin 5376) :
    (val_main_v2 (F := Ideal) x0 x1 (ix2 i j) : EReal) = prod x0 x1 i.val j.val := by
  pointwise [val_main_v0, val_main_v1, val_main_v2]
  unfold prod
  refine Finset.sum_congr rfl fun k _ => ?_
  rw [rd_eq _ _ _ (by omega) (by omega), rd_eq _ _ _ (by omega) (by omega)]
  all_goals first | rfl | exact mul_comm _ _

end Cert.ZFwdIdeal.Ref

namespace Cert.Proof.Z

theorem frame_ref : quiescent_ZFwdIdeal := fun m ρ _ =>
  (θ_run ZFwdIdeal.defs _ _).mono (fun r h => ⟨fun c => (h c).2,
      sem_eq_zero_of_no_sems (by decide) r.2⟩)
    (ZFwdIdeal.Value.run (F := Ideal) m ρ)

theorem algebraic : algebraic_ZIdeal_ZFwdIdeal := by
  intro m ρ m' ρ' _ hagree
  refine ⟨fun c => ZIdeal.Body.res m c, ?_, ?_⟩
  · refine (θ_run ZIdeal.defs _ _).mono (fun _ h c => ?_) (ZIdeal.Value.run_blocks (F := Ideal) m ρ)
    exact ⟨(h c).1.trans (ZIdeal.Body.final2 m c), (h c).2⟩
  · refine (θ_run ZFwdIdeal.defs _ _).mono (fun _ h c => ?_) (ZFwdIdeal.Value.run (F := Ideal) m' ρ')
    obtain ⟨g0, g1⟩ := hagree c
    refine ⟨((h c).1.trans (ZFwdIdeal.Read.val_main_v2_eq _ _)).trans ?_, (h c).2⟩
    show ZFwdIdeal.Read.val_main_v2 (F := Ideal) (m' (c.tc.loc ZFwdIdeal.main_arg0))
      (m' (c.tc.loc ZFwdIdeal.main_arg1)) = _
    rw [g0, g1]
    funext y
    rw [eq_ix2 y]
    exact ZFwdIdeal.Ref.ref_eq _ _ _ _

end Cert.Proof.Z

end
-- ==== Proof.MmY.lean ====
/- The token mixer's output projection. -/
module

public import proofs.«01_k».proof.Proof.MmSpec
public import proofs.«01_k».proof.Proof.Gen.YIdeal.Value
public import proofs.«01_k».proof.Proof.Gen.YFwdIdeal.Run
public import proofs.«01_k».proof.Proof.Gen.YFwdIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.YIdeal.Body
open Idealize.ShloMosaic.Pipeline (Dat)
open Cert.YIdeal.Gen Cert.YIdeal.Value Cert.AttSpec Cert.MmSpec

variable (m : (ℓ : Loc nD τ sig) → Buf (Elt Ideal) ℓ)

abbrev arg0 (c : Dev nD) : Vec Ideal S2304x2048 .bf16 := m ((c : Thread nD τ).loc main_arg0)
abbrev arg1 (c : Dev nD) : Vec Ideal S2048x2048 .bf16 := m ((c : Thread nD τ).loc main_arg1)

theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = t.val % 4 := by decide +kernel
theorem flush2 : ∀ t : Fin grid0.N, (cfg0.win 2).flush t = true := by decide +kernel

theorem ltN (t : Fin cfg0.N) : t.val < 4 := lt_of_lt_of_eq t.isLt Gen.N_0

theorem blk0 (c : Dev nD) (t : Fin cfg0.N) (r : Fin 2304) (n : Fin 2048) :
    (iblk m c 0 t (ix2 r n) : EReal) = rd (a := 2304) (b := 2048) (arg0 m c) (t.val / 4 * 2304 + r.val) (n.val) := by
  have ht := ltN t
  rw [rd_eq _ _ _ (by omega) (by omega)]
  unfold iblk
  rw [View.read_apply]
  show V m c main_arg0 _ = m (c.tc.loc main_arg0) _
  unfold V
  congr 1
  funext a
  apply Fin.ext
  match a with
  | ⟨0, _⟩ => show win0_0.index t 0 * 2304 + 1 * r.val = t.val / 4 * 2304 + r.val; rw [(idx0 t).1]; omega
  | ⟨1, _⟩ => show win0_0.index t 1 * 2048 + 1 * n.val = n.val; rw [(idx0 t).2]; omega

theorem blk1 (c : Dev nD) (t : Fin cfg0.N) (r : Fin 2048) (n : Fin 512) :
    (iblk m c 1 t (ix2 r n) : EReal) = rd (a := 2048) (b := 2048) (arg1 m c) (r.val) (t.val % 4 * 512 + n.val) := by
  have ht := ltN t
  rw [rd_eq _ _ _ (by omega) (by omega)]
  unfold iblk
  rw [View.read_apply]
  show V m c main_arg1 _ = m (c.tc.loc main_arg1) _
  unfold V
  congr 1
  funext a
  apply Fin.ext
  match a with
  | ⟨0, _⟩ => show win0_1.index t 0 * 2048 + 1 * r.val = r.val; rw [(idx1 t).1]; omega
  | ⟨1, _⟩ => show win0_1.index t 1 * 512 + 1 * n.val = t.val % 4 * 512 + n.val; rw [(idx1 t).2]; omega

theorem pay_apply (x0 : Vec Ideal S2304x2048 .bf16) (x1 : Vec Ideal S2048x512 .bf16) (i : Fin 2304) (j : Fin 512) :
    (k0_pay1 (F := Ideal) x0 x1 (ix2 i j) : EReal) = ∑ k : Fin 2048, (x0 (ix2 i k) : EReal) * x1 (ix2 k j) := by
  pointwise [k0_pay1]

theorem after_eq (c : Dev nD) (t : Fin cfg0.N) (i : Fin 2304) (j : Fin 512) :
    ((dats m 0 c).after 2 t (ix2 i j) : EReal) = prod (arg0 m c) (arg1 m c) (t.val / 4 * 2304 + i.val) (t.val % 4 * 512 + j.val) := by
  rw [after0_2]
  frame_out
  refine (pay_apply _ _ i j).trans ?_
  unfold prod
  exact Finset.sum_congr rfl fun k _ => Ideal.mul_congr (blk0 m c t _ _) (blk1 m c t _ _)

/-- The result array. -/
def res (c : Dev nD) : Vec Ideal S2304x2048 .f32 := fun y => prod (arg0 m c) (arg1 m c) (y 0).val (y 1).val

theorem flushed2_eq (c : Dev nD) (t : Fin cfg0.N) (hf : (cfg0.win 2).flush t = true) :
    (dats m 0 c).flushed 2 t = ((cfg0.win 2).blk t).view.read (Elt Ideal) (res m c) := by
  funext y
  rw [View.read_apply]
  have hy0 : (y 0).val < 2304 := (y 0).isLt
  have hy1 : (y 1).val < 512 := (y 1).isLt
  show (dats m 0 c).after 2 t _ = res m c _
  refine Eq.trans (congrArg _ ?_) ((after_eq m c t ⟨(y 0).val, hy0⟩ ⟨(y 1).val, hy1⟩).trans ?_)
  · funext a; match a with
    | ⟨0, _⟩ => rfl
    | ⟨1, _⟩ => rfl
  · show prod _ _ _ _ = prod _ _ (win0_2.index t 0 * 2304 + 1 * (y 0).val) (win0_2.index t 1 * 512 + 1 * (y 1).val)
    rw [(idx2 t).1, (idx2 t).2, Nat.one_mul, Nat.one_mul]

theorem final2 (c : Dev nD) : (dats m 0 c).arrAt 2 cfg0.N = res m c :=
  (dats m 0 c).arrAt_eq_of_cover 2 (res m c) (flushed2_eq m c) fun i => by
    have hi0 : (i 0).val < 2304 := (i 0).isLt
    have hi1 : (i 1).val < 2048 := (i 1).isLt
    refine ⟨⟨(i 0).val / 2304 * 4 + (i 1).val / 512, by show _ < grid0.N; rw [Gen.N_0]; omega⟩, flush2 _, ?_⟩
    generalize ht : (⟨(i 0).val / 2304 * 4 + (i 1).val / 512, _⟩ : Fin grid0.N) = t
    have ht' : t.val = (i 0).val / 2304 * 4 + (i 1).val / 512 := by rw [← ht]
    show i ∈ ((View.whole main_v0).slice (win0_2.rect t)).set
    rw [View.set_slice_whole, Rect.mem_set_unit]
    intro a
    match a with
    | ⟨0, _⟩ => exact mem_box 2304 (i 0).val (idx2 t).1 (by omega)
    | ⟨1, _⟩ => exact mem_box 512 (i 1).val (idx2 t).2 (by omega)

end Cert.YIdeal.Body

namespace Cert.YFwdIdeal.Ref
open Cert.YFwdIdeal.Gen Cert.YFwdIdeal.Read Cert.AttSpec Cert.MmSpec

theorem ref_eq (x0 : Vec Ideal S2304x2048 .bf16) (x1 : Vec Ideal S2048x2048 .bf16) (i : Fin 2304) (j : Fin 2048) :
    (val_main_v2 (F := Ideal) x0 x1 (ix2 i j) : EReal) = prod x0 x1 i.val j.val := by
  pointwise [val_main_v0, val_main_v1, val_main_v2]
  unfold prod
  refine Finset.sum_congr rfl fun k _ => ?_
  rw [rd_eq _ _ _ (by omega) (by omega), rd_eq _ _ _ (by omega) (by omega)]
  all_goals first | rfl | exact mul_comm _ _

end Cert.YFwdIdeal.Ref

namespace Cert.Proof.Y

theorem frame_ref : quiescent_YFwdIdeal := fun m ρ _ =>
  (θ_run YFwdIdeal.defs _ _).mono (fun r h => ⟨fun c => (h c).2,
      sem_eq_zero_of_no_sems (by decide) r.2⟩)
    (YFwdIdeal.Value.run (F := Ideal) m ρ)

theorem algebraic : algebraic_YIdeal_YFwdIdeal := by
  intro m ρ m' ρ' _ hagree
  refine ⟨fun c => YIdeal.Body.res m c, ?_, ?_⟩
  · refine (θ_run YIdeal.defs _ _).mono (fun _ h c => ?_) (YIdeal.Value.run_blocks (F := Ideal) m ρ)
    exact ⟨(h c).1.trans (YIdeal.Body.final2 m c), (h c).2⟩
  · refine (θ_run YFwdIdeal.defs _ _).mono (fun _ h c => ?_) (YFwdIdeal.Value.run (F := Ideal) m' ρ')
    obtain ⟨g0, g1⟩ := hagree c
    refine ⟨((h c).1.trans (YFwdIdeal.Read.val_main_v2_eq _ _)).trans ?_, (h c).2⟩
    show YFwdIdeal.Read.val_main_v2 (F := Ideal) (m' (c.tc.loc YFwdIdeal.main_arg0))
      (m' (c.tc.loc YFwdIdeal.main_arg1)) = _
    rw [g0, g1]
    funext y
    rw [eq_ix2 y]
    exact YFwdIdeal.Ref.ref_eq _ _ _ _

end Cert.Proof.Y

end
-- ==== Proof.MmU.lean ====
/- The channel mixer's first projection. -/
module

public import proofs.«01_k».proof.Proof.MmSpec
public import proofs.«01_k».proof.Proof.Gen.UIdeal.Value
public import proofs.«01_k».proof.Proof.Gen.UFwdIdeal.Run
public import proofs.«01_k».proof.Proof.Gen.UFwdIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.UIdeal.Body
open Idealize.ShloMosaic.Pipeline (Dat)
open Cert.UIdeal.Gen Cert.UIdeal.Value Cert.AttSpec Cert.MmSpec

variable (m : (ℓ : Loc nD τ sig) → Buf (Elt Ideal) ℓ)

abbrev arg0 (c : Dev nD) : Vec Ideal S2304x2048 .bf16 := m ((c : Thread nD τ).loc main_arg0)
abbrev arg1 (c : Dev nD) : Vec Ideal S2048x11264 .bf16 := m ((c : Thread nD τ).loc main_arg1)

theorem idx0 : ∀ t : Fin grid0.N, win0_0.index t 0 = t.val / 22 ∧ win0_0.index t 1 = 0 := by decide +kernel
theorem idx1 : ∀ t : Fin grid0.N, win0_1.index t 0 = 0 ∧ win0_1.index t 1 = t.val % 22 := by decide +kernel
theorem idx2 : ∀ t : Fin grid0.N, win0_2.index t 0 = t.val / 22 ∧ win0_2.index t 1 = t.val % 22 := by decide +kernel
theorem flush2 : ∀ t : Fin grid0.N, (cfg0.win 2).flush t = true := by decide +kernel

theorem ltN (t : Fin cfg0.N) : t.val < 22 := lt_of_lt_of_eq t.isLt Gen.N_0

theorem blk0 (c : Dev nD) (t : Fin cfg0.N) (r : Fin 2304) (n : Fin 2048) :
    (iblk m c 0 t (ix2 r n) : EReal) = rd (a := 2304) (b := 2048) (arg0 m c) (t.val / 22 * 2304 + r.val) (n.val) := by
  have ht := ltN t
  rw [rd_eq _ _ _ (by omega) (by omega)]
  unfold iblk
  rw [View.read_apply]
  show V m c main_arg0 _ = m (c.tc.loc main_arg0) _
  unfold V
  congr 1
  funext a
  apply Fin.ext
  match a with
  | ⟨0, _⟩ => show win0_0.index t 0 * 2304 + 1 * r.val = t.val / 22 * 2304 + r.val; rw [(idx0 t).1]; omega
  | ⟨1, _⟩ => show win0_0.index t 1 * 2048 + 1 * n.val = n.val; rw [(idx0 t).2]; omega

theorem blk1 (c : Dev nD) (t : Fin cfg0.N) (r : Fin 2048) (n : Fin 512) :
    (iblk m c 1 t (ix2 r n) : EReal) = rd (a := 2048) (b := 11264) (arg1 m c) (r.val) (t.val % 22 * 512 + n.val) := by
  have ht := ltN t
  rw [rd_eq _ _ _ (by omega) (by omega)]
  unfold iblk
  rw [View.read_apply]
  show V m c main_arg1 _ = m (c.tc.loc main_arg1) _
  unfold V
  congr 1
  funext a
  apply Fin.ext
  match a with
  | ⟨0, _⟩ => show win0_1.index t 0 * 2048 + 1 * r.val = r.val; rw [(idx1 t).1]; omega
  | ⟨1, _⟩ => show win0_1.index t 1 * 512 + 1 * n.val = t.val % 22 * 512 + n.val; rw [(idx1 t).2]; omega

theorem pay_apply (x0 : Vec Ideal S2304x2048 .bf16) (x1 : Vec Ideal S2048x512 .bf16) (i : Fin 2304) (j : Fin 512) :
    (k0_pay1 (F := Ideal) x0 x1 (ix2 i j) : EReal) = ∑ k : Fin 2048, (x0 (ix2 i k) : EReal) * x1 (ix2 k j) := by
  pointwise [k0_pay1]

theorem after_eq (c : Dev nD) (t : Fin cfg0.N) (i : Fin 2304) (j : Fin 512) :
    ((dats m 0 c).after 2 t (ix2 i j) : EReal) = prod (arg0 m c) (arg1 m c) (t.val / 22 * 2304 + i.val) (t.val % 22 * 512 + j.val) := by
  rw [after0_2]
  frame_out
  refine (pay_apply _ _ i j).trans ?_
  unfold prod
  exact Finset.sum_congr rfl fun k _ => Ideal.mul_congr (blk0 m c t _ _) (blk1 m c t _ _)

/-- The result array. -/
def res (c : Dev nD) : Vec Ideal S2304x11264 .f32 := fun y => prod (arg0 m c) (arg1 m c) (y 0).val (y 1).val

theorem flushed2_eq (c : Dev nD) (t : Fin cfg0.N) (hf : (cfg0.win 2).flush t = true) :
    (dats m 0 c).flushed 2 t = ((cfg0.win 2).blk t).view.read (Elt Ideal) (res m c) := by
  funext y
  rw [View.read_apply]
  have hy0 : (y 0).val < 2304 := (y 0).isLt
  have hy1 : (y 1).val < 512 := (y 1).isLt
  show (dats m 0 c).after 2 t _ = res m c _
  refine Eq.trans (congrArg _ ?_) ((after_eq m c t ⟨(y 0).val, hy0⟩ ⟨(y 1).val, hy1⟩).trans ?_)
  · funext a; match a with
    | ⟨0, _⟩ => rfl
    | ⟨1, _⟩ => rfl
  · show prod _ _ _ _ = prod _ _ (win0_2.index t 0 * 2304 + 1 * (y 0).val) (win0_2.index t 1 * 512 + 1 * (y 1).val)
    rw [(idx2 t).1, (idx2 t).2, Nat.one_mul, Nat.one_mul]

theorem final2 (c : Dev nD) : (dats m 0 c).arrAt 2 cfg0.N = res m c :=
  (dats m 0 c).arrAt_eq_of_cover 2 (res m c) (flushed2_eq m c) fun i => by
    have hi0 : (i 0).val < 2304 := (i 0).isLt
    have hi1 : (i 1).val < 11264 := (i 1).isLt
    refine ⟨⟨(i 0).val / 2304 * 22 + (i 1).val / 512, by show _ < grid0.N; rw [Gen.N_0]; omega⟩, flush2 _, ?_⟩
    generalize ht : (⟨(i 0).val / 2304 * 22 + (i 1).val / 512, _⟩ : Fin grid0.N) = t
    have ht' : t.val = (i 0).val / 2304 * 22 + (i 1).val / 512 := by rw [← ht]
    show i ∈ ((View.whole main_v0).slice (win0_2.rect t)).set
    rw [View.set_slice_whole, Rect.mem_set_unit]
    intro a
    match a with
    | ⟨0, _⟩ => exact mem_box 2304 (i 0).val (idx2 t).1 (by omega)
    | ⟨1, _⟩ => exact mem_box 512 (i 1).val (idx2 t).2 (by omega)

end Cert.UIdeal.Body

namespace Cert.UFwdIdeal.Ref
open Cert.UFwdIdeal.Gen Cert.UFwdIdeal.Read Cert.AttSpec Cert.MmSpec

theorem ref_eq (x0 : Vec Ideal S2304x2048 .bf16) (x1 : Vec Ideal S2048x11264 .bf16) (i : Fin 2304) (j : Fin 11264) :
    (val_main_v2 (F := Ideal) x0 x1 (ix2 i j) : EReal) = prod x0 x1 i.val j.val := by
  pointwise [val_main_v0, val_main_v1, val_main_v2]
  unfold prod
  refine Finset.sum_congr rfl fun k _ => ?_
  rw [rd_eq _ _ _ (by omega) (by omega), rd_eq _ _ _ (by omega) (by omega)]
  all_goals first | rfl | exact mul_comm _ _

end Cert.UFwdIdeal.Ref

namespace Cert.Proof.U

theorem frame_ref : quiescent_UFwdIdeal := fun m ρ _ =>
  (θ_run UFwdIdeal.defs _ _).mono (fun r h => ⟨fun c => (h c).2,
      sem_eq_zero_of_no_sems (by decide) r.2⟩)
    (UFwdIdeal.Value.run (F := Ideal) m ρ)

theorem algebraic : algebraic_UIdeal_UFwdIdeal := by
  intro m ρ m' ρ' _ hagree
  refine ⟨fun c => UIdeal.Body.res m c, ?_, ?_⟩
  · refine (θ_run UIdeal.defs _ _).mono (fun _ h c => ?_) (UIdeal.Value.run_blocks (F := Ideal) m ρ)
    exact ⟨(h c).1.trans (UIdeal.Body.final2 m c), (h c).2⟩
  · refine (θ_run UFwdIdeal.defs _ _).mono (fun _ h c => ?_) (UFwdIdeal.Value.run (F := Ideal) m' ρ')
    obtain ⟨g0, g1⟩ := hagree c
    refine ⟨((h c).1.trans (UFwdIdeal.Read.val_main_v2_eq _ _)).trans ?_, (h c).2⟩
    show UFwdIdeal.Read.val_main_v2 (F := Ideal) (m' (c.tc.loc UFwdIdeal.main_arg0))
      (m' (c.tc.loc UFwdIdeal.main_arg1)) = _
    rw [g0, g1]
    funext y
    rw [eq_ix2 y]
    exact UFwdIdeal.Ref.ref_eq _ _ _ _

end Cert.Proof.U

end
-- ==== Proof.MmYff.lean ====
/- The channel mixer's last projection. -/
module

public import proofs.«01_k».proof.Proof.MmSpec
public import proofs.«01_k».proof.Proof.Gen.YffIdeal.Value
public import proofs.«01_k».proof.Proof.Gen.YffFwdIdeal.Run
public import proofs.«01_k».proof.Proof.Gen.YffFwdIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.YffIdeal.Body
open Idealize.ShloMosaic.Pipeline (Dat)
open Cert.YffIdeal.Gen Cert.YffIdeal.Value Cert.AttSpec Cert.MmSpec

variable (m : (ℓ : Loc nD τ sig) → Buf (Elt Ideal) ℓ)

abbrev arg0 (c : Dev nD) : Vec Ideal S2304x5632 .bf16 := m ((c : Thread nD τ).loc main_arg0)
abbrev arg1 (c : Dev nD) : Vec Ideal S5632x2048 .bf16 := m ((c : Thread nD τ).loc main_arg1)

theorem idx0 : ∀ t : Fin grid0.N, win0_0.index t 0 = 0 ∧ win0_0.index t 1 = t.val % 11 := by decide +kernel
theorem idx1 : ∀ t : Fin grid0.N, win0_1.index t 0 = t.val % 11 ∧ win0_1.index t 1 = t.val / 11 := by decide +kernel
theorem idx2 : ∀ t : Fin grid0.N, win0_2.index t 0 = 0 ∧ win0_2.index t 1 = t.val / 11 := by decide +kernel

theorem ltN (t : Fin cfg0.N) : t.val < 22 := lt_of_lt_of_eq t.isLt Gen.N_0

theorem blk0 (c : Dev nD) (t : Fin cfg0.N) (r : Fin 2304) (n : Fin 512) :
    (iblk m c 0 t (ix2 r n) : EReal) = rd (a := 2304) (b := 5632) (arg0 m c) (r.val) (t.val % 11 * 512 + n.val) := by
  have ht := ltN t
  rw [rd_eq _ _ _ (by omega) (by omega)]
  unfold iblk
  rw [View.read_apply]
  show V m c main_arg0 _ = m (c.tc.loc main_arg0) _
  unfold V
  congr 1
  funext a
  apply Fin.ext
  match a with
  | ⟨0, _⟩ => show win0_0.index t 0 * 2304 + 1 * r.val = r.val; rw [(idx0 t).1]; omega
  | ⟨1, _⟩ => show win0_0.index t 1 * 512 + 1 * n.val = t.val % 11 * 512 + n.val; rw [(idx0 t).2]; omega

theorem blk1 (c : Dev nD) (t : Fin cfg0.N) (r : Fin 512) (n : Fin 1024) :
    (iblk m c 1 t (ix2 r n) : EReal) = rd (a := 5632) (b := 2048) (arg1 m c) (t.val % 11 * 512 + r.val) (t.val / 11 * 1024 + n.val) := by
  have ht := ltN t
  rw [rd_eq _ _ _ (by omega) (by omega)]
  unfold iblk
  rw [View.read_apply]
  show V m c main_arg1 _ = m (c.tc.loc main_arg1) _
  unfold V
  congr 1
  funext a
  apply Fin.ext
  match a with
  | ⟨0, _⟩ => show win0_1.index t 0 * 512 + 1 * r.val = t.val % 11 * 512 + r.val; rw [(idx1 t).1]; omega
  | ⟨1, _⟩ => show win0_1.index t 1 * 1024 + 1 * n.val = t.val / 11 * 1024 + n.val; rw [(idx1 t).2]; omega

/-- One step's part of the entry. -/
def part (x0 : Vec Ideal S2304x512 .bf16) (x1 : Vec Ideal S512x1024 .bf16) (i : Fin 2304) (j : Fin 1024) : EReal :=
  ∑ k : Fin 512, (x0 (ix2 i k) : EReal) * x1 (ix2 k j)

theorem first_apply (x0 : Vec Ideal S2304x512 .bf16) (x1 : Vec Ideal S512x1024 .bf16) (i : Fin 2304) (j : Fin 1024) :
    (k0_pay2 (F := Ideal) (k0_pay1 (F := Ideal)) x0 x1 (ix2 i j) : EReal) = part x0 x1 i j := by
  unfold part
  pointwise [k0_pay2, k0_pay1]
  all_goals simp

theorem next_apply (acc : Vec Ideal S2304x1024 .f32) (x0 : Vec Ideal S2304x512 .bf16) (x1 : Vec Ideal S512x1024 .bf16) (i : Fin 2304) (j : Fin 1024) :
    (k0_pay2 (F := Ideal) acc x0 x1 (ix2 i j) : EReal) = (acc (ix2 i j) : EReal) + part x0 x1 i j := by
  unfold part
  pointwise [k0_pay2]

/-- The product of the entries at place `k` of the sum. -/
def tm (c : Dev nD) (i j k : Nat) : EReal :=
  rd (a := 2304) (b := 5632) (arg0 m c) i k * rd (a := 5632) (b := 2048) (arg1 m c) k j

theorem part_eq (c : Dev nD) (t : Fin cfg0.N) (i : Fin 2304) (j : Fin 1024) :
    part (iblk m c 0 t) (iblk m c 1 t) i j
      = ∑ k : Fin 512, tm m c i.val (t.val / 11 * 1024 + j.val) (t.val % 11 * 512 + k.val) :=
  Finset.sum_congr rfl fun k _ => Ideal.mul_congr (blk0 m c t _ _) (blk1 m c t _ _)

/-- The sum held after point `n`. -/
theorem acc_eq (c : Dev nD) (i : Fin 2304) (j : Fin 1024) : ∀ (n : Nat) (h : n < cfg0.N),
    ((outsAt0 m c n h).2 (ix2 i j) : EReal)
      = ∑ s ∈ Finset.range (n % 11 + 1), ∑ k : Fin 512, tm m c i.val (n / 11 * 1024 + j.val) (s * 512 + k.val) := by
  intro n
  induction n with
  | zero =>
    intro h
    rw [outsAt0_A m c ⟨0, h⟩ rfl (by dsimp only; omega)]
    frame_out
    rw [first_apply, part_eq m c ⟨0, h⟩ i j]
    simp
  | succ n ih =>
    intro h
    have hn : n + 1 < 22 := lt_of_lt_of_eq h Gen.N_0
    by_cases h0 : (n + 1) % 11 = 0
    · rw [outsAt0_A m c ⟨n + 1, h⟩ h0 (by dsimp only; omega)]
      frame_out
      rw [first_apply, part_eq m c ⟨n + 1, h⟩ i j]
      simp [h0]
    · have a1 : (n + 1) % 11 = n % 11 + 1 := by omega
      have a2 : (n + 1) / 11 = n / 11 := by omega
      have key : (k0_pay2 (F := Ideal) (outsAt0 m c n (Nat.lt_of_succ_lt h)).2 (iblk m c 0 ⟨n + 1, h⟩) (iblk m c 1 ⟨n + 1, h⟩) (ix2 i j) : EReal)
          = ∑ s ∈ Finset.range ((n + 1) % 11 + 1), ∑ k : Fin 512, tm m c i.val ((n + 1) / 11 * 1024 + j.val) (s * 512 + k.val) := by
        rw [next_apply, ih (Nat.lt_of_succ_lt h), part_eq m c ⟨n + 1, h⟩ i j]
        show _ + (∑ k : Fin 512, tm m c i.val ((n + 1) / 11 * 1024 + j.val) ((n + 1) % 11 * 512 + k.val)) = _
        rw [a1, a2, Finset.sum_range_succ _ (n % 11 + 1)]
      by_cases h1 : (n + 1) % 11 = 10
      · rw [outsAt0_C m c ⟨n + 1, h⟩ h0 h1]
        frame_out
        exact (congrArg (fun a => (k0_pay2 (F := Ideal) a (iblk m c 0 ⟨n + 1, h⟩) (iblk m c 1 ⟨n + 1, h⟩) (ix2 i j) : EReal))
          (Memref.IsWhole.read_unread (Memref.isWhole_whole _) _)).trans key
      · rw [outsAt0_B m c ⟨n + 1, h⟩ h0 h1]
        frame_out
        exact (congrArg (fun a => (k0_pay2 (F := Ideal) a (iblk m c 0 ⟨n + 1, h⟩) (iblk m c 1 ⟨n + 1, h⟩) (ix2 i j) : EReal))
          (Memref.IsWhole.read_unread (Memref.isWhole_whole _) _)).trans key

theorem last_eq (c : Dev nD) (t : Fin cfg0.N) (h1 : t.val % 11 = 10) (i : Fin 2304) (j : Fin 1024) :
    ((outsAt0 m c t.val t.isLt).1 (ix2 i j) : EReal) = ((outsAt0 m c t.val t.isLt).2 (ix2 i j) : EReal) := by
  rw [outsAt0_C m c t (by omega) h1]
  frame_out
  all_goals rfl

theorem after_eq (c : Dev nD) (t : Fin cfg0.N) (hf : (cfg0.win 2).flush t = true) (i : Fin 2304) (j : Fin 1024) :
    ((dats m 0 c).after 2 t (ix2 i j) : EReal) = prod (arg0 m c) (arg1 m c) i.val (t.val / 11 * 1024 + j.val) := by
  have h1 : t.val % 11 = 10 := (flush0_2 t).mp hf
  rw [after0_2, last_eq m c t h1, acc_eq, h1, Finset.sum_range]
  exact Fin.sum_univ_univ_mul_add 11 512 (tm m c i.val (t.val / 11 * 1024 + j.val))

/-- The result array. -/
def res (c : Dev nD) : Vec Ideal S2304x2048 .f32 := fun y => prod (arg0 m c) (arg1 m c) (y 0).val (y 1).val

theorem flushed_res (c : Dev nD) (t : Fin cfg0.N) (hf : (cfg0.win 2).flush t = true) :
    (dats m 0 c).flushed 2 t = ((cfg0.win 2).blk t).view.read (Elt Ideal) (res m c) := by
  funext y
  rw [View.read_apply]
  have hy0 : (y 0).val < 2304 := (y 0).isLt
  have hy1 : (y 1).val < 1024 := (y 1).isLt
  show (dats m 0 c).after 2 t _ = res m c _
  refine Eq.trans (congrArg _ ?_) ((after_eq m c t hf ⟨(y 0).val, hy0⟩ ⟨(y 1).val, hy1⟩).trans ?_)
  · funext a; match a with
    | ⟨0, _⟩ => rfl
    | ⟨1, _⟩ => rfl
  · show prod _ _ _ _ = prod _ _ (win0_2.index t 0 * 2304 + 1 * (y 0).val) (win0_2.index t 1 * 1024 + 1 * (y 1).val)
    rw [(idx2 t).1, (idx2 t).2, Nat.one_mul, Nat.one_mul, Nat.zero_mul, Nat.zero_add]

theorem final_res (c : Dev nD) : (dats m 0 c).arrAt 2 cfg0.N = res m c :=
  (dats m 0 c).arrAt_eq_of_cover 2 (res m c) (flushed_res m c) fun i => by
    have hi0 : (i 0).val < 2304 := (i 0).isLt
    have hi1 : (i 1).val < 2048 := (i 1).isLt
    refine ⟨⟨(i 1).val / 1024 * 11 + 10, by show _ < grid0.N; rw [Gen.N_0]; omega⟩, (flush0_2 _).mpr (by dsimp only; omega), ?_⟩
    generalize ht : (⟨(i 1).val / 1024 * 11 + 10, _⟩ : Fin grid0.N) = t
    have ht' : t.val = (i 1).val / 1024 * 11 + 10 := by rw [← ht]
    show i ∈ ((View.whole main_v0).slice (win0_2.rect t)).set
    rw [View.set_slice_whole, Rect.mem_set_unit]
    intro a
    match a with
    | ⟨0, _⟩ => exact mem_box 2304 (i 0).val (idx2 t).1 (by omega)
    | ⟨1, _⟩ => exact mem_box 1024 (i 1).val (idx2 t).2 (by omega)

end Cert.YffIdeal.Body

namespace Cert.YffFwdIdeal.Ref
open Cert.YffFwdIdeal.Gen Cert.YffFwdIdeal.Read Cert.AttSpec Cert.MmSpec

theorem ref_eq (x0 : Vec Ideal S2304x5632 .bf16) (x1 : Vec Ideal S5632x2048 .bf16) (i : Fin 2304) (j : Fin 2048) :
    (val_main_v2 (F := Ideal) x0 x1 (ix2 i j) : EReal) = prod x0 x1 i.val j.val := by
  pointwise [val_main_v0, val_main_v1, val_main_v2]
  unfold prod
  refine Finset.sum_congr rfl fun k _ => ?_
  rw [rd_eq _ _ _ (by omega) (by omega), rd_eq _ _ _ (by omega) (by omega)]
  all_goals first | rfl | exact mul_comm _ _

end Cert.YffFwdIdeal.Ref

namespace Cert.Proof.Yff

theorem frame_ref : quiescent_YffFwdIdeal := fun m ρ _ =>
  (θ_run YffFwdIdeal.defs _ _).mono (fun r h => ⟨fun c => (h c).2,
      sem_eq_zero_of_no_sems (by decide) r.2⟩)
    (YffFwdIdeal.Value.run (F := Ideal) m ρ)

theorem algebraic : algebraic_YffIdeal_YffFwdIdeal := by
  intro m ρ m' ρ' _ hagree
  refine ⟨fun c => YffIdeal.Body.res m c, ?_, ?_⟩
  · refine (θ_run YffIdeal.defs _ _).mono (fun _ h c => ?_) (YffIdeal.Value.run_blocks (F := Ideal) m ρ)
    exact ⟨(h c).1.trans (YffIdeal.Body.final_res m c), (h c).2⟩
  · refine (θ_run YffFwdIdeal.defs _ _).mono (fun _ h c => ?_) (YffFwdIdeal.Value.run (F := Ideal) m' ρ')
    obtain ⟨g0, g1⟩ := hagree c
    refine ⟨((h c).1.trans (YffFwdIdeal.Read.val_main_v2_eq _ _)).trans ?_, (h c).2⟩
    show YffFwdIdeal.Read.val_main_v2 (F := Ideal) (m' (c.tc.loc YffFwdIdeal.main_arg0))
      (m' (c.tc.loc YffFwdIdeal.main_arg1)) = _
    rw [g0, g1]
    funext y
    rw [eq_ix2 y]
    exact YffFwdIdeal.Ref.ref_eq _ _ _ _

end Cert.Proof.Yff

end
-- ==== Proof.AttFwdSpec.lean ====
/- The masked attention, written once over row and column numbers. -/
module

public import proofs.«01_k».proof.Proof.AttSpec

@[expose] public section

noncomputable section

namespace Cert.AttSpec

open Idealize.ShloMosaic Cert.RowSpec

/-- The attention's row `r` and column `n`: a key head serves four query heads. -/
def gO (c : EReal)
    (q : (⟨2, ![2304, 1024]⟩ : Shape).Idx → EReal) (k : (⟨2, ![2304, 256]⟩ : Shape).Idx → EReal)
    (z : (⟨2, ![2304, 5376]⟩ : Shape).Idx → EReal) (r n : Nat) : EReal :=
  ∑ j : Fin 2304, gP c q k (n / 128) r j * rd z j.val (1280 + n / 128 / 4 * 128 + n % 128)

end Cert.AttSpec
-- ==== Proof.AttFwdBody.lean ====
/- The attention's kernel body: the four heads of a tile, read at an index. -/
module

public import proofs.«01_k».proof.Proof.AttBlocks
public import proofs.«01_k».proof.Proof.AttFwdSpec
public import proofs.«01_k».proof.Proof.Gen.AttFwdIdeal.Frame
public import Idealize.ShloMosaic.Lib.Pointwise

@[expose] public section

set_option maxRecDepth 16384

noncomputable section

namespace Cert.AttFwdIdeal.Body

open Idealize.ShloMosaic Idealize.ShloMosaic.TcCoe Idealize.SL.Sem
open Cert.AttFwdIdeal.Gen Cert.RowSpec Cert.AttSpec
open Cert.AttBwdIdeal.Body (sc ofBits_negInf)

theorem mask_eq : (Named.named κ "mask" 0xF149F2CA#32 : Ideal .f32) = (⊥ : EReal) := rfl

theorem hz : (![0, 0] : Fin 2 → Nat) = fun _ => 0 := funext fun a => by fin_cases a <;> rfl

/-- The printed mask word selects by column and by tile. -/
theorem select_mask (x y : EReal) (j t : Nat) (hj : j < 2304) (ht : t < 9) :
    Scalar.select (IntOp.ori (IntOp.cmpi .slt (BitVec.ofNat 32 j) 256#32) (Scalar.cmpi .sge (BitVec.ofNat 32 t) 1#32)) x y
      = if j < 256 ∨ 1 ≤ t then x else y := by
  have h1 : IntOp.cmpi .slt (BitVec.ofNat 32 j) 256#32 = BitVec.ofBool (decide (j < 256)) := by
    have : (BitVec.ofNat 32 j).slt 256#32 = decide (j < 256) := by
      rw [BitVec.slt_eq_decide, BitVec.toInt_ofNat', BitVec.toInt_ofNat']
      simp only [Int.bmod, decide_eq_decide]
      omega
    simp [IntOp.cmpi, this]
  have h2 : Scalar.cmpi .sge (BitVec.ofNat 32 t) 1#32 = BitVec.ofBool (decide (1 ≤ t)) := by
    revert ht; revert t; decide
  rw [h1, h2]
  by_cases a : j < 256 <;> by_cases b : 1 ≤ t <;> simp [Scalar.select, IntOp.ori, a, b]

/-- The scores of a head's row `r`, masked where the tile `t` is of context rows. -/
def tileS (t : Nat) (q : Vec Ideal S256x128 .bf16) (k : Vec Ideal S2304x128 .bf16) (r : Fin 256) (j : Fin 2304) : EReal :=
  if j.val < 256 ∨ 1 ≤ t then (∑ d : Fin 128, (q (ix2 r d) : EReal) * k (ix2 j d)) * sc else ⊥

/-- A head's row of a tile. -/
def tileO (t : Nat) (q : Vec Ideal S256x128 .bf16) (k : Vec Ideal S2304x128 .bf16) (v : Vec Ideal S2304x128 .f32)
    (r : Fin 256) (d : Fin 128) : EReal :=
  ∑ j : Fin 2304, rowP (tileS t q k r) j * (v (ix2 j d) : EReal)

variable (i : grid0.Coords) (k : Vec Ideal S2304x128 .bf16) (v : Vec Ideal S2304x128 .f32) (q : Vec Ideal S256x128 .bf16)
  (r : Fin 256) (d : Fin 128)

theorem pay5_apply (j : Fin 2304) : k0_pay5 (F := Ideal) i k q (ix2 r j) = tileS (i 1).val q k r j := by
  have hi : (i 1).val < 9 := (i 1).isLt
  pointwise [k0_pay5, k0_pay2, tileS]
  simp only [select_mask _ _ _ _ (Fin.isLt _) hi, mask_eq]

theorem pay6_apply : k0_pay6 (F := Ideal) i k q (ix1 r) = Finset.univ.fold max ⊥ (tileS (i 1).val q k r) := by
  have e : ∀ j, (k0_pay5 (F := Ideal) i k q (ix2 r j) : EReal) = _ := pay5_apply i k q r
  unfold k0_pay6
  generalize k0_pay5 (F := Ideal) i k q = s at e ⊢
  pointwise
  simp only [e, ofBits_negInf]

theorem pay7_apply :
    k0_pay7 (F := Ideal) (k0_pay3 v) (k0_pay5 i k q) (k0_pay6 i k q) (ix2 r d) = tileO (i 1).val q k v r d := by
  have e : ∀ r j, (k0_pay5 (F := Ideal) i k q (ix2 r j) : EReal) = _ := pay5_apply i k q
  have e' : ∀ r, (k0_pay6 (F := Ideal) i k q (ix1 r) : EReal) = _ := pay6_apply i k q
  generalize k0_pay5 (F := Ideal) i k q = s at e ⊢
  generalize k0_pay6 (F := Ideal) i k q = s' at e' ⊢
  pointwise [k0_pay7, k0_pay3, tileO, rowP, rowZ, rowE]
  simp only [e, e']

theorem pay1_apply :
    k0_pay1 (F := Ideal) (k0_pay3 v) (k0_pay9 (k0_pay2 i) k q) (k0_pay10 (k0_pay2 i) k q) (ix2 r d)
      = tileO (i 1).val q k v r d := pay7_apply i k v q r d

theorem pay4_apply : k0_pay4 (F := Ideal) i k v q (ix2 r d) = tileO (i 1).val q k v r d := pay7_apply i k v q r d

theorem pay8_apply : k0_pay8 (F := Ideal) (k0_pay2 i) k (k0_pay3 v) q (ix2 r d) = tileO (i 1).val q k v r d :=
  pay7_apply i k v q r d

/-- The queries of one head of a tile. -/
def headQ (x0 : Vec Ideal S256x512 .bf16) (h : Nat) (hh : h < 4) : Vec Ideal S256x128 .bf16 := fun y =>
  x0 (ix2 (y 0) ⟨h * 128 + (y 1).val, by
    have : (y 1).val < 128 := (y 1).isLt
    show _ < 512
    omega⟩)

/-- What a tile leaves in its output block. -/
def blockO (t : Nat) (x0 : Vec Ideal S256x512 .bf16) (x1 : Vec Ideal S2304x128 .bf16) (x2 : Vec Ideal S2304x128 .f32)
    (y : S256x512.Idx) : Elt Ideal .bf16 :=
  tileO t (headQ x0 ((y 1).val / 128) (by have : (y 1).val < 512 := (y 1).isLt; omega)) x1 x2 (y 0)
    ⟨(y 1).val % 128, Nat.mod_lt _ (by decide)⟩

theorem piece (t : Nat) (x0 : Vec Ideal S256x512 .bf16) (x1 : Vec Ideal S2304x128 .bf16) (x2 : Vec Ideal S2304x128 .f32)
    (qh : Vec Ideal S256x128 .bf16) (h : Nat) (hh : h < 4) (e : qh = headQ x0 h hh) (r : Fin 256) (n : Fin 128)
    (y : S256x512.Idx) (hy0 : (y 0).val = r.val) (hy1 : (y 1).val = h * 128 + n.val) :
    tileO t qh x1 x2 r n = blockO t x0 x1 x2 y := by
  subst e
  unfold blockO
  have e0 : y 0 = r := Fin.ext hy0
  have e1 : ∀ (a : Nat) (ha : a < 4), a = h → headQ x0 h hh = headQ x0 a ha := fun a ha e => by subst e; rfl
  have e2 : (⟨(y 1).val % 128, Nat.mod_lt _ (by decide)⟩ : Fin 128) = n := Fin.ext (by
    show (y 1).val % 128 = n.val
    have := n.isLt
    omega)
  rw [e0, e2, e1 ((y 1).val / 128) _ (by have := n.isLt; omega)]

theorem out0_3_eq (x0 : Vec Ideal S256x512 .bf16) (x1 : Vec Ideal S2304x128 .bf16) (x2 : Vec Ideal S2304x128 .f32)
    (y : S256x512.Idx) : (out0_3 (F := Ideal) i x0 x1 x2 y : EReal) = blockO (i 1).val x0 x1 x2 y := by
  unfold_out out0_3
  refine View.canon_apply_of_pieces (blockO (i 1).val x0 x1 x2) _ ?_ _ (cover0_3 _ _ _ _ _)
  simp only [List.mem_cons, List.not_mem_nil, or_false, forall_eq_or_imp, forall_eq,
    show View.ld x1 r0_0 = x1 from View.ld_unit_zero (S := S2304x128) hz _ _, show View.ld x2 r0_0 = x2 from View.ld_unit_zero (S := S2304x128) hz _ _]
  refine ⟨?_, ?_, ?_, ?_⟩ <;> intro y <;> idx_vars y
  · refine (pay1_apply i x1 x2 _ y0 y1).trans (piece _ x0 x1 x2 _ 3 (by decide) ?_ y0 y1 _ ?_ ?_)
    · funext z
      idx_vars z
      pointwise [headQ]
    · show 0 + 1 * y0.val = y0.val
      omega
    · show 384 + 1 * y1.val = 3 * 128 + y1.val
      omega
  · refine (pay8_apply i x1 x2 _ y0 y1).trans (piece _ x0 x1 x2 _ 2 (by decide) ?_ y0 y1 _ ?_ ?_)
    · funext z
      idx_vars z
      pointwise [headQ]
    · show 0 + 1 * y0.val = y0.val
      omega
    · show 256 + 1 * y1.val = 2 * 128 + y1.val
      omega
  · refine (pay7_apply i x1 x2 _ y0 y1).trans (piece _ x0 x1 x2 _ 1 (by decide) ?_ y0 y1 _ ?_ ?_)
    · funext z
      idx_vars z
      pointwise [headQ]
    · show 0 + 1 * y0.val = y0.val
      omega
    · show 128 + 1 * y1.val = 1 * 128 + y1.val
      omega
  · refine (pay4_apply i x1 x2 _ y0 y1).trans (piece _ x0 x1 x2 _ 0 (by decide) ?_ y0 y1 _ ?_ ?_)
    · funext z
      idx_vars z
      pointwise [headQ]
    · show 0 + 1 * y0.val = y0.val
      omega
    · show 0 + 1 * y1.val = 0 * 128 + y1.val
      omega

end Cert.AttFwdIdeal.Body

end
-- ==== Proof.AttFwdRef.lean ====
/- The attention's reference: its rows are the probabilities times the values. -/
module

public import proofs.«01_k».proof.Proof.AttRef
public import proofs.«01_k».proof.Proof.AttFwdSpec
public import proofs.«01_k».proof.Proof.Gen.AttendIdeal.Read
public import Idealize.ShloMosaic.Lib.Pointwise

@[expose] public section

set_option maxRecDepth 16384

noncomputable section

namespace Cert.AttendIdeal.Ref

open Idealize.ShloMosaic Idealize.ShloMosaic.TcCoe Idealize.SL.Sem
open Cert.AttendIdeal.Gen Cert.AttendIdeal.Read Cert.RowSpec Cert.AttSpec
open Cert.AttGradIdeal.Ref (sc sRow sCtx ofBits_negInf max_last head_div sRow_masked gP_masked)

variable (x0 : Vec Ideal S2304x1024 .bf16) (x1 : Vec Ideal S2304x256 .bf16) (x2 : Vec Ideal S2304x5376 .f32)

theorem q_lat (g : Fin 2) (h : Fin 4) (r : Fin 2048) (d : Fin 128) :
    (val_main_v13 (F := Ideal) x0 (ix5 0 g h r d) : EReal)
      = rd (a := 2304) (b := 1024) x0 (256 + r.val) ((g.val * 4 + h.val) * 128 + d.val) := by
  rw [rd_eq _ _ _ (by omega) (by omega)]
  pointwise [val_main_v13, val_main_v12, val_main_v5, val_main_v4, val_main_v3, val_main_v0]

theorem q_ctx (g : Fin 2) (h : Fin 4) (r : Fin 256) (d : Fin 128) :
    (val_main_v33 (F := Ideal) x0 (ix5 0 g h r d) : EReal)
      = rd (a := 2304) (b := 1024) x0 r.val ((g.val * 4 + h.val) * 128 + d.val) := by
  rw [rd_eq _ _ _ (by omega) (by omega)]
  pointwise [val_main_v33, val_main_v30, val_main_v5, val_main_v4, val_main_v3, val_main_v0]

theorem k_all (g : Fin 2) (j : Fin 2304) (d : Fin 128) :
    (val_main_v8 (F := Ideal) x1 (ix4 0 g j d) : EReal) = rd (a := 2304) (b := 256) x1 j.val (g.val * 128 + d.val) := by
  rw [rd_eq _ _ _ (by omega) (by omega)]
  pointwise [val_main_v8, val_main_v7, val_main_v6, val_main_v1]

theorem k_ctx (g : Fin 2) (j : Fin 256) (d : Fin 128) :
    (val_main_v31 (F := Ideal) x1 (ix4 0 g j d) : EReal) = rd (a := 2304) (b := 256) x1 j.val (g.val * 128 + d.val) := by
  rw [rd_eq _ _ _ (by omega) (by omega)]
  pointwise [val_main_v31, val_main_v8, val_main_v7, val_main_v6, val_main_v1]

theorem v_all (g : Fin 2) (j : Fin 2304) (d : Fin 128) :
    (val_main_v11 (F := Ideal) x2 (ix4 0 g j d) : EReal)
      = rd (a := 2304) (b := 5376) x2 j.val (1280 + g.val * 128 + d.val) := by
  rw [rd_eq _ _ _ (by omega) (by omega)]
  pointwise [val_main_v11, val_main_v10, val_main_v9, val_main_v2]
  exact congrArg x2 ((ix2_inj ..).2 ⟨rfl, Fin.ext (by dsimp only; omega)⟩)

theorem v_ctx (g : Fin 2) (j : Fin 256) (d : Fin 128) :
    (val_main_v32 (F := Ideal) x2 (ix4 0 g j d) : EReal)
      = rd (a := 2304) (b := 5376) x2 j.val (1280 + g.val * 128 + d.val) := by
  rw [rd_eq _ _ _ (by omega) (by omega)]
  pointwise [val_main_v32, val_main_v11, val_main_v10, val_main_v9, val_main_v2]
  exact congrArg x2 ((ix2_inj ..).2 ⟨rfl, Fin.ext (by dsimp only; omega)⟩)

/-! ## The latent rows -/

theorem s_lat (g : Fin 2) (h : Fin 4) (r : Fin 2048) (j : Fin 2304) :
    (val_main_v16 (F := Ideal) x0 x1 (ix5 0 g h r j) : EReal) = sRow x0 x1 (g.val * 4 + h.val) (256 + r.val) j := by
  pointwise [val_main_v16, val_main_v14, val_main_v15, val_main_cst, gS]
  simp only [q_lat, k_all, head_div, or_true, if_true]

theorem m_lat (g : Fin 2) (h : Fin 4) (r : Fin 2048) :
    (val_main_v17 (F := Ideal) x0 x1 (ix4 0 g h r) : EReal)
      = Finset.univ.fold max ⊥ (sRow x0 x1 (g.val * 4 + h.val) (256 + r.val)) := by
  have e : ∀ k, (val_main_v16 (F := Ideal) x0 x1 (ix5 0 g h r k) : EReal) = _ := s_lat x0 x1 g h r
  unfold val_main_v17
  generalize val_main_v16 (F := Ideal) x0 x1 = v at e ⊢
  refine (max_last _ v _ g h r).trans ?_
  rw [← ofBits_negInf]
  exact congrArg (fun f => Finset.univ.fold max (Ideal.ofBits .f32 0xFF800000#32) f) (funext e)

theorem mx_lat (g : Fin 2) (h : Fin 4) (r : Fin 2048) :
    (val_main_v19 (F := Ideal) x0 x1 (ix4 0 g h r) : EReal)
      = Finset.univ.fold max ⊥ (sRow x0 x1 (g.val * 4 + h.val) (256 + r.val)) := by
  rw [val_main_v19_apply, m_lat, val_main_v18_apply, val_main_cst_1_apply]
  generalize Finset.univ.fold max ⊥ (sRow x0 x1 (g.val * 4 + h.val) (256 + r.val)) = y
  show max (Ideal.ofBits .f32 0xFF800000#32) y = y
  rw [ofBits_negInf, max_eq_right bot_le]

theorem e_lat (g : Fin 2) (h : Fin 4) (r : Fin 2048) (j : Fin 2304) :
    (val_main_v23 (F := Ideal) x0 x1 (ix5 0 g h r j) : EReal)
      = rowE (sRow x0 x1 (g.val * 4 + h.val) (256 + r.val)) j := by
  pointwise [val_main_v23, val_main_v22, val_main_v21, val_main_v20]
  rw [s_lat, mx_lat]
  rfl

theorem z_lat (g : Fin 2) (h : Fin 4) (r : Fin 2048) :
    (val_main_v25 (F := Ideal) x0 x1 (ix5 0 g h r 0) : EReal)
      = rowZ (sRow x0 x1 (g.val * 4 + h.val) (256 + r.val)) := by
  pointwise [val_main_v25, val_main_v24, val_main_cst_2]
  simp only [e_lat, zero_add]
  rfl

theorem p_lat (g : Fin 2) (h : Fin 4) (r : Fin 2048) (j : Fin 2304) :
    (val_main_v27 (F := Ideal) x0 x1 (ix5 0 g h r j) : EReal)
      = rowP (sRow x0 x1 (g.val * 4 + h.val) (256 + r.val)) j := by
  pointwise [val_main_v27, val_main_v26]
  rw [e_lat, z_lat]
  rfl

theorem o_lat (g : Fin 2) (h : Fin 4) (r : Fin 2048) (d : Fin 128) :
    (val_main_v28 (F := Ideal) x0 x1 x2 (ix5 0 g h r d) : EReal)
      = ∑ j : Fin 2304, gP sc x0 x1 (g.val * 4 + h.val) (256 + r.val) j
        * rd (a := 2304) (b := 5376) x2 j.val (1280 + g.val * 128 + d.val) := by
  pointwise [val_main_v28]
  simp only [p_lat, v_all]
  rfl

/-! ## The context rows -/

theorem s_ctx (g : Fin 2) (h : Fin 4) (r : Fin 256) (j : Fin 256) :
    (val_main_v36 (F := Ideal) x0 x1 (ix5 0 g h r j) : EReal) = sCtx x0 x1 (g.val * 4 + h.val) r.val j := by
  pointwise [val_main_v36, val_main_v34, val_main_v35, val_main_cst_3]
  unfold sCtx gS
  rw [if_pos (Or.inl (show (Fin.castAdd (n := 256) 2048 j).val < 256 from j.isLt))]
  simp only [q_ctx, k_ctx, head_div]
  rfl

theorem m_ctx (g : Fin 2) (h : Fin 4) (r : Fin 256) :
    (val_main_v37 (F := Ideal) x0 x1 (ix4 0 g h r) : EReal)
      = Finset.univ.fold max ⊥ (sCtx x0 x1 (g.val * 4 + h.val) r.val) := by
  have e : ∀ k, (val_main_v36 (F := Ideal) x0 x1 (ix5 0 g h r k) : EReal) = _ := s_ctx x0 x1 g h r
  unfold val_main_v37
  generalize val_main_v36 (F := Ideal) x0 x1 = v at e ⊢
  refine (max_last _ v _ g h r).trans ?_
  rw [← ofBits_negInf]
  exact congrArg (fun f => Finset.univ.fold max (Ideal.ofBits .f32 0xFF800000#32) f) (funext e)

theorem mx_ctx (g : Fin 2) (h : Fin 4) (r : Fin 256) :
    (val_main_v39 (F := Ideal) x0 x1 (ix4 0 g h r) : EReal)
      = Finset.univ.fold max ⊥ (sCtx x0 x1 (g.val * 4 + h.val) r.val) := by
  rw [val_main_v39_apply, m_ctx, val_main_v38_apply, val_main_cst_5_apply]
  generalize Finset.univ.fold max ⊥ (sCtx x0 x1 (g.val * 4 + h.val) r.val) = y
  show max (Ideal.ofBits .f32 0xFF800000#32) y = y
  rw [ofBits_negInf, max_eq_right bot_le]

theorem e_ctx (g : Fin 2) (h : Fin 4) (r : Fin 256) (j : Fin 256) :
    (val_main_v43 (F := Ideal) x0 x1 (ix5 0 g h r j) : EReal)
      = rowE (sCtx x0 x1 (g.val * 4 + h.val) r.val) j := by
  pointwise [val_main_v43, val_main_v42, val_main_v41, val_main_v40]
  rw [s_ctx, mx_ctx]
  rfl

theorem z_ctx (g : Fin 2) (h : Fin 4) (r : Fin 256) :
    (val_main_v45 (F := Ideal) x0 x1 (ix5 0 g h r 0) : EReal)
      = rowZ (sCtx x0 x1 (g.val * 4 + h.val) r.val) := by
  pointwise [val_main_v45, val_main_v44, val_main_cst_6]
  simp only [e_ctx, zero_add]
  rfl

theorem p_ctx (g : Fin 2) (h : Fin 4) (r : Fin 256) (j : Fin 256) :
    (val_main_v47 (F := Ideal) x0 x1 (ix5 0 g h r j) : EReal)
      = gP sc x0 x1 (g.val * 4 + h.val) r.val (Fin.castAdd (n := 256) 2048 j) := by
  refine Eq.trans ?_ (rowP_prefix (a := 256) (b := 2048) (sRow x0 x1 (g.val * 4 + h.val) r.val)
    (sRow_masked x0 x1 _ _ r.isLt) j).symm
  pointwise [val_main_v47, val_main_v46]
  rw [e_ctx, z_ctx]
  rfl

section
variable (hq : ∀ i, ∃ r : ℝ, (x0 i : EReal) = (r : EReal)) (hk : ∀ i, ∃ r : ℝ, (x1 i : EReal) = (r : EReal))
include hq hk

theorem o_ctx (g : Fin 2) (h : Fin 4) (r : Fin 256) (d : Fin 128) :
    (val_main_v48 (F := Ideal) x0 x1 x2 (ix5 0 g h r d) : EReal)
      = ∑ j : Fin 2304, gP sc x0 x1 (g.val * 4 + h.val) r.val j
        * rd (a := 2304) (b := 5376) x2 j.val (1280 + g.val * 128 + d.val) := by
  refine Eq.trans ?_ (sum_prefix (a := 256) (b := 2048) (fun j => gP sc x0 x1 (g.val * 4 + h.val) r.val j
    * rd (a := 2304) (b := 5376) x2 j.val (1280 + g.val * 128 + d.val)) fun j hj => by
      simp only [gP_masked x0 x1 hq hk _ _ r.isLt j hj, zero_mul]).symm
  pointwise [val_main_v48]
  simp only [p_ctx, v_ctx]
  rfl

theorem o_ref (r : Fin 2304) (n : Fin 1024) :
    (val_main_v56 (F := Ideal) x0 x1 x2 (ix2 r n) : EReal) = gO sc x0 x1 x2 r.val n.val := by
  have hn : n.val < 1024 := n.isLt
  have hr : r.val < 2304 := r.isLt
  have e : n.val / 128 / 4 * 4 + n.val / 128 % 4 = n.val / 128 := by omega
  pointwise [val_main_v56, val_main_v55, val_main_v54, val_main_v53, val_main_v52, val_main_v51, val_main_v50,
    val_main_v49, val_main_v29]
  unfold gO
  by_cases h : r.val < 256
  · rw [dif_pos h]
    refine (o_ctx x0 x1 x2 hq hk _ _ _ _).trans ?_
    simp only [e]
  · rw [dif_neg h]
    refine (o_lat x0 x1 x2 _ _ _ _).trans ?_
    simp only [e, show 256 + (r.val - 256) = r.val by omega]

end

end Cert.AttendIdeal.Ref
-- ==== Proof.AttFwdClaims.lean ====
/- The claims about the attention: what its kernel leaves, and that the reference leaves the same. -/
module

public import proofs.«01_k».proof.Proof.AttFwdBody
public import proofs.«01_k».proof.Proof.AttFwdRef
public import proofs.«01_k».proof.Proof.AttClaims
public import proofs.«01_k».proof.Proof.Gen.AttFwdIdeal.Value
public import proofs.«01_k».proof.Proof.Gen.AttendIdeal.Run
public import proofs.«01_k».proof.Proof.Gen.AttendIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.AttFwdIdeal.Body
open Idealize.ShloMosaic.Pipeline (Dat)
open Cert.AttFwdIdeal.Gen Cert.AttFwdIdeal.Value Cert.RowSpec Cert.AttSpec
open Cert.AttBwdIdeal.Body (sc)

/-- A tile's block holds the attention's rows and columns of that tile and key head. -/
theorem blockO_eq (q : Vec Ideal S2304x1024 .bf16) (k : Vec Ideal S2304x256 .bf16) (z : Vec Ideal S2304x5376 .f32)
    (x0 : Vec Ideal S256x512 .bf16) (x1 : Vec Ideal S2304x128 .bf16) (x2 : Vec Ideal S2304x128 .f32) (i g : Nat)
    (h0 : ∀ (r : Fin 256) (n : Fin 512), (x0 (ix2 r n) : EReal) = rd (a := 2304) (b := 1024) q (i * 256 + r.val) (g * 512 + n.val))
    (h1 : ∀ (j : Fin 2304) (d : Fin 128), (x1 (ix2 j d) : EReal) = rd (a := 2304) (b := 256) k j.val (g * 128 + d.val))
    (h2 : ∀ (j : Fin 2304) (d : Fin 128), (x2 (ix2 j d) : EReal) = rd (a := 2304) (b := 5376) z j.val ((10 + g) * 128 + d.val))
    (r : Fin 256) (n : Fin 512) :
    (blockO i x0 x1 x2 (ix2 r n) : EReal) = gO sc q k z (i * 256 + r.val) (g * 512 + n.val) := by
  have hr : r.val < 256 := r.isLt
  have hn : n.val < 512 := n.isLt
  have hs : ∀ (h : Nat) (hh : h < 4), tileS i (headQ x0 h hh) x1 r = gS sc q k (g * 4 + h) (i * 256 + r.val) := by
    intro h hh
    funext j
    unfold tileS gS
    have e : (g * 4 + h) / 4 = g := by omega
    have c : (j.val < 256 ∨ 1 ≤ i) ↔ (j.val < 256 ∨ 256 ≤ i * 256 + r.val) := by omega
    have hq : ∀ d : Fin 128, (headQ x0 h hh (ix2 r d) : EReal)
        = rd (a := 2304) (b := 1024) q (i * 256 + r.val) ((g * 4 + h) * 128 + d.val) := by
      intro d
      refine (h0 _ _).trans ?_
      show rd (a := 2304) (b := 1024) q (i * 256 + r.val) (g * 512 + (h * 128 + d.val)) = _
      rw [show g * 512 + (h * 128 + d.val) = (g * 4 + h) * 128 + d.val by omega]
    simp only [hq, h1, e, c]
  show ∑ j : Fin 2304, rowP (tileS i (headQ x0 (n.val / 128) _) x1 r) j * (x2 (ix2 j ⟨n.val % 128, _⟩) : EReal) = _
  unfold gO gP
  refine Finset.sum_congr rfl fun j _ => ?_
  refine congrArg₂ (· * ·) (congrArg (fun s => rowP s j) ((hs (n.val / 128) (by omega)).trans ?_)) ((h2 _ _).trans ?_)
  · rw [show g * 4 + n.val / 128 = (g * 512 + n.val) / 128 by omega]
  · show rd (a := 2304) (b := 5376) z j.val ((10 + g) * 128 + n.val % 128) = _
    rw [show (10 + g) * 128 + n.val % 128 = 1280 + (g * 512 + n.val) / 128 / 4 * 128 + (g * 512 + n.val) % 128 by omega]

variable (m : (ℓ : Loc nD τ sig) → Buf (Elt Ideal) ℓ)

/-- The three arguments on a device. -/
abbrev aq (c : Dev nD) : Vec Ideal S2304x1024 .bf16 := m ((c : Thread nD τ).loc main_arg0)
abbrev ak (c : Dev nD) : Vec Ideal S2304x256 .bf16 := m ((c : Thread nD τ).loc main_arg1)
abbrev az (c : Dev nD) : Vec Ideal S2304x5376 .f32 := m ((c : Thread nD τ).loc main_arg2)

/-! ## Where the blocks lie -/

theorem idx0 : ∀ t : Fin grid0.N, win0_0.index t 0 = t.val % 9 ∧ win0_0.index t 1 = t.val / 9 := by decide +kernel
theorem idx1 : ∀ t : Fin grid0.N, win0_1.index t 0 = 0 ∧ win0_1.index t 1 = t.val / 9 := by decide +kernel
theorem idx2 : ∀ t : Fin grid0.N, win0_2.index t 0 = 0 ∧ win0_2.index t 1 = 10 + t.val / 9 := by decide +kernel
theorem idx3 : ∀ t : Fin grid0.N, win0_3.index t 0 = t.val % 9 ∧ win0_3.index t 1 = t.val / 9 := by decide +kernel
theorem co1 : ∀ t : Fin grid0.N, (grid0.coords t 1).val = t.val % 9 := by decide +kernel

theorem lt18 (t : Fin cfg0.N) : t.val < 18 := lt_of_lt_of_eq t.isLt Gen.N_0

theorem blk0 (c : Dev nD) (t : Fin cfg0.N) (r : Fin 256) (n : Fin 512) :
    (iblk m c 0 t (ix2 r n) : EReal) = rd (a := 2304) (b := 1024) (aq m c) (t.val % 9 * 256 + r.val) (t.val / 9 * 512 + n.val) := by
  have ht := lt18 t
  rw [rd_eq _ _ _ (by omega) (by omega)]
  unfold iblk
  rw [View.read_apply]
  show V m c main_arg0 _ = m (c.tc.loc main_arg0) _
  unfold V
  congr 1
  funext a
  apply Fin.ext
  match a with
  | ⟨0, _⟩ => show win0_0.index t 0 * 256 + 1 * r.val = t.val % 9 * 256 + r.val; rw [(idx0 t).1]; omega
  | ⟨1, _⟩ => show win0_0.index t 1 * 512 + 1 * n.val = t.val / 9 * 512 + n.val; rw [(idx0 t).2]; omega

theorem blk1 (c : Dev nD) (t : Fin cfg0.N) (j : Fin 2304) (d : Fin 128) :
    (iblk m c 1 t (ix2 j d) : EReal) = rd (a := 2304) (b := 256) (ak m c) j.val (t.val / 9 * 128 + d.val) := by
  have ht := lt18 t
  rw [rd_eq _ _ _ (by omega) (by omega)]
  unfold iblk
  rw [View.read_apply]
  show V m c main_arg1 _ = m (c.tc.loc main_arg1) _
  unfold V
  congr 1
  funext a
  apply Fin.ext
  match a with
  | ⟨0, _⟩ => show win0_1.index t 0 * 2304 + 1 * j.val = j.val; rw [(idx1 t).1]; omega
  | ⟨1, _⟩ => show win0_1.index t 1 * 128 + 1 * d.val = t.val / 9 * 128 + d.val; rw [(idx1 t).2]; omega

theorem blk2 (c : Dev nD) (t : Fin cfg0.N) (j : Fin 2304) (d : Fin 128) :
    (iblk m c 2 t (ix2 j d) : EReal) = rd (a := 2304) (b := 5376) (az m c) j.val ((10 + t.val / 9) * 128 + d.val) := by
  have ht := lt18 t
  rw [rd_eq _ _ _ (by omega) (by omega)]
  unfold iblk
  rw [View.read_apply]
  show V m c main_arg2 _ = m (c.tc.loc main_arg2) _
  unfold V
  congr 1
  funext a
  apply Fin.ext
  match a with
  | ⟨0, _⟩ => show win0_2.index t 0 * 2304 + 1 * j.val = j.val; rw [(idx2 t).1]; omega
  | ⟨1, _⟩ => show win0_2.index t 1 * 128 + 1 * d.val = (10 + t.val / 9) * 128 + d.val; rw [(idx2 t).2]; omega

/-- The attention, as an array. -/
def res (c : Dev nD) : Vec Ideal S2304x1024 .bf16 := fun y => gO sc (aq m c) (ak m c) (az m c) (y 0).val (y 1).val

theorem block_eq (c : Dev nD) (t : Fin cfg0.N) (r : Fin 256) (n : Fin 512) :
    (out0_3 (F := Ideal) (grid0.coords t) (iblk m c 0 t) (iblk m c 1 t) (iblk m c 2 t) (ix2 r n) : EReal)
      = gO sc (aq m c) (ak m c) (az m c) (t.val % 9 * 256 + r.val) (t.val / 9 * 512 + n.val) := by
  refine (out0_3_eq (grid0.coords t) (iblk m c 0 t) (iblk m c 1 t) (iblk m c 2 t) (ix2 r n)).trans ?_
  rw [co1 t]
  exact blockO_eq (aq m c) (ak m c) (az m c) _ _ _ _ _ (blk0 m c t) (blk1 m c t) (blk2 m c t) r n

theorem flushed3_eq (c : Dev nD) (t : Fin cfg0.N) (hf : (cfg0.win 3).flush t = true) :
    (dats m 0 c).flushed 3 t = ((cfg0.win 3).blk t).view.read (Elt Ideal) (res m c) := by
  rw [flushed3]
  funext y
  rw [View.read_apply]
  have ht := lt18 t
  have hy0 : (y 0).val < 256 := (y 0).isLt
  have hy1 : (y 1).val < 512 := (y 1).isLt
  show out0_3 (F := Ideal) (grid0.coords t) (iblk m c 0 t) (iblk m c 1 t) (iblk m c 2 t) _ = res m c _
  refine Eq.trans (congrArg _ ?_) ((block_eq m c t ⟨(y 0).val, hy0⟩ ⟨(y 1).val, hy1⟩).trans ?_)
  · funext a; match a with
    | ⟨0, _⟩ => rfl
    | ⟨1, _⟩ => rfl
  · show gO _ _ _ _ _ _ = gO _ _ _ _ (win0_3.index t 0 * 256 + 1 * (y 0).val) (win0_3.index t 1 * 512 + 1 * (y 1).val)
    rw [(idx3 t).1, (idx3 t).2, Nat.one_mul, Nat.one_mul]

theorem flush3 : ∀ t : Fin cfg0.N, (cfg0.win 3).flush t = true := by decide +kernel

theorem final3 (c : Dev nD) : (dats m 0 c).arrAt 3 cfg0.N = res m c :=
  (dats m 0 c).arrAt_eq_of_cover 3 (res m c) (flushed3_eq m c) fun i => by
    have hi0 : (i 0).val < 2304 := (i 0).isLt
    have hi1 : (i 1).val < 1024 := (i 1).isLt
    refine ⟨⟨(i 1).val / 512 * 9 + (i 0).val / 256, by show _ < grid0.N; rw [Gen.N_0]; omega⟩, flush3 _, ?_⟩
    generalize ht : (⟨(i 1).val / 512 * 9 + (i 0).val / 256, _⟩ : Fin grid0.N) = t
    have ht' : t.val = (i 1).val / 512 * 9 + (i 0).val / 256 := by rw [← ht]
    show i ∈ ((View.whole main_v0).slice (win0_3.rect t)).set
    rw [View.set_slice_whole, Rect.mem_set_unit]
    intro a
    match a with
    | ⟨0, _⟩ => exact mem_box 256 (i 0).val (idx3 t).1 (by omega)
    | ⟨1, _⟩ => exact mem_box 512 (i 1).val (idx3 t).2 (by omega)

end Cert.AttFwdIdeal.Body

namespace Cert.Proof.AttFwd
open Cert.Proof.Att (real_of_abs ofBits_inf)

instance preFacts : Cert.Pre_finite_rows.Facts where
  bitsLt_bf16_f32 := by decide
  bcast_S_S2304x1024 := by decide
  bcast_S_S2304x256 := by decide

open Cert.Pre_finite_rows in
theorem real_q (a0 a1 a2) (h : (Cert.Pre_finite_rows.fn (F := Ideal) a0 a1 a2).1 = fun _ => 1#1) (i : S2304x1024.Idx) :
    ∃ r : ℝ, (a0 i : EReal) = (r : EReal) := by
  have e := congrFun h i
  refine real_of_abs _ ?_
  rw [← ofBits_inf]
  exact e

open Cert.Pre_finite_rows in
theorem real_k (a0 a1 a2) (h : (Cert.Pre_finite_rows.fn (F := Ideal) a0 a1 a2).2 = fun _ => 1#1) (i : S2304x256.Idx) :
    ∃ r : ℝ, (a1 i : EReal) = (r : EReal) := by
  have e := congrFun h i
  refine real_of_abs _ ?_
  rw [← ofBits_inf]
  exact e

theorem frame_ref : quiescent_AttendIdeal := fun m ρ _ =>
  (θ_run AttendIdeal.defs _ _).mono (fun r h => ⟨fun c => (h c).2,
      sem_eq_zero_of_no_sems (by decide) r.2⟩)
    (AttendIdeal.Value.run (F := Ideal) m ρ)

theorem algebraic : algebraic_AttFwdIdeal_AttendIdeal_pre_finite_rows := by
  intro m ρ m' ρ' hpre hagree
  refine ⟨fun c => AttFwdIdeal.Body.res m c, ?_, ?_⟩
  · refine (θ_run AttFwdIdeal.defs _ _).mono (fun _ h c => ?_) (AttFwdIdeal.Value.run_blocks (F := Ideal) m ρ)
    exact ⟨(h c).1.trans (AttFwdIdeal.Body.final3 m c), (h c).2⟩
  · refine (θ_run AttendIdeal.defs _ _).mono (fun _ h c => ?_) (AttendIdeal.Value.run (F := Ideal) m' ρ')
    have hq := real_q _ _ _ (hpre c).1
    have hk := real_k _ _ _ (hpre c).2
    obtain ⟨g0, g1, g2⟩ := hagree c
    refine ⟨((h c).1.trans (AttendIdeal.Read.val_main_v56_eq _ _)).trans ?_, (h c).2⟩
    show AttendIdeal.Read.val_main_v56 (F := Ideal) (m' (c.tc.loc AttendIdeal.main_arg0))
      (m' (c.tc.loc AttendIdeal.main_arg1))
      (m' (c.tc.loc AttendIdeal.main_arg2)) = _
    rw [g0, g1, g2]
    funext y
    rw [eq_ix2 y]
    exact AttendIdeal.Ref.o_ref _ _ _ hq hk _ _

end Cert.Proof.AttFwd

end
-- ==== Proof.ConvSpec.lean ====
/- The gated depthwise convolution over three rows, written once over row numbers: two sequences, 256 rows and 2048
rows, lie one behind the other, and no tap reaches over an end. -/
module

public import proofs.«01_k».proof.Proof.AttSpec
public import Idealize.ShloMosaic.Lib.Pointwise

@[expose] public section

set_option maxRecDepth 16384

noncomputable section

namespace Cert.ConvSpec

open Idealize.ShloMosaic Cert.AttSpec

theorem rd_out {a b : Nat} (x : (⟨2, ![a, b]⟩ : Shape).Idx → EReal) (i j : Nat) (h : ¬ i < a) : rd x i j = 0 :=
  dif_neg fun h' => h h'.1

/-- A list read at a number. -/
def rd1 {a : Nat} (x : (⟨1, ![a]⟩ : Shape).Idx → EReal) (i : Nat) : EReal := if h : i < a then x (ix1 ⟨i, h⟩) else 0

theorem rd1_eq {a : Nat} (x : (⟨1, ![a]⟩ : Shape).Idx → EReal) (i : Nat) (h : i < a) : rd1 x i = x (ix1 ⟨i, h⟩) := dif_pos h

/-- The row before, which the first row of a sequence has not. -/
def prv (a : Nat → EReal) (r : Nat) : EReal := if r = 0 ∨ r = 256 then 0 else a (r - 1)

/-- The row behind, which the last row of a sequence has not. -/
def nxt (a : Nat → EReal) (r : Nat) : EReal := if r = 255 ∨ r = 2303 then 0 else a (r + 1)

/-- A column's convolution. -/
def acc (a : Nat → EReal) (w0 w1 w2 b : EReal) (r : Nat) : EReal := prv a r * w0 + a r * w1 + nxt a r * w2 + b

/-- The logistic function. -/
def sg (x : EReal) : EReal := Ideal.div (1 : EReal) (1 + Ideal.exp (-x))

/-- The gate: the branch's SiLU times the other half. -/
def gate (a v : EReal) : EReal := a * sg a * v

/-- The gated convolution at a row and a column. -/
def glu (u : (⟨2, ![2304, 11264]⟩ : Shape).Idx → EReal) (w : (⟨2, ![3, 5632]⟩ : Shape).Idx → EReal)
    (b : (⟨1, ![5632]⟩ : Shape).Idx → EReal) (r n : Nat) : EReal :=
  gate (acc (fun i => rd u i n) (rd w 0 n) (rd w 1 n) (rd w 2 n) (rd1 b n) r) (rd u r (5632 + n))

/-- The gradient of the convolution's value, from the gradient `g` of its SiLU. -/
def dA (g x : EReal) : EReal := g * (sg x * (1 + x * (1 - sg x)))

section
variable (a v d : Nat → EReal) (w0 w1 w2 b : EReal)

/-- A column's gradient of the convolution's values: `a` is convolved, `v` the other half, `d` the incoming gradient. -/
def dC (r : Nat) : EReal := dA (d r * v r) (acc a w0 w1 w2 b r)

/-- A column's gradient of the convolved half. -/
def du0 (r : Nat) : EReal := dC a v d w0 w1 w2 b r * w1 + nxt (dC a v d w0 w1 w2 b) r * w0 + prv (dC a v d w0 w1 w2 b) r * w2

/-- A column's gradient of the other half. -/
def du1 (r : Nat) : EReal := d r * acc a w0 w1 w2 b r * sg (acc a w0 w1 w2 b r)

/-- A column's gradients of the three taps and of the bias, then zeros. -/
def dw (k : Nat) : EReal :=
  if k = 3 then ∑ r : Fin 2304, dC a v d w0 w1 w2 b r.val else
  if k = 2 then ∑ r : Fin 2304, dC a v d w0 w1 w2 b r.val * nxt a r.val else
  if k = 1 then ∑ r : Fin 2304, dC a v d w0 w1 w2 b r.val * a r.val else
  if k = 0 then ∑ r : Fin 2304, dC a v d w0 w1 w2 b r.val * prv a r.val else 0

end

section
variable (u : (⟨2, ![2304, 11264]⟩ : Shape).Idx → EReal) (w : (⟨2, ![3, 5632]⟩ : Shape).Idx → EReal)
  (b : (⟨1, ![5632]⟩ : Shape).Idx → EReal) (dt : (⟨2, ![2304, 5632]⟩ : Shape).Idx → EReal)

/-- The gradient of the gated convolution's argument: half `h`, row `r`, column `n` of the half. -/
def gradU (h r n : Nat) : EReal :=
  if h = 0 then du0 (fun i => rd u i n) (fun i => rd u i (5632 + n)) (fun i => rd dt i n) (rd w 0 n) (rd w 1 n) (rd w 2 n) (rd1 b n) r
  else du1 (fun i => rd u i n) (fun i => rd dt i n) (rd w 0 n) (rd w 1 n) (rd w 2 n) (rd1 b n) r

/-- The gradient of the taps, of the bias and of the rows of zeros behind them. -/
def gradT (k n : Nat) : EReal :=
  dw (fun i => rd u i n) (fun i => rd u i (5632 + n)) (fun i => rd dt i n) (rd w 0 n) (rd w 1 n) (rd w 2 n) (rd1 b n) k

end

/-- The printed mask word of one row number selects there. -/
theorem select_one (x y : EReal) (r p : Nat) (hr : r < 2304) (hp : p < 2304) :
    Scalar.select (IntOp.cmpi .eq (BitVec.ofNat 32 r) (BitVec.ofNat 32 p)) x y = if r = p then x else y := by
  have h : IntOp.cmpi .eq (BitVec.ofNat 32 r) (BitVec.ofNat 32 p) = BitVec.ofBool (decide (r = p)) := by
    have : (BitVec.ofNat 32 r == BitVec.ofNat 32 p) = decide (r = p) := by
      rw [Bool.eq_iff_iff, beq_iff_eq, decide_eq_true_iff, ← BitVec.toNat_inj, BitVec.toNat_ofNat, BitVec.toNat_ofNat]
      omega
    simp [IntOp.cmpi, this]
  rw [h]
  by_cases a : r = p <;> simp [Scalar.select, a]

/-- The printed mask word of two row numbers selects there. -/
theorem select_two (x y : EReal) (r p q : Nat) (hr : r < 2304) (hp : p < 2304) (hq : q < 2304) :
    Scalar.select (IntOp.ori (IntOp.cmpi .eq (BitVec.ofNat 32 r) (BitVec.ofNat 32 p))
      (IntOp.cmpi .eq (BitVec.ofNat 32 r) (BitVec.ofNat 32 q))) x y = if r = p ∨ r = q then x else y := by
  have h : ∀ p, p < 2304 → IntOp.cmpi .eq (BitVec.ofNat 32 r) (BitVec.ofNat 32 p) = BitVec.ofBool (decide (r = p)) := by
    intro p hp
    have : (BitVec.ofNat 32 r == BitVec.ofNat 32 p) = decide (r = p) := by
      rw [Bool.eq_iff_iff, beq_iff_eq, decide_eq_true_iff, ← BitVec.toNat_inj, BitVec.toNat_ofNat, BitVec.toNat_ofNat]
      omega
    simp [IntOp.cmpi, this]
  have e : ∀ a b : Bool, Scalar.select (IntOp.ori (BitVec.ofBool a) (BitVec.ofBool b)) x y = if (a || b) = true then x else y := by
    intro a b
    cases a <;> cases b <;> simp [Scalar.select, IntOp.ori]
  rw [h p hp, h q hq, e]
  simp only [Bool.or_eq_true, decide_eq_true_eq]

end Cert.ConvSpec
-- ==== Proof.ConvClaims.lean ====
/- The gated convolution's kernel: what one block of columns leaves, and the array after all blocks. -/
module

public import proofs.«01_k».proof.Proof.ConvSpec
public import proofs.«01_k».proof.Proof.Gen.ConvIdeal.Value
public import proofs.«01_k».proof.Proof.Gen.ConvGluIdeal.Run
public import proofs.«01_k».proof.Proof.Gen.ConvGluIdeal.Read
public import proofs.«01_k».proof.Defs
public import Idealize.ShloMosaic.Lib.Pointwise
public import Idealize.ShloMosaic.Lib.Pipeline.ValueKit.Acc
public import Idealize.ShloMosaic.Lib.Quiescent

@[expose] public section

set_option maxRecDepth 16384

noncomputable section

open Idealize.ShloMosaic Idealize.ShloMosaic.TcCoe Idealize.SL.Sem

namespace Cert.ConvIdeal.Body
open Idealize.ShloMosaic.Pipeline (Dat)
open Cert.ConvIdeal.Gen Cert.ConvIdeal.Value Cert.AttSpec Cert.ConvSpec

/-- A column of a block, by row number. -/
abbrev col (x : Vec Ideal S2304x512 .f32) (n : Fin 512) (r : Nat) : EReal := rd (a := 2304) (b := 512) x r n.val

theorem pay2_apply (x0 : Vec Ideal S2304x512 .f32) (w0 w1 w2 b : Vec Ideal S1x512 .f32) (r : Fin 2304) (n : Fin 512) :
    (k0_pay2 (F := Ideal) x0 w0 w1 w2 b (ix2 r n) : EReal)
      = acc (col x0 n) (w0 (ix2 0 n)) (w1 (ix2 0 n)) (w2 (ix2 0 n)) (b (ix2 0 n)) r.val := by
  have hr : r.val < 2304 := r.isLt
  pointwise [k0_pay2]
  unfold acc prv nxt
  refine congrArg₂ (· + ·) (congrArg₂ (· + ·) (congrArg₂ (· + ·) ?_ ?_) ?_) rfl
  · refine (select_two _ _ r.val 0 256 hr (by omega) (by omega)).trans ?_
    by_cases h : r.val = 0 ∨ r.val = 256
    · rw [if_pos h, if_pos h, zero_mul]
    · rw [if_neg h, if_neg h]
      refine Ideal.mul_congr ((congrArg x0 ((ix2_inj ..).2 ⟨Fin.ext ?_, rfl⟩)).trans (rd_eq _ _ _ (by omega) n.isLt).symm) rfl
      show (r.val + 2304 - 1) % 2304 = r.val - 1
      omega
  · exact Ideal.mul_congr (rd_eq _ _ _ hr n.isLt).symm rfl
  · refine (select_two _ _ r.val 255 2303 hr (by omega) (by omega)).trans ?_
    by_cases h : r.val = 255 ∨ r.val = 2303
    · rw [if_pos h, if_pos h, zero_mul]
    · rw [if_neg h, if_neg h]
      refine Ideal.mul_congr ((congrArg x0 ((ix2_inj ..).2 ⟨Fin.ext ?_, rfl⟩)).trans (rd_eq _ _ _ (by omega) n.isLt).symm) rfl
      show (r.val + 2304 - 2303) % 2304 = r.val + 1
      omega

theorem pay1_apply (x0 v : Vec Ideal S2304x512 .f32) (w0 w1 w2 b : Vec Ideal S1x512 .f32) (r : Fin 2304) (n : Fin 512) :
    (k0_pay1 (F := Ideal) (k0_pay2 x0 w0 w1 w2 b) (k0_pay3 x0 w0 w1 w2 b) (Scalar.ofBits .f32 0x3F800000#32) v (ix2 r n) : EReal)
      = gate (acc (col x0 n) (w0 (ix2 0 n)) (w1 (ix2 0 n)) (w2 (ix2 0 n)) (b (ix2 0 n)) r.val) (v (ix2 r n)) := by
  pointwise [k0_pay1, k0_pay3]
  rw [pay2_apply, zero_sub]
  rfl

variable (m : (ℓ : Loc nD τ sig) → Buf (Elt Ideal) ℓ)

abbrev arg0 (c : Dev nD) : Vec Ideal S2304x11264 .f32 := m ((c : Thread nD τ).loc main_arg0)
abbrev arg1 (c : Dev nD) : Vec Ideal S3x5632 .f32 := m ((c : Thread nD τ).loc main_arg1)
abbrev arg2 (c : Dev nD) : Vec Ideal S5632 .f32 := m ((c : Thread nD τ).loc main_arg2)

/-- The three taps, the bias and four rows of zeros. -/
def taps (w : Vec Ideal S3x5632 .f32) (b : Vec Ideal S5632 .f32) : Vec Ideal S8x5632 .f32 :=
  concatenate S8x5632 0
    [⟨S3x5632, (w : (⟨S3x5632, .f32⟩ : BufTy).Contents (Elt Ideal))⟩,
     ⟨S1x5632, (broadcastInDim S1x5632 ![1] bcast_S5632_S1x5632_1 b : (⟨S1x5632, .f32⟩ : BufTy).Contents (Elt Ideal))⟩,
     ⟨S4x5632, (broadcastInDim S4x5632 ![] bcast_S_S4x5632 (constant (F := Ideal) S_ .f32 0x00000000#32)
        : (⟨S4x5632, .f32⟩ : BufTy).Contents (Elt Ideal))⟩]
    concatenates_S3x5632_S1x5632_S4x5632_S8x5632_d0

theorem taps_congr {x x' : S3x5632.Idx → EReal} {y y' : S1x5632.Idx → EReal} {z z' : S4x5632.Idx → EReal}
    (hx : x = x') (hy : y = y') (hz : z = z') :
    concatenate S8x5632 0 [⟨S3x5632, x⟩, ⟨S1x5632, y⟩, ⟨S4x5632, z⟩] concatenates_S3x5632_S1x5632_S4x5632_S8x5632_d0
      = concatenate S8x5632 0 [⟨S3x5632, x'⟩, ⟨S1x5632, y'⟩, ⟨S4x5632, z'⟩] concatenates_S3x5632_S1x5632_S4x5632_S8x5632_d0 := by
  subst hx hy hz; rfl

theorem V_main_v2 (c : Dev nD) : V m c main_v2 = taps (arg1 m c) (arg2 m c) := by
  show StableHlo.after hostOps0 _ (Proc.devRef .tc main_v2) = _
  after_results
  refine taps_congr ?_ ?_ ?_
  · rfl
  · change HloOp.result _ _ (Proc.devRef .tc main_v0) = _
    after_results
  · change HloOp.result _ _ (Proc.devRef .tc main_v1) = _
    after_results

theorem taps_w (w : Vec Ideal S3x5632 .f32) (b : Vec Ideal S5632 .f32) (k : Fin 3) (n : Fin 5632) :
    (taps w b (ix2 ⟨k.val, by omega⟩ n) : EReal) = w (ix2 k n) := by
  match k with
  | ⟨0, _⟩ => pointwise [taps]
  | ⟨1, _⟩ => pointwise [taps]
  | ⟨2, _⟩ => pointwise [taps]

theorem taps_b (w : Vec Ideal S3x5632 .f32) (b : Vec Ideal S5632 .f32) (n : Fin 5632) :
    (taps w b (ix2 3 n) : EReal) = b (ix1 n) := by
  pointwise [taps]

theorem idx0 : ∀ t : Fin grid0.N, win0_0.index t 0 = 0 ∧ win0_0.index t 1 = t.val := by decide +kernel
theorem idx1 : ∀ t : Fin grid0.N, win0_1.index t 0 = 0 ∧ win0_1.index t 1 = 11 + t.val := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem flush3 : ∀ t : Fin cfg0.N, (cfg0.win 3).flush t = true := by decide +kernel

theorem ltN (t : Fin cfg0.N) : t.val < 11 := lt_of_lt_of_eq t.isLt Gen.N_0

theorem blk0 (c : Dev nD) (t : Fin cfg0.N) (r : Fin 2304) (n : Fin 512) :
    (iblk m c 0 t (ix2 r n) : EReal) = rd (a := 2304) (b := 11264) (arg0 m c) r.val (t.val * 512 + n.val) := by
  have ht := ltN t
  rw [rd_eq _ _ _ (by omega) (by omega)]
  unfold iblk
  rw [View.read_apply]
  show V m c main_arg0 _ = m (c.tc.loc main_arg0) _
  rw [V_main_arg0]
  congr 1
  funext a
  apply Fin.ext
  match a with
  | ⟨0, _⟩ => show win0_0.index t 0 * 2304 + 1 * r.val = r.val; rw [(idx0 t).1]; omega
  | ⟨1, _⟩ => show win0_0.index t 1 * 512 + 1 * n.val = t.val * 512 + n.val; rw [(idx0 t).2]; omega

theorem blk1 (c : Dev nD) (t : Fin cfg0.N) (r : Fin 2304) (n : Fin 512) :
    (iblk m c 1 t (ix2 r n) : EReal) = rd (a := 2304) (b := 11264) (arg0 m c) r.val (5632 + (t.val * 512 + n.val)) := by
  have ht := ltN t
  rw [rd_eq _ _ _ (by omega) (by omega)]
  unfold iblk
  rw [View.read_apply]
  show V m c main_arg0 _ = m (c.tc.loc main_arg0) _
  rw [V_main_arg0]
  congr 1
  funext a
  apply Fin.ext
  match a with
  | ⟨0, _⟩ => show win0_1.index t 0 * 2304 + 1 * r.val = r.val; rw [(idx1 t).1]; omega
  | ⟨1, _⟩ => show win0_1.index t 1 * 512 + 1 * n.val = 5632 + (t.val * 512 + n.val); rw [(idx1 t).2]; omega

theorem blk2 (c : Dev nD) (t : Fin cfg0.N) (k : Fin 8) (n : Fin 512) :
    (iblk m c 2 t (ix2 k n) : EReal) = taps (arg1 m c) (arg2 m c) (ix2 k ⟨t.val * 512 + n.val, by have := ltN t; omega⟩) := by
  unfold iblk
  rw [View.read_apply]
  show V m c main_v2 _ = _
  rw [V_main_v2]
  congr 1
  funext a
  apply Fin.ext
  match a with
  | ⟨0, _⟩ => show win0_2.index t 0 * 8 + 1 * k.val = k.val; rw [(idx2 t).1]; omega
  | ⟨1, _⟩ => show win0_2.index t 1 * 512 + 1 * n.val = t.val * 512 + n.val; rw [(idx2 t).2]; omega

theorem after_eq (c : Dev nD) (t : Fin cfg0.N) (r : Fin 2304) (n : Fin 512) :
    ((dats m 0 c).after 3 t (ix2 r n) : EReal) = glu (arg0 m c) (arg1 m c) (arg2 m c) r.val (t.val * 512 + n.val) := by
  have ht := ltN t
  rw [after0_3]
  frame_out
  refine (pay1_apply _ _ _ _ _ _ r n).trans ?_
  unfold glu
  refine congrArg₂ gate ?_ (blk1 m c t r n)
  have e : col (iblk m c 0 t) n = fun i => rd (a := 2304) (b := 11264) (arg0 m c) i (t.val * 512 + n.val) := by
    funext i
    by_cases h : i < 2304
    · exact (rd_eq _ _ _ h n.isLt).trans (blk0 m c t ⟨i, h⟩ n)
    · exact (rd_out _ _ _ h).trans (rd_out _ _ _ h).symm
  rw [e, rd_eq _ _ _ (by omega) (by omega), rd_eq _ _ _ (by omega) (by omega), rd_eq _ _ _ (by omega) (by omega), rd1_eq _ _ (by omega)]
  have h0 : (View.ld (iblk m c 2 t) r0_1 (ix2 0 n) : EReal) = arg1 m c (ix2 0 ⟨t.val * 512 + n.val, by omega⟩) := by
    refine Eq.trans (congrArg (iblk m c 2 t) ?_) ((blk2 m c t 0 n).trans (taps_w _ _ 0 _))
    funext a
    apply Fin.ext
    match a with
    | ⟨0, _⟩ => rfl
    | ⟨1, _⟩ => show 0 + 1 * n.val = n.val; omega
  have h1 : (View.ld (iblk m c 2 t) r0_2 (ix2 0 n) : EReal) = arg1 m c (ix2 1 ⟨t.val * 512 + n.val, by omega⟩) := by
    refine Eq.trans (congrArg (iblk m c 2 t) ?_) ((blk2 m c t 1 n).trans (taps_w _ _ 1 _))
    funext a
    apply Fin.ext
    match a with
    | ⟨0, _⟩ => rfl
    | ⟨1, _⟩ => show 0 + 1 * n.val = n.val; omega
  have h2 : (View.ld (iblk m c 2 t) r0_3 (ix2 0 n) : EReal) = arg1 m c (ix2 2 ⟨t.val * 512 + n.val, by omega⟩) := by
    refine Eq.trans (congrArg (iblk m c 2 t) ?_) ((blk2 m c t 2 n).trans (taps_w _ _ 2 _))
    funext a
    apply Fin.ext
    match a with
    | ⟨0, _⟩ => rfl
    | ⟨1, _⟩ => show 0 + 1 * n.val = n.val; omega
  have h3 : (View.ld (iblk m c 2 t) r0_4 (ix2 0 n) : EReal) = arg2 m c (ix1 ⟨t.val * 512 + n.val, by omega⟩) := by
    refine Eq.trans (congrArg (iblk m c 2 t) ?_) ((blk2 m c t 3 n).trans (taps_b _ _ _))
    funext a
    apply Fin.ext
    match a with
    | ⟨0, _⟩ => rfl
    | ⟨1, _⟩ => show 0 + 1 * n.val = n.val; omega
  rw [h0, h1, h2, h3]
  rfl

/-- The gated convolution, as an array. -/
def res (c : Dev nD) : Vec Ideal S2304x5632 .bf16 := fun y => glu (arg0 m c) (arg1 m c) (arg2 m c) (y 0).val (y 1).val

theorem flushed3_eq (c : Dev nD) (t : Fin cfg0.N) (hf : (cfg0.win 3).flush t = true) :
    (dats m 0 c).flushed 3 t = ((cfg0.win 3).blk t).view.read (Elt Ideal) (res m c) := by
  funext y
  rw [View.read_apply]
  have hy0 : (y 0).val < 2304 := (y 0).isLt
  have hy1 : (y 1).val < 512 := (y 1).isLt
  show (dats m 0 c).after 3 t _ = res m c _
  refine Eq.trans (congrArg _ ?_) ((after_eq m c t ⟨(y 0).val, hy0⟩ ⟨(y 1).val, hy1⟩).trans ?_)
  · funext a; match a with
    | ⟨0, _⟩ => rfl
    | ⟨1, _⟩ => rfl
  · show glu _ _ _ _ _ = glu _ _ _ (win0_3.index t 0 * 2304 + 1 * (y 0).val) (win0_3.index t 1 * 512 + 1 * (y 1).val)
    rw [(idx3 t).1, (idx3 t).2, Nat.zero_mul, Nat.zero_add, Nat.one_mul, Nat.one_mul]

theorem final3 (c : Dev nD) : (dats m 0 c).arrAt 3 cfg0.N = res m c :=
  (dats m 0 c).arrAt_eq_of_cover 3 (res m c) (flushed3_eq m c) fun i => by
    have hi0 : (i 0).val < 2304 := (i 0).isLt
    have hi1 : (i 1).val < 5632 := (i 1).isLt
    refine ⟨⟨(i 1).val / 512, by show _ < grid0.N; rw [Gen.N_0]; omega⟩, flush3 _, ?_⟩
    generalize ht : (⟨(i 1).val / 512, _⟩ : Fin grid0.N) = t
    have ht' : t.val = (i 1).val / 512 := by rw [← ht]
    show i ∈ ((View.whole main_v3).slice (win0_3.rect t)).set
    rw [View.set_slice_whole, Rect.mem_set_unit]
    intro a
    match a with
    | ⟨0, _⟩ => exact mem_box 2304 (i 0).val (idx3 t).1 (by omega)
    | ⟨1, _⟩ => exact mem_box 512 (i 1).val (idx3 t).2 (by omega)

end Cert.ConvIdeal.Body

namespace Cert.ConvGluIdeal.Ref
open Cert.ConvGluIdeal.Gen Cert.ConvGluIdeal.Read Cert.AttSpec Cert.ConvSpec

variable (x0 : Vec Ideal S2304x11264 .f32) (x1 : Vec Ideal S3x5632 .f32) (x2 : Vec Ideal S5632 .f32)

theorem acc_ctx (r : Fin 256) (n : Fin 5632) :
    (val_main_v28 (F := Ideal) x0 x1 x2 (ix3 0 r n) : EReal)
      = acc (fun i => rd (a := 2304) (b := 11264) x0 i n.val) (rd (a := 3) (b := 5632) x1 0 n.val)
        (rd (a := 3) (b := 5632) x1 1 n.val) (rd (a := 3) (b := 5632) x1 2 n.val) (rd1 (a := 5632) x2 n.val) r.val := by
  have hr := r.isLt
  rw [rd_eq _ _ _ (by omega) n.isLt, rd_eq _ _ _ (by omega) n.isLt, rd_eq _ _ _ (by omega) n.isLt, rd1_eq _ _ n.isLt]
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v2, val_main_v1, val_main_v0, val_main_cst]
  unfold acc prv nxt
  refine congrArg₂ (· + ·) (congrArg₂ (· + ·) (congrArg₂ (· + ·) (Ideal.mul_congr ?_ rfl) (Ideal.mul_congr ?_ rfl))
    (Ideal.mul_congr ?_ rfl)) rfl
  · by_cases h : r.val = 0
    · exact (dif_pos (by omega : r.val < 1)).trans (if_pos (by omega : r.val = 0 ∨ r.val = 256)).symm
    · refine (dif_neg (by omega : ¬ r.val < 1)).trans ((dif_pos (by omega : r.val - 1 < 256)).trans (Eq.trans ?_
        (if_neg (by omega : ¬ (r.val = 0 ∨ r.val = 256))).symm))
      refine Eq.trans (congrArg x0 ((ix2_inj ..).2 ⟨Fin.ext ?_, rfl⟩)) (rd_eq _ _ _ (by omega) (by have := n.isLt; omega)).symm
      dsimp only
  · exact (rd_eq _ _ _ (by omega) (by omega)).symm
  · by_cases h : r.val = 255
    · exact (dif_neg (by omega : ¬ 2 + r.val < 1)).trans ((dif_neg (by omega : ¬ 2 + r.val - 1 < 256)).trans
        (if_pos (by omega : r.val = 255 ∨ r.val = 2303)).symm)
    · refine (dif_neg (by omega : ¬ 2 + r.val < 1)).trans ((dif_pos (by omega : 2 + r.val - 1 < 256)).trans (Eq.trans ?_
        (if_neg (by omega : ¬ (r.val = 255 ∨ r.val = 2303))).symm))
      refine Eq.trans (congrArg x0 ((ix2_inj ..).2 ⟨Fin.ext ?_, rfl⟩)) (rd_eq _ _ _ (by omega) (by have := n.isLt; omega)).symm
      dsimp only; omega

theorem glu_ctx (r : Fin 256) (n : Fin 5632) :
    (val_main_v30 (F := Ideal) x0 x1 x2 (ix3 0 r n) : EReal) = glu x0 x1 x2 r.val n.val := by
  pointwise [val_main_v30, val_main_v29, val_main_call0_v5, val_main_call0_v4, val_main_call0_v3, val_main_call0_v2, val_main_call0_v1,
    val_main_call0_v0, val_main_call0_cst, val_main_call0_cst_0, val_main_v3, val_main_v1, val_main_v0]
  rw [acc_ctx]
  unfold glu gate
  refine congrArg₂ (· * ·) rfl ?_
  exact (rd_eq _ _ _ (by omega) (by omega)).symm

theorem acc_lat (r : Fin 2048) (n : Fin 5632) :
    (val_main_v59 (F := Ideal) x0 x1 x2 (ix3 0 r n) : EReal)
      = acc (fun i => rd (a := 2304) (b := 11264) x0 i n.val) (rd (a := 3) (b := 5632) x1 0 n.val)
        (rd (a := 3) (b := 5632) x1 1 n.val) (rd (a := 3) (b := 5632) x1 2 n.val) (rd1 (a := 5632) x2 n.val) (256 + r.val) := by
  have hr := r.isLt
  rw [rd_eq _ _ _ (by omega) n.isLt, rd_eq _ _ _ (by omega) n.isLt, rd_eq _ _ _ (by omega) n.isLt, rd1_eq _ _ n.isLt]
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v33, val_main_v32, val_main_v31, val_main_cst_0]
  unfold acc prv nxt
  refine congrArg₂ (· + ·) (congrArg₂ (· + ·) (congrArg₂ (· + ·) (Ideal.mul_congr ?_ rfl) (Ideal.mul_congr ?_ rfl))
    (Ideal.mul_congr ?_ rfl)) rfl
  · by_cases h : r.val = 0
    · exact (dif_pos (by omega : r.val < 1)).trans (if_pos (by omega : 256 + r.val = 0 ∨ 256 + r.val = 256)).symm
    · refine (dif_neg (by omega : ¬ r.val < 1)).trans ((dif_pos (by omega : r.val - 1 < 2048)).trans (Eq.trans ?_
        (if_neg (by omega : ¬ (256 + r.val = 0 ∨ 256 + r.val = 256))).symm))
      refine Eq.trans (congrArg x0 ((ix2_inj ..).2 ⟨Fin.ext ?_, rfl⟩)) (rd_eq _ _ _ (by omega) (by have := n.isLt; omega)).symm
      dsimp only; omega
  · exact (rd_eq _ _ _ (by omega) (by omega)).symm
  · by_cases h : r.val = 2047
    · exact (dif_neg (by omega : ¬ 2 + r.val < 1)).trans ((dif_neg (by omega : ¬ 2 + r.val - 1 < 2048)).trans
        (if_pos (by omega : 256 + r.val = 255 ∨ 256 + r.val = 2303)).symm)
    · refine (dif_neg (by omega : ¬ 2 + r.val < 1)).trans ((dif_pos (by omega : 2 + r.val - 1 < 2048)).trans (Eq.trans ?_
        (if_neg (by omega : ¬ (256 + r.val = 255 ∨ 256 + r.val = 2303))).symm))
      refine Eq.trans (congrArg x0 ((ix2_inj ..).2 ⟨Fin.ext ?_, rfl⟩)) (rd_eq _ _ _ (by omega) (by have := n.isLt; omega)).symm
      dsimp only; omega

theorem glu_lat (r : Fin 2048) (n : Fin 5632) :
    (val_main_v61 (F := Ideal) x0 x1 x2 (ix3 0 r n) : EReal) = glu x0 x1 x2 (256 + r.val) n.val := by
  pointwise [val_main_v61, val_main_v60, val_main_call1_v5, val_main_call1_v4, val_main_call1_v3, val_main_call1_v2, val_main_call1_v1,
    val_main_call1_v0, val_main_call1_cst, val_main_call1_cst_0, val_main_v34, val_main_v32, val_main_v31]
  rw [acc_lat]
  unfold glu gate
  refine congrArg₂ (· * ·) rfl ?_
  exact (rd_eq _ _ _ (by omega) (by omega)).symm

theorem glu_ref (r : Fin 2304) (n : Fin 5632) :
    (val_main_v64 (F := Ideal) x0 x1 x2 (ix2 r n) : EReal) = glu x0 x1 x2 r.val n.val := by
  have hr := r.isLt
  pointwise [val_main_v64, val_main_v63, val_main_v62]
  by_cases h : r.val < 256
  · rw [dif_pos h]
    exact glu_ctx x0 x1 x2 _ _
  · rw [dif_neg h]
    refine (glu_lat x0 x1 x2 _ _).trans ?_
    rw [show 256 + (r.val - 256) = r.val by omega]

end Cert.ConvGluIdeal.Ref

namespace Cert.Proof.Conv

theorem frame_ref : quiescent_ConvGluIdeal := fun m ρ _ =>
  (θ_run ConvGluIdeal.defs _ _).mono (fun r h => ⟨fun c => (h c).2,
      sem_eq_zero_of_no_sems (by decide) r.2⟩)
    (ConvGluIdeal.Value.run (F := Ideal) m ρ)

theorem algebraic : algebraic_ConvIdeal_ConvGluIdeal := by
  intro m ρ m' ρ' _ hagree
  refine ⟨fun c => ConvIdeal.Body.res m c, ?_, ?_⟩
  · refine (θ_run ConvIdeal.defs _ _).mono (fun _ h c => ?_) (ConvIdeal.Value.run_blocks (F := Ideal) m ρ)
    exact ⟨(h c).1.trans (ConvIdeal.Body.final3 m c), (h c).2⟩
  · refine (θ_run ConvGluIdeal.defs _ _).mono (fun _ h c => ?_) (ConvGluIdeal.Value.run (F := Ideal) m' ρ')
    obtain ⟨g0, g1, g2⟩ := hagree c
    refine ⟨((h c).1.trans (ConvGluIdeal.Read.val_main_v64_eq _ _)).trans ?_, (h c).2⟩
    show ConvGluIdeal.Read.val_main_v64 (F := Ideal) (m' (c.tc.loc ConvGluIdeal.main_arg0))
      (m' (c.tc.loc ConvGluIdeal.main_arg1))
      (m' (c.tc.loc ConvGluIdeal.main_arg2)) = _
    rw [g0, g1, g2]
    funext y
    rw [eq_ix2 y]
    exact ConvGluIdeal.Ref.glu_ref _ _ _ _ _

end Cert.Proof.Conv

end
-- ==== Proof.ConvBwdBody.lean ====
/- The gated convolution's gradient: what one block of columns leaves. -/
module

public import proofs.«01_k».proof.Proof.ConvSpec
public import proofs.«01_k».proof.Proof.Gen.ConvBwdIdeal.Value
public import Idealize.ShloMosaic.Lib.Pointwise
public import Idealize.ShloMosaic.Lib.Pipeline.ValueKit.Acc

@[expose] public section

set_option maxRecDepth 16384

noncomputable section

namespace Cert.ConvBwdIdeal.Body

open Idealize.ShloMosaic Idealize.ShloMosaic.TcCoe Idealize.SL.Sem
open Cert.ConvBwdIdeal.Gen Cert.ConvBwdIdeal.Value Cert.AttSpec Cert.ConvSpec

/-- A column of a block, by row number. -/
abbrev col (x : (⟨2, ![2304, 256]⟩ : Shape).Idx → EReal) (n : Fin 256) (r : Nat) : EReal := rd (a := 2304) (b := 256) x r n.val

section
variable (x0 x1 : Vec Ideal S2304x256 .f32) (x3 : Vec Ideal S2304x256 .bf16) (w0 w1 w2 b : Vec Ideal S1x256 .f32)

theorem pay5_apply (r : Fin 2304) (n : Fin 256) : (k0_pay5 (F := Ideal) x0 (ix2 r n) : EReal) = prv (col x0 n) r.val := by
  have hr : r.val < 2304 := r.isLt
  pointwise [k0_pay5, k0_pay3]
  refine (select_two _ _ r.val 0 256 hr (by omega) (by omega)).trans ?_
  unfold prv
  by_cases h : r.val = 0 ∨ r.val = 256
  · rw [if_pos h, if_pos h]
  · rw [if_neg h, if_neg h]
    refine (congrArg x0 ((ix2_inj ..).2 ⟨Fin.ext ?_, rfl⟩)).trans (rd_eq _ _ _ (by omega) n.isLt).symm
    show (r.val + 2304 - 1) % 2304 = r.val - 1
    omega

theorem pay6_apply (r : Fin 2304) (n : Fin 256) : (k0_pay6 (F := Ideal) x0 (ix2 r n) : EReal) = nxt (col x0 n) r.val := by
  have hr : r.val < 2304 := r.isLt
  pointwise [k0_pay6, k0_pay4]
  refine (select_two _ _ r.val 255 2303 hr (by omega) (by omega)).trans ?_
  unfold nxt
  by_cases h : r.val = 255 ∨ r.val = 2303
  · rw [if_pos h, if_pos h]
  · rw [if_neg h, if_neg h]
    refine (congrArg x0 ((ix2_inj ..).2 ⟨Fin.ext ?_, rfl⟩)).trans (rd_eq _ _ _ (by omega) n.isLt).symm
    show (r.val + 2304 - 2303) % 2304 = r.val + 1
    omega

/-- A column's convolution in a block. -/
abbrev accB (n : Fin 256) : Nat → EReal := acc (col x0 n) (w0 (ix2 0 n)) (w1 (ix2 0 n)) (w2 (ix2 0 n)) (b (ix2 0 n))

/-- A column's gradient of the convolution's values in a block. -/
abbrev dCB (n : Fin 256) : Nat → EReal :=
  dC (col x0 n) (col x1 n) (col x3 n) (w0 (ix2 0 n)) (w1 (ix2 0 n)) (w2 (ix2 0 n)) (b (ix2 0 n))

theorem acc_apply (r : Fin 2304) (n : Fin 256) :
    (k0_pay11 (F := Ideal) x0 w0 w1 w2 (ix2 r n) : EReal) + (k0_pay10 (F := Ideal) b (ix2 0 n) : EReal) = accB x0 w0 w1 w2 b n r.val := by
  pointwise [k0_pay11, k0_pay7, k0_pay8, k0_pay9, k0_pay10]
  rw [pay5_apply, pay6_apply]
  refine congrArg₂ (· + ·) (congrArg₂ (· + ·) (congrArg₂ (· + ·) rfl ?_) rfl) rfl
  exact Ideal.mul_congr (rd_eq _ _ _ r.isLt n.isLt).symm rfl

/-- The gradient of the convolution's values, as the body computes it. -/
abbrev payC : FVec Ideal S2304x256 .f32 := k0_pay15 (F := Ideal) x1 (k0_pay2 x3) (k0_pay10 b) (k0_pay11 x0 w0 w1 w2)

theorem payC_apply (r : Fin 2304) (n : Fin 256) : (payC x0 x1 x3 w0 w1 w2 b (ix2 r n) : EReal) = dCB x0 x1 x3 w0 w1 w2 b n r.val := by
  have e := acc_apply x0 w0 w1 w2 b r n
  pointwise [k0_pay15, k0_pay13, k0_pay12]
  rw [e, zero_sub]
  refine congrArg₂ (· * ·) (congrArg₂ (· * ·) ?_ ?_) rfl
  · pointwise [k0_pay2]
    exact (rd_eq _ _ _ r.isLt n.isLt).symm
  · exact (rd_eq _ _ _ r.isLt n.isLt).symm

theorem pay14_apply (r : Fin 2304) (n : Fin 256) :
    (k0_pay14 (F := Ideal) (k0_pay2 x3) (k0_pay10 b) (k0_pay11 x0 w0 w1 w2) (ix3 0 r n) : EReal)
      = du1 (col x0 n) (col x3 n) (w0 (ix2 0 n)) (w1 (ix2 0 n)) (w2 (ix2 0 n)) (b (ix2 0 n)) r.val := by
  have e := acc_apply x0 w0 w1 w2 b r n
  pointwise [k0_pay14, k0_pay13, k0_pay12]
  rw [e, zero_sub]
  refine congrArg₂ (· * ·) (congrArg₂ (· * ·) ?_ rfl) rfl
  pointwise [k0_pay2]
  exact (rd_eq _ _ _ r.isLt n.isLt).symm

theorem pay16_apply (r : Fin 2304) (n : Fin 256) :
    (k0_pay16 (F := Ideal) x1 (k0_pay2 x3) k0_pay3 k0_pay4 (k0_pay7 w0) (k0_pay8 w1) (k0_pay9 w2) (k0_pay10 b) (k0_pay11 x0 w0 w1 w2) (ix3 0 r n) : EReal)
      = du0 (col x0 n) (col x1 n) (col x3 n) (w0 (ix2 0 n)) (w1 (ix2 0 n)) (w2 (ix2 0 n)) (b (ix2 0 n)) r.val := by
  have hr : r.val < 2304 := r.isLt
  pointwise [k0_pay16, k0_pay3, k0_pay4, k0_pay7, k0_pay8, k0_pay9]
  unfold du0 prv nxt
  refine congrArg₂ (· + ·) (congrArg₂ (· + ·) (Ideal.mul_congr (payC_apply x0 x1 x3 w0 w1 w2 b r n) rfl) ?_) ?_
  · refine (select_two _ _ ((r.val + 2304 - 2303) % 2304) 0 256 (by omega) (by omega) (by omega)).trans ?_
    by_cases h : r.val = 255 ∨ r.val = 2303
    · rw [if_pos h, if_pos (by omega), zero_mul]
    · rw [if_neg h, if_neg (by omega)]
      refine Ideal.mul_congr ((payC_apply x0 x1 x3 w0 w1 w2 b _ n).trans (congrArg _ ?_)) rfl
      show (r.val + 2304 - 2303) % 2304 = r.val + 1
      omega
  · refine (select_two _ _ ((r.val + 2304 - 1) % 2304) 255 2303 (by omega) (by omega) (by omega)).trans ?_
    by_cases h : r.val = 0 ∨ r.val = 256
    · rw [if_pos h, if_pos (by omega), zero_mul]
    · rw [if_neg h, if_neg (by omega)]
      refine Ideal.mul_congr ((payC_apply x0 x1 x3 w0 w1 w2 b _ n).trans (congrArg _ ?_)) rfl
      show (r.val + 2304 - 1) % 2304 = r.val - 1
      omega

theorem pay1_apply (k : Fin 8) (n : Fin 256) :
    (k0_pay1 (F := Ideal) x0 (k0_pay6 x0) (payC x0 x1 x3 w0 w1 w2 b)
        (k0_pay17 x1 (k0_pay2 x3) (k0_pay5 x0) (k0_pay10 b) (k0_pay11 x0 w0 w1 w2)) (ix2 k n) : EReal)
      = dw (col x0 n) (col x1 n) (col x3 n) (w0 (ix2 0 n)) (w1 (ix2 0 n)) (w2 (ix2 0 n)) (b (ix2 0 n)) k.val := by
  have hk : k.val < 8 := k.isLt
  have e := fun r => payC_apply x0 x1 x3 w0 w1 w2 b r n
  have e6 := fun r => pay6_apply x0 r n
  have e17 : ∀ r, (k0_pay17 (F := Ideal) x1 (k0_pay2 x3) (k0_pay5 x0) (k0_pay10 b) (k0_pay11 x0 w0 w1 w2) (ix2 r n) : EReal)
      = dCB x0 x1 x3 w0 w1 w2 b n r.val * prv (col x0 n) r.val := by
    intro r
    pointwise [k0_pay17]
    exact Ideal.mul_congr (e r) (pay5_apply x0 r n)
  generalize payC x0 x1 x3 w0 w1 w2 b = y at e ⊢
  generalize k0_pay17 (F := Ideal) x1 (k0_pay2 x3) (k0_pay5 x0) (k0_pay10 b) (k0_pay11 x0 w0 w1 w2) = z at e17 ⊢
  generalize k0_pay6 (F := Ideal) x0 = x6 at e6 ⊢
  have e0 : ∀ r : Fin 2304, (x0 (ix2 r n) : EReal) = col x0 n r.val := fun r => (rd_eq _ _ _ r.isLt n.isLt).symm
  pointwise [k0_pay1]
  unfold dw
  refine (select_one _ _ k.val 3 (by omega) (by omega)).trans (if_congr Iff.rfl (Finset.sum_congr rfl fun r _ => e r) ?_)
  refine (select_one _ _ k.val 2 (by omega) (by omega)).trans (if_congr Iff.rfl (Finset.sum_congr rfl fun r _ => Ideal.mul_congr (e r) (e6 r)) ?_)
  refine (select_one _ _ k.val 1 (by omega) (by omega)).trans (if_congr Iff.rfl (Finset.sum_congr rfl fun r _ => Ideal.mul_congr (e r) (e0 r)) ?_)
  exact (select_one _ _ k.val 0 (by omega) (by omega)).trans (if_congr Iff.rfl (Finset.sum_congr rfl fun r _ => e17 r) rfl)

end

theorem hz : (![0, 0] : Fin 2 → Nat) = fun _ => 0 := by funext a; match a with | ⟨0, _⟩ => rfl | ⟨1, _⟩ => rfl

/-- The row of a block of taps. -/
abbrev wr (x2 : Vec Ideal S8x256 .f32) (k : Fin 8) (n : Fin 256) : EReal := x2 (ix2 k n)

/-- A block of the gradient's two halves. -/
def block4 (x0 x1 : Vec Ideal S2304x256 .f32) (x2 : Vec Ideal S8x256 .f32) (x3 : Vec Ideal S2304x256 .bf16) (y : S2x2304x256.Idx) : Elt Ideal .bf16 :=
  if (y 0).val = 0 then du0 (col x0 (y 2)) (col x1 (y 2)) (col x3 (y 2)) (wr x2 0 (y 2)) (wr x2 1 (y 2)) (wr x2 2 (y 2)) (wr x2 3 (y 2)) (y 1).val
  else du1 (col x0 (y 2)) (col x3 (y 2)) (wr x2 0 (y 2)) (wr x2 1 (y 2)) (wr x2 2 (y 2)) (wr x2 3 (y 2)) (y 1).val

section
variable (x0 x1 : Vec Ideal S2304x256 .f32) (x2 : Vec Ideal S8x256 .f32) (x3 : Vec Ideal S2304x256 .bf16)

theorem ld1 (n : Fin 256) : (View.ld x2 r0_1 (ix2 0 n) : EReal) = wr x2 0 n := by
  refine congrArg x2 (funext fun a => Fin.ext ?_)
  match a with
  | ⟨0, _⟩ => rfl
  | ⟨1, _⟩ => show 0 + 1 * n.val = n.val; omega

theorem ld2 (n : Fin 256) : (View.ld x2 r0_2 (ix2 0 n) : EReal) = wr x2 1 n := by
  refine congrArg x2 (funext fun a => Fin.ext ?_)
  match a with
  | ⟨0, _⟩ => rfl
  | ⟨1, _⟩ => show 0 + 1 * n.val = n.val; omega

theorem ld3 (n : Fin 256) : (View.ld x2 r0_3 (ix2 0 n) : EReal) = wr x2 2 n := by
  refine congrArg x2 (funext fun a => Fin.ext ?_)
  match a with
  | ⟨0, _⟩ => rfl
  | ⟨1, _⟩ => show 0 + 1 * n.val = n.val; omega

theorem ld4 (n : Fin 256) : (View.ld x2 r0_4 (ix2 0 n) : EReal) = wr x2 3 n := by
  refine congrArg x2 (funext fun a => Fin.ext ?_)
  match a with
  | ⟨0, _⟩ => rfl
  | ⟨1, _⟩ => show 0 + 1 * n.val = n.val; omega

theorem out4_eq (y : S2x2304x256.Idx) : (out0_4 (F := Ideal) x0 x1 x2 x3 y : EReal) = block4 x0 x1 x2 x3 y := by
  unfold_out out0_4
  refine View.canon_apply_of_pieces (block4 x0 x1 x2 x3) _ ?_ _ (cover0_4 _ _ _)
  simp only [List.mem_cons, List.not_mem_nil, or_false, forall_eq_or_imp, forall_eq,
    show View.ld x0 r0_0 = x0 from View.ld_unit_zero (S := S2304x256) hz _ _, show View.ld x1 r0_0 = x1 from View.ld_unit_zero (S := S2304x256) hz _ _,
    show View.ld x3 r0_0 = x3 from View.ld_unit_zero (S := S2304x256) hz _ _]
  refine ⟨?_, ?_⟩ <;> intro y <;> idx_vars y
  · have : y0 = 0 := Subsingleton.elim _ _
    subst this
    refine (pay16_apply x0 x1 x3 _ _ _ _ y1 y2).trans ?_
    rw [ld1, ld2, ld3, ld4]
    have e : r0_6.emb (ix3 0 y1 y2) = ix3 0 y1 y2 := by
      funext a
      apply Fin.ext
      match a with
      | ⟨0, _⟩ => rfl
      | ⟨1, _⟩ => show 0 + 1 * y1.val = y1.val; omega
      | ⟨2, _⟩ => show 0 + 1 * y2.val = y2.val; omega
    rw [e]
    rfl
  · have : y0 = 0 := Subsingleton.elim _ _
    subst this
    refine (pay14_apply x0 x3 _ _ _ _ y1 y2).trans ?_
    rw [ld1, ld2, ld3, ld4]
    have e : r0_5.emb (ix3 0 y1 y2) = ix3 1 y1 y2 := by
      funext a
      apply Fin.ext
      match a with
      | ⟨0, _⟩ => rfl
      | ⟨1, _⟩ => show 0 + 1 * y1.val = y1.val; omega
      | ⟨2, _⟩ => show 0 + 1 * y2.val = y2.val; omega
    rw [e]
    rfl

theorem out5_eq (k : Fin 8) (n : Fin 256) : (out0_5 (F := Ideal) x0 x1 x2 x3 (ix2 k n) : EReal)
    = dw (col x0 n) (col x1 n) (col x3 n) (wr x2 0 n) (wr x2 1 n) (wr x2 2 n) (wr x2 3 n) k.val := by
  unfold_out out0_5
  simp only [show View.ld x0 r0_0 = x0 from View.ld_unit_zero (S := S2304x256) hz _ _, show View.ld x1 r0_0 = x1 from View.ld_unit_zero (S := S2304x256) hz _ _,
    show View.ld x3 r0_0 = x3 from View.ld_unit_zero (S := S2304x256) hz _ _]
  refine (congrFun (View.canon_cons_unit_zero (S := S8x256) hz _ _ _) _).trans ?_
  refine (pay1_apply x0 x1 x3 _ _ _ _ k n).trans ?_
  rw [ld1, ld2, ld3, ld4]

end

end Cert.ConvBwdIdeal.Body

end
-- ==== Proof.ConvBwdBlocks.lean ====
/- The gated convolution's gradient: the arrays after all blocks of columns. -/
module

public import proofs.«01_k».proof.Proof.ConvBwdBody
public import Idealize.ShloMosaic.Lib.Pointwise

@[expose] public section

set_option maxRecDepth 16384

noncomputable section

namespace Cert.ConvBwdIdeal.Body

open Idealize.ShloMosaic Idealize.ShloMosaic.TcCoe Idealize.SL.Sem
open Idealize.ShloMosaic.Pipeline (Dat)
open Cert.ConvBwdIdeal.Gen Cert.ConvBwdIdeal.Value Cert.AttSpec Cert.ConvSpec

variable (m : (ℓ : Loc nD τ sig) → Buf (Elt Ideal) ℓ)

abbrev arg0 (c : Dev nD) : Vec Ideal S2304x11264 .f32 := m ((c : Thread nD τ).loc main_arg0)
abbrev arg1 (c : Dev nD) : Vec Ideal S3x5632 .f32 := m ((c : Thread nD τ).loc main_arg1)
abbrev arg2 (c : Dev nD) : Vec Ideal S5632 .f32 := m ((c : Thread nD τ).loc main_arg2)
abbrev arg3 (c : Dev nD) : Vec Ideal S2304x5632 .bf16 := m ((c : Thread nD τ).loc main_arg3)

/-- The three taps, the bias and four rows of zeros. -/
def taps (w : Vec Ideal S3x5632 .f32) (b : Vec Ideal S5632 .f32) : Vec Ideal S8x5632 .f32 :=
  concatenate S8x5632 0
    [⟨S3x5632, (w : (⟨S3x5632, .f32⟩ : BufTy).Contents (Elt Ideal))⟩,
     ⟨S1x5632, (broadcastInDim S1x5632 ![1] bcast_S5632_S1x5632_1 b : (⟨S1x5632, .f32⟩ : BufTy).Contents (Elt Ideal))⟩,
     ⟨S4x5632, (broadcastInDim S4x5632 ![] bcast_S_S4x5632 (constant (F := Ideal) S_ .f32 0x00000000#32)
        : (⟨S4x5632, .f32⟩ : BufTy).Contents (Elt Ideal))⟩]
    concatenates_S3x5632_S1x5632_S4x5632_S8x5632_d0

theorem taps_congr {x x' : S3x5632.Idx → EReal} {y y' : S1x5632.Idx → EReal} {z z' : S4x5632.Idx → EReal}
    (hx : x = x') (hy : y = y') (hz : z = z') :
    concatenate S8x5632 0 [⟨S3x5632, x⟩, ⟨S1x5632, y⟩, ⟨S4x5632, z⟩] concatenates_S3x5632_S1x5632_S4x5632_S8x5632_d0
      = concatenate S8x5632 0 [⟨S3x5632, x'⟩, ⟨S1x5632, y'⟩, ⟨S4x5632, z'⟩] concatenates_S3x5632_S1x5632_S4x5632_S8x5632_d0 := by
  subst hx hy hz; rfl

theorem V_main_v2 (c : Dev nD) : V m c main_v2 = taps (arg1 m c) (arg2 m c) := by
  show StableHlo.after hostOps0 _ (Proc.devRef .tc main_v2) = _
  after_results
  refine taps_congr ?_ ?_ ?_
  · rfl
  · change HloOp.result _ _ (Proc.devRef .tc main_v0) = _
    after_results
  · change HloOp.result _ _ (Proc.devRef .tc main_v1) = _
    after_results

theorem taps_w (w : Vec Ideal S3x5632 .f32) (b : Vec Ideal S5632 .f32) (k : Fin 3) (n : Fin 5632) :
    (taps w b (ix2 ⟨k.val, by omega⟩ n) : EReal) = w (ix2 k n) := by
  match k with
  | ⟨0, _⟩ => pointwise [taps]
  | ⟨1, _⟩ => pointwise [taps]
  | ⟨2, _⟩ => pointwise [taps]

theorem taps_b (w : Vec Ideal S3x5632 .f32) (b : Vec Ideal S5632 .f32) (n : Fin 5632) :
    (taps w b (ix2 3 n) : EReal) = b (ix1 n) := by
  pointwise [taps]

theorem idx0 : ∀ t : Fin grid0.N, win0_0.index t 0 = 0 ∧ win0_0.index t 1 = t.val := by decide +kernel
theorem idx1 : ∀ t : Fin grid0.N, win0_1.index t 0 = 0 ∧ win0_1.index t 1 = 22 + t.val := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem idx4 : ∀ t : Fin grid0.N, win0_4.index t 0 = 0 ∧ win0_4.index t 1 = 0 ∧ win0_4.index t 2 = t.val := by decide +kernel
theorem idx5 : ∀ t : Fin grid0.N, win0_5.index t 0 = 0 ∧ win0_5.index t 1 = t.val := by decide +kernel
theorem flush4 : ∀ t : Fin cfg0.N, (cfg0.win 4).flush t = true := by decide +kernel
theorem flush5 : ∀ t : Fin cfg0.N, (cfg0.win 5).flush t = true := by decide +kernel

theorem ltN (t : Fin cfg0.N) : t.val < 22 := lt_of_lt_of_eq t.isLt Gen.N_0

theorem blk0 (c : Dev nD) (t : Fin cfg0.N) (r : Fin 2304) (n : Fin 256) :
    (iblk m c 0 t (ix2 r n) : EReal) = rd (a := 2304) (b := 11264) (arg0 m c) r.val (t.val * 256 + n.val) := by
  have ht := ltN t
  rw [rd_eq _ _ _ (by omega) (by omega)]
  unfold iblk
  rw [View.read_apply]
  show V m c main_arg0 _ = m (c.tc.loc main_arg0) _
  rw [V_main_arg0]
  congr 1
  funext a
  apply Fin.ext
  match a with
  | ⟨0, _⟩ => show win0_0.index t 0 * 2304 + 1 * r.val = r.val; rw [(idx0 t).1]; omega
  | ⟨1, _⟩ => show win0_0.index t 1 * 256 + 1 * n.val = t.val * 256 + n.val; rw [(idx0 t).2]; omega

theorem col0 (c : Dev nD) (t : Fin cfg0.N) (n : Fin 256) :
    col (iblk m c 0 t) n = fun i => rd (a := 2304) (b := 11264) (arg0 m c) i (t.val * 256 + n.val) := by
  funext i
  by_cases h : i < 2304
  · exact (rd_eq _ _ _ h n.isLt).trans (blk0 m c t ⟨i, h⟩ n)
  · exact (rd_out _ _ _ h).trans (rd_out _ _ _ h).symm

theorem blk1 (c : Dev nD) (t : Fin cfg0.N) (r : Fin 2304) (n : Fin 256) :
    (iblk m c 1 t (ix2 r n) : EReal) = rd (a := 2304) (b := 11264) (arg0 m c) r.val (5632 + (t.val * 256 + n.val)) := by
  have ht := ltN t
  rw [rd_eq _ _ _ (by omega) (by omega)]
  unfold iblk
  rw [View.read_apply]
  show V m c main_arg0 _ = m (c.tc.loc main_arg0) _
  rw [V_main_arg0]
  congr 1
  funext a
  apply Fin.ext
  match a with
  | ⟨0, _⟩ => show win0_1.index t 0 * 2304 + 1 * r.val = r.val; rw [(idx1 t).1]; omega
  | ⟨1, _⟩ => show win0_1.index t 1 * 256 + 1 * n.val = 5632 + (t.val * 256 + n.val); rw [(idx1 t).2]; omega

theorem col1 (c : Dev nD) (t : Fin cfg0.N) (n : Fin 256) :
    col (iblk m c 1 t) n = fun i => rd (a := 2304) (b := 11264) (arg0 m c) i (5632 + (t.val * 256 + n.val)) := by
  funext i
  by_cases h : i < 2304
  · exact (rd_eq _ _ _ h n.isLt).trans (blk1 m c t ⟨i, h⟩ n)
  · exact (rd_out _ _ _ h).trans (rd_out _ _ _ h).symm

theorem blk3 (c : Dev nD) (t : Fin cfg0.N) (r : Fin 2304) (n : Fin 256) :
    (iblk m c 3 t (ix2 r n) : EReal) = rd (a := 2304) (b := 5632) (arg3 m c) r.val (t.val * 256 + n.val) := by
  have ht := ltN t
  rw [rd_eq _ _ _ (by omega) (by omega)]
  unfold iblk
  rw [View.read_apply]
  show V m c main_arg3 _ = m (c.tc.loc main_arg3) _
  rw [V_main_arg3]
  congr 1
  funext a
  apply Fin.ext
  match a with
  | ⟨0, _⟩ => show win0_3.index t 0 * 2304 + 1 * r.val = r.val; rw [(idx3 t).1]; omega
  | ⟨1, _⟩ => show win0_3.index t 1 * 256 + 1 * n.val = t.val * 256 + n.val; rw [(idx3 t).2]; omega

theorem col3 (c : Dev nD) (t : Fin cfg0.N) (n : Fin 256) :
    col (iblk m c 3 t) n = fun i => rd (a := 2304) (b := 5632) (arg3 m c) i (t.val * 256 + n.val) := by
  funext i
  by_cases h : i < 2304
  · exact (rd_eq _ _ _ h n.isLt).trans (blk3 m c t ⟨i, h⟩ n)
  · exact (rd_out _ _ _ h).trans (rd_out _ _ _ h).symm

theorem blk2 (c : Dev nD) (t : Fin cfg0.N) (k : Fin 8) (n : Fin 256) :
    (iblk m c 2 t (ix2 k n) : EReal) = taps (arg1 m c) (arg2 m c) (ix2 k ⟨t.val * 256 + n.val, by have := ltN t; omega⟩) := by
  unfold iblk
  rw [View.read_apply]
  show V m c main_v2 _ = _
  rw [V_main_v2]
  congr 1
  funext a
  apply Fin.ext
  match a with
  | ⟨0, _⟩ => show win0_2.index t 0 * 8 + 1 * k.val = k.val; rw [(idx2 t).1]; omega
  | ⟨1, _⟩ => show win0_2.index t 1 * 256 + 1 * n.val = t.val * 256 + n.val; rw [(idx2 t).2]; omega

theorem wr_w (c : Dev nD) (t : Fin cfg0.N) (k : Fin 3) (n : Fin 256) :
    wr (iblk m c 2 t) ⟨k.val, by omega⟩ n = rd (a := 3) (b := 5632) (arg1 m c) k.val (t.val * 256 + n.val) := by
  have ht := ltN t
  exact (blk2 m c t _ n).trans ((taps_w _ _ k _).trans (rd_eq _ _ _ k.isLt (by omega)).symm)

theorem wr_b (c : Dev nD) (t : Fin cfg0.N) (n : Fin 256) :
    wr (iblk m c 2 t) 3 n = rd1 (a := 5632) (arg2 m c) (t.val * 256 + n.val) := by
  have ht := ltN t
  exact (blk2 m c t 3 n).trans ((taps_b _ _ _).trans (rd1_eq _ _ (by omega)).symm)

theorem after4_eq (c : Dev nD) (t : Fin cfg0.N) (h : Fin 2) (r : Fin 2304) (n : Fin 256) :
    ((dats m 0 c).after 4 t (ix3 h r n) : EReal)
      = gradU (arg0 m c) (arg1 m c) (arg2 m c) (arg3 m c) h.val r.val (t.val * 256 + n.val) := by
  rw [after0_4]
  refine (out4_eq _ _ _ _ (ix3 h r n)).trans ?_
  show (if h.val = 0 then du0 (col (iblk m c 0 t) n) (col (iblk m c 1 t) n) (col (iblk m c 3 t) n) (wr (iblk m c 2 t) 0 n) (wr (iblk m c 2 t) 1 n)
      (wr (iblk m c 2 t) 2 n) (wr (iblk m c 2 t) 3 n) r.val
    else du1 (col (iblk m c 0 t) n) (col (iblk m c 3 t) n) (wr (iblk m c 2 t) 0 n) (wr (iblk m c 2 t) 1 n)
      (wr (iblk m c 2 t) 2 n) (wr (iblk m c 2 t) 3 n) r.val) = _
  rw [show wr (iblk m c 2 t) 0 n = _ from wr_w m c t 0 n, show wr (iblk m c 2 t) 1 n = _ from wr_w m c t 1 n,
    show wr (iblk m c 2 t) 2 n = _ from wr_w m c t 2 n, wr_b, col0, col1, col3]
  rfl

theorem after5_eq (c : Dev nD) (t : Fin cfg0.N) (k : Fin 8) (n : Fin 256) :
    ((dats m 0 c).after 5 t (ix2 k n) : EReal)
      = gradT (arg0 m c) (arg1 m c) (arg2 m c) (arg3 m c) k.val (t.val * 256 + n.val) := by
  rw [after0_5]
  refine (out5_eq _ _ _ _ k n).trans ?_
  rw [show wr (iblk m c 2 t) 0 n = _ from wr_w m c t 0 n, show wr (iblk m c 2 t) 1 n = _ from wr_w m c t 1 n,
    show wr (iblk m c 2 t) 2 n = _ from wr_w m c t 2 n, wr_b, col0, col1, col3]
  rfl

/-- The gradient of the convolution's argument, as an array of two halves. -/
def resU (c : Dev nD) : Vec Ideal S2x2304x5632 .bf16 := fun y =>
  gradU (arg0 m c) (arg1 m c) (arg2 m c) (arg3 m c) (y 0).val (y 1).val (y 2).val

/-- The gradient of the taps and the bias, as an array. -/
def resT (c : Dev nD) : Vec Ideal S8x5632 .f32 := fun y =>
  gradT (arg0 m c) (arg1 m c) (arg2 m c) (arg3 m c) (y 0).val (y 1).val

theorem flushed4_eq (c : Dev nD) (t : Fin cfg0.N) (hf : (cfg0.win 4).flush t = true) :
    (dats m 0 c).flushed 4 t = ((cfg0.win 4).blk t).view.read (Elt Ideal) (resU m c) := by
  funext y
  rw [View.read_apply]
  have hy0 : (y 0).val < 2 := (y 0).isLt
  have hy1 : (y 1).val < 2304 := (y 1).isLt
  have hy2 : (y 2).val < 256 := (y 2).isLt
  show (dats m 0 c).after 4 t _ = resU m c _
  refine Eq.trans (congrArg _ ?_) ((after4_eq m c t ⟨(y 0).val, hy0⟩ ⟨(y 1).val, hy1⟩ ⟨(y 2).val, hy2⟩).trans ?_)
  · funext a; match a with
    | ⟨0, _⟩ => rfl
    | ⟨1, _⟩ => rfl
    | ⟨2, _⟩ => rfl
  · show gradU _ _ _ _ _ _ _ = gradU _ _ _ _ (win0_4.index t 0 * 2 + 1 * (y 0).val) (win0_4.index t 1 * 2304 + 1 * (y 1).val) (win0_4.index t 2 * 256 + 1 * (y 2).val)
    rw [(idx4 t).1, (idx4 t).2.1, (idx4 t).2.2]; simp only [Nat.zero_mul, Nat.zero_add, Nat.one_mul]

theorem final4 (c : Dev nD) : (dats m 0 c).arrAt 4 cfg0.N = resU m c :=
  (dats m 0 c).arrAt_eq_of_cover 4 (resU m c) (flushed4_eq m c) fun i => by
    have hi0 : (i 0).val < 2 := (i 0).isLt
    have hi1 : (i 1).val < 2304 := (i 1).isLt
    have hi2 : (i 2).val < 5632 := (i 2).isLt
    refine ⟨⟨(i 2).val / 256, by show _ < grid0.N; rw [Gen.N_0]; omega⟩, flush4 _, ?_⟩
    generalize ht : (⟨(i 2).val / 256, _⟩ : Fin grid0.N) = t
    have ht' : t.val = (i 2).val / 256 := by rw [← ht]
    show i ∈ ((View.whole main_v3_0).slice (win0_4.rect t)).set
    rw [View.set_slice_whole, Rect.mem_set_unit]
    intro a
    match a with
    | ⟨0, _⟩ => exact mem_box 2 (i 0).val (idx4 t).1 (by omega)
    | ⟨1, _⟩ =>
      show win0_4.index t 1 * 2304 ≤ (i 1 : Nat) ∧ (i 1 : Nat) < win0_4.index t 1 * 2304 + 2304
      rw [(idx4 t).2.1]; omega
    | ⟨2, _⟩ =>
      show win0_4.index t 2 * 256 ≤ (i 2 : Nat) ∧ (i 2 : Nat) < win0_4.index t 2 * 256 + 256
      rw [(idx4 t).2.2]; omega

theorem flushed5_eq (c : Dev nD) (t : Fin cfg0.N) (hf : (cfg0.win 5).flush t = true) :
    (dats m 0 c).flushed 5 t = ((cfg0.win 5).blk t).view.read (Elt Ideal) (resT m c) := by
  funext y
  rw [View.read_apply]
  have hy0 : (y 0).val < 8 := (y 0).isLt
  have hy1 : (y 1).val < 256 := (y 1).isLt
  show (dats m 0 c).after 5 t _ = resT m c _
  refine Eq.trans (congrArg _ ?_) ((after5_eq m c t ⟨(y 0).val, hy0⟩ ⟨(y 1).val, hy1⟩).trans ?_)
  · funext a; match a with
    | ⟨0, _⟩ => rfl
    | ⟨1, _⟩ => rfl
  · show gradT _ _ _ _ _ _ = gradT _ _ _ _ (win0_5.index t 0 * 8 + 1 * (y 0).val) (win0_5.index t 1 * 256 + 1 * (y 1).val)
    rw [(idx5 t).1, (idx5 t).2, Nat.zero_mul, Nat.zero_add, Nat.one_mul, Nat.one_mul]

theorem final5 (c : Dev nD) : (dats m 0 c).arrAt 5 cfg0.N = resT m c :=
  (dats m 0 c).arrAt_eq_of_cover 5 (resT m c) (flushed5_eq m c) fun i => by
    have hi0 : (i 0).val < 8 := (i 0).isLt
    have hi1 : (i 1).val < 5632 := (i 1).isLt
    refine ⟨⟨(i 1).val / 256, by show _ < grid0.N; rw [Gen.N_0]; omega⟩, flush5 _, ?_⟩
    generalize ht : (⟨(i 1).val / 256, _⟩ : Fin grid0.N) = t
    have ht' : t.val = (i 1).val / 256 := by rw [← ht]
    show i ∈ ((View.whole main_v3_1).slice (win0_5.rect t)).set
    rw [View.set_slice_whole, Rect.mem_set_unit]
    intro a
    match a with
    | ⟨0, _⟩ => exact mem_box 8 (i 0).val (idx5 t).1 (by omega)
    | ⟨1, _⟩ => exact mem_box 256 (i 1).val (idx5 t).2 (by omega)

end Cert.ConvBwdIdeal.Body

end
-- ==== Proof.ConvBwdRef.lean ====
/- The reference of the gated convolution's gradient, read at an index. -/
module

public import proofs.«01_k».proof.Proof.ConvSpec
public import proofs.«01_k».proof.Proof.Gen.ConvGradIdeal.Read
public import Idealize.ShloMosaic.Lib.Pointwise

@[expose] public section

set_option maxRecDepth 16384

noncomputable section

namespace Cert.ConvGradIdeal.Ref

open Idealize.ShloMosaic Idealize.ShloMosaic.TcCoe Idealize.SL.Sem
open Cert.ConvGradIdeal.Gen Cert.ConvGradIdeal.Read Cert.AttSpec Cert.ConvSpec

theorem sg_top : sg ⊤ = 1 := by
  unfold sg
  rw [EReal.neg_top, Ideal.exp_bot, add_zero]
  simp [Ideal.div]

theorem sg_bot : sg ⊥ = 0 := by
  unfold sg
  rw [EReal.neg_bot, Ideal.exp_top, show (1 : EReal) + ⊤ = ⊤ from rfl]
  simp [Ideal.div]

theorem sg_coe (x : ℝ) : ∃ s : ℝ, sg (x : EReal) = (s : EReal) := by
  refine ⟨1 / (1 + Real.exp (-x)), ?_⟩
  unfold sg
  have h : (1 + Real.exp (-x) : ℝ) ≠ 0 := by have := Real.exp_pos (-x); positivity
  rw [← EReal.coe_neg, Ideal.exp_coe, show (1 : EReal) = ((1 : ℝ) : EReal) from rfl, ← EReal.coe_add, Ideal.div_coe h]
  norm_cast
  exact one_mul _

/-- The gradient of SiLU, taken apart as the chain rule has it and as one factored product. -/
theorem dA_eq (g : ℝ) (x : EReal) : (g : EReal) * sg x + x * g * (sg x * (1 - sg x)) = dA g x := by
  unfold dA
  induction x with
  | bot => rw [sg_bot, zero_mul, zero_mul, mul_zero, mul_zero, zero_add]
  | top =>
    rw [sg_top, show (1 : EReal) - 1 = 0 from EReal.sub_self (by decide) (by decide), mul_zero, mul_zero, mul_zero, add_zero, add_zero]
    exact congrArg (fun t : EReal => (g : EReal) * t) (mul_one (1 : EReal)).symm
  | coe x =>
    obtain ⟨s, hs⟩ := sg_coe x
    rw [hs, show (1 : EReal) = ((1 : ℝ) : EReal) from rfl]
    norm_cast
    ring

theorem fiber (h : S1x1x5632.ReducesTo [0, 1] S5632) (n : Fin 5632) (i : S1x1x5632.Idx) :
    h.drop i = ix1 n ↔ ∃ k : Fin 1 × Fin 1, ix3 k.1 k.2 n = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A sum along two axes of length one. -/
theorem red (h : S1x1x5632.ReducesTo [0, 1] S5632) (v : S1x1x5632.Idx → EReal) (n : Fin 5632) :
    Ideal.hostReduceAdd h v 0 (ix1 n) = v (ix3 0 0 n) := by
  refine (congrArg ((0 : EReal) + ·) (Finset.sum_filter_eq_sum_of_fiber _ (fun k : Fin 1 × Fin 1 => ix3 k.1 k.2 n)
    (fun _ _ e => Prod.ext (congrFun e 0) (congrFun e 1)) (fiber h n) v)).trans ?_
  simp only [Fintype.sum_prod_type, Fin.sum_univ_one]
  exact zero_add _

variable (x0 : Vec Ideal S2304x11264 .f32) (x1 : Vec Ideal S3x5632 .f32) (x2 : Vec Ideal S5632 .f32) (x3 : Vec Ideal S2304x5632 .bf16)

/-- A column of the convolved half, of the other half, and of the incoming gradient. -/
def cA (n : Nat) : Nat → EReal := fun i => rd (a := 2304) (b := 11264) x0 i n
def cV (n : Nat) : Nat → EReal := fun i => rd (a := 2304) (b := 11264) x0 i (5632 + n)
def cD (n : Nat) : Nat → EReal := fun i => rd (a := 2304) (b := 5632) x3 i n

/-- A column's convolution, and the gradient of it. -/
def cacc (n r : Nat) : EReal := acc (cA x0 n) (rd (a := 3) (b := 5632) x1 0 n) (rd (a := 3) (b := 5632) x1 1 n) (rd (a := 3) (b := 5632) x1 2 n) (rd1 (a := 5632) x2 n) r
def cdC (n r : Nat) : EReal := dC (cA x0 n) (cV x0 n) (cD x3 n) (rd (a := 3) (b := 5632) x1 0 n) (rd (a := 3) (b := 5632) x1 1 n) (rd (a := 3) (b := 5632) x1 2 n) (rd1 (a := 5632) x2 n) r

theorem prev_ctx (r : Fin 256) (n : Fin 5632) :
    (val_main_v8 (F := Ideal) x0 (ix3 0 r n) : EReal) = prv (cA x0 n.val) r.val := by
  have hr := r.isLt
  pointwise [val_main_v8, val_main_v0, val_main_v1, val_main_v2, val_main_v4, val_main_v5, val_main_cst]
  unfold prv
  by_cases h : r.val = 0
  · exact (dif_pos (by omega : r.val < 1)).trans (if_pos (by omega : r.val = 0 ∨ r.val = 256)).symm
  · refine (dif_neg (by omega : ¬ r.val < 1)).trans ((dif_pos (by omega : r.val - 1 < 256)).trans (Eq.trans ?_
      (if_neg (by omega : ¬ (r.val = 0 ∨ r.val = 256))).symm))
    refine Eq.trans (congrArg x0 ((ix2_inj ..).2 ⟨Fin.ext ?_, rfl⟩)) (rd_eq _ _ _ (by omega) (by have := n.isLt; omega)).symm
    dsimp only

theorem mid_ctx (r : Fin 256) (n : Fin 5632) :
    (val_main_v14 (F := Ideal) x0 (ix3 0 r n) : EReal) = cA x0 n.val r.val := by
  have hr := r.isLt
  pointwise [val_main_v14, val_main_v0, val_main_v1, val_main_v2, val_main_v4, val_main_v5, val_main_cst]
  exact (rd_eq _ _ _ (by omega) (by omega)).symm

theorem next_ctx (r : Fin 256) (n : Fin 5632) :
    (val_main_v21 (F := Ideal) x0 (ix3 0 r n) : EReal) = nxt (cA x0 n.val) r.val := by
  have hr := r.isLt
  pointwise [val_main_v21, val_main_v0, val_main_v1, val_main_v2, val_main_v4, val_main_v5, val_main_cst]
  unfold nxt
  by_cases h : r.val = 255
  · exact (dif_neg (by omega : ¬ 2 + r.val < 1)).trans ((dif_neg (by omega : ¬ 2 + r.val - 1 < 256)).trans
      (if_pos (by omega : r.val = 255 ∨ r.val = 2303)).symm)
  · refine (dif_neg (by omega : ¬ 2 + r.val < 1)).trans ((dif_pos (by omega : 2 + r.val - 1 < 256)).trans (Eq.trans ?_
      (if_neg (by omega : ¬ (r.val = 255 ∨ r.val = 2303))).symm))
    refine Eq.trans (congrArg x0 ((ix2_inj ..).2 ⟨Fin.ext ?_, rfl⟩)) (rd_eq _ _ _ (by omega) (by have := n.isLt; omega)).symm
    dsimp only; omega

theorem acc_ctx (r : Fin 256) (n : Fin 5632) :
    (val_main_v30 (F := Ideal) x0 x1 x2 (ix3 0 r n) : EReal) = cacc x0 x1 x2 n.val r.val := by
  have hr := r.isLt
  pointwise [val_main_v30, val_main_v29, val_main_v28, val_main_v27, val_main_v26, val_main_v25, val_main_v24, val_main_v23, val_main_v22, val_main_v20, val_main_v19, val_main_v18, val_main_v17, val_main_v16, val_main_v15, val_main_v13, val_main_v12, val_main_v11, val_main_v10, val_main_v9]
  rw [prev_ctx, mid_ctx, next_ctx]
  unfold cacc acc
  rw [rd_eq _ _ _ (by omega) n.isLt, rd_eq _ _ _ (by omega) n.isLt, rd_eq _ _ _ (by omega) n.isLt, rd1_eq _ _ n.isLt]
  rfl

theorem sg_ctx (r : Fin 256) (n : Fin 5632) :
    (val_main_v31_2 (F := Ideal) x0 x1 x2 (ix3 0 r n) : EReal) = sg (cacc x0 x1 x2 n.val r.val) := by
  pointwise [val_main_v31_2, val_main_call0_v4, val_main_call0_v3, val_main_call0_v2, val_main_call0_v1, val_main_call0_v0, val_main_call0_cst, val_main_call0_cst_0]
  rw [acc_ctx]
  rfl

theorem d_ctx (r : Fin 256) (n : Fin 5632) : (val_main_v70 (F := Ideal) x3 (ix3 0 r n) : EReal) = cD x3 n.val r.val := by
  have hr := r.isLt
  pointwise [val_main_v70, val_main_v69, val_main_v68]
  exact (rd_eq _ _ _ (by omega) (by omega)).symm

theorem v_ctx (r : Fin 256) (n : Fin 5632) : (val_main_v3 (F := Ideal) x0 (ix3 0 r n) : EReal) = cV x0 n.val r.val := by
  have hr := r.isLt
  pointwise [val_main_v3, val_main_v1, val_main_v0]
  exact (rd_eq _ _ _ (by omega) (by omega)).symm

theorem du1_ctx (r : Fin 256) (n : Fin 5632) :
    (val_main_v115 (F := Ideal) x0 x1 x2 x3 (ix3 0 r n) : EReal)
      = cD x3 n.val r.val * cacc x0 x1 x2 n.val r.val * sg (cacc x0 x1 x2 n.val r.val) := by
  pointwise [val_main_v115, val_main_v31_0]
  rw [acc_ctx, sg_ctx, d_ctx, mul_comm, mul_assoc]

theorem dC_ctx (hr : ∀ i : Nat, ∀ n : Nat, ∃ g : ℝ, cD x3 n i * cV x0 n i = (g : EReal)) (r : Fin 256) (n : Fin 5632) :
    (val_main_v117 (F := Ideal) x0 x1 x2 x3 (ix3 0 r n) : EReal) = cdC x0 x1 x2 x3 n.val r.val := by
  pointwise [val_main_v117, val_main_call3_v0, val_main_call3_v1, val_main_call3_v2, val_main_v31_1, val_main_call0_v7, val_main_call0_v6, val_main_call0_cst_1, val_main_v116]
  rw [acc_ctx, sg_ctx, d_ctx, v_ctx]
  obtain ⟨g, hg⟩ := hr r.val n.val
  unfold cdC dC
  rw [hg]
  exact dA_eq g _

theorem prev_lat (r : Fin 2048) (n : Fin 5632) :
    (val_main_v41 (F := Ideal) x0 (ix3 0 r n) : EReal) = prv (cA x0 n.val) (256 + r.val) := by
  have hr := r.isLt
  pointwise [val_main_v41, val_main_v33, val_main_v34, val_main_v35, val_main_v37, val_main_v38, val_main_cst_2]
  unfold prv
  by_cases h : r.val = 0
  · exact (dif_pos (by omega : r.val < 1)).trans (if_pos (by omega : 256 + r.val = 0 ∨ 256 + r.val = 256)).symm
  · refine (dif_neg (by omega : ¬ r.val < 1)).trans ((dif_pos (by omega : r.val - 1 < 2048)).trans (Eq.trans ?_
      (if_neg (by omega : ¬ (256 + r.val = 0 ∨ 256 + r.val = 256))).symm))
    refine Eq.trans (congrArg x0 ((ix2_inj ..).2 ⟨Fin.ext ?_, rfl⟩)) (rd_eq _ _ _ (by omega) (by have := n.isLt; omega)).symm
    dsimp only; omega

theorem mid_lat (r : Fin 2048) (n : Fin 5632) :
    (val_main_v47 (F := Ideal) x0 (ix3 0 r n) : EReal) = cA x0 n.val (256 + r.val) := by
  have hr := r.isLt
  pointwise [val_main_v47, val_main_v33, val_main_v34, val_main_v35, val_main_v37, val_main_v38, val_main_cst_2]
  exact (rd_eq _ _ _ (by omega) (by omega)).symm

theorem next_lat (r : Fin 2048) (n : Fin 5632) :
    (val_main_v54 (F := Ideal) x0 (ix3 0 r n) : EReal) = nxt (cA x0 n.val) (256 + r.val) := by
  have hr := r.isLt
  pointwise [val_main_v54, val_main_v33, val_main_v34, val_main_v35, val_main_v37, val_main_v38, val_main_cst_2]
  unfold nxt
  by_cases h : r.val = 2047
  · exact (dif_neg (by omega : ¬ 2 + r.val < 1)).trans ((dif_neg (by omega : ¬ 2 + r.val - 1 < 2048)).trans
      (if_pos (by omega : 256 + r.val = 255 ∨ 256 + r.val = 2303)).symm)
  · refine (dif_neg (by omega : ¬ 2 + r.val < 1)).trans ((dif_pos (by omega : 2 + r.val - 1 < 2048)).trans (Eq.trans ?_
      (if_neg (by omega : ¬ (256 + r.val = 255 ∨ 256 + r.val = 2303))).symm))
    refine Eq.trans (congrArg x0 ((ix2_inj ..).2 ⟨Fin.ext ?_, rfl⟩)) (rd_eq _ _ _ (by omega) (by have := n.isLt; omega)).symm
    dsimp only; omega

theorem acc_lat (r : Fin 2048) (n : Fin 5632) :
    (val_main_v63 (F := Ideal) x0 x1 x2 (ix3 0 r n) : EReal) = cacc x0 x1 x2 n.val (256 + r.val) := by
  have hr := r.isLt
  pointwise [val_main_v63, val_main_v62, val_main_v61, val_main_v60, val_main_v59, val_main_v58, val_main_v57, val_main_v56, val_main_v55, val_main_v53, val_main_v52, val_main_v51, val_main_v50, val_main_v49, val_main_v48, val_main_v46, val_main_v45, val_main_v44, val_main_v43, val_main_v42]
  rw [prev_lat, mid_lat, next_lat]
  unfold cacc acc
  rw [rd_eq _ _ _ (by omega) n.isLt, rd_eq _ _ _ (by omega) n.isLt, rd_eq _ _ _ (by omega) n.isLt, rd1_eq _ _ n.isLt]
  rfl

theorem sg_lat (r : Fin 2048) (n : Fin 5632) :
    (val_main_v64_2 (F := Ideal) x0 x1 x2 (ix3 0 r n) : EReal) = sg (cacc x0 x1 x2 n.val (256 + r.val)) := by
  pointwise [val_main_v64_2, val_main_call1_v4, val_main_call1_v3, val_main_call1_v2, val_main_call1_v1, val_main_call1_v0, val_main_call1_cst, val_main_call1_cst_0]
  rw [acc_lat]
  rfl

theorem d_lat (r : Fin 2048) (n : Fin 5632) : (val_main_v71 (F := Ideal) x3 (ix3 0 r n) : EReal) = cD x3 n.val (256 + r.val) := by
  have hr := r.isLt
  pointwise [val_main_v71, val_main_v69, val_main_v68]
  exact (rd_eq _ _ _ (by omega) (by omega)).symm

theorem v_lat (r : Fin 2048) (n : Fin 5632) : (val_main_v36 (F := Ideal) x0 (ix3 0 r n) : EReal) = cV x0 n.val (256 + r.val) := by
  have hr := r.isLt
  pointwise [val_main_v36, val_main_v34, val_main_v33]
  exact (rd_eq _ _ _ (by omega) (by omega)).symm

theorem du1_lat (r : Fin 2048) (n : Fin 5632) :
    (val_main_v72 (F := Ideal) x0 x1 x2 x3 (ix3 0 r n) : EReal)
      = cD x3 n.val (256 + r.val) * cacc x0 x1 x2 n.val (256 + r.val) * sg (cacc x0 x1 x2 n.val (256 + r.val)) := by
  pointwise [val_main_v72, val_main_v64_0]
  rw [acc_lat, sg_lat, d_lat, mul_comm, mul_assoc]

theorem dC_lat (hr : ∀ i : Nat, ∀ n : Nat, ∃ g : ℝ, cD x3 n i * cV x0 n i = (g : EReal)) (r : Fin 2048) (n : Fin 5632) :
    (val_main_v74 (F := Ideal) x0 x1 x2 x3 (ix3 0 r n) : EReal) = cdC x0 x1 x2 x3 n.val (256 + r.val) := by
  pointwise [val_main_v74, val_main_call2_v0, val_main_call2_v1, val_main_call2_v2, val_main_v64_1, val_main_call1_v7, val_main_call1_v6, val_main_call1_cst_1, val_main_v73]
  rw [acc_lat, sg_lat, d_lat, v_lat]
  obtain ⟨g, hg⟩ := hr (256 + r.val) n.val
  unfold cdC dC
  rw [hg]
  exact dA_eq g _

theorem sb_ctx (hr : ∀ i : Nat, ∀ n : Nat, ∃ g : ℝ, cD x3 n i * cV x0 n i = (g : EReal)) (n : Fin 5632) :
    (val_main_v120 (F := Ideal) x0 x1 x2 x3 (ix1 n) : EReal) = ∑ r : Fin 256, cdC x0 x1 x2 x3 n.val r.val := by
  pointwise [val_main_v120, val_main_cst_22]
  refine (red _ _ _).trans ?_
  pointwise [val_main_v119, val_main_v118, val_main_cst_21]
  refine Finset.sum_congr rfl fun r _ => ?_
  exact dC_ctx x0 x1 x2 x3 hr r n

theorem st2_ctx (hr : ∀ i : Nat, ∀ n : Nat, ∃ g : ℝ, cD x3 n i * cV x0 n i = (g : EReal)) (n : Fin 5632) :
    (val_main_v127 (F := Ideal) x0 x1 x2 x3 (ix1 n) : EReal) = ∑ r : Fin 256, cdC x0 x1 x2 x3 n.val r.val * nxt (cA x0 n.val) r.val := by
  pointwise [val_main_v127, val_main_cst_24]
  refine (red _ _ _).trans ?_
  pointwise [val_main_v124, val_main_v123, val_main_cst_23, val_main_v122]
  refine Finset.sum_congr rfl fun r _ => ?_
  rw [dC_ctx x0 x1 x2 x3 hr, next_ctx, mul_comm]

theorem st1_ctx (hr : ∀ i : Nat, ∀ n : Nat, ∃ g : ℝ, cD x3 n i * cV x0 n i = (g : EReal)) (n : Fin 5632) :
    (val_main_v137 (F := Ideal) x0 x1 x2 x3 (ix1 n) : EReal) = ∑ r : Fin 256, cdC x0 x1 x2 x3 n.val r.val * cA x0 n.val r.val := by
  pointwise [val_main_v137, val_main_cst_28]
  refine (red _ _ _).trans ?_
  pointwise [val_main_v134, val_main_v133, val_main_cst_27, val_main_v132]
  refine Finset.sum_congr rfl fun r _ => ?_
  rw [dC_ctx x0 x1 x2 x3 hr, mid_ctx, mul_comm]

theorem st0_ctx (hr : ∀ i : Nat, ∀ n : Nat, ∃ g : ℝ, cD x3 n i * cV x0 n i = (g : EReal)) (n : Fin 5632) :
    (val_main_v148 (F := Ideal) x0 x1 x2 x3 (ix1 n) : EReal) = ∑ r : Fin 256, cdC x0 x1 x2 x3 n.val r.val * prv (cA x0 n.val) r.val := by
  pointwise [val_main_v148, val_main_cst_32]
  refine (red _ _ _).trans ?_
  pointwise [val_main_v145, val_main_v144, val_main_cst_31, val_main_v143]
  refine Finset.sum_congr rfl fun r _ => ?_
  rw [dC_ctx x0 x1 x2 x3 hr, prev_ctx, mul_comm]

theorem du0_ctx (hr : ∀ i : Nat, ∀ n : Nat, ∃ g : ℝ, cD x3 n i * cV x0 n i = (g : EReal)) (r : Fin 256) (n : Fin 5632) :
    (val_main_v155 (F := Ideal) x0 x1 x2 x3 (ix3 0 r n) : EReal)
      = cdC x0 x1 x2 x3 n.val r.val * rd (a := 3) (b := 5632) x1 1 n.val + nxt (cdC x0 x1 x2 x3 n.val) r.val * rd (a := 3) (b := 5632) x1 0 n.val
        + prv (cdC x0 x1 x2 x3 n.val) r.val * rd (a := 3) (b := 5632) x1 2 n.val := by
  have hlt := r.isLt
  rw [rd_eq _ _ _ (by omega) n.isLt, rd_eq _ _ _ (by omega) n.isLt, rd_eq _ _ _ (by omega) n.isLt]
  pointwise [val_main_v155, val_main_v153, val_main_v142, val_main_v131, val_main_v126, val_main_v125, val_main_v24, val_main_v23, val_main_v22, val_main_v141, val_main_v136, val_main_v135, val_main_v17, val_main_v16, val_main_v15, val_main_v152, val_main_v147, val_main_v146, val_main_v11, val_main_v10, val_main_v9, val_main_cst_26, val_main_cst_30, val_main_cst_34]
  refine (congrArg₂ (fun s t : EReal => s + t) (congrArg₂ (fun s t : EReal => s + t) (?_ : _ = prv (cdC x0 x1 x2 x3 n.val) r.val * x1 (ix2 2 n))
    (congrArg (fun t : EReal => t * x1 (ix2 1 n)) (dC_ctx x0 x1 x2 x3 hr r n)))
    (?_ : _ = nxt (cdC x0 x1 x2 x3 n.val) r.val * x1 (ix2 0 n))).trans ?_
  · unfold prv
    by_cases h : r.val = 0
    · rw [if_pos (by omega : r.val = 0 ∨ r.val = 256), zero_mul]
      exact dif_neg (by omega)
    · rw [if_neg (by omega : ¬ (r.val = 0 ∨ r.val = 256))]
      refine (dif_pos (by omega : 2 ≤ 1 + r.val ∧ 1 + r.val - 2 < 256)).trans (congrArg (fun t : EReal => t * x1 (ix2 2 n)) ?_)
      refine (dC_ctx x0 x1 x2 x3 hr _ n).trans (congrArg (cdC x0 x1 x2 x3 n.val) ?_)
      dsimp only; omega
  · unfold nxt
    by_cases h : r.val = 255
    · rw [if_pos (by omega : r.val = 255 ∨ r.val = 2303), zero_mul]
      exact dif_neg (by omega)
    · rw [if_neg (by omega : ¬ (r.val = 255 ∨ r.val = 2303))]
      refine (dif_pos (by omega : 1 + r.val < 256)).trans (congrArg (fun t : EReal => t * x1 (ix2 0 n)) ?_)
      refine (dC_ctx x0 x1 x2 x3 hr _ n).trans (congrArg (cdC x0 x1 x2 x3 n.val) ?_)
      dsimp only; omega
  · rw [add_assoc, add_comm]

theorem sb_lat (hr : ∀ i : Nat, ∀ n : Nat, ∃ g : ℝ, cD x3 n i * cV x0 n i = (g : EReal)) (n : Fin 5632) :
    (val_main_v77 (F := Ideal) x0 x1 x2 x3 (ix1 n) : EReal) = ∑ r : Fin 2048, cdC x0 x1 x2 x3 n.val (256 + r.val) := by
  pointwise [val_main_v77, val_main_cst_6]
  refine (red _ _ _).trans ?_
  pointwise [val_main_v76, val_main_v75, val_main_cst_5]
  refine Finset.sum_congr rfl fun r _ => ?_
  exact dC_lat x0 x1 x2 x3 hr r n

theorem st2_lat (hr : ∀ i : Nat, ∀ n : Nat, ∃ g : ℝ, cD x3 n i * cV x0 n i = (g : EReal)) (n : Fin 5632) :
    (val_main_v83 (F := Ideal) x0 x1 x2 x3 (ix1 n) : EReal) = ∑ r : Fin 2048, cdC x0 x1 x2 x3 n.val (256 + r.val) * nxt (cA x0 n.val) (256 + r.val) := by
  pointwise [val_main_v83, val_main_cst_8]
  refine (red _ _ _).trans ?_
  pointwise [val_main_v80, val_main_v79, val_main_cst_7, val_main_v78]
  refine Finset.sum_congr rfl fun r _ => ?_
  rw [dC_lat x0 x1 x2 x3 hr, next_lat, mul_comm]

theorem st1_lat (hr : ∀ i : Nat, ∀ n : Nat, ∃ g : ℝ, cD x3 n i * cV x0 n i = (g : EReal)) (n : Fin 5632) :
    (val_main_v92 (F := Ideal) x0 x1 x2 x3 (ix1 n) : EReal) = ∑ r : Fin 2048, cdC x0 x1 x2 x3 n.val (256 + r.val) * cA x0 n.val (256 + r.val) := by
  pointwise [val_main_v92, val_main_cst_12]
  refine (red _ _ _).trans ?_
  pointwise [val_main_v89, val_main_v88, val_main_cst_11, val_main_v87]
  refine Finset.sum_congr rfl fun r _ => ?_
  rw [dC_lat x0 x1 x2 x3 hr, mid_lat, mul_comm]

theorem st0_lat (hr : ∀ i : Nat, ∀ n : Nat, ∃ g : ℝ, cD x3 n i * cV x0 n i = (g : EReal)) (n : Fin 5632) :
    (val_main_v103 (F := Ideal) x0 x1 x2 x3 (ix1 n) : EReal) = ∑ r : Fin 2048, cdC x0 x1 x2 x3 n.val (256 + r.val) * prv (cA x0 n.val) (256 + r.val) := by
  pointwise [val_main_v103, val_main_cst_16]
  refine (red _ _ _).trans ?_
  pointwise [val_main_v100, val_main_v99, val_main_cst_15, val_main_v98]
  refine Finset.sum_congr rfl fun r _ => ?_
  rw [dC_lat x0 x1 x2 x3 hr, prev_lat, mul_comm]

theorem du0_lat (hr : ∀ i : Nat, ∀ n : Nat, ∃ g : ℝ, cD x3 n i * cV x0 n i = (g : EReal)) (r : Fin 2048) (n : Fin 5632) :
    (val_main_v110 (F := Ideal) x0 x1 x2 x3 (ix3 0 r n) : EReal)
      = cdC x0 x1 x2 x3 n.val (256 + r.val) * rd (a := 3) (b := 5632) x1 1 n.val + nxt (cdC x0 x1 x2 x3 n.val) (256 + r.val) * rd (a := 3) (b := 5632) x1 0 n.val
        + prv (cdC x0 x1 x2 x3 n.val) (256 + r.val) * rd (a := 3) (b := 5632) x1 2 n.val := by
  have hlt := r.isLt
  rw [rd_eq _ _ _ (by omega) n.isLt, rd_eq _ _ _ (by omega) n.isLt, rd_eq _ _ _ (by omega) n.isLt]
  pointwise [val_main_v110, val_main_v108, val_main_v97, val_main_v86, val_main_v82, val_main_v81, val_main_v57, val_main_v56, val_main_v55, val_main_v96, val_main_v91, val_main_v90, val_main_v50, val_main_v49, val_main_v48, val_main_v107, val_main_v102, val_main_v101, val_main_v44, val_main_v43, val_main_v42, val_main_cst_10, val_main_cst_14, val_main_cst_18]
  refine (congrArg₂ (fun s t : EReal => s + t) (congrArg₂ (fun s t : EReal => s + t) (?_ : _ = prv (cdC x0 x1 x2 x3 n.val) (256 + r.val) * x1 (ix2 2 n))
    (congrArg (fun t : EReal => t * x1 (ix2 1 n)) (dC_lat x0 x1 x2 x3 hr r n)))
    (?_ : _ = nxt (cdC x0 x1 x2 x3 n.val) (256 + r.val) * x1 (ix2 0 n))).trans ?_
  · unfold prv
    by_cases h : r.val = 0
    · rw [if_pos (by omega : 256 + r.val = 0 ∨ 256 + r.val = 256), zero_mul]
      exact dif_neg (by omega)
    · rw [if_neg (by omega : ¬ (256 + r.val = 0 ∨ 256 + r.val = 256))]
      refine (dif_pos (by omega : 2 ≤ 1 + r.val ∧ 1 + r.val - 2 < 2048)).trans (congrArg (fun t : EReal => t * x1 (ix2 2 n)) ?_)
      refine (dC_lat x0 x1 x2 x3 hr _ n).trans (congrArg (cdC x0 x1 x2 x3 n.val) ?_)
      dsimp only; omega
  · unfold nxt
    by_cases h : r.val = 2047
    · rw [if_pos (by omega : 256 + r.val = 255 ∨ 256 + r.val = 2303), zero_mul]
      exact dif_neg (by omega)
    · rw [if_neg (by omega : ¬ (256 + r.val = 255 ∨ 256 + r.val = 2303))]
      refine (dif_pos (by omega : 1 + r.val < 2048)).trans (congrArg (fun t : EReal => t * x1 (ix2 0 n)) ?_)
      refine (dC_lat x0 x1 x2 x3 hr _ n).trans (congrArg (cdC x0 x1 x2 x3 n.val) ?_)
      dsimp only; omega
  · rw [add_assoc, add_comm]

theorem sum_split (f : Nat → EReal) : (∑ r : Fin 2304, f r.val) = (∑ r : Fin 2048, f (256 + r.val)) + ∑ r : Fin 256, f r.val :=
  (Fin.sum_univ_add (fun r : Fin (256 + 2048) => f r.val)).trans (add_comm _ _)

theorem half0 (hr : ∀ i : Nat, ∀ n : Nat, ∃ g : ℝ, cD x3 n i * cV x0 n i = (g : EReal)) (r : Fin 2304) (n : Fin 5632) (hn : n.val < 11264) :
    (val_main_v160 (F := Ideal) x0 x1 x2 x3 (ix2 r ⟨n.val, hn⟩) : EReal)
      = cdC x0 x1 x2 x3 n.val r.val * rd (a := 3) (b := 5632) x1 1 n.val + nxt (cdC x0 x1 x2 x3 n.val) r.val * rd (a := 3) (b := 5632) x1 0 n.val
        + prv (cdC x0 x1 x2 x3 n.val) r.val * rd (a := 3) (b := 5632) x1 2 n.val := by
  have hn := n.isLt
  have hlt := r.isLt
  pointwise [val_main_v160, val_main_v159, val_main_v158, val_main_v157, val_main_v114, val_main_v113, val_main_v112, val_main_cst_19, val_main_cst_20, val_main_cst_35, val_main_cst_36]
  by_cases hr2 : r.val < 256
  · rw [dif_neg (by omega), dif_pos ⟨hr2, by omega⟩, zero_add]
    exact (Fin.sum_univ_one _).trans (du0_ctx x0 x1 x2 x3 hr ⟨r.val, hr2⟩ n)
  · rw [dif_pos ⟨⟨by omega, by omega⟩, by omega⟩, dif_neg (by omega), add_zero]
    refine (Fin.sum_univ_one _).trans ((du0_lat x0 x1 x2 x3 hr ⟨r.val - 256, by omega⟩ n).trans ?_)
    rw [show 256 + (r.val - 256) = r.val by omega]

theorem half1 (r : Fin 2304) (n : Fin 5632) (hn : 5632 + n.val < 11264) :
    (val_main_v160 (F := Ideal) x0 x1 x2 x3 (ix2 r ⟨5632 + n.val, hn⟩) : EReal)
      = cD x3 n.val r.val * cacc x0 x1 x2 n.val r.val * sg (cacc x0 x1 x2 n.val r.val) := by
  have hn := n.isLt
  have hlt := r.isLt
  pointwise [val_main_v160, val_main_v159, val_main_v158, val_main_v157, val_main_v114, val_main_v113, val_main_v112, val_main_cst_19, val_main_cst_20, val_main_cst_35, val_main_cst_36]
  by_cases hr2 : r.val < 256
  · rw [dif_neg (by omega), dif_pos ⟨hr2, by omega⟩, zero_add]
    exact (Fin.sum_univ_one _).trans (du1_ctx x0 x1 x2 x3 ⟨r.val, hr2⟩ n)
  · rw [dif_pos ⟨⟨by omega, by omega⟩, by omega⟩, dif_neg (by omega), add_zero]
    refine (Fin.sum_univ_one _).trans ((du1_lat x0 x1 x2 x3 ⟨r.val - 256, by omega⟩ n).trans ?_)
    rw [show 256 + (r.val - 256) = r.val by omega]

theorem du_ref (hr : ∀ i : Nat, ∀ n : Nat, ∃ g : ℝ, cD x3 n i * cV x0 n i = (g : EReal)) (h : Fin 2) (r : Fin 2304) (n : Fin 5632) :
    (val_main_v166 (F := Ideal) x0 x1 x2 x3 (ix3 h r n) : EReal) = gradU x0 x1 x2 x3 h.val r.val n.val := by
  have hh := h.isLt
  have hn := n.isLt
  pointwise [val_main_v166, val_main_v165, val_main_v164, val_main_v163, val_main_v162, val_main_v161]
  by_cases h0 : h.val = 0
  · exact (dif_pos (by omega : h.val < 1)).trans ((half0 x0 x1 x2 x3 hr r n _).trans (if_pos h0).symm)
  · exact (dif_neg (by omega : ¬ h.val < 1)).trans ((half1 x0 x1 x2 x3 r n _).trans (if_neg h0).symm)

theorem dt_ref (hr : ∀ i : Nat, ∀ n : Nat, ∃ g : ℝ, cD x3 n i * cV x0 n i = (g : EReal)) (k : Fin 8) (n : Fin 5632) :
    (val_main_v169 (F := Ideal) x0 x1 x2 x3 (ix2 k n) : EReal) = gradT x0 x1 x2 x3 k.val n.val := by
  have hk := k.isLt
  pointwise [val_main_v169, val_main_v168, val_main_cst_37, val_main_v167, val_main_v121, val_main_v151, val_main_v150, val_main_v149, val_main_v140, val_main_v139, val_main_v138, val_main_v130, val_main_v129, val_main_v128, val_main_v106, val_main_v105, val_main_v104, val_main_v95, val_main_v94, val_main_v93, val_main_v85, val_main_v84, val_main_cst_9, val_main_cst_13, val_main_cst_17, val_main_cst_25, val_main_cst_29, val_main_cst_33]
  rw [sb_lat x0 x1 x2 x3 hr, sb_ctx x0 x1 x2 x3 hr, st0_lat x0 x1 x2 x3 hr, st0_ctx x0 x1 x2 x3 hr, st1_lat x0 x1 x2 x3 hr, st1_ctx x0 x1 x2 x3 hr,
    st2_lat x0 x1 x2 x3 hr, st2_ctx x0 x1 x2 x3 hr]
  have e3 := sum_split (cdC x0 x1 x2 x3 n.val)
  have e2 := sum_split (fun r => cdC x0 x1 x2 x3 n.val r * nxt (cA x0 n.val) r)
  have e1 := sum_split (fun r => cdC x0 x1 x2 x3 n.val r * cA x0 n.val r)
  have e0 := sum_split (fun r => cdC x0 x1 x2 x3 n.val r * prv (cA x0 n.val) r)
  refine (?_ : _ = if k.val = 3 then (∑ r : Fin 2304, cdC x0 x1 x2 x3 n.val r.val)
    else if k.val = 2 then (∑ r : Fin 2304, cdC x0 x1 x2 x3 n.val r.val * nxt (cA x0 n.val) r.val)
    else if k.val = 1 then (∑ r : Fin 2304, cdC x0 x1 x2 x3 n.val r.val * cA x0 n.val r.val)
    else if k.val = 0 then (∑ r : Fin 2304, cdC x0 x1 x2 x3 n.val r.val * prv (cA x0 n.val) r.val) else 0)
  rw [e0, e1, e2, e3]
  clear e0 e1 e2 e3
  obtain ⟨k, hk'⟩ := k
  dsimp only at hk ⊢
  interval_cases k <;> simp

end Cert.ConvGradIdeal.Ref

end
-- ==== Proof.ConvBwdClaims.lean ====
/- The gated convolution's gradient as the kernel computes it and as the reference does. -/
module

public import proofs.«01_k».proof.Proof.ConvBwdBlocks
public import proofs.«01_k».proof.Proof.ConvBwdRef
public import proofs.«01_k».proof.Proof.AttClaims
public import proofs.«01_k».proof.Defs

@[expose] public section

set_option maxRecDepth 16384

noncomputable section

namespace Cert.Proof.ConvBwd

open Idealize.ShloMosaic Idealize.ShloMosaic.TcCoe Idealize.SL.Sem
open Cert.Proof.Att (real_of_abs ofBits_inf)
open Cert.AttSpec Cert.ConvSpec

instance preFacts : Cert.Pre_finite_conv.Facts where
  slices_S2304x11264_S2304x5632_0_5632 := by decide
  bcast_S_S2304x5632 := by decide
  bitsLt_bf16_f32 := by decide

open Cert.Pre_finite_conv in
theorem real_v (a0 a1 a2 a3) (h : (Cert.Pre_finite_conv.fn (F := Ideal) a0 a1 a2 a3).1 = fun _ => 1#1) (i n : Nat) (hi : i < 2304) (hn : n < 5632) :
    ∃ r : ℝ, rd (a := 2304) (b := 11264) a0 i (5632 + n) = (r : EReal) := by
  have e := congrFun h (ix2 ⟨i, hi⟩ ⟨n, hn⟩)
  obtain ⟨q, hq⟩ := real_of_abs ((extractStridedSlice S2304x5632 ![0, 5632] (a0 : FVec Ideal S2304x11264 .f32)
    Facts.slices_S2304x11264_S2304x5632_0_5632) (ix2 ⟨i, hi⟩ ⟨n, hn⟩)) (by rw [← ofBits_inf]; exact e)
  refine ⟨q, (rd_eq _ _ _ hi (by omega)).trans (Eq.trans (congrArg a0 ?_) hq)⟩
  funext a
  apply Fin.ext
  match a with
  | ⟨0, _⟩ => show i = 0 + i; omega
  | ⟨1, _⟩ => rfl

open Cert.Pre_finite_conv in
theorem real_d (a0 a1 a2 a3) (h : (Cert.Pre_finite_conv.fn (F := Ideal) a0 a1 a2 a3).2 = fun _ => 1#1) (i : S2304x5632.Idx) :
    ∃ r : ℝ, (a3 i : EReal) = (r : EReal) := by
  have e := congrFun h i
  refine real_of_abs _ ?_
  rw [← ofBits_inf]
  exact e

theorem real_dv (a0 a1 a2 a3) (h0 : (Cert.Pre_finite_conv.fn (F := Ideal) a0 a1 a2 a3).1 = fun _ => 1#1)
    (h1 : (Cert.Pre_finite_conv.fn (F := Ideal) a0 a1 a2 a3).2 = fun _ => 1#1) (i n : Nat) :
    ∃ g : ℝ, ConvGradIdeal.Ref.cD a3 n i * ConvGradIdeal.Ref.cV a0 n i = (g : EReal) := by
  unfold ConvGradIdeal.Ref.cD ConvGradIdeal.Ref.cV
  by_cases hi : i < 2304 ∧ n < 5632
  · obtain ⟨v, hv⟩ := real_v a0 a1 a2 a3 h0 i n hi.1 hi.2
    obtain ⟨d, hd⟩ := real_d a0 a1 a2 a3 h1 (ix2 ⟨i, hi.1⟩ ⟨n, hi.2⟩)
    rw [hv, rd_eq _ _ _ hi.1 hi.2, hd]
    exact ⟨d * v, (EReal.coe_mul d v).symm⟩
  · refine ⟨0, ?_⟩
    rw [show rd (a := 2304) (b := 5632) a3 i n = 0 from dif_neg hi]
    exact zero_mul _

theorem frame_ref : quiescent_ConvGradIdeal := fun m ρ _ =>
  (θ_run ConvGradIdeal.defs _ _).mono (fun r h => ⟨fun c => (h c).2.2,
      sem_eq_zero_of_no_sems (by decide) r.2⟩)
    (ConvGradIdeal.Value.run (F := Ideal) m ρ)

theorem algebraic : algebraic_ConvBwdIdeal_ConvGradIdeal_pre_finite_conv := by
  intro m ρ m' ρ' hpre hagree
  refine ⟨fun c => ConvBwdIdeal.Body.resU m c, fun c => ConvBwdIdeal.Body.resT m c, ?_, ?_⟩
  · refine (θ_run ConvBwdIdeal.defs _ _).mono (fun _ h c => ?_) (ConvBwdIdeal.Value.run_blocks (F := Ideal) m ρ)
    exact ⟨(h c).1.trans (ConvBwdIdeal.Body.final4 m c), (h c).2.1.trans (ConvBwdIdeal.Body.final5 m c), (h c).2.2⟩
  · refine (θ_run ConvGradIdeal.defs _ _).mono (fun _ h c => ?_) (ConvGradIdeal.Value.run (F := Ideal) m' ρ')
    have hr := real_dv _ _ _ _ (hpre c).1 (hpre c).2
    obtain ⟨g0, g1, g2, g3⟩ := hagree c
    refine ⟨((h c).1.trans (ConvGradIdeal.Read.val_main_v166_eq _)).trans ?_,
      ((h c).2.1.trans (ConvGradIdeal.Read.val_main_v169_eq _)).trans ?_, (h c).2.2⟩
    · show ConvGradIdeal.Read.val_main_v166 (F := Ideal) (m' (c.tc.loc ConvGradIdeal.main_arg0))
        (m' (c.tc.loc ConvGradIdeal.main_arg1))
        (m' (c.tc.loc ConvGradIdeal.main_arg2))
        (m' (c.tc.loc ConvGradIdeal.main_arg3)) = _
      rw [g0, g1, g2, g3]
      funext y
      rw [eq_ix3 y]
      exact ConvGradIdeal.Ref.du_ref _ _ _ _ hr _ _ _
    · show ConvGradIdeal.Read.val_main_v169 (F := Ideal) (m' (c.tc.loc ConvGradIdeal.main_arg0))
        (m' (c.tc.loc ConvGradIdeal.main_arg1))
        (m' (c.tc.loc ConvGradIdeal.main_arg2))
        (m' (c.tc.loc ConvGradIdeal.main_arg3)) = _
      rw [g0, g1, g2, g3]
      funext y
      rw [eq_ix2 y]
      exact ConvGradIdeal.Ref.dt_ref _ _ _ _ hr _ _

end Cert.Proof.ConvBwd

end
-- ==== Proof.MixSpec.lean ====
/- The root-mean-square norm of one head's row, gated by the SiLU of another row, and its gradient: written once over
the 128 values of a row. -/
module

public import proofs.«01_k».proof.Proof.ConvSpec

@[expose] public section

set_option maxRecDepth 16384

noncomputable section

namespace Cert.MixSpec

open Idealize.ShloMosaic Cert.AttSpec Cert.ConvSpec

/-- The mean of a row's squares and the small number kept under the root. -/
def ms (x : Fin 128 → EReal) : EReal := Ideal.div (∑ l, x l * x l) (Ideal.ofBits FTy.f32 1124073472#32) + Ideal.ofBits FTy.f32 897988541#32

/-- The normed row. -/
def nrm (x : Fin 128 → EReal) (j : Fin 128) : EReal := x j * Ideal.rsqrt (ms x)

/-- The gated norm. -/
def mix (x n g : Fin 128 → EReal) (j : Fin 128) : EReal := nrm x j * n j * (g j * sg (g j))

/-- The slope of the root mean square's reciprocal, times the row's own product with the incoming gradient `D`. -/
def slope (x n D : Fin 128 → EReal) : EReal :=
  Ideal.div ((∑ l, x l * (D l * n l)) * (Ideal.ofBits FTy.f32 3204448256#32 * Ideal.div (Ideal.rsqrt (ms x)) (ms x)))
    (Ideal.ofBits FTy.f32 1124073472#32)

/-- The norm's gradient of its row, from the gradient `D` of the weighted norm. -/
def dI (x n D : Fin 128 → EReal) (j : Fin 128) : EReal :=
  D j * n j * Ideal.rsqrt (ms x) + x j * slope x n D + slope x n D * x j

/-- The gradient the gate hands to the weighted norm. -/
def thr (g d : Fin 128 → EReal) (j : Fin 128) : EReal := d j * (g j * sg (g j))

/-- The gradient of the gate's row. -/
def dG (x n g d : Fin 128 → EReal) (j : Fin 128) : EReal :=
  nrm x j * n j * d j * sg (g j) + g j * (nrm x j * n j * d j) * (sg (g j) * (1 - sg (g j)))

/-- One row's part of the gradient of the norm's weights. -/
def dN (x g d : Fin 128 → EReal) (j : Fin 128) : EReal := nrm x j * thr g d j

/-- One head's row of an array, the head's columns starting `o` columns in. -/
abbrev hd {a b : Nat} (x : (⟨2, ![a, b]⟩ : Shape).Idx → EReal) (r o : Nat) : Fin 128 → EReal := fun l => rd x r (o + l.val)

/-- A row of a block. -/
abbrev row {a b : Nat} (x : (⟨2, ![a, b]⟩ : Shape).Idx → EReal) (r : Fin a) : Fin b → EReal := fun l => x (ix2 r l)

theorem hd_of {a b a' b' : Nat} (x : (⟨2, ![a, b]⟩ : Shape).Idx → EReal) (y : (⟨2, ![a', b']⟩ : Shape).Idx → EReal) (r r' k k' : Nat)
    (hr : r < a) (hk : k + 128 ≤ b) (h : ∀ (n : Fin b), x (ix2 ⟨r, hr⟩ n) = rd y r' (k' + n.val)) : hd x r k = hd y r' (k' + k) := by
  funext l
  have hl := l.isLt
  refine (rd_eq x r (k + l.val) hr (by omega)).trans ((h ⟨k + l.val, by omega⟩).trans ?_)
  show rd y r' (k' + (k + l.val)) = rd y r' (k' + k + l.val)
  rw [Nat.add_assoc]

section
variable (zo dO : Nat) (z : (⟨2, ![2304, 5376]⟩ : Shape).Idx → EReal) (o : (⟨2, ![2304, 512]⟩ : Shape).Idx → EReal)
  (n : (⟨2, ![1, 128]⟩ : Shape).Idx → EReal) (d : (⟨2, ![2304, 2048]⟩ : Shape).Idx → EReal)

/-- The gated norm of every head's rows, the gates starting `zo` columns in. -/
def aMix (r q : Nat) : EReal := mix (hd o r (q / 128 * 128)) (row n 0) (hd z r (zo + q / 128 * 128)) ⟨q % 128, Nat.mod_lt _ (by decide)⟩

/-- The gradient of the normed array, the incoming gradient starting `dO` columns in. -/
def aDo (r q : Nat) : EReal :=
  dI (hd o r (q / 128 * 128)) (row n 0) (thr (hd z r (zo + q / 128 * 128)) (hd d r (dO + q / 128 * 128))) ⟨q % 128, Nat.mod_lt _ (by decide)⟩

/-- The gradient of the gates. -/
def aDg (r q : Nat) : EReal :=
  dG (hd o r (q / 128 * 128)) (row n 0) (hd z r (zo + q / 128 * 128)) (hd d r (dO + q / 128 * 128)) ⟨q % 128, Nat.mod_lt _ (by decide)⟩

/-- One row's part of the gradient of the norm's weights, of the head starting `k` columns in. -/
def pDn (k r : Nat) (j : Fin 128) : EReal := dN (hd o r k) (hd z r (zo + k)) (hd d r (dO + k)) j

/-- The gradient of the norm's weights. -/
def aDn (j : Fin 128) : EReal := ∑ h : Fin 4, ∑ r : Fin 2304, pDn zo dO z o d (h.val * 128) r.val j
end

theorem sum4 (T : Nat → EReal) : T 0 + T 128 + T 256 + T 384 = ∑ h : Fin 4, T (h.val * 128) := by
  rw [Fin.sum_univ_four]
  rfl

/-- A sum over all rows, block by block. -/
theorem sum_blocks (f : Nat → EReal) : ∑ i ∈ Finset.range 9, ∑ r : Fin 256, f (i * 256 + r.val) = ∑ r : Fin 2304, f r.val := by
  rw [Finset.sum_range (fun i => ∑ r : Fin 256, f (i * 256 + r.val)), ← Fintype.sum_prod_type' (f := fun (i : Fin 9) (r : Fin 256) => f (i.val * 256 + r.val))]
  refine Eq.trans ?_ ((finProdFinEquiv (m := 9) (n := 256)).sum_comp (fun r : Fin (9 * 256) => f r.val))
  refine Finset.sum_congr rfl fun x _ => congrArg f ?_
  show x.1.val * 256 + x.2.val = x.2.val + 256 * x.1.val
  omega

theorem sg_top : sg ⊤ = 1 := by
  unfold sg
  rw [EReal.neg_top, Ideal.exp_bot, add_zero]
  simp [Ideal.div]

theorem sg_bot : sg ⊥ = 0 := by
  unfold sg
  rw [EReal.neg_bot, Ideal.exp_top, show (1 : EReal) + ⊤ = ⊤ from rfl]
  simp [Ideal.div]

/-- The logistic's slope, from its exponential. -/
theorem sg_slope (x y : EReal) :
    0 - (0 - y * Ideal.div 1 ((1 + Ideal.exp (0 - x)) * (1 + Ideal.exp (0 - x)))) * Ideal.exp (0 - x) = y * (sg x * (1 - sg x)) := by
  rw [zero_sub, zero_sub, zero_sub, EReal.neg_mul, neg_neg, mul_assoc]
  refine congrArg (fun t : EReal => y * t) ?_
  induction x with
  | bot =>
    rw [sg_bot, zero_mul, EReal.neg_bot, Ideal.exp_top, show (1 : EReal) + ⊤ = ⊤ from rfl, EReal.top_mul_top]
    simp [Ideal.div]
  | top =>
    rw [sg_top, show (1 : EReal) - 1 = 0 from EReal.sub_self (by decide) (by decide), mul_zero, EReal.neg_top, Ideal.exp_bot, mul_zero]
  | coe x =>
    have hp := Real.exp_pos (-x)
    have h : (1 + Real.exp (-x) : ℝ) ≠ 0 := by positivity
    have h2 : ((1 + Real.exp (-x)) * (1 + Real.exp (-x)) : ℝ) ≠ 0 := by positivity
    unfold sg
    rw [← EReal.coe_neg, Ideal.exp_coe, show (1 : EReal) = ((1 : ℝ) : EReal) from rfl, ← EReal.coe_add, ← EReal.coe_mul, Ideal.div_coe h, Ideal.div_coe h2]
    norm_cast
    field_simp
    ring

/-- Places within a block. -/
theorem at0 (a : Nat) : 0 + 1 * a = a := by omega
theorem atk (k a : Nat) : k * 128 + 1 * a = k * 128 + a := by omega

theorem ix2_ext {a b : Nat} (y : (⟨2, ![a, b]⟩ : Shape).Idx) (i : Fin a) (k : Fin b) (h0 : (y 0).val = i.val) (h1 : (y 1).val = k.val) : y = ix2 i k :=
  funext fun d => Fin.ext (match d with | ⟨0, _⟩ => h0 | ⟨1, _⟩ => h1)

theorem row_ld {b : Nat} (x : Vec Ideal ⟨2, ![256, b]⟩ .f32) (k : Nat) (h : ∀ a, (![0, k] : Fin 2 → Nat) a + (![256, 128] : Fin 2 → Nat) a ≤ (⟨2, ![256, b]⟩ : Shape).size a)
    (r : Fin 256) : row (View.ld x (Rect.unit (s := ⟨2, ![256, b]⟩) ![0, k] ![256, 128] h)) r = hd x r.val k := by
  funext l
  have hk : k + 128 ≤ b := h 1
  refine Eq.trans (congrArg x ?_) (rd_eq (a := 256) (b := b) x r.val (k + l.val) r.isLt (by omega)).symm
  exact ix2_ext _ _ _ (by show 0 + 1 * r.val = r.val; omega) (by show k + 1 * l.val = k + l.val; omega)

theorem row_ld16 {b : Nat} (x : Vec Ideal ⟨2, ![256, b]⟩ .bf16) (k : Nat) (h : ∀ a, (![0, k] : Fin 2 → Nat) a + (![256, 128] : Fin 2 → Nat) a ≤ (⟨2, ![256, b]⟩ : Shape).size a)
    (r : Fin 256) : row (View.ld x (Rect.unit (s := ⟨2, ![256, b]⟩) ![0, k] ![256, 128] h)) r = hd x r.val k := by
  funext l
  have hk : k + 128 ≤ b := h 1
  refine Eq.trans (congrArg x ?_) (rd_eq (a := 256) (b := b) x r.val (k + l.val) r.isLt (by omega)).symm
  exact ix2_ext _ _ _ (by show 0 + 1 * r.val = r.val; omega) (by show k + 1 * l.val = k + l.val; omega)

end Cert.MixSpec

end
-- ==== Proof.MixrClaims.lean ====
/- The gated norm as the kernel computes it and as the reference does. -/
module

public import proofs.«01_k».proof.Proof.MixSpec
public import proofs.«01_k».proof.Proof.Gen.MixrIdeal.Value
public import proofs.«01_k».proof.Proof.Gen.GatedRetIdeal.Run
public import proofs.«01_k».proof.Proof.Gen.GatedRetIdeal.Read
public import proofs.«01_k».proof.Defs
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.MixrIdeal.Body
open Idealize.ShloMosaic.Pipeline (Dat)
open Cert.MixrIdeal.Gen Cert.MixrIdeal.Value Cert.AttSpec Cert.ConvSpec Cert.MixSpec

section
variable (n : Vec Ideal S1x128 .f32) (x g : Vec Ideal S256x128 .f32) (r : Fin 256) (j : Fin 128)

theorem mix0 : (k0_pay2 n x g (ix2 r j) : EReal) = mix (row x r) (row n 0) (row g r) j := by
  pointwise [k0_pay1, k0_pay2, k0_pay3, k0_pay4, k0_pay5]
  simp only [zero_sub]
  rfl

theorem mix128 : (k0_pay4 n x g (k0_pay3 x) (ix2 r j) : EReal) = mix (row x r) (row n 0) (row g r) j := by
  pointwise [k0_pay1, k0_pay2, k0_pay3, k0_pay4, k0_pay5]
  simp only [zero_sub]
  rfl

theorem mix256 : (k0_pay5 n x g (ix2 r j) : EReal) = mix (row x r) (row n 0) (row g r) j := by
  pointwise [k0_pay1, k0_pay2, k0_pay3, k0_pay4, k0_pay5]
  simp only [zero_sub]
  rfl

theorem mix384 : (k0_pay1 n x g (ix2 r j) : EReal) = mix (row x r) (row n 0) (row g r) j := by
  pointwise [k0_pay1, k0_pay2, k0_pay3, k0_pay4, k0_pay5]
  simp only [zero_sub]
  rfl

end

theorem hz : (![0, 0] : Fin 2 → Nat) = fun _ => 0 := funext fun a => by fin_cases a <;> rfl

section
variable (x0 x1 : (⟨2, ![256, 512]⟩ : Shape).Idx → EReal) (x2 : (⟨2, ![1, 128]⟩ : Shape).Idx → EReal)

/-- A block's gated norm. -/
def tMix : (⟨2, ![256, 512]⟩ : Shape).Idx → EReal := fun y =>
  mix (hd x0 (y 0).val ((y 1).val / 128 * 128)) (row x2 0) (hd x1 (y 0).val ((y 1).val / 128 * 128)) ⟨(y 1).val % 128, Nat.mod_lt _ (by decide)⟩

theorem tMix_at (k : Nat) (hk : k < 4) (r : Fin 256) (j : Fin 128) (y : (⟨2, ![256, 512]⟩ : Shape).Idx) (h0 : (y 0).val = r.val)
    (h1 : (y 1).val = k * 128 + j.val) (A G : Fin 128 → EReal) (hA : A = hd x0 r.val (k * 128)) (hG : G = hd x1 r.val (k * 128)) :
    mix A (row x2 0) G j = tMix x0 x1 x2 y := by
  subst hA hG
  unfold tMix
  have e1 : (y 1).val / 128 = k := by omega
  have e2 : (⟨(y 1).val % 128, Nat.mod_lt _ (by decide)⟩ : Fin 128) = j := Fin.ext (by show (y 1).val % 128 = j.val; omega)
  rw [e2, e1, h0]
end

theorem out0_A_3_eq (c : Dev nD) (i : grid0.Coords)
    (a1 : Memref sig .tc .vmem S256x512 .f32) (h1 : a1.IsWhole) (a2 : Memref sig .tc .vmem S256x512 .f32) (h2 : a2.IsWhole)
    (a3 : Memref sig .tc .vmem S1x128 .f32) (h3 : a3.IsWhole) (a4 : Memref sig .tc .vmem S256x512 .bf16) (h4 : a4.IsWhole)
    (x0 x1 : Vec Ideal S256x512 .f32) (x2 : Vec Ideal S1x128 .f32) (y) :
    (out0_A_3 (F := Ideal) c i a1 h1 a2 h2 a3 h3 a4 h4 x0 x1 x2 y : EReal) = tMix x0 x1 x2 y := by
  unfold out0_A_3
  rw [View.read_writes_eq_canon _ _ _ (cover0_A_3 c i a1 h1 a2 h2 a3 h3 a4 h4 x0 x1 x2)]
  refine View.canon_apply_of_pieces (tMix x0 x1 x2) _ ?_ _ (cover0_A_3 c i a1 h1 a2 h2 a3 h3 a4 h4 x0 x1 x2 _)
  unfold kernelRun0_A
  dsimp only
  sl_unfold_words
  simp only [View.readAt_eq_ld, h1.read_unread, h2.read_unread, h3.read_unread, View.ld_unit_zero (S := S1x128) hz]
  simp only [List.mem_cons, List.not_mem_nil, or_false, forall_eq_or_imp, forall_eq]
  refine ⟨?_, ?_, ?_, ?_⟩ <;> intro y <;> idx_vars y
  · refine (mix384 x2 _ _ y0 y1).trans (tMix_at x0 x1 x2 3 (by omega) y0 y1 _ (at0 _) (atk 3 _) _ _ (row_ld x0 384 _ y0) (row_ld x1 384 _ y0))
  · refine (mix256 x2 _ _ y0 y1).trans (tMix_at x0 x1 x2 2 (by omega) y0 y1 _ (at0 _) (atk 2 _) _ _ (row_ld x0 256 _ y0) (row_ld x1 256 _ y0))
  · refine (mix128 x2 _ _ y0 y1).trans (tMix_at x0 x1 x2 1 (by omega) y0 y1 _ (at0 _) (atk 1 _) _ _ (row_ld x0 128 _ y0) (row_ld x1 128 _ y0))
  · refine (mix0 x2 _ _ y0 y1).trans (tMix_at x0 x1 x2 0 (by omega) y0 y1 _ (at0 _) (atk 0 _) _ _ (row_ld x0 0 _ y0) (row_ld x1 0 _ y0))

variable (m : (ℓ : Loc nD τ sig) → Buf (Elt Ideal) ℓ)

/-- The three arguments on a device. -/
abbrev az (c : Dev nD) : Vec Ideal S2304x5376 .f32 := m ((c : Thread nD τ).loc main_arg0)
abbrev ao (c : Dev nD) : Vec Ideal S2304x512 .f32 := m ((c : Thread nD τ).loc main_arg1)
abbrev an (c : Dev nD) : Vec Ideal S1x128 .f32 := m ((c : Thread nD τ).loc main_arg2)

theorem idx0 : ∀ t : Fin grid0.N, win0_0.index t 0 = t.val ∧ win0_0.index t 1 = 0 := by decide +kernel
theorem idx1 : ∀ t : Fin grid0.N, win0_1.index t 0 = t.val ∧ win0_1.index t 1 = 6 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel

theorem ltN (t : Fin cfg0.N) : t.val < 9 := lt_of_lt_of_eq t.isLt Gen.N_0

theorem blk0 (c : Dev nD) (t : Fin cfg0.N) (r : Fin 256) (n : Fin 512) :
    (iblk m c 0 t (ix2 r n) : EReal) = rd (a := 2304) (b := 512) (ao m c) (t.val * 256 + r.val) (0 + n.val) := by
  have ht := ltN t
  rw [rd_eq _ _ _ (by omega) (by omega)]
  unfold iblk
  rw [View.read_apply]
  show V m c main_arg1 _ = m (c.tc.loc main_arg1) _
  rw [V_main_arg1]
  congr 1
  funext a
  apply Fin.ext
  match a with
  | ⟨0, _⟩ => show win0_0.index t 0 * 256 + 1 * r.val = t.val * 256 + r.val; rw [(idx0 t).1]; omega
  | ⟨1, _⟩ => show win0_0.index t 1 * 512 + 1 * n.val = 0 + n.val; rw [(idx0 t).2]; omega

theorem blk1 (c : Dev nD) (t : Fin cfg0.N) (r : Fin 256) (n : Fin 512) :
    (X0_1 m c t (ix2 r n) : EReal) = rd (a := 2304) (b := 5376) (az m c) (t.val * 256 + r.val) (3072 + n.val) := by
  have ht := ltN t
  rw [rd_eq _ _ _ (by omega) (by omega)]
  unfold X0_1 Pipeline.Window.fill
  rw [dif_pos (moved0_1 t _)]
  unfold iblk
  rw [View.read_apply]
  show V m c main_arg0 _ = m (c.tc.loc main_arg0) _
  rw [V_main_arg0]
  congr 1
  funext a
  apply Fin.ext
  match a with
  | ⟨0, _⟩ => show win0_1.index t 0 * 256 + 1 * r.val = t.val * 256 + r.val; rw [(idx1 t).1]; omega
  | ⟨1, _⟩ => show win0_1.index t 1 * 512 + 1 * n.val = 3072 + n.val; rw [(idx1 t).2]; omega

theorem blk2 (c : Dev nD) (t : Fin cfg0.N) : row (iblk m c 2 t) 0 = row (an m c) 0 := by
  funext l
  show (iblk m c 2 t (ix2 0 l) : EReal) = an m c (ix2 0 l)
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 0; rw [(idx2 t).1]
  | ⟨1, _⟩ => show win0_2.index t 1 * 128 + 1 * l.val = l.val; rw [(idx2 t).2]; omega

theorem hd0 (c : Dev nD) (t : Fin cfg0.N) (r : Nat) (hr : r < 256) (k : Nat) (hk : k + 128 ≤ 512) :
    hd (a := 256) (b := 512) (iblk m c 0 t) r k = hd (a := 2304) (b := 512) (ao m c) (t.val * 256 + r) k :=
  (hd_of (a := 256) (b := 512) _ (ao m c) r (t.val * 256 + r) k 0 hr hk fun n => blk0 m c t ⟨r, hr⟩ n).trans (by rw [Nat.zero_add])

theorem hd1 (c : Dev nD) (t : Fin cfg0.N) (r : Nat) (hr : r < 256) (k : Nat) (hk : k + 128 ≤ 512) :
    hd (a := 256) (b := 512) (X0_1 m c t) r k = hd (a := 2304) (b := 5376) (az m c) (t.val * 256 + r) (3072 + k) :=
  hd_of (a := 256) (b := 512) _ (az m c) r (t.val * 256 + r) k 3072 hr hk fun n => blk1 m c t ⟨r, hr⟩ n

theorem tMix_eq (c : Dev nD) (t : Fin cfg0.N) (r : Fin 256) (q : Fin 512) :
    tMix (iblk m c 0 t) (X0_1 m c t) (iblk m c 2 t) (ix2 r q) = aMix 3072 (az m c) (ao m c) (an m c) (t.val * 256 + r.val) q.val := by
  unfold tMix aMix
  rw [blk2 m c t]
  show mix (hd (a := 256) (b := 512) (iblk m c 0 t) r.val (q.val / 128 * 128)) _ (hd (a := 256) (b := 512) (X0_1 m c t) r.val (q.val / 128 * 128)) _ = _
  rw [hd0 m c t _ r.isLt _ (by omega), hd1 m c t _ r.isLt _ (by omega)]
  rfl

/-- The gated norm of the whole array. -/
def resM (c : Dev nD) : Vec Ideal S2304x512 .bf16 := fun y => aMix 3072 (az m c) (ao m c) (an m c) (y 0).val (y 1).val

theorem flushed3_eq (c : Dev nD) (t : Fin cfg0.N) (hf : (cfg0.win 3).flush t = true) :
    (dats m 0 c).flushed 3 t = ((cfg0.win 3).blk t).view.read (Elt Ideal) (resM m c) := by
  rw [flushed3_A]
  funext y
  rw [View.read_apply]
  have ht := ltN t
  have hy0 : (y 0).val < 256 := (y 0).isLt
  have hy1 : (y 1).val < 512 := (y 1).isLt
  refine Eq.trans (out0_A_3_eq c _ _ _ _ _ _ _ _ _ (iblk m c 0 t) (X0_1 m c t) (iblk m c 2 t) _) ?_
  refine Eq.trans (congrArg _ ?_) ((tMix_eq m c t ⟨(y 0).val, hy0⟩ ⟨(y 1).val, hy1⟩).trans ?_)
  · funext a; match a with
    | ⟨0, _⟩ => rfl
    | ⟨1, _⟩ => rfl
  · show _ = aMix 3072 _ _ _ (win0_3.index t 0 * 256 + 1 * (y 0).val) (win0_3.index t 1 * 512 + 1 * (y 1).val)
    rw [(idx3 t).1, (idx3 t).2, Nat.one_mul, Nat.one_mul, Nat.zero_mul, Nat.zero_add]

theorem final3 (c : Dev nD) : (dats m 0 c).arrAt 3 cfg0.N = resM m c :=
  (dats m 0 c).arrAt_eq_of_cover 3 (resM m c) (flushed3_eq m c) fun i => by
    have hi0 : (i 0).val < 2304 := (i 0).isLt
    have hi1 : (i 1).val < 512 := (i 1).isLt
    refine ⟨⟨(i 0).val / 256, by show _ < grid0.N; rw [Gen.N_0]; omega⟩, flush0_3 _, ?_⟩
    generalize ht : (⟨(i 0).val / 256, _⟩ : Fin grid0.N) = t
    have ht' : t.val = (i 0).val / 256 := by rw [← ht]
    show i ∈ ((View.whole main_v0).slice (win0_3.rect t)).set
    rw [View.set_slice_whole, Rect.mem_set_unit]
    intro a
    match a with
    | ⟨0, _⟩ => exact mem_box 256 (i 0).val (idx3 t).1 (by omega)
    | ⟨1, _⟩ => exact mem_box 512 (i 1).val (idx3 t).2 (by omega)

end Cert.MixrIdeal.Body

namespace Cert.GatedRetIdeal.Ref
open Cert.GatedRetIdeal.Gen Cert.GatedRetIdeal.Read Cert.AttSpec Cert.ConvSpec Cert.MixSpec

variable (x0 : Vec Ideal S2304x5376 .f32) (x1 : Vec Ideal S2304x512 .f32) (x2 : Vec Ideal S1x128 .f32)
  (h : Fin 4) (r : Fin 2304) (l : Fin 128)

/-- A head's rows of the two arrays. -/
abbrev O (h r : Nat) : Fin 128 → EReal := hd (a := 2304) (b := 512) x1 r (h * 128)
abbrev Z (r k : Nat) : Fin 128 → EReal := hd (a := 2304) (b := 5376) x0 r (3072 + k)

theorem o_eq : (val_main_v3 (F := Ideal) x1 (ix4 0 h r l) : EReal) = O x1 h.val r.val l := by
  have hh := h.isLt
  have hl := l.isLt
  refine Eq.trans ?_ (rd_eq (a := 2304) (b := 512) x1 r.val (h.val * 128 + l.val) r.isLt (by omega)).symm
  pointwise [val_main_v3, val_main_v2, val_main_v1]

theorem ms_eq : (val_main_v10 (F := Ideal) x1 (ix4 0 h r 0) : EReal) = ms (O x1 h.val r.val) := by
  pointwise [val_main_v10, val_main_v8, val_main_v6, val_main_v5, val_main_v4, val_main_cst, val_main_v7, val_main_cst_0, val_main_v9, val_main_cst_1]
  simp only [o_eq]
  rfl

theorem n_eq : (val_main_v16 (F := Ideal) x1 x2 (ix4 0 h r l) : EReal) = nrm (O x1 h.val r.val) l * row x2 0 l := by
  pointwise [val_main_v16, val_main_v15, val_main_v14, val_main_v13, val_main_v12, val_main_v11]
  rw [o_eq, ms_eq]
  rfl

theorem z_eq (q : Fin 512) : (val_main_v19 (F := Ideal) x0 (ix3 0 r q) : EReal) = rd (a := 2304) (b := 5376) x0 r.val (3072 + q.val) := by
  have hq := q.isLt
  refine Eq.trans ?_ (rd_eq (a := 2304) (b := 5376) x0 r.val (3072 + q.val) r.isLt (by omega)).symm
  pointwise [val_main_v19, val_main_v0]

theorem g_eq (q : Fin 512) : (val_main_v20 (F := Ideal) x0 (ix3 0 r q) : EReal)
    = rd (a := 2304) (b := 5376) x0 r.val (3072 + q.val) * sg (rd (a := 2304) (b := 5376) x0 r.val (3072 + q.val)) := by
  rw [← z_eq]
  pointwise [val_main_v20, val_main_call0_v5, val_main_call0_v4, val_main_call0_cst_0, val_main_call0_v3, val_main_call0_v2, val_main_call0_cst, val_main_call0_v1, val_main_call0_v0]
  rfl

theorem mix_ref (q : Fin 512) : (val_main_v23 (F := Ideal) x0 x1 x2 (ix2 r q) : EReal) = aMix 3072 x0 x1 x2 r.val q.val := by
  have hq := q.isLt
  pointwise [val_main_v23, val_main_v22, val_main_v21, val_main_v18, val_main_v17]
  rw [n_eq x1 x2 ⟨q.val / 128, by omega⟩ r ⟨q.val % 128, Nat.mod_lt _ (by decide)⟩, g_eq]
  unfold aMix mix
  have e : 3072 + q.val / 128 * 128 + q.val % 128 = 3072 + q.val := by omega
  show _ = nrm _ _ * _ * (rd (a := 2304) (b := 5376) x0 r.val (3072 + q.val / 128 * 128 + q.val % 128) * sg (rd (a := 2304) (b := 5376) x0 r.val (3072 + q.val / 128 * 128 + q.val % 128)))
  rw [e]

end Cert.GatedRetIdeal.Ref

namespace Cert.Proof.Mixr
open Cert.AttSpec Cert.MixSpec

theorem frame_ref : quiescent_GatedRetIdeal := fun m ρ _ =>
  (θ_run GatedRetIdeal.defs _ _).mono (fun r h => ⟨fun c => (h c).2,
      sem_eq_zero_of_no_sems (by decide) r.2⟩)
    (GatedRetIdeal.Value.run (F := Ideal) m ρ)

theorem algebraic : algebraic_MixrIdeal_GatedRetIdeal := by
  intro m ρ m' ρ' _ hagree
  refine ⟨fun c => MixrIdeal.Body.resM m c, ?_, ?_⟩
  · refine (θ_run MixrIdeal.defs _ _).mono (fun _ h c => ?_) (MixrIdeal.Value.run_blocks (F := Ideal) m ρ)
    exact ⟨(h c).1.trans (MixrIdeal.Body.final3 m c), (h c).2⟩
  · refine (θ_run GatedRetIdeal.defs _ _).mono (fun _ h c => ?_) (GatedRetIdeal.Value.run (F := Ideal) m' ρ')
    obtain ⟨g0, g1, g2⟩ := hagree c
    refine ⟨((h c).1.trans (GatedRetIdeal.Read.val_main_v23_eq _ _ _)).trans ?_, (h c).2⟩
    show GatedRetIdeal.Read.val_main_v23 (F := Ideal) (m' (c.tc.loc GatedRetIdeal.main_arg0))
      (m' (c.tc.loc GatedRetIdeal.main_arg1))
      (m' (c.tc.loc GatedRetIdeal.main_arg2)) = _
    rw [g0, g1, g2]
    funext y
    rw [eq_ix2 y]
    exact GatedRetIdeal.Ref.mix_ref _ _ _ (y 0) (y 1)

end Cert.Proof.Mixr

end
-- ==== Proof.MixrBwdBody.lean ====
/- One head of the gated norm's gradient, as the kernel's values have it on a block's 256 rows. -/
module

public import proofs.«01_k».proof.Proof.MixSpec
public import proofs.«01_k».proof.Proof.Gen.MixrBwdIdeal.Value
public import Idealize.ShloMosaic.Lib.Pointwise

@[expose] public section

set_option maxRecDepth 16384

noncomputable section

namespace Cert.MixrBwdIdeal.Body

open Idealize.ShloMosaic Idealize.ShloMosaic.TcCoe Idealize.SL.Sem
open Cert.MixrBwdIdeal.Gen Cert.AttSpec Cert.ConvSpec Cert.MixSpec

variable (n : Vec Ideal S1x128 .f32) (x g : Vec Ideal S256x128 .f32) (d : Vec Ideal S256x128 .bf16) (r : Fin 256) (j : Fin 128)

theorem do0 : (k0_pay18 n x (k0_pay7 x) (k0_pay8 x) (k0_pay14 g d) (ix2 r j) : EReal) = dI (row x r) (row n 0) (thr (row g r) (row d r)) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  simp only [Fin.sum_univ_one, zero_sub]
  rfl

theorem dg0 : (k0_pay19 (k0_pay15 n x g d) (k0_pay16 n x g d) (ix2 r j) : EReal) = dG (row x r) (row n 0) (row g r) (row d r) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  exact congrArg₂ (fun s t : EReal => _ * s + t) (by rw [zero_sub]; rfl) (sg_slope _ _)

theorem do128 : (k0_pay35 (k0_pay33 n x g (k0_pay20 d) (k0_pay22 x) (k0_pay23 x) (FloatOps.ofBits .f32 3204448256#32)) (k0_pay34 n x g (k0_pay20 d) (k0_pay23 x) (FloatOps.ofBits .f32 3204448256#32)) (ix2 r j) : EReal) = dI (row x r) (row n 0) (thr (row g r) (row d r)) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  simp only [Fin.sum_univ_one, zero_sub]
  rfl

theorem dg128 : (k0_pay36 (k0_pay29 n x g (k0_pay20 d) (k0_pay22 x)) (ix2 r j) : EReal) = dG (row x r) (row n 0) (row g r) (row d r) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  exact congrArg₂ (fun s t : EReal => _ * s + t) (by rw [zero_sub]; rfl) (sg_slope _ _)

theorem do256 : (k0_pay50 n x (k0_pay40 x) (k0_pay41 x) (k0_pay47 g d) (ix2 r j) : EReal) = dI (row x r) (row n 0) (thr (row g r) (row d r)) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  simp only [Fin.sum_univ_one, zero_sub]
  rfl

theorem dg256 : (k0_pay51 (k0_pay43 g) (k0_pay48 n x g d) (k0_pay49 n x g d) (ix2 r j) : EReal) = dG (row x r) (row n 0) (row g r) (row d r) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  exact congrArg₂ (fun s t : EReal => _ * s + t) (by rw [zero_sub]; rfl) (sg_slope _ _)

theorem do384 : (k0_pay1 x (k0_pay65 n g (k0_pay53 d) (k0_pay54 x) (FloatOps.ofBits .f32 1124073472#32)) (k0_pay66 n x g (k0_pay53 d) (k0_pay54 x) (FloatOps.ofBits .f32 1124073472#32)) k0_pay67 (ix2 r j) : EReal) = dI (row x r) (row n 0) (thr (row g r) (row d r)) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  simp only [Fin.sum_univ_one, zero_sub]
  rfl

theorem dg384 : (k0_pay2 (k0_pay62 n x g (k0_pay53 d) (k0_pay54 x) (FloatOps.ofBits .f32 1124073472#32)) (ix2 r j) : EReal) = dG (row x r) (row n 0) (row g r) (row d r) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  exact congrArg₂ (fun s t : EReal => _ * s + t) (by rw [zero_sub]; rfl) (sg_slope _ _)

variable (x6 : Vec Ideal S1x128 .f32) (xa ga xb gb xc gc xd gd : Vec Ideal S256x128 .f32) (da db dc dd : Vec Ideal S256x128 .bf16)

theorem dnA : (k0_pay3 (k0_pay52 (k0_pay37 (k0_pay17 (k0_pay9 xa) (k0_pay14 ga da)) (k0_pay30 xb gb (k0_pay20 db) (k0_pay22 xb))) (k0_pay42 xc) (k0_pay47 gc dc)) (k0_pay63 xd gd (k0_pay53 dd) (k0_pay54 xd) (FloatOps.ofBits .f32 1124073472#32)) (ix2 0 j) : EReal) = (∑ r, dN (row xa r) (row ga r) (row da r) j) + (∑ r, dN (row xb r) (row gb r) (row db r) j) + (∑ r, dN (row xc r) (row gc r) (row dc r) j) + ∑ r, dN (row xd r) (row gd r) (row dd r) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2, k0_pay3]
  simp only [zero_sub]
  rfl

theorem dnB : (k0_pay4 (k0_pay52 (k0_pay37 (k0_pay17 (k0_pay9 xa) (k0_pay14 ga da)) (k0_pay30 xb gb (k0_pay20 db) (k0_pay22 xb))) (k0_pay42 xc) (k0_pay47 gc dc)) (k0_pay63 xd gd (k0_pay53 dd) (k0_pay54 xd) (FloatOps.ofBits .f32 1124073472#32)) x6 (ix2 0 j) : EReal) = x6 (ix2 0 j) + ((∑ r, dN (row xa r) (row ga r) (row da r) j) + (∑ r, dN (row xb r) (row gb r) (row db r) j) + (∑ r, dN (row xc r) (row gc r) (row dc r) j) + ∑ r, dN (row xd r) (row gd r) (row dd r) j) := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2, k0_pay3, k0_pay4]
  simp only [zero_sub]
  rfl

end Cert.MixrBwdIdeal.Body

end
-- ==== Proof.MixrBwdTile.lean ====
/- What one grid point of the gated norm's gradient leaves in its output blocks. -/
module

public import proofs.«01_k».proof.Proof.MixrBwdBody
public import Idealize.ShloMosaic.Lib.Pipeline.ValueKit.Acc

@[expose] public section

set_option maxRecDepth 16384

noncomputable section

namespace Cert.MixrBwdIdeal.Body

open Idealize.ShloMosaic Idealize.ShloMosaic.TcCoe Idealize.SL.Sem
open Cert.MixrBwdIdeal.Gen Cert.MixrBwdIdeal.Value Cert.AttSpec Cert.ConvSpec Cert.MixSpec

theorem hz : (![0, 0] : Fin 2 → Nat) = fun _ => 0 := funext fun a => by fin_cases a <;> rfl

section
variable (x0 x1 : (⟨2, ![256, 512]⟩ : Shape).Idx → EReal) (x2 : (⟨2, ![1, 128]⟩ : Shape).Idx → EReal) (x3 : (⟨2, ![256, 512]⟩ : Shape).Idx → EReal)

/-- The gradient of a block's normed rows. -/
def tDo : (⟨2, ![256, 512]⟩ : Shape).Idx → EReal := fun y =>
  dI (hd x0 (y 0).val ((y 1).val / 128 * 128)) (row x2 0)
    (thr (hd x1 (y 0).val ((y 1).val / 128 * 128)) (hd x3 (y 0).val ((y 1).val / 128 * 128))) ⟨(y 1).val % 128, Nat.mod_lt _ (by decide)⟩

/-- The gradient of a block's gates. -/
def tDg : (⟨2, ![256, 512]⟩ : Shape).Idx → EReal := fun y =>
  dG (hd x0 (y 0).val ((y 1).val / 128 * 128)) (row x2 0)
    (hd x1 (y 0).val ((y 1).val / 128 * 128)) (hd x3 (y 0).val ((y 1).val / 128 * 128)) ⟨(y 1).val % 128, Nat.mod_lt _ (by decide)⟩

/-- A block's part of the gradient of the norm's weights. -/
def tDn (j : Fin 128) : EReal :=
  (∑ r : Fin 256, dN (hd x0 r.val 0) (hd x1 r.val 0) (hd x3 r.val 0) j)
    + (∑ r : Fin 256, dN (hd x0 r.val 128) (hd x1 r.val 128) (hd x3 r.val 128) j)
    + (∑ r : Fin 256, dN (hd x0 r.val 256) (hd x1 r.val 256) (hd x3 r.val 256) j)
    + ∑ r : Fin 256, dN (hd x0 r.val 384) (hd x1 r.val 384) (hd x3 r.val 384) j

theorem tDo_at (k : Nat) (hk : k < 4) (r : Fin 256) (j : Fin 128) (y : (⟨2, ![256, 512]⟩ : Shape).Idx) (h0 : (y 0).val = r.val)
    (h1 : (y 1).val = k * 128 + j.val) (A G D : Fin 128 → EReal) (hA : A = hd x0 r.val (k * 128)) (hG : G = hd x1 r.val (k * 128))
    (hD : D = hd x3 r.val (k * 128)) : dI A (row x2 0) (thr G D) j = tDo x0 x1 x2 x3 y := by
  subst hA hG hD
  unfold tDo
  have e1 : (y 1).val / 128 = k := by omega
  have e2 : (⟨(y 1).val % 128, Nat.mod_lt _ (by decide)⟩ : Fin 128) = j := Fin.ext (by show (y 1).val % 128 = j.val; omega)
  rw [e2, e1, h0]

theorem tDg_at (k : Nat) (hk : k < 4) (r : Fin 256) (j : Fin 128) (y : (⟨2, ![256, 512]⟩ : Shape).Idx) (h0 : (y 0).val = r.val)
    (h1 : (y 1).val = k * 128 + j.val) (A G D : Fin 128 → EReal) (hA : A = hd x0 r.val (k * 128)) (hG : G = hd x1 r.val (k * 128))
    (hD : D = hd x3 r.val (k * 128)) : dG A (row x2 0) G D j = tDg x0 x1 x2 x3 y := by
  subst hA hG hD
  unfold tDg
  have e1 : (y 1).val / 128 = k := by omega
  have e2 : (⟨(y 1).val % 128, Nat.mod_lt _ (by decide)⟩ : Fin 128) = j := Fin.ext (by show (y 1).val % 128 = j.val; omega)
  rw [e2, e1, h0]
end

section
variable (c : Dev nD) (i : grid0.Coords)
  (a2 : Memref sig .tc .vmem S256x512 .f32) (h2 : a2.IsWhole) (a3 : Memref sig .tc .vmem S256x512 .f32) (h3 : a3.IsWhole)
  (a4 : Memref sig .tc .vmem S1x128 .f32) (h4 : a4.IsWhole) (a5 : Memref sig .tc .vmem S256x512 .bf16) (h5 : a5.IsWhole)
  (a6 : Memref sig .tc .vmem S256x512 .f32) (h6 : a6.IsWhole) (a7 : Memref sig .tc .vmem S256x512 .bf16) (h7 : a7.IsWhole)
  (a8 : Memref sig .tc .vmem S1x128 .f32) (h8 : a8.IsWhole)
  (x0 x1 : Vec Ideal S256x512 .f32) (x2 : Vec Ideal S1x128 .f32) (x3 : Vec Ideal S256x512 .bf16) (x6 : Vec Ideal S1x128 .f32)

theorem out0_A_4_eq (hc0 : cond0_0 i) (hc1 : ¬cond0_1 i) (y) : (out0_A_4 (F := Ideal) c i a2 h2 a3 h3 a4 h4 a5 h5 a6 h6 a7 h7 a8 h8 hc0 hc1 x0 x1 x2 x3 y : EReal) = tDo x0 x1 x2 x3 y := by
  unfold out0_A_4
  rw [View.read_writes_eq_canon _ _ _ (cover0_A_4 c i a2 h2 a3 h3 a4 h4 a5 h5 a6 h6 a7 h7 a8 h8 hc0 hc1 x0 x1 x2 x3)]
  refine View.canon_apply_of_pieces (tDo x0 x1 x2 x3) _ ?_ _ (cover0_A_4 c i a2 h2 a3 h3 a4 h4 a5 h5 a6 h6 a7 h7 a8 h8 hc0 hc1 x0 x1 x2 x3 _)
  unfold kernelRun0_A
  dsimp only
  sl_unfold_words
  simp only [View.readAt_eq_ld, h2.read_unread, h3.read_unread, h4.read_unread, h5.read_unread, h7.read_unread, h8.read_unread, View.ld_unit_zero (S := S1x128) hz]
  simp only [List.mem_cons, List.not_mem_nil, or_false, forall_eq_or_imp, forall_eq]
  refine ⟨?_, ?_, ?_, ?_⟩ <;> intro y <;> idx_vars y
  · refine (do384 x2 _ _ _ y0 y1).trans (tDo_at x0 x1 x2 x3 3 (by omega) y0 y1 _ (at0 _) (atk 3 _) _ _ _ (row_ld x0 384 _ y0) (row_ld x1 384 _ y0) (row_ld16 x3 384 _ y0))
  · refine (do256 x2 _ _ _ y0 y1).trans (tDo_at x0 x1 x2 x3 2 (by omega) y0 y1 _ (at0 _) (atk 2 _) _ _ _ (row_ld x0 256 _ y0) (row_ld x1 256 _ y0) (row_ld16 x3 256 _ y0))
  · refine (do128 x2 _ _ _ y0 y1).trans (tDo_at x0 x1 x2 x3 1 (by omega) y0 y1 _ (at0 _) (atk 1 _) _ _ _ (row_ld x0 128 _ y0) (row_ld x1 128 _ y0) (row_ld16 x3 128 _ y0))
  · refine (do0 x2 _ _ _ y0 y1).trans (tDo_at x0 x1 x2 x3 0 (by omega) y0 y1 _ (at0 _) (atk 0 _) _ _ _ (row_ld x0 0 _ y0) (row_ld x1 0 _ y0) (row_ld16 x3 0 _ y0))

theorem out0_A_5_eq (hc0 : cond0_0 i) (hc1 : ¬cond0_1 i) (y) : (out0_A_5 (F := Ideal) c i a2 h2 a3 h3 a4 h4 a5 h5 a6 h6 a7 h7 a8 h8 hc0 hc1 x0 x1 x2 x3 y : EReal) = tDg x0 x1 x2 x3 y := by
  unfold out0_A_5
  rw [View.read_writes_eq_canon _ _ _ (cover0_A_5 c i a2 h2 a3 h3 a4 h4 a5 h5 a6 h6 a7 h7 a8 h8 hc0 hc1 x0 x1 x2 x3)]
  refine View.canon_apply_of_pieces (tDg x0 x1 x2 x3) _ ?_ _ (cover0_A_5 c i a2 h2 a3 h3 a4 h4 a5 h5 a6 h6 a7 h7 a8 h8 hc0 hc1 x0 x1 x2 x3 _)
  unfold kernelRun0_A
  dsimp only
  sl_unfold_words
  simp only [View.readAt_eq_ld, h2.read_unread, h3.read_unread, h4.read_unread, h5.read_unread, h7.read_unread, h8.read_unread, View.ld_unit_zero (S := S1x128) hz]
  simp only [List.mem_cons, List.not_mem_nil, or_false, forall_eq_or_imp, forall_eq]
  refine ⟨?_, ?_, ?_, ?_⟩ <;> intro y <;> idx_vars y
  · refine (dg384 x2 _ _ _ y0 y1).trans (tDg_at x0 x1 x2 x3 3 (by omega) y0 y1 _ (at0 _) (atk 3 _) _ _ _ (row_ld x0 384 _ y0) (row_ld x1 384 _ y0) (row_ld16 x3 384 _ y0))
  · refine (dg256 x2 _ _ _ y0 y1).trans (tDg_at x0 x1 x2 x3 2 (by omega) y0 y1 _ (at0 _) (atk 2 _) _ _ _ (row_ld x0 256 _ y0) (row_ld x1 256 _ y0) (row_ld16 x3 256 _ y0))
  · refine (dg128 x2 _ _ _ y0 y1).trans (tDg_at x0 x1 x2 x3 1 (by omega) y0 y1 _ (at0 _) (atk 1 _) _ _ _ (row_ld x0 128 _ y0) (row_ld x1 128 _ y0) (row_ld16 x3 128 _ y0))
  · refine (dg0 x2 _ _ _ y0 y1).trans (tDg_at x0 x1 x2 x3 0 (by omega) y0 y1 _ (at0 _) (atk 0 _) _ _ _ (row_ld x0 0 _ y0) (row_ld x1 0 _ y0) (row_ld16 x3 0 _ y0))

theorem out0_A_6_eq (hc0 : cond0_0 i) (hc1 : ¬cond0_1 i) (j : Fin 128) : (out0_A_6 (F := Ideal) c i a2 h2 a3 h3 a4 h4 a5 h5 a6 h6 a7 h7 a8 h8 hc0 hc1 x0 x1 x2 x3 (ix2 0 j) : EReal) = tDn x0 x1 x3 j := by
  unfold out0_A_6
  rw [View.read_writes_eq_canon _ _ _ (cover0_A_6 c i a2 h2 a3 h3 a4 h4 a5 h5 a6 h6 a7 h7 a8 h8 hc0 hc1 x0 x1 x2 x3)]
  unfold kernelRun0_A
  dsimp only
  sl_unfold_words
  rw [View.canon_unit_zero hz]
  simp only [View.readAt_eq_ld, h2.read_unread, h3.read_unread, h4.read_unread, h5.read_unread, h7.read_unread, h8.read_unread, View.ld_unit_zero (S := S1x128) hz]
  refine (dnA j _ _ _ _ _ _ _ _ _ _ _ _).trans ?_
  unfold tDn
  simp only [row_ld, row_ld16]

theorem out0_B_4_eq (hc0 : ¬cond0_0 i) (hc1 : cond0_1 i) (y) : (out0_B_4 (F := Ideal) c i a2 h2 a3 h3 a4 h4 a5 h5 a6 h6 a7 h7 a8 h8 hc0 hc1 x0 x1 x2 x3 x6 y : EReal) = tDo x0 x1 x2 x3 y := by
  unfold out0_B_4
  rw [View.read_writes_eq_canon _ _ _ (cover0_B_4 c i a2 h2 a3 h3 a4 h4 a5 h5 a6 h6 a7 h7 a8 h8 hc0 hc1 x0 x1 x2 x3 x6)]
  refine View.canon_apply_of_pieces (tDo x0 x1 x2 x3) _ ?_ _ (cover0_B_4 c i a2 h2 a3 h3 a4 h4 a5 h5 a6 h6 a7 h7 a8 h8 hc0 hc1 x0 x1 x2 x3 x6 _)
  unfold kernelRun0_B
  dsimp only
  sl_unfold_words
  simp only [View.readAt_eq_ld, h2.read_unread, h3.read_unread, h4.read_unread, h5.read_unread, h7.read_unread, h8.read_unread, View.ld_unit_zero (S := S1x128) hz]
  simp only [List.mem_cons, List.not_mem_nil, or_false, forall_eq_or_imp, forall_eq]
  refine ⟨?_, ?_, ?_, ?_⟩ <;> intro y <;> idx_vars y
  · refine (do384 x2 _ _ _ y0 y1).trans (tDo_at x0 x1 x2 x3 3 (by omega) y0 y1 _ (at0 _) (atk 3 _) _ _ _ (row_ld x0 384 _ y0) (row_ld x1 384 _ y0) (row_ld16 x3 384 _ y0))
  · refine (do256 x2 _ _ _ y0 y1).trans (tDo_at x0 x1 x2 x3 2 (by omega) y0 y1 _ (at0 _) (atk 2 _) _ _ _ (row_ld x0 256 _ y0) (row_ld x1 256 _ y0) (row_ld16 x3 256 _ y0))
  · refine (do128 x2 _ _ _ y0 y1).trans (tDo_at x0 x1 x2 x3 1 (by omega) y0 y1 _ (at0 _) (atk 1 _) _ _ _ (row_ld x0 128 _ y0) (row_ld x1 128 _ y0) (row_ld16 x3 128 _ y0))
  · refine (do0 x2 _ _ _ y0 y1).trans (tDo_at x0 x1 x2 x3 0 (by omega) y0 y1 _ (at0 _) (atk 0 _) _ _ _ (row_ld x0 0 _ y0) (row_ld x1 0 _ y0) (row_ld16 x3 0 _ y0))

theorem out0_B_5_eq (hc0 : ¬cond0_0 i) (hc1 : cond0_1 i) (y) : (out0_B_5 (F := Ideal) c i a2 h2 a3 h3 a4 h4 a5 h5 a6 h6 a7 h7 a8 h8 hc0 hc1 x0 x1 x2 x3 x6 y : EReal) = tDg x0 x1 x2 x3 y := by
  unfold out0_B_5
  rw [View.read_writes_eq_canon _ _ _ (cover0_B_5 c i a2 h2 a3 h3 a4 h4 a5 h5 a6 h6 a7 h7 a8 h8 hc0 hc1 x0 x1 x2 x3 x6)]
  refine View.canon_apply_of_pieces (tDg x0 x1 x2 x3) _ ?_ _ (cover0_B_5 c i a2 h2 a3 h3 a4 h4 a5 h5 a6 h6 a7 h7 a8 h8 hc0 hc1 x0 x1 x2 x3 x6 _)
  unfold kernelRun0_B
  dsimp only
  sl_unfold_words
  simp only [View.readAt_eq_ld, h2.read_unread, h3.read_unread, h4.read_unread, h5.read_unread, h7.read_unread, h8.read_unread, View.ld_unit_zero (S := S1x128) hz]
  simp only [List.mem_cons, List.not_mem_nil, or_false, forall_eq_or_imp, forall_eq]
  refine ⟨?_, ?_, ?_, ?_⟩ <;> intro y <;> idx_vars y
  · refine (dg384 x2 _ _ _ y0 y1).trans (tDg_at x0 x1 x2 x3 3 (by omega) y0 y1 _ (at0 _) (atk 3 _) _ _ _ (row_ld x0 384 _ y0) (row_ld x1 384 _ y0) (row_ld16 x3 384 _ y0))
  · refine (dg256 x2 _ _ _ y0 y1).trans (tDg_at x0 x1 x2 x3 2 (by omega) y0 y1 _ (at0 _) (atk 2 _) _ _ _ (row_ld x0 256 _ y0) (row_ld x1 256 _ y0) (row_ld16 x3 256 _ y0))
  · refine (dg128 x2 _ _ _ y0 y1).trans (tDg_at x0 x1 x2 x3 1 (by omega) y0 y1 _ (at0 _) (atk 1 _) _ _ _ (row_ld x0 128 _ y0) (row_ld x1 128 _ y0) (row_ld16 x3 128 _ y0))
  · refine (dg0 x2 _ _ _ y0 y1).trans (tDg_at x0 x1 x2 x3 0 (by omega) y0 y1 _ (at0 _) (atk 0 _) _ _ _ (row_ld x0 0 _ y0) (row_ld x1 0 _ y0) (row_ld16 x3 0 _ y0))

theorem out0_B_6_eq (hc0 : ¬cond0_0 i) (hc1 : cond0_1 i) (j : Fin 128) : (out0_B_6 (F := Ideal) c i a2 h2 a3 h3 a4 h4 a5 h5 a6 h6 a7 h7 a8 h8 hc0 hc1 x0 x1 x2 x3 x6 (ix2 0 j) : EReal) = x6 (ix2 0 j) + tDn x0 x1 x3 j := by
  unfold out0_B_6
  rw [View.read_writes_eq_canon _ _ _ (cover0_B_6 c i a2 h2 a3 h3 a4 h4 a5 h5 a6 h6 a7 h7 a8 h8 hc0 hc1 x0 x1 x2 x3 x6)]
  unfold kernelRun0_B
  dsimp only
  sl_unfold_words
  rw [View.canon_unit_zero hz]
  simp only [View.readAt_eq_ld, h2.read_unread, h3.read_unread, h4.read_unread, h5.read_unread, h7.read_unread, h8.read_unread, View.ld_unit_zero (S := S1x128) hz]
  refine (dnB j x6 _ _ _ _ _ _ _ _ _ _ _ _).trans ?_
  unfold tDn
  simp only [row_ld, row_ld16]

end

end Cert.MixrBwdIdeal.Body

end
-- ==== Proof.MixrBwdBlocks.lean ====
/- The gated norm's gradient, block by block: where the blocks lie, the running sum, and the result arrays. -/
module

public import proofs.«01_k».proof.Proof.MixrBwdTile
public import Idealize.ShloMosaic.Lib.Pipeline.Value

@[expose] public section

set_option maxRecDepth 16384

noncomputable section

namespace Cert.MixrBwdIdeal.Body

open Idealize.ShloMosaic Idealize.ShloMosaic.TcCoe Idealize.SL.Sem
open Idealize.ShloMosaic.Pipeline (Dat)
open Cert.MixrBwdIdeal.Gen Cert.MixrBwdIdeal.Value Cert.AttSpec Cert.ConvSpec Cert.MixSpec

variable (m : (ℓ : Loc nD τ sig) → Buf (Elt Ideal) ℓ)

/-- The four arguments on a device. -/
abbrev az (c : Dev nD) : Vec Ideal S2304x5376 .f32 := m ((c : Thread nD τ).loc main_arg0)
abbrev ao (c : Dev nD) : Vec Ideal S2304x512 .f32 := m ((c : Thread nD τ).loc main_arg1)
abbrev an (c : Dev nD) : Vec Ideal S1x128 .f32 := m ((c : Thread nD τ).loc main_arg2)
abbrev ad (c : Dev nD) : Vec Ideal S2304x2048 .bf16 := m ((c : Thread nD τ).loc main_arg3)

theorem idx0 : ∀ t : Fin grid0.N, win0_0.index t 0 = t.val ∧ win0_0.index t 1 = 0 := by decide +kernel
theorem idx1 : ∀ t : Fin grid0.N, win0_1.index t 0 = t.val ∧ win0_1.index t 1 = 6 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 2 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = 0 ∧ win0_6.index t 1 = 0 := by decide +kernel

theorem ltN (t : Fin cfg0.N) : t.val < 9 := lt_of_lt_of_eq t.isLt Gen.N_0

theorem blk0 (c : Dev nD) (t : Fin cfg0.N) (r : Fin 256) (n : Fin 512) :
    (iblk m c 0 t (ix2 r n) : EReal) = rd (a := 2304) (b := 512) (ao m c) (t.val * 256 + r.val) (0 + n.val) := by
  have ht := ltN t
  rw [rd_eq _ _ _ (by omega) (by omega)]
  unfold iblk
  rw [View.read_apply]
  show V m c main_arg1 _ = m (c.tc.loc main_arg1) _
  rw [V_main_arg1]
  congr 1
  funext a
  apply Fin.ext
  match a with
  | ⟨0, _⟩ => show win0_0.index t 0 * 256 + 1 * r.val = t.val * 256 + r.val; rw [(idx0 t).1]; omega
  | ⟨1, _⟩ => show win0_0.index t 1 * 512 + 1 * n.val = 0 + n.val; rw [(idx0 t).2]; omega

theorem blk1 (c : Dev nD) (t : Fin cfg0.N) (r : Fin 256) (n : Fin 512) :
    (X0_1 m c t (ix2 r n) : EReal) = rd (a := 2304) (b := 5376) (az m c) (t.val * 256 + r.val) (3072 + n.val) := by
  have ht := ltN t
  rw [rd_eq _ _ _ (by omega) (by omega)]
  unfold X0_1 Pipeline.Window.fill
  rw [dif_pos (moved0_1 t _)]
  unfold iblk
  rw [View.read_apply]
  show V m c main_arg0 _ = m (c.tc.loc main_arg0) _
  rw [V_main_arg0]
  congr 1
  funext a
  apply Fin.ext
  match a with
  | ⟨0, _⟩ => show win0_1.index t 0 * 256 + 1 * r.val = t.val * 256 + r.val; rw [(idx1 t).1]; omega
  | ⟨1, _⟩ => show win0_1.index t 1 * 512 + 1 * n.val = 3072 + n.val; rw [(idx1 t).2]; omega

theorem blk2 (c : Dev nD) (t : Fin cfg0.N) : row (iblk m c 2 t) 0 = row (an m c) 0 := by
  funext l
  show (iblk m c 2 t (ix2 0 l) : EReal) = an m c (ix2 0 l)
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 0; rw [(idx2 t).1]
  | ⟨1, _⟩ => show win0_2.index t 1 * 128 + 1 * l.val = l.val; rw [(idx2 t).2]; omega

theorem blk3 (c : Dev nD) (t : Fin cfg0.N) (r : Fin 256) (n : Fin 512) :
    (iblk m c 3 t (ix2 r n) : EReal) = rd (a := 2304) (b := 2048) (ad m c) (t.val * 256 + r.val) (1024 + n.val) := by
  have ht := ltN t
  rw [rd_eq _ _ _ (by omega) (by omega)]
  unfold iblk
  rw [View.read_apply]
  show V m c main_arg3 _ = m (c.tc.loc main_arg3) _
  rw [V_main_arg3]
  congr 1
  funext a
  apply Fin.ext
  match a with
  | ⟨0, _⟩ => show win0_3.index t 0 * 256 + 1 * r.val = t.val * 256 + r.val; rw [(idx3 t).1]; omega
  | ⟨1, _⟩ => show win0_3.index t 1 * 512 + 1 * n.val = 1024 + n.val; rw [(idx3 t).2]; omega

theorem hd0 (c : Dev nD) (t : Fin cfg0.N) (r : Nat) (hr : r < 256) (k : Nat) (hk : k + 128 ≤ 512) :
    hd (a := 256) (b := 512) (iblk m c 0 t) r k = hd (a := 2304) (b := 512) (ao m c) (t.val * 256 + r) k :=
  (hd_of (a := 256) (b := 512) _ (ao m c) r (t.val * 256 + r) k 0 hr hk fun n => blk0 m c t ⟨r, hr⟩ n).trans (by rw [Nat.zero_add])

theorem hd1 (c : Dev nD) (t : Fin cfg0.N) (r : Nat) (hr : r < 256) (k : Nat) (hk : k + 128 ≤ 512) :
    hd (a := 256) (b := 512) (X0_1 m c t) r k = hd (a := 2304) (b := 5376) (az m c) (t.val * 256 + r) (3072 + k) :=
  hd_of (a := 256) (b := 512) _ (az m c) r (t.val * 256 + r) k 3072 hr hk fun n => blk1 m c t ⟨r, hr⟩ n

theorem hd3 (c : Dev nD) (t : Fin cfg0.N) (r : Nat) (hr : r < 256) (k : Nat) (hk : k + 128 ≤ 512) :
    hd (a := 256) (b := 512) (iblk m c 3 t) r k = hd (a := 2304) (b := 2048) (ad m c) (t.val * 256 + r) (1024 + k) :=
  hd_of (a := 256) (b := 512) _ (ad m c) r (t.val * 256 + r) k 1024 hr hk fun n => blk3 m c t ⟨r, hr⟩ n

theorem tDo_eq (c : Dev nD) (t : Fin cfg0.N) (r : Fin 256) (q : Fin 512) :
    tDo (iblk m c 0 t) (X0_1 m c t) (iblk m c 2 t) (iblk m c 3 t) (ix2 r q)
      = aDo 3072 1024 (az m c) (ao m c) (an m c) (ad m c) (t.val * 256 + r.val) q.val := by
  unfold tDo aDo
  rw [blk2 m c t]
  show dI (hd (a := 256) (b := 512) (iblk m c 0 t) r.val (q.val / 128 * 128)) _ (thr (hd (a := 256) (b := 512) (X0_1 m c t) r.val (q.val / 128 * 128))
    (hd (a := 256) (b := 512) (iblk m c 3 t) r.val (q.val / 128 * 128))) _ = _
  rw [hd0 m c t _ r.isLt _ (by omega), hd1 m c t _ r.isLt _ (by omega), hd3 m c t _ r.isLt _ (by omega)]
  rfl

theorem tDg_eq (c : Dev nD) (t : Fin cfg0.N) (r : Fin 256) (q : Fin 512) :
    tDg (iblk m c 0 t) (X0_1 m c t) (iblk m c 2 t) (iblk m c 3 t) (ix2 r q)
      = aDg 3072 1024 (az m c) (ao m c) (an m c) (ad m c) (t.val * 256 + r.val) q.val := by
  unfold tDg aDg
  rw [blk2 m c t]
  show dG (hd (a := 256) (b := 512) (iblk m c 0 t) r.val (q.val / 128 * 128)) _ (hd (a := 256) (b := 512) (X0_1 m c t) r.val (q.val / 128 * 128))
    (hd (a := 256) (b := 512) (iblk m c 3 t) r.val (q.val / 128 * 128)) _ = _
  rw [hd0 m c t _ r.isLt _ (by omega), hd1 m c t _ r.isLt _ (by omega), hd3 m c t _ r.isLt _ (by omega)]
  rfl

/-- Head `k`'s part of block `i`'s sum. -/
def sN (c : Dev nD) (j : Fin 128) (k i : Nat) : EReal := ∑ r : Fin 256, pDn 3072 1024 (az m c) (ao m c) (ad m c) k (i * 256 + r.val) j

/-- What block `i` adds to the gradient of the norm's weights. -/
def cN (c : Dev nD) (j : Fin 128) (i : Nat) : EReal := sN m c j 0 i + sN m c j 128 i + sN m c j 256 i + sN m c j 384 i

theorem head_eq (c : Dev nD) (t : Fin cfg0.N) (j : Fin 128) (k : Nat) (hk : k + 128 ≤ 512) :
    ∑ r : Fin 256, dN (hd (a := 256) (b := 512) (iblk m c 0 t) r.val k) (hd (a := 256) (b := 512) (X0_1 m c t) r.val k)
      (hd (a := 256) (b := 512) (iblk m c 3 t) r.val k) j = sN m c j k t.val :=
  Finset.sum_congr rfl fun r _ => by
    rw [hd0 m c t _ r.isLt _ hk, hd1 m c t _ r.isLt _ hk, hd3 m c t _ r.isLt _ hk]
    rfl

theorem tDn_eq (c : Dev nD) (t : Fin cfg0.N) (j : Fin 128) : tDn (iblk m c 0 t) (X0_1 m c t) (iblk m c 3 t) j = cN m c j t.val := by
  unfold tDn cN
  rw [head_eq m c t j 0 (by omega), head_eq m c t j 128 (by omega), head_eq m c t j 256 (by omega), head_eq m c t j 384 (by omega)]

theorem sum_cN (c : Dev nD) (j : Fin 128) : ∑ i ∈ Finset.range 9, cN m c j i = aDn 3072 1024 (az m c) (ao m c) (ad m c) j := by
  have e : ∀ k, ∑ i ∈ Finset.range 9, sN m c j k i = ∑ r : Fin 2304, pDn 3072 1024 (az m c) (ao m c) (ad m c) k r.val j :=
    fun k => sum_blocks (fun r => pDn 3072 1024 (az m c) (ao m c) (ad m c) k r j)
  unfold cN
  rw [Finset.sum_add_distrib, Finset.sum_add_distrib, Finset.sum_add_distrib, e 0, e 128, e 256, e 384]
  exact sum4 (fun k => ∑ r : Fin 2304, pDn 3072 1024 (az m c) (ao m c) (ad m c) k r.val j)

/-! ## The staged results -/

/-- After point `n` the staged gradient of the weights holds the sum of the blocks so far. -/
theorem outs6_eq (c : Dev nD) (j : Fin 128) : ∀ (n : Nat) (h : n < cfg0.N),
    ((outsAt0 m c n h).2.2 (ix2 0 j) : EReal) = ∑ i ∈ Finset.range (n + 1), cN m c j i := by
  intro n
  induction n with
  | zero =>
    intro h
    have e := congrArg (fun o => (o.2.2 (ix2 0 j) : EReal)) (outsAt0_A m c ⟨0, h⟩ rfl (by dsimp only; omega))
    simp only [out0_A_6_eq] at e
    exact e.trans ((tDn_eq m c ⟨0, h⟩ j).trans (by simp))
  | succ n ih =>
    intro h
    have hn : n + 1 < 9 := lt_of_lt_of_eq h Gen.N_0
    have e := congrArg (fun o => (o.2.2 (ix2 0 j) : EReal)) (outsAt0_B m c ⟨n + 1, h⟩ (by dsimp only; omega) (by dsimp only; omega))
    simp only [out0_B_6_eq] at e
    refine e.trans ?_
    rw [tDn_eq m c ⟨n + 1, h⟩ j, Finset.sum_range_succ _ (n + 1)]
    show ((outsAt0 m c n _).2.2 (ix2 0 j) : EReal) + cN m c j (n + 1) = _
    rw [ih (Nat.lt_of_succ_lt h)]

theorem outs4_eq (c : Dev nD) (t : Fin cfg0.N) (r : Fin 256) (q : Fin 512) :
    ((outsAt0 m c t.val t.isLt).1 (ix2 r q) : EReal) = aDo 3072 1024 (az m c) (ao m c) (an m c) (ad m c) (t.val * 256 + r.val) q.val := by
  have ht := ltN t
  by_cases h0 : t.val = 0
  · have e := congrArg (fun o => (o.1 (ix2 r q) : EReal)) (outsAt0_A m c t (by omega) (by omega))
    simp only [out0_A_4_eq] at e
    exact e.trans (tDo_eq m c t r q)
  · have e := congrArg (fun o => (o.1 (ix2 r q) : EReal)) (outsAt0_B m c t (by omega) (by omega))
    simp only [out0_B_4_eq] at e
    exact e.trans (tDo_eq m c t r q)

theorem outs5_eq (c : Dev nD) (t : Fin cfg0.N) (r : Fin 256) (q : Fin 512) :
    ((outsAt0 m c t.val t.isLt).2.1 (ix2 r q) : EReal) = aDg 3072 1024 (az m c) (ao m c) (an m c) (ad m c) (t.val * 256 + r.val) q.val := by
  have ht := ltN t
  by_cases h0 : t.val = 0
  · have e := congrArg (fun o => (o.2.1 (ix2 r q) : EReal)) (outsAt0_A m c t (by omega) (by omega))
    simp only [out0_A_5_eq] at e
    exact e.trans (tDg_eq m c t r q)
  · have e := congrArg (fun o => (o.2.1 (ix2 r q) : EReal)) (outsAt0_B m c t (by omega) (by omega))
    simp only [out0_B_5_eq] at e
    exact e.trans (tDg_eq m c t r q)

/-! ## The result arrays -/

/-- The gradient of the normed array. -/
def resO (c : Dev nD) : Vec Ideal S2304x512 .f32 := fun y => aDo 3072 1024 (az m c) (ao m c) (an m c) (ad m c) (y 0).val (y 1).val
/-- The gradient of the gates. -/
def resG (c : Dev nD) : Vec Ideal S2304x512 .bf16 := fun y => aDg 3072 1024 (az m c) (ao m c) (an m c) (ad m c) (y 0).val (y 1).val
/-- The gradient of the norm's weights. -/
def resN (c : Dev nD) : Vec Ideal S1x128 .f32 := fun y => aDn 3072 1024 (az m c) (ao m c) (ad m c) (y 1)

theorem flushed4_eq (c : Dev nD) (t : Fin cfg0.N) (hf : (cfg0.win 4).flush t = true) :
    (dats m 0 c).flushed 4 t = ((cfg0.win 4).blk t).view.read (Elt Ideal) (resO m c) := by
  rw [flushed4]
  funext y
  rw [View.read_apply]
  have ht := ltN t
  show (outsAt0 m c t.val t.isLt).1 _ = resO m c _
  have hy0 : (y 0).val < 256 := (y 0).isLt
  have hy1 : (y 1).val < 512 := (y 1).isLt
  refine Eq.trans (congrArg _ ?_) ((outs4_eq m c t ⟨(y 0).val, hy0⟩ ⟨(y 1).val, hy1⟩).trans ?_)
  · funext a; match a with
    | ⟨0, _⟩ => rfl
    | ⟨1, _⟩ => rfl
  · show _ = aDo 3072 1024 _ _ _ _ (win0_4.index t 0 * 256 + 1 * (y 0).val) (win0_4.index t 1 * 512 + 1 * (y 1).val)
    rw [(idx4 t).1, (idx4 t).2, Nat.one_mul, Nat.one_mul, Nat.zero_mul, Nat.zero_add]

theorem flushed5_eq (c : Dev nD) (t : Fin cfg0.N) (hf : (cfg0.win 5).flush t = true) :
    (dats m 0 c).flushed 5 t = ((cfg0.win 5).blk t).view.read (Elt Ideal) (resG m c) := by
  rw [flushed5]
  funext y
  rw [View.read_apply]
  have ht := ltN t
  show (outsAt0 m c t.val t.isLt).2.1 _ = resG m c _
  have hy0 : (y 0).val < 256 := (y 0).isLt
  have hy1 : (y 1).val < 512 := (y 1).isLt
  refine Eq.trans (congrArg _ ?_) ((outs5_eq m c t ⟨(y 0).val, hy0⟩ ⟨(y 1).val, hy1⟩).trans ?_)
  · funext a; match a with
    | ⟨0, _⟩ => rfl
    | ⟨1, _⟩ => rfl
  · show _ = aDg 3072 1024 _ _ _ _ (win0_5.index t 0 * 256 + 1 * (y 0).val) (win0_5.index t 1 * 512 + 1 * (y 1).val)
    rw [(idx5 t).1, (idx5 t).2, Nat.one_mul, Nat.one_mul, Nat.zero_mul, Nat.zero_add]

theorem flushed6_eq (c : Dev nD) (t : Fin cfg0.N) (hf : (cfg0.win 6).flush t = true) :
    (dats m 0 c).flushed 6 t = ((cfg0.win 6).blk t).view.read (Elt Ideal) (resN m c) := by
  have ht := ltN t
  have hl : t.val = 8 := by have := (flush0_6 t).mp hf; omega
  rw [flushed6]
  funext y
  rw [View.read_apply]
  show (outsAt0 m c t.val t.isLt).2.2 _ = resN m c _
  have hy0 : (y 0).val < 1 := (y 0).isLt
  have hy1 : (y 1).val < 128 := (y 1).isLt
  refine Eq.trans (congrArg _ ?_) ((outs6_eq m c ⟨(y 1).val, hy1⟩ t.val t.isLt).trans ?_)
  · funext a; match a with
    | ⟨0, _⟩ => exact Fin.ext (by show (y 0).val = 0; omega)
    | ⟨1, _⟩ => rfl
  · rw [hl, show 8 + 1 = 9 from rfl, sum_cN]
    refine congrArg (aDn 3072 1024 (az m c) (ao m c) (ad m c)) (Fin.ext ?_)
    show (y 1).val = win0_6.index t 1 * 128 + 1 * (y 1).val
    rw [(idx6 t).2]; omega

theorem final4 (c : Dev nD) : (dats m 0 c).arrAt 4 cfg0.N = resO m c :=
  (dats m 0 c).arrAt_eq_of_cover 4 (resO m c) (flushed4_eq m c) fun i => by
    have hi0 : (i 0).val < 2304 := (i 0).isLt
    have hi1 : (i 1).val < 512 := (i 1).isLt
    refine ⟨⟨(i 0).val / 256, by show _ < grid0.N; rw [Gen.N_0]; omega⟩, flush0_4 _, ?_⟩
    generalize ht : (⟨(i 0).val / 256, _⟩ : Fin grid0.N) = t
    have ht' : t.val = (i 0).val / 256 := by rw [← ht]
    show i ∈ ((View.whole main_v0_0).slice (win0_4.rect t)).set
    rw [View.set_slice_whole, Rect.mem_set_unit]
    intro a
    match a with
    | ⟨0, _⟩ => exact mem_box 256 (i 0).val (idx4 t).1 (by omega)
    | ⟨1, _⟩ => exact mem_box 512 (i 1).val (idx4 t).2 (by omega)

theorem final5 (c : Dev nD) : (dats m 0 c).arrAt 5 cfg0.N = resG m c :=
  (dats m 0 c).arrAt_eq_of_cover 5 (resG m c) (flushed5_eq m c) fun i => by
    have hi0 : (i 0).val < 2304 := (i 0).isLt
    have hi1 : (i 1).val < 512 := (i 1).isLt
    refine ⟨⟨(i 0).val / 256, by show _ < grid0.N; rw [Gen.N_0]; omega⟩, flush0_5 _, ?_⟩
    generalize ht : (⟨(i 0).val / 256, _⟩ : Fin grid0.N) = t
    have ht' : t.val = (i 0).val / 256 := by rw [← ht]
    show i ∈ ((View.whole main_v0_1).slice (win0_5.rect t)).set
    rw [View.set_slice_whole, Rect.mem_set_unit]
    intro a
    match a with
    | ⟨0, _⟩ => exact mem_box 256 (i 0).val (idx5 t).1 (by omega)
    | ⟨1, _⟩ => exact mem_box 512 (i 1).val (idx5 t).2 (by omega)

theorem final6 (c : Dev nD) : (dats m 0 c).arrAt 6 cfg0.N = resN m c :=
  (dats m 0 c).arrAt_eq_of_cover 6 (resN m c) (flushed6_eq m c) fun i => by
    have hi0 : (i 0).val < 1 := (i 0).isLt
    have hi1 : (i 1).val < 128 := (i 1).isLt
    refine ⟨⟨8, by show _ < grid0.N; rw [Gen.N_0]; omega⟩, (flush0_6 _).mpr (by dsimp only), ?_⟩
    generalize ht : (⟨8, _⟩ : Fin grid0.N) = t
    show i ∈ ((View.whole main_v0_2).slice (win0_6.rect t)).set
    rw [View.set_slice_whole, Rect.mem_set_unit]
    intro a
    match a with
    | ⟨0, _⟩ => exact mem_box 1 (i 0).val (idx6 t).1 (by omega)
    | ⟨1, _⟩ => exact mem_box 128 (i 1).val (idx6 t).2 (by omega)

end Cert.MixrBwdIdeal.Body

end
-- ==== Proof.MixrBwdRef.lean ====
/- The plain gradient of the gated norm, read entry by entry. -/
module

public import proofs.«01_k».proof.Proof.MixSpec
public import proofs.«01_k».proof.Proof.Gen.GatedRetGradIdeal.Read
public import Idealize.ShloMosaic.Lib.Pointwise

@[expose] public section

set_option maxRecDepth 16384

noncomputable section

namespace Cert.GatedRetGradIdeal.Ref

open Idealize.ShloMosaic Idealize.ShloMosaic.TcCoe Idealize.SL.Sem
open Cert.GatedRetGradIdeal.Gen Cert.GatedRetGradIdeal.Read Cert.AttSpec Cert.ConvSpec Cert.MixSpec

variable (x0 : Vec Ideal S2304x5376 .f32) (x1 : Vec Ideal S2304x512 .f32) (x2 : Vec Ideal S1x128 .f32) (x3 : Vec Ideal S2304x2048 .bf16)
  (h : Fin 4) (r : Fin 2304) (l : Fin 128)

/-- A head's rows of the three arrays. -/
abbrev O (h r : Nat) : Fin 128 → EReal := hd (a := 2304) (b := 512) x1 r (h * 128)
abbrev Z (h r : Nat) : Fin 128 → EReal := hd (a := 2304) (b := 5376) x0 r (3072 + h * 128)
abbrev D (h r : Nat) : Fin 128 → EReal := hd (a := 2304) (b := 2048) x3 r (1024 + h * 128)

theorem o_eq : (val_main_v3 (F := Ideal) x1 (ix4 0 h r l) : EReal) = O x1 h.val r.val l := by
  have hh := h.isLt
  have hl := l.isLt
  refine Eq.trans ?_ (rd_eq (a := 2304) (b := 512) x1 r.val (h.val * 128 + l.val) r.isLt (by omega)).symm
  pointwise [val_main_v3, val_main_v2, val_main_v1]

theorem ms_eq : (val_main_v10 (F := Ideal) x1 (ix4 0 h r 0) : EReal) = ms (O x1 h.val r.val) := by
  pointwise [val_main_v10, val_main_v8, val_main_v6, val_main_v5, val_main_v4, val_main_cst, val_main_v7, val_main_cst_0, val_main_v9, val_main_cst_1]
  simp only [o_eq]
  rfl

theorem z_eq : (val_main_v22 (F := Ideal) x0 (ix3 0 r ⟨h.val * 128 + l.val, by omega⟩) : EReal) = Z x0 h.val r.val l := by
  have hh := h.isLt
  have hl := l.isLt
  refine Eq.trans ?_ (rd_eq (a := 2304) (b := 5376) x0 r.val (3072 + h.val * 128 + l.val) r.isLt (by omega)).symm
  pointwise [val_main_v22, val_main_v0]
  exact congrArg _ (congrArg (ix2 r) (Fin.ext (Nat.add_assoc ..).symm))

theorem d_eq : (val_main_v28 (F := Ideal) x3 (ix3 0 r ⟨h.val * 128 + l.val, by omega⟩) : EReal) = D x3 h.val r.val l := by
  have hh := h.isLt
  have hl := l.isLt
  refine Eq.trans ?_ (rd_eq (a := 2304) (b := 2048) x3 r.val (1024 + h.val * 128 + l.val) r.isLt (by omega)).symm
  pointwise [val_main_v28, val_main_v27, val_main_v26]
  exact congrArg _ (congrArg (ix2 r) (Fin.ext (Nat.add_assoc ..).symm))

theorem nrm_eq : (val_main_v16 (F := Ideal) x1 (ix4 0 h r l) : EReal) = nrm (O x1 h.val r.val) l := by
  pointwise [val_main_v16, val_main_v15, val_main_v11]
  rw [o_eq, ms_eq]
  rfl

theorem sg_eq : (val_main_v23_2 (F := Ideal) x0 (ix3 0 r ⟨h.val * 128 + l.val, by omega⟩) : EReal) = sg (Z x0 h.val r.val l) := by
  pointwise [val_main_v23_2, val_main_call0_v4, val_main_call0_v3, val_main_call0_v2, val_main_call0_v1, val_main_call0_v0, val_main_call0_cst, val_main_call0_cst_0]
  rw [z_eq]
  rfl

theorem thr_eq : (val_main_v34 (F := Ideal) x0 x3 (ix4 0 h r l) : EReal) = thr (Z x0 h.val r.val) (D x3 h.val r.val) l := by
  have hh := h.isLt
  have hl := l.isLt
  pointwise [val_main_v34, val_main_v33, val_main_v30, val_main_v23_0]
  rw [d_eq, z_eq, sg_eq]
  rfl

theorem n_eq : (val_main_v38 (F := Ideal) x2 (ix4 0 h r l) : EReal) = row x2 0 l := by
  pointwise [val_main_v38, val_main_v17]

theorem dot_eq : (val_main_v44 (F := Ideal) x0 x1 x2 x3 (ix4 0 h r 0) : EReal)
    = ∑ l, O x1 h.val r.val l * (thr (Z x0 h.val r.val) (D x3 h.val r.val) l * row x2 0 l) := by
  pointwise [val_main_v44, val_main_v43, val_main_cst_6, val_main_v42, val_main_v39]
  simp only [o_eq, thr_eq, n_eq]

theorem fiber2 (hd : S1x4x2304x1.ReducesTo [0, 3] S4x2304) (h : Fin 4) (r : Fin 2304) (i : S1x4x2304x1.Idx) :
    hd.drop i = ix2 h r ↔ ∃ k : Fin 1 × Fin 1, ix4 k.1 h r k.2 = i := by
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

/-- A sum along two axes of length one. -/
theorem red2 (hd : S1x4x2304x1.ReducesTo [0, 3] S4x2304) (v : S1x4x2304x1.Idx → EReal) (h : Fin 4) (r : Fin 2304) :
    Ideal.hostReduceAdd hd v 0 (ix2 h r) = v (ix4 0 h r 0) := by
  refine (congrArg ((0 : EReal) + ·) (Finset.sum_filter_eq_sum_of_fiber _ (fun k : Fin 1 × Fin 1 => ix4 k.1 h r k.2)
    (fun _ _ e => Prod.ext (congrFun e 0) (congrFun e 3)) (fiber2 hd h r) v)).trans ?_
  simp only [Fintype.sum_prod_type, Fin.sum_univ_one]
  exact zero_add _

theorem fiberN (hd : S1x4x2304x128.ReducesTo [1, 2] S1x128) (l : Fin 128) (i : S1x4x2304x128.Idx) :
    hd.drop i = ix2 0 l ↔ ∃ k : Fin 4 × Fin 2304, ix4 0 k.1 k.2 l = i := by
  constructor
  · intro e
    refine ⟨(i 1, i 2), ?_⟩
    funext a; apply Fin.ext
    match a with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨k, rfl⟩
    funext b
    apply Fin.ext
    match b with
    | ⟨0, _⟩ => rfl
    | ⟨1, _⟩ => rfl

/-- A sum along the heads and the rows. -/
theorem redN (hd : S1x4x2304x128.ReducesTo [1, 2] S1x128) (v : S1x4x2304x128.Idx → EReal) (l : Fin 128) :
    Ideal.hostReduceAdd hd v 0 (ix2 0 l) = ∑ h : Fin 4, ∑ r : Fin 2304, v (ix4 0 h r l) := by
  refine (congrArg ((0 : EReal) + ·) (Finset.sum_filter_eq_sum_of_fiber _ (fun k : Fin 4 × Fin 2304 => ix4 (0 : Fin 1) k.1 k.2 l)
    (fun _ _ e => Prod.ext (congrFun e 1) (congrFun e 2)) (fiberN hd l) v)).trans ?_
  simp only [Fintype.sum_prod_type]
  exact zero_add _

theorem fiber1 (hd : S1x1x1x128.ReducesTo [0, 1, 2] S128) (l : Fin 128) (i : S1x1x1x128.Idx) :
    hd.drop i = ix1 l ↔ ∃ k : Fin 1 × Fin 1 × Fin 1, ix4 k.1 k.2.1 k.2.2 l = i := by
  constructor
  · intro e
    refine ⟨(i 0, i 1, i 2), ?_⟩
    funext a; apply Fin.ext
    match a with
    | ⟨0, _⟩ => rfl
    | ⟨1, _⟩ => rfl
    | ⟨2, _⟩ => rfl
    | ⟨3, _⟩ => exact (congrArg Fin.val (congrFun e 0)).symm
  · rintro ⟨k, rfl⟩
    funext b
    apply Fin.ext
    match b with
    | ⟨0, _⟩ => rfl

/-- A sum along three axes of length one. -/
theorem red1 (hd : S1x1x1x128.ReducesTo [0, 1, 2] S128) (v : S1x1x1x128.Idx → EReal) (l : Fin 128) :
    Ideal.hostReduceAdd hd v 0 (ix1 l) = v (ix4 0 0 0 l) := by
  refine (congrArg ((0 : EReal) + ·) (Finset.sum_filter_eq_sum_of_fiber _ (fun k : Fin 1 × Fin 1 × Fin 1 => ix4 k.1 k.2.1 k.2.2 l)
    (fun _ _ e => Prod.ext (congrFun e 0) (Prod.ext (congrFun e 1) (congrFun e 2))) (fiber1 hd l) v)).trans ?_
  simp only [Fintype.sum_prod_type, Fin.sum_univ_one]
  exact zero_add _

theorem slope_eq : (val_main_v52 (F := Ideal) x0 x1 x2 x3 (ix4 0 h r l) : EReal)
    = slope (O x1 h.val r.val) (row x2 0) (thr (Z x0 h.val r.val) (D x3 h.val r.val)) := by
  pointwise [val_main_v52, val_main_v51, val_main_v50, val_main_cst_8]
  refine (red2 _ _ _ _).trans ?_
  pointwise [val_main_v49, val_main_v48, val_main_cst_7, val_main_v47, val_main_v14, val_main_v13, val_main_cst_2, val_main_v12, val_main_v11]
  rw [dot_eq, ms_eq]
  rfl

theorem dI_eq : (val_main_v56 (F := Ideal) x0 x1 x2 x3 (ix4 0 h r l) : EReal)
    = dI (O x1 h.val r.val) (row x2 0) (thr (Z x0 h.val r.val) (D x3 h.val r.val)) l := by
  pointwise [val_main_v56, val_main_v54, val_main_v46, val_main_v45, val_main_v11, val_main_v39, val_main_v53, val_main_v55]
  rw [o_eq, ms_eq, thr_eq, n_eq, slope_eq]
  rfl

theorem do_ref (r : Fin 2304) (q : Fin 512) :
    (val_main_v59 (F := Ideal) x0 x1 x2 x3 (ix2 r q) : EReal) = aDo 3072 1024 x0 x1 x2 x3 r.val q.val := by
  pointwise [val_main_v59, val_main_cst_9, val_main_v58, val_main_v57]
  exact (Fin.sum_univ_one _).trans (dI_eq x0 x1 x2 x3 _ r _)

/-- A column's head and its place there. -/
abbrev qh (q : Fin 512) : Fin 4 := ⟨q.val / 128, by omega⟩
abbrev ql (q : Fin 512) : Fin 128 := ⟨q.val % 128, by omega⟩

theorem q_eq (q : Fin 512) : (⟨(qh q).val * 128 + (ql q).val, by omega⟩ : Fin 512) = q := Fin.ext (by show q.val / 128 * 128 + q.val % 128 = q.val; omega)

theorem zq (r : Fin 2304) (q : Fin 512) : (val_main_v22 (F := Ideal) x0 (ix3 0 r q) : EReal) = Z x0 (qh q).val r.val (ql q) :=
  (congrArg (fun q => (val_main_v22 (F := Ideal) x0 (ix3 0 r q) : EReal)) (q_eq q).symm).trans (z_eq x0 (qh q) r (ql q))

theorem dq (r : Fin 2304) (q : Fin 512) : (val_main_v28 (F := Ideal) x3 (ix3 0 r q) : EReal) = D x3 (qh q).val r.val (ql q) :=
  (congrArg (fun q => (val_main_v28 (F := Ideal) x3 (ix3 0 r q) : EReal)) (q_eq q).symm).trans (d_eq x3 (qh q) r (ql q))

theorem sgq (r : Fin 2304) (q : Fin 512) : (val_main_v23_2 (F := Ideal) x0 (ix3 0 r q) : EReal) = sg (Z x0 (qh q).val r.val (ql q)) :=
  (congrArg (fun q => (val_main_v23_2 (F := Ideal) x0 (ix3 0 r q) : EReal)) (q_eq q).symm).trans (sg_eq x0 (qh q) r (ql q))

theorem dg_ref (r : Fin 2304) (q : Fin 512) :
    (val_main_v60 (F := Ideal) x0 x1 x2 x3 (ix2 r q) : EReal) = aDg 3072 1024 x0 x1 x2 x3 r.val q.val := by
  pointwise [val_main_v60, val_main_v32, val_main_cst_3, val_main_v31, val_main_v29, val_main_v21, val_main_v20, val_main_v19, val_main_v18, val_main_v17, val_main_call1_v0, val_main_call1_v1, val_main_call1_v2, val_main_v23_1, val_main_call0_v7, val_main_call0_v6, val_main_call0_cst_1]
  refine (Fin.sum_univ_one _).trans ?_
  rw [dq, zq, sgq]
  refine congrArg₂ (fun s t : EReal => s * _ * _ * _ + _ * (t * _ * _) * _) (nrm_eq x1 (qh q) r (ql q)) (nrm_eq x1 (qh q) r (ql q))

theorem dn_ref (l : Fin 128) : (val_main_v41 (F := Ideal) x0 x1 x3 (ix2 0 l) : EReal) = aDn 3072 1024 x0 x1 x3 l := by
  pointwise [val_main_v41, val_main_v40, val_main_cst_5]
  refine (red1 _ _ _).trans ?_
  pointwise [val_main_v37, val_main_v36, val_main_cst_4]
  refine (redN _ _ _).trans ?_
  pointwise [val_main_v35]
  simp only [nrm_eq, thr_eq]
  rfl

end Cert.GatedRetGradIdeal.Ref

end
-- ==== Proof.MixrBwdClaims.lean ====
/- The gated norm's gradient as the kernel computes it and as the reference does. -/
module

public import proofs.«01_k».proof.Proof.MixrBwdBlocks
public import proofs.«01_k».proof.Proof.MixrBwdRef
public import proofs.«01_k».proof.Proof.Gen.GatedRetGradIdeal.Run
public import proofs.«01_k».proof.Defs
public import Idealize.ShloMosaic.Lib.Quiescent

@[expose] public section

set_option maxRecDepth 16384

noncomputable section

namespace Cert.Proof.MixrBwd

open Idealize.ShloMosaic Idealize.ShloMosaic.TcCoe Idealize.SL.Sem
open Cert.AttSpec Cert.MixSpec

theorem frame_ref : quiescent_GatedRetGradIdeal := fun m ρ _ =>
  (θ_run GatedRetGradIdeal.defs _ _).mono (fun r h => ⟨fun c => (h c).2.2.2,
      sem_eq_zero_of_no_sems (by decide) r.2⟩)
    (GatedRetGradIdeal.Value.run (F := Ideal) m ρ)

theorem algebraic : algebraic_MixrBwdIdeal_GatedRetGradIdeal := by
  intro m ρ m' ρ' _ hagree
  refine ⟨fun c => MixrBwdIdeal.Body.resO m c, fun c => MixrBwdIdeal.Body.resG m c,
    fun c => MixrBwdIdeal.Body.resN m c, ?_, ?_⟩
  · refine (θ_run MixrBwdIdeal.defs _ _).mono (fun _ h c => ?_) (MixrBwdIdeal.Value.run_blocks (F := Ideal) m ρ)
    exact ⟨(h c).1.trans (MixrBwdIdeal.Body.final4 m c), (h c).2.1.trans (MixrBwdIdeal.Body.final5 m c),
      (h c).2.2.1.trans (MixrBwdIdeal.Body.final6 m c), (h c).2.2.2⟩
  · refine (θ_run GatedRetGradIdeal.defs _ _).mono (fun _ h c => ?_) (GatedRetGradIdeal.Value.run (F := Ideal) m' ρ')
    obtain ⟨g0, g1, g2, g3⟩ := hagree c
    refine ⟨((h c).1.trans (GatedRetGradIdeal.Read.val_main_v59_eq _ _)).trans ?_,
      ((h c).2.1.trans (GatedRetGradIdeal.Read.val_main_v60_eq _ _)).trans ?_,
      ((h c).2.2.1.trans (GatedRetGradIdeal.Read.val_main_v41_eq _ _ _)).trans ?_, (h c).2.2.2⟩
    · show GatedRetGradIdeal.Read.val_main_v59 (F := Ideal) (m' (c.tc.loc GatedRetGradIdeal.main_arg0))
        (m' (c.tc.loc GatedRetGradIdeal.main_arg1))
        (m' (c.tc.loc GatedRetGradIdeal.main_arg2))
        (m' (c.tc.loc GatedRetGradIdeal.main_arg3)) = _
      rw [g0, g1, g2, g3]
      funext y
      rw [eq_ix2 y]
      exact GatedRetGradIdeal.Ref.do_ref _ _ _ _ (y 0) (y 1)
    · show GatedRetGradIdeal.Read.val_main_v60 (F := Ideal) (m' (c.tc.loc GatedRetGradIdeal.main_arg0))
        (m' (c.tc.loc GatedRetGradIdeal.main_arg1))
        (m' (c.tc.loc GatedRetGradIdeal.main_arg2))
        (m' (c.tc.loc GatedRetGradIdeal.main_arg3)) = _
      rw [g0, g1, g2, g3]
      funext y
      rw [eq_ix2 y]
      exact GatedRetGradIdeal.Ref.dg_ref _ _ _ _ (y 0) (y 1)
    · show GatedRetGradIdeal.Read.val_main_v41 (F := Ideal) (m' (c.tc.loc GatedRetGradIdeal.main_arg0))
        (m' (c.tc.loc GatedRetGradIdeal.main_arg1))
        (m' (c.tc.loc GatedRetGradIdeal.main_arg3)) = _
      rw [g0, g1, g3]
      funext y
      have e : y = ix2 0 (y 1) := by
        funext a
        match a with
        | ⟨0, _⟩ => exact Fin.ext (by have : (y 0).val < 1 := (y 0).isLt; show (y 0).val = 0; omega)
        | ⟨1, _⟩ => rfl
      rw [e]
      exact GatedRetGradIdeal.Ref.dn_ref _ _ _ (y 1)

end Cert.Proof.MixrBwd

end
-- ==== Proof.MixgClaims.lean ====
/- The gated norm as the kernel computes it and as the reference does. -/
module

public import proofs.«01_k».proof.Proof.MixSpec
public import proofs.«01_k».proof.Proof.Gen.MixgIdeal.Value
public import proofs.«01_k».proof.Proof.Gen.GatedGlaIdeal.Run
public import proofs.«01_k».proof.Proof.Gen.GatedGlaIdeal.Read
public import proofs.«01_k».proof.Defs
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.MixgIdeal.Body
open Idealize.ShloMosaic.Pipeline (Dat)
open Cert.MixgIdeal.Gen Cert.MixgIdeal.Value Cert.AttSpec Cert.ConvSpec Cert.MixSpec

section
variable (n : Vec Ideal S1x128 .f32) (x g : Vec Ideal S256x128 .f32) (r : Fin 256) (j : Fin 128)

theorem mix0 : (k0_pay2 n x g (ix2 r j) : EReal) = mix (row x r) (row n 0) (row g r) j := by
  pointwise [k0_pay1, k0_pay2, k0_pay3, k0_pay4, k0_pay5]
  simp only [zero_sub]
  rfl

theorem mix128 : (k0_pay4 n x g (k0_pay3 x) (ix2 r j) : EReal) = mix (row x r) (row n 0) (row g r) j := by
  pointwise [k0_pay1, k0_pay2, k0_pay3, k0_pay4, k0_pay5]
  simp only [zero_sub]
  rfl

theorem mix256 : (k0_pay5 n x g (ix2 r j) : EReal) = mix (row x r) (row n 0) (row g r) j := by
  pointwise [k0_pay1, k0_pay2, k0_pay3, k0_pay4, k0_pay5]
  simp only [zero_sub]
  rfl

theorem mix384 : (k0_pay1 n x g (ix2 r j) : EReal) = mix (row x r) (row n 0) (row g r) j := by
  pointwise [k0_pay1, k0_pay2, k0_pay3, k0_pay4, k0_pay5]
  simp only [zero_sub]
  rfl

end

theorem hz : (![0, 0] : Fin 2 → Nat) = fun _ => 0 := funext fun a => by fin_cases a <;> rfl

section
variable (x0 x1 : (⟨2, ![256, 512]⟩ : Shape).Idx → EReal) (x2 : (⟨2, ![1, 128]⟩ : Shape).Idx → EReal)

/-- A block's gated norm. -/
def tMix : (⟨2, ![256, 512]⟩ : Shape).Idx → EReal := fun y =>
  mix (hd x0 (y 0).val ((y 1).val / 128 * 128)) (row x2 0) (hd x1 (y 0).val ((y 1).val / 128 * 128)) ⟨(y 1).val % 128, Nat.mod_lt _ (by decide)⟩

theorem tMix_at (k : Nat) (hk : k < 4) (r : Fin 256) (j : Fin 128) (y : (⟨2, ![256, 512]⟩ : Shape).Idx) (h0 : (y 0).val = r.val)
    (h1 : (y 1).val = k * 128 + j.val) (A G : Fin 128 → EReal) (hA : A = hd x0 r.val (k * 128)) (hG : G = hd x1 r.val (k * 128)) :
    mix A (row x2 0) G j = tMix x0 x1 x2 y := by
  subst hA hG
  unfold tMix
  have e1 : (y 1).val / 128 = k := by omega
  have e2 : (⟨(y 1).val % 128, Nat.mod_lt _ (by decide)⟩ : Fin 128) = j := Fin.ext (by show (y 1).val % 128 = j.val; omega)
  rw [e2, e1, h0]
end

theorem out0_A_3_eq (c : Dev nD) (i : grid0.Coords)
    (a1 : Memref sig .tc .vmem S256x512 .f32) (h1 : a1.IsWhole) (a2 : Memref sig .tc .vmem S256x512 .f32) (h2 : a2.IsWhole)
    (a3 : Memref sig .tc .vmem S1x128 .f32) (h3 : a3.IsWhole) (a4 : Memref sig .tc .vmem S256x512 .bf16) (h4 : a4.IsWhole)
    (x0 x1 : Vec Ideal S256x512 .f32) (x2 : Vec Ideal S1x128 .f32) (y) :
    (out0_A_3 (F := Ideal) c i a1 h1 a2 h2 a3 h3 a4 h4 x0 x1 x2 y : EReal) = tMix x0 x1 x2 y := by
  unfold out0_A_3
  rw [View.read_writes_eq_canon _ _ _ (cover0_A_3 c i a1 h1 a2 h2 a3 h3 a4 h4 x0 x1 x2)]
  refine View.canon_apply_of_pieces (tMix x0 x1 x2) _ ?_ _ (cover0_A_3 c i a1 h1 a2 h2 a3 h3 a4 h4 x0 x1 x2 _)
  unfold kernelRun0_A
  dsimp only
  sl_unfold_words
  simp only [View.readAt_eq_ld, h1.read_unread, h2.read_unread, h3.read_unread, View.ld_unit_zero (S := S1x128) hz]
  simp only [List.mem_cons, List.not_mem_nil, or_false, forall_eq_or_imp, forall_eq]
  refine ⟨?_, ?_, ?_, ?_⟩ <;> intro y <;> idx_vars y
  · refine (mix384 x2 _ _ y0 y1).trans (tMix_at x0 x1 x2 3 (by omega) y0 y1 _ (at0 _) (atk 3 _) _ _ (row_ld x0 384 _ y0) (row_ld x1 384 _ y0))
  · refine (mix256 x2 _ _ y0 y1).trans (tMix_at x0 x1 x2 2 (by omega) y0 y1 _ (at0 _) (atk 2 _) _ _ (row_ld x0 256 _ y0) (row_ld x1 256 _ y0))
  · refine (mix128 x2 _ _ y0 y1).trans (tMix_at x0 x1 x2 1 (by omega) y0 y1 _ (at0 _) (atk 1 _) _ _ (row_ld x0 128 _ y0) (row_ld x1 128 _ y0))
  · refine (mix0 x2 _ _ y0 y1).trans (tMix_at x0 x1 x2 0 (by omega) y0 y1 _ (at0 _) (atk 0 _) _ _ (row_ld x0 0 _ y0) (row_ld x1 0 _ y0))

variable (m : (ℓ : Loc nD τ sig) → Buf (Elt Ideal) ℓ)

/-- The three arguments on a device. -/
abbrev az (c : Dev nD) : Vec Ideal S2304x5376 .f32 := m ((c : Thread nD τ).loc main_arg0)
abbrev ao (c : Dev nD) : Vec Ideal S2304x512 .f32 := m ((c : Thread nD τ).loc main_arg1)
abbrev an (c : Dev nD) : Vec Ideal S1x128 .f32 := m ((c : Thread nD τ).loc main_arg2)

theorem idx0 : ∀ t : Fin grid0.N, win0_0.index t 0 = t.val ∧ win0_0.index t 1 = 0 := by decide +kernel
theorem idx1 : ∀ t : Fin grid0.N, win0_1.index t 0 = t.val ∧ win0_1.index t 1 = 9 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel

theorem ltN (t : Fin cfg0.N) : t.val < 9 := lt_of_lt_of_eq t.isLt Gen.N_0

theorem blk0 (c : Dev nD) (t : Fin cfg0.N) (r : Fin 256) (n : Fin 512) :
    (iblk m c 0 t (ix2 r n) : EReal) = rd (a := 2304) (b := 512) (ao m c) (t.val * 256 + r.val) (0 + n.val) := by
  have ht := ltN t
  rw [rd_eq _ _ _ (by omega) (by omega)]
  unfold iblk
  rw [View.read_apply]
  show V m c main_arg1 _ = m (c.tc.loc main_arg1) _
  rw [V_main_arg1]
  congr 1
  funext a
  apply Fin.ext
  match a with
  | ⟨0, _⟩ => show win0_0.index t 0 * 256 + 1 * r.val = t.val * 256 + r.val; rw [(idx0 t).1]; omega
  | ⟨1, _⟩ => show win0_0.index t 1 * 512 + 1 * n.val = 0 + n.val; rw [(idx0 t).2]; omega

theorem blk1 (c : Dev nD) (t : Fin cfg0.N) (r : Fin 256) (n : Fin 512) :
    (X0_1 m c t (ix2 r n) : EReal) = rd (a := 2304) (b := 5376) (az m c) (t.val * 256 + r.val) (4608 + n.val) := by
  have ht := ltN t
  rw [rd_eq _ _ _ (by omega) (by omega)]
  unfold X0_1 Pipeline.Window.fill
  rw [dif_pos (moved0_1 t _)]
  unfold iblk
  rw [View.read_apply]
  show V m c main_arg0 _ = m (c.tc.loc main_arg0) _
  rw [V_main_arg0]
  congr 1
  funext a
  apply Fin.ext
  match a with
  | ⟨0, _⟩ => show win0_1.index t 0 * 256 + 1 * r.val = t.val * 256 + r.val; rw [(idx1 t).1]; omega
  | ⟨1, _⟩ => show win0_1.index t 1 * 512 + 1 * n.val = 4608 + n.val; rw [(idx1 t).2]; omega

theorem blk2 (c : Dev nD) (t : Fin cfg0.N) : row (iblk m c 2 t) 0 = row (an m c) 0 := by
  funext l
  show (iblk m c 2 t (ix2 0 l) : EReal) = an m c (ix2 0 l)
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 0; rw [(idx2 t).1]
  | ⟨1, _⟩ => show win0_2.index t 1 * 128 + 1 * l.val = l.val; rw [(idx2 t).2]; omega

theorem hd0 (c : Dev nD) (t : Fin cfg0.N) (r : Nat) (hr : r < 256) (k : Nat) (hk : k + 128 ≤ 512) :
    hd (a := 256) (b := 512) (iblk m c 0 t) r k = hd (a := 2304) (b := 512) (ao m c) (t.val * 256 + r) k :=
  (hd_of (a := 256) (b := 512) _ (ao m c) r (t.val * 256 + r) k 0 hr hk fun n => blk0 m c t ⟨r, hr⟩ n).trans (by rw [Nat.zero_add])

theorem hd1 (c : Dev nD) (t : Fin cfg0.N) (r : Nat) (hr : r < 256) (k : Nat) (hk : k + 128 ≤ 512) :
    hd (a := 256) (b := 512) (X0_1 m c t) r k = hd (a := 2304) (b := 5376) (az m c) (t.val * 256 + r) (4608 + k) :=
  hd_of (a := 256) (b := 512) _ (az m c) r (t.val * 256 + r) k 4608 hr hk fun n => blk1 m c t ⟨r, hr⟩ n

theorem tMix_eq (c : Dev nD) (t : Fin cfg0.N) (r : Fin 256) (q : Fin 512) :
    tMix (iblk m c 0 t) (X0_1 m c t) (iblk m c 2 t) (ix2 r q) = aMix 4608 (az m c) (ao m c) (an m c) (t.val * 256 + r.val) q.val := by
  unfold tMix aMix
  rw [blk2 m c t]
  show mix (hd (a := 256) (b := 512) (iblk m c 0 t) r.val (q.val / 128 * 128)) _ (hd (a := 256) (b := 512) (X0_1 m c t) r.val (q.val / 128 * 128)) _ = _
  rw [hd0 m c t _ r.isLt _ (by omega), hd1 m c t _ r.isLt _ (by omega)]
  rfl

/-- The gated norm of the whole array. -/
def resM (c : Dev nD) : Vec Ideal S2304x512 .bf16 := fun y => aMix 4608 (az m c) (ao m c) (an m c) (y 0).val (y 1).val

theorem flushed3_eq (c : Dev nD) (t : Fin cfg0.N) (hf : (cfg0.win 3).flush t = true) :
    (dats m 0 c).flushed 3 t = ((cfg0.win 3).blk t).view.read (Elt Ideal) (resM m c) := by
  rw [flushed3_A]
  funext y
  rw [View.read_apply]
  have ht := ltN t
  have hy0 : (y 0).val < 256 := (y 0).isLt
  have hy1 : (y 1).val < 512 := (y 1).isLt
  refine Eq.trans (out0_A_3_eq c _ _ _ _ _ _ _ _ _ (iblk m c 0 t) (X0_1 m c t) (iblk m c 2 t) _) ?_
  refine Eq.trans (congrArg _ ?_) ((tMix_eq m c t ⟨(y 0).val, hy0⟩ ⟨(y 1).val, hy1⟩).trans ?_)
  · funext a; match a with
    | ⟨0, _⟩ => rfl
    | ⟨1, _⟩ => rfl
  · show _ = aMix 4608 _ _ _ (win0_3.index t 0 * 256 + 1 * (y 0).val) (win0_3.index t 1 * 512 + 1 * (y 1).val)
    rw [(idx3 t).1, (idx3 t).2, Nat.one_mul, Nat.one_mul, Nat.zero_mul, Nat.zero_add]

theorem final3 (c : Dev nD) : (dats m 0 c).arrAt 3 cfg0.N = resM m c :=
  (dats m 0 c).arrAt_eq_of_cover 3 (resM m c) (flushed3_eq m c) fun i => by
    have hi0 : (i 0).val < 2304 := (i 0).isLt
    have hi1 : (i 1).val < 512 := (i 1).isLt
    refine ⟨⟨(i 0).val / 256, by show _ < grid0.N; rw [Gen.N_0]; omega⟩, flush0_3 _, ?_⟩
    generalize ht : (⟨(i 0).val / 256, _⟩ : Fin grid0.N) = t
    have ht' : t.val = (i 0).val / 256 := by rw [← ht]
    show i ∈ ((View.whole main_v0).slice (win0_3.rect t)).set
    rw [View.set_slice_whole, Rect.mem_set_unit]
    intro a
    match a with
    | ⟨0, _⟩ => exact mem_box 256 (i 0).val (idx3 t).1 (by omega)
    | ⟨1, _⟩ => exact mem_box 512 (i 1).val (idx3 t).2 (by omega)

end Cert.MixgIdeal.Body

namespace Cert.GatedGlaIdeal.Ref
open Cert.GatedGlaIdeal.Gen Cert.GatedGlaIdeal.Read Cert.AttSpec Cert.ConvSpec Cert.MixSpec

variable (x0 : Vec Ideal S2304x5376 .f32) (x1 : Vec Ideal S2304x512 .f32) (x2 : Vec Ideal S1x128 .f32)
  (h : Fin 4) (r : Fin 2304) (l : Fin 128)

/-- A head's rows of the two arrays. -/
abbrev O (h r : Nat) : Fin 128 → EReal := hd (a := 2304) (b := 512) x1 r (h * 128)
abbrev Z (r k : Nat) : Fin 128 → EReal := hd (a := 2304) (b := 5376) x0 r (4608 + k)

theorem o_eq : (val_main_v3 (F := Ideal) x1 (ix4 0 h r l) : EReal) = O x1 h.val r.val l := by
  have hh := h.isLt
  have hl := l.isLt
  refine Eq.trans ?_ (rd_eq (a := 2304) (b := 512) x1 r.val (h.val * 128 + l.val) r.isLt (by omega)).symm
  pointwise [val_main_v3, val_main_v2, val_main_v1]

theorem ms_eq : (val_main_v10 (F := Ideal) x1 (ix4 0 h r 0) : EReal) = ms (O x1 h.val r.val) := by
  pointwise [val_main_v10, val_main_v8, val_main_v6, val_main_v5, val_main_v4, val_main_cst, val_main_v7, val_main_cst_0, val_main_v9, val_main_cst_1]
  simp only [o_eq]
  rfl

theorem n_eq : (val_main_v16 (F := Ideal) x1 x2 (ix4 0 h r l) : EReal) = nrm (O x1 h.val r.val) l * row x2 0 l := by
  pointwise [val_main_v16, val_main_v15, val_main_v14, val_main_v13, val_main_v12, val_main_v11]
  rw [o_eq, ms_eq]
  rfl

theorem z_eq (q : Fin 512) : (val_main_v19 (F := Ideal) x0 (ix3 0 r q) : EReal) = rd (a := 2304) (b := 5376) x0 r.val (4608 + q.val) := by
  have hq := q.isLt
  refine Eq.trans ?_ (rd_eq (a := 2304) (b := 5376) x0 r.val (4608 + q.val) r.isLt (by omega)).symm
  pointwise [val_main_v19, val_main_v0]

theorem g_eq (q : Fin 512) : (val_main_v20 (F := Ideal) x0 (ix3 0 r q) : EReal)
    = rd (a := 2304) (b := 5376) x0 r.val (4608 + q.val) * sg (rd (a := 2304) (b := 5376) x0 r.val (4608 + q.val)) := by
  rw [← z_eq]
  pointwise [val_main_v20, val_main_call0_v5, val_main_call0_v4, val_main_call0_cst_0, val_main_call0_v3, val_main_call0_v2, val_main_call0_cst, val_main_call0_v1, val_main_call0_v0]
  rfl

theorem mix_ref (q : Fin 512) : (val_main_v23 (F := Ideal) x0 x1 x2 (ix2 r q) : EReal) = aMix 4608 x0 x1 x2 r.val q.val := by
  have hq := q.isLt
  pointwise [val_main_v23, val_main_v22, val_main_v21, val_main_v18, val_main_v17]
  rw [n_eq x1 x2 ⟨q.val / 128, by omega⟩ r ⟨q.val % 128, Nat.mod_lt _ (by decide)⟩, g_eq]
  unfold aMix mix
  have e : 4608 + q.val / 128 * 128 + q.val % 128 = 4608 + q.val := by omega
  show _ = nrm _ _ * _ * (rd (a := 2304) (b := 5376) x0 r.val (4608 + q.val / 128 * 128 + q.val % 128) * sg (rd (a := 2304) (b := 5376) x0 r.val (4608 + q.val / 128 * 128 + q.val % 128)))
  rw [e]

end Cert.GatedGlaIdeal.Ref

namespace Cert.Proof.Mixg
open Cert.AttSpec Cert.MixSpec

theorem frame_ref : quiescent_GatedGlaIdeal := fun m ρ _ =>
  (θ_run GatedGlaIdeal.defs _ _).mono (fun r h => ⟨fun c => (h c).2,
      sem_eq_zero_of_no_sems (by decide) r.2⟩)
    (GatedGlaIdeal.Value.run (F := Ideal) m ρ)

theorem algebraic : algebraic_MixgIdeal_GatedGlaIdeal := by
  intro m ρ m' ρ' _ hagree
  refine ⟨fun c => MixgIdeal.Body.resM m c, ?_, ?_⟩
  · refine (θ_run MixgIdeal.defs _ _).mono (fun _ h c => ?_) (MixgIdeal.Value.run_blocks (F := Ideal) m ρ)
    exact ⟨(h c).1.trans (MixgIdeal.Body.final3 m c), (h c).2⟩
  · refine (θ_run GatedGlaIdeal.defs _ _).mono (fun _ h c => ?_) (GatedGlaIdeal.Value.run (F := Ideal) m' ρ')
    obtain ⟨g0, g1, g2⟩ := hagree c
    refine ⟨((h c).1.trans (GatedGlaIdeal.Read.val_main_v23_eq _ _ _)).trans ?_, (h c).2⟩
    show GatedGlaIdeal.Read.val_main_v23 (F := Ideal) (m' (c.tc.loc GatedGlaIdeal.main_arg0))
      (m' (c.tc.loc GatedGlaIdeal.main_arg1))
      (m' (c.tc.loc GatedGlaIdeal.main_arg2)) = _
    rw [g0, g1, g2]
    funext y
    rw [eq_ix2 y]
    exact GatedGlaIdeal.Ref.mix_ref _ _ _ (y 0) (y 1)

end Cert.Proof.Mixg

end
-- ==== Proof.MixgBwdBody.lean ====
/- One head of the gated norm's gradient, as the kernel's values have it on a block's 256 rows. -/
module

public import proofs.«01_k».proof.Proof.MixSpec
public import proofs.«01_k».proof.Proof.Gen.MixgBwdIdeal.Value
public import Idealize.ShloMosaic.Lib.Pointwise

@[expose] public section

set_option maxRecDepth 16384

noncomputable section

namespace Cert.MixgBwdIdeal.Body

open Idealize.ShloMosaic Idealize.ShloMosaic.TcCoe Idealize.SL.Sem
open Cert.MixgBwdIdeal.Gen Cert.AttSpec Cert.ConvSpec Cert.MixSpec

variable (n : Vec Ideal S1x128 .f32) (x g : Vec Ideal S256x128 .f32) (d : Vec Ideal S256x128 .bf16) (r : Fin 256) (j : Fin 128)

theorem do0 : (k0_pay18 n x (k0_pay7 x) (k0_pay8 x) (k0_pay14 g d) (ix2 r j) : EReal) = dI (row x r) (row n 0) (thr (row g r) (row d r)) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  simp only [Fin.sum_univ_one, zero_sub]
  rfl

theorem dg0 : (k0_pay19 (k0_pay15 n x g d) (k0_pay16 n x g d) (ix2 r j) : EReal) = dG (row x r) (row n 0) (row g r) (row d r) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  exact congrArg₂ (fun s t : EReal => _ * s + t) (by rw [zero_sub]; rfl) (sg_slope _ _)

theorem do128 : (k0_pay35 (k0_pay33 n x g (k0_pay20 d) (k0_pay22 x) (k0_pay23 x) (FloatOps.ofBits .f32 3204448256#32)) (k0_pay34 n x g (k0_pay20 d) (k0_pay23 x) (FloatOps.ofBits .f32 3204448256#32)) (ix2 r j) : EReal) = dI (row x r) (row n 0) (thr (row g r) (row d r)) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  simp only [Fin.sum_univ_one, zero_sub]
  rfl

theorem dg128 : (k0_pay36 (k0_pay29 n x g (k0_pay20 d) (k0_pay22 x)) (ix2 r j) : EReal) = dG (row x r) (row n 0) (row g r) (row d r) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  exact congrArg₂ (fun s t : EReal => _ * s + t) (by rw [zero_sub]; rfl) (sg_slope _ _)

theorem do256 : (k0_pay50 n x (k0_pay40 x) (k0_pay41 x) (k0_pay47 g d) (ix2 r j) : EReal) = dI (row x r) (row n 0) (thr (row g r) (row d r)) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  simp only [Fin.sum_univ_one, zero_sub]
  rfl

theorem dg256 : (k0_pay51 (k0_pay43 g) (k0_pay48 n x g d) (k0_pay49 n x g d) (ix2 r j) : EReal) = dG (row x r) (row n 0) (row g r) (row d r) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  exact congrArg₂ (fun s t : EReal => _ * s + t) (by rw [zero_sub]; rfl) (sg_slope _ _)

theorem do384 : (k0_pay1 x (k0_pay65 n g (k0_pay53 d) (k0_pay54 x) (FloatOps.ofBits .f32 1124073472#32)) (k0_pay66 n x g (k0_pay53 d) (k0_pay54 x) (FloatOps.ofBits .f32 1124073472#32)) k0_pay67 (ix2 r j) : EReal) = dI (row x r) (row n 0) (thr (row g r) (row d r)) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  simp only [Fin.sum_univ_one, zero_sub]
  rfl

theorem dg384 : (k0_pay2 (k0_pay62 n x g (k0_pay53 d) (k0_pay54 x) (FloatOps.ofBits .f32 1124073472#32)) (ix2 r j) : EReal) = dG (row x r) (row n 0) (row g r) (row d r) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2]
  exact congrArg₂ (fun s t : EReal => _ * s + t) (by rw [zero_sub]; rfl) (sg_slope _ _)

variable (x6 : Vec Ideal S1x128 .f32) (xa ga xb gb xc gc xd gd : Vec Ideal S256x128 .f32) (da db dc dd : Vec Ideal S256x128 .bf16)

theorem dnA : (k0_pay3 (k0_pay52 (k0_pay37 (k0_pay17 (k0_pay9 xa) (k0_pay14 ga da)) (k0_pay30 xb gb (k0_pay20 db) (k0_pay22 xb))) (k0_pay42 xc) (k0_pay47 gc dc)) (k0_pay63 xd gd (k0_pay53 dd) (k0_pay54 xd) (FloatOps.ofBits .f32 1124073472#32)) (ix2 0 j) : EReal) = (∑ r, dN (row xa r) (row ga r) (row da r) j) + (∑ r, dN (row xb r) (row gb r) (row db r) j) + (∑ r, dN (row xc r) (row gc r) (row dc r) j) + ∑ r, dN (row xd r) (row gd r) (row dd r) j := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2, k0_pay3]
  simp only [zero_sub]
  rfl

theorem dnB : (k0_pay4 (k0_pay52 (k0_pay37 (k0_pay17 (k0_pay9 xa) (k0_pay14 ga da)) (k0_pay30 xb gb (k0_pay20 db) (k0_pay22 xb))) (k0_pay42 xc) (k0_pay47 gc dc)) (k0_pay63 xd gd (k0_pay53 dd) (k0_pay54 xd) (FloatOps.ofBits .f32 1124073472#32)) x6 (ix2 0 j) : EReal) = x6 (ix2 0 j) + ((∑ r, dN (row xa r) (row ga r) (row da r) j) + (∑ r, dN (row xb r) (row gb r) (row db r) j) + (∑ r, dN (row xc r) (row gc r) (row dc r) j) + ∑ r, dN (row xd r) (row gd r) (row dd r) j) := by
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, k0_pay2, k0_pay3, k0_pay4]
  simp only [zero_sub]
  rfl

end Cert.MixgBwdIdeal.Body

end
-- ==== Proof.MixgBwdTile.lean ====
/- What one grid point of the gated norm's gradient leaves in its output blocks. -/
module

public import proofs.«01_k».proof.Proof.MixgBwdBody
public import Idealize.ShloMosaic.Lib.Pipeline.ValueKit.Acc

@[expose] public section

set_option maxRecDepth 16384

noncomputable section

namespace Cert.MixgBwdIdeal.Body

open Idealize.ShloMosaic Idealize.ShloMosaic.TcCoe Idealize.SL.Sem
open Cert.MixgBwdIdeal.Gen Cert.MixgBwdIdeal.Value Cert.AttSpec Cert.ConvSpec Cert.MixSpec

theorem hz : (![0, 0] : Fin 2 → Nat) = fun _ => 0 := funext fun a => by fin_cases a <;> rfl

section
variable (x0 x1 : (⟨2, ![256, 512]⟩ : Shape).Idx → EReal) (x2 : (⟨2, ![1, 128]⟩ : Shape).Idx → EReal) (x3 : (⟨2, ![256, 512]⟩ : Shape).Idx → EReal)

/-- The gradient of a block's normed rows. -/
def tDo : (⟨2, ![256, 512]⟩ : Shape).Idx → EReal := fun y =>
  dI (hd x0 (y 0).val ((y 1).val / 128 * 128)) (row x2 0)
    (thr (hd x1 (y 0).val ((y 1).val / 128 * 128)) (hd x3 (y 0).val ((y 1).val / 128 * 128))) ⟨(y 1).val % 128, Nat.mod_lt _ (by decide)⟩

/-- The gradient of a block's gates. -/
def tDg : (⟨2, ![256, 512]⟩ : Shape).Idx → EReal := fun y =>
  dG (hd x0 (y 0).val ((y 1).val / 128 * 128)) (row x2 0)
    (hd x1 (y 0).val ((y 1).val / 128 * 128)) (hd x3 (y 0).val ((y 1).val / 128 * 128)) ⟨(y 1).val % 128, Nat.mod_lt _ (by decide)⟩

/-- A block's part of the gradient of the norm's weights. -/
def tDn (j : Fin 128) : EReal :=
  (∑ r : Fin 256, dN (hd x0 r.val 0) (hd x1 r.val 0) (hd x3 r.val 0) j)
    + (∑ r : Fin 256, dN (hd x0 r.val 128) (hd x1 r.val 128) (hd x3 r.val 128) j)
    + (∑ r : Fin 256, dN (hd x0 r.val 256) (hd x1 r.val 256) (hd x3 r.val 256) j)
    + ∑ r : Fin 256, dN (hd x0 r.val 384) (hd x1 r.val 384) (hd x3 r.val 384) j

theorem tDo_at (k : Nat) (hk : k < 4) (r : Fin 256) (j : Fin 128) (y : (⟨2, ![256, 512]⟩ : Shape).Idx) (h0 : (y 0).val = r.val)
    (h1 : (y 1).val = k * 128 + j.val) (A G D : Fin 128 → EReal) (hA : A = hd x0 r.val (k * 128)) (hG : G = hd x1 r.val (k * 128))
    (hD : D = hd x3 r.val (k * 128)) : dI A (row x2 0) (thr G D) j = tDo x0 x1 x2 x3 y := by
  subst hA hG hD
  unfold tDo
  have e1 : (y 1).val / 128 = k := by omega
  have e2 : (⟨(y 1).val % 128, Nat.mod_lt _ (by decide)⟩ : Fin 128) = j := Fin.ext (by show (y 1).val % 128 = j.val; omega)
  rw [e2, e1, h0]

theorem tDg_at (k : Nat) (hk : k < 4) (r : Fin 256) (j : Fin 128) (y : (⟨2, ![256, 512]⟩ : Shape).Idx) (h0 : (y 0).val = r.val)
    (h1 : (y 1).val = k * 128 + j.val) (A G D : Fin 128 → EReal) (hA : A = hd x0 r.val (k * 128)) (hG : G = hd x1 r.val (k * 128))
    (hD : D = hd x3 r.val (k * 128)) : dG A (row x2 0) G D j = tDg x0 x1 x2 x3 y := by
  subst hA hG hD
  unfold tDg
  have e1 : (y 1).val / 128 = k := by omega
  have e2 : (⟨(y 1).val % 128, Nat.mod_lt _ (by decide)⟩ : Fin 128) = j := Fin.ext (by show (y 1).val % 128 = j.val; omega)
  rw [e2, e1, h0]
end

section
variable (c : Dev nD) (i : grid0.Coords)
  (a2 : Memref sig .tc .vmem S256x512 .f32) (h2 : a2.IsWhole) (a3 : Memref sig .tc .vmem S256x512 .f32) (h3 : a3.IsWhole)
  (a4 : Memref sig .tc .vmem S1x128 .f32) (h4 : a4.IsWhole) (a5 : Memref sig .tc .vmem S256x512 .bf16) (h5 : a5.IsWhole)
  (a6 : Memref sig .tc .vmem S256x512 .f32) (h6 : a6.IsWhole) (a7 : Memref sig .tc .vmem S256x512 .bf16) (h7 : a7.IsWhole)
  (a8 : Memref sig .tc .vmem S1x128 .f32) (h8 : a8.IsWhole)
  (x0 x1 : Vec Ideal S256x512 .f32) (x2 : Vec Ideal S1x128 .f32) (x3 : Vec Ideal S256x512 .bf16) (x6 : Vec Ideal S1x128 .f32)

theorem out0_A_4_eq (hc0 : cond0_0 i) (hc1 : ¬cond0_1 i) (y) : (out0_A_4 (F := Ideal) c i a2 h2 a3 h3 a4 h4 a5 h5 a6 h6 a7 h7 a8 h8 hc0 hc1 x0 x1 x2 x3 y : EReal) = tDo x0 x1 x2 x3 y := by
  unfold out0_A_4
  rw [View.read_writes_eq_canon _ _ _ (cover0_A_4 c i a2 h2 a3 h3 a4 h4 a5 h5 a6 h6 a7 h7 a8 h8 hc0 hc1 x0 x1 x2 x3)]
  refine View.canon_apply_of_pieces (tDo x0 x1 x2 x3) _ ?_ _ (cover0_A_4 c i a2 h2 a3 h3 a4 h4 a5 h5 a6 h6 a7 h7 a8 h8 hc0 hc1 x0 x1 x2 x3 _)
  unfold kernelRun0_A
  dsimp only
  sl_unfold_words
  simp only [View.readAt_eq_ld, h2.read_unread, h3.read_unread, h4.read_unread, h5.read_unread, h7.read_unread, h8.read_unread, View.ld_unit_zero (S := S1x128) hz]
  simp only [List.mem_cons, List.not_mem_nil, or_false, forall_eq_or_imp, forall_eq]
  refine ⟨?_, ?_, ?_, ?_⟩ <;> intro y <;> idx_vars y
  · refine (do384 x2 _ _ _ y0 y1).trans (tDo_at x0 x1 x2 x3 3 (by omega) y0 y1 _ (at0 _) (atk 3 _) _ _ _ (row_ld x0 384 _ y0) (row_ld x1 384 _ y0) (row_ld16 x3 384 _ y0))
  · refine (do256 x2 _ _ _ y0 y1).trans (tDo_at x0 x1 x2 x3 2 (by omega) y0 y1 _ (at0 _) (atk 2 _) _ _ _ (row_ld x0 256 _ y0) (row_ld x1 256 _ y0) (row_ld16 x3 256 _ y0))
  · refine (do128 x2 _ _ _ y0 y1).trans (tDo_at x0 x1 x2 x3 1 (by omega) y0 y1 _ (at0 _) (atk 1 _) _ _ _ (row_ld x0 128 _ y0) (row_ld x1 128 _ y0) (row_ld16 x3 128 _ y0))
  · refine (do0 x2 _ _ _ y0 y1).trans (tDo_at x0 x1 x2 x3 0 (by omega) y0 y1 _ (at0 _) (atk 0 _) _ _ _ (row_ld x0 0 _ y0) (row_ld x1 0 _ y0) (row_ld16 x3 0 _ y0))

theorem out0_A_5_eq (hc0 : cond0_0 i) (hc1 : ¬cond0_1 i) (y) : (out0_A_5 (F := Ideal) c i a2 h2 a3 h3 a4 h4 a5 h5 a6 h6 a7 h7 a8 h8 hc0 hc1 x0 x1 x2 x3 y : EReal) = tDg x0 x1 x2 x3 y := by
  unfold out0_A_5
  rw [View.read_writes_eq_canon _ _ _ (cover0_A_5 c i a2 h2 a3 h3 a4 h4 a5 h5 a6 h6 a7 h7 a8 h8 hc0 hc1 x0 x1 x2 x3)]
  refine View.canon_apply_of_pieces (tDg x0 x1 x2 x3) _ ?_ _ (cover0_A_5 c i a2 h2 a3 h3 a4 h4 a5 h5 a6 h6 a7 h7 a8 h8 hc0 hc1 x0 x1 x2 x3 _)
  unfold kernelRun0_A
  dsimp only
  sl_unfold_words
  simp only [View.readAt_eq_ld, h2.read_unread, h3.read_unread, h4.read_unread, h5.read_unread, h7.read_unread, h8.read_unread, View.ld_unit_zero (S := S1x128) hz]
  simp only [List.mem_cons, List.not_mem_nil, or_false, forall_eq_or_imp, forall_eq]
  refine ⟨?_, ?_, ?_, ?_⟩ <;> intro y <;> idx_vars y
  · refine (dg384 x2 _ _ _ y0 y1).trans (tDg_at x0 x1 x2 x3 3 (by omega) y0 y1 _ (at0 _) (atk 3 _) _ _ _ (row_ld x0 384 _ y0) (row_ld x1 384 _ y0) (row_ld16 x3 384 _ y0))
  · refine (dg256 x2 _ _ _ y0 y1).trans (tDg_at x0 x1 x2 x3 2 (by omega) y0 y1 _ (at0 _) (atk 2 _) _ _ _ (row_ld x0 256 _ y0) (row_ld x1 256 _ y0) (row_ld16 x3 256 _ y0))
  · refine (dg128 x2 _ _ _ y0 y1).trans (tDg_at x0 x1 x2 x3 1 (by omega) y0 y1 _ (at0 _) (atk 1 _) _ _ _ (row_ld x0 128 _ y0) (row_ld x1 128 _ y0) (row_ld16 x3 128 _ y0))
  · refine (dg0 x2 _ _ _ y0 y1).trans (tDg_at x0 x1 x2 x3 0 (by omega) y0 y1 _ (at0 _) (atk 0 _) _ _ _ (row_ld x0 0 _ y0) (row_ld x1 0 _ y0) (row_ld16 x3 0 _ y0))

theorem out0_A_6_eq (hc0 : cond0_0 i) (hc1 : ¬cond0_1 i) (j : Fin 128) : (out0_A_6 (F := Ideal) c i a2 h2 a3 h3 a4 h4 a5 h5 a6 h6 a7 h7 a8 h8 hc0 hc1 x0 x1 x2 x3 (ix2 0 j) : EReal) = tDn x0 x1 x3 j := by
  unfold out0_A_6
  rw [View.read_writes_eq_canon _ _ _ (cover0_A_6 c i a2 h2 a3 h3 a4 h4 a5 h5 a6 h6 a7 h7 a8 h8 hc0 hc1 x0 x1 x2 x3)]
  unfold kernelRun0_A
  dsimp only
  sl_unfold_words
  rw [View.canon_unit_zero hz]
  simp only [View.readAt_eq_ld, h2.read_unread, h3.read_unread, h4.read_unread, h5.read_unread, h7.read_unread, h8.read_unread, View.ld_unit_zero (S := S1x128) hz]
  refine (dnA j _ _ _ _ _ _ _ _ _ _ _ _).trans ?_
  unfold tDn
  simp only [row_ld, row_ld16]

theorem out0_B_4_eq (hc0 : ¬cond0_0 i) (hc1 : cond0_1 i) (y) : (out0_B_4 (F := Ideal) c i a2 h2 a3 h3 a4 h4 a5 h5 a6 h6 a7 h7 a8 h8 hc0 hc1 x0 x1 x2 x3 x6 y : EReal) = tDo x0 x1 x2 x3 y := by
  unfold out0_B_4
  rw [View.read_writes_eq_canon _ _ _ (cover0_B_4 c i a2 h2 a3 h3 a4 h4 a5 h5 a6 h6 a7 h7 a8 h8 hc0 hc1 x0 x1 x2 x3 x6)]
  refine View.canon_apply_of_pieces (tDo x0 x1 x2 x3) _ ?_ _ (cover0_B_4 c i a2 h2 a3 h3 a4 h4 a5 h5 a6 h6 a7 h7 a8 h8 hc0 hc1 x0 x1 x2 x3 x6 _)
  unfold kernelRun0_B
  dsimp only
  sl_unfold_words
  simp only [View.readAt_eq_ld, h2.read_unread, h3.read_unread, h4.read_unread, h5.read_unread, h7.read_unread, h8.read_unread, View.ld_unit_zero (S := S1x128) hz]
  simp only [List.mem_cons, List.not_mem_nil, or_false, forall_eq_or_imp, forall_eq]
  refine ⟨?_, ?_, ?_, ?_⟩ <;> intro y <;> idx_vars y
  · refine (do384 x2 _ _ _ y0 y1).trans (tDo_at x0 x1 x2 x3 3 (by omega) y0 y1 _ (at0 _) (atk 3 _) _ _ _ (row_ld x0 384 _ y0) (row_ld x1 384 _ y0) (row_ld16 x3 384 _ y0))
  · refine (do256 x2 _ _ _ y0 y1).trans (tDo_at x0 x1 x2 x3 2 (by omega) y0 y1 _ (at0 _) (atk 2 _) _ _ _ (row_ld x0 256 _ y0) (row_ld x1 256 _ y0) (row_ld16 x3 256 _ y0))
  · refine (do128 x2 _ _ _ y0 y1).trans (tDo_at x0 x1 x2 x3 1 (by omega) y0 y1 _ (at0 _) (atk 1 _) _ _ _ (row_ld x0 128 _ y0) (row_ld x1 128 _ y0) (row_ld16 x3 128 _ y0))
  · refine (do0 x2 _ _ _ y0 y1).trans (tDo_at x0 x1 x2 x3 0 (by omega) y0 y1 _ (at0 _) (atk 0 _) _ _ _ (row_ld x0 0 _ y0) (row_ld x1 0 _ y0) (row_ld16 x3 0 _ y0))

theorem out0_B_5_eq (hc0 : ¬cond0_0 i) (hc1 : cond0_1 i) (y) : (out0_B_5 (F := Ideal) c i a2 h2 a3 h3 a4 h4 a5 h5 a6 h6 a7 h7 a8 h8 hc0 hc1 x0 x1 x2 x3 x6 y : EReal) = tDg x0 x1 x2 x3 y := by
  unfold out0_B_5
  rw [View.read_writes_eq_canon _ _ _ (cover0_B_5 c i a2 h2 a3 h3 a4 h4 a5 h5 a6 h6 a7 h7 a8 h8 hc0 hc1 x0 x1 x2 x3 x6)]
  refine View.canon_apply_of_pieces (tDg x0 x1 x2 x3) _ ?_ _ (cover0_B_5 c i a2 h2 a3 h3 a4 h4 a5 h5 a6 h6 a7 h7 a8 h8 hc0 hc1 x0 x1 x2 x3 x6 _)
  unfold kernelRun0_B
  dsimp only
  sl_unfold_words
  simp only [View.readAt_eq_ld, h2.read_unread, h3.read_unread, h4.read_unread, h5.read_unread, h7.read_unread, h8.read_unread, View.ld_unit_zero (S := S1x128) hz]
  simp only [List.mem_cons, List.not_mem_nil, or_false, forall_eq_or_imp, forall_eq]
  refine ⟨?_, ?_, ?_, ?_⟩ <;> intro y <;> idx_vars y
  · refine (dg384 x2 _ _ _ y0 y1).trans (tDg_at x0 x1 x2 x3 3 (by omega) y0 y1 _ (at0 _) (atk 3 _) _ _ _ (row_ld x0 384 _ y0) (row_ld x1 384 _ y0) (row_ld16 x3 384 _ y0))
  · refine (dg256 x2 _ _ _ y0 y1).trans (tDg_at x0 x1 x2 x3 2 (by omega) y0 y1 _ (at0 _) (atk 2 _) _ _ _ (row_ld x0 256 _ y0) (row_ld x1 256 _ y0) (row_ld16 x3 256 _ y0))
  · refine (dg128 x2 _ _ _ y0 y1).trans (tDg_at x0 x1 x2 x3 1 (by omega) y0 y1 _ (at0 _) (atk 1 _) _ _ _ (row_ld x0 128 _ y0) (row_ld x1 128 _ y0) (row_ld16 x3 128 _ y0))
  · refine (dg0 x2 _ _ _ y0 y1).trans (tDg_at x0 x1 x2 x3 0 (by omega) y0 y1 _ (at0 _) (atk 0 _) _ _ _ (row_ld x0 0 _ y0) (row_ld x1 0 _ y0) (row_ld16 x3 0 _ y0))

theorem out0_B_6_eq (hc0 : ¬cond0_0 i) (hc1 : cond0_1 i) (j : Fin 128) : (out0_B_6 (F := Ideal) c i a2 h2 a3 h3 a4 h4 a5 h5 a6 h6 a7 h7 a8 h8 hc0 hc1 x0 x1 x2 x3 x6 (ix2 0 j) : EReal) = x6 (ix2 0 j) + tDn x0 x1 x3 j := by
  unfold out0_B_6
  rw [View.read_writes_eq_canon _ _ _ (cover0_B_6 c i a2 h2 a3 h3 a4 h4 a5 h5 a6 h6 a7 h7 a8 h8 hc0 hc1 x0 x1 x2 x3 x6)]
  unfold kernelRun0_B
  dsimp only
  sl_unfold_words
  rw [View.canon_unit_zero hz]
  simp only [View.readAt_eq_ld, h2.read_unread, h3.read_unread, h4.read_unread, h5.read_unread, h7.read_unread, h8.read_unread, View.ld_unit_zero (S := S1x128) hz]
  refine (dnB j x6 _ _ _ _ _ _ _ _ _ _ _ _).trans ?_
  unfold tDn
  simp only [row_ld, row_ld16]

end

end Cert.MixgBwdIdeal.Body

end
-- ==== Proof.MixgBwdBlocks.lean ====
/- The gated norm's gradient, block by block: where the blocks lie, the running sum, and the result arrays. -/
module

public import proofs.«01_k».proof.Proof.MixgBwdTile
public import Idealize.ShloMosaic.Lib.Pipeline.Value

@[expose] public section

set_option maxRecDepth 16384

noncomputable section

namespace Cert.MixgBwdIdeal.Body

open Idealize.ShloMosaic Idealize.ShloMosaic.TcCoe Idealize.SL.Sem
open Idealize.ShloMosaic.Pipeline (Dat)
open Cert.MixgBwdIdeal.Gen Cert.MixgBwdIdeal.Value Cert.AttSpec Cert.ConvSpec Cert.MixSpec

variable (m : (ℓ : Loc nD τ sig) → Buf (Elt Ideal) ℓ)

/-- The four arguments on a device. -/
abbrev az (c : Dev nD) : Vec Ideal S2304x5376 .f32 := m ((c : Thread nD τ).loc main_arg0)
abbrev ao (c : Dev nD) : Vec Ideal S2304x512 .f32 := m ((c : Thread nD τ).loc main_arg1)
abbrev an (c : Dev nD) : Vec Ideal S1x128 .f32 := m ((c : Thread nD τ).loc main_arg2)
abbrev ad (c : Dev nD) : Vec Ideal S2304x2048 .bf16 := m ((c : Thread nD τ).loc main_arg3)

theorem idx0 : ∀ t : Fin grid0.N, win0_0.index t 0 = t.val ∧ win0_0.index t 1 = 0 := by decide +kernel
theorem idx1 : ∀ t : Fin grid0.N, win0_1.index t 0 = t.val ∧ win0_1.index t 1 = 9 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 3 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = 0 ∧ win0_6.index t 1 = 0 := by decide +kernel

theorem ltN (t : Fin cfg0.N) : t.val < 9 := lt_of_lt_of_eq t.isLt Gen.N_0

theorem blk0 (c : Dev nD) (t : Fin cfg0.N) (r : Fin 256) (n : Fin 512) :
    (iblk m c 0 t (ix2 r n) : EReal) = rd (a := 2304) (b := 512) (ao m c) (t.val * 256 + r.val) (0 + n.val) := by
  have ht := ltN t
  rw [rd_eq _ _ _ (by omega) (by omega)]
  unfold iblk
  rw [View.read_apply]
  show V m c main_arg1 _ = m (c.tc.loc main_arg1) _
  rw [V_main_arg1]
  congr 1
  funext a
  apply Fin.ext
  match a with
  | ⟨0, _⟩ => show win0_0.index t 0 * 256 + 1 * r.val = t.val * 256 + r.val; rw [(idx0 t).1]; omega
  | ⟨1, _⟩ => show win0_0.index t 1 * 512 + 1 * n.val = 0 + n.val; rw [(idx0 t).2]; omega

theorem blk1 (c : Dev nD) (t : Fin cfg0.N) (r : Fin 256) (n : Fin 512) :
    (X0_1 m c t (ix2 r n) : EReal) = rd (a := 2304) (b := 5376) (az m c) (t.val * 256 + r.val) (4608 + n.val) := by
  have ht := ltN t
  rw [rd_eq _ _ _ (by omega) (by omega)]
  unfold X0_1 Pipeline.Window.fill
  rw [dif_pos (moved0_1 t _)]
  unfold iblk
  rw [View.read_apply]
  show V m c main_arg0 _ = m (c.tc.loc main_arg0) _
  rw [V_main_arg0]
  congr 1
  funext a
  apply Fin.ext
  match a with
  | ⟨0, _⟩ => show win0_1.index t 0 * 256 + 1 * r.val = t.val * 256 + r.val; rw [(idx1 t).1]; omega
  | ⟨1, _⟩ => show win0_1.index t 1 * 512 + 1 * n.val = 4608 + n.val; rw [(idx1 t).2]; omega

theorem blk2 (c : Dev nD) (t : Fin cfg0.N) : row (iblk m c 2 t) 0 = row (an m c) 0 := by
  funext l
  show (iblk m c 2 t (ix2 0 l) : EReal) = an m c (ix2 0 l)
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 0; rw [(idx2 t).1]
  | ⟨1, _⟩ => show win0_2.index t 1 * 128 + 1 * l.val = l.val; rw [(idx2 t).2]; omega

theorem blk3 (c : Dev nD) (t : Fin cfg0.N) (r : Fin 256) (n : Fin 512) :
    (iblk m c 3 t (ix2 r n) : EReal) = rd (a := 2304) (b := 2048) (ad m c) (t.val * 256 + r.val) (1536 + n.val) := by
  have ht := ltN t
  rw [rd_eq _ _ _ (by omega) (by omega)]
  unfold iblk
  rw [View.read_apply]
  show V m c main_arg3 _ = m (c.tc.loc main_arg3) _
  rw [V_main_arg3]
  congr 1
  funext a
  apply Fin.ext
  match a with
  | ⟨0, _⟩ => show win0_3.index t 0 * 256 + 1 * r.val = t.val * 256 + r.val; rw [(idx3 t).1]; omega
  | ⟨1, _⟩ => show win0_3.index t 1 * 512 + 1 * n.val = 1536 + n.val; rw [(idx3 t).2]; omega

theorem hd0 (c : Dev nD) (t : Fin cfg0.N) (r : Nat) (hr : r < 256) (k : Nat) (hk : k + 128 ≤ 512) :
    hd (a := 256) (b := 512) (iblk m c 0 t) r k = hd (a := 2304) (b := 512) (ao m c) (t.val * 256 + r) k :=
  (hd_of (a := 256) (b := 512) _ (ao m c) r (t.val * 256 + r) k 0 hr hk fun n => blk0 m c t ⟨r, hr⟩ n).trans (by rw [Nat.zero_add])

theorem hd1 (c : Dev nD) (t : Fin cfg0.N) (r : Nat) (hr : r < 256) (k : Nat) (hk : k + 128 ≤ 512) :
    hd (a := 256) (b := 512) (X0_1 m c t) r k = hd (a := 2304) (b := 5376) (az m c) (t.val * 256 + r) (4608 + k) :=
  hd_of (a := 256) (b := 512) _ (az m c) r (t.val * 256 + r) k 4608 hr hk fun n => blk1 m c t ⟨r, hr⟩ n

theorem hd3 (c : Dev nD) (t : Fin cfg0.N) (r : Nat) (hr : r < 256) (k : Nat) (hk : k + 128 ≤ 512) :
    hd (a := 256) (b := 512) (iblk m c 3 t) r k = hd (a := 2304) (b := 2048) (ad m c) (t.val * 256 + r) (1536 + k) :=
  hd_of (a := 256) (b := 512) _ (ad m c) r (t.val * 256 + r) k 1536 hr hk fun n => blk3 m c t ⟨r, hr⟩ n

theorem tDo_eq (c : Dev nD) (t : Fin cfg0.N) (r : Fin 256) (q : Fin 512) :
    tDo (iblk m c 0 t) (X0_1 m c t) (iblk m c 2 t) (iblk m c 3 t) (ix2 r q)
      = aDo 4608 1536 (az m c) (ao m c) (an m c) (ad m c) (t.val * 256 + r.val) q.val := by
  unfold tDo aDo
  rw [blk2 m c t]
  show dI (hd (a := 256) (b := 512) (iblk m c 0 t) r.val (q.val / 128 * 128)) _ (thr (hd (a := 256) (b := 512) (X0_1 m c t) r.val (q.val / 128 * 128))
    (hd (a := 256) (b := 512) (iblk m c 3 t) r.val (q.val / 128 * 128))) _ = _
  rw [hd0 m c t _ r.isLt _ (by omega), hd1 m c t _ r.isLt _ (by omega), hd3 m c t _ r.isLt _ (by omega)]
  rfl

theorem tDg_eq (c : Dev nD) (t : Fin cfg0.N) (r : Fin 256) (q : Fin 512) :
    tDg (iblk m c 0 t) (X0_1 m c t) (iblk m c 2 t) (iblk m c 3 t) (ix2 r q)
      = aDg 4608 1536 (az m c) (ao m c) (an m c) (ad m c) (t.val * 256 + r.val) q.val := by
  unfold tDg aDg
  rw [blk2 m c t]
  show dG (hd (a := 256) (b := 512) (iblk m c 0 t) r.val (q.val / 128 * 128)) _ (hd (a := 256) (b := 512) (X0_1 m c t) r.val (q.val / 128 * 128))
    (hd (a := 256) (b := 512) (iblk m c 3 t) r.val (q.val / 128 * 128)) _ = _
  rw [hd0 m c t _ r.isLt _ (by omega), hd1 m c t _ r.isLt _ (by omega), hd3 m c t _ r.isLt _ (by omega)]
  rfl

/-- Head `k`'s part of block `i`'s sum. -/
def sN (c : Dev nD) (j : Fin 128) (k i : Nat) : EReal := ∑ r : Fin 256, pDn 4608 1536 (az m c) (ao m c) (ad m c) k (i * 256 + r.val) j

/-- What block `i` adds to the gradient of the norm's weights. -/
def cN (c : Dev nD) (j : Fin 128) (i : Nat) : EReal := sN m c j 0 i + sN m c j 128 i + sN m c j 256 i + sN m c j 384 i

theorem head_eq (c : Dev nD) (t : Fin cfg0.N) (j : Fin 128) (k : Nat) (hk : k + 128 ≤ 512) :
    ∑ r : Fin 256, dN (hd (a := 256) (b := 512) (iblk m c 0 t) r.val k) (hd (a := 256) (b := 512) (X0_1 m c t) r.val k)
      (hd (a := 256) (b := 512) (iblk m c 3 t) r.val k) j = sN m c j k t.val :=
  Finset.sum_congr rfl fun r _ => by
    rw [hd0 m c t _ r.isLt _ hk, hd1 m c t _ r.isLt _ hk, hd3 m c t _ r.isLt _ hk]
    rfl

theorem tDn_eq (c : Dev nD) (t : Fin cfg0.N) (j : Fin 128) : tDn (iblk m c 0 t) (X0_1 m c t) (iblk m c 3 t) j = cN m c j t.val := by
  unfold tDn cN
  rw [head_eq m c t j 0 (by omega), head_eq m c t j 128 (by omega), head_eq m c t j 256 (by omega), head_eq m c t j 384 (by omega)]

theorem sum_cN (c : Dev nD) (j : Fin 128) : ∑ i ∈ Finset.range 9, cN m c j i = aDn 4608 1536 (az m c) (ao m c) (ad m c) j := by
  have e : ∀ k, ∑ i ∈ Finset.range 9, sN m c j k i = ∑ r : Fin 2304, pDn 4608 1536 (az m c) (ao m c) (ad m c) k r.val j :=
    fun k => sum_blocks (fun r => pDn 4608 1536 (az m c) (ao m c) (ad m c) k r j)
  unfold cN
  rw [Finset.sum_add_distrib, Finset.sum_add_distrib, Finset.sum_add_distrib, e 0, e 128, e 256, e 384]
  exact sum4 (fun k => ∑ r : Fin 2304, pDn 4608 1536 (az m c) (ao m c) (ad m c) k r.val j)

/-! ## The staged results -/

/-- After point `n` the staged gradient of the weights holds the sum of the blocks so far. -/
theorem outs6_eq (c : Dev nD) (j : Fin 128) : ∀ (n : Nat) (h : n < cfg0.N),
    ((outsAt0 m c n h).2.2 (ix2 0 j) : EReal) = ∑ i ∈ Finset.range (n + 1), cN m c j i := by
  intro n
  induction n with
  | zero =>
    intro h
    have e := congrArg (fun o => (o.2.2 (ix2 0 j) : EReal)) (outsAt0_A m c ⟨0, h⟩ rfl (by dsimp only; omega))
    simp only [out0_A_6_eq] at e
    exact e.trans ((tDn_eq m c ⟨0, h⟩ j).trans (by simp))
  | succ n ih =>
    intro h
    have hn : n + 1 < 9 := lt_of_lt_of_eq h Gen.N_0
    have e := congrArg (fun o => (o.2.2 (ix2 0 j) : EReal)) (outsAt0_B m c ⟨n + 1, h⟩ (by dsimp only; omega) (by dsimp only; omega))
    simp only [out0_B_6_eq] at e
    refine e.trans ?_
    rw [tDn_eq m c ⟨n + 1, h⟩ j, Finset.sum_range_succ _ (n + 1)]
    show ((outsAt0 m c n _).2.2 (ix2 0 j) : EReal) + cN m c j (n + 1) = _
    rw [ih (Nat.lt_of_succ_lt h)]

theorem outs4_eq (c : Dev nD) (t : Fin cfg0.N) (r : Fin 256) (q : Fin 512) :
    ((outsAt0 m c t.val t.isLt).1 (ix2 r q) : EReal) = aDo 4608 1536 (az m c) (ao m c) (an m c) (ad m c) (t.val * 256 + r.val) q.val := by
  have ht := ltN t
  by_cases h0 : t.val = 0
  · have e := congrArg (fun o => (o.1 (ix2 r q) : EReal)) (outsAt0_A m c t (by omega) (by omega))
    simp only [out0_A_4_eq] at e
    exact e.trans (tDo_eq m c t r q)
  · have e := congrArg (fun o => (o.1 (ix2 r q) : EReal)) (outsAt0_B m c t (by omega) (by omega))
    simp only [out0_B_4_eq] at e
    exact e.trans (tDo_eq m c t r q)

theorem outs5_eq (c : Dev nD) (t : Fin cfg0.N) (r : Fin 256) (q : Fin 512) :
    ((outsAt0 m c t.val t.isLt).2.1 (ix2 r q) : EReal) = aDg 4608 1536 (az m c) (ao m c) (an m c) (ad m c) (t.val * 256 + r.val) q.val := by
  have ht := ltN t
  by_cases h0 : t.val = 0
  · have e := congrArg (fun o => (o.2.1 (ix2 r q) : EReal)) (outsAt0_A m c t (by omega) (by omega))
    simp only [out0_A_5_eq] at e
    exact e.trans (tDg_eq m c t r q)
  · have e := congrArg (fun o => (o.2.1 (ix2 r q) : EReal)) (outsAt0_B m c t (by omega) (by omega))
    simp only [out0_B_5_eq] at e
    exact e.trans (tDg_eq m c t r q)

/-! ## The result arrays -/

/-- The gradient of the normed array. -/
def resO (c : Dev nD) : Vec Ideal S2304x512 .f32 := fun y => aDo 4608 1536 (az m c) (ao m c) (an m c) (ad m c) (y 0).val (y 1).val
/-- The gradient of the gates. -/
def resG (c : Dev nD) : Vec Ideal S2304x512 .bf16 := fun y => aDg 4608 1536 (az m c) (ao m c) (an m c) (ad m c) (y 0).val (y 1).val
/-- The gradient of the norm's weights. -/
def resN (c : Dev nD) : Vec Ideal S1x128 .f32 := fun y => aDn 4608 1536 (az m c) (ao m c) (ad m c) (y 1)

theorem flushed4_eq (c : Dev nD) (t : Fin cfg0.N) (hf : (cfg0.win 4).flush t = true) :
    (dats m 0 c).flushed 4 t = ((cfg0.win 4).blk t).view.read (Elt Ideal) (resO m c) := by
  rw [flushed4]
  funext y
  rw [View.read_apply]
  have ht := ltN t
  show (outsAt0 m c t.val t.isLt).1 _ = resO m c _
  have hy0 : (y 0).val < 256 := (y 0).isLt
  have hy1 : (y 1).val < 512 := (y 1).isLt
  refine Eq.trans (congrArg _ ?_) ((outs4_eq m c t ⟨(y 0).val, hy0⟩ ⟨(y 1).val, hy1⟩).trans ?_)
  · funext a; match a with
    | ⟨0, _⟩ => rfl
    | ⟨1, _⟩ => rfl
  · show _ = aDo 4608 1536 _ _ _ _ (win0_4.index t 0 * 256 + 1 * (y 0).val) (win0_4.index t 1 * 512 + 1 * (y 1).val)
    rw [(idx4 t).1, (idx4 t).2, Nat.one_mul, Nat.one_mul, Nat.zero_mul, Nat.zero_add]

theorem flushed5_eq (c : Dev nD) (t : Fin cfg0.N) (hf : (cfg0.win 5).flush t = true) :
    (dats m 0 c).flushed 5 t = ((cfg0.win 5).blk t).view.read (Elt Ideal) (resG m c) := by
  rw [flushed5]
  funext y
  rw [View.read_apply]
  have ht := ltN t
  show (outsAt0 m c t.val t.isLt).2.1 _ = resG m c _
  have hy0 : (y 0).val < 256 := (y 0).isLt
  have hy1 : (y 1).val < 512 := (y 1).isLt
  refine Eq.trans (congrArg _ ?_) ((outs5_eq m c t ⟨(y 0).val, hy0⟩ ⟨(y 1).val, hy1⟩).trans ?_)
  · funext a; match a with
    | ⟨0, _⟩ => rfl
    | ⟨1, _⟩ => rfl
  · show _ = aDg 4608 1536 _ _ _ _ (win0_5.index t 0 * 256 + 1 * (y 0).val) (win0_5.index t 1 * 512 + 1 * (y 1).val)
    rw [(idx5 t).1, (idx5 t).2, Nat.one_mul, Nat.one_mul, Nat.zero_mul, Nat.zero_add]

theorem flushed6_eq (c : Dev nD) (t : Fin cfg0.N) (hf : (cfg0.win 6).flush t = true) :
    (dats m 0 c).flushed 6 t = ((cfg0.win 6).blk t).view.read (Elt Ideal) (resN m c) := by
  have ht := ltN t
  have hl : t.val = 8 := by have := (flush0_6 t).mp hf; omega
  rw [flushed6]
  funext y
  rw [View.read_apply]
  show (outsAt0 m c t.val t.isLt).2.2 _ = resN m c _
  have hy0 : (y 0).val < 1 := (y 0).isLt
  have hy1 : (y 1).val < 128 := (y 1).isLt
  refine Eq.trans (congrArg _ ?_) ((outs6_eq m c ⟨(y 1).val, hy1⟩ t.val t.isLt).trans ?_)
  · funext a; match a with
    | ⟨0, _⟩ => exact Fin.ext (by show (y 0).val = 0; omega)
    | ⟨1, _⟩ => rfl
  · rw [hl, show 8 + 1 = 9 from rfl, sum_cN]
    refine congrArg (aDn 4608 1536 (az m c) (ao m c) (ad m c)) (Fin.ext ?_)
    show (y 1).val = win0_6.index t 1 * 128 + 1 * (y 1).val
    rw [(idx6 t).2]; omega

theorem final4 (c : Dev nD) : (dats m 0 c).arrAt 4 cfg0.N = resO m c :=
  (dats m 0 c).arrAt_eq_of_cover 4 (resO m c) (flushed4_eq m c) fun i => by
    have hi0 : (i 0).val < 2304 := (i 0).isLt
    have hi1 : (i 1).val < 512 := (i 1).isLt
    refine ⟨⟨(i 0).val / 256, by show _ < grid0.N; rw [Gen.N_0]; omega⟩, flush0_4 _, ?_⟩
    generalize ht : (⟨(i 0).val / 256, _⟩ : Fin grid0.N) = t
    have ht' : t.val = (i 0).val / 256 := by rw [← ht]
    show i ∈ ((View.whole main_v0_0).slice (win0_4.rect t)).set
    rw [View.set_slice_whole, Rect.mem_set_unit]
    intro a
    match a with
    | ⟨0, _⟩ => exact mem_box 256 (i 0).val (idx4 t).1 (by omega)
    | ⟨1, _⟩ => exact mem_box 512 (i 1).val (idx4 t).2 (by omega)

theorem final5 (c : Dev nD) : (dats m 0 c).arrAt 5 cfg0.N = resG m c :=
  (dats m 0 c).arrAt_eq_of_cover 5 (resG m c) (flushed5_eq m c) fun i => by
    have hi0 : (i 0).val < 2304 := (i 0).isLt
    have hi1 : (i 1).val < 512 := (i 1).isLt
    refine ⟨⟨(i 0).val / 256, by show _ < grid0.N; rw [Gen.N_0]; omega⟩, flush0_5 _, ?_⟩
    generalize ht : (⟨(i 0).val / 256, _⟩ : Fin grid0.N) = t
    have ht' : t.val = (i 0).val / 256 := by rw [← ht]
    show i ∈ ((View.whole main_v0_1).slice (win0_5.rect t)).set
    rw [View.set_slice_whole, Rect.mem_set_unit]
    intro a
    match a with
    | ⟨0, _⟩ => exact mem_box 256 (i 0).val (idx5 t).1 (by omega)
    | ⟨1, _⟩ => exact mem_box 512 (i 1).val (idx5 t).2 (by omega)

theorem final6 (c : Dev nD) : (dats m 0 c).arrAt 6 cfg0.N = resN m c :=
  (dats m 0 c).arrAt_eq_of_cover 6 (resN m c) (flushed6_eq m c) fun i => by
    have hi0 : (i 0).val < 1 := (i 0).isLt
    have hi1 : (i 1).val < 128 := (i 1).isLt
    refine ⟨⟨8, by show _ < grid0.N; rw [Gen.N_0]; omega⟩, (flush0_6 _).mpr (by dsimp only), ?_⟩
    generalize ht : (⟨8, _⟩ : Fin grid0.N) = t
    show i ∈ ((View.whole main_v0_2).slice (win0_6.rect t)).set
    rw [View.set_slice_whole, Rect.mem_set_unit]
    intro a
    match a with
    | ⟨0, _⟩ => exact mem_box 1 (i 0).val (idx6 t).1 (by omega)
    | ⟨1, _⟩ => exact mem_box 128 (i 1).val (idx6 t).2 (by omega)

end Cert.MixgBwdIdeal.Body

end
-- ==== Proof.MixgBwdRef.lean ====
/- The plain gradient of the gated norm, read entry by entry. -/
module

public import proofs.«01_k».proof.Proof.MixSpec
public import proofs.«01_k».proof.Proof.Gen.GatedGlaGradIdeal.Read
public import Idealize.ShloMosaic.Lib.Pointwise

@[expose] public section

set_option maxRecDepth 16384

noncomputable section

namespace Cert.GatedGlaGradIdeal.Ref

open Idealize.ShloMosaic Idealize.ShloMosaic.TcCoe Idealize.SL.Sem
open Cert.GatedGlaGradIdeal.Gen Cert.GatedGlaGradIdeal.Read Cert.AttSpec Cert.ConvSpec Cert.MixSpec

variable (x0 : Vec Ideal S2304x5376 .f32) (x1 : Vec Ideal S2304x512 .f32) (x2 : Vec Ideal S1x128 .f32) (x3 : Vec Ideal S2304x2048 .bf16)
  (h : Fin 4) (r : Fin 2304) (l : Fin 128)

/-- A head's rows of the three arrays. -/
abbrev O (h r : Nat) : Fin 128 → EReal := hd (a := 2304) (b := 512) x1 r (h * 128)
abbrev Z (h r : Nat) : Fin 128 → EReal := hd (a := 2304) (b := 5376) x0 r (4608 + h * 128)
abbrev D (h r : Nat) : Fin 128 → EReal := hd (a := 2304) (b := 2048) x3 r (1536 + h * 128)

theorem o_eq : (val_main_v3 (F := Ideal) x1 (ix4 0 h r l) : EReal) = O x1 h.val r.val l := by
  have hh := h.isLt
  have hl := l.isLt
  refine Eq.trans ?_ (rd_eq (a := 2304) (b := 512) x1 r.val (h.val * 128 + l.val) r.isLt (by omega)).symm
  pointwise [val_main_v3, val_main_v2, val_main_v1]

theorem ms_eq : (val_main_v10 (F := Ideal) x1 (ix4 0 h r 0) : EReal) = ms (O x1 h.val r.val) := by
  pointwise [val_main_v10, val_main_v8, val_main_v6, val_main_v5, val_main_v4, val_main_cst, val_main_v7, val_main_cst_0, val_main_v9, val_main_cst_1]
  simp only [o_eq]
  rfl

theorem z_eq : (val_main_v22 (F := Ideal) x0 (ix3 0 r ⟨h.val * 128 + l.val, by omega⟩) : EReal) = Z x0 h.val r.val l := by
  have hh := h.isLt
  have hl := l.isLt
  refine Eq.trans ?_ (rd_eq (a := 2304) (b := 5376) x0 r.val (4608 + h.val * 128 + l.val) r.isLt (by omega)).symm
  pointwise [val_main_v22, val_main_v0]
  exact congrArg _ (congrArg (ix2 r) (Fin.ext (Nat.add_assoc ..).symm))

theorem d_eq : (val_main_v28 (F := Ideal) x3 (ix3 0 r ⟨h.val * 128 + l.val, by omega⟩) : EReal) = D x3 h.val r.val l := by
  have hh := h.isLt
  have hl := l.isLt
  refine Eq.trans ?_ (rd_eq (a := 2304) (b := 2048) x3 r.val (1536 + h.val * 128 + l.val) r.isLt (by omega)).symm
  pointwise [val_main_v28, val_main_v27, val_main_v26]
  exact congrArg _ (congrArg (ix2 r) (Fin.ext (Nat.add_assoc ..).symm))

theorem nrm_eq : (val_main_v16 (F := Ideal) x1 (ix4 0 h r l) : EReal) = nrm (O x1 h.val r.val) l := by
  pointwise [val_main_v16, val_main_v15, val_main_v11]
  rw [o_eq, ms_eq]
  rfl

theorem sg_eq : (val_main_v23_2 (F := Ideal) x0 (ix3 0 r ⟨h.val * 128 + l.val, by omega⟩) : EReal) = sg (Z x0 h.val r.val l) := by
  pointwise [val_main_v23_2, val_main_call0_v4, val_main_call0_v3, val_main_call0_v2, val_main_call0_v1, val_main_call0_v0, val_main_call0_cst, val_main_call0_cst_0]
  rw [z_eq]
  rfl

theorem thr_eq : (val_main_v34 (F := Ideal) x0 x3 (ix4 0 h r l) : EReal) = thr (Z x0 h.val r.val) (D x3 h.val r.val) l := by
  have hh := h.isLt
  have hl := l.isLt
  pointwise [val_main_v34, val_main_v33, val_main_v30, val_main_v23_0]
  rw [d_eq, z_eq, sg_eq]
  rfl

theorem n_eq : (val_main_v38 (F := Ideal) x2 (ix4 0 h r l) : EReal) = row x2 0 l := by
  pointwise [val_main_v38, val_main_v17]

theorem dot_eq : (val_main_v44 (F := Ideal) x0 x1 x2 x3 (ix4 0 h r 0) : EReal)
    = ∑ l, O x1 h.val r.val l * (thr (Z x0 h.val r.val) (D x3 h.val r.val) l * row x2 0 l) := by
  pointwise [val_main_v44, val_main_v43, val_main_cst_6, val_main_v42, val_main_v39]
  simp only [o_eq, thr_eq, n_eq]

theorem fiber2 (hd : S1x4x2304x1.ReducesTo [0, 3] S4x2304) (h : Fin 4) (r : Fin 2304) (i : S1x4x2304x1.Idx) :
    hd.drop i = ix2 h r ↔ ∃ k : Fin 1 × Fin 1, ix4 k.1 h r k.2 = i := by
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

/-- A sum along two axes of length one. -/
theorem red2 (hd : S1x4x2304x1.ReducesTo [0, 3] S4x2304) (v : S1x4x2304x1.Idx → EReal) (h : Fin 4) (r : Fin 2304) :
    Ideal.hostReduceAdd hd v 0 (ix2 h r) = v (ix4 0 h r 0) := by
  refine (congrArg ((0 : EReal) + ·) (Finset.sum_filter_eq_sum_of_fiber _ (fun k : Fin 1 × Fin 1 => ix4 k.1 h r k.2)
    (fun _ _ e => Prod.ext (congrFun e 0) (congrFun e 3)) (fiber2 hd h r) v)).trans ?_
  simp only [Fintype.sum_prod_type, Fin.sum_univ_one]
  exact zero_add _

theorem fiberN (hd : S1x4x2304x128.ReducesTo [1, 2] S1x128) (l : Fin 128) (i : S1x4x2304x128.Idx) :
    hd.drop i = ix2 0 l ↔ ∃ k : Fin 4 × Fin 2304, ix4 0 k.1 k.2 l = i := by
  constructor
  · intro e
    refine ⟨(i 1, i 2), ?_⟩
    funext a; apply Fin.ext
    match a with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨k, rfl⟩
    funext b
    apply Fin.ext
    match b with
    | ⟨0, _⟩ => rfl
    | ⟨1, _⟩ => rfl

/-- A sum along the heads and the rows. -/
theorem redN (hd : S1x4x2304x128.ReducesTo [1, 2] S1x128) (v : S1x4x2304x128.Idx → EReal) (l : Fin 128) :
    Ideal.hostReduceAdd hd v 0 (ix2 0 l) = ∑ h : Fin 4, ∑ r : Fin 2304, v (ix4 0 h r l) := by
  refine (congrArg ((0 : EReal) + ·) (Finset.sum_filter_eq_sum_of_fiber _ (fun k : Fin 4 × Fin 2304 => ix4 (0 : Fin 1) k.1 k.2 l)
    (fun _ _ e => Prod.ext (congrFun e 1) (congrFun e 2)) (fiberN hd l) v)).trans ?_
  simp only [Fintype.sum_prod_type]
  exact zero_add _

theorem fiber1 (hd : S1x1x1x128.ReducesTo [0, 1, 2] S128) (l : Fin 128) (i : S1x1x1x128.Idx) :
    hd.drop i = ix1 l ↔ ∃ k : Fin 1 × Fin 1 × Fin 1, ix4 k.1 k.2.1 k.2.2 l = i := by
  constructor
  · intro e
    refine ⟨(i 0, i 1, i 2), ?_⟩
    funext a; apply Fin.ext
    match a with
    | ⟨0, _⟩ => rfl
    | ⟨1, _⟩ => rfl
    | ⟨2, _⟩ => rfl
    | ⟨3, _⟩ => exact (congrArg Fin.val (congrFun e 0)).symm
  · rintro ⟨k, rfl⟩
    funext b
    apply Fin.ext
    match b with
    | ⟨0, _⟩ => rfl

/-- A sum along three axes of length one. -/
theorem red1 (hd : S1x1x1x128.ReducesTo [0, 1, 2] S128) (v : S1x1x1x128.Idx → EReal) (l : Fin 128) :
    Ideal.hostReduceAdd hd v 0 (ix1 l) = v (ix4 0 0 0 l) := by
  refine (congrArg ((0 : EReal) + ·) (Finset.sum_filter_eq_sum_of_fiber _ (fun k : Fin 1 × Fin 1 × Fin 1 => ix4 k.1 k.2.1 k.2.2 l)
    (fun _ _ e => Prod.ext (congrFun e 0) (Prod.ext (congrFun e 1) (congrFun e 2))) (fiber1 hd l) v)).trans ?_
  simp only [Fintype.sum_prod_type, Fin.sum_univ_one]
  exact zero_add _

theorem slope_eq : (val_main_v52 (F := Ideal) x0 x1 x2 x3 (ix4 0 h r l) : EReal)
    = slope (O x1 h.val r.val) (row x2 0) (thr (Z x0 h.val r.val) (D x3 h.val r.val)) := by
  pointwise [val_main_v52, val_main_v51, val_main_v50, val_main_cst_8]
  refine (red2 _ _ _ _).trans ?_
  pointwise [val_main_v49, val_main_v48, val_main_cst_7, val_main_v47, val_main_v14, val_main_v13, val_main_cst_2, val_main_v12, val_main_v11]
  rw [dot_eq, ms_eq]
  rfl

theorem dI_eq : (val_main_v56 (F := Ideal) x0 x1 x2 x3 (ix4 0 h r l) : EReal)
    = dI (O x1 h.val r.val) (row x2 0) (thr (Z x0 h.val r.val) (D x3 h.val r.val)) l := by
  pointwise [val_main_v56, val_main_v54, val_main_v46, val_main_v45, val_main_v11, val_main_v39, val_main_v53, val_main_v55]
  rw [o_eq, ms_eq, thr_eq, n_eq, slope_eq]
  rfl

theorem do_ref (r : Fin 2304) (q : Fin 512) :
    (val_main_v59 (F := Ideal) x0 x1 x2 x3 (ix2 r q) : EReal) = aDo 4608 1536 x0 x1 x2 x3 r.val q.val := by
  pointwise [val_main_v59, val_main_cst_9, val_main_v58, val_main_v57]
  exact (Fin.sum_univ_one _).trans (dI_eq x0 x1 x2 x3 _ r _)

/-- A column's head and its place there. -/
abbrev qh (q : Fin 512) : Fin 4 := ⟨q.val / 128, by omega⟩
abbrev ql (q : Fin 512) : Fin 128 := ⟨q.val % 128, by omega⟩

theorem q_eq (q : Fin 512) : (⟨(qh q).val * 128 + (ql q).val, by omega⟩ : Fin 512) = q := Fin.ext (by show q.val / 128 * 128 + q.val % 128 = q.val; omega)

theorem zq (r : Fin 2304) (q : Fin 512) : (val_main_v22 (F := Ideal) x0 (ix3 0 r q) : EReal) = Z x0 (qh q).val r.val (ql q) :=
  (congrArg (fun q => (val_main_v22 (F := Ideal) x0 (ix3 0 r q) : EReal)) (q_eq q).symm).trans (z_eq x0 (qh q) r (ql q))

theorem dq (r : Fin 2304) (q : Fin 512) : (val_main_v28 (F := Ideal) x3 (ix3 0 r q) : EReal) = D x3 (qh q).val r.val (ql q) :=
  (congrArg (fun q => (val_main_v28 (F := Ideal) x3 (ix3 0 r q) : EReal)) (q_eq q).symm).trans (d_eq x3 (qh q) r (ql q))

theorem sgq (r : Fin 2304) (q : Fin 512) : (val_main_v23_2 (F := Ideal) x0 (ix3 0 r q) : EReal) = sg (Z x0 (qh q).val r.val (ql q)) :=
  (congrArg (fun q => (val_main_v23_2 (F := Ideal) x0 (ix3 0 r q) : EReal)) (q_eq q).symm).trans (sg_eq x0 (qh q) r (ql q))

theorem dg_ref (r : Fin 2304) (q : Fin 512) :
    (val_main_v60 (F := Ideal) x0 x1 x2 x3 (ix2 r q) : EReal) = aDg 4608 1536 x0 x1 x2 x3 r.val q.val := by
  pointwise [val_main_v60, val_main_v32, val_main_cst_3, val_main_v31, val_main_v29, val_main_v21, val_main_v20, val_main_v19, val_main_v18, val_main_v17, val_main_call1_v0, val_main_call1_v1, val_main_call1_v2, val_main_v23_1, val_main_call0_v7, val_main_call0_v6, val_main_call0_cst_1]
  refine (Fin.sum_univ_one _).trans ?_
  rw [dq, zq, sgq]
  refine congrArg₂ (fun s t : EReal => s * _ * _ * _ + _ * (t * _ * _) * _) (nrm_eq x1 (qh q) r (ql q)) (nrm_eq x1 (qh q) r (ql q))

theorem dn_ref (l : Fin 128) : (val_main_v41 (F := Ideal) x0 x1 x3 (ix2 0 l) : EReal) = aDn 4608 1536 x0 x1 x3 l := by
  pointwise [val_main_v41, val_main_v40, val_main_cst_5]
  refine (red1 _ _ _).trans ?_
  pointwise [val_main_v37, val_main_v36, val_main_cst_4]
  refine (redN _ _ _).trans ?_
  pointwise [val_main_v35]
  simp only [nrm_eq, thr_eq]
  rfl

end Cert.GatedGlaGradIdeal.Ref

end
-- ==== Proof.MixgBwdClaims.lean ====
/- The gated norm's gradient as the kernel computes it and as the reference does. -/
module

public import proofs.«01_k».proof.Proof.MixgBwdBlocks
public import proofs.«01_k».proof.Proof.MixgBwdRef
public import proofs.«01_k».proof.Proof.Gen.GatedGlaGradIdeal.Run
public import proofs.«01_k».proof.Defs
public import Idealize.ShloMosaic.Lib.Quiescent

@[expose] public section

set_option maxRecDepth 16384

noncomputable section

namespace Cert.Proof.MixgBwd

open Idealize.ShloMosaic Idealize.ShloMosaic.TcCoe Idealize.SL.Sem
open Cert.AttSpec Cert.MixSpec

theorem frame_ref : quiescent_GatedGlaGradIdeal := fun m ρ _ =>
  (θ_run GatedGlaGradIdeal.defs _ _).mono (fun r h => ⟨fun c => (h c).2.2.2,
      sem_eq_zero_of_no_sems (by decide) r.2⟩)
    (GatedGlaGradIdeal.Value.run (F := Ideal) m ρ)

theorem algebraic : algebraic_MixgBwdIdeal_GatedGlaGradIdeal := by
  intro m ρ m' ρ' _ hagree
  refine ⟨fun c => MixgBwdIdeal.Body.resO m c, fun c => MixgBwdIdeal.Body.resG m c,
    fun c => MixgBwdIdeal.Body.resN m c, ?_, ?_⟩
  · refine (θ_run MixgBwdIdeal.defs _ _).mono (fun _ h c => ?_) (MixgBwdIdeal.Value.run_blocks (F := Ideal) m ρ)
    exact ⟨(h c).1.trans (MixgBwdIdeal.Body.final4 m c), (h c).2.1.trans (MixgBwdIdeal.Body.final5 m c),
      (h c).2.2.1.trans (MixgBwdIdeal.Body.final6 m c), (h c).2.2.2⟩
  · refine (θ_run GatedGlaGradIdeal.defs _ _).mono (fun _ h c => ?_) (GatedGlaGradIdeal.Value.run (F := Ideal) m' ρ')
    obtain ⟨g0, g1, g2, g3⟩ := hagree c
    refine ⟨((h c).1.trans (GatedGlaGradIdeal.Read.val_main_v59_eq _ _)).trans ?_,
      ((h c).2.1.trans (GatedGlaGradIdeal.Read.val_main_v60_eq _ _)).trans ?_,
      ((h c).2.2.1.trans (GatedGlaGradIdeal.Read.val_main_v41_eq _ _ _)).trans ?_, (h c).2.2.2⟩
    · show GatedGlaGradIdeal.Read.val_main_v59 (F := Ideal) (m' (c.tc.loc GatedGlaGradIdeal.main_arg0))
        (m' (c.tc.loc GatedGlaGradIdeal.main_arg1))
        (m' (c.tc.loc GatedGlaGradIdeal.main_arg2))
        (m' (c.tc.loc GatedGlaGradIdeal.main_arg3)) = _
      rw [g0, g1, g2, g3]
      funext y
      rw [eq_ix2 y]
      exact GatedGlaGradIdeal.Ref.do_ref _ _ _ _ (y 0) (y 1)
    · show GatedGlaGradIdeal.Read.val_main_v60 (F := Ideal) (m' (c.tc.loc GatedGlaGradIdeal.main_arg0))
        (m' (c.tc.loc GatedGlaGradIdeal.main_arg1))
        (m' (c.tc.loc GatedGlaGradIdeal.main_arg2))
        (m' (c.tc.loc GatedGlaGradIdeal.main_arg3)) = _
      rw [g0, g1, g2, g3]
      funext y
      rw [eq_ix2 y]
      exact GatedGlaGradIdeal.Ref.dg_ref _ _ _ _ (y 0) (y 1)
    · show GatedGlaGradIdeal.Read.val_main_v41 (F := Ideal) (m' (c.tc.loc GatedGlaGradIdeal.main_arg0))
        (m' (c.tc.loc GatedGlaGradIdeal.main_arg1))
        (m' (c.tc.loc GatedGlaGradIdeal.main_arg3)) = _
      rw [g0, g1, g3]
      funext y
      have e : y = ix2 0 (y 1) := by
        funext a
        match a with
        | ⟨0, _⟩ => exact Fin.ext (by have : (y 0).val < 1 := (y 0).isLt; show (y 0).val = 0; omega)
        | ⟨1, _⟩ => rfl
      rw [e]
      exact GatedGlaGradIdeal.Ref.dn_ref _ _ _ (y 1)

end Cert.Proof.MixgBwd

end
-- ==== Proof.RopeSpec.lean ====
/- The rotary positions of one head's row: the context's 256 rows carry none, the latents' rows turn each pair of values
by the angle whose cosine and sine are given. -/
module

public import proofs.«01_k».proof.Proof.MixSpec
public import Idealize.ShloMosaic.Lib.Exec
public import Idealize.ShloMosaic.Lib.Pointwise

@[expose] public section

set_option maxRecDepth 16384

noncomputable section

namespace Cert.RopeSpec

open Idealize.ShloMosaic Cert.AttSpec Cert.ConvSpec Cert.MixSpec

/-- The other half's place. -/
def rot (j : Fin 128) : Fin 128 := ⟨(j.val + 64) % 128, Nat.mod_lt _ (by decide)⟩

/-- The turned row. -/
def fw (C S x : Fin 128 → EReal) (j : Fin 128) : EReal := x j * C j + x (rot j) * S j

/-- The gradient handed back through the turn. -/
def bk (C S d : Fin 128 → EReal) (j : Fin 128) : EReal := d (rot j) * S (rot j) + d j * C j

/-- The cosines of a row, repeated over the two halves: ones over the context. -/
def cT (u : (⟨2, ![2048, 64]⟩ : Shape).Idx → EReal) (r : Nat) (j : Fin 128) : EReal :=
  if r < 256 then 1 else rd u (r - 256) (j.val % 64)

/-- The sines of a row, negated over the first half: zeros over the context. -/
def sT (v : (⟨2, ![2048, 64]⟩ : Shape).Idx → EReal) (r : Nat) (j : Fin 128) : EReal :=
  if r < 256 then 0 else if j.val < 64 then -(rd v (r - 256) j.val) else rd v (r - 256) (j.val - 64)

section
variable (u v : (⟨2, ![2048, 64]⟩ : Shape).Idx → EReal) (x : Fin 128 → EReal) (r : Nat) (j : Fin 128)

theorem bk_ctx (h : r < 256) : bk (cT u r) (sT v r) x j = x j := by
  unfold bk cT sT
  rw [if_pos h, if_pos h, mul_zero, zero_add, mul_one]

theorem fw_ctx (h : r < 256) : fw (cT u r) (sT v r) x j = x j := by
  unfold fw cT sT
  rw [if_pos h, if_pos h, mul_zero, add_zero, mul_one]

theorem rot_lo (h : j.val < 64) : rot j = ⟨j.val + 64, by omega⟩ := Fin.ext (by show (j.val + 64) % 128 = j.val + 64; omega)
theorem rot_hi (h : ¬ j.val < 64) : rot j = ⟨j.val - 64, by omega⟩ := Fin.ext (by show (j.val + 64) % 128 = j.val - 64; omega)

theorem bk_lo (h : ¬ r < 256) (hj : j.val < 64) :
    bk (cT u r) (sT v r) x j = x ⟨j.val + 64, by omega⟩ * rd v (r - 256) j.val + x j * rd u (r - 256) j.val := by
  unfold bk cT sT
  rw [if_neg h, if_neg h, rot_lo j hj, if_neg (by show ¬ j.val + 64 < 64; omega)]
  show _ * rd v (r - 256) (j.val + 64 - 64) + _ = _
  rw [Nat.add_sub_cancel, Nat.mod_eq_of_lt hj]

theorem bk_hi (h : ¬ r < 256) (hj : ¬ j.val < 64) :
    bk (cT u r) (sT v r) x j = x j * rd u (r - 256) (j.val - 64) + -(x ⟨j.val - 64, by omega⟩) * rd v (r - 256) (j.val - 64) := by
  unfold bk cT sT
  rw [if_neg h, if_neg h, rot_hi j hj, if_pos (by show j.val - 64 < 64; omega), add_comm, EReal.neg_mul, mul_neg]
  have e : j.val % 64 = j.val - 64 := by omega
  rw [e]

theorem fw_lo (h : ¬ r < 256) (hj : j.val < 64) :
    fw (cT u r) (sT v r) x j = x j * rd u (r - 256) j.val - x ⟨j.val + 64, by omega⟩ * rd v (r - 256) j.val := by
  unfold fw cT sT
  rw [if_neg h, if_neg h, rot_lo j hj, if_pos hj, Nat.mod_eq_of_lt hj, mul_neg, sub_eq_add_neg]

theorem fw_hi (h : ¬ r < 256) (hj : ¬ j.val < 64) :
    fw (cT u r) (sT v r) x j = x ⟨j.val - 64, by omega⟩ * rd v (r - 256) (j.val - 64) + x j * rd u (r - 256) (j.val - 64) := by
  unfold fw cT sT
  rw [if_neg h, if_neg h, rot_hi j hj, if_neg hj, add_comm]
  have e : j.val % 64 = j.val - 64 := by omega
  rw [e]
end

/-- One row's part of the gradient of the norm's weights, from the gradient `D` of the weighted norm. -/
def dR (x D : Fin 128 → EReal) (j : Fin 128) : EReal := nrm x j * D j

theorem bk_row (u v : (⟨2, ![2048, 64]⟩ : Shape).Idx → EReal) (x : Fin 128 → EReal) (r : Nat) (h : r < 256) : bk (cT u r) (sT v r) x = x :=
  funext fun j => bk_ctx u v x r j h

theorem fw_row (u v : (⟨2, ![2048, 64]⟩ : Shape).Idx → EReal) (x : Fin 128 → EReal) (r : Nat) (h : r < 256) : fw (cT u r) (sT v r) x = x :=
  funext fun j => fw_ctx u v x r j h

/-- A sum over all rows, the latents' and the context's apart. -/
theorem sum_split (f : Nat → EReal) : (∑ r : Fin 2048, f (256 + r.val)) + ∑ r : Fin 256, f r.val = ∑ r : Fin 2304, f r.val := by
  rw [add_comm]
  exact (Fin.sum_univ_add (a := 256) (b := 2048) (fun r => f r.val)).symm

theorem rd_at {a b : Nat} (x : (⟨2, ![a, b]⟩ : Shape).Idx → EReal) (i k i' k' : Nat) (hi : i < a) (hk : k < b) (ei : i = i') (ek : k = k') :
    x (ix2 ⟨i, hi⟩ ⟨k, hk⟩) = rd x i' k' := by
  subst ei ek
  exact (rd_eq x i k hi hk).symm

section
variable {H R : Nat}

theorem fiber2 (hd : (⟨4, ![1, H, R, 1]⟩ : Shape).ReducesTo [0, 3] ⟨2, ![H, R]⟩) (h : Fin H) (r : Fin R) (i : (⟨4, ![1, H, R, 1]⟩ : Shape).Idx) :
    hd.drop i = ix2 h r ↔ ∃ k : Fin 1 × Fin 1, ix4 k.1 h r k.2 = i := by
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

/-- A sum along two axes of length one. -/
theorem red2 (hd : (⟨4, ![1, H, R, 1]⟩ : Shape).ReducesTo [0, 3] ⟨2, ![H, R]⟩) (v : (⟨4, ![1, H, R, 1]⟩ : Shape).Idx → EReal) (h : Fin H) (r : Fin R) :
    Ideal.hostReduceAdd hd v 0 (ix2 h r) = v (ix4 0 h r 0) := by
  refine (congrArg ((0 : EReal) + ·) (Finset.sum_filter_eq_sum_of_fiber _ (fun k : Fin 1 × Fin 1 => ix4 k.1 h r k.2)
    (fun _ _ e => Prod.ext (congrFun e 0) (congrFun e 3)) (fiber2 hd h r) v)).trans ?_
  simp only [Fintype.sum_prod_type, Fin.sum_univ_one]
  exact zero_add _

theorem fiberN (hd : (⟨4, ![1, H, R, 128]⟩ : Shape).ReducesTo [1, 2] ⟨2, ![1, 128]⟩) (l : Fin 128) (i : (⟨4, ![1, H, R, 128]⟩ : Shape).Idx) :
    hd.drop i = ix2 0 l ↔ ∃ k : Fin H × Fin R, ix4 0 k.1 k.2 l = i := by
  constructor
  · intro e
    refine ⟨(i 1, i 2), ?_⟩
    funext a; apply Fin.ext
    match a with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨k, rfl⟩
    funext b
    apply Fin.ext
    match b with
    | ⟨0, _⟩ => rfl
    | ⟨1, _⟩ => rfl

/-- A sum along the heads and the rows. -/
theorem redN (hd : (⟨4, ![1, H, R, 128]⟩ : Shape).ReducesTo [1, 2] ⟨2, ![1, 128]⟩) (v : (⟨4, ![1, H, R, 128]⟩ : Shape).Idx → EReal) (l : Fin 128) :
    Ideal.hostReduceAdd hd v 0 (ix2 0 l) = ∑ h : Fin H, ∑ r : Fin R, v (ix4 0 h r l) := by
  refine (congrArg ((0 : EReal) + ·) (Finset.sum_filter_eq_sum_of_fiber _ (fun k : Fin H × Fin R => ix4 (0 : Fin 1) k.1 k.2 l)
    (fun _ _ e => Prod.ext (congrFun e 1) (congrFun e 2)) (fiberN hd l) v)).trans ?_
  simp only [Fintype.sum_prod_type]
  exact zero_add _
end

theorem fiber1 (hd : (⟨4, ![1, 1, 1, 128]⟩ : Shape).ReducesTo [0, 1, 2] ⟨1, ![128]⟩) (l : Fin 128) (i : (⟨4, ![1, 1, 1, 128]⟩ : Shape).Idx) :
    hd.drop i = ix1 l ↔ ∃ k : Fin 1 × Fin 1 × Fin 1, ix4 k.1 k.2.1 k.2.2 l = i := by
  constructor
  · intro e
    refine ⟨(i 0, i 1, i 2), ?_⟩
    funext a; apply Fin.ext
    match a with
    | ⟨0, _⟩ => rfl
    | ⟨1, _⟩ => rfl
    | ⟨2, _⟩ => rfl
    | ⟨3, _⟩ => exact (congrArg Fin.val (congrFun e 0)).symm
  · rintro ⟨k, rfl⟩
    funext b
    apply Fin.ext
    match b with
    | ⟨0, _⟩ => rfl

/-- A sum along three axes of length one. -/
theorem red1 (hd : (⟨4, ![1, 1, 1, 128]⟩ : Shape).ReducesTo [0, 1, 2] ⟨1, ![128]⟩) (v : (⟨4, ![1, 1, 1, 128]⟩ : Shape).Idx → EReal) (l : Fin 128) :
    Ideal.hostReduceAdd hd v 0 (ix1 l) = v (ix4 0 0 0 l) := by
  refine (congrArg ((0 : EReal) + ·) (Finset.sum_filter_eq_sum_of_fiber _ (fun k : Fin 1 × Fin 1 × Fin 1 => ix4 k.1 k.2.1 k.2.2 l)
    (fun _ _ e => Prod.ext (congrFun e 0) (Prod.ext (congrFun e 1) (congrFun e 2))) (fiber1 hd l) v)).trans ?_
  simp only [Fintype.sum_prod_type, Fin.sum_univ_one]
  exact zero_add _

/-- An array of heads, given head by head. -/
def tH {a b : Nat} (f : Nat → Nat → Fin 128 → EReal) : (⟨2, ![a, b]⟩ : Shape).Idx → EReal := fun y =>
  f (y 0).val ((y 1).val / 128 * 128) ⟨(y 1).val % 128, Nat.mod_lt _ (by decide)⟩

theorem tH_at {a b : Nat} (f : Nat → Nat → Fin 128 → EReal) (k r : Nat) (j : Fin 128) (y : (⟨2, ![a, b]⟩ : Shape).Idx)
    (h0 : (y 0).val = r) (h1 : (y 1).val = k * 128 + j.val) : f r (k * 128) j = tH f y := by
  unfold tH
  have e1 : (y 1).val / 128 = k := by omega
  have e2 : (⟨(y 1).val % 128, Nat.mod_lt _ (by decide)⟩ : Fin 128) = j := Fin.ext (by show (y 1).val % 128 = j.val; omega)
  rw [e2, e1, h0]

/-- A block of such an array. -/
theorem tH_blk {b : Nat} (f g : Nat → Nat → Fin 128 → EReal) (t : Nat) (hb : b % 128 = 0)
    (h : ∀ r k j, r < 256 → k + 128 ≤ b → f r k j = g (t * 256 + r) k j) (y : (⟨2, ![256, b]⟩ : Shape).Idx) (z : (⟨2, ![2304, b]⟩ : Shape).Idx)
    (h0 : (z 0).val = t * 256 + (y 0).val) (h1 : (z 1).val = (y 1).val) : tH f y = tH g z := by
  unfold tH
  have hy0 : (y 0).val < 256 := (y 0).isLt
  have hy1 : (y 1).val < b := (y 1).isLt
  have e : (⟨(z 1).val % 128, Nat.mod_lt _ (by decide)⟩ : Fin 128) = ⟨(y 1).val % 128, Nat.mod_lt _ (by decide)⟩ := Fin.ext (by show (z 1).val % 128 = (y 1).val % 128; rw [h1])
  rw [e, h0, h1]
  exact h _ _ _ hy0 (by omega)

theorem row_hd (x : (⟨2, ![256, 128]⟩ : Shape).Idx → EReal) (r : Fin 256) : row x r = hd x r.val 0 :=
  funext fun l => (congrArg x (ix2_ext _ _ _ rfl (Nat.zero_add _).symm)).trans (rd_eq (a := 256) (b := 128) x r.val (0 + l.val) r.isLt (by omega)).symm

/-- A head's columns of a block. -/
theorem hd_blk {b b' : Nat} (x : (⟨2, ![256, b]⟩ : Shape).Idx → EReal) (y : (⟨2, ![2304, b']⟩ : Shape).Idx → EReal) (r R k o : Nat)
    (hr : r < 256) (hk : k + 128 ≤ b) (hR : R < 2304) (ho : o + b ≤ b')
    (h : ∀ n : Fin b, x (ix2 ⟨r, hr⟩ n) = y (ix2 ⟨R, hR⟩ ⟨o + n.val, by omega⟩)) : hd x r k = hd y R (o + k) :=
  hd_of x y r R k o hr hk fun n => (h n).trans (rd_eq y R (o + n.val) hR (by omega)).symm

section
variable (x C S d : (⟨2, ![256, 128]⟩ : Shape).Idx → EReal) {b : Nat} (x0 x4 : Vec Ideal ⟨2, ![256, b]⟩ .f32)

/-- A head's part of the gradient of the norm's weights, over a block's rows. -/
def dS (j : Fin 128) : EReal := ∑ r : Fin 256, dR (row x r) (bk (row C r) (row S r) (row d r)) j
def dH (k : Nat) (j : Fin 128) : EReal := ∑ r : Fin 256, dR (hd x0 r.val k) (bk (hd C r.val 0) (hd S r.val 0) (hd x4 r.val k)) j

theorem dS_ld (k : Nat) (h h' : ∀ a, (![0, k] : Fin 2 → Nat) a + (![256, 128] : Fin 2 → Nat) a ≤ (⟨2, ![256, b]⟩ : Shape).size a) (j : Fin 128) :
    dS (View.ld x0 (Rect.unit (s := ⟨2, ![256, b]⟩) ![0, k] ![256, 128] h)) C S (View.ld x4 (Rect.unit (s := ⟨2, ![256, b]⟩) ![0, k] ![256, 128] h')) j = dH C S x0 x4 k j := by
  unfold dS dH
  refine Finset.sum_congr rfl fun r _ => ?_
  rw [row_ld, row_ld, row_hd C, row_hd S]
end

theorem bcT : (⟨0, ![]⟩ : Shape).BroadcastsInDim ⟨2, ![256, 128]⟩ (![] : Fin 0 → Fin (⟨2, ![256, 128]⟩ : Shape).rank) := by decide
theorem ccT : Shape.Concatenates [⟨2, ![2048, 64]⟩, ⟨2, ![2048, 64]⟩] ⟨2, ![2048, 128]⟩ 1 := by decide
theorem ccR : Shape.Concatenates [⟨2, ![256, 128]⟩, ⟨2, ![2048, 128]⟩] ⟨2, ![2304, 128]⟩ 0 := by decide

section
variable (u : FVec Ideal ⟨2, ![2048, 64]⟩ .f32) (r : Fin 2304) (j : Fin 128)

abbrev ng : FVec Ideal ⟨2, ![2048, 64]⟩ .f32 := Host.negf u

/-- The cosines' table, and the sines'. -/
def cs : Vec Ideal ⟨2, ![2304, 128]⟩ .f32 :=
  concatenate ⟨2, ![2304, 128]⟩ 0
    [⟨⟨2, ![256, 128]⟩, (broadcastInDim ⟨2, ![256, 128]⟩ ![] bcT (constant (F := Ideal) ⟨0, ![]⟩ .f32 0x3F800000#32) : (⟨⟨2, ![256, 128]⟩, .f32⟩ : BufTy).Contents (Elt Ideal))⟩,
     ⟨⟨2, ![2048, 128]⟩, (concatenate ⟨2, ![2048, 128]⟩ 1 [⟨⟨2, ![2048, 64]⟩, u⟩, ⟨⟨2, ![2048, 64]⟩, u⟩] ccT : (⟨⟨2, ![2048, 128]⟩, .f32⟩ : BufTy).Contents (Elt Ideal))⟩] ccR
def sn : Vec Ideal ⟨2, ![2304, 128]⟩ .f32 :=
  concatenate ⟨2, ![2304, 128]⟩ 0
    [⟨⟨2, ![256, 128]⟩, (broadcastInDim ⟨2, ![256, 128]⟩ ![] bcT (constant (F := Ideal) ⟨0, ![]⟩ .f32 0x00000000#32) : (⟨⟨2, ![256, 128]⟩, .f32⟩ : BufTy).Contents (Elt Ideal))⟩,
     ⟨⟨2, ![2048, 128]⟩, (concatenate ⟨2, ![2048, 128]⟩ 1 [⟨⟨2, ![2048, 64]⟩, (ng u : (⟨⟨2, ![2048, 64]⟩, .f32⟩ : BufTy).Contents (Elt Ideal))⟩, ⟨⟨2, ![2048, 64]⟩, u⟩] ccT : (⟨⟨2, ![2048, 128]⟩, .f32⟩ : BufTy).Contents (Elt Ideal))⟩] ccR

theorem cs_at : (cs u (ix2 r j) : EReal) = cT u r.val j := by
  have hr := r.isLt
  have hj := j.isLt
  unfold cT
  by_cases h : r.val < 256
  · rw [if_pos h]
    pointwise [cs]
    rw [dif_pos h]
  · rw [if_neg h]
    refine Eq.trans ?_ (rd_eq (a := 2048) (b := 64) u _ _ (by omega) (Nat.mod_lt _ (by decide))).symm
    pointwise [cs]
    rw [dif_neg h]
    by_cases h' : j.val < 64
    · rw [dif_pos h']
      exact congrArg u (congrArg (ix2 _) (Fin.ext (by show j.val = j.val % 64; omega)))
    · rw [dif_neg h']
      exact congrArg u (congrArg (ix2 _) (Fin.ext (by show j.val - 64 = j.val % 64; omega)))

theorem sn_at : (sn u (ix2 r j) : EReal) = sT u r.val j := by
  have hr := r.isLt
  have hj := j.isLt
  unfold sT
  by_cases h : r.val < 256
  · rw [if_pos h]
    pointwise [sn, ng]
    rw [dif_pos h]
  · rw [if_neg h]
    by_cases h' : j.val < 64
    · rw [if_pos h']
      refine Eq.trans ?_ (congrArg (fun t : EReal => -t) (rd_eq (a := 2048) (b := 64) u _ _ (by omega) h').symm)
      pointwise [sn, ng]
      rw [dif_neg h, dif_pos h']
    · rw [if_neg h']
      refine Eq.trans ?_ (rd_eq (a := 2048) (b := 64) u _ _ (by omega) (by omega)).symm
      pointwise [sn, ng]
      rw [dif_neg h, dif_neg h']
end

theorem tab_hd (T : (⟨2, ![2304, 128]⟩ : Shape).Idx → EReal) (f : Nat → Fin 128 → EReal) (h : ∀ r j, T (ix2 r j) = f r.val j) (R : Nat) (hR : R < 2304) :
    hd T R (0 + 0) = f R :=
  funext fun j => (rd_eq T R (0 + 0 + j.val) hR (by omega)).trans ((congrArg T (ix2_ext _ ⟨R, hR⟩ j rfl (by show 0 + 0 + j.val = j.val; omega))).trans (h ⟨R, hR⟩ j))

end Cert.RopeSpec

end
-- ==== Proof.PrepAqBwdBody.lean ====
/- One program point by point: the gradient of the queries before the norm and the positions. -/
module

public import proofs.«01_k».proof.Proof.RopeSpec
public import proofs.«01_k».proof.Proof.Gen.PrepAqBwdIdeal.Value

@[expose] public section

set_option maxRecDepth 16384

noncomputable section

namespace Cert.PrepAqBwdIdeal.Body

open Idealize.ShloMosaic Idealize.ShloMosaic.TcCoe Idealize.SL.Sem
open Idealize.ShloMosaic.Pipeline (Dat)
open Cert.PrepAqBwdIdeal.Gen Cert.PrepAqBwdIdeal.Value Cert.AttSpec Cert.ConvSpec Cert.MixSpec Cert.RopeSpec

section
variable (n : Vec Ideal S1x128 .f32) (z C S d : Vec Ideal S256x128 .f32) (r : Fin 256) (j : Fin 128)

theorem pay0 : (k0_pay11 z (k0_pay9 n z C S d) (k0_pay10 n z C S d) (ix2 r j) : EReal) = dI (row z r) (row n 0) (bk (row C r) (row S r) (row d r)) j := by
  pointwise [k0_pay4, k0_pay5, k0_pay6, k0_pay7, k0_pay8, k0_pay9, k0_pay10, k0_pay11, k0_pay12, k0_pay13, k0_pay14, k0_pay15, k0_pay16, k0_pay17, k0_pay18, k0_pay19]
  simp only [Fin.sum_univ_one]
  rfl

theorem pay128 : (k0_pay20 z (k0_pay14 z) (k0_pay17 n C S d) (k0_pay18 n z C S d) (k0_pay19 z) (ix2 r j) : EReal) = dI (row z r) (row n 0) (bk (row C r) (row S r) (row d r)) j := by
  pointwise [k0_pay12, k0_pay13, k0_pay14, k0_pay15, k0_pay16, k0_pay17, k0_pay18, k0_pay19, k0_pay20]
  simp only [Fin.sum_univ_one]
  rfl

theorem pay256 : (k0_pay27 n z (k0_pay23 z) (k0_pay24 z) (k0_pay25 C S d) (ix2 r j) : EReal) = dI (row z r) (row n 0) (bk (row C r) (row S r) (row d r)) j := by
  pointwise [k0_pay22, k0_pay23, k0_pay24, k0_pay25, k0_pay26, k0_pay27]
  simp only [Fin.sum_univ_one]
  rfl

theorem pay384 : (k0_pay38 n z (k0_pay29 C) (k0_pay30 S) (k0_pay32 z) (k0_pay33 z) (k0_pay35 d) (k0_pay36 d) (ix2 r j) : EReal) = dI (row z r) (row n 0) (bk (row C r) (row S r) (row d r)) j := by
  pointwise [k0_pay29, k0_pay30, k0_pay31, k0_pay32, k0_pay33, k0_pay34, k0_pay35, k0_pay36, k0_pay37, k0_pay38, k0_pay39]
  simp only [Fin.sum_univ_one]
  rfl

theorem pay512 : (k0_pay45 n z (k0_pay40 C) (k0_pay41 S) d (k0_pay42 z) (k0_pay43 z) (ix2 r j) : EReal) = dI (row z r) (row n 0) (bk (row C r) (row S r) (row d r)) j := by
  pointwise [k0_pay40, k0_pay41, k0_pay42, k0_pay43, k0_pay44, k0_pay45, k0_pay46]
  simp only [Fin.sum_univ_one]
  rfl

theorem pay640 : (k0_pay53 n z (k0_pay47 C) (k0_pay48 S) d (k0_pay49 z) (ix2 r j) : EReal) = dI (row z r) (row n 0) (bk (row C r) (row S r) (row d r)) j := by
  pointwise [k0_pay47, k0_pay48, k0_pay49, k0_pay50, k0_pay51, k0_pay52, k0_pay53, k0_pay54]
  simp only [Fin.sum_univ_one]
  rfl

theorem pay768 : (k0_pay59 n z (k0_pay55 C) S d (ix2 r j) : EReal) = dI (row z r) (row n 0) (bk (row C r) (row S r) (row d r)) j := by
  pointwise [k0_pay55, k0_pay56, k0_pay57, k0_pay58, k0_pay59, k0_pay60, k0_pay61, k0_pay62, k0_pay63, k0_pay64, k0_pay65, k0_pay66, k0_pay67, k0_pay68]
  simp only [Fin.sum_univ_one]
  rfl

theorem pay896 : (k0_pay1 (k0_pay67 n z C S d) (k0_pay68 n z C S d) (ix2 r j) : EReal) = dI (row z r) (row n 0) (bk (row C r) (row S r) (row d r)) j := by
  pointwise [k0_pay1, k0_pay2, k0_pay3, k0_pay4, k0_pay5, k0_pay6, k0_pay7, k0_pay8, k0_pay9, k0_pay10, k0_pay61, k0_pay62, k0_pay63, k0_pay64, k0_pay65, k0_pay66, k0_pay67, k0_pay68]
  simp only [Fin.sum_univ_one]
  rfl

variable (xp : Vec Ideal S1x128 .f32) (z0 d0 z1 d1 z2 d2 z3 d3 z4 d4 z5 d5 z6 d6 z7 d7 : Vec Ideal S256x128 .f32)

theorem payA : (k0_pay2 (k0_pay60 (k0_pay54 (k0_pay46 (k0_pay39 (k0_pay28 (k0_pay21 (k0_pay7 z0 C S d0) (k0_pay16 z1 C S d1)) (k0_pay26 z2 C S d2)) (k0_pay29 C) (k0_pay30 S) (k0_pay34 z3) (k0_pay35 d3) (k0_pay36 d3)) z4 (k0_pay40 C) (k0_pay41 S) d4 (k0_pay43 z4)) z5 (k0_pay47 C) (k0_pay48 S) d5 (k0_pay49 z5)) z6 (k0_pay55 C) S d6) (k0_pay64 z7 C S d7) (ix2 0 j) : EReal) = dS z0 C S d0 j + dS z1 C S d1 j + dS z2 C S d2 j + dS z3 C S d3 j + dS z4 C S d4 j + dS z5 C S d5 j + dS z6 C S d6 j + dS z7 C S d7 j := by
  pointwise [k0_pay2, k0_pay4, k0_pay5, k0_pay6, k0_pay7, k0_pay8, k0_pay9, k0_pay10, k0_pay12, k0_pay13, k0_pay14, k0_pay15, k0_pay16, k0_pay17, k0_pay18, k0_pay19, k0_pay21, k0_pay22, k0_pay23, k0_pay24, k0_pay25, k0_pay26, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68]
  rfl

theorem payB : (k0_pay3 (k0_pay60 (k0_pay54 (k0_pay46 (k0_pay39 (k0_pay28 (k0_pay21 (k0_pay7 z0 C S d0) (k0_pay16 z1 C S d1)) (k0_pay26 z2 C S d2)) (k0_pay29 C) (k0_pay30 S) (k0_pay34 z3) (k0_pay35 d3) (k0_pay36 d3)) z4 (k0_pay40 C) (k0_pay41 S) d4 (k0_pay43 z4)) z5 (k0_pay47 C) (k0_pay48 S) d5 (k0_pay49 z5)) z6 (k0_pay55 C) S d6) (k0_pay64 z7 C S d7) xp (ix2 0 j) : EReal) = xp (ix2 0 j) + (dS z0 C S d0 j + dS z1 C S d1 j + dS z2 C S d2 j + dS z3 C S d3 j + dS z4 C S d4 j + dS z5 C S d5 j + dS z6 C S d6 j + dS z7 C S d7 j) := by
  pointwise [k0_pay2, k0_pay3, k0_pay4, k0_pay5, k0_pay6, k0_pay7, k0_pay8, k0_pay9, k0_pay10, k0_pay12, k0_pay13, k0_pay14, k0_pay15, k0_pay16, k0_pay17, k0_pay18, k0_pay19, k0_pay21, k0_pay22, k0_pay23, k0_pay24, k0_pay25, k0_pay26, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68]
  rfl
end

theorem hz : (![0, 0] : Fin 2 → Nat) = fun _ => 0 := funext fun a => by fin_cases a <;> rfl

/-- A head of a block's result. -/
def fT (z : (⟨2, ![256, 1024]⟩ : Shape).Idx → EReal) (C : (⟨2, ![256, 128]⟩ : Shape).Idx → EReal) (S : (⟨2, ![256, 128]⟩ : Shape).Idx → EReal) (n : (⟨2, ![1, 128]⟩ : Shape).Idx → EReal) (d : (⟨2, ![256, 1024]⟩ : Shape).Idx → EReal) (r k : Nat) (j : Fin 128) : EReal := dI (hd z r k) (row n 0) (bk (hd C r 0) (hd S r 0) (hd d r k)) j

section
variable (c : Dev nD) (i : grid0.Coords)
  (a1 : Memref sig .tc .vmem S256x1024 .f32) (h1 : a1.IsWhole)
  (a2 : Memref sig .tc .vmem S256x128 .f32) (h2 : a2.IsWhole)
  (a3 : Memref sig .tc .vmem S256x128 .f32) (h3 : a3.IsWhole)
  (a4 : Memref sig .tc .vmem S1x128 .f32) (h4 : a4.IsWhole)
  (a5 : Memref sig .tc .vmem S256x1024 .f32) (h5 : a5.IsWhole)
  (a6 : Memref sig .tc .vmem S256x1024 .bf16) (h6 : a6.IsWhole)
  (a7 : Memref sig .tc .vmem S1x128 .f32) (h7 : a7.IsWhole)
  (x0 : Vec Ideal S256x1024 .f32) (x1 : Vec Ideal S256x128 .f32) (x2 : Vec Ideal S256x128 .f32) (x3 : Vec Ideal S1x128 .f32) (x4 : Vec Ideal S256x1024 .f32) (x6 : Vec Ideal S1x128 .f32)

theorem out0_A_5_eq (hc0 : cond0_0 i) (hc1 : ¬cond0_1 i) (y) : (out0_A_5 (F := Ideal) c i a1 h1 a2 h2 a3 h3 a4 h4 a5 h5 a6 h6 a7 h7 hc0 hc1 x0 x1 x2 x3 x4 y : EReal) = tH (fT x0 x1 x2 x3 x4) y := by
  unfold out0_A_5
  rw [View.read_writes_eq_canon _ _ _ (cover0_A_5 c i a1 h1 a2 h2 a3 h3 a4 h4 a5 h5 a6 h6 a7 h7 hc0 hc1 x0 x1 x2 x3 x4)]
  refine View.canon_apply_of_pieces (tH (fT x0 x1 x2 x3 x4)) _ ?_ _ (cover0_A_5 c i a1 h1 a2 h2 a3 h3 a4 h4 a5 h5 a6 h6 a7 h7 hc0 hc1 x0 x1 x2 x3 x4 _)
  unfold kernelRun0_A
  dsimp only
  sl_unfold_words
  simp only [View.readAt_eq_ld, h1.read_unread, h2.read_unread, h3.read_unread, h4.read_unread, h5.read_unread, h7.read_unread, View.ld_unit_zero (S := S1x128) hz, View.ld_unit_zero (S := S256x128) hz]
  simp only [List.mem_cons, List.not_mem_nil, or_false, forall_eq_or_imp, forall_eq]
  refine ⟨?_, ?_, ?_, ?_, ?_, ?_, ?_, ?_⟩ <;> intro y <;> idx_vars y
  · refine (pay896 x3 _ x1 x2 _ y0 y1).trans ?_
    rw [row_ld, row_ld, row_hd x1, row_hd x2]
    exact tH_at (fT x0 x1 x2 x3 x4) 7 y0.val y1 _ (at0 _) (atk 7 _)
  · refine (pay768 x3 _ x1 x2 _ y0 y1).trans ?_
    rw [row_ld, row_ld, row_hd x1, row_hd x2]
    exact tH_at (fT x0 x1 x2 x3 x4) 6 y0.val y1 _ (at0 _) (atk 6 _)
  · refine (pay640 x3 _ x1 x2 _ y0 y1).trans ?_
    rw [row_ld, row_ld, row_hd x1, row_hd x2]
    exact tH_at (fT x0 x1 x2 x3 x4) 5 y0.val y1 _ (at0 _) (atk 5 _)
  · refine (pay512 x3 _ x1 x2 _ y0 y1).trans ?_
    rw [row_ld, row_ld, row_hd x1, row_hd x2]
    exact tH_at (fT x0 x1 x2 x3 x4) 4 y0.val y1 _ (at0 _) (atk 4 _)
  · refine (pay384 x3 _ x1 x2 _ y0 y1).trans ?_
    rw [row_ld, row_ld, row_hd x1, row_hd x2]
    exact tH_at (fT x0 x1 x2 x3 x4) 3 y0.val y1 _ (at0 _) (atk 3 _)
  · refine (pay256 x3 _ x1 x2 _ y0 y1).trans ?_
    rw [row_ld, row_ld, row_hd x1, row_hd x2]
    exact tH_at (fT x0 x1 x2 x3 x4) 2 y0.val y1 _ (at0 _) (atk 2 _)
  · refine (pay128 x3 _ x1 x2 _ y0 y1).trans ?_
    rw [row_ld, row_ld, row_hd x1, row_hd x2]
    exact tH_at (fT x0 x1 x2 x3 x4) 1 y0.val y1 _ (at0 _) (atk 1 _)
  · refine (pay0 x3 _ x1 x2 _ y0 y1).trans ?_
    rw [row_ld, row_ld, row_hd x1, row_hd x2]
    exact tH_at (fT x0 x1 x2 x3 x4) 0 y0.val y1 _ (at0 _) (atk 0 _)

theorem out0_A_6_eq (hc0 : cond0_0 i) (hc1 : ¬cond0_1 i) (j : Fin 128) : (out0_A_6 (F := Ideal) c i a1 h1 a2 h2 a3 h3 a4 h4 a5 h5 a6 h6 a7 h7 hc0 hc1 x0 x1 x2 x3 x4 (ix2 0 j) : EReal) = dH x1 x2 x0 x4 0 j + dH x1 x2 x0 x4 128 j + dH x1 x2 x0 x4 256 j + dH x1 x2 x0 x4 384 j + dH x1 x2 x0 x4 512 j + dH x1 x2 x0 x4 640 j + dH x1 x2 x0 x4 768 j + dH x1 x2 x0 x4 896 j := by
  unfold out0_A_6
  rw [View.read_writes_eq_canon _ _ _ (cover0_A_6 c i a1 h1 a2 h2 a3 h3 a4 h4 a5 h5 a6 h6 a7 h7 hc0 hc1 x0 x1 x2 x3 x4)]
  unfold kernelRun0_A
  dsimp only
  sl_unfold_words
  rw [View.canon_unit_zero hz]
  simp only [View.readAt_eq_ld, h1.read_unread, h2.read_unread, h3.read_unread, h4.read_unread, h5.read_unread, h7.read_unread, View.ld_unit_zero (S := S1x128) hz, View.ld_unit_zero (S := S256x128) hz]
  refine (payA x1 x2 j _ _ _ _ _ _ _ _ _ _ _ _ _ _ _ _).trans ?_
  rw [dS_ld, dS_ld, dS_ld, dS_ld, dS_ld, dS_ld, dS_ld, dS_ld]

theorem out0_B_5_eq (hc0 : ¬cond0_0 i) (hc1 : cond0_1 i) (y) : (out0_B_5 (F := Ideal) c i a1 h1 a2 h2 a3 h3 a4 h4 a5 h5 a6 h6 a7 h7 hc0 hc1 x0 x1 x2 x3 x4 x6 y : EReal) = tH (fT x0 x1 x2 x3 x4) y := by
  unfold out0_B_5
  rw [View.read_writes_eq_canon _ _ _ (cover0_B_5 c i a1 h1 a2 h2 a3 h3 a4 h4 a5 h5 a6 h6 a7 h7 hc0 hc1 x0 x1 x2 x3 x4 x6)]
  refine View.canon_apply_of_pieces (tH (fT x0 x1 x2 x3 x4)) _ ?_ _ (cover0_B_5 c i a1 h1 a2 h2 a3 h3 a4 h4 a5 h5 a6 h6 a7 h7 hc0 hc1 x0 x1 x2 x3 x4 x6 _)
  unfold kernelRun0_B
  dsimp only
  sl_unfold_words
  simp only [View.readAt_eq_ld, h1.read_unread, h2.read_unread, h3.read_unread, h4.read_unread, h5.read_unread, h7.read_unread, View.ld_unit_zero (S := S1x128) hz, View.ld_unit_zero (S := S256x128) hz]
  simp only [List.mem_cons, List.not_mem_nil, or_false, forall_eq_or_imp, forall_eq]
  refine ⟨?_, ?_, ?_, ?_, ?_, ?_, ?_, ?_⟩ <;> intro y <;> idx_vars y
  · refine (pay896 x3 _ x1 x2 _ y0 y1).trans ?_
    rw [row_ld, row_ld, row_hd x1, row_hd x2]
    exact tH_at (fT x0 x1 x2 x3 x4) 7 y0.val y1 _ (at0 _) (atk 7 _)
  · refine (pay768 x3 _ x1 x2 _ y0 y1).trans ?_
    rw [row_ld, row_ld, row_hd x1, row_hd x2]
    exact tH_at (fT x0 x1 x2 x3 x4) 6 y0.val y1 _ (at0 _) (atk 6 _)
  · refine (pay640 x3 _ x1 x2 _ y0 y1).trans ?_
    rw [row_ld, row_ld, row_hd x1, row_hd x2]
    exact tH_at (fT x0 x1 x2 x3 x4) 5 y0.val y1 _ (at0 _) (atk 5 _)
  · refine (pay512 x3 _ x1 x2 _ y0 y1).trans ?_
    rw [row_ld, row_ld, row_hd x1, row_hd x2]
    exact tH_at (fT x0 x1 x2 x3 x4) 4 y0.val y1 _ (at0 _) (atk 4 _)
  · refine (pay384 x3 _ x1 x2 _ y0 y1).trans ?_
    rw [row_ld, row_ld, row_hd x1, row_hd x2]
    exact tH_at (fT x0 x1 x2 x3 x4) 3 y0.val y1 _ (at0 _) (atk 3 _)
  · refine (pay256 x3 _ x1 x2 _ y0 y1).trans ?_
    rw [row_ld, row_ld, row_hd x1, row_hd x2]
    exact tH_at (fT x0 x1 x2 x3 x4) 2 y0.val y1 _ (at0 _) (atk 2 _)
  · refine (pay128 x3 _ x1 x2 _ y0 y1).trans ?_
    rw [row_ld, row_ld, row_hd x1, row_hd x2]
    exact tH_at (fT x0 x1 x2 x3 x4) 1 y0.val y1 _ (at0 _) (atk 1 _)
  · refine (pay0 x3 _ x1 x2 _ y0 y1).trans ?_
    rw [row_ld, row_ld, row_hd x1, row_hd x2]
    exact tH_at (fT x0 x1 x2 x3 x4) 0 y0.val y1 _ (at0 _) (atk 0 _)

theorem out0_B_6_eq (hc0 : ¬cond0_0 i) (hc1 : cond0_1 i) (j : Fin 128) : (out0_B_6 (F := Ideal) c i a1 h1 a2 h2 a3 h3 a4 h4 a5 h5 a6 h6 a7 h7 hc0 hc1 x0 x1 x2 x3 x4 x6 (ix2 0 j) : EReal) = x6 (ix2 0 j) + (dH x1 x2 x0 x4 0 j + dH x1 x2 x0 x4 128 j + dH x1 x2 x0 x4 256 j + dH x1 x2 x0 x4 384 j + dH x1 x2 x0 x4 512 j + dH x1 x2 x0 x4 640 j + dH x1 x2 x0 x4 768 j + dH x1 x2 x0 x4 896 j) := by
  unfold out0_B_6
  rw [View.read_writes_eq_canon _ _ _ (cover0_B_6 c i a1 h1 a2 h2 a3 h3 a4 h4 a5 h5 a6 h6 a7 h7 hc0 hc1 x0 x1 x2 x3 x4 x6)]
  unfold kernelRun0_B
  dsimp only
  sl_unfold_words
  rw [View.canon_unit_zero hz]
  simp only [View.readAt_eq_ld, h1.read_unread, h2.read_unread, h3.read_unread, h4.read_unread, h5.read_unread, h7.read_unread, View.ld_unit_zero (S := S1x128) hz, View.ld_unit_zero (S := S256x128) hz]
  refine (payB x1 x2 j x6 _ _ _ _ _ _ _ _ _ _ _ _ _ _ _ _).trans ?_
  rw [dS_ld, dS_ld, dS_ld, dS_ld, dS_ld, dS_ld, dS_ld, dS_ld]

end

variable (m : (ℓ : Loc nD τ sig) → Buf (Elt Ideal) ℓ)

theorem ltN (t : Fin cfg0.N) : t.val < 9 := lt_of_lt_of_eq t.isLt Gen.N_0

/-- The arguments on a device. -/
abbrev az (c : Dev nD) : Vec Ideal S2304x5376 .f32 := m ((c : Thread nD τ).loc main_arg0)
abbrev au (c : Dev nD) : Vec Ideal S2048x64 .f32 := m ((c : Thread nD τ).loc main_arg1)
abbrev av (c : Dev nD) : Vec Ideal S2048x64 .f32 := m ((c : Thread nD τ).loc main_arg2)
abbrev an (c : Dev nD) : Vec Ideal S1x128 .f32 := m ((c : Thread nD τ).loc main_arg3)
abbrev ad (c : Dev nD) : Vec Ideal S2304x1024 .f32 := m ((c : Thread nD τ).loc main_arg4)

theorem V_main_v2 (c : Dev nD) : V m c main_v2 = cs (au m c) := by
  show StableHlo.after hostOps0 _ (Proc.devRef .tc main_v2) = _
  after_results
  rfl

theorem V_main_v6 (c : Dev nD) : V m c main_v6 = sn (av m c) := by
  show StableHlo.after hostOps0 _ (Proc.devRef .tc main_v6) = _
  after_results
  rfl

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx3 : ∀ t : Fin grid0.N, win0_3.index t 0 = 0 ∧ win0_3.index t 1 = 0 := by decide +kernel
theorem idx6 : ∀ t : Fin grid0.N, win0_6.index t 0 = 0 ∧ win0_6.index t 1 = 0 := by decide +kernel

section
variable (c : Dev nD) (t : Fin cfg0.N) (r : Nat) (hr : r < 256)
include hr

theorem tab1 : hd (a := 256) (b := 128) (iblk m c 1 t) r 0 = cT (au m c) (t.val * 256 + r) := by
  have ht := ltN t
  refine Eq.trans ?_ (tab_hd (cs (au m c)) _ (cs_at _) _ (by omega))
  refine hd_blk _ _ r _ 0 0 hr (by omega) (by omega) (by decide) fun n => ?_
  unfold iblk
  rw [View.read_apply]
  show V m c main_v2 _ = _
  rw [V_main_v2]
  refine congrArg _ (ix2_ext _ _ _ ?_ ?_)
  · show win0_1.index t 0 * 256 + 1 * r = t.val * 256 + r; rw [(idx1 t).1]; omega
  · show win0_1.index t 1 * 128 + 1 * n.val = 0 + n.val; rw [(idx1 t).2]; omega

theorem tab2 : hd (a := 256) (b := 128) (iblk m c 2 t) r 0 = sT (av m c) (t.val * 256 + r) := by
  have ht := ltN t
  refine Eq.trans ?_ (tab_hd (sn (av m c)) _ (sn_at _) _ (by omega))
  refine hd_blk _ _ r _ 0 0 hr (by omega) (by omega) (by decide) fun n => ?_
  unfold iblk
  rw [View.read_apply]
  show V m c main_v6 _ = _
  rw [V_main_v6]
  refine congrArg _ (ix2_ext _ _ _ ?_ ?_)
  · show win0_2.index t 0 * 256 + 1 * r = t.val * 256 + r; rw [(idx2 t).1]; omega
  · show win0_2.index t 1 * 128 + 1 * n.val = 0 + n.val; rw [(idx2 t).2]; omega

theorem hd0 (k : Nat) (hk : k + 128 ≤ 1024) :
    hd (a := 256) (b := 1024) (X0_0 m c t) r k = hd (a := 2304) (b := 5376) (az m c) (t.val * 256 + r) k := by
  have ht := ltN t
  refine Eq.trans (hd_blk _ (az m c) r _ k 0 hr hk (by omega) (by decide) fun n => ?_) (congrArg (hd _ _) (Nat.zero_add k))
  unfold X0_0 Pipeline.Window.fill
  rw [dif_pos (moved0_0 t _)]
  unfold iblk
  rw [View.read_apply]
  show V m c main_arg0 _ = _
  rw [V_main_arg0]
  refine congrArg _ (ix2_ext _ _ _ ?_ ?_)
  · show win0_0.index t 0 * 256 + 1 * r = t.val * 256 + r; rw [(idx0 t).1]; omega
  · show win0_0.index t 1 * 1024 + 1 * n.val = 0 + n.val; rw [(idx0 t).2]; omega

theorem hd4 (k : Nat) (hk : k + 128 ≤ 1024) :
    hd (a := 256) (b := 1024) (iblk m c 4 t) r k = hd (a := 2304) (b := 1024) (ad m c) (t.val * 256 + r) k := by
  have ht := ltN t
  refine Eq.trans (hd_blk _ (ad m c) r _ k 0 hr hk (by omega) (by decide) fun n => ?_) (congrArg (hd _ _) (Nat.zero_add k))
  unfold iblk
  rw [View.read_apply]
  show V m c main_arg4 _ = _
  rw [V_main_arg4]
  refine congrArg _ (ix2_ext _ _ _ ?_ ?_)
  · show win0_4.index t 0 * 256 + 1 * r = t.val * 256 + r; rw [(idx4 t).1]; omega
  · show win0_4.index t 1 * 1024 + 1 * n.val = 0 + n.val; rw [(idx4 t).2]; omega

end

theorem row3 (c : Dev nD) (t : Fin cfg0.N) : row (iblk m c 3 t) 0 = row (an m c) 0 := by
  funext l
  show (iblk m c 3 t (ix2 0 l) : EReal) = an m c (ix2 0 l)
  unfold iblk
  rw [View.read_apply]
  show V m c main_arg3 _ = _
  rw [V_main_arg3]
  refine congrArg _ (ix2_ext _ _ _ ?_ ?_)
  · show win0_3.index t 0 * 1 + 1 * 0 = 0; rw [(idx3 t).1]
  · show win0_3.index t 1 * 128 + 1 * l.val = l.val; rw [(idx3 t).2]; omega

/-- A head of the whole result. -/
def gT (z : (⟨2, ![2304, 5376]⟩ : Shape).Idx → EReal) (u v : (⟨2, ![2048, 64]⟩ : Shape).Idx → EReal) (n : (⟨2, ![1, 128]⟩ : Shape).Idx → EReal) (d : (⟨2, ![2304, 1024]⟩ : Shape).Idx → EReal) (r k : Nat) (j : Fin 128) : EReal := dI (hd z r (k)) (row n 0) (bk (cT u r) (sT v r) (hd d r k)) j

theorem fg (c : Dev nD) (t : Fin cfg0.N) (r k : Nat) (j : Fin 128) (hr : r < 256) (hk : k + 128 ≤ 1024) :
    fT (X0_0 m c t) (iblk m c 1 t) (iblk m c 2 t) (iblk m c 3 t) (iblk m c 4 t) r k j = gT (az m c) (au m c) (av m c) (an m c) (ad m c) (t.val * 256 + r) k j := by
  unfold fT gT
  rw [row3 m c t, tab1 m c t r hr, tab2 m c t r hr, hd0 m c t r hr k hk, hd4 m c t r hr k hk]

/-- The whole result. -/
def res (c : Dev nD) : Vec Ideal S2304x1024 .bf16 := tH (gT (az m c) (au m c) (av m c) (an m c) (ad m c))

section
variable (z : (⟨2, ![2304, 5376]⟩ : Shape).Idx → EReal) (u v : (⟨2, ![2048, 64]⟩ : Shape).Idx → EReal) (d : (⟨2, ![2304, 1024]⟩ : Shape).Idx → EReal)

/-- One row's part of the gradient of the norm's weights, of the head starting `k` columns in. -/
def pN (k r : Nat) (j : Fin 128) : EReal := dR (hd z r (k)) (bk (cT u r) (sT v r) (hd d r k)) j

/-- The gradient of the norm's weights. -/
def gN (j : Fin 128) : EReal := ∑ h : Fin 8, ∑ r : Fin 2304, pN z u v d (h.val * 128) r.val j
end

section
variable (c : Dev nD) (j : Fin 128)

/-- Head `k`'s part of block `i`'s sum. -/
def sN (k i : Nat) : EReal := ∑ r : Fin 256, pN (az m c) (au m c) (av m c) (ad m c) k (i * 256 + r.val) j

/-- What block `i` adds to the gradient of the norm's weights. -/
def cN (i : Nat) : EReal := sN m c j 0 i + sN m c j 128 i + sN m c j 256 i + sN m c j 384 i + sN m c j 512 i + sN m c j 640 i + sN m c j 768 i + sN m c j 896 i

theorem head_eq (t : Fin cfg0.N) (k : Nat) (hk : k + 128 ≤ 1024) : dH (iblk m c 1 t) (iblk m c 2 t) (X0_0 m c t) (iblk m c 4 t) k j = sN m c j k t.val :=
  Finset.sum_congr rfl fun r _ => by
    rw [tab1 m c t _ r.isLt, tab2 m c t _ r.isLt, hd0 m c t _ r.isLt _ hk, hd4 m c t _ r.isLt _ hk]
    rfl

theorem cN_eq (t : Fin cfg0.N) : dH (iblk m c 1 t) (iblk m c 2 t) (X0_0 m c t) (iblk m c 4 t) 0 j + dH (iblk m c 1 t) (iblk m c 2 t) (X0_0 m c t) (iblk m c 4 t) 128 j + dH (iblk m c 1 t) (iblk m c 2 t) (X0_0 m c t) (iblk m c 4 t) 256 j + dH (iblk m c 1 t) (iblk m c 2 t) (X0_0 m c t) (iblk m c 4 t) 384 j + dH (iblk m c 1 t) (iblk m c 2 t) (X0_0 m c t) (iblk m c 4 t) 512 j + dH (iblk m c 1 t) (iblk m c 2 t) (X0_0 m c t) (iblk m c 4 t) 640 j + dH (iblk m c 1 t) (iblk m c 2 t) (X0_0 m c t) (iblk m c 4 t) 768 j + dH (iblk m c 1 t) (iblk m c 2 t) (X0_0 m c t) (iblk m c 4 t) 896 j = cN m c j t.val := by
  rw [head_eq m c j t 0 (by decide), head_eq m c j t 128 (by decide), head_eq m c j t 256 (by decide), head_eq m c j t 384 (by decide), head_eq m c j t 512 (by decide), head_eq m c j t 640 (by decide), head_eq m c j t 768 (by decide), head_eq m c j t 896 (by decide)]
  rfl

theorem sum_heads (T : Nat → EReal) : T 0 + T 128 + T 256 + T 384 + T 512 + T 640 + T 768 + T 896 = ∑ h : Fin 8, T (h.val * 128) := by
  rw [Fin.sum_univ_eight]
  rfl

theorem sum_cN : ∑ i ∈ Finset.range 9, cN m c j i = gN (az m c) (au m c) (av m c) (ad m c) j := by
  have e : ∀ k, ∑ i ∈ Finset.range 9, sN m c j k i = ∑ r : Fin 2304, pN (az m c) (au m c) (av m c) (ad m c) k r.val j :=
    fun k => sum_blocks (fun r => pN (az m c) (au m c) (av m c) (ad m c) k r j)
  unfold cN
  simp only [Finset.sum_add_distrib, e]
  exact sum_heads (fun k => ∑ r : Fin 2304, pN (az m c) (au m c) (av m c) (ad m c) k r.val j)

/-- After point `n` the staged gradient of the weights holds the sum of the blocks so far. -/
theorem outs6_eq : ∀ (n : Nat) (h : n < cfg0.N), ((outsAt0 m c n h).2 (ix2 0 j) : EReal) = ∑ i ∈ Finset.range (n + 1), cN m c j i := by
  intro n
  induction n with
  | zero =>
    intro h
    have e := congrArg (fun o => (o.2 (ix2 0 j) : EReal)) (outsAt0_A m c ⟨0, h⟩ rfl (by dsimp only; omega))
    simp only [out0_A_6_eq] at e
    exact e.trans ((cN_eq m c j ⟨0, h⟩).trans (by simp))
  | succ n ih =>
    intro h
    have hn : n + 1 < 9 := lt_of_lt_of_eq h Gen.N_0
    have e := congrArg (fun o => (o.2 (ix2 0 j) : EReal)) (outsAt0_B m c ⟨n + 1, h⟩ (by dsimp only; omega) (by dsimp only; omega))
    simp only [out0_B_6_eq] at e
    refine e.trans ?_
    rw [cN_eq m c j ⟨n + 1, h⟩, Finset.sum_range_succ _ (n + 1)]
    show ((outsAt0 m c n _).2 (ix2 0 j) : EReal) + cN m c j (n + 1) = _
    rw [ih (Nat.lt_of_succ_lt h)]
end

/-- The gradient of the norm's weights. -/
def resN (c : Dev nD) : Vec Ideal S1x128 .f32 := fun y => gN (az m c) (au m c) (av m c) (ad m c) (y 1)

theorem outs5_eq (c : Dev nD) (t : Fin cfg0.N) (y) : ((outsAt0 m c t.val t.isLt).1 y : EReal) = tH (fT (X0_0 m c t) (iblk m c 1 t) (iblk m c 2 t) (iblk m c 3 t) (iblk m c 4 t)) y := by
  have ht := ltN t
  by_cases h0 : t.val = 0
  · have e := congrArg (fun o => (o.1 y : EReal)) (outsAt0_A m c t (by omega) (by omega))
    simp only [out0_A_5_eq] at e
    exact e
  · have e := congrArg (fun o => (o.1 y : EReal)) (outsAt0_B m c t (by omega) (by omega))
    simp only [out0_B_5_eq] at e
    exact e

theorem flushed6_eq (c : Dev nD) (t : Fin cfg0.N) (hf : (cfg0.win 6).flush t = true) :
    (dats m 0 c).flushed 6 t = ((cfg0.win 6).blk t).view.read (Elt Ideal) (resN m c) := by
  have ht := ltN t
  have hl : t.val = 8 := by have := (flush0_6 t).mp hf; omega
  rw [flushed6]
  funext y
  rw [View.read_apply]
  show (outsAt0 m c t.val t.isLt).2 _ = resN m c _
  have hy0 : (y 0).val < 1 := (y 0).isLt
  have hy1 : (y 1).val < 128 := (y 1).isLt
  refine Eq.trans (congrArg _ (ix2_ext _ 0 ⟨(y 1).val, hy1⟩ (by show (y 0).val = 0; omega) rfl)) ((outs6_eq m c ⟨(y 1).val, hy1⟩ t.val t.isLt).trans ?_)
  rw [hl, show 8 + 1 = 9 from rfl, sum_cN]
  refine congrArg (gN (az m c) (au m c) (av m c) (ad m c)) (Fin.ext ?_)
  show (y 1).val = win0_6.index t 1 * 128 + 1 * (y 1).val
  rw [(idx6 t).2]; omega

theorem final6 (c : Dev nD) : (dats m 0 c).arrAt 6 cfg0.N = resN m c :=
  (dats m 0 c).arrAt_eq_of_cover 6 (resN m c) (flushed6_eq m c) fun i => by
    have hi0 : (i 0).val < 1 := (i 0).isLt
    have hi1 : (i 1).val < 128 := (i 1).isLt
    refine ⟨⟨8, by show _ < grid0.N; rw [Gen.N_0]; omega⟩, (flush0_6 _).mpr (by dsimp only), ?_⟩
    generalize ht : (⟨8, _⟩ : Fin grid0.N) = t
    show i ∈ ((View.whole main_v7_1).slice (win0_6.rect t)).set
    rw [View.set_slice_whole, Rect.mem_set_unit]
    intro a
    match a with
    | ⟨0, _⟩ => exact mem_box 1 (i 0).val (idx6 t).1 (by omega)
    | ⟨1, _⟩ => exact mem_box 128 (i 1).val (idx6 t).2 (by omega)

theorem flushed5_eq (c : Dev nD) (t : Fin cfg0.N) (hf : (cfg0.win 5).flush t = true) :
    (dats m 0 c).flushed 5 t = ((cfg0.win 5).blk t).view.read (Elt Ideal) (res m c) := by
  rw [flushed5]
  funext y
  rw [View.read_apply]
  refine Eq.trans (outs5_eq m c t _) (tH_blk _ _ t.val rfl (fg m c t) _ _ ?_ ?_)
  · show win0_5.index t 0 * 256 + 1 * (y 0).val = t.val * 256 + (y 0).val
    rw [(idx5 t).1, Nat.one_mul]
  · show win0_5.index t 1 * 1024 + 1 * (y 1).val = (y 1).val
    rw [(idx5 t).2, Nat.one_mul, Nat.zero_mul, Nat.zero_add]

theorem final5 (c : Dev nD) : (dats m 0 c).arrAt 5 cfg0.N = res m c :=
  (dats m 0 c).arrAt_eq_of_cover 5 (res m c) (flushed5_eq m c) fun i => by
    have hi0 : (i 0).val < 2304 := (i 0).isLt
    have hi1 : (i 1).val < 1024 := (i 1).isLt
    refine ⟨⟨(i 0).val / 256, by show _ < grid0.N; rw [Gen.N_0]; omega⟩, flush0_5 _, ?_⟩
    generalize ht : (⟨(i 0).val / 256, _⟩ : Fin grid0.N) = t
    have ht' : t.val = (i 0).val / 256 := by rw [← ht]
    show i ∈ ((View.whole main_v7_0).slice (win0_5.rect t)).set
    rw [View.set_slice_whole, Rect.mem_set_unit]
    intro a
    match a with
    | ⟨0, _⟩ => exact mem_box 256 (i 0).val (idx5 t).1 (by omega)
    | ⟨1, _⟩ => exact mem_box 1024 (i 1).val (idx5 t).2 (by omega)

end Cert.PrepAqBwdIdeal.Body

end
-- ==== Proof.PrepAqBwdClaims.lean ====
/- The reference for the gradient of the queries before the norm and the positions, and the claims. -/
module

public import proofs.«01_k».proof.Proof.PrepAqBwdBody
public import proofs.«01_k».proof.Proof.Gen.QueriesGradIdeal.Run
public import proofs.«01_k».proof.Proof.Gen.QueriesGradIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.QueriesGradIdeal.Ref
open Cert.QueriesGradIdeal.Gen Cert.QueriesGradIdeal.Read Cert.AttSpec Cert.ConvSpec Cert.MixSpec Cert.RopeSpec

variable (x0 : Vec Ideal S2304x5376 .f32) (x1 x2 : Vec Ideal S2048x64 .f32) (x3 : Vec Ideal S1x128 .f32) (x4 : Vec Ideal S2304x1024 .f32)

/-- A head's rows of the two arrays. -/
abbrev Z (h r : Nat) : Fin 128 → EReal := hd (a := 2304) (b := 5376) x0 r (h * 128)
abbrev D (h r : Nat) : Fin 128 → EReal := bk (cT x1 r) (sT x2 r) (hd (a := 2304) (b := 1024) x4 r (h * 128))

section
variable (h : Fin 8) (r : Fin 2048) (l : Fin 128)

theorem lo_eq (hl : l.val < 64) : (val_main_v81 (F := Ideal) x1 x2 x4 (ix4 0 h r ⟨l.val, hl⟩) : EReal) = D x1 x2 x4 h.val (256 + r.val) l := by
  have hh := h.isLt
  have hr := r.isLt
  refine Eq.trans ?_ (bk_lo _ _ _ (256 + r.val) _ (by omega) hl).symm
  pointwise [val_main_v81, val_main_v74, val_main_v80, val_main_v73, val_main_v79, val_main_v70, val_main_v69, val_main_v68, val_main_v67, val_main_v66, val_main_v64, val_main_v52, val_main_v45]
  refine congrArg₂ (fun s t : EReal => s + t) (congrArg₂ (fun s t : EReal => s * t) ?_ ?_) (congrArg₂ (fun s t : EReal => s * t) ?_ ?_)
  · exact rd_at x4 _ _ _ _ _ _ (by omega) (by show _ = h.val * 128 + (l.val + 64); omega)
  · exact rd_at x2 r.val l.val _ _ r.isLt hl (by omega) rfl
  · exact rd_at x4 _ _ _ _ _ _ (by omega) (by omega)
  · exact rd_at x1 r.val l.val _ _ r.isLt hl (by omega) rfl

theorem hi_eq (hl : ¬ l.val < 64) : (val_main_v78 (F := Ideal) x1 x2 x4 (ix4 0 h r ⟨l.val - 64, by omega⟩) : EReal) = D x1 x2 x4 h.val (256 + r.val) l := by
  have hh := h.isLt
  have hr := r.isLt
  have hl2 := l.isLt
  refine Eq.trans ?_ (bk_hi _ _ _ (256 + r.val) _ (by omega) hl).symm
  pointwise [val_main_v78, val_main_v72, val_main_v77, val_main_v71, val_main_v76, val_main_v75, val_main_v70, val_main_v69, val_main_v68, val_main_v67, val_main_v66, val_main_v64, val_main_v55, val_main_v48]
  refine congrArg₂ (fun s t : EReal => s + t) (congrArg₂ (fun s t : EReal => s * t) ?_ ?_) (congrArg₂ (fun s t : EReal => -s * t) ?_ ?_)
  · exact rd_at x4 _ _ _ _ _ _ (by omega) (by omega)
  · exact rd_at x1 r.val (l.val - 64) _ _ r.isLt (by omega) (by omega) rfl
  · exact rd_at x4 _ _ _ _ _ _ (by omega) (by show _ = h.val * 128 + (l.val - 64); omega)
  · exact rd_at x2 r.val (l.val - 64) _ _ r.isLt (by omega) (by omega) rfl

theorem dL_eq : (val_main_v84 (F := Ideal) x1 x2 x4 (ix4 0 h r l) : EReal) = D x1 x2 x4 h.val (256 + r.val) l := by
  have hl2 := l.isLt
  pointwise [val_main_v84, val_main_v82, val_main_v83, val_main_cst_7, val_main_cst_8]
  by_cases hl : l.val < 64
  · rw [dif_neg (by omega), dif_pos hl, zero_add]
    exact lo_eq x1 x2 x4 h r l hl
  · rw [dif_pos (by omega), dif_neg hl, add_zero]
    exact hi_eq x1 x2 x4 h r l hl
end

theorem dC_eq (h : Fin 8) (r : Fin 256) (l : Fin 128) : (val_main_v112 (F := Ideal) x4 (ix4 0 h r l) : EReal) = D x1 x2 x4 h.val r.val l := by
  have hh := h.isLt
  have hr := r.isLt
  have hl := l.isLt
  refine Eq.trans ?_ (bk_ctx _ _ _ r.val _ hr).symm
  pointwise [val_main_v112, val_main_v111, val_main_v65, val_main_v64]
  exact rd_at x4 _ _ _ _ _ _ (by omega) (by omega)

section
variable (h : Fin 8) (r : Fin 2048) (l : Fin 128)

theorem zL_eq : (val_main_v26 (F := Ideal) x0 (ix4 0 h r l) : EReal) = Z x0 h.val (256 + r.val) l := by
  have hh := h.isLt
  have hr := r.isLt
  have hl := l.isLt
  pointwise [val_main_v26, val_main_v25, val_main_v24, val_main_v23, val_main_v0]
  exact rd_at x0 _ _ _ _ _ _ (by omega) (by omega)

theorem msL_eq : (val_main_v33 (F := Ideal) x0 (ix4 0 h r 0) : EReal) = ms (Z x0 h.val (256 + r.val)) := by
  pointwise [val_main_v33, val_main_v31, val_main_v29, val_main_v28, val_main_v27, val_main_cst_3, val_main_v30, val_main_cst_4, val_main_v32, val_main_cst_5]
  simp only [zL_eq]
  rfl

theorem nrmL_eq : (val_main_v39 (F := Ideal) x0 (ix4 0 h r l) : EReal) = nrm (Z x0 h.val (256 + r.val)) l := by
  pointwise [val_main_v39, val_main_v38, val_main_v34]
  rw [zL_eq, msL_eq]
  rfl

theorem nL_eq : (val_main_v88 (F := Ideal) x3 (ix4 0 h r l) : EReal) = row x3 0 l := by
  pointwise [val_main_v88, val_main_v40]

theorem dotL_eq : (val_main_v94 (F := Ideal) x0 x1 x2 x3 x4 (ix4 0 h r 0) : EReal)
    = ∑ l, Z x0 h.val (256 + r.val) l * (D x1 x2 x4 h.val (256 + r.val) l * row x3 0 l) := by
  pointwise [val_main_v94, val_main_v93, val_main_v92, val_main_cst_11, val_main_v89]
  simp only [zL_eq, dL_eq, nL_eq]

theorem slopeL_eq : (val_main_v102 (F := Ideal) x0 x1 x2 x3 x4 (ix4 0 h r l) : EReal) = slope (Z x0 h.val (256 + r.val)) (row x3 0) (D x1 x2 x4 h.val (256 + r.val)) := by
  pointwise [val_main_v102, val_main_v101, val_main_v100, val_main_cst_13]
  refine (red2 _ _ _ _).trans ?_
  pointwise [val_main_v99, val_main_v98, val_main_cst_12, val_main_v97, val_main_v37, val_main_v36, val_main_cst_6, val_main_v35, val_main_v34]
  rw [dotL_eq, msL_eq]
  rfl

theorem dIL_eq : (val_main_v106 (F := Ideal) x0 x1 x2 x3 x4 (ix4 0 h r l) : EReal) = dI (Z x0 h.val (256 + r.val)) (row x3 0) (D x1 x2 x4 h.val (256 + r.val)) l := by
  pointwise [val_main_v106, val_main_v104, val_main_v96, val_main_v89, val_main_v95, val_main_v34, val_main_v103, val_main_v105]
  rw [zL_eq, msL_eq, dL_eq, nL_eq, slopeL_eq]
  rfl
end

theorem dnL_eq (l : Fin 128) : (val_main_v91 (F := Ideal) x0 x1 x2 x4 (ix2 0 l) : EReal)
    = ∑ h : Fin 8, ∑ r : Fin 2048, dR (Z x0 h.val (256 + r.val)) (D x1 x2 x4 h.val (256 + r.val)) l := by
  pointwise [val_main_v91, val_main_v90, val_main_cst_10]
  refine (red1 _ _ _).trans ?_
  pointwise [val_main_v87, val_main_v86, val_main_cst_9]
  refine (redN _ _ _).trans ?_
  pointwise [val_main_v85]
  simp only [nrmL_eq, dL_eq]
  rfl

section
variable (h : Fin 8) (r : Fin 256) (l : Fin 128)

theorem zC_eq : (val_main_v4 (F := Ideal) x0 (ix4 0 h r l) : EReal) = Z x0 h.val r.val l := by
  have hh := h.isLt
  have hr := r.isLt
  have hl := l.isLt
  pointwise [val_main_v4, val_main_v3, val_main_v2, val_main_v1, val_main_v0]
  exact rd_at x0 _ _ _ _ _ _ (by omega) (by omega)

theorem msC_eq : (val_main_v11 (F := Ideal) x0 (ix4 0 h r 0) : EReal) = ms (Z x0 h.val r.val) := by
  pointwise [val_main_v11, val_main_v9, val_main_v7, val_main_v6, val_main_v5, val_main_cst, val_main_v8, val_main_cst_0, val_main_v10, val_main_cst_1]
  simp only [zC_eq]
  rfl

theorem nrmC_eq : (val_main_v17 (F := Ideal) x0 (ix4 0 h r l) : EReal) = nrm (Z x0 h.val r.val) l := by
  pointwise [val_main_v17, val_main_v16, val_main_v12]
  rw [zC_eq, msC_eq]
  rfl

theorem nC_eq : (val_main_v116 (F := Ideal) x3 (ix4 0 h r l) : EReal) = row x3 0 l := by
  pointwise [val_main_v116, val_main_v18]

theorem dotC_eq : (val_main_v123 (F := Ideal) x0 x3 x4 (ix4 0 h r 0) : EReal)
    = ∑ l, Z x0 h.val r.val l * (D x1 x2 x4 h.val r.val l * row x3 0 l) := by
  pointwise [val_main_v123, val_main_v122, val_main_v121, val_main_cst_18, val_main_v117]
  simp only [zC_eq, dC_eq x1 x2, nC_eq]

theorem slopeC_eq : (val_main_v131 (F := Ideal) x0 x3 x4 (ix4 0 h r l) : EReal) = slope (Z x0 h.val r.val) (row x3 0) (D x1 x2 x4 h.val r.val) := by
  pointwise [val_main_v131, val_main_v130, val_main_v129, val_main_cst_20]
  refine (red2 _ _ _ _).trans ?_
  pointwise [val_main_v128, val_main_v127, val_main_cst_19, val_main_v126, val_main_v15, val_main_v14, val_main_cst_2, val_main_v13, val_main_v12]
  rw [dotC_eq x0 x1 x2, msC_eq]
  rfl

theorem dIC_eq : (val_main_v135 (F := Ideal) x0 x3 x4 (ix4 0 h r l) : EReal) = dI (Z x0 h.val r.val) (row x3 0) (D x1 x2 x4 h.val r.val) l := by
  pointwise [val_main_v135, val_main_v133, val_main_v125, val_main_v117, val_main_v124, val_main_v12, val_main_v132, val_main_v134]
  rw [zC_eq, msC_eq, dC_eq x1 x2, nC_eq, slopeC_eq x0 x1 x2]
  rfl
end

theorem dnC_eq (l : Fin 128) : (val_main_v119 (F := Ideal) x0 x4 (ix2 0 l) : EReal)
    = ∑ h : Fin 8, ∑ r : Fin 256, dR (Z x0 h.val r.val) (D x1 x2 x4 h.val r.val) l := by
  pointwise [val_main_v119, val_main_v118, val_main_cst_17]
  refine (red1 _ _ _).trans ?_
  pointwise [val_main_v115, val_main_v114, val_main_cst_16]
  refine (redN _ _ _).trans ?_
  pointwise [val_main_v113]
  simp only [nrmC_eq, dC_eq x1 x2]
  rfl

theorem dz_ref (r : Fin 2304) (q : Fin 1024) : (val_main_v141 (F := Ideal) x0 x1 x2 x3 x4 (ix2 r q) : EReal)
    = dI (Z x0 (q.val / 128) r.val) (row x3 0) (D x1 x2 x4 (q.val / 128) r.val) ⟨q.val % 128, Nat.mod_lt _ (by decide)⟩ := by
  have hr := r.isLt
  have hq := q.isLt
  pointwise [val_main_v141, val_main_v140, val_main_v110, val_main_v139, val_main_cst_15, val_main_cst_22, val_main_v109, val_main_v138, val_main_cst_14, val_main_cst_21, val_main_v108, val_main_v107, val_main_v137, val_main_v136]
  by_cases hr' : r.val < 256
  · rw [dif_neg (by omega), dif_pos hr', zero_add, Fin.sum_univ_one]
    exact dIC_eq x0 x1 x2 x3 x4 ⟨q.val / 128, by omega⟩ ⟨r.val, hr'⟩ ⟨q.val % 128, Nat.mod_lt _ (by decide)⟩
  · rw [dif_pos (by omega), dif_neg hr', add_zero, Fin.sum_univ_one]
    refine (dIL_eq x0 x1 x2 x3 x4 ⟨q.val / 128, by omega⟩ ⟨r.val - 256, by omega⟩ ⟨q.val % 128, Nat.mod_lt _ (by decide)⟩).trans ?_
    rw [show 256 + (r.val - 256) = r.val from by omega]

theorem dn_ref (l : Fin 128) : (val_main_v120 (F := Ideal) x0 x1 x2 x4 (ix2 0 l) : EReal)
    = ∑ h : Fin 8, ∑ r : Fin 2304, dR (Z x0 h.val r.val) (D x1 x2 x4 h.val r.val) l := by
  pointwise [val_main_v120]
  rw [dnL_eq, dnC_eq x0 x1 x2, ← Finset.sum_add_distrib]
  refine Finset.sum_congr rfl fun h _ => ?_
  exact sum_split (fun r => dR (Z x0 h.val r) (D x1 x2 x4 h.val r) l)

end Cert.QueriesGradIdeal.Ref

namespace Cert.Proof.PrepAqBwd
open Cert.AttSpec Cert.MixSpec Cert.RopeSpec

theorem frame_ref : quiescent_QueriesGradIdeal := fun m ρ _ =>
  (θ_run QueriesGradIdeal.defs _ _).mono (fun r h => ⟨fun c => (h c).2.2, sem_eq_zero_of_no_sems (by decide) r.2⟩) (QueriesGradIdeal.Value.run (F := Ideal) m ρ)

theorem algebraic : algebraic_PrepAqBwdIdeal_QueriesGradIdeal := by
  intro m ρ m' ρ' _ hagree
  refine ⟨fun c => PrepAqBwdIdeal.Body.res m c, fun c => PrepAqBwdIdeal.Body.resN m c, ?_, ?_⟩
  · refine (θ_run PrepAqBwdIdeal.defs _ _).mono (fun _ h c => ?_) (PrepAqBwdIdeal.Value.run_blocks (F := Ideal) m ρ)
    exact ⟨(h c).1.trans (PrepAqBwdIdeal.Body.final5 m c), (h c).2.1.trans (PrepAqBwdIdeal.Body.final6 m c), (h c).2.2⟩
  · refine (θ_run QueriesGradIdeal.defs _ _).mono (fun _ h c => ?_) (QueriesGradIdeal.Value.run (F := Ideal) m' ρ')
    obtain ⟨g0, g1, g2, g3, g4⟩ := hagree c
    refine ⟨((h c).1.trans (QueriesGradIdeal.Read.val_main_v141_eq _ _)).trans ?_,
      ((h c).2.1.trans (QueriesGradIdeal.Read.val_main_v120_eq _ _)).trans ?_, (h c).2.2⟩
    · show QueriesGradIdeal.Read.val_main_v141 (F := Ideal) (m' (c.tc.loc QueriesGradIdeal.main_arg0)) (m' (c.tc.loc QueriesGradIdeal.main_arg1)) (m' (c.tc.loc QueriesGradIdeal.main_arg2)) (m' (c.tc.loc QueriesGradIdeal.main_arg3)) (m' (c.tc.loc QueriesGradIdeal.main_arg4)) = _
      rw [g0, g1, g2, g3, g4]
      funext y
      rw [eq_ix2 y]
      exact QueriesGradIdeal.Ref.dz_ref _ _ _ _ _ (y 0) (y 1)
    · show QueriesGradIdeal.Read.val_main_v120 (F := Ideal) (m' (c.tc.loc QueriesGradIdeal.main_arg0)) (m' (c.tc.loc QueriesGradIdeal.main_arg1)) (m' (c.tc.loc QueriesGradIdeal.main_arg2)) (m' (c.tc.loc QueriesGradIdeal.main_arg4)) = _
      rw [g0, g1, g2, g4]
      funext y
      rw [ix2_ext y 0 (y 1) (by have : (y 0).val < 1 := (y 0).isLt; show (y 0).val = 0; omega) rfl]
      exact QueriesGradIdeal.Ref.dn_ref _ _ _ _ (y 1)

end Cert.Proof.PrepAqBwd

end
-- ==== Proof.PrepAkBwdBody.lean ====
/- One program point by point: the gradient of the keys before the norm and the positions. -/
module

public import proofs.«01_k».proof.Proof.RopeSpec
public import proofs.«01_k».proof.Proof.Gen.PrepAkBwdIdeal.Value

@[expose] public section

set_option maxRecDepth 16384

noncomputable section

namespace Cert.PrepAkBwdIdeal.Body

open Idealize.ShloMosaic Idealize.ShloMosaic.TcCoe Idealize.SL.Sem
open Idealize.ShloMosaic.Pipeline (Dat)
open Cert.PrepAkBwdIdeal.Gen Cert.PrepAkBwdIdeal.Value Cert.AttSpec Cert.ConvSpec Cert.MixSpec Cert.RopeSpec

section
variable (n : Vec Ideal S1x128 .f32) (z C S d : Vec Ideal S256x128 .f32) (r : Fin 256) (j : Fin 128)

theorem pay0 : (k0_pay11 z (k0_pay9 n z C S d) (k0_pay10 n z C S d) (ix2 r j) : EReal) = dI (row z r) (row n 0) (bk (row C r) (row S r) (row d r)) j := by
  pointwise [k0_pay4, k0_pay5, k0_pay6, k0_pay7, k0_pay8, k0_pay9, k0_pay10, k0_pay11, k0_pay12, k0_pay13, k0_pay14, k0_pay15, k0_pay16, k0_pay17, k0_pay18, k0_pay19]
  simp only [Fin.sum_univ_one]
  rfl

theorem pay128 : (k0_pay1 z (k0_pay14 z) (k0_pay17 n C S d) (k0_pay18 n z C S d) (k0_pay19 z) (ix2 r j) : EReal) = dI (row z r) (row n 0) (bk (row C r) (row S r) (row d r)) j := by
  pointwise [k0_pay1, k0_pay2, k0_pay3, k0_pay4, k0_pay5, k0_pay6, k0_pay7, k0_pay8, k0_pay9, k0_pay10, k0_pay12, k0_pay13, k0_pay14, k0_pay15, k0_pay16, k0_pay17, k0_pay18, k0_pay19]
  simp only [Fin.sum_univ_one]
  rfl

variable (xp : Vec Ideal S1x128 .f32) (z0 d0 z1 d1 : Vec Ideal S256x128 .f32)

theorem payA : (k0_pay2 (k0_pay7 z0 C S d0) (k0_pay16 z1 C S d1) (ix2 0 j) : EReal) = dS z0 C S d0 j + dS z1 C S d1 j := by
  pointwise [k0_pay2, k0_pay4, k0_pay5, k0_pay6, k0_pay7, k0_pay8, k0_pay9, k0_pay10, k0_pay12, k0_pay13, k0_pay14, k0_pay15, k0_pay16, k0_pay17, k0_pay18, k0_pay19]
  rfl

theorem payB : (k0_pay3 (k0_pay7 z0 C S d0) (k0_pay16 z1 C S d1) xp (ix2 0 j) : EReal) = xp (ix2 0 j) + (dS z0 C S d0 j + dS z1 C S d1 j) := by
  pointwise [k0_pay2, k0_pay3, k0_pay4, k0_pay5, k0_pay6, k0_pay7, k0_pay8, k0_pay9, k0_pay10, k0_pay12, k0_pay13, k0_pay14, k0_pay15, k0_pay16, k0_pay17, k0_pay18, k0_pay19]
  rfl
end

theorem hz : (![0, 0] : Fin 2 → Nat) = fun _ => 0 := funext fun a => by fin_cases a <;> rfl

/-- A head of a block's result. -/
def fT (z : (⟨2, ![256, 256]⟩ : Shape).Idx → EReal) (C : (⟨2, ![256, 128]⟩ : Shape).Idx → EReal) (S : (⟨2, ![256, 128]⟩ : Shape).Idx → EReal) (n : (⟨2, ![1, 128]⟩ : Shape).Idx → EReal) (d : (⟨2, ![256, 256]⟩ : Shape).Idx → EReal) (r k : Nat) (j : Fin 128) : EReal := dI (hd z r k) (row n 0) (bk (hd C r 0) (hd S r 0) (hd d r k)) j

section
variable (c : Dev nD) (i : grid0.Coords)
  (a1 : Memref sig .tc .vmem S256x256 .f32) (h1 : a1.IsWhole)
  (a2 : Memref sig .tc .vmem S256x128 .f32) (h2 : a2.IsWhole)
  (a3 : Memref sig .tc .vmem S256x128 .f32) (h3 : a3.IsWhole)
  (a4 : Memref sig .tc .vmem S1x128 .f32) (h4 : a4.IsWhole)
  (a5 : Memref sig .tc .vmem S256x256 .f32) (h5 : a5.IsWhole)
  (a6 : Memref sig .tc .vmem S256x256 .bf16) (h6 : a6.IsWhole)
  (a7 : Memref sig .tc .vmem S1x128 .f32) (h7 : a7.IsWhole)
  (x0 : Vec Ideal S256x256 .f32) (x1 : Vec Ideal S256x128 .f32) (x2 : Vec Ideal S256x128 .f32) (x3 : Vec Ideal S1x128 .f32) (x4 : Vec Ideal S256x256 .f32) (x6 : Vec Ideal S1x128 .f32)

theorem out0_A_5_eq (hc0 : cond0_0 i) (hc1 : ¬cond0_1 i) (y) : (out0_A_5 (F := Ideal) c i a1 h1 a2 h2 a3 h3 a4 h4 a5 h5 a6 h6 a7 h7 hc0 hc1 x0 x1 x2 x3 x4 y : EReal) = tH (fT x0 x1 x2 x3 x4) y := by
  unfold out0_A_5
  rw [View.read_writes_eq_canon _ _ _ (cover0_A_5 c i a1 h1 a2 h2 a3 h3 a4 h4 a5 h5 a6 h6 a7 h7 hc0 hc1 x0 x1 x2 x3 x4)]
  refine View.canon_apply_of_pieces (tH (fT x0 x1 x2 x3 x4)) _ ?_ _ (cover0_A_5 c i a1 h1 a2 h2 a3 h3 a4 h4 a5 h5 a6 h6 a7 h7 hc0 hc1 x0 x1 x2 x3 x4 _)
  unfold kernelRun0_A
  dsimp only
  sl_unfold_words
  simp only [View.readAt_eq_ld, h1.read_unread, h2.read_unread, h3.read_unread, h4.read_unread, h5.read_unread, h7.read_unread, View.ld_unit_zero (S := S1x128) hz, View.ld_unit_zero (S := S256x128) hz]
  simp only [List.mem_cons, List.not_mem_nil, or_false, forall_eq_or_imp, forall_eq]
  refine ⟨?_, ?_⟩ <;> intro y <;> idx_vars y
  · refine (pay128 x3 _ x1 x2 _ y0 y1).trans ?_
    rw [row_ld, row_ld, row_hd x1, row_hd x2]
    exact tH_at (fT x0 x1 x2 x3 x4) 1 y0.val y1 _ (at0 _) (atk 1 _)
  · refine (pay0 x3 _ x1 x2 _ y0 y1).trans ?_
    rw [row_ld, row_ld, row_hd x1, row_hd x2]
    exact tH_at (fT x0 x1 x2 x3 x4) 0 y0.val y1 _ (at0 _) (atk 0 _)

theorem out0_A_6_eq (hc0 : cond0_0 i) (hc1 : ¬cond0_1 i) (j : Fin 128) : (out0_A_6 (F := Ideal) c i a1 h1 a2 h2 a3 h3 a4 h4 a5 h5 a6 h6 a7 h7 hc0 hc1 x0 x1 x2 x3 x4 (ix2 0 j) : EReal) = dH x1 x2 x0 x4 0 j + dH x1 x2 x0 x4 128 j := by
  unfold out0_A_6
  rw [View.read_writes_eq_canon _ _ _ (cover0_A_6 c i a1 h1 a2 h2 a3 h3 a4 h4 a5 h5 a6 h6 a7 h7 hc0 hc1 x0 x1 x2 x3 x4)]
  unfold kernelRun0_A
  dsimp only
  sl_unfold_words
  rw [View.canon_unit_zero hz]
  simp only [View.readAt_eq_ld, h1.read_unread, h2.read_unread, h3.read_unread, h4.read_unread, h5.read_unread, h7.read_unread, View.ld_unit_zero (S := S1x128) hz, View.ld_unit_zero (S := S256x128) hz]
  refine (payA x1 x2 j _ _ _ _).trans ?_
  rw [dS_ld, dS_ld]

theorem out0_B_5_eq (hc0 : ¬cond0_0 i) (hc1 : cond0_1 i) (y) : (out0_B_5 (F := Ideal) c i a1 h1 a2 h2 a3 h3 a4 h4 a5 h5 a6 h6 a7 h7 hc0 hc1 x0 x1 x2 x3 x4 x6 y : EReal) = tH (fT x0 x1 x2 x3 x4) y := by
  unfold out0_B_5
  rw [View.read_writes_eq_canon _ _ _ (cover0_B_5 c i a1 h1 a2 h2 a3 h3 a4 h4 a5 h5 a6 h6 a7 h7 hc0 hc1 x0 x1 x2 x3 x4 x6)]
  refine View.canon_apply_of_pieces (tH (fT x0 x1 x2 x3 x4)) _ ?_ _ (cover0_B_5 c i a1 h1 a2 h2 a3 h3 a4 h4 a5 h5 a6 h6 a7 h7 hc0 hc1 x0 x1 x2 x3 x4 x6 _)
  unfold kernelRun0_B
  dsimp only
  sl_unfold_words
  simp only [View.readAt_eq_ld, h1.read_unread, h2.read_unread, h3.read_unread, h4.read_unread, h5.read_unread, h7.read_unread, View.ld_unit_zero (S := S1x128) hz, View.ld_unit_zero (S := S256x128) hz]
  simp only [List.mem_cons, List.not_mem_nil, or_false, forall_eq_or_imp, forall_eq]
  refine ⟨?_, ?_⟩ <;> intro y <;> idx_vars y
  · refine (pay128 x3 _ x1 x2 _ y0 y1).trans ?_
    rw [row_ld, row_ld, row_hd x1, row_hd x2]
    exact tH_at (fT x0 x1 x2 x3 x4) 1 y0.val y1 _ (at0 _) (atk 1 _)
  · refine (pay0 x3 _ x1 x2 _ y0 y1).trans ?_
    rw [row_ld, row_ld, row_hd x1, row_hd x2]
    exact tH_at (fT x0 x1 x2 x3 x4) 0 y0.val y1 _ (at0 _) (atk 0 _)

theorem out0_B_6_eq (hc0 : ¬cond0_0 i) (hc1 : cond0_1 i) (j : Fin 128) : (out0_B_6 (F := Ideal) c i a1 h1 a2 h2 a3 h3 a4 h4 a5 h5 a6 h6 a7 h7 hc0 hc1 x0 x1 x2 x3 x4 x6 (ix2 0 j) : EReal) = x6 (ix2 0 j) + (dH x1 x2 x0 x4 0 j + dH x1 x2 x0 x4 128 j) := by
  unfold out0_B_6
  rw [View.read_writes_eq_canon _ _ _ (cover0_B_6 c i a1 h1 a2 h2 a3 h3 a4 h4 a5 h5 a6 h6 a7 h7 hc0 hc1 x0 x1 x2 x3 x4 x6)]
  unfold kernelRun0_B
  dsimp only
  sl_unfold_words
  rw [View.canon_unit_zero hz]
  simp only [View.readAt_eq_ld, h1.read_unread, h2.read_unread, h3.read_unread, h4.read_unread, h5.read_unread, h7.read_unread, View.ld_unit_zero (S := S1x128) hz, View.ld_unit_zero (S := S256x128) hz]
  refine (payB x1 x2 j x6 _ _ _ _).trans ?_
  rw [dS_ld, dS_ld]

end

variable (m : (ℓ : Loc nD τ sig) → Buf (Elt Ideal) ℓ)

theorem ltN (t : Fin cfg0.N) : t.val < 9 := lt_of_lt_of_eq t.isLt Gen.N_0

/-- The arguments on a device. -/
abbrev az (c : Dev nD) : Vec Ideal S2304x5376 .f32 := m ((c : Thread nD τ).loc main_arg0)
abbrev au (c : Dev nD) : Vec Ideal S2048x64 .f32 := m ((c : Thread nD τ).loc main_arg1)
abbrev av (c : Dev nD) : Vec Ideal S2048x64 .f32 := m ((c : Thread nD τ).loc main_arg2)
abbrev an (c : Dev nD) : Vec Ideal S1x128 .f32 := m ((c : Thread nD τ).loc main_arg3)
abbrev ad (c : Dev nD) : Vec Ideal S2304x256 .f32 := m ((c : Thread nD τ).loc main_arg4)

theorem V_main_v2 (c : Dev nD) : V m c main_v2 = cs (au m c) := by
  show StableHlo.after hostOps0 _ (Proc.devRef .tc main_v2) = _
  after_results
  rfl

theorem V_main_v6 (c : Dev nD) : V m c main_v6 = sn (av m c) := by
  show StableHlo.after hostOps0 _ (Proc.devRef .tc main_v6) = _
  after_results
  rfl

theorem idx0 : ∀ t : Fin grid0.N, win0_0.index t 0 = t.val ∧ win0_0.index t 1 = 4 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx3 : ∀ t : Fin grid0.N, win0_3.index t 0 = 0 ∧ win0_3.index t 1 = 0 := by decide +kernel
theorem idx6 : ∀ t : Fin grid0.N, win0_6.index t 0 = 0 ∧ win0_6.index t 1 = 0 := by decide +kernel

section
variable (c : Dev nD) (t : Fin cfg0.N) (r : Nat) (hr : r < 256)
include hr

theorem tab1 : hd (a := 256) (b := 128) (iblk m c 1 t) r 0 = cT (au m c) (t.val * 256 + r) := by
  have ht := ltN t
  refine Eq.trans ?_ (tab_hd (cs (au m c)) _ (cs_at _) _ (by omega))
  refine hd_blk _ _ r _ 0 0 hr (by omega) (by omega) (by decide) fun n => ?_
  unfold iblk
  rw [View.read_apply]
  show V m c main_v2 _ = _
  rw [V_main_v2]
  refine congrArg _ (ix2_ext _ _ _ ?_ ?_)
  · show win0_1.index t 0 * 256 + 1 * r = t.val * 256 + r; rw [(idx1 t).1]; omega
  · show win0_1.index t 1 * 128 + 1 * n.val = 0 + n.val; rw [(idx1 t).2]; omega

theorem tab2 : hd (a := 256) (b := 128) (iblk m c 2 t) r 0 = sT (av m c) (t.val * 256 + r) := by
  have ht := ltN t
  refine Eq.trans ?_ (tab_hd (sn (av m c)) _ (sn_at _) _ (by omega))
  refine hd_blk _ _ r _ 0 0 hr (by omega) (by omega) (by decide) fun n => ?_
  unfold iblk
  rw [View.read_apply]
  show V m c main_v6 _ = _
  rw [V_main_v6]
  refine congrArg _ (ix2_ext _ _ _ ?_ ?_)
  · show win0_2.index t 0 * 256 + 1 * r = t.val * 256 + r; rw [(idx2 t).1]; omega
  · show win0_2.index t 1 * 128 + 1 * n.val = 0 + n.val; rw [(idx2 t).2]; omega

theorem hd0 (k : Nat) (hk : k + 128 ≤ 256) :
    hd (a := 256) (b := 256) (iblk m c 0 t) r k = hd (a := 2304) (b := 5376) (az m c) (t.val * 256 + r) (1024 + k) := by
  have ht := ltN t
  refine hd_blk _ _ r _ k 1024 hr hk (by omega) (by decide) fun n => ?_
  unfold iblk
  rw [View.read_apply]
  show V m c main_arg0 _ = _
  rw [V_main_arg0]
  refine congrArg _ (ix2_ext _ _ _ ?_ ?_)
  · show win0_0.index t 0 * 256 + 1 * r = t.val * 256 + r; rw [(idx0 t).1]; omega
  · show win0_0.index t 1 * 256 + 1 * n.val = 1024 + n.val; rw [(idx0 t).2]; omega

theorem hd4 (k : Nat) (hk : k + 128 ≤ 256) :
    hd (a := 256) (b := 256) (iblk m c 4 t) r k = hd (a := 2304) (b := 256) (ad m c) (t.val * 256 + r) k := by
  have ht := ltN t
  refine Eq.trans (hd_blk _ (ad m c) r _ k 0 hr hk (by omega) (by decide) fun n => ?_) (congrArg (hd _ _) (Nat.zero_add k))
  unfold iblk
  rw [View.read_apply]
  show V m c main_arg4 _ = _
  rw [V_main_arg4]
  refine congrArg _ (ix2_ext _ _ _ ?_ ?_)
  · show win0_4.index t 0 * 256 + 1 * r = t.val * 256 + r; rw [(idx4 t).1]; omega
  · show win0_4.index t 1 * 256 + 1 * n.val = 0 + n.val; rw [(idx4 t).2]; omega

end

theorem row3 (c : Dev nD) (t : Fin cfg0.N) : row (iblk m c 3 t) 0 = row (an m c) 0 := by
  funext l
  show (iblk m c 3 t (ix2 0 l) : EReal) = an m c (ix2 0 l)
  unfold iblk
  rw [View.read_apply]
  show V m c main_arg3 _ = _
  rw [V_main_arg3]
  refine congrArg _ (ix2_ext _ _ _ ?_ ?_)
  · show win0_3.index t 0 * 1 + 1 * 0 = 0; rw [(idx3 t).1]
  · show win0_3.index t 1 * 128 + 1 * l.val = l.val; rw [(idx3 t).2]; omega

/-- A head of the whole result. -/
def gT (z : (⟨2, ![2304, 5376]⟩ : Shape).Idx → EReal) (u v : (⟨2, ![2048, 64]⟩ : Shape).Idx → EReal) (n : (⟨2, ![1, 128]⟩ : Shape).Idx → EReal) (d : (⟨2, ![2304, 256]⟩ : Shape).Idx → EReal) (r k : Nat) (j : Fin 128) : EReal := dI (hd z r (1024 + k)) (row n 0) (bk (cT u r) (sT v r) (hd d r k)) j

theorem fg (c : Dev nD) (t : Fin cfg0.N) (r k : Nat) (j : Fin 128) (hr : r < 256) (hk : k + 128 ≤ 256) :
    fT (iblk m c 0 t) (iblk m c 1 t) (iblk m c 2 t) (iblk m c 3 t) (iblk m c 4 t) r k j = gT (az m c) (au m c) (av m c) (an m c) (ad m c) (t.val * 256 + r) k j := by
  unfold fT gT
  rw [row3 m c t, tab1 m c t r hr, tab2 m c t r hr, hd0 m c t r hr k hk, hd4 m c t r hr k hk]

/-- The whole result. -/
def res (c : Dev nD) : Vec Ideal S2304x256 .bf16 := tH (gT (az m c) (au m c) (av m c) (an m c) (ad m c))

section
variable (z : (⟨2, ![2304, 5376]⟩ : Shape).Idx → EReal) (u v : (⟨2, ![2048, 64]⟩ : Shape).Idx → EReal) (d : (⟨2, ![2304, 256]⟩ : Shape).Idx → EReal)

/-- One row's part of the gradient of the norm's weights, of the head starting `k` columns in. -/
def pN (k r : Nat) (j : Fin 128) : EReal := dR (hd z r (1024 + k)) (bk (cT u r) (sT v r) (hd d r k)) j

/-- The gradient of the norm's weights. -/
def gN (j : Fin 128) : EReal := ∑ h : Fin 2, ∑ r : Fin 2304, pN z u v d (h.val * 128) r.val j
end

section
variable (c : Dev nD) (j : Fin 128)

/-- Head `k`'s part of block `i`'s sum. -/
def sN (k i : Nat) : EReal := ∑ r : Fin 256, pN (az m c) (au m c) (av m c) (ad m c) k (i * 256 + r.val) j

/-- What block `i` adds to the gradient of the norm's weights. -/
def cN (i : Nat) : EReal := sN m c j 0 i + sN m c j 128 i

theorem head_eq (t : Fin cfg0.N) (k : Nat) (hk : k + 128 ≤ 256) : dH (iblk m c 1 t) (iblk m c 2 t) (iblk m c 0 t) (iblk m c 4 t) k j = sN m c j k t.val :=
  Finset.sum_congr rfl fun r _ => by
    rw [tab1 m c t _ r.isLt, tab2 m c t _ r.isLt, hd0 m c t _ r.isLt _ hk, hd4 m c t _ r.isLt _ hk]
    rfl

theorem cN_eq (t : Fin cfg0.N) : dH (iblk m c 1 t) (iblk m c 2 t) (iblk m c 0 t) (iblk m c 4 t) 0 j + dH (iblk m c 1 t) (iblk m c 2 t) (iblk m c 0 t) (iblk m c 4 t) 128 j = cN m c j t.val := by
  rw [head_eq m c j t 0 (by decide), head_eq m c j t 128 (by decide)]
  rfl

theorem sum_heads (T : Nat → EReal) : T 0 + T 128 = ∑ h : Fin 2, T (h.val * 128) := by
  rw [Fin.sum_univ_two]
  rfl

theorem sum_cN : ∑ i ∈ Finset.range 9, cN m c j i = gN (az m c) (au m c) (av m c) (ad m c) j := by
  have e : ∀ k, ∑ i ∈ Finset.range 9, sN m c j k i = ∑ r : Fin 2304, pN (az m c) (au m c) (av m c) (ad m c) k r.val j :=
    fun k => sum_blocks (fun r => pN (az m c) (au m c) (av m c) (ad m c) k r j)
  unfold cN
  simp only [Finset.sum_add_distrib, e]
  exact sum_heads (fun k => ∑ r : Fin 2304, pN (az m c) (au m c) (av m c) (ad m c) k r.val j)

/-- After point `n` the staged gradient of the weights holds the sum of the blocks so far. -/
theorem outs6_eq : ∀ (n : Nat) (h : n < cfg0.N), ((outsAt0 m c n h).2 (ix2 0 j) : EReal) = ∑ i ∈ Finset.range (n + 1), cN m c j i := by
  intro n
  induction n with
  | zero =>
    intro h
    have e := congrArg (fun o => (o.2 (ix2 0 j) : EReal)) (outsAt0_A m c ⟨0, h⟩ rfl (by dsimp only; omega))
    simp only [out0_A_6_eq] at e
    exact e.trans ((cN_eq m c j ⟨0, h⟩).trans (by simp))
  | succ n ih =>
    intro h
    have hn : n + 1 < 9 := lt_of_lt_of_eq h Gen.N_0
    have e := congrArg (fun o => (o.2 (ix2 0 j) : EReal)) (outsAt0_B m c ⟨n + 1, h⟩ (by dsimp only; omega) (by dsimp only; omega))
    simp only [out0_B_6_eq] at e
    refine e.trans ?_
    rw [cN_eq m c j ⟨n + 1, h⟩, Finset.sum_range_succ _ (n + 1)]
    show ((outsAt0 m c n _).2 (ix2 0 j) : EReal) + cN m c j (n + 1) = _
    rw [ih (Nat.lt_of_succ_lt h)]
end

/-- The gradient of the norm's weights. -/
def resN (c : Dev nD) : Vec Ideal S1x128 .f32 := fun y => gN (az m c) (au m c) (av m c) (ad m c) (y 1)

theorem outs5_eq (c : Dev nD) (t : Fin cfg0.N) (y) : ((outsAt0 m c t.val t.isLt).1 y : EReal) = tH (fT (iblk m c 0 t) (iblk m c 1 t) (iblk m c 2 t) (iblk m c 3 t) (iblk m c 4 t)) y := by
  have ht := ltN t
  by_cases h0 : t.val = 0
  · have e := congrArg (fun o => (o.1 y : EReal)) (outsAt0_A m c t (by omega) (by omega))
    simp only [out0_A_5_eq] at e
    exact e
  · have e := congrArg (fun o => (o.1 y : EReal)) (outsAt0_B m c t (by omega) (by omega))
    simp only [out0_B_5_eq] at e
    exact e

theorem flushed6_eq (c : Dev nD) (t : Fin cfg0.N) (hf : (cfg0.win 6).flush t = true) :
    (dats m 0 c).flushed 6 t = ((cfg0.win 6).blk t).view.read (Elt Ideal) (resN m c) := by
  have ht := ltN t
  have hl : t.val = 8 := by have := (flush0_6 t).mp hf; omega
  rw [flushed6]
  funext y
  rw [View.read_apply]
  show (outsAt0 m c t.val t.isLt).2 _ = resN m c _
  have hy0 : (y 0).val < 1 := (y 0).isLt
  have hy1 : (y 1).val < 128 := (y 1).isLt
  refine Eq.trans (congrArg _ (ix2_ext _ 0 ⟨(y 1).val, hy1⟩ (by show (y 0).val = 0; omega) rfl)) ((outs6_eq m c ⟨(y 1).val, hy1⟩ t.val t.isLt).trans ?_)
  rw [hl, show 8 + 1 = 9 from rfl, sum_cN]
  refine congrArg (gN (az m c) (au m c) (av m c) (ad m c)) (Fin.ext ?_)
  show (y 1).val = win0_6.index t 1 * 128 + 1 * (y 1).val
  rw [(idx6 t).2]; omega

theorem final6 (c : Dev nD) : (dats m 0 c).arrAt 6 cfg0.N = resN m c :=
  (dats m 0 c).arrAt_eq_of_cover 6 (resN m c) (flushed6_eq m c) fun i => by
    have hi0 : (i 0).val < 1 := (i 0).isLt
    have hi1 : (i 1).val < 128 := (i 1).isLt
    refine ⟨⟨8, by show _ < grid0.N; rw [Gen.N_0]; omega⟩, (flush0_6 _).mpr (by dsimp only), ?_⟩
    generalize ht : (⟨8, _⟩ : Fin grid0.N) = t
    show i ∈ ((View.whole main_v7_1).slice (win0_6.rect t)).set
    rw [View.set_slice_whole, Rect.mem_set_unit]
    intro a
    match a with
    | ⟨0, _⟩ => exact mem_box 1 (i 0).val (idx6 t).1 (by omega)
    | ⟨1, _⟩ => exact mem_box 128 (i 1).val (idx6 t).2 (by omega)

theorem flushed5_eq (c : Dev nD) (t : Fin cfg0.N) (hf : (cfg0.win 5).flush t = true) :
    (dats m 0 c).flushed 5 t = ((cfg0.win 5).blk t).view.read (Elt Ideal) (res m c) := by
  rw [flushed5]
  funext y
  rw [View.read_apply]
  refine Eq.trans (outs5_eq m c t _) (tH_blk _ _ t.val rfl (fg m c t) _ _ ?_ ?_)
  · show win0_5.index t 0 * 256 + 1 * (y 0).val = t.val * 256 + (y 0).val
    rw [(idx5 t).1, Nat.one_mul]
  · show win0_5.index t 1 * 256 + 1 * (y 1).val = (y 1).val
    rw [(idx5 t).2, Nat.one_mul, Nat.zero_mul, Nat.zero_add]

theorem final5 (c : Dev nD) : (dats m 0 c).arrAt 5 cfg0.N = res m c :=
  (dats m 0 c).arrAt_eq_of_cover 5 (res m c) (flushed5_eq m c) fun i => by
    have hi0 : (i 0).val < 2304 := (i 0).isLt
    have hi1 : (i 1).val < 256 := (i 1).isLt
    refine ⟨⟨(i 0).val / 256, by show _ < grid0.N; rw [Gen.N_0]; omega⟩, flush0_5 _, ?_⟩
    generalize ht : (⟨(i 0).val / 256, _⟩ : Fin grid0.N) = t
    have ht' : t.val = (i 0).val / 256 := by rw [← ht]
    show i ∈ ((View.whole main_v7_0).slice (win0_5.rect t)).set
    rw [View.set_slice_whole, Rect.mem_set_unit]
    intro a
    match a with
    | ⟨0, _⟩ => exact mem_box 256 (i 0).val (idx5 t).1 (by omega)
    | ⟨1, _⟩ => exact mem_box 256 (i 1).val (idx5 t).2 (by omega)

end Cert.PrepAkBwdIdeal.Body

end
-- ==== Proof.PrepAkBwdClaims.lean ====
/- The reference for the gradient of the keys before the norm and the positions, and the claims. -/
module

public import proofs.«01_k».proof.Proof.PrepAkBwdBody
public import proofs.«01_k».proof.Proof.Gen.KeysGradIdeal.Run
public import proofs.«01_k».proof.Proof.Gen.KeysGradIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.KeysGradIdeal.Ref
open Cert.KeysGradIdeal.Gen Cert.KeysGradIdeal.Read Cert.AttSpec Cert.ConvSpec Cert.MixSpec Cert.RopeSpec

variable (x0 : Vec Ideal S2304x5376 .f32) (x1 x2 : Vec Ideal S2048x64 .f32) (x3 : Vec Ideal S1x128 .f32) (x4 : Vec Ideal S2304x256 .f32)

/-- A head's rows of the two arrays. -/
abbrev Z (h r : Nat) : Fin 128 → EReal := hd (a := 2304) (b := 5376) x0 r (1024 + h * 128)
abbrev D (h r : Nat) : Fin 128 → EReal := bk (cT x1 r) (sT x2 r) (hd (a := 2304) (b := 256) x4 r (h * 128))

section
variable (h : Fin 2) (r : Fin 2048) (l : Fin 128)

theorem lo_eq (hl : l.val < 64) : (val_main_v81 (F := Ideal) x1 x2 x4 (ix4 0 h r ⟨l.val, hl⟩) : EReal) = D x1 x2 x4 h.val (256 + r.val) l := by
  have hh := h.isLt
  have hr := r.isLt
  refine Eq.trans ?_ (bk_lo _ _ _ (256 + r.val) _ (by omega) hl).symm
  pointwise [val_main_v81, val_main_v74, val_main_v80, val_main_v73, val_main_v79, val_main_v70, val_main_v69, val_main_v68, val_main_v67, val_main_v66, val_main_v64, val_main_v52, val_main_v45]
  refine congrArg₂ (fun s t : EReal => s + t) (congrArg₂ (fun s t : EReal => s * t) ?_ ?_) (congrArg₂ (fun s t : EReal => s * t) ?_ ?_)
  · exact rd_at x4 _ _ _ _ _ _ (by omega) (by show _ = h.val * 128 + (l.val + 64); omega)
  · exact rd_at x2 r.val l.val _ _ r.isLt hl (by omega) rfl
  · exact rd_at x4 _ _ _ _ _ _ (by omega) (by omega)
  · exact rd_at x1 r.val l.val _ _ r.isLt hl (by omega) rfl

theorem hi_eq (hl : ¬ l.val < 64) : (val_main_v78 (F := Ideal) x1 x2 x4 (ix4 0 h r ⟨l.val - 64, by omega⟩) : EReal) = D x1 x2 x4 h.val (256 + r.val) l := by
  have hh := h.isLt
  have hr := r.isLt
  have hl2 := l.isLt
  refine Eq.trans ?_ (bk_hi _ _ _ (256 + r.val) _ (by omega) hl).symm
  pointwise [val_main_v78, val_main_v72, val_main_v77, val_main_v71, val_main_v76, val_main_v75, val_main_v70, val_main_v69, val_main_v68, val_main_v67, val_main_v66, val_main_v64, val_main_v55, val_main_v48]
  refine congrArg₂ (fun s t : EReal => s + t) (congrArg₂ (fun s t : EReal => s * t) ?_ ?_) (congrArg₂ (fun s t : EReal => -s * t) ?_ ?_)
  · exact rd_at x4 _ _ _ _ _ _ (by omega) (by omega)
  · exact rd_at x1 r.val (l.val - 64) _ _ r.isLt (by omega) (by omega) rfl
  · exact rd_at x4 _ _ _ _ _ _ (by omega) (by show _ = h.val * 128 + (l.val - 64); omega)
  · exact rd_at x2 r.val (l.val - 64) _ _ r.isLt (by omega) (by omega) rfl

theorem dL_eq : (val_main_v84 (F := Ideal) x1 x2 x4 (ix4 0 h r l) : EReal) = D x1 x2 x4 h.val (256 + r.val) l := by
  have hl2 := l.isLt
  pointwise [val_main_v84, val_main_v82, val_main_v83, val_main_cst_7, val_main_cst_8]
  by_cases hl : l.val < 64
  · rw [dif_neg (by omega), dif_pos hl, zero_add]
    exact lo_eq x1 x2 x4 h r l hl
  · rw [dif_pos (by omega), dif_neg hl, add_zero]
    exact hi_eq x1 x2 x4 h r l hl
end

theorem dC_eq (h : Fin 2) (r : Fin 256) (l : Fin 128) : (val_main_v112 (F := Ideal) x4 (ix4 0 h r l) : EReal) = D x1 x2 x4 h.val r.val l := by
  have hh := h.isLt
  have hr := r.isLt
  have hl := l.isLt
  refine Eq.trans ?_ (bk_ctx _ _ _ r.val _ hr).symm
  pointwise [val_main_v112, val_main_v111, val_main_v65, val_main_v64]
  exact rd_at x4 _ _ _ _ _ _ (by omega) (by omega)

section
variable (h : Fin 2) (r : Fin 2048) (l : Fin 128)

theorem zL_eq : (val_main_v26 (F := Ideal) x0 (ix4 0 h r l) : EReal) = Z x0 h.val (256 + r.val) l := by
  have hh := h.isLt
  have hr := r.isLt
  have hl := l.isLt
  pointwise [val_main_v26, val_main_v25, val_main_v24, val_main_v23, val_main_v0]
  exact rd_at x0 _ _ _ _ _ _ (by omega) (by omega)

theorem msL_eq : (val_main_v33 (F := Ideal) x0 (ix4 0 h r 0) : EReal) = ms (Z x0 h.val (256 + r.val)) := by
  pointwise [val_main_v33, val_main_v31, val_main_v29, val_main_v28, val_main_v27, val_main_cst_3, val_main_v30, val_main_cst_4, val_main_v32, val_main_cst_5]
  simp only [zL_eq]
  rfl

theorem nrmL_eq : (val_main_v39 (F := Ideal) x0 (ix4 0 h r l) : EReal) = nrm (Z x0 h.val (256 + r.val)) l := by
  pointwise [val_main_v39, val_main_v38, val_main_v34]
  rw [zL_eq, msL_eq]
  rfl

theorem nL_eq : (val_main_v88 (F := Ideal) x3 (ix4 0 h r l) : EReal) = row x3 0 l := by
  pointwise [val_main_v88, val_main_v40]

theorem dotL_eq : (val_main_v94 (F := Ideal) x0 x1 x2 x3 x4 (ix4 0 h r 0) : EReal)
    = ∑ l, Z x0 h.val (256 + r.val) l * (D x1 x2 x4 h.val (256 + r.val) l * row x3 0 l) := by
  pointwise [val_main_v94, val_main_v93, val_main_v92, val_main_cst_11, val_main_v89]
  simp only [zL_eq, dL_eq, nL_eq]

theorem slopeL_eq : (val_main_v102 (F := Ideal) x0 x1 x2 x3 x4 (ix4 0 h r l) : EReal) = slope (Z x0 h.val (256 + r.val)) (row x3 0) (D x1 x2 x4 h.val (256 + r.val)) := by
  pointwise [val_main_v102, val_main_v101, val_main_v100, val_main_cst_13]
  refine (red2 _ _ _ _).trans ?_
  pointwise [val_main_v99, val_main_v98, val_main_cst_12, val_main_v97, val_main_v37, val_main_v36, val_main_cst_6, val_main_v35, val_main_v34]
  rw [dotL_eq, msL_eq]
  rfl

theorem dIL_eq : (val_main_v106 (F := Ideal) x0 x1 x2 x3 x4 (ix4 0 h r l) : EReal) = dI (Z x0 h.val (256 + r.val)) (row x3 0) (D x1 x2 x4 h.val (256 + r.val)) l := by
  pointwise [val_main_v106, val_main_v104, val_main_v96, val_main_v89, val_main_v95, val_main_v34, val_main_v103, val_main_v105]
  rw [zL_eq, msL_eq, dL_eq, nL_eq, slopeL_eq]
  rfl
end

theorem dnL_eq (l : Fin 128) : (val_main_v91 (F := Ideal) x0 x1 x2 x4 (ix2 0 l) : EReal)
    = ∑ h : Fin 2, ∑ r : Fin 2048, dR (Z x0 h.val (256 + r.val)) (D x1 x2 x4 h.val (256 + r.val)) l := by
  pointwise [val_main_v91, val_main_v90, val_main_cst_10]
  refine (red1 _ _ _).trans ?_
  pointwise [val_main_v87, val_main_v86, val_main_cst_9]
  refine (redN _ _ _).trans ?_
  pointwise [val_main_v85]
  simp only [nrmL_eq, dL_eq]
  rfl

section
variable (h : Fin 2) (r : Fin 256) (l : Fin 128)

theorem zC_eq : (val_main_v4 (F := Ideal) x0 (ix4 0 h r l) : EReal) = Z x0 h.val r.val l := by
  have hh := h.isLt
  have hr := r.isLt
  have hl := l.isLt
  pointwise [val_main_v4, val_main_v3, val_main_v2, val_main_v1, val_main_v0]
  exact rd_at x0 _ _ _ _ _ _ (by omega) (by omega)

theorem msC_eq : (val_main_v11 (F := Ideal) x0 (ix4 0 h r 0) : EReal) = ms (Z x0 h.val r.val) := by
  pointwise [val_main_v11, val_main_v9, val_main_v7, val_main_v6, val_main_v5, val_main_cst, val_main_v8, val_main_cst_0, val_main_v10, val_main_cst_1]
  simp only [zC_eq]
  rfl

theorem nrmC_eq : (val_main_v17 (F := Ideal) x0 (ix4 0 h r l) : EReal) = nrm (Z x0 h.val r.val) l := by
  pointwise [val_main_v17, val_main_v16, val_main_v12]
  rw [zC_eq, msC_eq]
  rfl

theorem nC_eq : (val_main_v116 (F := Ideal) x3 (ix4 0 h r l) : EReal) = row x3 0 l := by
  pointwise [val_main_v116, val_main_v18]

theorem dotC_eq : (val_main_v123 (F := Ideal) x0 x3 x4 (ix4 0 h r 0) : EReal)
    = ∑ l, Z x0 h.val r.val l * (D x1 x2 x4 h.val r.val l * row x3 0 l) := by
  pointwise [val_main_v123, val_main_v122, val_main_v121, val_main_cst_18, val_main_v117]
  simp only [zC_eq, dC_eq x1 x2, nC_eq]

theorem slopeC_eq : (val_main_v131 (F := Ideal) x0 x3 x4 (ix4 0 h r l) : EReal) = slope (Z x0 h.val r.val) (row x3 0) (D x1 x2 x4 h.val r.val) := by
  pointwise [val_main_v131, val_main_v130, val_main_v129, val_main_cst_20]
  refine (red2 _ _ _ _).trans ?_
  pointwise [val_main_v128, val_main_v127, val_main_cst_19, val_main_v126, val_main_v15, val_main_v14, val_main_cst_2, val_main_v13, val_main_v12]
  rw [dotC_eq x0 x1 x2, msC_eq]
  rfl

theorem dIC_eq : (val_main_v135 (F := Ideal) x0 x3 x4 (ix4 0 h r l) : EReal) = dI (Z x0 h.val r.val) (row x3 0) (D x1 x2 x4 h.val r.val) l := by
  pointwise [val_main_v135, val_main_v133, val_main_v125, val_main_v117, val_main_v124, val_main_v12, val_main_v132, val_main_v134]
  rw [zC_eq, msC_eq, dC_eq x1 x2, nC_eq, slopeC_eq x0 x1 x2]
  rfl
end

theorem dnC_eq (l : Fin 128) : (val_main_v119 (F := Ideal) x0 x4 (ix2 0 l) : EReal)
    = ∑ h : Fin 2, ∑ r : Fin 256, dR (Z x0 h.val r.val) (D x1 x2 x4 h.val r.val) l := by
  pointwise [val_main_v119, val_main_v118, val_main_cst_17]
  refine (red1 _ _ _).trans ?_
  pointwise [val_main_v115, val_main_v114, val_main_cst_16]
  refine (redN _ _ _).trans ?_
  pointwise [val_main_v113]
  simp only [nrmC_eq, dC_eq x1 x2]
  rfl

theorem dz_ref (r : Fin 2304) (q : Fin 256) : (val_main_v141 (F := Ideal) x0 x1 x2 x3 x4 (ix2 r q) : EReal)
    = dI (Z x0 (q.val / 128) r.val) (row x3 0) (D x1 x2 x4 (q.val / 128) r.val) ⟨q.val % 128, Nat.mod_lt _ (by decide)⟩ := by
  have hr := r.isLt
  have hq := q.isLt
  pointwise [val_main_v141, val_main_v140, val_main_v110, val_main_v139, val_main_cst_15, val_main_cst_22, val_main_v109, val_main_v138, val_main_cst_14, val_main_cst_21, val_main_v108, val_main_v107, val_main_v137, val_main_v136]
  by_cases hr' : r.val < 256
  · rw [dif_neg (by omega), dif_pos hr', zero_add, Fin.sum_univ_one]
    exact dIC_eq x0 x1 x2 x3 x4 ⟨q.val / 128, by omega⟩ ⟨r.val, hr'⟩ ⟨q.val % 128, Nat.mod_lt _ (by decide)⟩
  · rw [dif_pos (by omega), dif_neg hr', add_zero, Fin.sum_univ_one]
    refine (dIL_eq x0 x1 x2 x3 x4 ⟨q.val / 128, by omega⟩ ⟨r.val - 256, by omega⟩ ⟨q.val % 128, Nat.mod_lt _ (by decide)⟩).trans ?_
    rw [show 256 + (r.val - 256) = r.val from by omega]

theorem dn_ref (l : Fin 128) : (val_main_v120 (F := Ideal) x0 x1 x2 x4 (ix2 0 l) : EReal)
    = ∑ h : Fin 2, ∑ r : Fin 2304, dR (Z x0 h.val r.val) (D x1 x2 x4 h.val r.val) l := by
  pointwise [val_main_v120]
  rw [dnL_eq, dnC_eq x0 x1 x2, ← Finset.sum_add_distrib]
  refine Finset.sum_congr rfl fun h _ => ?_
  exact sum_split (fun r => dR (Z x0 h.val r) (D x1 x2 x4 h.val r) l)

end Cert.KeysGradIdeal.Ref

namespace Cert.Proof.PrepAkBwd
open Cert.AttSpec Cert.MixSpec Cert.RopeSpec

theorem frame_ref : quiescent_KeysGradIdeal := fun m ρ _ =>
  (θ_run KeysGradIdeal.defs _ _).mono (fun r h => ⟨fun c => (h c).2.2, sem_eq_zero_of_no_sems (by decide) r.2⟩) (KeysGradIdeal.Value.run (F := Ideal) m ρ)

theorem algebraic : algebraic_PrepAkBwdIdeal_KeysGradIdeal := by
  intro m ρ m' ρ' _ hagree
  refine ⟨fun c => PrepAkBwdIdeal.Body.res m c, fun c => PrepAkBwdIdeal.Body.resN m c, ?_, ?_⟩
  · refine (θ_run PrepAkBwdIdeal.defs _ _).mono (fun _ h c => ?_) (PrepAkBwdIdeal.Value.run_blocks (F := Ideal) m ρ)
    exact ⟨(h c).1.trans (PrepAkBwdIdeal.Body.final5 m c), (h c).2.1.trans (PrepAkBwdIdeal.Body.final6 m c), (h c).2.2⟩
  · refine (θ_run KeysGradIdeal.defs _ _).mono (fun _ h c => ?_) (KeysGradIdeal.Value.run (F := Ideal) m' ρ')
    obtain ⟨g0, g1, g2, g3, g4⟩ := hagree c
    refine ⟨((h c).1.trans (KeysGradIdeal.Read.val_main_v141_eq _ _)).trans ?_,
      ((h c).2.1.trans (KeysGradIdeal.Read.val_main_v120_eq _ _)).trans ?_, (h c).2.2⟩
    · show KeysGradIdeal.Read.val_main_v141 (F := Ideal) (m' (c.tc.loc KeysGradIdeal.main_arg0)) (m' (c.tc.loc KeysGradIdeal.main_arg1)) (m' (c.tc.loc KeysGradIdeal.main_arg2)) (m' (c.tc.loc KeysGradIdeal.main_arg3)) (m' (c.tc.loc KeysGradIdeal.main_arg4)) = _
      rw [g0, g1, g2, g3, g4]
      funext y
      rw [eq_ix2 y]
      exact KeysGradIdeal.Ref.dz_ref _ _ _ _ _ (y 0) (y 1)
    · show KeysGradIdeal.Read.val_main_v120 (F := Ideal) (m' (c.tc.loc KeysGradIdeal.main_arg0)) (m' (c.tc.loc KeysGradIdeal.main_arg1)) (m' (c.tc.loc KeysGradIdeal.main_arg2)) (m' (c.tc.loc KeysGradIdeal.main_arg4)) = _
      rw [g0, g1, g2, g4]
      funext y
      rw [ix2_ext y 0 (y 1) (by have : (y 0).val < 1 := (y 0).isLt; show (y 0).val = 0; omega) rfl]
      exact KeysGradIdeal.Ref.dn_ref _ _ _ _ (y 1)

end Cert.Proof.PrepAkBwd

end
-- ==== Proof.PrepRqBwdBody.lean ====
/- One program point by point: the gradient of the retention queries before the positions. -/
module

public import proofs.«01_k».proof.Proof.RopeSpec
public import proofs.«01_k».proof.Proof.Gen.PrepRqBwdIdeal.Value

@[expose] public section

set_option maxRecDepth 16384

noncomputable section

namespace Cert.PrepRqBwdIdeal.Body

open Idealize.ShloMosaic Idealize.ShloMosaic.TcCoe Idealize.SL.Sem
open Idealize.ShloMosaic.Pipeline (Dat)
open Cert.PrepRqBwdIdeal.Gen Cert.PrepRqBwdIdeal.Value Cert.AttSpec Cert.ConvSpec Cert.MixSpec Cert.RopeSpec

section
variable (C S d : Vec Ideal S256x128 .f32) (r : Fin 256) (j : Fin 128)

theorem pay0 : (k0_pay3 C S d (ix2 r j) : EReal) = bk (row C r) (row S r) (row d r) j := by
  pointwise [k0_pay3]
  rfl

theorem pay128 : (k0_pay4 C S d (ix2 r j) : EReal) = bk (row C r) (row S r) (row d r) j := by
  pointwise [k0_pay4]
  rfl

theorem pay256 : (k0_pay1 (k0_pay5 C) (k0_pay6 S) (k0_pay7 d) (k0_pay8 d) (ix2 r j) : EReal) = bk (row C r) (row S r) (row d r) j := by
  pointwise [k0_pay1, k0_pay5, k0_pay6, k0_pay7, k0_pay8]
  rfl

theorem pay384 : (k0_pay2 C S d (ix2 r j) : EReal) = bk (row C r) (row S r) (row d r) j := by
  pointwise [k0_pay2]
  rfl

end

theorem hz : (![0, 0] : Fin 2 → Nat) = fun _ => 0 := funext fun a => by fin_cases a <;> rfl

/-- A head of a block's result. -/
def fT (C : (⟨2, ![256, 128]⟩ : Shape).Idx → EReal) (S : (⟨2, ![256, 128]⟩ : Shape).Idx → EReal) (d : (⟨2, ![256, 512]⟩ : Shape).Idx → EReal) (r k : Nat) (j : Fin 128) : EReal := bk (hd C r 0) (hd S r 0) (hd d r k) j

section
variable (c : Dev nD) (i : grid0.Coords)
  (a1 : Memref sig .tc .vmem S256x512 .f32) (h1 : a1.IsWhole)
  (a2 : Memref sig .tc .vmem S256x128 .f32) (h2 : a2.IsWhole)
  (a3 : Memref sig .tc .vmem S256x128 .f32) (h3 : a3.IsWhole)
  (a4 : Memref sig .tc .vmem S256x512 .f32) (h4 : a4.IsWhole)
  (a5 : Memref sig .tc .vmem S256x512 .bf16) (h5 : a5.IsWhole)
  (x0 : Vec Ideal S256x512 .f32) (x1 : Vec Ideal S256x128 .f32) (x2 : Vec Ideal S256x128 .f32) (x3 : Vec Ideal S256x512 .f32)

theorem out0_A_4_eq (y) : (out0_A_4 (F := Ideal) c i a1 h1 a2 h2 a3 h3 a4 h4 a5 h5 x0 x1 x2 x3 y : EReal) = tH (fT x1 x2 x3) y := by
  unfold out0_A_4
  rw [View.read_writes_eq_canon _ _ _ (cover0_A_4 c i a1 h1 a2 h2 a3 h3 a4 h4 a5 h5 x0 x1 x2 x3)]
  refine View.canon_apply_of_pieces (tH (fT x1 x2 x3)) _ ?_ _ (cover0_A_4 c i a1 h1 a2 h2 a3 h3 a4 h4 a5 h5 x0 x1 x2 x3 _)
  unfold kernelRun0_A
  dsimp only
  sl_unfold_words
  simp only [View.readAt_eq_ld, h1.read_unread, h2.read_unread, h3.read_unread, h4.read_unread, View.ld_unit_zero (S := S256x128) hz]
  simp only [List.mem_cons, List.not_mem_nil, or_false, forall_eq_or_imp, forall_eq]
  refine ⟨?_, ?_, ?_, ?_⟩ <;> intro y <;> idx_vars y
  · refine (pay384 x1 x2 _ y0 y1).trans ?_
    rw [row_ld, row_hd x1, row_hd x2]
    exact tH_at (fT x1 x2 x3) 3 y0.val y1 _ (at0 _) (atk 3 _)
  · refine (pay256 x1 x2 _ y0 y1).trans ?_
    rw [row_ld, row_hd x1, row_hd x2]
    exact tH_at (fT x1 x2 x3) 2 y0.val y1 _ (at0 _) (atk 2 _)
  · refine (pay128 x1 x2 _ y0 y1).trans ?_
    rw [row_ld, row_hd x1, row_hd x2]
    exact tH_at (fT x1 x2 x3) 1 y0.val y1 _ (at0 _) (atk 1 _)
  · refine (pay0 x1 x2 _ y0 y1).trans ?_
    rw [row_ld, row_hd x1, row_hd x2]
    exact tH_at (fT x1 x2 x3) 0 y0.val y1 _ (at0 _) (atk 0 _)

end

variable (m : (ℓ : Loc nD τ sig) → Buf (Elt Ideal) ℓ)

theorem ltN (t : Fin cfg0.N) : t.val < 9 := lt_of_lt_of_eq t.isLt Gen.N_0

/-- The arguments on a device. -/
abbrev au (c : Dev nD) : Vec Ideal S2048x64 .f32 := m ((c : Thread nD τ).loc main_arg1)
abbrev av (c : Dev nD) : Vec Ideal S2048x64 .f32 := m ((c : Thread nD τ).loc main_arg2)
abbrev ad (c : Dev nD) : Vec Ideal S2304x512 .f32 := m ((c : Thread nD τ).loc main_arg3)

theorem V_main_v2 (c : Dev nD) : V m c main_v2 = cs (au m c) := by
  show StableHlo.after hostOps0 _ (Proc.devRef .tc main_v2) = _
  after_results
  rfl

theorem V_main_v6 (c : Dev nD) : V m c main_v6 = sn (av m c) := by
  show StableHlo.after hostOps0 _ (Proc.devRef .tc main_v6) = _
  after_results
  rfl

theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel

section
variable (c : Dev nD) (t : Fin cfg0.N) (r : Nat) (hr : r < 256)
include hr

theorem tab1 : hd (a := 256) (b := 128) (iblk m c 1 t) r 0 = cT (au m c) (t.val * 256 + r) := by
  have ht := ltN t
  refine Eq.trans ?_ (tab_hd (cs (au m c)) _ (cs_at _) _ (by omega))
  refine hd_blk _ _ r _ 0 0 hr (by omega) (by omega) (by decide) fun n => ?_
  unfold iblk
  rw [View.read_apply]
  show V m c main_v2 _ = _
  rw [V_main_v2]
  refine congrArg _ (ix2_ext _ _ _ ?_ ?_)
  · show win0_1.index t 0 * 256 + 1 * r = t.val * 256 + r; rw [(idx1 t).1]; omega
  · show win0_1.index t 1 * 128 + 1 * n.val = 0 + n.val; rw [(idx1 t).2]; omega

theorem tab2 : hd (a := 256) (b := 128) (iblk m c 2 t) r 0 = sT (av m c) (t.val * 256 + r) := by
  have ht := ltN t
  refine Eq.trans ?_ (tab_hd (sn (av m c)) _ (sn_at _) _ (by omega))
  refine hd_blk _ _ r _ 0 0 hr (by omega) (by omega) (by decide) fun n => ?_
  unfold iblk
  rw [View.read_apply]
  show V m c main_v6 _ = _
  rw [V_main_v6]
  refine congrArg _ (ix2_ext _ _ _ ?_ ?_)
  · show win0_2.index t 0 * 256 + 1 * r = t.val * 256 + r; rw [(idx2 t).1]; omega
  · show win0_2.index t 1 * 128 + 1 * n.val = 0 + n.val; rw [(idx2 t).2]; omega

theorem hd3 (k : Nat) (hk : k + 128 ≤ 512) :
    hd (a := 256) (b := 512) (iblk m c 3 t) r k = hd (a := 2304) (b := 512) (ad m c) (t.val * 256 + r) k := by
  have ht := ltN t
  refine Eq.trans (hd_blk _ (ad m c) r _ k 0 hr hk (by omega) (by decide) fun n => ?_) (congrArg (hd _ _) (Nat.zero_add k))
  unfold iblk
  rw [View.read_apply]
  show V m c main_arg3 _ = _
  rw [V_main_arg3]
  refine congrArg _ (ix2_ext _ _ _ ?_ ?_)
  · show win0_3.index t 0 * 256 + 1 * r = t.val * 256 + r; rw [(idx3 t).1]; omega
  · show win0_3.index t 1 * 512 + 1 * n.val = 0 + n.val; rw [(idx3 t).2]; omega

end

/-- A head of the whole result. -/
def gT (u v : (⟨2, ![2048, 64]⟩ : Shape).Idx → EReal) (d : (⟨2, ![2304, 512]⟩ : Shape).Idx → EReal) (r k : Nat) (j : Fin 128) : EReal := bk (cT u r) (sT v r) (hd d r k) j

theorem fg (c : Dev nD) (t : Fin cfg0.N) (r k : Nat) (j : Fin 128) (hr : r < 256) (hk : k + 128 ≤ 512) :
    fT (iblk m c 1 t) (iblk m c 2 t) (iblk m c 3 t) r k j = gT (au m c) (av m c) (ad m c) (t.val * 256 + r) k j := by
  unfold fT gT
  rw [tab1 m c t r hr, tab2 m c t r hr, hd3 m c t r hr k hk]

/-- The whole result. -/
def res (c : Dev nD) : Vec Ideal S2304x512 .bf16 := tH (gT (au m c) (av m c) (ad m c))

theorem flushed4_eq (c : Dev nD) (t : Fin cfg0.N) (hf : (cfg0.win 4).flush t = true) :
    (dats m 0 c).flushed 4 t = ((cfg0.win 4).blk t).view.read (Elt Ideal) (res m c) := by
  rw [flushed4_A]
  funext y
  rw [View.read_apply]
  refine Eq.trans (out0_A_4_eq c _ _ _ _ _ _ _ _ _ _ _ (X0_0 m c t) (iblk m c 1 t) (iblk m c 2 t) (iblk m c 3 t) _) (tH_blk _ _ t.val rfl (fg m c t) _ _ ?_ ?_)
  · show win0_4.index t 0 * 256 + 1 * (y 0).val = t.val * 256 + (y 0).val
    rw [(idx4 t).1, Nat.one_mul]
  · show win0_4.index t 1 * 512 + 1 * (y 1).val = (y 1).val
    rw [(idx4 t).2, Nat.one_mul, Nat.zero_mul, Nat.zero_add]

theorem final4 (c : Dev nD) : (dats m 0 c).arrAt 4 cfg0.N = res m c :=
  (dats m 0 c).arrAt_eq_of_cover 4 (res m c) (flushed4_eq m c) fun i => by
    have hi0 : (i 0).val < 2304 := (i 0).isLt
    have hi1 : (i 1).val < 512 := (i 1).isLt
    refine ⟨⟨(i 0).val / 256, by show _ < grid0.N; rw [Gen.N_0]; omega⟩, flush0_4 _, ?_⟩
    generalize ht : (⟨(i 0).val / 256, _⟩ : Fin grid0.N) = t
    have ht' : t.val = (i 0).val / 256 := by rw [← ht]
    show i ∈ ((View.whole main_v7).slice (win0_4.rect t)).set
    rw [View.set_slice_whole, Rect.mem_set_unit]
    intro a
    match a with
    | ⟨0, _⟩ => exact mem_box 256 (i 0).val (idx4 t).1 (by omega)
    | ⟨1, _⟩ => exact mem_box 512 (i 1).val (idx4 t).2 (by omega)

end Cert.PrepRqBwdIdeal.Body

end
-- ==== Proof.PrepRqBwdClaims.lean ====
/- The reference for the gradient of the retention queries before the positions, and the claims. -/
module

public import proofs.«01_k».proof.Proof.PrepRqBwdBody
public import proofs.«01_k».proof.Proof.Gen.RetQueriesGradIdeal.Run
public import proofs.«01_k».proof.Proof.Gen.RetQueriesGradIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.RetQueriesGradIdeal.Ref
open Cert.RetQueriesGradIdeal.Gen Cert.RetQueriesGradIdeal.Read Cert.AttSpec Cert.ConvSpec Cert.MixSpec Cert.RopeSpec

variable (x1 x2 : Vec Ideal S2048x64 .f32) (x3 : Vec Ideal S2304x512 .f32)

abbrev D (h r : Nat) : Fin 128 → EReal := bk (cT x1 r) (sT x2 r) (hd (a := 2304) (b := 512) x3 r (h * 128))

section
variable (h : Fin 4) (r : Fin 2048) (l : Fin 128)

theorem lo_eq (hl : l.val < 64) : (val_main_v49 (F := Ideal) x1 x2 x3 (ix4 0 h r ⟨l.val, hl⟩) : EReal) = D x1 x2 x3 h.val (256 + r.val) l := by
  have hh := h.isLt
  have hr := r.isLt
  refine Eq.trans ?_ (bk_lo _ _ _ (256 + r.val) _ (by omega) hl).symm
  pointwise [val_main_v49, val_main_v42, val_main_v48, val_main_v41, val_main_v47, val_main_v38, val_main_v37, val_main_v36, val_main_v35, val_main_v34, val_main_v32, val_main_v20, val_main_v13]
  refine congrArg₂ (fun s t : EReal => s + t) (congrArg₂ (fun s t : EReal => s * t) ?_ ?_) (congrArg₂ (fun s t : EReal => s * t) ?_ ?_)
  · exact rd_at x3 _ _ _ _ _ _ (by omega) (by show _ = h.val * 128 + (l.val + 64); omega)
  · exact rd_at x2 r.val l.val _ _ r.isLt hl (by omega) rfl
  · exact rd_at x3 _ _ _ _ _ _ (by omega) (by omega)
  · exact rd_at x1 r.val l.val _ _ r.isLt hl (by omega) rfl

theorem hi_eq (hl : ¬ l.val < 64) : (val_main_v46 (F := Ideal) x1 x2 x3 (ix4 0 h r ⟨l.val - 64, by omega⟩) : EReal) = D x1 x2 x3 h.val (256 + r.val) l := by
  have hh := h.isLt
  have hr := r.isLt
  have hl2 := l.isLt
  refine Eq.trans ?_ (bk_hi _ _ _ (256 + r.val) _ (by omega) hl).symm
  pointwise [val_main_v46, val_main_v40, val_main_v45, val_main_v39, val_main_v44, val_main_v43, val_main_v38, val_main_v37, val_main_v36, val_main_v35, val_main_v34, val_main_v32, val_main_v23, val_main_v16]
  refine congrArg₂ (fun s t : EReal => s + t) (congrArg₂ (fun s t : EReal => s * t) ?_ ?_) (congrArg₂ (fun s t : EReal => -s * t) ?_ ?_)
  · exact rd_at x3 _ _ _ _ _ _ (by omega) (by omega)
  · exact rd_at x1 r.val (l.val - 64) _ _ r.isLt (by omega) (by omega) rfl
  · exact rd_at x3 _ _ _ _ _ _ (by omega) (by show _ = h.val * 128 + (l.val - 64); omega)
  · exact rd_at x2 r.val (l.val - 64) _ _ r.isLt (by omega) (by omega) rfl

theorem dL_eq : (val_main_v52 (F := Ideal) x1 x2 x3 (ix4 0 h r l) : EReal) = D x1 x2 x3 h.val (256 + r.val) l := by
  have hl2 := l.isLt
  pointwise [val_main_v52, val_main_v50, val_main_v51, val_main_cst, val_main_cst_0]
  by_cases hl : l.val < 64
  · rw [dif_neg (by omega), dif_pos hl, zero_add]
    exact lo_eq x1 x2 x3 h r l hl
  · rw [dif_pos (by omega), dif_neg hl, add_zero]
    exact hi_eq x1 x2 x3 h r l hl
end

theorem ref (r : Fin 2304) (q : Fin 512) :
    (val_main_v64 (F := Ideal) x1 x2 x3 (ix2 r q) : EReal) = D x1 x2 x3 (q.val / 128) r.val ⟨q.val % 128, Nat.mod_lt _ (by decide)⟩ := by
  have hr := r.isLt
  have hq := q.isLt
  pointwise [val_main_v64, val_main_v63, val_main_v56, val_main_v62, val_main_cst_2, val_main_cst_4, val_main_v55, val_main_v61, val_main_cst_1, val_main_cst_3, val_main_v54, val_main_v53, val_main_v60, val_main_v59, val_main_v58, val_main_v57, val_main_v33, val_main_v32]
  by_cases hr' : r.val < 256
  · rw [dif_neg (by omega), dif_pos hr', zero_add, Fin.sum_univ_one]
    refine Eq.trans ?_ (bk_ctx _ _ _ _ _ hr').symm
    exact rd_at x3 _ _ _ _ _ _ rfl (by show _ = q.val / 128 * 128 + q.val % 128; omega)
  · rw [dif_pos (by omega), dif_neg hr', add_zero, Fin.sum_univ_one, dL_eq x1 x2 x3 ⟨q.val / 128, by omega⟩ ⟨r.val - 256, by omega⟩ ⟨q.val % 128, Nat.mod_lt _ (by decide)⟩, show 256 + (r.val - 256) = r.val from by omega]

end Cert.RetQueriesGradIdeal.Ref

namespace Cert.Proof.PrepRqBwd
open Cert.AttSpec Cert.MixSpec Cert.RopeSpec

theorem frame_ref : quiescent_RetQueriesGradIdeal := fun m ρ _ =>
  (θ_run RetQueriesGradIdeal.defs _ _).mono (fun r h => ⟨fun c => (h c).2, sem_eq_zero_of_no_sems (by decide) r.2⟩) (RetQueriesGradIdeal.Value.run (F := Ideal) m ρ)

theorem algebraic : algebraic_PrepRqBwdIdeal_RetQueriesGradIdeal := by
  intro m ρ m' ρ' _ hagree
  refine ⟨fun c => PrepRqBwdIdeal.Body.res m c, ?_, ?_⟩
  · refine (θ_run PrepRqBwdIdeal.defs _ _).mono (fun _ h c => ?_) (PrepRqBwdIdeal.Value.run_blocks (F := Ideal) m ρ)
    exact ⟨(h c).1.trans (PrepRqBwdIdeal.Body.final4 m c), (h c).2⟩
  · refine (θ_run RetQueriesGradIdeal.defs _ _).mono (fun _ h c => ?_) (RetQueriesGradIdeal.Value.run (F := Ideal) m' ρ')
    obtain ⟨g0, g1, g2, g3⟩ := hagree c
    refine ⟨((h c).1.trans (RetQueriesGradIdeal.Read.val_main_v64_eq _ _ _)).trans ?_, (h c).2⟩
    show RetQueriesGradIdeal.Read.val_main_v64 (F := Ideal) (m' (c.tc.loc RetQueriesGradIdeal.main_arg1)) (m' (c.tc.loc RetQueriesGradIdeal.main_arg2)) (m' (c.tc.loc RetQueriesGradIdeal.main_arg3)) = _
    rw [g1, g2, g3]
    funext y
    rw [eq_ix2 y]
    exact RetQueriesGradIdeal.Ref.ref _ _ _ (y 0) (y 1)

end Cert.Proof.PrepRqBwd

end
-- ==== Proof.PrepRkBwdBody.lean ====
/- One program point by point: the gradient of the retention keys before the positions. -/
module

public import proofs.«01_k».proof.Proof.RopeSpec
public import proofs.«01_k».proof.Proof.Gen.PrepRkBwdIdeal.Value

@[expose] public section

set_option maxRecDepth 16384

noncomputable section

namespace Cert.PrepRkBwdIdeal.Body

open Idealize.ShloMosaic Idealize.ShloMosaic.TcCoe Idealize.SL.Sem
open Idealize.ShloMosaic.Pipeline (Dat)
open Cert.PrepRkBwdIdeal.Gen Cert.PrepRkBwdIdeal.Value Cert.AttSpec Cert.ConvSpec Cert.MixSpec Cert.RopeSpec

section
variable (C S d : Vec Ideal S256x128 .f32) (r : Fin 256) (j : Fin 128)

theorem pay0 : (k0_pay3 C S d (ix2 r j) : EReal) = bk (row C r) (row S r) (row d r) j * Ideal.ofBits FTy.f32 1035273459#32 := by
  pointwise [k0_pay3]
  rfl

theorem pay128 : (k0_pay4 C S d (ix2 r j) : EReal) = bk (row C r) (row S r) (row d r) j * Ideal.ofBits FTy.f32 1035273459#32 := by
  pointwise [k0_pay4]
  rfl

theorem pay256 : (k0_pay1 (k0_pay5 C) S d (ix2 r j) : EReal) = bk (row C r) (row S r) (row d r) j * Ideal.ofBits FTy.f32 1035273459#32 := by
  pointwise [k0_pay1, k0_pay5]
  rfl

theorem pay384 : (k0_pay2 C S d (ix2 r j) : EReal) = bk (row C r) (row S r) (row d r) j * Ideal.ofBits FTy.f32 1035273459#32 := by
  pointwise [k0_pay2]
  rfl

end

theorem hz : (![0, 0] : Fin 2 → Nat) = fun _ => 0 := funext fun a => by fin_cases a <;> rfl

/-- A head of a block's result. -/
def fT (C : (⟨2, ![256, 128]⟩ : Shape).Idx → EReal) (S : (⟨2, ![256, 128]⟩ : Shape).Idx → EReal) (d : (⟨2, ![256, 512]⟩ : Shape).Idx → EReal) (r k : Nat) (j : Fin 128) : EReal := bk (hd C r 0) (hd S r 0) (hd d r k) j * Ideal.ofBits FTy.f32 1035273459#32

section
variable (c : Dev nD) (i : grid0.Coords)
  (a1 : Memref sig .tc .vmem S256x512 .f32) (h1 : a1.IsWhole)
  (a2 : Memref sig .tc .vmem S256x128 .f32) (h2 : a2.IsWhole)
  (a3 : Memref sig .tc .vmem S256x128 .f32) (h3 : a3.IsWhole)
  (a4 : Memref sig .tc .vmem S256x512 .f32) (h4 : a4.IsWhole)
  (a5 : Memref sig .tc .vmem S256x512 .bf16) (h5 : a5.IsWhole)
  (x0 : Vec Ideal S256x512 .f32) (x1 : Vec Ideal S256x128 .f32) (x2 : Vec Ideal S256x128 .f32) (x3 : Vec Ideal S256x512 .f32)

theorem out0_A_4_eq (y) : (out0_A_4 (F := Ideal) c i a1 h1 a2 h2 a3 h3 a4 h4 a5 h5 x0 x1 x2 x3 y : EReal) = tH (fT x1 x2 x3) y := by
  unfold out0_A_4
  rw [View.read_writes_eq_canon _ _ _ (cover0_A_4 c i a1 h1 a2 h2 a3 h3 a4 h4 a5 h5 x0 x1 x2 x3)]
  refine View.canon_apply_of_pieces (tH (fT x1 x2 x3)) _ ?_ _ (cover0_A_4 c i a1 h1 a2 h2 a3 h3 a4 h4 a5 h5 x0 x1 x2 x3 _)
  unfold kernelRun0_A
  dsimp only
  sl_unfold_words
  simp only [View.readAt_eq_ld, h1.read_unread, h2.read_unread, h3.read_unread, h4.read_unread, View.ld_unit_zero (S := S256x128) hz]
  simp only [List.mem_cons, List.not_mem_nil, or_false, forall_eq_or_imp, forall_eq]
  refine ⟨?_, ?_, ?_, ?_⟩ <;> intro y <;> idx_vars y
  · refine (pay384 x1 x2 _ y0 y1).trans ?_
    rw [row_ld, row_hd x1, row_hd x2]
    exact tH_at (fT x1 x2 x3) 3 y0.val y1 _ (at0 _) (atk 3 _)
  · refine (pay256 x1 x2 _ y0 y1).trans ?_
    rw [row_ld, row_hd x1, row_hd x2]
    exact tH_at (fT x1 x2 x3) 2 y0.val y1 _ (at0 _) (atk 2 _)
  · refine (pay128 x1 x2 _ y0 y1).trans ?_
    rw [row_ld, row_hd x1, row_hd x2]
    exact tH_at (fT x1 x2 x3) 1 y0.val y1 _ (at0 _) (atk 1 _)
  · refine (pay0 x1 x2 _ y0 y1).trans ?_
    rw [row_ld, row_hd x1, row_hd x2]
    exact tH_at (fT x1 x2 x3) 0 y0.val y1 _ (at0 _) (atk 0 _)

end

variable (m : (ℓ : Loc nD τ sig) → Buf (Elt Ideal) ℓ)

theorem ltN (t : Fin cfg0.N) : t.val < 9 := lt_of_lt_of_eq t.isLt Gen.N_0

/-- The arguments on a device. -/
abbrev au (c : Dev nD) : Vec Ideal S2048x64 .f32 := m ((c : Thread nD τ).loc main_arg1)
abbrev av (c : Dev nD) : Vec Ideal S2048x64 .f32 := m ((c : Thread nD τ).loc main_arg2)
abbrev ad (c : Dev nD) : Vec Ideal S2304x512 .f32 := m ((c : Thread nD τ).loc main_arg3)

theorem V_main_v2 (c : Dev nD) : V m c main_v2 = cs (au m c) := by
  show StableHlo.after hostOps0 _ (Proc.devRef .tc main_v2) = _
  after_results
  rfl

theorem V_main_v6 (c : Dev nD) : V m c main_v6 = sn (av m c) := by
  show StableHlo.after hostOps0 _ (Proc.devRef .tc main_v6) = _
  after_results
  rfl

theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel

section
variable (c : Dev nD) (t : Fin cfg0.N) (r : Nat) (hr : r < 256)
include hr

theorem tab1 : hd (a := 256) (b := 128) (iblk m c 1 t) r 0 = cT (au m c) (t.val * 256 + r) := by
  have ht := ltN t
  refine Eq.trans ?_ (tab_hd (cs (au m c)) _ (cs_at _) _ (by omega))
  refine hd_blk _ _ r _ 0 0 hr (by omega) (by omega) (by decide) fun n => ?_
  unfold iblk
  rw [View.read_apply]
  show V m c main_v2 _ = _
  rw [V_main_v2]
  refine congrArg _ (ix2_ext _ _ _ ?_ ?_)
  · show win0_1.index t 0 * 256 + 1 * r = t.val * 256 + r; rw [(idx1 t).1]; omega
  · show win0_1.index t 1 * 128 + 1 * n.val = 0 + n.val; rw [(idx1 t).2]; omega

theorem tab2 : hd (a := 256) (b := 128) (iblk m c 2 t) r 0 = sT (av m c) (t.val * 256 + r) := by
  have ht := ltN t
  refine Eq.trans ?_ (tab_hd (sn (av m c)) _ (sn_at _) _ (by omega))
  refine hd_blk _ _ r _ 0 0 hr (by omega) (by omega) (by decide) fun n => ?_
  unfold iblk
  rw [View.read_apply]
  show V m c main_v6 _ = _
  rw [V_main_v6]
  refine congrArg _ (ix2_ext _ _ _ ?_ ?_)
  · show win0_2.index t 0 * 256 + 1 * r = t.val * 256 + r; rw [(idx2 t).1]; omega
  · show win0_2.index t 1 * 128 + 1 * n.val = 0 + n.val; rw [(idx2 t).2]; omega

theorem hd3 (k : Nat) (hk : k + 128 ≤ 512) :
    hd (a := 256) (b := 512) (iblk m c 3 t) r k = hd (a := 2304) (b := 512) (ad m c) (t.val * 256 + r) k := by
  have ht := ltN t
  refine Eq.trans (hd_blk _ (ad m c) r _ k 0 hr hk (by omega) (by decide) fun n => ?_) (congrArg (hd _ _) (Nat.zero_add k))
  unfold iblk
  rw [View.read_apply]
  show V m c main_arg3 _ = _
  rw [V_main_arg3]
  refine congrArg _ (ix2_ext _ _ _ ?_ ?_)
  · show win0_3.index t 0 * 256 + 1 * r = t.val * 256 + r; rw [(idx3 t).1]; omega
  · show win0_3.index t 1 * 512 + 1 * n.val = 0 + n.val; rw [(idx3 t).2]; omega

end

/-- A head of the whole result. -/
def gT (u v : (⟨2, ![2048, 64]⟩ : Shape).Idx → EReal) (d : (⟨2, ![2304, 512]⟩ : Shape).Idx → EReal) (r k : Nat) (j : Fin 128) : EReal := bk (cT u r) (sT v r) (hd d r k) j * Ideal.ofBits FTy.f32 1035273459#32

theorem fg (c : Dev nD) (t : Fin cfg0.N) (r k : Nat) (j : Fin 128) (hr : r < 256) (hk : k + 128 ≤ 512) :
    fT (iblk m c 1 t) (iblk m c 2 t) (iblk m c 3 t) r k j = gT (au m c) (av m c) (ad m c) (t.val * 256 + r) k j := by
  unfold fT gT
  rw [tab1 m c t r hr, tab2 m c t r hr, hd3 m c t r hr k hk]

/-- The whole result. -/
def res (c : Dev nD) : Vec Ideal S2304x512 .bf16 := tH (gT (au m c) (av m c) (ad m c))

theorem flushed4_eq (c : Dev nD) (t : Fin cfg0.N) (hf : (cfg0.win 4).flush t = true) :
    (dats m 0 c).flushed 4 t = ((cfg0.win 4).blk t).view.read (Elt Ideal) (res m c) := by
  rw [flushed4_A]
  funext y
  rw [View.read_apply]
  refine Eq.trans (out0_A_4_eq c _ _ _ _ _ _ _ _ _ _ _ (X0_0 m c t) (iblk m c 1 t) (iblk m c 2 t) (iblk m c 3 t) _) (tH_blk _ _ t.val rfl (fg m c t) _ _ ?_ ?_)
  · show win0_4.index t 0 * 256 + 1 * (y 0).val = t.val * 256 + (y 0).val
    rw [(idx4 t).1, Nat.one_mul]
  · show win0_4.index t 1 * 512 + 1 * (y 1).val = (y 1).val
    rw [(idx4 t).2, Nat.one_mul, Nat.zero_mul, Nat.zero_add]

theorem final4 (c : Dev nD) : (dats m 0 c).arrAt 4 cfg0.N = res m c :=
  (dats m 0 c).arrAt_eq_of_cover 4 (res m c) (flushed4_eq m c) fun i => by
    have hi0 : (i 0).val < 2304 := (i 0).isLt
    have hi1 : (i 1).val < 512 := (i 1).isLt
    refine ⟨⟨(i 0).val / 256, by show _ < grid0.N; rw [Gen.N_0]; omega⟩, flush0_4 _, ?_⟩
    generalize ht : (⟨(i 0).val / 256, _⟩ : Fin grid0.N) = t
    have ht' : t.val = (i 0).val / 256 := by rw [← ht]
    show i ∈ ((View.whole main_v7).slice (win0_4.rect t)).set
    rw [View.set_slice_whole, Rect.mem_set_unit]
    intro a
    match a with
    | ⟨0, _⟩ => exact mem_box 256 (i 0).val (idx4 t).1 (by omega)
    | ⟨1, _⟩ => exact mem_box 512 (i 1).val (idx4 t).2 (by omega)

end Cert.PrepRkBwdIdeal.Body

end
-- ==== Proof.PrepRkBwdClaims.lean ====
/- The reference for the gradient of the retention keys before the positions, and the claims. -/
module

public import proofs.«01_k».proof.Proof.PrepRkBwdBody
public import proofs.«01_k».proof.Proof.Gen.RetKeysGradIdeal.Run
public import proofs.«01_k».proof.Proof.Gen.RetKeysGradIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.RetKeysGradIdeal.Ref
open Cert.RetKeysGradIdeal.Gen Cert.RetKeysGradIdeal.Read Cert.AttSpec Cert.ConvSpec Cert.MixSpec Cert.RopeSpec

variable (x1 x2 : Vec Ideal S2048x64 .f32) (x3 : Vec Ideal S2304x512 .f32)

abbrev D (h r : Nat) : Fin 128 → EReal := bk (cT x1 r) (sT x2 r) (hd (a := 2304) (b := 512) x3 r (h * 128))

section
variable (h : Fin 4) (r : Fin 2048) (l : Fin 128)

theorem lo_eq (hl : l.val < 64) : (val_main_v53 (F := Ideal) x1 x2 x3 (ix4 0 h r ⟨l.val, hl⟩) : EReal) = D x1 x2 x3 h.val (256 + r.val) l := by
  have hh := h.isLt
  have hr := r.isLt
  refine Eq.trans ?_ (bk_lo _ _ _ (256 + r.val) _ (by omega) hl).symm
  pointwise [val_main_v53, val_main_v46, val_main_v52, val_main_v45, val_main_v51, val_main_v42, val_main_v41, val_main_v40, val_main_v39, val_main_v38, val_main_v36, val_main_v24, val_main_v17]
  refine congrArg₂ (fun s t : EReal => s + t) (congrArg₂ (fun s t : EReal => s * t) ?_ ?_) (congrArg₂ (fun s t : EReal => s * t) ?_ ?_)
  · exact rd_at x3 _ _ _ _ _ _ (by omega) (by show _ = h.val * 128 + (l.val + 64); omega)
  · exact rd_at x2 r.val l.val _ _ r.isLt hl (by omega) rfl
  · exact rd_at x3 _ _ _ _ _ _ (by omega) (by omega)
  · exact rd_at x1 r.val l.val _ _ r.isLt hl (by omega) rfl

theorem hi_eq (hl : ¬ l.val < 64) : (val_main_v50 (F := Ideal) x1 x2 x3 (ix4 0 h r ⟨l.val - 64, by omega⟩) : EReal) = D x1 x2 x3 h.val (256 + r.val) l := by
  have hh := h.isLt
  have hr := r.isLt
  have hl2 := l.isLt
  refine Eq.trans ?_ (bk_hi _ _ _ (256 + r.val) _ (by omega) hl).symm
  pointwise [val_main_v50, val_main_v44, val_main_v49, val_main_v43, val_main_v48, val_main_v47, val_main_v42, val_main_v41, val_main_v40, val_main_v39, val_main_v38, val_main_v36, val_main_v27, val_main_v20]
  refine congrArg₂ (fun s t : EReal => s + t) (congrArg₂ (fun s t : EReal => s * t) ?_ ?_) (congrArg₂ (fun s t : EReal => -s * t) ?_ ?_)
  · exact rd_at x3 _ _ _ _ _ _ (by omega) (by omega)
  · exact rd_at x1 r.val (l.val - 64) _ _ r.isLt (by omega) (by omega) rfl
  · exact rd_at x3 _ _ _ _ _ _ (by omega) (by show _ = h.val * 128 + (l.val - 64); omega)
  · exact rd_at x2 r.val (l.val - 64) _ _ r.isLt (by omega) (by omega) rfl

theorem dL_eq : (val_main_v56 (F := Ideal) x1 x2 x3 (ix4 0 h r l) : EReal) = D x1 x2 x3 h.val (256 + r.val) l := by
  have hl2 := l.isLt
  pointwise [val_main_v56, val_main_v54, val_main_v55, val_main_cst_1, val_main_cst_2]
  by_cases hl : l.val < 64
  · rw [dif_neg (by omega), dif_pos hl, zero_add]
    exact lo_eq x1 x2 x3 h r l hl
  · rw [dif_pos (by omega), dif_neg hl, add_zero]
    exact hi_eq x1 x2 x3 h r l hl
end

theorem ref (r : Fin 2304) (q : Fin 512) :
    (val_main_v72 (F := Ideal) x1 x2 x3 (ix2 r q) : EReal) = D x1 x2 x3 (q.val / 128) r.val ⟨q.val % 128, Nat.mod_lt _ (by decide)⟩ * Ideal.ofBits FTy.f32 1035273459#32 := by
  have hr := r.isLt
  have hq := q.isLt
  pointwise [val_main_v72, val_main_v71, val_main_v62, val_main_v70, val_main_cst_5, val_main_cst_8, val_main_v61, val_main_v69, val_main_cst_4, val_main_cst_7, val_main_v60, val_main_v59, val_main_v58, val_main_v57, val_main_cst_3, val_main_v68, val_main_v67, val_main_v66, val_main_v65, val_main_cst_6, val_main_v64, val_main_v63, val_main_v37, val_main_v36]
  by_cases hr' : r.val < 256
  · rw [dif_neg (by omega), dif_pos hr', zero_add, Fin.sum_univ_one]
    refine congrArg (fun t : EReal => t * _) ?_
    refine Eq.trans ?_ (bk_ctx _ _ _ _ _ hr').symm
    exact rd_at x3 _ _ _ _ _ _ rfl (by show _ = q.val / 128 * 128 + q.val % 128; omega)
  · rw [dif_pos (by omega), dif_neg hr', add_zero, Fin.sum_univ_one, dL_eq x1 x2 x3 ⟨q.val / 128, by omega⟩ ⟨r.val - 256, by omega⟩ ⟨q.val % 128, Nat.mod_lt _ (by decide)⟩, show 256 + (r.val - 256) = r.val from by omega]

end Cert.RetKeysGradIdeal.Ref

namespace Cert.Proof.PrepRkBwd
open Cert.AttSpec Cert.MixSpec Cert.RopeSpec

theorem frame_ref : quiescent_RetKeysGradIdeal := fun m ρ _ =>
  (θ_run RetKeysGradIdeal.defs _ _).mono (fun r h => ⟨fun c => (h c).2, sem_eq_zero_of_no_sems (by decide) r.2⟩) (RetKeysGradIdeal.Value.run (F := Ideal) m ρ)

theorem algebraic : algebraic_PrepRkBwdIdeal_RetKeysGradIdeal := by
  intro m ρ m' ρ' _ hagree
  refine ⟨fun c => PrepRkBwdIdeal.Body.res m c, ?_, ?_⟩
  · refine (θ_run PrepRkBwdIdeal.defs _ _).mono (fun _ h c => ?_) (PrepRkBwdIdeal.Value.run_blocks (F := Ideal) m ρ)
    exact ⟨(h c).1.trans (PrepRkBwdIdeal.Body.final4 m c), (h c).2⟩
  · refine (θ_run RetKeysGradIdeal.defs _ _).mono (fun _ h c => ?_) (RetKeysGradIdeal.Value.run (F := Ideal) m' ρ')
    obtain ⟨g0, g1, g2, g3⟩ := hagree c
    refine ⟨((h c).1.trans (RetKeysGradIdeal.Read.val_main_v72_eq _ _)).trans ?_, (h c).2⟩
    show RetKeysGradIdeal.Read.val_main_v72 (F := Ideal) (m' (c.tc.loc RetKeysGradIdeal.main_arg1)) (m' (c.tc.loc RetKeysGradIdeal.main_arg2)) (m' (c.tc.loc RetKeysGradIdeal.main_arg3)) = _
    rw [g1, g2, g3]
    funext y
    rw [eq_ix2 y]
    exact RetKeysGradIdeal.Ref.ref _ _ _ (y 0) (y 1)

end Cert.Proof.PrepRkBwd

end
-- ==== Proof.PrepAqBody.lean ====
/- One program point by point: the queries, normed and with positions. -/
module

public import proofs.«01_k».proof.Proof.RopeSpec
public import proofs.«01_k».proof.Proof.Gen.PrepAqIdeal.Value

@[expose] public section

set_option maxRecDepth 16384

noncomputable section

namespace Cert.PrepAqIdeal.Body

open Idealize.ShloMosaic Idealize.ShloMosaic.TcCoe Idealize.SL.Sem
open Idealize.ShloMosaic.Pipeline (Dat)
open Cert.PrepAqIdeal.Gen Cert.PrepAqIdeal.Value Cert.AttSpec Cert.ConvSpec Cert.MixSpec Cert.RopeSpec

section
variable (n : Vec Ideal S1x128 .f32) (z C S : Vec Ideal S256x128 .f32) (r : Fin 256) (j : Fin 128)

theorem pay0 : (k0_pay3 n z C S (ix2 r j) : EReal) = fw (row C r) (row S r) (fun i => nrm (row z r) i * (row n 0) i) j := by
  pointwise [k0_pay3]
  rfl

theorem pay128 : (k0_pay8 n z (k0_pay4 C) (k0_pay5 S) (k0_pay6 z) (k0_pay7 (F := Ideal)) (ix2 r j) : EReal) = fw (row C r) (row S r) (fun i => nrm (row z r) i * (row n 0) i) j := by
  pointwise [k0_pay4, k0_pay5, k0_pay6, k0_pay7, k0_pay8]
  rfl

theorem pay256 : (k0_pay9 n z C S (ix2 r j) : EReal) = fw (row C r) (row S r) (fun i => nrm (row z r) i * (row n 0) i) j := by
  pointwise [k0_pay9]
  rfl

theorem pay384 : (k0_pay11 n z (k0_pay10 C) S (ix2 r j) : EReal) = fw (row C r) (row S r) (fun i => nrm (row z r) i * (row n 0) i) j := by
  pointwise [k0_pay10, k0_pay11]
  rfl

theorem pay512 : (k0_pay12 n z C S (ix2 r j) : EReal) = fw (row C r) (row S r) (fun i => nrm (row z r) i * (row n 0) i) j := by
  pointwise [k0_pay12]
  rfl

theorem pay640 : (k0_pay13 n z C S (ix2 r j) : EReal) = fw (row C r) (row S r) (fun i => nrm (row z r) i * (row n 0) i) j := by
  pointwise [k0_pay13]
  rfl

theorem pay768 : (k0_pay1 n z (k0_pay14 C) (k0_pay15 S) (k0_pay16 z) (k0_pay17 (F := Ideal)) (ix2 r j) : EReal) = fw (row C r) (row S r) (fun i => nrm (row z r) i * (row n 0) i) j := by
  pointwise [k0_pay1, k0_pay14, k0_pay15, k0_pay16, k0_pay17]
  rfl

theorem pay896 : (k0_pay2 n z C S (ix2 r j) : EReal) = fw (row C r) (row S r) (fun i => nrm (row z r) i * (row n 0) i) j := by
  pointwise [k0_pay2]
  rfl

end

theorem hz : (![0, 0] : Fin 2 → Nat) = fun _ => 0 := funext fun a => by fin_cases a <;> rfl

/-- A head of a block's result. -/
def fT (z : (⟨2, ![256, 1024]⟩ : Shape).Idx → EReal) (C : (⟨2, ![256, 128]⟩ : Shape).Idx → EReal) (S : (⟨2, ![256, 128]⟩ : Shape).Idx → EReal) (n : (⟨2, ![1, 128]⟩ : Shape).Idx → EReal) (r k : Nat) (j : Fin 128) : EReal := fw (hd C r 0) (hd S r 0) (fun i => nrm (hd z r k) i * (row n 0) i) j

section
variable (c : Dev nD) (i : grid0.Coords)
  (a1 : Memref sig .tc .vmem S256x1024 .f32) (h1 : a1.IsWhole)
  (a2 : Memref sig .tc .vmem S256x128 .f32) (h2 : a2.IsWhole)
  (a3 : Memref sig .tc .vmem S256x128 .f32) (h3 : a3.IsWhole)
  (a4 : Memref sig .tc .vmem S1x128 .f32) (h4 : a4.IsWhole)
  (a5 : Memref sig .tc .vmem S256x1024 .bf16) (h5 : a5.IsWhole)
  (x0 : Vec Ideal S256x1024 .f32) (x1 : Vec Ideal S256x128 .f32) (x2 : Vec Ideal S256x128 .f32) (x3 : Vec Ideal S1x128 .f32)

theorem out0_A_4_eq (y) : (out0_A_4 (F := Ideal) c i a1 h1 a2 h2 a3 h3 a4 h4 a5 h5 x0 x1 x2 x3 y : EReal) = tH (fT x0 x1 x2 x3) y := by
  unfold out0_A_4
  rw [View.read_writes_eq_canon _ _ _ (cover0_A_4 c i a1 h1 a2 h2 a3 h3 a4 h4 a5 h5 x0 x1 x2 x3)]
  refine View.canon_apply_of_pieces (tH (fT x0 x1 x2 x3)) _ ?_ _ (cover0_A_4 c i a1 h1 a2 h2 a3 h3 a4 h4 a5 h5 x0 x1 x2 x3 _)
  unfold kernelRun0_A
  dsimp only
  sl_unfold_words
  simp only [View.readAt_eq_ld, h1.read_unread, h2.read_unread, h3.read_unread, h4.read_unread, View.ld_unit_zero (S := S1x128) hz, View.ld_unit_zero (S := S256x128) hz]
  simp only [List.mem_cons, List.not_mem_nil, or_false, forall_eq_or_imp, forall_eq]
  refine ⟨?_, ?_, ?_, ?_, ?_, ?_, ?_, ?_⟩ <;> intro y <;> idx_vars y
  · refine (pay896 x3 _ x1 x2 y0 y1).trans ?_
    rw [row_ld, row_hd x1, row_hd x2]
    exact tH_at (fT x0 x1 x2 x3) 7 y0.val y1 _ (at0 _) (atk 7 _)
  · refine (pay768 x3 _ x1 x2 y0 y1).trans ?_
    rw [row_ld, row_hd x1, row_hd x2]
    exact tH_at (fT x0 x1 x2 x3) 6 y0.val y1 _ (at0 _) (atk 6 _)
  · refine (pay640 x3 _ x1 x2 y0 y1).trans ?_
    rw [row_ld, row_hd x1, row_hd x2]
    exact tH_at (fT x0 x1 x2 x3) 5 y0.val y1 _ (at0 _) (atk 5 _)
  · refine (pay512 x3 _ x1 x2 y0 y1).trans ?_
    rw [row_ld, row_hd x1, row_hd x2]
    exact tH_at (fT x0 x1 x2 x3) 4 y0.val y1 _ (at0 _) (atk 4 _)
  · refine (pay384 x3 _ x1 x2 y0 y1).trans ?_
    rw [row_ld, row_hd x1, row_hd x2]
    exact tH_at (fT x0 x1 x2 x3) 3 y0.val y1 _ (at0 _) (atk 3 _)
  · refine (pay256 x3 _ x1 x2 y0 y1).trans ?_
    rw [row_ld, row_hd x1, row_hd x2]
    exact tH_at (fT x0 x1 x2 x3) 2 y0.val y1 _ (at0 _) (atk 2 _)
  · refine (pay128 x3 _ x1 x2 y0 y1).trans ?_
    rw [row_ld, row_hd x1, row_hd x2]
    exact tH_at (fT x0 x1 x2 x3) 1 y0.val y1 _ (at0 _) (atk 1 _)
  · refine (pay0 x3 _ x1 x2 y0 y1).trans ?_
    rw [row_ld, row_hd x1, row_hd x2]
    exact tH_at (fT x0 x1 x2 x3) 0 y0.val y1 _ (at0 _) (atk 0 _)

end

variable (m : (ℓ : Loc nD τ sig) → Buf (Elt Ideal) ℓ)

theorem ltN (t : Fin cfg0.N) : t.val < 9 := lt_of_lt_of_eq t.isLt Gen.N_0

/-- The arguments on a device. -/
abbrev az (c : Dev nD) : Vec Ideal S2304x5376 .f32 := m ((c : Thread nD τ).loc main_arg0)
abbrev au (c : Dev nD) : Vec Ideal S2048x64 .f32 := m ((c : Thread nD τ).loc main_arg1)
abbrev av (c : Dev nD) : Vec Ideal S2048x64 .f32 := m ((c : Thread nD τ).loc main_arg2)
abbrev an (c : Dev nD) : Vec Ideal S1x128 .f32 := m ((c : Thread nD τ).loc main_arg3)

theorem V_main_v2 (c : Dev nD) : V m c main_v2 = cs (au m c) := by
  show StableHlo.after hostOps0 _ (Proc.devRef .tc main_v2) = _
  after_results
  rfl

theorem V_main_v6 (c : Dev nD) : V m c main_v6 = sn (av m c) := by
  show StableHlo.after hostOps0 _ (Proc.devRef .tc main_v6) = _
  after_results
  rfl

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx4 : ∀ t : Fin grid0.N, win0_4.index t 0 = t.val ∧ win0_4.index t 1 = 0 := by decide +kernel
theorem idx3 : ∀ t : Fin grid0.N, win0_3.index t 0 = 0 ∧ win0_3.index t 1 = 0 := by decide +kernel

section
variable (c : Dev nD) (t : Fin cfg0.N) (r : Nat) (hr : r < 256)
include hr

theorem tab1 : hd (a := 256) (b := 128) (iblk m c 1 t) r 0 = cT (au m c) (t.val * 256 + r) := by
  have ht := ltN t
  refine Eq.trans ?_ (tab_hd (cs (au m c)) _ (cs_at _) _ (by omega))
  refine hd_blk _ _ r _ 0 0 hr (by omega) (by omega) (by decide) fun n => ?_
  unfold iblk
  rw [View.read_apply]
  show V m c main_v2 _ = _
  rw [V_main_v2]
  refine congrArg _ (ix2_ext _ _ _ ?_ ?_)
  · show win0_1.index t 0 * 256 + 1 * r = t.val * 256 + r; rw [(idx1 t).1]; omega
  · show win0_1.index t 1 * 128 + 1 * n.val = 0 + n.val; rw [(idx1 t).2]; omega

theorem tab2 : hd (a := 256) (b := 128) (iblk m c 2 t) r 0 = sT (av m c) (t.val * 256 + r) := by
  have ht := ltN t
  refine Eq.trans ?_ (tab_hd (sn (av m c)) _ (sn_at _) _ (by omega))
  refine hd_blk _ _ r _ 0 0 hr (by omega) (by omega) (by decide) fun n => ?_
  unfold iblk
  rw [View.read_apply]
  show V m c main_v6 _ = _
  rw [V_main_v6]
  refine congrArg _ (ix2_ext _ _ _ ?_ ?_)
  · show win0_2.index t 0 * 256 + 1 * r = t.val * 256 + r; rw [(idx2 t).1]; omega
  · show win0_2.index t 1 * 128 + 1 * n.val = 0 + n.val; rw [(idx2 t).2]; omega

theorem hd0 (k : Nat) (hk : k + 128 ≤ 1024) :
    hd (a := 256) (b := 1024) (X0_0 m c t) r k = hd (a := 2304) (b := 5376) (az m c) (t.val * 256 + r) k := by
  have ht := ltN t
  refine Eq.trans (hd_blk _ (az m c) r _ k 0 hr hk (by omega) (by decide) fun n => ?_) (congrArg (hd _ _) (Nat.zero_add k))
  unfold X0_0 Pipeline.Window.fill
  rw [dif_pos (moved0_0 t _)]
  unfold iblk
  rw [View.read_apply]
  show V m c main_arg0 _ = _
  rw [V_main_arg0]
  refine congrArg _ (ix2_ext _ _ _ ?_ ?_)
  · show win0_0.index t 0 * 256 + 1 * r = t.val * 256 + r; rw [(idx0 t).1]; omega
  · show win0_0.index t 1 * 1024 + 1 * n.val = 0 + n.val; rw [(idx0 t).2]; omega

end

theorem row3 (c : Dev nD) (t : Fin cfg0.N) : row (iblk m c 3 t) 0 = row (an m c) 0 := by
  funext l
  show (iblk m c 3 t (ix2 0 l) : EReal) = an m c (ix2 0 l)
  unfold iblk
  rw [View.read_apply]
  show V m c main_arg3 _ = _
  rw [V_main_arg3]
  refine congrArg _ (ix2_ext _ _ _ ?_ ?_)
  · show win0_3.index t 0 * 1 + 1 * 0 = 0; rw [(idx3 t).1]
  · show win0_3.index t 1 * 128 + 1 * l.val = l.val; rw [(idx3 t).2]; omega

/-- A head of the whole result. -/
def gT (z : (⟨2, ![2304, 5376]⟩ : Shape).Idx → EReal) (u v : (⟨2, ![2048, 64]⟩ : Shape).Idx → EReal) (n : (⟨2, ![1, 128]⟩ : Shape).Idx → EReal) (r k : Nat) (j : Fin 128) : EReal := fw (cT u r) (sT v r) (fun i => nrm (hd z r (k)) i * (row n 0) i) j

theorem fg (c : Dev nD) (t : Fin cfg0.N) (r k : Nat) (j : Fin 128) (hr : r < 256) (hk : k + 128 ≤ 1024) :
    fT (X0_0 m c t) (iblk m c 1 t) (iblk m c 2 t) (iblk m c 3 t) r k j = gT (az m c) (au m c) (av m c) (an m c) (t.val * 256 + r) k j := by
  unfold fT gT
  rw [row3 m c t, tab1 m c t r hr, tab2 m c t r hr, hd0 m c t r hr k hk]

/-- The whole result. -/
def res (c : Dev nD) : Vec Ideal S2304x1024 .bf16 := tH (gT (az m c) (au m c) (av m c) (an m c))

theorem flushed4_eq (c : Dev nD) (t : Fin cfg0.N) (hf : (cfg0.win 4).flush t = true) :
    (dats m 0 c).flushed 4 t = ((cfg0.win 4).blk t).view.read (Elt Ideal) (res m c) := by
  rw [flushed4_A]
  funext y
  rw [View.read_apply]
  refine Eq.trans (out0_A_4_eq c _ _ _ _ _ _ _ _ _ _ _ (X0_0 m c t) (iblk m c 1 t) (iblk m c 2 t) (iblk m c 3 t) _) (tH_blk _ _ t.val rfl (fg m c t) _ _ ?_ ?_)
  · show win0_4.index t 0 * 256 + 1 * (y 0).val = t.val * 256 + (y 0).val
    rw [(idx4 t).1, Nat.one_mul]
  · show win0_4.index t 1 * 1024 + 1 * (y 1).val = (y 1).val
    rw [(idx4 t).2, Nat.one_mul, Nat.zero_mul, Nat.zero_add]

theorem final4 (c : Dev nD) : (dats m 0 c).arrAt 4 cfg0.N = res m c :=
  (dats m 0 c).arrAt_eq_of_cover 4 (res m c) (flushed4_eq m c) fun i => by
    have hi0 : (i 0).val < 2304 := (i 0).isLt
    have hi1 : (i 1).val < 1024 := (i 1).isLt
    refine ⟨⟨(i 0).val / 256, by show _ < grid0.N; rw [Gen.N_0]; omega⟩, flush0_4 _, ?_⟩
    generalize ht : (⟨(i 0).val / 256, _⟩ : Fin grid0.N) = t
    have ht' : t.val = (i 0).val / 256 := by rw [← ht]
    show i ∈ ((View.whole main_v7).slice (win0_4.rect t)).set
    rw [View.set_slice_whole, Rect.mem_set_unit]
    intro a
    match a with
    | ⟨0, _⟩ => exact mem_box 256 (i 0).val (idx4 t).1 (by omega)
    | ⟨1, _⟩ => exact mem_box 1024 (i 1).val (idx4 t).2 (by omega)

end Cert.PrepAqIdeal.Body

end
-- ==== Proof.PrepAqClaims.lean ====
/- The reference for the queries, normed and with positions, and the claims. -/
module

public import proofs.«01_k».proof.Proof.PrepAqBody
public import proofs.«01_k».proof.Proof.Gen.QueriesIdeal.Run
public import proofs.«01_k».proof.Proof.Gen.QueriesIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.QueriesIdeal.Ref
open Cert.QueriesIdeal.Gen Cert.QueriesIdeal.Read Cert.AttSpec Cert.ConvSpec Cert.MixSpec Cert.RopeSpec

variable (x0 : Vec Ideal S2304x5376 .f32) (x1 x2 : Vec Ideal S2048x64 .f32) (x3 : Vec Ideal S1x128 .f32)

abbrev Z (h r : Nat) : Fin 128 → EReal := hd (a := 2304) (b := 5376) x0 r (h * 128)
abbrev X (h r : Nat) : Fin 128 → EReal := fun i => nrm (Z x0 h r) i * row x3 0 i

section
variable (h : Fin 8) (r : Fin 256) (l : Fin 128)

theorem zc_eq : (val_main_v4 (F := Ideal) x0 (ix4 0 h r l) : EReal) = Z x0 h.val r.val l := by
  have hh := h.isLt
  have hr := r.isLt
  have hl := l.isLt
  pointwise [val_main_v4, val_main_v3, val_main_v2, val_main_v1, val_main_v0]
  exact rd_at x0 _ _ _ _ _ _ (by omega) (by omega)

theorem mc_eq : (val_main_v11 (F := Ideal) x0 (ix4 0 h r 0) : EReal) = ms (Z x0 h.val r.val) := by
  pointwise [val_main_v11, val_main_v9, val_main_v7, val_main_v6, val_main_v5, val_main_cst, val_main_v8, val_main_cst_0, val_main_v10, val_main_cst_1]
  simp only [zc_eq]
  rfl

theorem xc_eq : (val_main_v17 (F := Ideal) x0 x3 (ix4 0 h r l) : EReal) = X x0 x3 h.val r.val l := by
  pointwise [val_main_v17, val_main_v14, val_main_v13, val_main_v12, val_main_v16, val_main_v15]
  rw [zc_eq, mc_eq]
  rfl

end

section
variable (h : Fin 8) (r : Fin 2048) (l : Fin 128)

theorem zl_eq : (val_main_v23 (F := Ideal) x0 (ix4 0 h r l) : EReal) = Z x0 h.val (256 + r.val) l := by
  have hh := h.isLt
  have hr := r.isLt
  have hl := l.isLt
  pointwise [val_main_v23, val_main_v22, val_main_v21, val_main_v20, val_main_v0]
  exact rd_at x0 _ _ _ _ _ _ (by omega) (by omega)

theorem ml_eq : (val_main_v30 (F := Ideal) x0 (ix4 0 h r 0) : EReal) = ms (Z x0 h.val (256 + r.val)) := by
  pointwise [val_main_v30, val_main_v28, val_main_v26, val_main_v25, val_main_v24, val_main_cst_2, val_main_v27, val_main_cst_3, val_main_v29, val_main_cst_4]
  simp only [zl_eq]
  rfl

theorem xl_eq : (val_main_v36 (F := Ideal) x0 x3 (ix4 0 h r l) : EReal) = X x0 x3 h.val (256 + r.val) l := by
  pointwise [val_main_v36, val_main_v33, val_main_v32, val_main_v31, val_main_v35, val_main_v34]
  rw [zl_eq, ml_eq]
  rfl

theorem ha_eq (l : Fin 64) : (val_main_v37 (F := Ideal) x0 x3 (ix4 0 h r l) : EReal) = X x0 x3 h.val (256 + r.val) ⟨l.val, by omega⟩ := by
  have hl := l.isLt
  pointwise [val_main_v37]
  exact xl_eq x0 x3 h r ⟨l.val, by omega⟩

theorem hb_eq (l : Fin 64) : (val_main_v38 (F := Ideal) x0 x3 (ix4 0 h r l) : EReal) = X x0 x3 h.val (256 + r.val) ⟨l.val + 64, by omega⟩ := by
  have hl := l.isLt
  pointwise [val_main_v38]
  refine (congrArg (fun i => (val_main_v36 (F := Ideal) x0 x3 (ix4 0 h r i) : EReal)) (Fin.ext (by dsimp only; omega))).trans (xl_eq x0 x3 h r ⟨l.val + 64, by omega⟩)

theorem lo_eq (hl : l.val < 64) : (val_main_v45 (F := Ideal) x0 x1 x2 x3 (ix4 0 h r ⟨l.val, hl⟩) : EReal) = fw (cT x1 (256 + r.val)) (sT x2 (256 + r.val)) (X x0 x3 h.val (256 + r.val)) l := by
  refine Eq.trans ?_ (fw_lo _ _ _ (256 + r.val) _ (by omega) hl).symm
  pointwise [val_main_v45, val_main_v41, val_main_v40, val_main_v39, val_main_v44, val_main_v43, val_main_v42]
  rw [ha_eq, hb_eq]
  refine congrArg₂ (fun s t : EReal => s - t) (congrArg₂ (fun s t : EReal => s * t) ?_ ?_) (congrArg₂ (fun s t : EReal => s * t) ?_ ?_)
  · rfl
  · exact rd_at x1 r.val l.val _ _ r.isLt hl (by omega) rfl
  · rfl
  · exact rd_at x2 r.val l.val _ _ r.isLt hl (by omega) rfl

theorem hi_eq (hl : ¬ l.val < 64) : (val_main_v52 (F := Ideal) x0 x1 x2 x3 (ix4 0 h r ⟨l.val - 64, by omega⟩) : EReal) = fw (cT x1 (256 + r.val)) (sT x2 (256 + r.val)) (X x0 x3 h.val (256 + r.val)) l := by
  have hl2 := l.isLt
  refine Eq.trans ?_ (fw_hi _ _ _ (256 + r.val) _ (by omega) hl).symm
  pointwise [val_main_v52, val_main_v48, val_main_v47, val_main_v46, val_main_v51, val_main_v50, val_main_v49]
  rw [ha_eq, hb_eq]
  refine congrArg₂ (fun s t : EReal => s + t) (congrArg₂ (fun s t : EReal => s * t) ?_ ?_) (congrArg₂ (fun s t : EReal => s * t) ?_ ?_)
  · rfl
  · exact rd_at x2 r.val (l.val - 64) _ _ r.isLt (by omega) (by omega) rfl
  · exact congrArg _ (Fin.ext (by show l.val - 64 + 64 = l.val; omega))
  · exact rd_at x1 r.val (l.val - 64) _ _ r.isLt (by omega) (by omega) rfl

theorem tl_eq : (val_main_v53 (F := Ideal) x0 x1 x2 x3 (ix4 0 h r l) : EReal) = fw (cT x1 (256 + r.val)) (sT x2 (256 + r.val)) (X x0 x3 h.val (256 + r.val)) l := by
  have hl2 := l.isLt
  pointwise [val_main_v53]
  by_cases hl : l.val < 64
  · rw [dif_pos hl]
    exact lo_eq x0 x1 x2 x3 h r l hl
  · rw [dif_neg hl]
    exact hi_eq x0 x1 x2 x3 h r l hl
end

theorem ref (r : Fin 2304) (q : Fin 1024) :
    (val_main_v58 (F := Ideal) x0 x1 x2 x3 (ix2 r q) : EReal) = fw (cT x1 r.val) (sT x2 r.val) (X x0 x3 (q.val / 128) r.val) ⟨q.val % 128, Nat.mod_lt _ (by decide)⟩ := by
  have hr := r.isLt
  have hq := q.isLt
  pointwise [val_main_v58, val_main_v57, val_main_v56, val_main_v18, val_main_v19, val_main_v54, val_main_v55]
  by_cases hr' : r.val < 256
  · rw [dif_pos hr', fw_ctx _ _ _ _ _ hr']
    exact xc_eq x0 x3 ⟨q.val / 128, by omega⟩ ⟨r.val, hr'⟩ ⟨q.val % 128, Nat.mod_lt _ (by decide)⟩
  · rw [dif_neg hr']
    refine (tl_eq x0 x1 x2 x3 ⟨q.val / 128, by omega⟩ ⟨r.val - 256, by omega⟩ ⟨q.val % 128, Nat.mod_lt _ (by decide)⟩).trans ?_
    rw [show 256 + (r.val - 256) = r.val from by omega]

end Cert.QueriesIdeal.Ref

namespace Cert.Proof.PrepAq
open Cert.AttSpec Cert.MixSpec Cert.RopeSpec

theorem frame_ref : quiescent_QueriesIdeal := fun m ρ _ =>
  (θ_run QueriesIdeal.defs _ _).mono (fun r h => ⟨fun c => (h c).2, sem_eq_zero_of_no_sems (by decide) r.2⟩) (QueriesIdeal.Value.run (F := Ideal) m ρ)

theorem algebraic : algebraic_PrepAqIdeal_QueriesIdeal := by
  intro m ρ m' ρ' _ hagree
  refine ⟨fun c => PrepAqIdeal.Body.res m c, ?_, ?_⟩
  · refine (θ_run PrepAqIdeal.defs _ _).mono (fun _ h c => ?_) (PrepAqIdeal.Value.run_blocks (F := Ideal) m ρ)
    exact ⟨(h c).1.trans (PrepAqIdeal.Body.final4 m c), (h c).2⟩
  · refine (θ_run QueriesIdeal.defs _ _).mono (fun _ h c => ?_) (QueriesIdeal.Value.run (F := Ideal) m' ρ')
    obtain ⟨g0, g1, g2, g3⟩ := hagree c
    refine ⟨((h c).1.trans (QueriesIdeal.Read.val_main_v58_eq _ _)).trans ?_, (h c).2⟩
    show QueriesIdeal.Read.val_main_v58 (F := Ideal) (m' (c.tc.loc QueriesIdeal.main_arg0)) (m' (c.tc.loc QueriesIdeal.main_arg1)) (m' (c.tc.loc QueriesIdeal.main_arg2)) (m' (c.tc.loc QueriesIdeal.main_arg3)) = _
    rw [g0, g1, g2, g3]
    funext y
    rw [eq_ix2 y]
    exact QueriesIdeal.Ref.ref _ _ _ _ (y 0) (y 1)

end Cert.Proof.PrepAq

end
-- ==== Proof.PrepAkBody.lean ====
/- One program point by point: the keys, normed and with positions. -/
module

public import proofs.«01_k».proof.Proof.RopeSpec
public import proofs.«01_k».proof.Proof.Gen.PrepAkIdeal.Value

@[expose] public section

set_option maxRecDepth 16384

noncomputable section

namespace Cert.PrepAkIdeal.Body

open Idealize.ShloMosaic Idealize.ShloMosaic.TcCoe Idealize.SL.Sem
open Idealize.ShloMosaic.Pipeline (Dat)
open Cert.PrepAkIdeal.Gen Cert.PrepAkIdeal.Value Cert.AttSpec Cert.ConvSpec Cert.MixSpec Cert.RopeSpec

section
variable (n : Vec Ideal S1x128 .f32) (z C S : Vec Ideal S256x128 .f32) (r : Fin 256) (j : Fin 128)

theorem pay0 : (k0_pay2 n z C S (ix2 r j) : EReal) = fw (row C r) (row S r) (fun i => nrm (row z r) i * (row n 0) i) j := by
  pointwise [k0_pay2]
  rfl

theorem pay128 : (k0_pay1 n z (k0_pay3 C) (k0_pay4 S) (k0_pay5 z) (k0_pay6 (F := Ideal)) (ix2 r j) : EReal) = fw (row C r) (row S r) (fun i => nrm (row z r) i * (row n 0) i) j := by
  pointwise [k0_pay1, k0_pay3, k0_pay4, k0_pay5, k0_pay6]
  rfl

end

theorem hz : (![0, 0] : Fin 2 → Nat) = fun _ => 0 := funext fun a => by fin_cases a <;> rfl

/-- A head of a block's result. -/
def fT (z : (⟨2, ![256, 256]⟩ : Shape).Idx → EReal) (C : (⟨2, ![256, 128]⟩ : Shape).Idx → EReal) (S : (⟨2, ![256, 128]⟩ : Shape).Idx → EReal) (n : (⟨2, ![1, 128]⟩ : Shape).Idx → EReal) (r k : Nat) (j : Fin 128) : EReal := fw (hd C r 0) (hd S r 0) (fun i => nrm (hd z r k) i * (row n 0) i) j

section
variable (x0 : Vec Ideal S256x256 .f32) (x1 : Vec Ideal S256x128 .f32) (x2 : Vec Ideal S256x128 .f32) (x3 : Vec Ideal S1x128 .f32)

theorem out0_4_eq (y) : (out0_4 (F := Ideal) x0 x1 x2 x3 y : EReal) = tH (fT x0 x1 x2 x3) y := by
  unfold out0_4
  refine View.canon_apply_of_pieces (Val := Elt Ideal) (S := S256x256) (e := .bf16) (tH (fT x0 x1 x2 x3)) _ ?_ _ (cover0_4 _ _ _)
  simp only [View.ld_unit_zero (S := S1x128) hz, View.ld_unit_zero (S := S256x128) hz]
  simp only [List.mem_cons, List.not_mem_nil, or_false, forall_eq_or_imp, forall_eq]
  refine ⟨?_, ?_⟩ <;> intro y <;> idx_vars y
  · refine (pay128 x3 _ x1 x2 y0 y1).trans ?_
    rw [row_ld, row_hd x1, row_hd x2]
    exact tH_at (fT x0 x1 x2 x3) 1 y0.val y1 _ (at0 _) (atk 1 _)
  · refine (pay0 x3 _ x1 x2 y0 y1).trans ?_
    rw [row_ld, row_hd x1, row_hd x2]
    exact tH_at (fT x0 x1 x2 x3) 0 y0.val y1 _ (at0 _) (atk 0 _)

end

variable (m : (ℓ : Loc nD τ sig) → Buf (Elt Ideal) ℓ)

theorem ltN (t : Fin cfg0.N) : t.val < 9 := lt_of_lt_of_eq t.isLt Gen.N_0

/-- The arguments on a device. -/
abbrev az (c : Dev nD) : Vec Ideal S2304x5376 .f32 := m ((c : Thread nD τ).loc main_arg0)
abbrev au (c : Dev nD) : Vec Ideal S2048x64 .f32 := m ((c : Thread nD τ).loc main_arg1)
abbrev av (c : Dev nD) : Vec Ideal S2048x64 .f32 := m ((c : Thread nD τ).loc main_arg2)
abbrev an (c : Dev nD) : Vec Ideal S1x128 .f32 := m ((c : Thread nD τ).loc main_arg3)

theorem V_main_v2 (c : Dev nD) : V m c main_v2 = cs (au m c) := by
  show StableHlo.after hostOps0 _ (Proc.devRef .tc main_v2) = _
  after_results
  rfl

theorem V_main_v6 (c : Dev nD) : V m c main_v6 = sn (av m c) := by
  show StableHlo.after hostOps0 _ (Proc.devRef .tc main_v6) = _
  after_results
  rfl

theorem idx0 : ∀ t : Fin grid0.N, win0_0.index t 0 = t.val ∧ win0_0.index t 1 = 4 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx4 : ∀ t : Fin grid0.N, win0_4.index t 0 = t.val ∧ win0_4.index t 1 = 0 := by decide +kernel
theorem idx3 : ∀ t : Fin grid0.N, win0_3.index t 0 = 0 ∧ win0_3.index t 1 = 0 := by decide +kernel

section
variable (c : Dev nD) (t : Fin cfg0.N) (r : Nat) (hr : r < 256)
include hr

theorem tab1 : hd (a := 256) (b := 128) (iblk m c 1 t) r 0 = cT (au m c) (t.val * 256 + r) := by
  have ht := ltN t
  refine Eq.trans ?_ (tab_hd (cs (au m c)) _ (cs_at _) _ (by omega))
  refine hd_blk _ _ r _ 0 0 hr (by omega) (by omega) (by decide) fun n => ?_
  unfold iblk
  rw [View.read_apply]
  show V m c main_v2 _ = _
  rw [V_main_v2]
  refine congrArg _ (ix2_ext _ _ _ ?_ ?_)
  · show win0_1.index t 0 * 256 + 1 * r = t.val * 256 + r; rw [(idx1 t).1]; omega
  · show win0_1.index t 1 * 128 + 1 * n.val = 0 + n.val; rw [(idx1 t).2]; omega

theorem tab2 : hd (a := 256) (b := 128) (iblk m c 2 t) r 0 = sT (av m c) (t.val * 256 + r) := by
  have ht := ltN t
  refine Eq.trans ?_ (tab_hd (sn (av m c)) _ (sn_at _) _ (by omega))
  refine hd_blk _ _ r _ 0 0 hr (by omega) (by omega) (by decide) fun n => ?_
  unfold iblk
  rw [View.read_apply]
  show V m c main_v6 _ = _
  rw [V_main_v6]
  refine congrArg _ (ix2_ext _ _ _ ?_ ?_)
  · show win0_2.index t 0 * 256 + 1 * r = t.val * 256 + r; rw [(idx2 t).1]; omega
  · show win0_2.index t 1 * 128 + 1 * n.val = 0 + n.val; rw [(idx2 t).2]; omega

theorem hd0 (k : Nat) (hk : k + 128 ≤ 256) :
    hd (a := 256) (b := 256) (iblk m c 0 t) r k = hd (a := 2304) (b := 5376) (az m c) (t.val * 256 + r) (1024 + k) := by
  have ht := ltN t
  refine hd_blk _ _ r _ k 1024 hr hk (by omega) (by decide) fun n => ?_
  unfold iblk
  rw [View.read_apply]
  show V m c main_arg0 _ = _
  rw [V_main_arg0]
  refine congrArg _ (ix2_ext _ _ _ ?_ ?_)
  · show win0_0.index t 0 * 256 + 1 * r = t.val * 256 + r; rw [(idx0 t).1]; omega
  · show win0_0.index t 1 * 256 + 1 * n.val = 1024 + n.val; rw [(idx0 t).2]; omega

end

theorem row3 (c : Dev nD) (t : Fin cfg0.N) : row (iblk m c 3 t) 0 = row (an m c) 0 := by
  funext l
  show (iblk m c 3 t (ix2 0 l) : EReal) = an m c (ix2 0 l)
  unfold iblk
  rw [View.read_apply]
  show V m c main_arg3 _ = _
  rw [V_main_arg3]
  refine congrArg _ (ix2_ext _ _ _ ?_ ?_)
  · show win0_3.index t 0 * 1 + 1 * 0 = 0; rw [(idx3 t).1]
  · show win0_3.index t 1 * 128 + 1 * l.val = l.val; rw [(idx3 t).2]; omega

/-- A head of the whole result. -/
def gT (z : (⟨2, ![2304, 5376]⟩ : Shape).Idx → EReal) (u v : (⟨2, ![2048, 64]⟩ : Shape).Idx → EReal) (n : (⟨2, ![1, 128]⟩ : Shape).Idx → EReal) (r k : Nat) (j : Fin 128) : EReal := fw (cT u r) (sT v r) (fun i => nrm (hd z r (1024 + k)) i * (row n 0) i) j

theorem fg (c : Dev nD) (t : Fin cfg0.N) (r k : Nat) (j : Fin 128) (hr : r < 256) (hk : k + 128 ≤ 256) :
    fT (iblk m c 0 t) (iblk m c 1 t) (iblk m c 2 t) (iblk m c 3 t) r k j = gT (az m c) (au m c) (av m c) (an m c) (t.val * 256 + r) k j := by
  unfold fT gT
  rw [row3 m c t, tab1 m c t r hr, tab2 m c t r hr, hd0 m c t r hr k hk]

/-- The whole result. -/
def res (c : Dev nD) : Vec Ideal S2304x256 .bf16 := tH (gT (az m c) (au m c) (av m c) (an m c))

theorem flushed4_eq (c : Dev nD) (t : Fin cfg0.N) (hf : (cfg0.win 4).flush t = true) :
    (dats m 0 c).flushed 4 t = ((cfg0.win 4).blk t).view.read (Elt Ideal) (res m c) := by
  rw [flushed4]
  funext y
  rw [View.read_apply]
  refine Eq.trans (out0_4_eq (iblk m c 0 t) (iblk m c 1 t) (iblk m c 2 t) (iblk m c 3 t) _) (tH_blk _ _ t.val rfl (fg m c t) _ _ ?_ ?_)
  · show win0_4.index t 0 * 256 + 1 * (y 0).val = t.val * 256 + (y 0).val
    rw [(idx4 t).1, Nat.one_mul]
  · show win0_4.index t 1 * 256 + 1 * (y 1).val = (y 1).val
    rw [(idx4 t).2, Nat.one_mul, Nat.zero_mul, Nat.zero_add]

theorem final4 (c : Dev nD) : (dats m 0 c).arrAt 4 cfg0.N = res m c :=
  (dats m 0 c).arrAt_eq_of_cover 4 (res m c) (flushed4_eq m c) fun i => by
    have hi0 : (i 0).val < 2304 := (i 0).isLt
    have hi1 : (i 1).val < 256 := (i 1).isLt
    refine ⟨⟨(i 0).val / 256, by show _ < grid0.N; rw [Gen.N_0]; omega⟩, flush0_4 _, ?_⟩
    generalize ht : (⟨(i 0).val / 256, _⟩ : Fin grid0.N) = t
    have ht' : t.val = (i 0).val / 256 := by rw [← ht]
    show i ∈ ((View.whole main_v7).slice (win0_4.rect t)).set
    rw [View.set_slice_whole, Rect.mem_set_unit]
    intro a
    match a with
    | ⟨0, _⟩ => exact mem_box 256 (i 0).val (idx4 t).1 (by omega)
    | ⟨1, _⟩ => exact mem_box 256 (i 1).val (idx4 t).2 (by omega)

end Cert.PrepAkIdeal.Body

end
-- ==== Proof.PrepAkClaims.lean ====
/- The reference for the keys, normed and with positions, and the claims. -/
module

public import proofs.«01_k».proof.Proof.PrepAkBody
public import proofs.«01_k».proof.Proof.Gen.KeysIdeal.Run
public import proofs.«01_k».proof.Proof.Gen.KeysIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.KeysIdeal.Ref
open Cert.KeysIdeal.Gen Cert.KeysIdeal.Read Cert.AttSpec Cert.ConvSpec Cert.MixSpec Cert.RopeSpec

variable (x0 : Vec Ideal S2304x5376 .f32) (x1 x2 : Vec Ideal S2048x64 .f32) (x3 : Vec Ideal S1x128 .f32)

abbrev Z (h r : Nat) : Fin 128 → EReal := hd (a := 2304) (b := 5376) x0 r (1024 + h * 128)
abbrev X (h r : Nat) : Fin 128 → EReal := fun i => nrm (Z x0 h r) i * row x3 0 i

section
variable (h : Fin 2) (r : Fin 256) (l : Fin 128)

theorem zc_eq : (val_main_v4 (F := Ideal) x0 (ix4 0 h r l) : EReal) = Z x0 h.val r.val l := by
  have hh := h.isLt
  have hr := r.isLt
  have hl := l.isLt
  pointwise [val_main_v4, val_main_v3, val_main_v2, val_main_v1, val_main_v0]
  exact rd_at x0 _ _ _ _ _ _ (by omega) (by omega)

theorem mc_eq : (val_main_v11 (F := Ideal) x0 (ix4 0 h r 0) : EReal) = ms (Z x0 h.val r.val) := by
  pointwise [val_main_v11, val_main_v9, val_main_v7, val_main_v6, val_main_v5, val_main_cst, val_main_v8, val_main_cst_0, val_main_v10, val_main_cst_1]
  simp only [zc_eq]
  rfl

theorem xc_eq : (val_main_v17 (F := Ideal) x0 x3 (ix4 0 h r l) : EReal) = X x0 x3 h.val r.val l := by
  pointwise [val_main_v17, val_main_v14, val_main_v13, val_main_v12, val_main_v16, val_main_v15]
  rw [zc_eq, mc_eq]
  rfl

end

section
variable (h : Fin 2) (r : Fin 2048) (l : Fin 128)

theorem zl_eq : (val_main_v23 (F := Ideal) x0 (ix4 0 h r l) : EReal) = Z x0 h.val (256 + r.val) l := by
  have hh := h.isLt
  have hr := r.isLt
  have hl := l.isLt
  pointwise [val_main_v23, val_main_v22, val_main_v21, val_main_v20, val_main_v0]
  exact rd_at x0 _ _ _ _ _ _ (by omega) (by omega)

theorem ml_eq : (val_main_v30 (F := Ideal) x0 (ix4 0 h r 0) : EReal) = ms (Z x0 h.val (256 + r.val)) := by
  pointwise [val_main_v30, val_main_v28, val_main_v26, val_main_v25, val_main_v24, val_main_cst_2, val_main_v27, val_main_cst_3, val_main_v29, val_main_cst_4]
  simp only [zl_eq]
  rfl

theorem xl_eq : (val_main_v36 (F := Ideal) x0 x3 (ix4 0 h r l) : EReal) = X x0 x3 h.val (256 + r.val) l := by
  pointwise [val_main_v36, val_main_v33, val_main_v32, val_main_v31, val_main_v35, val_main_v34]
  rw [zl_eq, ml_eq]
  rfl

theorem ha_eq (l : Fin 64) : (val_main_v37 (F := Ideal) x0 x3 (ix4 0 h r l) : EReal) = X x0 x3 h.val (256 + r.val) ⟨l.val, by omega⟩ := by
  have hl := l.isLt
  pointwise [val_main_v37]
  exact xl_eq x0 x3 h r ⟨l.val, by omega⟩

theorem hb_eq (l : Fin 64) : (val_main_v38 (F := Ideal) x0 x3 (ix4 0 h r l) : EReal) = X x0 x3 h.val (256 + r.val) ⟨l.val + 64, by omega⟩ := by
  have hl := l.isLt
  pointwise [val_main_v38]
  refine (congrArg (fun i => (val_main_v36 (F := Ideal) x0 x3 (ix4 0 h r i) : EReal)) (Fin.ext (by dsimp only; omega))).trans (xl_eq x0 x3 h r ⟨l.val + 64, by omega⟩)

theorem lo_eq (hl : l.val < 64) : (val_main_v45 (F := Ideal) x0 x1 x2 x3 (ix4 0 h r ⟨l.val, hl⟩) : EReal) = fw (cT x1 (256 + r.val)) (sT x2 (256 + r.val)) (X x0 x3 h.val (256 + r.val)) l := by
  refine Eq.trans ?_ (fw_lo _ _ _ (256 + r.val) _ (by omega) hl).symm
  pointwise [val_main_v45, val_main_v41, val_main_v40, val_main_v39, val_main_v44, val_main_v43, val_main_v42]
  rw [ha_eq, hb_eq]
  refine congrArg₂ (fun s t : EReal => s - t) (congrArg₂ (fun s t : EReal => s * t) ?_ ?_) (congrArg₂ (fun s t : EReal => s * t) ?_ ?_)
  · rfl
  · exact rd_at x1 r.val l.val _ _ r.isLt hl (by omega) rfl
  · rfl
  · exact rd_at x2 r.val l.val _ _ r.isLt hl (by omega) rfl

theorem hi_eq (hl : ¬ l.val < 64) : (val_main_v52 (F := Ideal) x0 x1 x2 x3 (ix4 0 h r ⟨l.val - 64, by omega⟩) : EReal) = fw (cT x1 (256 + r.val)) (sT x2 (256 + r.val)) (X x0 x3 h.val (256 + r.val)) l := by
  have hl2 := l.isLt
  refine Eq.trans ?_ (fw_hi _ _ _ (256 + r.val) _ (by omega) hl).symm
  pointwise [val_main_v52, val_main_v48, val_main_v47, val_main_v46, val_main_v51, val_main_v50, val_main_v49]
  rw [ha_eq, hb_eq]
  refine congrArg₂ (fun s t : EReal => s + t) (congrArg₂ (fun s t : EReal => s * t) ?_ ?_) (congrArg₂ (fun s t : EReal => s * t) ?_ ?_)
  · rfl
  · exact rd_at x2 r.val (l.val - 64) _ _ r.isLt (by omega) (by omega) rfl
  · exact congrArg _ (Fin.ext (by show l.val - 64 + 64 = l.val; omega))
  · exact rd_at x1 r.val (l.val - 64) _ _ r.isLt (by omega) (by omega) rfl

theorem tl_eq : (val_main_v53 (F := Ideal) x0 x1 x2 x3 (ix4 0 h r l) : EReal) = fw (cT x1 (256 + r.val)) (sT x2 (256 + r.val)) (X x0 x3 h.val (256 + r.val)) l := by
  have hl2 := l.isLt
  pointwise [val_main_v53]
  by_cases hl : l.val < 64
  · rw [dif_pos hl]
    exact lo_eq x0 x1 x2 x3 h r l hl
  · rw [dif_neg hl]
    exact hi_eq x0 x1 x2 x3 h r l hl
end

theorem ref (r : Fin 2304) (q : Fin 256) :
    (val_main_v58 (F := Ideal) x0 x1 x2 x3 (ix2 r q) : EReal) = fw (cT x1 r.val) (sT x2 r.val) (X x0 x3 (q.val / 128) r.val) ⟨q.val % 128, Nat.mod_lt _ (by decide)⟩ := by
  have hr := r.isLt
  have hq := q.isLt
  pointwise [val_main_v58, val_main_v57, val_main_v56, val_main_v18, val_main_v19, val_main_v54, val_main_v55]
  by_cases hr' : r.val < 256
  · rw [dif_pos hr', fw_ctx _ _ _ _ _ hr']
    exact xc_eq x0 x3 ⟨q.val / 128, by omega⟩ ⟨r.val, hr'⟩ ⟨q.val % 128, Nat.mod_lt _ (by decide)⟩
  · rw [dif_neg hr']
    refine (tl_eq x0 x1 x2 x3 ⟨q.val / 128, by omega⟩ ⟨r.val - 256, by omega⟩ ⟨q.val % 128, Nat.mod_lt _ (by decide)⟩).trans ?_
    rw [show 256 + (r.val - 256) = r.val from by omega]

end Cert.KeysIdeal.Ref

namespace Cert.Proof.PrepAk
open Cert.AttSpec Cert.MixSpec Cert.RopeSpec

theorem frame_ref : quiescent_KeysIdeal := fun m ρ _ =>
  (θ_run KeysIdeal.defs _ _).mono (fun r h => ⟨fun c => (h c).2, sem_eq_zero_of_no_sems (by decide) r.2⟩) (KeysIdeal.Value.run (F := Ideal) m ρ)

theorem algebraic : algebraic_PrepAkIdeal_KeysIdeal := by
  intro m ρ m' ρ' _ hagree
  refine ⟨fun c => PrepAkIdeal.Body.res m c, ?_, ?_⟩
  · refine (θ_run PrepAkIdeal.defs _ _).mono (fun _ h c => ?_) (PrepAkIdeal.Value.run_blocks (F := Ideal) m ρ)
    exact ⟨(h c).1.trans (PrepAkIdeal.Body.final4 m c), (h c).2⟩
  · refine (θ_run KeysIdeal.defs _ _).mono (fun _ h c => ?_) (KeysIdeal.Value.run (F := Ideal) m' ρ')
    obtain ⟨g0, g1, g2, g3⟩ := hagree c
    refine ⟨((h c).1.trans (KeysIdeal.Read.val_main_v58_eq _ _)).trans ?_, (h c).2⟩
    show KeysIdeal.Read.val_main_v58 (F := Ideal) (m' (c.tc.loc KeysIdeal.main_arg0)) (m' (c.tc.loc KeysIdeal.main_arg1)) (m' (c.tc.loc KeysIdeal.main_arg2)) (m' (c.tc.loc KeysIdeal.main_arg3)) = _
    rw [g0, g1, g2, g3]
    funext y
    rw [eq_ix2 y]
    exact KeysIdeal.Ref.ref _ _ _ _ (y 0) (y 1)

end Cert.Proof.PrepAk

end
-- ==== Proof.PrepRqBody.lean ====
/- One program point by point: the retention queries, with positions. -/
module

public import proofs.«01_k».proof.Proof.RopeSpec
public import proofs.«01_k».proof.Proof.Gen.PrepRqIdeal.Value

@[expose] public section

set_option maxRecDepth 16384

noncomputable section

namespace Cert.PrepRqIdeal.Body

open Idealize.ShloMosaic Idealize.ShloMosaic.TcCoe Idealize.SL.Sem
open Idealize.ShloMosaic.Pipeline (Dat)
open Cert.PrepRqIdeal.Gen Cert.PrepRqIdeal.Value Cert.AttSpec Cert.ConvSpec Cert.MixSpec Cert.RopeSpec

section
variable (z C S : Vec Ideal S256x128 .f32) (r : Fin 256) (j : Fin 128)

theorem pay0 : (k0_pay2 z C S (ix2 r j) : EReal) = fw (row C r) (row S r) (row z r) j := by
  pointwise [k0_pay2]
  rfl

theorem pay128 : (k0_pay3 z C S (ix2 r j) : EReal) = fw (row C r) (row S r) (row z r) j := by
  pointwise [k0_pay3]
  rfl

theorem pay256 : (k0_pay4 z C S (ix2 r j) : EReal) = fw (row C r) (row S r) (row z r) j := by
  pointwise [k0_pay4]
  rfl

theorem pay384 : (k0_pay1 z C S (ix2 r j) : EReal) = fw (row C r) (row S r) (row z r) j := by
  pointwise [k0_pay1]
  rfl

end

theorem hz : (![0, 0] : Fin 2 → Nat) = fun _ => 0 := funext fun a => by fin_cases a <;> rfl

/-- A head of a block's result. -/
def fT (z : (⟨2, ![256, 512]⟩ : Shape).Idx → EReal) (C : (⟨2, ![256, 128]⟩ : Shape).Idx → EReal) (S : (⟨2, ![256, 128]⟩ : Shape).Idx → EReal) (r k : Nat) (j : Fin 128) : EReal := fw (hd C r 0) (hd S r 0) (hd z r k) j

section
variable (c : Dev nD) (i : grid0.Coords)
  (a1 : Memref sig .tc .vmem S256x512 .f32) (h1 : a1.IsWhole)
  (a2 : Memref sig .tc .vmem S256x128 .f32) (h2 : a2.IsWhole)
  (a3 : Memref sig .tc .vmem S256x128 .f32) (h3 : a3.IsWhole)
  (a4 : Memref sig .tc .vmem S256x512 .bf16) (h4 : a4.IsWhole)
  (x0 : Vec Ideal S256x512 .f32) (x1 : Vec Ideal S256x128 .f32) (x2 : Vec Ideal S256x128 .f32)

theorem out0_A_3_eq (y) : (out0_A_3 (F := Ideal) c i a1 h1 a2 h2 a3 h3 a4 h4 x0 x1 x2 y : EReal) = tH (fT x0 x1 x2) y := by
  unfold out0_A_3
  rw [View.read_writes_eq_canon _ _ _ (cover0_A_3 c i a1 h1 a2 h2 a3 h3 a4 h4 x0 x1 x2)]
  refine View.canon_apply_of_pieces (tH (fT x0 x1 x2)) _ ?_ _ (cover0_A_3 c i a1 h1 a2 h2 a3 h3 a4 h4 x0 x1 x2 _)
  unfold kernelRun0_A
  dsimp only
  sl_unfold_words
  simp only [View.readAt_eq_ld, h1.read_unread, h2.read_unread, h3.read_unread, View.ld_unit_zero (S := S256x128) hz]
  simp only [List.mem_cons, List.not_mem_nil, or_false, forall_eq_or_imp, forall_eq]
  refine ⟨?_, ?_, ?_, ?_⟩ <;> intro y <;> idx_vars y
  · refine (pay384 _ x1 x2 y0 y1).trans ?_
    rw [row_ld, row_hd x1, row_hd x2]
    exact tH_at (fT x0 x1 x2) 3 y0.val y1 _ (at0 _) (atk 3 _)
  · refine (pay256 _ x1 x2 y0 y1).trans ?_
    rw [row_ld, row_hd x1, row_hd x2]
    exact tH_at (fT x0 x1 x2) 2 y0.val y1 _ (at0 _) (atk 2 _)
  · refine (pay128 _ x1 x2 y0 y1).trans ?_
    rw [row_ld, row_hd x1, row_hd x2]
    exact tH_at (fT x0 x1 x2) 1 y0.val y1 _ (at0 _) (atk 1 _)
  · refine (pay0 _ x1 x2 y0 y1).trans ?_
    rw [row_ld, row_hd x1, row_hd x2]
    exact tH_at (fT x0 x1 x2) 0 y0.val y1 _ (at0 _) (atk 0 _)

end

variable (m : (ℓ : Loc nD τ sig) → Buf (Elt Ideal) ℓ)

theorem ltN (t : Fin cfg0.N) : t.val < 9 := lt_of_lt_of_eq t.isLt Gen.N_0

/-- The arguments on a device. -/
abbrev az (c : Dev nD) : Vec Ideal S2304x5376 .f32 := m ((c : Thread nD τ).loc main_arg0)
abbrev au (c : Dev nD) : Vec Ideal S2048x64 .f32 := m ((c : Thread nD τ).loc main_arg1)
abbrev av (c : Dev nD) : Vec Ideal S2048x64 .f32 := m ((c : Thread nD τ).loc main_arg2)

theorem V_main_v2 (c : Dev nD) : V m c main_v2 = cs (au m c) := by
  show StableHlo.after hostOps0 _ (Proc.devRef .tc main_v2) = _
  after_results
  rfl

theorem V_main_v6 (c : Dev nD) : V m c main_v6 = sn (av m c) := by
  show StableHlo.after hostOps0 _ (Proc.devRef .tc main_v6) = _
  after_results
  rfl

theorem idx0 : ∀ t : Fin grid0.N, win0_0.index t 0 = t.val ∧ win0_0.index t 1 = 3 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel

section
variable (c : Dev nD) (t : Fin cfg0.N) (r : Nat) (hr : r < 256)
include hr

theorem tab1 : hd (a := 256) (b := 128) (iblk m c 1 t) r 0 = cT (au m c) (t.val * 256 + r) := by
  have ht := ltN t
  refine Eq.trans ?_ (tab_hd (cs (au m c)) _ (cs_at _) _ (by omega))
  refine hd_blk _ _ r _ 0 0 hr (by omega) (by omega) (by decide) fun n => ?_
  unfold iblk
  rw [View.read_apply]
  show V m c main_v2 _ = _
  rw [V_main_v2]
  refine congrArg _ (ix2_ext _ _ _ ?_ ?_)
  · show win0_1.index t 0 * 256 + 1 * r = t.val * 256 + r; rw [(idx1 t).1]; omega
  · show win0_1.index t 1 * 128 + 1 * n.val = 0 + n.val; rw [(idx1 t).2]; omega

theorem tab2 : hd (a := 256) (b := 128) (iblk m c 2 t) r 0 = sT (av m c) (t.val * 256 + r) := by
  have ht := ltN t
  refine Eq.trans ?_ (tab_hd (sn (av m c)) _ (sn_at _) _ (by omega))
  refine hd_blk _ _ r _ 0 0 hr (by omega) (by omega) (by decide) fun n => ?_
  unfold iblk
  rw [View.read_apply]
  show V m c main_v6 _ = _
  rw [V_main_v6]
  refine congrArg _ (ix2_ext _ _ _ ?_ ?_)
  · show win0_2.index t 0 * 256 + 1 * r = t.val * 256 + r; rw [(idx2 t).1]; omega
  · show win0_2.index t 1 * 128 + 1 * n.val = 0 + n.val; rw [(idx2 t).2]; omega

theorem hd0 (k : Nat) (hk : k + 128 ≤ 512) :
    hd (a := 256) (b := 512) (X0_0 m c t) r k = hd (a := 2304) (b := 5376) (az m c) (t.val * 256 + r) (1536 + k) := by
  have ht := ltN t
  refine hd_blk _ _ r _ k 1536 hr hk (by omega) (by decide) fun n => ?_
  unfold X0_0 Pipeline.Window.fill
  rw [dif_pos (moved0_0 t _)]
  unfold iblk
  rw [View.read_apply]
  show V m c main_arg0 _ = _
  rw [V_main_arg0]
  refine congrArg _ (ix2_ext _ _ _ ?_ ?_)
  · show win0_0.index t 0 * 256 + 1 * r = t.val * 256 + r; rw [(idx0 t).1]; omega
  · show win0_0.index t 1 * 512 + 1 * n.val = 1536 + n.val; rw [(idx0 t).2]; omega

end

/-- A head of the whole result. -/
def gT (z : (⟨2, ![2304, 5376]⟩ : Shape).Idx → EReal) (u v : (⟨2, ![2048, 64]⟩ : Shape).Idx → EReal) (r k : Nat) (j : Fin 128) : EReal := fw (cT u r) (sT v r) (hd z r (1536 + k)) j

theorem fg (c : Dev nD) (t : Fin cfg0.N) (r k : Nat) (j : Fin 128) (hr : r < 256) (hk : k + 128 ≤ 512) :
    fT (X0_0 m c t) (iblk m c 1 t) (iblk m c 2 t) r k j = gT (az m c) (au m c) (av m c) (t.val * 256 + r) k j := by
  unfold fT gT
  rw [tab1 m c t r hr, tab2 m c t r hr, hd0 m c t r hr k hk]

/-- The whole result. -/
def res (c : Dev nD) : Vec Ideal S2304x512 .bf16 := tH (gT (az m c) (au m c) (av m c))

theorem flushed3_eq (c : Dev nD) (t : Fin cfg0.N) (hf : (cfg0.win 3).flush t = true) :
    (dats m 0 c).flushed 3 t = ((cfg0.win 3).blk t).view.read (Elt Ideal) (res m c) := by
  rw [flushed3_A]
  funext y
  rw [View.read_apply]
  refine Eq.trans (out0_A_3_eq c _ _ _ _ _ _ _ _ _ (X0_0 m c t) (iblk m c 1 t) (iblk m c 2 t) _) (tH_blk _ _ t.val rfl (fg m c t) _ _ ?_ ?_)
  · show win0_3.index t 0 * 256 + 1 * (y 0).val = t.val * 256 + (y 0).val
    rw [(idx3 t).1, Nat.one_mul]
  · show win0_3.index t 1 * 512 + 1 * (y 1).val = (y 1).val
    rw [(idx3 t).2, Nat.one_mul, Nat.zero_mul, Nat.zero_add]

theorem final3 (c : Dev nD) : (dats m 0 c).arrAt 3 cfg0.N = res m c :=
  (dats m 0 c).arrAt_eq_of_cover 3 (res m c) (flushed3_eq m c) fun i => by
    have hi0 : (i 0).val < 2304 := (i 0).isLt
    have hi1 : (i 1).val < 512 := (i 1).isLt
    refine ⟨⟨(i 0).val / 256, by show _ < grid0.N; rw [Gen.N_0]; omega⟩, flush0_3 _, ?_⟩
    generalize ht : (⟨(i 0).val / 256, _⟩ : Fin grid0.N) = t
    have ht' : t.val = (i 0).val / 256 := by rw [← ht]
    show i ∈ ((View.whole main_v7).slice (win0_3.rect t)).set
    rw [View.set_slice_whole, Rect.mem_set_unit]
    intro a
    match a with
    | ⟨0, _⟩ => exact mem_box 256 (i 0).val (idx3 t).1 (by omega)
    | ⟨1, _⟩ => exact mem_box 512 (i 1).val (idx3 t).2 (by omega)

end Cert.PrepRqIdeal.Body

end
-- ==== Proof.PrepRqClaims.lean ====
/- The reference for the retention queries, with positions, and the claims. -/
module

public import proofs.«01_k».proof.Proof.PrepRqBody
public import proofs.«01_k».proof.Proof.Gen.RetQueriesIdeal.Run
public import proofs.«01_k».proof.Proof.Gen.RetQueriesIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.RetQueriesIdeal.Ref
open Cert.RetQueriesIdeal.Gen Cert.RetQueriesIdeal.Read Cert.AttSpec Cert.ConvSpec Cert.MixSpec Cert.RopeSpec

variable (x0 : Vec Ideal S2304x5376 .f32) (x1 x2 : Vec Ideal S2048x64 .f32)

abbrev X (h r : Nat) : Fin 128 → EReal := hd (a := 2304) (b := 5376) x0 r (1536 + h * 128)

section
variable (h : Fin 4) (r : Fin 256) (l : Fin 128)

theorem xc_eq : (val_main_v4 (F := Ideal) x0 (ix4 0 h r l) : EReal) = X x0 h.val r.val l := by
  have hh := h.isLt
  have hr := r.isLt
  have hl := l.isLt
  pointwise [val_main_v4, val_main_v3, val_main_v2, val_main_v1, val_main_v0]
  exact rd_at x0 _ _ _ _ _ _ (by omega) (by omega)

end

section
variable (h : Fin 4) (r : Fin 2048) (l : Fin 128)

theorem xl_eq : (val_main_v10 (F := Ideal) x0 (ix4 0 h r l) : EReal) = X x0 h.val (256 + r.val) l := by
  have hh := h.isLt
  have hr := r.isLt
  have hl := l.isLt
  pointwise [val_main_v10, val_main_v9, val_main_v8, val_main_v7, val_main_v0]
  exact rd_at x0 _ _ _ _ _ _ (by omega) (by omega)

theorem ha_eq (l : Fin 64) : (val_main_v11 (F := Ideal) x0 (ix4 0 h r l) : EReal) = X x0 h.val (256 + r.val) ⟨l.val, by omega⟩ := by
  have hl := l.isLt
  pointwise [val_main_v11]
  exact xl_eq x0 h r ⟨l.val, by omega⟩

theorem hb_eq (l : Fin 64) : (val_main_v12 (F := Ideal) x0 (ix4 0 h r l) : EReal) = X x0 h.val (256 + r.val) ⟨l.val + 64, by omega⟩ := by
  have hl := l.isLt
  pointwise [val_main_v12]
  refine (congrArg (fun i => (val_main_v10 (F := Ideal) x0 (ix4 0 h r i) : EReal)) (Fin.ext (by dsimp only; omega))).trans (xl_eq x0 h r ⟨l.val + 64, by omega⟩)

theorem lo_eq (hl : l.val < 64) : (val_main_v19 (F := Ideal) x0 x1 x2 (ix4 0 h r ⟨l.val, hl⟩) : EReal) = fw (cT x1 (256 + r.val)) (sT x2 (256 + r.val)) (X x0 h.val (256 + r.val)) l := by
  refine Eq.trans ?_ (fw_lo _ _ _ (256 + r.val) _ (by omega) hl).symm
  pointwise [val_main_v19, val_main_v15, val_main_v14, val_main_v13, val_main_v18, val_main_v17, val_main_v16]
  rw [ha_eq, hb_eq]
  refine congrArg₂ (fun s t : EReal => s - t) (congrArg₂ (fun s t : EReal => s * t) ?_ ?_) (congrArg₂ (fun s t : EReal => s * t) ?_ ?_)
  · rfl
  · exact rd_at x1 r.val l.val _ _ r.isLt hl (by omega) rfl
  · rfl
  · exact rd_at x2 r.val l.val _ _ r.isLt hl (by omega) rfl

theorem hi_eq (hl : ¬ l.val < 64) : (val_main_v26 (F := Ideal) x0 x1 x2 (ix4 0 h r ⟨l.val - 64, by omega⟩) : EReal) = fw (cT x1 (256 + r.val)) (sT x2 (256 + r.val)) (X x0 h.val (256 + r.val)) l := by
  have hl2 := l.isLt
  refine Eq.trans ?_ (fw_hi _ _ _ (256 + r.val) _ (by omega) hl).symm
  pointwise [val_main_v26, val_main_v22, val_main_v21, val_main_v20, val_main_v25, val_main_v24, val_main_v23]
  rw [ha_eq, hb_eq]
  refine congrArg₂ (fun s t : EReal => s + t) (congrArg₂ (fun s t : EReal => s * t) ?_ ?_) (congrArg₂ (fun s t : EReal => s * t) ?_ ?_)
  · rfl
  · exact rd_at x2 r.val (l.val - 64) _ _ r.isLt (by omega) (by omega) rfl
  · exact congrArg _ (Fin.ext (by show l.val - 64 + 64 = l.val; omega))
  · exact rd_at x1 r.val (l.val - 64) _ _ r.isLt (by omega) (by omega) rfl

theorem tl_eq : (val_main_v27 (F := Ideal) x0 x1 x2 (ix4 0 h r l) : EReal) = fw (cT x1 (256 + r.val)) (sT x2 (256 + r.val)) (X x0 h.val (256 + r.val)) l := by
  have hl2 := l.isLt
  pointwise [val_main_v27]
  by_cases hl : l.val < 64
  · rw [dif_pos hl]
    exact lo_eq x0 x1 x2 h r l hl
  · rw [dif_neg hl]
    exact hi_eq x0 x1 x2 h r l hl
end

theorem ref (r : Fin 2304) (q : Fin 512) :
    (val_main_v32 (F := Ideal) x0 x1 x2 (ix2 r q) : EReal) = fw (cT x1 r.val) (sT x2 r.val) (X x0 (q.val / 128) r.val) ⟨q.val % 128, Nat.mod_lt _ (by decide)⟩ := by
  have hr := r.isLt
  have hq := q.isLt
  pointwise [val_main_v32, val_main_v31, val_main_v30, val_main_v5, val_main_v6, val_main_v28, val_main_v29]
  by_cases hr' : r.val < 256
  · rw [dif_pos hr', fw_ctx _ _ _ _ _ hr']
    exact xc_eq x0 ⟨q.val / 128, by omega⟩ ⟨r.val, hr'⟩ ⟨q.val % 128, Nat.mod_lt _ (by decide)⟩
  · rw [dif_neg hr']
    refine (tl_eq x0 x1 x2 ⟨q.val / 128, by omega⟩ ⟨r.val - 256, by omega⟩ ⟨q.val % 128, Nat.mod_lt _ (by decide)⟩).trans ?_
    rw [show 256 + (r.val - 256) = r.val from by omega]

end Cert.RetQueriesIdeal.Ref

namespace Cert.Proof.PrepRq
open Cert.AttSpec Cert.MixSpec Cert.RopeSpec

theorem frame_ref : quiescent_RetQueriesIdeal := fun m ρ _ =>
  (θ_run RetQueriesIdeal.defs _ _).mono (fun r h => ⟨fun c => (h c).2, sem_eq_zero_of_no_sems (by decide) r.2⟩) (RetQueriesIdeal.Value.run (F := Ideal) m ρ)

theorem algebraic : algebraic_PrepRqIdeal_RetQueriesIdeal := by
  intro m ρ m' ρ' _ hagree
  refine ⟨fun c => PrepRqIdeal.Body.res m c, ?_, ?_⟩
  · refine (θ_run PrepRqIdeal.defs _ _).mono (fun _ h c => ?_) (PrepRqIdeal.Value.run_blocks (F := Ideal) m ρ)
    exact ⟨(h c).1.trans (PrepRqIdeal.Body.final3 m c), (h c).2⟩
  · refine (θ_run RetQueriesIdeal.defs _ _).mono (fun _ h c => ?_) (RetQueriesIdeal.Value.run (F := Ideal) m' ρ')
    obtain ⟨g0, g1, g2⟩ := hagree c
    refine ⟨((h c).1.trans (RetQueriesIdeal.Read.val_main_v32_eq _ _ _)).trans ?_, (h c).2⟩
    show RetQueriesIdeal.Read.val_main_v32 (F := Ideal) (m' (c.tc.loc RetQueriesIdeal.main_arg0)) (m' (c.tc.loc RetQueriesIdeal.main_arg1)) (m' (c.tc.loc RetQueriesIdeal.main_arg2)) = _
    rw [g0, g1, g2]
    funext y
    rw [eq_ix2 y]
    exact RetQueriesIdeal.Ref.ref _ _ _ (y 0) (y 1)

end Cert.Proof.PrepRq

end
-- ==== Proof.PrepRkBody.lean ====
/- One program point by point: the retention keys, with positions. -/
module

public import proofs.«01_k».proof.Proof.RopeSpec
public import proofs.«01_k».proof.Proof.Gen.PrepRkIdeal.Value

@[expose] public section

set_option maxRecDepth 16384

noncomputable section

namespace Cert.PrepRkIdeal.Body

open Idealize.ShloMosaic Idealize.ShloMosaic.TcCoe Idealize.SL.Sem
open Idealize.ShloMosaic.Pipeline (Dat)
open Cert.PrepRkIdeal.Gen Cert.PrepRkIdeal.Value Cert.AttSpec Cert.ConvSpec Cert.MixSpec Cert.RopeSpec

section
variable (z C S : Vec Ideal S256x128 .f32) (r : Fin 256) (j : Fin 128)

theorem pay0 : (k0_pay3 z C S (ix2 r j) : EReal) = fw (row C r) (row S r) (fun i => (row z r) i * Ideal.ofBits FTy.f32 1035273459#32) j := by
  pointwise [k0_pay3]
  rfl

theorem pay128 : (k0_pay4 z C S (ix2 r j) : EReal) = fw (row C r) (row S r) (fun i => (row z r) i * Ideal.ofBits FTy.f32 1035273459#32) j := by
  pointwise [k0_pay4]
  rfl

theorem pay256 : (k0_pay1 z (k0_pay5 C) (k0_pay6 S) (ix2 r j) : EReal) = fw (row C r) (row S r) (fun i => (row z r) i * Ideal.ofBits FTy.f32 1035273459#32) j := by
  pointwise [k0_pay1, k0_pay5, k0_pay6]
  rfl

theorem pay384 : (k0_pay2 z C S (ix2 r j) : EReal) = fw (row C r) (row S r) (fun i => (row z r) i * Ideal.ofBits FTy.f32 1035273459#32) j := by
  pointwise [k0_pay2]
  rfl

end

theorem hz : (![0, 0] : Fin 2 → Nat) = fun _ => 0 := funext fun a => by fin_cases a <;> rfl

/-- A head of a block's result. -/
def fT (z : (⟨2, ![256, 512]⟩ : Shape).Idx → EReal) (C : (⟨2, ![256, 128]⟩ : Shape).Idx → EReal) (S : (⟨2, ![256, 128]⟩ : Shape).Idx → EReal) (r k : Nat) (j : Fin 128) : EReal := fw (hd C r 0) (hd S r 0) (fun i => (hd z r k) i * Ideal.ofBits FTy.f32 1035273459#32) j

section
variable (c : Dev nD) (i : grid0.Coords)
  (a1 : Memref sig .tc .vmem S256x512 .f32) (h1 : a1.IsWhole)
  (a2 : Memref sig .tc .vmem S256x128 .f32) (h2 : a2.IsWhole)
  (a3 : Memref sig .tc .vmem S256x128 .f32) (h3 : a3.IsWhole)
  (a4 : Memref sig .tc .vmem S256x512 .bf16) (h4 : a4.IsWhole)
  (x0 : Vec Ideal S256x512 .f32) (x1 : Vec Ideal S256x128 .f32) (x2 : Vec Ideal S256x128 .f32)

theorem out0_A_3_eq (y) : (out0_A_3 (F := Ideal) c i a1 h1 a2 h2 a3 h3 a4 h4 x0 x1 x2 y : EReal) = tH (fT x0 x1 x2) y := by
  unfold out0_A_3
  rw [View.read_writes_eq_canon _ _ _ (cover0_A_3 c i a1 h1 a2 h2 a3 h3 a4 h4 x0 x1 x2)]
  refine View.canon_apply_of_pieces (tH (fT x0 x1 x2)) _ ?_ _ (cover0_A_3 c i a1 h1 a2 h2 a3 h3 a4 h4 x0 x1 x2 _)
  unfold kernelRun0_A
  dsimp only
  sl_unfold_words
  simp only [View.readAt_eq_ld, h1.read_unread, h2.read_unread, h3.read_unread, View.ld_unit_zero (S := S256x128) hz]
  simp only [List.mem_cons, List.not_mem_nil, or_false, forall_eq_or_imp, forall_eq]
  refine ⟨?_, ?_, ?_, ?_⟩ <;> intro y <;> idx_vars y
  · refine (pay384 _ x1 x2 y0 y1).trans ?_
    rw [row_ld, row_hd x1, row_hd x2]
    exact tH_at (fT x0 x1 x2) 3 y0.val y1 _ (at0 _) (atk 3 _)
  · refine (pay256 _ x1 x2 y0 y1).trans ?_
    rw [row_ld, row_hd x1, row_hd x2]
    exact tH_at (fT x0 x1 x2) 2 y0.val y1 _ (at0 _) (atk 2 _)
  · refine (pay128 _ x1 x2 y0 y1).trans ?_
    rw [row_ld, row_hd x1, row_hd x2]
    exact tH_at (fT x0 x1 x2) 1 y0.val y1 _ (at0 _) (atk 1 _)
  · refine (pay0 _ x1 x2 y0 y1).trans ?_
    rw [row_ld, row_hd x1, row_hd x2]
    exact tH_at (fT x0 x1 x2) 0 y0.val y1 _ (at0 _) (atk 0 _)

end

variable (m : (ℓ : Loc nD τ sig) → Buf (Elt Ideal) ℓ)

theorem ltN (t : Fin cfg0.N) : t.val < 9 := lt_of_lt_of_eq t.isLt Gen.N_0

/-- The arguments on a device. -/
abbrev az (c : Dev nD) : Vec Ideal S2304x5376 .f32 := m ((c : Thread nD τ).loc main_arg0)
abbrev au (c : Dev nD) : Vec Ideal S2048x64 .f32 := m ((c : Thread nD τ).loc main_arg1)
abbrev av (c : Dev nD) : Vec Ideal S2048x64 .f32 := m ((c : Thread nD τ).loc main_arg2)

theorem V_main_v2 (c : Dev nD) : V m c main_v2 = cs (au m c) := by
  show StableHlo.after hostOps0 _ (Proc.devRef .tc main_v2) = _
  after_results
  rfl

theorem V_main_v6 (c : Dev nD) : V m c main_v6 = sn (av m c) := by
  show StableHlo.after hostOps0 _ (Proc.devRef .tc main_v6) = _
  after_results
  rfl

theorem idx0 : ∀ t : Fin grid0.N, win0_0.index t 0 = t.val ∧ win0_0.index t 1 = 4 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel

section
variable (c : Dev nD) (t : Fin cfg0.N) (r : Nat) (hr : r < 256)
include hr

theorem tab1 : hd (a := 256) (b := 128) (iblk m c 1 t) r 0 = cT (au m c) (t.val * 256 + r) := by
  have ht := ltN t
  refine Eq.trans ?_ (tab_hd (cs (au m c)) _ (cs_at _) _ (by omega))
  refine hd_blk _ _ r _ 0 0 hr (by omega) (by omega) (by decide) fun n => ?_
  unfold iblk
  rw [View.read_apply]
  show V m c main_v2 _ = _
  rw [V_main_v2]
  refine congrArg _ (ix2_ext _ _ _ ?_ ?_)
  · show win0_1.index t 0 * 256 + 1 * r = t.val * 256 + r; rw [(idx1 t).1]; omega
  · show win0_1.index t 1 * 128 + 1 * n.val = 0 + n.val; rw [(idx1 t).2]; omega

theorem tab2 : hd (a := 256) (b := 128) (iblk m c 2 t) r 0 = sT (av m c) (t.val * 256 + r) := by
  have ht := ltN t
  refine Eq.trans ?_ (tab_hd (sn (av m c)) _ (sn_at _) _ (by omega))
  refine hd_blk _ _ r _ 0 0 hr (by omega) (by omega) (by decide) fun n => ?_
  unfold iblk
  rw [View.read_apply]
  show V m c main_v6 _ = _
  rw [V_main_v6]
  refine congrArg _ (ix2_ext _ _ _ ?_ ?_)
  · show win0_2.index t 0 * 256 + 1 * r = t.val * 256 + r; rw [(idx2 t).1]; omega
  · show win0_2.index t 1 * 128 + 1 * n.val = 0 + n.val; rw [(idx2 t).2]; omega

theorem hd0 (k : Nat) (hk : k + 128 ≤ 512) :
    hd (a := 256) (b := 512) (X0_0 m c t) r k = hd (a := 2304) (b := 5376) (az m c) (t.val * 256 + r) (2048 + k) := by
  have ht := ltN t
  refine hd_blk _ _ r _ k 2048 hr hk (by omega) (by decide) fun n => ?_
  unfold X0_0 Pipeline.Window.fill
  rw [dif_pos (moved0_0 t _)]
  unfold iblk
  rw [View.read_apply]
  show V m c main_arg0 _ = _
  rw [V_main_arg0]
  refine congrArg _ (ix2_ext _ _ _ ?_ ?_)
  · show win0_0.index t 0 * 256 + 1 * r = t.val * 256 + r; rw [(idx0 t).1]; omega
  · show win0_0.index t 1 * 512 + 1 * n.val = 2048 + n.val; rw [(idx0 t).2]; omega

end

/-- A head of the whole result. -/
def gT (z : (⟨2, ![2304, 5376]⟩ : Shape).Idx → EReal) (u v : (⟨2, ![2048, 64]⟩ : Shape).Idx → EReal) (r k : Nat) (j : Fin 128) : EReal := fw (cT u r) (sT v r) (fun i => (hd z r (2048 + k)) i * Ideal.ofBits FTy.f32 1035273459#32) j

theorem fg (c : Dev nD) (t : Fin cfg0.N) (r k : Nat) (j : Fin 128) (hr : r < 256) (hk : k + 128 ≤ 512) :
    fT (X0_0 m c t) (iblk m c 1 t) (iblk m c 2 t) r k j = gT (az m c) (au m c) (av m c) (t.val * 256 + r) k j := by
  unfold fT gT
  rw [tab1 m c t r hr, tab2 m c t r hr, hd0 m c t r hr k hk]

/-- The whole result. -/
def res (c : Dev nD) : Vec Ideal S2304x512 .bf16 := tH (gT (az m c) (au m c) (av m c))

theorem flushed3_eq (c : Dev nD) (t : Fin cfg0.N) (hf : (cfg0.win 3).flush t = true) :
    (dats m 0 c).flushed 3 t = ((cfg0.win 3).blk t).view.read (Elt Ideal) (res m c) := by
  rw [flushed3_A]
  funext y
  rw [View.read_apply]
  refine Eq.trans (out0_A_3_eq c _ _ _ _ _ _ _ _ _ (X0_0 m c t) (iblk m c 1 t) (iblk m c 2 t) _) (tH_blk _ _ t.val rfl (fg m c t) _ _ ?_ ?_)
  · show win0_3.index t 0 * 256 + 1 * (y 0).val = t.val * 256 + (y 0).val
    rw [(idx3 t).1, Nat.one_mul]
  · show win0_3.index t 1 * 512 + 1 * (y 1).val = (y 1).val
    rw [(idx3 t).2, Nat.one_mul, Nat.zero_mul, Nat.zero_add]

theorem final3 (c : Dev nD) : (dats m 0 c).arrAt 3 cfg0.N = res m c :=
  (dats m 0 c).arrAt_eq_of_cover 3 (res m c) (flushed3_eq m c) fun i => by
    have hi0 : (i 0).val < 2304 := (i 0).isLt
    have hi1 : (i 1).val < 512 := (i 1).isLt
    refine ⟨⟨(i 0).val / 256, by show _ < grid0.N; rw [Gen.N_0]; omega⟩, flush0_3 _, ?_⟩
    generalize ht : (⟨(i 0).val / 256, _⟩ : Fin grid0.N) = t
    have ht' : t.val = (i 0).val / 256 := by rw [← ht]
    show i ∈ ((View.whole main_v7).slice (win0_3.rect t)).set
    rw [View.set_slice_whole, Rect.mem_set_unit]
    intro a
    match a with
    | ⟨0, _⟩ => exact mem_box 256 (i 0).val (idx3 t).1 (by omega)
    | ⟨1, _⟩ => exact mem_box 512 (i 1).val (idx3 t).2 (by omega)

end Cert.PrepRkIdeal.Body

end
-- ==== Proof.PrepRkClaims.lean ====
/- The reference for the retention keys, with positions, and the claims. -/
module

public import proofs.«01_k».proof.Proof.PrepRkBody
public import proofs.«01_k».proof.Proof.Gen.RetKeysIdeal.Run
public import proofs.«01_k».proof.Proof.Gen.RetKeysIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.RetKeysIdeal.Ref
open Cert.RetKeysIdeal.Gen Cert.RetKeysIdeal.Read Cert.AttSpec Cert.ConvSpec Cert.MixSpec Cert.RopeSpec

variable (x0 : Vec Ideal S2304x5376 .f32) (x1 x2 : Vec Ideal S2048x64 .f32)

abbrev X (h r : Nat) : Fin 128 → EReal := fun i => hd (a := 2304) (b := 5376) x0 r (2048 + h * 128) i * Ideal.ofBits FTy.f32 1035273459#32

section
variable (h : Fin 4) (r : Fin 256) (l : Fin 128)

theorem xc_eq : (val_main_v6 (F := Ideal) x0 (ix4 0 h r l) : EReal) = X x0 h.val r.val l := by
  have hh := h.isLt
  have hr := r.isLt
  have hl := l.isLt
  pointwise [val_main_v6, val_main_v4, val_main_v3, val_main_v2, val_main_v1, val_main_v0, val_main_v5, val_main_cst]
  refine congrArg (fun t : EReal => t * _) ?_
  exact rd_at x0 _ _ _ _ _ _ (by omega) (by omega)

end

section
variable (h : Fin 4) (r : Fin 2048) (l : Fin 128)

theorem xl_eq : (val_main_v14 (F := Ideal) x0 (ix4 0 h r l) : EReal) = X x0 h.val (256 + r.val) l := by
  have hh := h.isLt
  have hr := r.isLt
  have hl := l.isLt
  pointwise [val_main_v14, val_main_v12, val_main_v11, val_main_v10, val_main_v9, val_main_v0, val_main_v13, val_main_cst_0]
  refine congrArg (fun t : EReal => t * _) ?_
  exact rd_at x0 _ _ _ _ _ _ (by omega) (by omega)

theorem ha_eq (l : Fin 64) : (val_main_v15 (F := Ideal) x0 (ix4 0 h r l) : EReal) = X x0 h.val (256 + r.val) ⟨l.val, by omega⟩ := by
  have hl := l.isLt
  pointwise [val_main_v15]
  exact xl_eq x0 h r ⟨l.val, by omega⟩

theorem hb_eq (l : Fin 64) : (val_main_v16 (F := Ideal) x0 (ix4 0 h r l) : EReal) = X x0 h.val (256 + r.val) ⟨l.val + 64, by omega⟩ := by
  have hl := l.isLt
  pointwise [val_main_v16]
  refine (congrArg (fun i => (val_main_v14 (F := Ideal) x0 (ix4 0 h r i) : EReal)) (Fin.ext (by dsimp only; omega))).trans (xl_eq x0 h r ⟨l.val + 64, by omega⟩)

theorem lo_eq (hl : l.val < 64) : (val_main_v23 (F := Ideal) x0 x1 x2 (ix4 0 h r ⟨l.val, hl⟩) : EReal) = fw (cT x1 (256 + r.val)) (sT x2 (256 + r.val)) (X x0 h.val (256 + r.val)) l := by
  refine Eq.trans ?_ (fw_lo _ _ _ (256 + r.val) _ (by omega) hl).symm
  pointwise [val_main_v23, val_main_v19, val_main_v18, val_main_v17, val_main_v22, val_main_v21, val_main_v20]
  rw [ha_eq, hb_eq]
  refine congrArg₂ (fun s t : EReal => s - t) (congrArg₂ (fun s t : EReal => s * t) ?_ ?_) (congrArg₂ (fun s t : EReal => s * t) ?_ ?_)
  · rfl
  · exact rd_at x1 r.val l.val _ _ r.isLt hl (by omega) rfl
  · rfl
  · exact rd_at x2 r.val l.val _ _ r.isLt hl (by omega) rfl

theorem hi_eq (hl : ¬ l.val < 64) : (val_main_v30 (F := Ideal) x0 x1 x2 (ix4 0 h r ⟨l.val - 64, by omega⟩) : EReal) = fw (cT x1 (256 + r.val)) (sT x2 (256 + r.val)) (X x0 h.val (256 + r.val)) l := by
  have hl2 := l.isLt
  refine Eq.trans ?_ (fw_hi _ _ _ (256 + r.val) _ (by omega) hl).symm
  pointwise [val_main_v30, val_main_v26, val_main_v25, val_main_v24, val_main_v29, val_main_v28, val_main_v27]
  rw [ha_eq, hb_eq]
  refine congrArg₂ (fun s t : EReal => s + t) (congrArg₂ (fun s t : EReal => s * t) ?_ ?_) (congrArg₂ (fun s t : EReal => s * t) ?_ ?_)
  · rfl
  · exact rd_at x2 r.val (l.val - 64) _ _ r.isLt (by omega) (by omega) rfl
  · exact congrArg _ (Fin.ext (by show l.val - 64 + 64 = l.val; omega))
  · exact rd_at x1 r.val (l.val - 64) _ _ r.isLt (by omega) (by omega) rfl

theorem tl_eq : (val_main_v31 (F := Ideal) x0 x1 x2 (ix4 0 h r l) : EReal) = fw (cT x1 (256 + r.val)) (sT x2 (256 + r.val)) (X x0 h.val (256 + r.val)) l := by
  have hl2 := l.isLt
  pointwise [val_main_v31]
  by_cases hl : l.val < 64
  · rw [dif_pos hl]
    exact lo_eq x0 x1 x2 h r l hl
  · rw [dif_neg hl]
    exact hi_eq x0 x1 x2 h r l hl
end

theorem ref (r : Fin 2304) (q : Fin 512) :
    (val_main_v36 (F := Ideal) x0 x1 x2 (ix2 r q) : EReal) = fw (cT x1 r.val) (sT x2 r.val) (X x0 (q.val / 128) r.val) ⟨q.val % 128, Nat.mod_lt _ (by decide)⟩ := by
  have hr := r.isLt
  have hq := q.isLt
  pointwise [val_main_v36, val_main_v35, val_main_v34, val_main_v7, val_main_v8, val_main_v32, val_main_v33]
  by_cases hr' : r.val < 256
  · rw [dif_pos hr', fw_ctx _ _ _ _ _ hr']
    exact xc_eq x0 ⟨q.val / 128, by omega⟩ ⟨r.val, hr'⟩ ⟨q.val % 128, Nat.mod_lt _ (by decide)⟩
  · rw [dif_neg hr']
    refine (tl_eq x0 x1 x2 ⟨q.val / 128, by omega⟩ ⟨r.val - 256, by omega⟩ ⟨q.val % 128, Nat.mod_lt _ (by decide)⟩).trans ?_
    rw [show 256 + (r.val - 256) = r.val from by omega]

end Cert.RetKeysIdeal.Ref

namespace Cert.Proof.PrepRk
open Cert.AttSpec Cert.MixSpec Cert.RopeSpec

theorem frame_ref : quiescent_RetKeysIdeal := fun m ρ _ =>
  (θ_run RetKeysIdeal.defs _ _).mono (fun r h => ⟨fun c => (h c).2, sem_eq_zero_of_no_sems (by decide) r.2⟩) (RetKeysIdeal.Value.run (F := Ideal) m ρ)

theorem algebraic : algebraic_PrepRkIdeal_RetKeysIdeal := by
  intro m ρ m' ρ' _ hagree
  refine ⟨fun c => PrepRkIdeal.Body.res m c, ?_, ?_⟩
  · refine (θ_run PrepRkIdeal.defs _ _).mono (fun _ h c => ?_) (PrepRkIdeal.Value.run_blocks (F := Ideal) m ρ)
    exact ⟨(h c).1.trans (PrepRkIdeal.Body.final3 m c), (h c).2⟩
  · refine (θ_run RetKeysIdeal.defs _ _).mono (fun _ h c => ?_) (RetKeysIdeal.Value.run (F := Ideal) m' ρ')
    obtain ⟨g0, g1, g2⟩ := hagree c
    refine ⟨((h c).1.trans (RetKeysIdeal.Read.val_main_v36_eq _ _)).trans ?_, (h c).2⟩
    show RetKeysIdeal.Read.val_main_v36 (F := Ideal) (m' (c.tc.loc RetKeysIdeal.main_arg0)) (m' (c.tc.loc RetKeysIdeal.main_arg1)) (m' (c.tc.loc RetKeysIdeal.main_arg2)) = _
    rw [g0, g1, g2]
    funext y
    rw [eq_ix2 y]
    exact RetKeysIdeal.Ref.ref _ _ _ (y 0) (y 1)

end Cert.Proof.PrepRk

end
-- ==== Proof.lean ====
module

public import proofs.«01_k».proof.Proof.Gen.AttBwd.Frame
public import proofs.«01_k».proof.Proof.AttClaims
public import proofs.«01_k».proof.Proof.Gen.Gwd.Frame
public import proofs.«01_k».proof.Proof.MmGwd
public import proofs.«01_k».proof.Proof.Gen.Dt.Frame
public import proofs.«01_k».proof.Proof.MmDt
public import proofs.«01_k».proof.Proof.Gen.Gwu.Frame
public import proofs.«01_k».proof.Proof.MmGwu
public import proofs.«01_k».proof.Proof.Gen.Dh2.Frame
public import proofs.«01_k».proof.Proof.MmDh2
public import proofs.«01_k».proof.Proof.Gen.Gwo.Frame
public import proofs.«01_k».proof.Proof.MmGwo
public import proofs.«01_k».proof.Proof.Gen.Dcat.Frame
public import proofs.«01_k».proof.Proof.MmDcat
public import proofs.«01_k».proof.Proof.Gen.Gwi.Frame
public import proofs.«01_k».proof.Proof.MmGwi
public import proofs.«01_k».proof.Proof.Gen.Dh.Frame
public import proofs.«01_k».proof.Proof.MmDh
public import proofs.«01_k».proof.Proof.Gen.Z.Frame
public import proofs.«01_k».proof.Proof.MmZ
public import proofs.«01_k».proof.Proof.Gen.Y.Frame
public import proofs.«01_k».proof.Proof.MmY
public import proofs.«01_k».proof.Proof.Gen.U.Frame
public import proofs.«01_k».proof.Proof.MmU
public import proofs.«01_k».proof.Proof.Gen.Yff.Frame
public import proofs.«01_k».proof.Proof.MmYff
public import proofs.«01_k».proof.Proof.Gen.AttFwd.Frame
public import proofs.«01_k».proof.Proof.AttFwdClaims
public import proofs.«01_k».proof.Proof.Gen.Conv.Frame
public import proofs.«01_k».proof.Proof.ConvClaims
public import proofs.«01_k».proof.Proof.Gen.ConvBwd.Frame
public import proofs.«01_k».proof.Proof.ConvBwdClaims
public import proofs.«01_k».proof.Proof.Gen.Mixr.Frame
public import proofs.«01_k».proof.Proof.MixrClaims
public import proofs.«01_k».proof.Proof.Gen.MixrBwd.Frame
public import proofs.«01_k».proof.Proof.MixrBwdClaims
public import proofs.«01_k».proof.Proof.Gen.Mixg.Frame
public import proofs.«01_k».proof.Proof.MixgClaims
public import proofs.«01_k».proof.Proof.Gen.MixgBwd.Frame
public import proofs.«01_k».proof.Proof.MixgBwdClaims
public import proofs.«01_k».proof.Proof.Gen.PrepAqBwd.Frame
public import proofs.«01_k».proof.Proof.PrepAqBwdClaims
public import proofs.«01_k».proof.Proof.Gen.PrepAkBwd.Frame
public import proofs.«01_k».proof.Proof.PrepAkBwdClaims
public import proofs.«01_k».proof.Proof.Gen.PrepRqBwd.Frame
public import proofs.«01_k».proof.Proof.PrepRqBwdClaims
public import proofs.«01_k».proof.Proof.Gen.PrepRkBwd.Frame
public import proofs.«01_k».proof.Proof.PrepRkBwdClaims
public import proofs.«01_k».proof.Proof.Gen.PrepAq.Frame
public import proofs.«01_k».proof.Proof.PrepAqClaims
public import proofs.«01_k».proof.Proof.Gen.PrepAk.Frame
public import proofs.«01_k».proof.Proof.PrepAkClaims
public import proofs.«01_k».proof.Proof.Gen.PrepRq.Frame
public import proofs.«01_k».proof.Proof.PrepRqClaims
public import proofs.«01_k».proof.Proof.Gen.PrepRk.Frame
public import proofs.«01_k».proof.Proof.PrepRkClaims
public import proofs.«01_k».proof.Defs

@[expose] public section

set_option maxRecDepth 16384

noncomputable section

namespace Cert.Proof

open Idealize.ShloMosaic Idealize.SL.Sem

/-- The kernel's named constant stands for its printed constant. -/
theorem preservesAttBwd : Cert.preserves_AttBwd_AttBwdIdeal :=
  IdealRules.named_const.statement Cert.AttBwdIdeal.κ "mask" .f32 0xF149F2CA#32 ⊥ rfl

/-- The kernel's named constant stands for its printed constant. -/
theorem preservesAttFwd : Cert.preserves_AttFwd_AttFwdIdeal :=
  IdealRules.named_const.statement Cert.AttFwdIdeal.κ "mask" .f32 0xF149F2CA#32 ⊥ rfl

theorem claim : Cert.Claim :=
  ⟨AttBwd.Gen.facts,
    AttBwdIdeal.Gen.facts,
    AttGradIdeal.Gen.facts,
    Gwd.Gen.facts,
    GwdIdeal.Gen.facts,
    GwdGradIdeal.Gen.facts,
    Dt.Gen.facts,
    DtIdeal.Gen.facts,
    DtGradIdeal.Gen.facts,
    Gwu.Gen.facts,
    GwuIdeal.Gen.facts,
    GwuGradIdeal.Gen.facts,
    Dh2.Gen.facts,
    Dh2Ideal.Gen.facts,
    Dh2GradIdeal.Gen.facts,
    Gwo.Gen.facts,
    GwoIdeal.Gen.facts,
    GwoGradIdeal.Gen.facts,
    Dcat.Gen.facts,
    DcatIdeal.Gen.facts,
    DcatGradIdeal.Gen.facts,
    Gwi.Gen.facts,
    GwiIdeal.Gen.facts,
    GwiGradIdeal.Gen.facts,
    Dh.Gen.facts,
    DhIdeal.Gen.facts,
    DhGradIdeal.Gen.facts,
    Z.Gen.facts,
    ZIdeal.Gen.facts,
    ZFwdIdeal.Gen.facts,
    Y.Gen.facts,
    YIdeal.Gen.facts,
    YFwdIdeal.Gen.facts,
    U.Gen.facts,
    UIdeal.Gen.facts,
    UFwdIdeal.Gen.facts,
    Yff.Gen.facts,
    YffIdeal.Gen.facts,
    YffFwdIdeal.Gen.facts,
    AttFwd.Gen.facts,
    AttFwdIdeal.Gen.facts,
    AttendIdeal.Gen.facts,
    Conv.Gen.facts,
    ConvIdeal.Gen.facts,
    ConvGluIdeal.Gen.facts,
    ConvBwd.Gen.facts,
    ConvBwdIdeal.Gen.facts,
    ConvGradIdeal.Gen.facts,
    Mixr.Gen.facts,
    MixrIdeal.Gen.facts,
    GatedRetIdeal.Gen.facts,
    MixrBwd.Gen.facts,
    MixrBwdIdeal.Gen.facts,
    GatedRetGradIdeal.Gen.facts,
    Mixg.Gen.facts,
    MixgIdeal.Gen.facts,
    GatedGlaIdeal.Gen.facts,
    MixgBwd.Gen.facts,
    MixgBwdIdeal.Gen.facts,
    GatedGlaGradIdeal.Gen.facts,
    PrepAqBwd.Gen.facts,
    PrepAqBwdIdeal.Gen.facts,
    QueriesGradIdeal.Gen.facts,
    PrepAkBwd.Gen.facts,
    PrepAkBwdIdeal.Gen.facts,
    KeysGradIdeal.Gen.facts,
    PrepRqBwd.Gen.facts,
    PrepRqBwdIdeal.Gen.facts,
    RetQueriesGradIdeal.Gen.facts,
    PrepRkBwd.Gen.facts,
    PrepRkBwdIdeal.Gen.facts,
    RetKeysGradIdeal.Gen.facts,
    PrepAq.Gen.facts,
    PrepAqIdeal.Gen.facts,
    QueriesIdeal.Gen.facts,
    PrepAk.Gen.facts,
    PrepAkIdeal.Gen.facts,
    KeysIdeal.Gen.facts,
    PrepRq.Gen.facts,
    PrepRqIdeal.Gen.facts,
    RetQueriesIdeal.Gen.facts,
    PrepRk.Gen.facts,
    PrepRkIdeal.Gen.facts,
    RetKeysIdeal.Gen.facts,
    Att.preFacts,
    AttFwd.preFacts,
    ConvBwd.preFacts,
    fun m ρ _ => AttBwd.Gen.frame m ρ,
    fun m ρ _ => AttBwdIdeal.Gen.frame m ρ,
    fun m ρ _ => AttBwdIdeal.Gen.frame m ρ,
    Att.frame_ref,
    fun m ρ _ => Att.frame_ref m ρ trivial,
    fun m ρ _ => Gwd.Gen.frame m ρ,
    fun m ρ _ => GwdIdeal.Gen.frame m ρ,
    Gwd.frame_ref,
    fun m ρ _ => Dt.Gen.frame m ρ,
    fun m ρ _ => DtIdeal.Gen.frame m ρ,
    Dt.frame_ref,
    fun m ρ _ => Gwu.Gen.frame m ρ,
    fun m ρ _ => GwuIdeal.Gen.frame m ρ,
    Gwu.frame_ref,
    fun m ρ _ => Dh2.Gen.frame m ρ,
    fun m ρ _ => Dh2Ideal.Gen.frame m ρ,
    Dh2.frame_ref,
    fun m ρ _ => Gwo.Gen.frame m ρ,
    fun m ρ _ => GwoIdeal.Gen.frame m ρ,
    Gwo.frame_ref,
    fun m ρ _ => Dcat.Gen.frame m ρ,
    fun m ρ _ => DcatIdeal.Gen.frame m ρ,
    Dcat.frame_ref,
    fun m ρ _ => Gwi.Gen.frame m ρ,
    fun m ρ _ => GwiIdeal.Gen.frame m ρ,
    Gwi.frame_ref,
    fun m ρ _ => Dh.Gen.frame m ρ,
    fun m ρ _ => DhIdeal.Gen.frame m ρ,
    Dh.frame_ref,
    fun m ρ _ => Z.Gen.frame m ρ,
    fun m ρ _ => ZIdeal.Gen.frame m ρ,
    Z.frame_ref,
    fun m ρ _ => Y.Gen.frame m ρ,
    fun m ρ _ => YIdeal.Gen.frame m ρ,
    Y.frame_ref,
    fun m ρ _ => U.Gen.frame m ρ,
    fun m ρ _ => UIdeal.Gen.frame m ρ,
    U.frame_ref,
    fun m ρ _ => Yff.Gen.frame m ρ,
    fun m ρ _ => YffIdeal.Gen.frame m ρ,
    Yff.frame_ref,
    fun m ρ _ => AttFwd.Gen.frame m ρ,
    fun m ρ _ => AttFwdIdeal.Gen.frame m ρ,
    fun m ρ _ => AttFwdIdeal.Gen.frame m ρ,
    AttFwd.frame_ref,
    fun m ρ _ => AttFwd.frame_ref m ρ trivial,
    fun m ρ _ => Conv.Gen.frame m ρ,
    fun m ρ _ => ConvIdeal.Gen.frame m ρ,
    Conv.frame_ref,
    fun m ρ _ => ConvBwd.Gen.frame m ρ,
    fun m ρ _ => ConvBwdIdeal.Gen.frame m ρ,
    fun m ρ _ => ConvBwdIdeal.Gen.frame m ρ,
    ConvBwd.frame_ref,
    fun m ρ _ => ConvBwd.frame_ref m ρ trivial,
    fun m ρ _ => Mixr.Gen.frame m ρ,
    fun m ρ _ => MixrIdeal.Gen.frame m ρ,
    Mixr.frame_ref,
    fun m ρ _ => MixrBwd.Gen.frame m ρ,
    fun m ρ _ => MixrBwdIdeal.Gen.frame m ρ,
    MixrBwd.frame_ref,
    fun m ρ _ => Mixg.Gen.frame m ρ,
    fun m ρ _ => MixgIdeal.Gen.frame m ρ,
    Mixg.frame_ref,
    fun m ρ _ => MixgBwd.Gen.frame m ρ,
    fun m ρ _ => MixgBwdIdeal.Gen.frame m ρ,
    MixgBwd.frame_ref,
    fun m ρ _ => PrepAqBwd.Gen.frame m ρ,
    fun m ρ _ => PrepAqBwdIdeal.Gen.frame m ρ,
    PrepAqBwd.frame_ref,
    fun m ρ _ => PrepAkBwd.Gen.frame m ρ,
    fun m ρ _ => PrepAkBwdIdeal.Gen.frame m ρ,
    PrepAkBwd.frame_ref,
    fun m ρ _ => PrepRqBwd.Gen.frame m ρ,
    fun m ρ _ => PrepRqBwdIdeal.Gen.frame m ρ,
    PrepRqBwd.frame_ref,
    fun m ρ _ => PrepRkBwd.Gen.frame m ρ,
    fun m ρ _ => PrepRkBwdIdeal.Gen.frame m ρ,
    PrepRkBwd.frame_ref,
    fun m ρ _ => PrepAq.Gen.frame m ρ,
    fun m ρ _ => PrepAqIdeal.Gen.frame m ρ,
    PrepAq.frame_ref,
    fun m ρ _ => PrepAk.Gen.frame m ρ,
    fun m ρ _ => PrepAkIdeal.Gen.frame m ρ,
    PrepAk.frame_ref,
    fun m ρ _ => PrepRq.Gen.frame m ρ,
    fun m ρ _ => PrepRqIdeal.Gen.frame m ρ,
    PrepRq.frame_ref,
    fun m ρ _ => PrepRk.Gen.frame m ρ,
    fun m ρ _ => PrepRkIdeal.Gen.frame m ρ,
    PrepRk.frame_ref,
    preservesAttBwd,
    Att.algebraic,
    trivial,
    Gwd.algebraic,
    trivial,
    Dt.algebraic,
    trivial,
    Gwu.algebraic,
    trivial,
    Dh2.algebraic,
    trivial,
    Gwo.algebraic,
    trivial,
    Dcat.algebraic,
    trivial,
    Gwi.algebraic,
    trivial,
    Dh.algebraic,
    trivial,
    Z.algebraic,
    trivial,
    Y.algebraic,
    trivial,
    U.algebraic,
    trivial,
    Yff.algebraic,
    preservesAttFwd,
    AttFwd.algebraic,
    trivial,
    Conv.algebraic,
    trivial,
    ConvBwd.algebraic,
    trivial,
    Mixr.algebraic,
    trivial,
    MixrBwd.algebraic,
    trivial,
    Mixg.algebraic,
    trivial,
    MixgBwd.algebraic,
    trivial,
    PrepAqBwd.algebraic,
    trivial,
    PrepAkBwd.algebraic,
    trivial,
    PrepRqBwd.algebraic,
    trivial,
    PrepRkBwd.algebraic,
    trivial,
    PrepAq.algebraic,
    trivial,
    PrepAk.algebraic,
    trivial,
    PrepRq.algebraic,
    trivial,
    PrepRk.algebraic⟩

end Cert.Proof

end
